-- ==== Defs.lean ====
def Pre_RmsK (m : (ℓ : Loc Cert.RmsK.nD Cert.RmsK.τ Cert.RmsK.sig) → Buf (Elt Bits) ℓ) : Prop :=
  True

def Pre_RmsKIdeal (m : (ℓ : Loc Cert.RmsKIdeal.nD Cert.RmsKIdeal.τ Cert.RmsKIdeal.sig) → Buf (Elt Ideal) ℓ) : Prop :=
  True

def Pre_RmsKIdeal_finite_rms [hPre_finite_rms : Cert.Pre_finite_rms.Facts] (m : (ℓ : Loc Cert.RmsKIdeal.nD Cert.RmsKIdeal.τ Cert.RmsKIdeal.sig) → Buf (Elt Ideal) ℓ) : Prop :=
  ∀ c : Dev Cert.RmsKIdeal.nD,
    (Cert.Pre_finite_rms.fn (F := Ideal) (m ((c.tc : Thread Cert.RmsKIdeal.nD Cert.RmsKIdeal.τ).loc Cert.RmsKIdeal.main_arg0)) (m ((c.tc : Thread Cert.RmsKIdeal.nD Cert.RmsKIdeal.τ).loc Cert.RmsKIdeal.main_arg1)) (m ((c.tc : Thread Cert.RmsKIdeal.nD Cert.RmsKIdeal.τ).loc Cert.RmsKIdeal.main_arg2)) (m ((c.tc : Thread Cert.RmsKIdeal.nD Cert.RmsKIdeal.τ).loc Cert.RmsKIdeal.main_arg3))) = (fun _ => 1#1)

def Pre_RmsRIdeal (m : (ℓ : Loc Cert.RmsRIdeal.nD Cert.RmsRIdeal.τ Cert.RmsRIdeal.sig) → Buf (Elt Ideal) ℓ) : Prop :=
  True

def Pre_RmsRIdeal_finite_rms [hPre_finite_rms : Cert.Pre_finite_rms.Facts] (m : (ℓ : Loc Cert.RmsRIdeal.nD Cert.RmsRIdeal.τ Cert.RmsRIdeal.sig) → Buf (Elt Ideal) ℓ) : Prop :=
  ∀ c : Dev Cert.RmsRIdeal.nD,
    (Cert.Pre_finite_rms.fn (F := Ideal) (m ((c.tc : Thread Cert.RmsRIdeal.nD Cert.RmsRIdeal.τ).loc Cert.RmsRIdeal.main_arg0)) (m ((c.tc : Thread Cert.RmsRIdeal.nD Cert.RmsRIdeal.τ).loc Cert.RmsRIdeal.main_arg1)) (m ((c.tc : Thread Cert.RmsRIdeal.nD Cert.RmsRIdeal.τ).loc Cert.RmsRIdeal.main_arg2)) (m ((c.tc : Thread Cert.RmsRIdeal.nD Cert.RmsRIdeal.τ).loc Cert.RmsRIdeal.main_arg3))) = (fun _ => 1#1)

def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKIdeal_finite_attn [hPre_finite_attn : Cert.Pre_finite_attn.Facts] (m : (ℓ : Loc Cert.AttnKIdeal.nD Cert.AttnKIdeal.τ Cert.AttnKIdeal.sig) → Buf (Elt Ideal) ℓ) : Prop :=
  ∀ c : Dev Cert.AttnKIdeal.nD,
    (Cert.Pre_finite_attn.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))) = (fun _ => 1#1)

def Pre_AttnRIdeal (m : (ℓ : Loc Cert.AttnRIdeal.nD Cert.AttnRIdeal.τ Cert.AttnRIdeal.sig) → Buf (Elt Ideal) ℓ) : Prop :=
  True

def Pre_AttnRIdeal_finite_attn [hPre_finite_attn : Cert.Pre_finite_attn.Facts] (m : (ℓ : Loc Cert.AttnRIdeal.nD Cert.AttnRIdeal.τ Cert.AttnRIdeal.sig) → Buf (Elt Ideal) ℓ) : Prop :=
  ∀ c : Dev Cert.AttnRIdeal.nD,
    (Cert.Pre_finite_attn.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))) = (fun _ => 1#1)

def Pre_CumK (m : (ℓ : Loc Cert.CumK.nD Cert.CumK.τ Cert.CumK.sig) → Buf (Elt Bits) ℓ) : Prop :=
  True

def Pre_CumKIdeal (m : (ℓ : Loc Cert.CumKIdeal.nD Cert.CumKIdeal.τ Cert.CumKIdeal.sig) → Buf (Elt Ideal) ℓ) : Prop :=
  True

def Pre_CumKIdeal_finite_cum [hPre_finite_cum : Cert.Pre_finite_cum.Facts] (m : (ℓ : Loc Cert.CumKIdeal.nD Cert.CumKIdeal.τ Cert.CumKIdeal.sig) → Buf (Elt Ideal) ℓ) : Prop :=
  ∀ c : Dev Cert.CumKIdeal.nD,
    (Cert.Pre_finite_cum.fn (F := Ideal) (m ((c.tc : Thread Cert.CumKIdeal.nD Cert.CumKIdeal.τ).loc Cert.CumKIdeal.main_arg0)) (m ((c.tc : Thread Cert.CumKIdeal.nD Cert.CumKIdeal.τ).loc Cert.CumKIdeal.main_arg1)) (m ((c.tc : Thread Cert.CumKIdeal.nD Cert.CumKIdeal.τ).loc Cert.CumKIdeal.main_arg2)) (m ((c.tc : Thread Cert.CumKIdeal.nD Cert.CumKIdeal.τ).loc Cert.CumKIdeal.main_arg3))) = (fun _ => 1#1)

def Pre_CumRIdeal (m : (ℓ : Loc Cert.CumRIdeal.nD Cert.CumRIdeal.τ Cert.CumRIdeal.sig) → Buf (Elt Ideal) ℓ) : Prop :=
  True

def Pre_CumRIdeal_finite_cum [hPre_finite_cum : Cert.Pre_finite_cum.Facts] (m : (ℓ : Loc Cert.CumRIdeal.nD Cert.CumRIdeal.τ Cert.CumRIdeal.sig) → Buf (Elt Ideal) ℓ) : Prop :=
  ∀ c : Dev Cert.CumRIdeal.nD,
    (Cert.Pre_finite_cum.fn (F := Ideal) (m ((c.tc : Thread Cert.CumRIdeal.nD Cert.CumRIdeal.τ).loc Cert.CumRIdeal.main_arg0)) (m ((c.tc : Thread Cert.CumRIdeal.nD Cert.CumRIdeal.τ).loc Cert.CumRIdeal.main_arg1)) (m ((c.tc : Thread Cert.CumRIdeal.nD Cert.CumRIdeal.τ).loc Cert.CumRIdeal.main_arg2)) (m ((c.tc : Thread Cert.CumRIdeal.nD Cert.CumRIdeal.τ).loc Cert.CumRIdeal.main_arg3))) = (fun _ => 1#1)

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_finite_loss [hPre_finite_loss : Cert.Pre_finite_loss.Facts] (m : (ℓ : Loc Cert.LossKIdeal.nD Cert.LossKIdeal.τ Cert.LossKIdeal.sig) → Buf (Elt Ideal) ℓ) : Prop :=
  ∀ c : Dev Cert.LossKIdeal.nD,
    (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))) = (fun _ => 1#1)

def Pre_LossRIdeal (m : (ℓ : Loc Cert.LossRIdeal.nD Cert.LossRIdeal.τ Cert.LossRIdeal.sig) → Buf (Elt Ideal) ℓ) : Prop :=
  True

def Pre_LossRIdeal_finite_loss [hPre_finite_loss : Cert.Pre_finite_loss.Facts] (m : (ℓ : Loc Cert.LossRIdeal.nD Cert.LossRIdeal.τ Cert.LossRIdeal.sig) → Buf (Elt Ideal) ℓ) : Prop :=
  ∀ c : Dev Cert.LossRIdeal.nD,
    (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))) = (fun _ => 1#1)

def Pre_MergeK (m : (ℓ : Loc Cert.MergeK.nD Cert.MergeK.τ Cert.MergeK.sig) → Buf (Elt Bits) ℓ) : Prop :=
  True

def Pre_MergeKIdeal (m : (ℓ : Loc Cert.MergeKIdeal.nD Cert.MergeKIdeal.τ Cert.MergeKIdeal.sig) → Buf (Elt Ideal) ℓ) : Prop :=
  True

def Pre_MergeKIdeal_finite_merge [hPre_finite_merge : Cert.Pre_finite_merge.Facts] (m : (ℓ : Loc Cert.MergeKIdeal.nD Cert.MergeKIdeal.τ Cert.MergeKIdeal.sig) → Buf (Elt Ideal) ℓ) : Prop :=
  ∀ c : Dev Cert.MergeKIdeal.nD,
    (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6)) (m ((c.tc : Thread Cert.MergeKIdeal.nD Cert.MergeKIdeal.τ).loc Cert.MergeKIdeal.main_arg7))) = (fun _ => 1#1)

def Pre_MergeRIdeal (m : (ℓ : Loc Cert.MergeRIdeal.nD Cert.MergeRIdeal.τ Cert.MergeRIdeal.sig) → Buf (Elt Ideal) ℓ) : Prop :=
  True

def Pre_MergeRIdeal_finite_merge [hPre_finite_merge : Cert.Pre_finite_merge.Facts] (m : (ℓ : Loc Cert.MergeRIdeal.nD Cert.MergeRIdeal.τ Cert.MergeRIdeal.sig) → Buf (Elt Ideal) ℓ) : Prop :=
  ∀ c : Dev Cert.MergeRIdeal.nD,
    (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6)) (m ((c.tc : Thread Cert.MergeRIdeal.nD Cert.MergeRIdeal.τ).loc Cert.MergeRIdeal.main_arg7))) = (fun _ => 1#1)

def Pre_FwdK (m : (ℓ : Loc Cert.FwdK.nD Cert.FwdK.τ Cert.FwdK.sig) → Buf (Elt Bits) ℓ) : Prop :=
  True

def Pre_FwdKIdeal (m : (ℓ : Loc Cert.FwdKIdeal.nD Cert.FwdKIdeal.τ Cert.FwdKIdeal.sig) → Buf (Elt Ideal) ℓ) : Prop :=
  True

def Pre_FwdKIdeal_finite_fwd [hPre_finite_fwd : Cert.Pre_finite_fwd.Facts] (m : (ℓ : Loc Cert.FwdKIdeal.nD Cert.FwdKIdeal.τ Cert.FwdKIdeal.sig) → Buf (Elt Ideal) ℓ) : Prop :=
  ∀ c : Dev Cert.FwdKIdeal.nD,
    (Cert.Pre_finite_fwd.fn (F := Ideal) (m ((c.tc : Thread Cert.FwdKIdeal.nD Cert.FwdKIdeal.τ).loc Cert.FwdKIdeal.main_arg0)) (m ((c.tc : Thread Cert.FwdKIdeal.nD Cert.FwdKIdeal.τ).loc Cert.FwdKIdeal.main_arg1))) = (fun _ => 1#1)

def Pre_FwdRIdeal (m : (ℓ : Loc Cert.FwdRIdeal.nD Cert.FwdRIdeal.τ Cert.FwdRIdeal.sig) → Buf (Elt Ideal) ℓ) : Prop :=
  True

def Pre_FwdRIdeal_finite_fwd [hPre_finite_fwd : Cert.Pre_finite_fwd.Facts] (m : (ℓ : Loc Cert.FwdRIdeal.nD Cert.FwdRIdeal.τ Cert.FwdRIdeal.sig) → Buf (Elt Ideal) ℓ) : Prop :=
  ∀ c : Dev Cert.FwdRIdeal.nD,
    (Cert.Pre_finite_fwd.fn (F := Ideal) (m ((c.tc : Thread Cert.FwdRIdeal.nD Cert.FwdRIdeal.τ).loc Cert.FwdRIdeal.main_arg0)) (m ((c.tc : Thread Cert.FwdRIdeal.nD Cert.FwdRIdeal.τ).loc Cert.FwdRIdeal.main_arg1))) = (fun _ => 1#1)

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormRIdeal (m : (ℓ : Loc Cert.NormRIdeal.nD Cert.NormRIdeal.τ Cert.NormRIdeal.sig) → Buf (Elt Ideal) ℓ) : Prop :=
  True

def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_JoinK (m : (ℓ : Loc Cert.JoinK.nD Cert.JoinK.τ Cert.JoinK.sig) → Buf (Elt Bits) ℓ) : Prop :=
  True

def Pre_JoinKIdeal (m : (ℓ : Loc Cert.JoinKIdeal.nD Cert.JoinKIdeal.τ Cert.JoinKIdeal.sig) → Buf (Elt Ideal) ℓ) : Prop :=
  True

def Pre_JoinRIdeal (m : (ℓ : Loc Cert.JoinRIdeal.nD Cert.JoinRIdeal.τ Cert.JoinRIdeal.sig) → Buf (Elt Ideal) ℓ) : Prop :=
  True

def Pre_BlendK (m : (ℓ : Loc Cert.BlendK.nD Cert.BlendK.τ Cert.BlendK.sig) → Buf (Elt Bits) ℓ) : Prop :=
  True

def Pre_BlendKIdeal (m : (ℓ : Loc Cert.BlendKIdeal.nD Cert.BlendKIdeal.τ Cert.BlendKIdeal.sig) → Buf (Elt Ideal) ℓ) : Prop :=
  True

def Pre_BlendRIdeal (m : (ℓ : Loc Cert.BlendRIdeal.nD Cert.BlendRIdeal.τ Cert.BlendRIdeal.sig) → Buf (Elt Ideal) ℓ) : Prop :=
  True

def Pre_NnK (m : (ℓ : Loc Cert.NnK.nD Cert.NnK.τ Cert.NnK.sig) → Buf (Elt Bits) ℓ) : Prop :=
  True

def Pre_NnKIdeal (m : (ℓ : Loc Cert.NnKIdeal.nD Cert.NnKIdeal.τ Cert.NnKIdeal.sig) → Buf (Elt Ideal) ℓ) : Prop :=
  True

def Pre_NnRIdeal (m : (ℓ : Loc Cert.NnRIdeal.nD Cert.NnRIdeal.τ Cert.NnRIdeal.sig) → Buf (Elt Ideal) ℓ) : Prop :=
  True

def Pre_TnK (m : (ℓ : Loc Cert.TnK.nD Cert.TnK.τ Cert.TnK.sig) → Buf (Elt Bits) ℓ) : Prop :=
  True

def Pre_TnKIdeal (m : (ℓ : Loc Cert.TnKIdeal.nD Cert.TnKIdeal.τ Cert.TnKIdeal.sig) → Buf (Elt Ideal) ℓ) : Prop :=
  True

def Pre_TnRIdeal (m : (ℓ : Loc Cert.TnRIdeal.nD Cert.TnRIdeal.τ Cert.TnRIdeal.sig) → Buf (Elt Ideal) ℓ) : Prop :=
  True

def Pre_DhK (m : (ℓ : Loc Cert.DhK.nD Cert.DhK.τ Cert.DhK.sig) → Buf (Elt Bits) ℓ) : Prop :=
  True

def Pre_DhKIdeal (m : (ℓ : Loc Cert.DhKIdeal.nD Cert.DhKIdeal.τ Cert.DhKIdeal.sig) → Buf (Elt Ideal) ℓ) : Prop :=
  True

def Pre_DhRIdeal (m : (ℓ : Loc Cert.DhRIdeal.nD Cert.DhRIdeal.τ Cert.DhRIdeal.sig) → Buf (Elt Ideal) ℓ) : Prop :=
  True

def Pre_SumK (m : (ℓ : Loc Cert.SumK.nD Cert.SumK.τ Cert.SumK.sig) → Buf (Elt Bits) ℓ) : Prop :=
  True

def Pre_SumKIdeal (m : (ℓ : Loc Cert.SumKIdeal.nD Cert.SumKIdeal.τ Cert.SumKIdeal.sig) → Buf (Elt Ideal) ℓ) : Prop :=
  True

def Pre_SumRIdeal (m : (ℓ : Loc Cert.SumRIdeal.nD Cert.SumRIdeal.τ Cert.SumRIdeal.sig) → Buf (Elt Ideal) ℓ) : Prop :=
  True

def Pre_MixK (m : (ℓ : Loc Cert.MixK.nD Cert.MixK.τ Cert.MixK.sig) → Buf (Elt Bits) ℓ) : Prop :=
  True

def Pre_MixKIdeal (m : (ℓ : Loc Cert.MixKIdeal.nD Cert.MixKIdeal.τ Cert.MixKIdeal.sig) → Buf (Elt Ideal) ℓ) : Prop :=
  True

def Pre_MixRIdeal (m : (ℓ : Loc Cert.MixRIdeal.nD Cert.MixRIdeal.τ Cert.MixRIdeal.sig) → Buf (Elt Ideal) ℓ) : Prop :=
  True

def Pre_AdamK (m : (ℓ : Loc Cert.AdamK.nD Cert.AdamK.τ Cert.AdamK.sig) → Buf (Elt Bits) ℓ) : Prop :=
  True

def Pre_AdamKIdeal (m : (ℓ : Loc Cert.AdamKIdeal.nD Cert.AdamKIdeal.τ Cert.AdamKIdeal.sig) → Buf (Elt Ideal) ℓ) : Prop :=
  True

def Pre_AdamRIdeal (m : (ℓ : Loc Cert.AdamRIdeal.nD Cert.AdamRIdeal.τ Cert.AdamRIdeal.sig) → Buf (Elt Ideal) ℓ) : Prop :=
  True

def quiescent_RmsK [hRmsK : Cert.RmsK.Facts] : Prop :=
  ∀ (m : (ℓ : Loc Cert.RmsK.nD Cert.RmsK.τ Cert.RmsK.sig) → Buf (Elt Bits) ℓ) (g : Dev Cert.RmsK.nD → PrngReg), Pre_RmsK m →
    θ_run (Cert.RmsK.defs (F := Bits)) (onTc (τ := Cert.RmsK.τ) (Cert.RmsK.main (F := Bits))) ⟨m, fun _ => 0, g⟩ (fun r => (∀ c : Dev Cert.RmsK.nD,
      r.2.mem ((c.tc : Thread Cert.RmsK.nD Cert.RmsK.τ).loc Cert.RmsK.main_arg0) = m ((c.tc : Thread Cert.RmsK.nD Cert.RmsK.τ).loc Cert.RmsK.main_arg0)
      ∧ r.2.mem ((c.tc : Thread Cert.RmsK.nD Cert.RmsK.τ).loc Cert.RmsK.main_arg1) = m ((c.tc : Thread Cert.RmsK.nD Cert.RmsK.τ).loc Cert.RmsK.main_arg1)
      ∧ r.2.mem ((c.tc : Thread Cert.RmsK.nD Cert.RmsK.τ).loc Cert.RmsK.main_arg2) = m ((c.tc : Thread Cert.RmsK.nD Cert.RmsK.τ).loc Cert.RmsK.main_arg2)
      ∧ r.2.mem ((c.tc : Thread Cert.RmsK.nD Cert.RmsK.τ).loc Cert.RmsK.main_arg3) = m ((c.tc : Thread Cert.RmsK.nD Cert.RmsK.τ).loc Cert.RmsK.main_arg3))
      ∧ r.2.sem = fun _ => 0)

def quiescent_RmsKIdeal [hRmsKIdeal : Cert.RmsKIdeal.Facts] : Prop :=
  ∀ (m : (ℓ : Loc Cert.RmsKIdeal.nD Cert.RmsKIdeal.τ Cert.RmsKIdeal.sig) → Buf (Elt Ideal) ℓ) (g : Dev Cert.RmsKIdeal.nD → PrngReg), Pre_RmsKIdeal m →
    θ_run (Cert.RmsKIdeal.defs (F := Ideal)) (onTc (τ := Cert.RmsKIdeal.τ) (Cert.RmsKIdeal.main (F := Ideal))) ⟨m, fun _ => 0, g⟩ (fun r => (∀ c : Dev Cert.RmsKIdeal.nD,
      r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
      ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1)
      ∧ r.2.mem ((c.tc : Thread Cert.RmsKIdeal.nD Cert.RmsKIdeal.τ).loc Cert.RmsKIdeal.main_arg2) = m ((c.tc : Thread Cert.RmsKIdeal.nD Cert.RmsKIdeal.τ).loc Cert.RmsKIdeal.main_arg2)
      ∧ r.2.mem ((c.tc : Thread Cert.RmsKIdeal.nD Cert.RmsKIdeal.τ).loc Cert.RmsKIdeal.main_arg3) = m ((c.tc : Thread Cert.RmsKIdeal.nD Cert.RmsKIdeal.τ).loc Cert.RmsKIdeal.main_arg3))
      ∧ r.2.sem = fun _ => 0)

def quiescent_RmsKIdeal_pre_finite_rms [hRmsKIdeal : Cert.RmsKIdeal.Facts] [hPre_finite_rms : Cert.Pre_finite_rms.Facts] : Prop :=
  ∀ (m : (ℓ : Loc Cert.RmsKIdeal.nD Cert.RmsKIdeal.τ Cert.RmsKIdeal.sig) → Buf (Elt Ideal) ℓ) (g : Dev Cert.RmsKIdeal.nD → PrngReg), Pre_RmsKIdeal_finite_rms m →
    θ_run (Cert.RmsKIdeal.defs (F := Ideal)) (onTc (τ := Cert.RmsKIdeal.τ) (Cert.RmsKIdeal.main (F := Ideal))) ⟨m, fun _ => 0, g⟩ (fun r => (∀ c : Dev Cert.RmsKIdeal.nD,
      r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
      ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1)
      ∧ r.2.mem ((c.tc : Thread Cert.RmsKIdeal.nD Cert.RmsKIdeal.τ).loc Cert.RmsKIdeal.main_arg2) = m ((c.tc : Thread Cert.RmsKIdeal.nD Cert.RmsKIdeal.τ).loc Cert.RmsKIdeal.main_arg2)
      ∧ r.2.mem ((c.tc : Thread Cert.RmsKIdeal.nD Cert.RmsKIdeal.τ).loc Cert.RmsKIdeal.main_arg3) = m ((c.tc : Thread Cert.RmsKIdeal.nD Cert.RmsKIdeal.τ).loc Cert.RmsKIdeal.main_arg3))
      ∧ r.2.sem = fun _ => 0)

def quiescent_RmsRIdeal [hRmsRIdeal : Cert.RmsRIdeal.Facts] : Prop :=
  ∀ (m : (ℓ : Loc Cert.RmsRIdeal.nD Cert.RmsRIdeal.τ Cert.RmsRIdeal.sig) → Buf (Elt Ideal) ℓ) (g : Dev Cert.RmsRIdeal.nD → PrngReg), Pre_RmsRIdeal m →
    θ_run (Cert.RmsRIdeal.defs (F := Ideal)) (onTc (τ := Cert.RmsRIdeal.τ) (Cert.RmsRIdeal.main (F := Ideal))) ⟨m, fun _ => 0, g⟩ (fun r => (∀ c : Dev Cert.RmsRIdeal.nD,
      r.2.mem ((c.tc : Thread Cert.RmsRIdeal.nD Cert.RmsRIdeal.τ).loc Cert.RmsRIdeal.main_arg0) = m ((c.tc : Thread Cert.RmsRIdeal.nD Cert.RmsRIdeal.τ).loc Cert.RmsRIdeal.main_arg0)
      ∧ r.2.mem ((c.tc : Thread Cert.RmsRIdeal.nD Cert.RmsRIdeal.τ).loc Cert.RmsRIdeal.main_arg1) = m ((c.tc : Thread Cert.RmsRIdeal.nD Cert.RmsRIdeal.τ).loc Cert.RmsRIdeal.main_arg1)
      ∧ r.2.mem ((c.tc : Thread Cert.RmsRIdeal.nD Cert.RmsRIdeal.τ).loc Cert.RmsRIdeal.main_arg2) = m ((c.tc : Thread Cert.RmsRIdeal.nD Cert.RmsRIdeal.τ).loc Cert.RmsRIdeal.main_arg2)
      ∧ r.2.mem ((c.tc : Thread Cert.RmsRIdeal.nD Cert.RmsRIdeal.τ).loc Cert.RmsRIdeal.main_arg3) = m ((c.tc : Thread Cert.RmsRIdeal.nD Cert.RmsRIdeal.τ).loc Cert.RmsRIdeal.main_arg3))
      ∧ r.2.sem = fun _ => 0)

def quiescent_RmsRIdeal_pre_finite_rms [hRmsRIdeal : Cert.RmsRIdeal.Facts] [hPre_finite_rms : Cert.Pre_finite_rms.Facts] : Prop :=
  ∀ (m : (ℓ : Loc Cert.RmsRIdeal.nD Cert.RmsRIdeal.τ Cert.RmsRIdeal.sig) → Buf (Elt Ideal) ℓ) (g : Dev Cert.RmsRIdeal.nD → PrngReg), Pre_RmsRIdeal_finite_rms m →
    θ_run (Cert.RmsRIdeal.defs (F := Ideal)) (onTc (τ := Cert.RmsRIdeal.τ) (Cert.RmsRIdeal.main (F := Ideal))) ⟨m, fun _ => 0, g⟩ (fun r => (∀ c : Dev Cert.RmsRIdeal.nD,
      r.2.mem ((c.tc : Thread Cert.RmsRIdeal.nD Cert.RmsRIdeal.τ).loc Cert.RmsRIdeal.main_arg0) = m ((c.tc : Thread Cert.RmsRIdeal.nD Cert.RmsRIdeal.τ).loc Cert.RmsRIdeal.main_arg0)
      ∧ r.2.mem ((c.tc : Thread Cert.RmsRIdeal.nD Cert.RmsRIdeal.τ).loc Cert.RmsRIdeal.main_arg1) = m ((c.tc : Thread Cert.RmsRIdeal.nD Cert.RmsRIdeal.τ).loc Cert.RmsRIdeal.main_arg1)
      ∧ r.2.mem ((c.tc : Thread Cert.RmsRIdeal.nD Cert.RmsRIdeal.τ).loc Cert.RmsRIdeal.main_arg2) = m ((c.tc : Thread Cert.RmsRIdeal.nD Cert.RmsRIdeal.τ).loc Cert.RmsRIdeal.main_arg2)
      ∧ r.2.mem ((c.tc : Thread Cert.RmsRIdeal.nD Cert.RmsRIdeal.τ).loc Cert.RmsRIdeal.main_arg3) = m ((c.tc : Thread Cert.RmsRIdeal.nD Cert.RmsRIdeal.τ).loc Cert.RmsRIdeal.main_arg3))
      ∧ r.2.sem = fun _ => 0)

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1)
      ∧ r.2.mem ((c.tc : Thread Cert.AttnK.nD Cert.AttnK.τ).loc Cert.AttnK.main_arg2) = m ((c.tc : Thread Cert.AttnK.nD Cert.AttnK.τ).loc Cert.AttnK.main_arg2))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnKIdeal_pre_finite_attn [hAttnKIdeal : Cert.AttnKIdeal.Facts] [hPre_finite_attn : Cert.Pre_finite_attn.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal_finite_attn m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_AttnRIdeal_pre_finite_attn [hAttnRIdeal : Cert.AttnRIdeal.Facts] [hPre_finite_attn : Cert.Pre_finite_attn.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal_finite_attn m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_CumK [hCumK : Cert.CumK.Facts] : Prop :=
  ∀ (m : (ℓ : Loc Cert.CumK.nD Cert.CumK.τ Cert.CumK.sig) → Buf (Elt Bits) ℓ) (g : Dev Cert.CumK.nD → PrngReg), Pre_CumK m →
    θ_run (Cert.CumK.defs (F := Bits)) (onTc (τ := Cert.CumK.τ) (Cert.CumK.main (F := Bits))) ⟨m, fun _ => 0, g⟩ (fun r => (∀ c : Dev Cert.CumK.nD,
      r.2.mem ((c.tc : Thread Cert.CumK.nD Cert.CumK.τ).loc Cert.CumK.main_arg0) = m ((c.tc : Thread Cert.CumK.nD Cert.CumK.τ).loc Cert.CumK.main_arg0)
      ∧ r.2.mem ((c.tc : Thread Cert.CumK.nD Cert.CumK.τ).loc Cert.CumK.main_arg1) = m ((c.tc : Thread Cert.CumK.nD Cert.CumK.τ).loc Cert.CumK.main_arg1)
      ∧ r.2.mem ((c.tc : Thread Cert.CumK.nD Cert.CumK.τ).loc Cert.CumK.main_arg2) = m ((c.tc : Thread Cert.CumK.nD Cert.CumK.τ).loc Cert.CumK.main_arg2)
      ∧ r.2.mem ((c.tc : Thread Cert.CumK.nD Cert.CumK.τ).loc Cert.CumK.main_arg3) = m ((c.tc : Thread Cert.CumK.nD Cert.CumK.τ).loc Cert.CumK.main_arg3))
      ∧ r.2.sem = fun _ => 0)

def quiescent_CumKIdeal [hCumKIdeal : Cert.CumKIdeal.Facts] : Prop :=
  ∀ (m : (ℓ : Loc Cert.CumKIdeal.nD Cert.CumKIdeal.τ Cert.CumKIdeal.sig) → Buf (Elt Ideal) ℓ) (g : Dev Cert.CumKIdeal.nD → PrngReg), Pre_CumKIdeal m →
    θ_run (Cert.CumKIdeal.defs (F := Ideal)) (onTc (τ := Cert.CumKIdeal.τ) (Cert.CumKIdeal.main (F := Ideal))) ⟨m, fun _ => 0, g⟩ (fun r => (∀ c : Dev Cert.CumKIdeal.nD,
      r.2.mem ((c.tc : Thread Cert.CumKIdeal.nD Cert.CumKIdeal.τ).loc Cert.CumKIdeal.main_arg0) = m ((c.tc : Thread Cert.CumKIdeal.nD Cert.CumKIdeal.τ).loc Cert.CumKIdeal.main_arg0)
      ∧ r.2.mem ((c.tc : Thread Cert.CumKIdeal.nD Cert.CumKIdeal.τ).loc Cert.CumKIdeal.main_arg1) = m ((c.tc : Thread Cert.CumKIdeal.nD Cert.CumKIdeal.τ).loc Cert.CumKIdeal.main_arg1)
      ∧ r.2.mem ((c.tc : Thread Cert.CumKIdeal.nD Cert.CumKIdeal.τ).loc Cert.CumKIdeal.main_arg2) = m ((c.tc : Thread Cert.CumKIdeal.nD Cert.CumKIdeal.τ).loc Cert.CumKIdeal.main_arg2)
      ∧ r.2.mem ((c.tc : Thread Cert.CumKIdeal.nD Cert.CumKIdeal.τ).loc Cert.CumKIdeal.main_arg3) = m ((c.tc : Thread Cert.CumKIdeal.nD Cert.CumKIdeal.τ).loc Cert.CumKIdeal.main_arg3))
      ∧ r.2.sem = fun _ => 0)

def quiescent_CumKIdeal_pre_finite_cum [hCumKIdeal : Cert.CumKIdeal.Facts] [hPre_finite_cum : Cert.Pre_finite_cum.Facts] : Prop :=
  ∀ (m : (ℓ : Loc Cert.CumKIdeal.nD Cert.CumKIdeal.τ Cert.CumKIdeal.sig) → Buf (Elt Ideal) ℓ) (g : Dev Cert.CumKIdeal.nD → PrngReg), Pre_CumKIdeal_finite_cum m →
    θ_run (Cert.CumKIdeal.defs (F := Ideal)) (onTc (τ := Cert.CumKIdeal.τ) (Cert.CumKIdeal.main (F := Ideal))) ⟨m, fun _ => 0, g⟩ (fun r => (∀ c : Dev Cert.CumKIdeal.nD,
      r.2.mem ((c.tc : Thread Cert.CumKIdeal.nD Cert.CumKIdeal.τ).loc Cert.CumKIdeal.main_arg0) = m ((c.tc : Thread Cert.CumKIdeal.nD Cert.CumKIdeal.τ).loc Cert.CumKIdeal.main_arg0)
      ∧ r.2.mem ((c.tc : Thread Cert.CumKIdeal.nD Cert.CumKIdeal.τ).loc Cert.CumKIdeal.main_arg1) = m ((c.tc : Thread Cert.CumKIdeal.nD Cert.CumKIdeal.τ).loc Cert.CumKIdeal.main_arg1)
      ∧ r.2.mem ((c.tc : Thread Cert.CumKIdeal.nD Cert.CumKIdeal.τ).loc Cert.CumKIdeal.main_arg2) = m ((c.tc : Thread Cert.CumKIdeal.nD Cert.CumKIdeal.τ).loc Cert.CumKIdeal.main_arg2)
      ∧ r.2.mem ((c.tc : Thread Cert.CumKIdeal.nD Cert.CumKIdeal.τ).loc Cert.CumKIdeal.main_arg3) = m ((c.tc : Thread Cert.CumKIdeal.nD Cert.CumKIdeal.τ).loc Cert.CumKIdeal.main_arg3))
      ∧ r.2.sem = fun _ => 0)

def quiescent_CumRIdeal [hCumRIdeal : Cert.CumRIdeal.Facts] : Prop :=
  ∀ (m : (ℓ : Loc Cert.CumRIdeal.nD Cert.CumRIdeal.τ Cert.CumRIdeal.sig) → Buf (Elt Ideal) ℓ) (g : Dev Cert.CumRIdeal.nD → PrngReg), Pre_CumRIdeal m →
    θ_run (Cert.CumRIdeal.defs (F := Ideal)) (onTc (τ := Cert.CumRIdeal.τ) (Cert.CumRIdeal.main (F := Ideal))) ⟨m, fun _ => 0, g⟩ (fun r => (∀ c : Dev Cert.CumRIdeal.nD,
      r.2.mem ((c.tc : Thread Cert.CumRIdeal.nD Cert.CumRIdeal.τ).loc Cert.CumRIdeal.main_arg0) = m ((c.tc : Thread Cert.CumRIdeal.nD Cert.CumRIdeal.τ).loc Cert.CumRIdeal.main_arg0)
      ∧ r.2.mem ((c.tc : Thread Cert.CumRIdeal.nD Cert.CumRIdeal.τ).loc Cert.CumRIdeal.main_arg1) = m ((c.tc : Thread Cert.CumRIdeal.nD Cert.CumRIdeal.τ).loc Cert.CumRIdeal.main_arg1)
      ∧ r.2.mem ((c.tc : Thread Cert.CumRIdeal.nD Cert.CumRIdeal.τ).loc Cert.CumRIdeal.main_arg2) = m ((c.tc : Thread Cert.CumRIdeal.nD Cert.CumRIdeal.τ).loc Cert.CumRIdeal.main_arg2)
      ∧ r.2.mem ((c.tc : Thread Cert.CumRIdeal.nD Cert.CumRIdeal.τ).loc Cert.CumRIdeal.main_arg3) = m ((c.tc : Thread Cert.CumRIdeal.nD Cert.CumRIdeal.τ).loc Cert.CumRIdeal.main_arg3))
      ∧ r.2.sem = fun _ => 0)

def quiescent_CumRIdeal_pre_finite_cum [hCumRIdeal : Cert.CumRIdeal.Facts] [hPre_finite_cum : Cert.Pre_finite_cum.Facts] : Prop :=
  ∀ (m : (ℓ : Loc Cert.CumRIdeal.nD Cert.CumRIdeal.τ Cert.CumRIdeal.sig) → Buf (Elt Ideal) ℓ) (g : Dev Cert.CumRIdeal.nD → PrngReg), Pre_CumRIdeal_finite_cum m →
    θ_run (Cert.CumRIdeal.defs (F := Ideal)) (onTc (τ := Cert.CumRIdeal.τ) (Cert.CumRIdeal.main (F := Ideal))) ⟨m, fun _ => 0, g⟩ (fun r => (∀ c : Dev Cert.CumRIdeal.nD,
      r.2.mem ((c.tc : Thread Cert.CumRIdeal.nD Cert.CumRIdeal.τ).loc Cert.CumRIdeal.main_arg0) = m ((c.tc : Thread Cert.CumRIdeal.nD Cert.CumRIdeal.τ).loc Cert.CumRIdeal.main_arg0)
      ∧ r.2.mem ((c.tc : Thread Cert.CumRIdeal.nD Cert.CumRIdeal.τ).loc Cert.CumRIdeal.main_arg1) = m ((c.tc : Thread Cert.CumRIdeal.nD Cert.CumRIdeal.τ).loc Cert.CumRIdeal.main_arg1)
      ∧ r.2.mem ((c.tc : Thread Cert.CumRIdeal.nD Cert.CumRIdeal.τ).loc Cert.CumRIdeal.main_arg2) = m ((c.tc : Thread Cert.CumRIdeal.nD Cert.CumRIdeal.τ).loc Cert.CumRIdeal.main_arg2)
      ∧ r.2.mem ((c.tc : Thread Cert.CumRIdeal.nD Cert.CumRIdeal.τ).loc Cert.CumRIdeal.main_arg3) = m ((c.tc : Thread Cert.CumRIdeal.nD Cert.CumRIdeal.τ).loc Cert.CumRIdeal.main_arg3))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossKIdeal_pre_finite_loss [hLossKIdeal : Cert.LossKIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_finite_loss m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_LossRIdeal_pre_finite_loss [hLossRIdeal : Cert.LossRIdeal.Facts] [hPre_finite_loss : Cert.Pre_finite_loss.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_finite_loss m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_MergeK [hMergeK : Cert.MergeK.Facts] : Prop :=
  ∀ (m : (ℓ : Loc Cert.MergeK.nD Cert.MergeK.τ Cert.MergeK.sig) → Buf (Elt Bits) ℓ) (g : Dev Cert.MergeK.nD → PrngReg), Pre_MergeK m →
    θ_run (Cert.MergeK.defs (F := Bits)) (onTc (τ := Cert.MergeK.τ) (Cert.MergeK.main (F := Bits))) ⟨m, fun _ => 0, g⟩ (fun r => (∀ c : Dev Cert.MergeK.nD,
      r.2.mem ((c.tc : Thread Cert.MergeK.nD Cert.MergeK.τ).loc Cert.MergeK.main_arg0) = m ((c.tc : Thread Cert.MergeK.nD Cert.MergeK.τ).loc Cert.MergeK.main_arg0)
      ∧ r.2.mem ((c.tc : Thread Cert.MergeK.nD Cert.MergeK.τ).loc Cert.MergeK.main_arg1) = m ((c.tc : Thread Cert.MergeK.nD Cert.MergeK.τ).loc Cert.MergeK.main_arg1)
      ∧ r.2.mem ((c.tc : Thread Cert.MergeK.nD Cert.MergeK.τ).loc Cert.MergeK.main_arg2) = m ((c.tc : Thread Cert.MergeK.nD Cert.MergeK.τ).loc Cert.MergeK.main_arg2)
      ∧ r.2.mem ((c.tc : Thread Cert.MergeK.nD Cert.MergeK.τ).loc Cert.MergeK.main_arg3) = m ((c.tc : Thread Cert.MergeK.nD Cert.MergeK.τ).loc Cert.MergeK.main_arg3)
      ∧ r.2.mem ((c.tc : Thread Cert.MergeK.nD Cert.MergeK.τ).loc Cert.MergeK.main_arg4) = m ((c.tc : Thread Cert.MergeK.nD Cert.MergeK.τ).loc Cert.MergeK.main_arg4)
      ∧ r.2.mem ((c.tc : Thread Cert.MergeK.nD Cert.MergeK.τ).loc Cert.MergeK.main_arg5) = m ((c.tc : Thread Cert.MergeK.nD Cert.MergeK.τ).loc Cert.MergeK.main_arg5)
      ∧ r.2.mem ((c.tc : Thread Cert.MergeK.nD Cert.MergeK.τ).loc Cert.MergeK.main_arg6) = m ((c.tc : Thread Cert.MergeK.nD Cert.MergeK.τ).loc Cert.MergeK.main_arg6)
      ∧ r.2.mem ((c.tc : Thread Cert.MergeK.nD Cert.MergeK.τ).loc Cert.MergeK.main_arg7) = m ((c.tc : Thread Cert.MergeK.nD Cert.MergeK.τ).loc Cert.MergeK.main_arg7))
      ∧ r.2.sem = fun _ => 0)

def quiescent_MergeKIdeal [hMergeKIdeal : Cert.MergeKIdeal.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
      ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7))
      ∧ r.2.sem = fun _ => 0)

def quiescent_MergeKIdeal_pre_finite_merge [hMergeKIdeal : Cert.MergeKIdeal.Facts] [hPre_finite_merge : Cert.Pre_finite_merge.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal_finite_merge m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
      ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7))
      ∧ r.2.sem = fun _ => 0)

def quiescent_MergeRIdeal [hMergeRIdeal : Cert.MergeRIdeal.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6)
      ∧ r.2.mem ((c.tc : Thread Cert.MergeRIdeal.nD Cert.MergeRIdeal.τ).loc Cert.MergeRIdeal.main_arg7) = m ((c.tc : Thread Cert.MergeRIdeal.nD Cert.MergeRIdeal.τ).loc Cert.MergeRIdeal.main_arg7))
      ∧ r.2.sem = fun _ => 0)

def quiescent_MergeRIdeal_pre_finite_merge [hMergeRIdeal : Cert.MergeRIdeal.Facts] [hPre_finite_merge : Cert.Pre_finite_merge.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal_finite_merge m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6)
      ∧ r.2.mem ((c.tc : Thread Cert.MergeRIdeal.nD Cert.MergeRIdeal.τ).loc Cert.MergeRIdeal.main_arg7) = m ((c.tc : Thread Cert.MergeRIdeal.nD Cert.MergeRIdeal.τ).loc Cert.MergeRIdeal.main_arg7))
      ∧ r.2.sem = fun _ => 0)

def quiescent_FwdK [hFwdK : Cert.FwdK.Facts] : Prop :=
  ∀ (m : (ℓ : Loc Cert.FwdK.nD Cert.FwdK.τ Cert.FwdK.sig) → Buf (Elt Bits) ℓ) (g : Dev Cert.FwdK.nD → PrngReg), Pre_FwdK m →
    θ_run (Cert.FwdK.defs (F := Bits)) (onTc (τ := Cert.FwdK.τ) (Cert.FwdK.main (F := Bits))) ⟨m, fun _ => 0, g⟩ (fun r => (∀ c : Dev Cert.FwdK.nD,
      r.2.mem ((c.tc : Thread Cert.FwdK.nD Cert.FwdK.τ).loc Cert.FwdK.main_arg0) = m ((c.tc : Thread Cert.FwdK.nD Cert.FwdK.τ).loc Cert.FwdK.main_arg0)
      ∧ r.2.mem ((c.tc : Thread Cert.FwdK.nD Cert.FwdK.τ).loc Cert.FwdK.main_arg1) = m ((c.tc : Thread Cert.FwdK.nD Cert.FwdK.τ).loc Cert.FwdK.main_arg1))
      ∧ r.2.sem = fun _ => 0)

def quiescent_FwdKIdeal [hFwdKIdeal : Cert.FwdKIdeal.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1))
      ∧ r.2.sem = fun _ => 0)

def quiescent_FwdKIdeal_pre_finite_fwd [hFwdKIdeal : Cert.FwdKIdeal.Facts] [hPre_finite_fwd : Cert.Pre_finite_fwd.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal_finite_fwd m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1))
      ∧ r.2.sem = fun _ => 0)

def quiescent_FwdRIdeal [hFwdRIdeal : Cert.FwdRIdeal.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1))
      ∧ r.2.sem = fun _ => 0)

def quiescent_FwdRIdeal_pre_finite_fwd [hFwdRIdeal : Cert.FwdRIdeal.Facts] [hPre_finite_fwd : Cert.Pre_finite_fwd.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal_finite_fwd m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1))
      ∧ r.2.sem = fun _ => 0)

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1))
      ∧ r.2.sem = fun _ => 0)

def quiescent_JoinK [hJoinK : Cert.JoinK.Facts] : Prop :=
  ∀ (m : (ℓ : Loc Cert.JoinK.nD Cert.JoinK.τ Cert.JoinK.sig) → Buf (Elt Bits) ℓ) (g : Dev Cert.JoinK.nD → PrngReg), Pre_JoinK m →
    θ_run (Cert.JoinK.defs (F := Bits)) (onTc (τ := Cert.JoinK.τ) (Cert.JoinK.main (F := Bits))) ⟨m, fun _ => 0, g⟩ (fun r => (∀ c : Dev Cert.JoinK.nD,
      r.2.mem ((c.tc : Thread Cert.JoinK.nD Cert.JoinK.τ).loc Cert.JoinK.main_arg0) = m ((c.tc : Thread Cert.JoinK.nD Cert.JoinK.τ).loc Cert.JoinK.main_arg0)
      ∧ r.2.mem ((c.tc : Thread Cert.JoinK.nD Cert.JoinK.τ).loc Cert.JoinK.main_arg1) = m ((c.tc : Thread Cert.JoinK.nD Cert.JoinK.τ).loc Cert.JoinK.main_arg1)
      ∧ r.2.mem ((c.tc : Thread Cert.JoinK.nD Cert.JoinK.τ).loc Cert.JoinK.main_arg2) = m ((c.tc : Thread Cert.JoinK.nD Cert.JoinK.τ).loc Cert.JoinK.main_arg2)
      ∧ r.2.mem ((c.tc : Thread Cert.JoinK.nD Cert.JoinK.τ).loc Cert.JoinK.main_arg3) = m ((c.tc : Thread Cert.JoinK.nD Cert.JoinK.τ).loc Cert.JoinK.main_arg3)
      ∧ r.2.mem ((c.tc : Thread Cert.JoinK.nD Cert.JoinK.τ).loc Cert.JoinK.main_arg4) = m ((c.tc : Thread Cert.JoinK.nD Cert.JoinK.τ).loc Cert.JoinK.main_arg4)
      ∧ r.2.mem ((c.tc : Thread Cert.JoinK.nD Cert.JoinK.τ).loc Cert.JoinK.main_arg5) = m ((c.tc : Thread Cert.JoinK.nD Cert.JoinK.τ).loc Cert.JoinK.main_arg5)
      ∧ r.2.mem ((c.tc : Thread Cert.JoinK.nD Cert.JoinK.τ).loc Cert.JoinK.main_arg6) = m ((c.tc : Thread Cert.JoinK.nD Cert.JoinK.τ).loc Cert.JoinK.main_arg6)
      ∧ r.2.mem ((c.tc : Thread Cert.JoinK.nD Cert.JoinK.τ).loc Cert.JoinK.main_arg7) = m ((c.tc : Thread Cert.JoinK.nD Cert.JoinK.τ).loc Cert.JoinK.main_arg7))
      ∧ r.2.sem = fun _ => 0)

def quiescent_JoinKIdeal [hJoinKIdeal : Cert.JoinKIdeal.Facts] : Prop :=
  ∀ (m : (ℓ : Loc Cert.JoinKIdeal.nD Cert.JoinKIdeal.τ Cert.JoinKIdeal.sig) → Buf (Elt Ideal) ℓ) (g : Dev Cert.JoinKIdeal.nD → PrngReg), Pre_JoinKIdeal m →
    θ_run (Cert.JoinKIdeal.defs (F := Ideal)) (onTc (τ := Cert.JoinKIdeal.τ) (Cert.JoinKIdeal.main (F := Ideal))) ⟨m, fun _ => 0, g⟩ (fun r => (∀ c : Dev Cert.JoinKIdeal.nD,
      r.2.mem ((c.tc : Thread Cert.JoinKIdeal.nD Cert.JoinKIdeal.τ).loc Cert.JoinKIdeal.main_arg0) = m ((c.tc : Thread Cert.JoinKIdeal.nD Cert.JoinKIdeal.τ).loc Cert.JoinKIdeal.main_arg0)
      ∧ r.2.mem ((c.tc : Thread Cert.JoinKIdeal.nD Cert.JoinKIdeal.τ).loc Cert.JoinKIdeal.main_arg1) = m ((c.tc : Thread Cert.JoinKIdeal.nD Cert.JoinKIdeal.τ).loc Cert.JoinKIdeal.main_arg1)
      ∧ r.2.mem ((c.tc : Thread Cert.JoinKIdeal.nD Cert.JoinKIdeal.τ).loc Cert.JoinKIdeal.main_arg2) = m ((c.tc : Thread Cert.JoinKIdeal.nD Cert.JoinKIdeal.τ).loc Cert.JoinKIdeal.main_arg2)
      ∧ r.2.mem ((c.tc : Thread Cert.JoinKIdeal.nD Cert.JoinKIdeal.τ).loc Cert.JoinKIdeal.main_arg3) = m ((c.tc : Thread Cert.JoinKIdeal.nD Cert.JoinKIdeal.τ).loc Cert.JoinKIdeal.main_arg3)
      ∧ r.2.mem ((c.tc : Thread Cert.JoinKIdeal.nD Cert.JoinKIdeal.τ).loc Cert.JoinKIdeal.main_arg4) = m ((c.tc : Thread Cert.JoinKIdeal.nD Cert.JoinKIdeal.τ).loc Cert.JoinKIdeal.main_arg4)
      ∧ r.2.mem ((c.tc : Thread Cert.JoinKIdeal.nD Cert.JoinKIdeal.τ).loc Cert.JoinKIdeal.main_arg5) = m ((c.tc : Thread Cert.JoinKIdeal.nD Cert.JoinKIdeal.τ).loc Cert.JoinKIdeal.main_arg5)
      ∧ r.2.mem ((c.tc : Thread Cert.JoinKIdeal.nD Cert.JoinKIdeal.τ).loc Cert.JoinKIdeal.main_arg6) = m ((c.tc : Thread Cert.JoinKIdeal.nD Cert.JoinKIdeal.τ).loc Cert.JoinKIdeal.main_arg6)
      ∧ r.2.mem ((c.tc : Thread Cert.JoinKIdeal.nD Cert.JoinKIdeal.τ).loc Cert.JoinKIdeal.main_arg7) = m ((c.tc : Thread Cert.JoinKIdeal.nD Cert.JoinKIdeal.τ).loc Cert.JoinKIdeal.main_arg7))
      ∧ r.2.sem = fun _ => 0)

def quiescent_JoinRIdeal [hJoinRIdeal : Cert.JoinRIdeal.Facts] : Prop :=
  ∀ (m : (ℓ : Loc Cert.JoinRIdeal.nD Cert.JoinRIdeal.τ Cert.JoinRIdeal.sig) → Buf (Elt Ideal) ℓ) (g : Dev Cert.JoinRIdeal.nD → PrngReg), Pre_JoinRIdeal m →
    θ_run (Cert.JoinRIdeal.defs (F := Ideal)) (onTc (τ := Cert.JoinRIdeal.τ) (Cert.JoinRIdeal.main (F := Ideal))) ⟨m, fun _ => 0, g⟩ (fun r => (∀ c : Dev Cert.JoinRIdeal.nD,
      r.2.mem ((c.tc : Thread Cert.JoinRIdeal.nD Cert.JoinRIdeal.τ).loc Cert.JoinRIdeal.main_arg0) = m ((c.tc : Thread Cert.JoinRIdeal.nD Cert.JoinRIdeal.τ).loc Cert.JoinRIdeal.main_arg0)
      ∧ r.2.mem ((c.tc : Thread Cert.JoinRIdeal.nD Cert.JoinRIdeal.τ).loc Cert.JoinRIdeal.main_arg1) = m ((c.tc : Thread Cert.JoinRIdeal.nD Cert.JoinRIdeal.τ).loc Cert.JoinRIdeal.main_arg1)
      ∧ r.2.mem ((c.tc : Thread Cert.JoinRIdeal.nD Cert.JoinRIdeal.τ).loc Cert.JoinRIdeal.main_arg2) = m ((c.tc : Thread Cert.JoinRIdeal.nD Cert.JoinRIdeal.τ).loc Cert.JoinRIdeal.main_arg2)
      ∧ r.2.mem ((c.tc : Thread Cert.JoinRIdeal.nD Cert.JoinRIdeal.τ).loc Cert.JoinRIdeal.main_arg3) = m ((c.tc : Thread Cert.JoinRIdeal.nD Cert.JoinRIdeal.τ).loc Cert.JoinRIdeal.main_arg3)
      ∧ r.2.mem ((c.tc : Thread Cert.JoinRIdeal.nD Cert.JoinRIdeal.τ).loc Cert.JoinRIdeal.main_arg4) = m ((c.tc : Thread Cert.JoinRIdeal.nD Cert.JoinRIdeal.τ).loc Cert.JoinRIdeal.main_arg4)
      ∧ r.2.mem ((c.tc : Thread Cert.JoinRIdeal.nD Cert.JoinRIdeal.τ).loc Cert.JoinRIdeal.main_arg5) = m ((c.tc : Thread Cert.JoinRIdeal.nD Cert.JoinRIdeal.τ).loc Cert.JoinRIdeal.main_arg5)
      ∧ r.2.mem ((c.tc : Thread Cert.JoinRIdeal.nD Cert.JoinRIdeal.τ).loc Cert.JoinRIdeal.main_arg6) = m ((c.tc : Thread Cert.JoinRIdeal.nD Cert.JoinRIdeal.τ).loc Cert.JoinRIdeal.main_arg6)
      ∧ r.2.mem ((c.tc : Thread Cert.JoinRIdeal.nD Cert.JoinRIdeal.τ).loc Cert.JoinRIdeal.main_arg7) = m ((c.tc : Thread Cert.JoinRIdeal.nD Cert.JoinRIdeal.τ).loc Cert.JoinRIdeal.main_arg7))
      ∧ r.2.sem = fun _ => 0)

def quiescent_BlendK [hBlendK : Cert.BlendK.Facts] : Prop :=
  ∀ (m : (ℓ : Loc Cert.BlendK.nD Cert.BlendK.τ Cert.BlendK.sig) → Buf (Elt Bits) ℓ) (g : Dev Cert.BlendK.nD → PrngReg), Pre_BlendK m →
    θ_run (Cert.BlendK.defs (F := Bits)) (onTc (τ := Cert.BlendK.τ) (Cert.BlendK.main (F := Bits))) ⟨m, fun _ => 0, g⟩ (fun r => (∀ c : Dev Cert.BlendK.nD,
      r.2.mem ((c.tc : Thread Cert.BlendK.nD Cert.BlendK.τ).loc Cert.BlendK.main_arg0) = m ((c.tc : Thread Cert.BlendK.nD Cert.BlendK.τ).loc Cert.BlendK.main_arg0)
      ∧ r.2.mem ((c.tc : Thread Cert.BlendK.nD Cert.BlendK.τ).loc Cert.BlendK.main_arg1) = m ((c.tc : Thread Cert.BlendK.nD Cert.BlendK.τ).loc Cert.BlendK.main_arg1)
      ∧ r.2.mem ((c.tc : Thread Cert.BlendK.nD Cert.BlendK.τ).loc Cert.BlendK.main_arg2) = m ((c.tc : Thread Cert.BlendK.nD Cert.BlendK.τ).loc Cert.BlendK.main_arg2)
      ∧ r.2.mem ((c.tc : Thread Cert.BlendK.nD Cert.BlendK.τ).loc Cert.BlendK.main_arg3) = m ((c.tc : Thread Cert.BlendK.nD Cert.BlendK.τ).loc Cert.BlendK.main_arg3)
      ∧ r.2.mem ((c.tc : Thread Cert.BlendK.nD Cert.BlendK.τ).loc Cert.BlendK.main_arg4) = m ((c.tc : Thread Cert.BlendK.nD Cert.BlendK.τ).loc Cert.BlendK.main_arg4)
      ∧ r.2.mem ((c.tc : Thread Cert.BlendK.nD Cert.BlendK.τ).loc Cert.BlendK.main_arg5) = m ((c.tc : Thread Cert.BlendK.nD Cert.BlendK.τ).loc Cert.BlendK.main_arg5)
      ∧ r.2.mem ((c.tc : Thread Cert.BlendK.nD Cert.BlendK.τ).loc Cert.BlendK.main_arg6) = m ((c.tc : Thread Cert.BlendK.nD Cert.BlendK.τ).loc Cert.BlendK.main_arg6)
      ∧ r.2.mem ((c.tc : Thread Cert.BlendK.nD Cert.BlendK.τ).loc Cert.BlendK.main_arg7) = m ((c.tc : Thread Cert.BlendK.nD Cert.BlendK.τ).loc Cert.BlendK.main_arg7)
      ∧ r.2.mem ((c.tc : Thread Cert.BlendK.nD Cert.BlendK.τ).loc Cert.BlendK.main_arg8) = m ((c.tc : Thread Cert.BlendK.nD Cert.BlendK.τ).loc Cert.BlendK.main_arg8)
      ∧ r.2.mem ((c.tc : Thread Cert.BlendK.nD Cert.BlendK.τ).loc Cert.BlendK.main_arg9) = m ((c.tc : Thread Cert.BlendK.nD Cert.BlendK.τ).loc Cert.BlendK.main_arg9))
      ∧ r.2.sem = fun _ => 0)

def quiescent_BlendKIdeal [hBlendKIdeal : Cert.BlendKIdeal.Facts] : Prop :=
  ∀ (m : (ℓ : Loc Cert.BlendKIdeal.nD Cert.BlendKIdeal.τ Cert.BlendKIdeal.sig) → Buf (Elt Ideal) ℓ) (g : Dev Cert.BlendKIdeal.nD → PrngReg), Pre_BlendKIdeal m →
    θ_run (Cert.BlendKIdeal.defs (F := Ideal)) (onTc (τ := Cert.BlendKIdeal.τ) (Cert.BlendKIdeal.main (F := Ideal))) ⟨m, fun _ => 0, g⟩ (fun r => (∀ c : Dev Cert.BlendKIdeal.nD,
      r.2.mem ((c.tc : Thread Cert.BlendKIdeal.nD Cert.BlendKIdeal.τ).loc Cert.BlendKIdeal.main_arg0) = m ((c.tc : Thread Cert.BlendKIdeal.nD Cert.BlendKIdeal.τ).loc Cert.BlendKIdeal.main_arg0)
      ∧ r.2.mem ((c.tc : Thread Cert.BlendKIdeal.nD Cert.BlendKIdeal.τ).loc Cert.BlendKIdeal.main_arg1) = m ((c.tc : Thread Cert.BlendKIdeal.nD Cert.BlendKIdeal.τ).loc Cert.BlendKIdeal.main_arg1)
      ∧ r.2.mem ((c.tc : Thread Cert.BlendKIdeal.nD Cert.BlendKIdeal.τ).loc Cert.BlendKIdeal.main_arg2) = m ((c.tc : Thread Cert.BlendKIdeal.nD Cert.BlendKIdeal.τ).loc Cert.BlendKIdeal.main_arg2)
      ∧ r.2.mem ((c.tc : Thread Cert.BlendKIdeal.nD Cert.BlendKIdeal.τ).loc Cert.BlendKIdeal.main_arg3) = m ((c.tc : Thread Cert.BlendKIdeal.nD Cert.BlendKIdeal.τ).loc Cert.BlendKIdeal.main_arg3)
      ∧ r.2.mem ((c.tc : Thread Cert.BlendKIdeal.nD Cert.BlendKIdeal.τ).loc Cert.BlendKIdeal.main_arg4) = m ((c.tc : Thread Cert.BlendKIdeal.nD Cert.BlendKIdeal.τ).loc Cert.BlendKIdeal.main_arg4)
      ∧ r.2.mem ((c.tc : Thread Cert.BlendKIdeal.nD Cert.BlendKIdeal.τ).loc Cert.BlendKIdeal.main_arg5) = m ((c.tc : Thread Cert.BlendKIdeal.nD Cert.BlendKIdeal.τ).loc Cert.BlendKIdeal.main_arg5)
      ∧ r.2.mem ((c.tc : Thread Cert.BlendKIdeal.nD Cert.BlendKIdeal.τ).loc Cert.BlendKIdeal.main_arg6) = m ((c.tc : Thread Cert.BlendKIdeal.nD Cert.BlendKIdeal.τ).loc Cert.BlendKIdeal.main_arg6)
      ∧ r.2.mem ((c.tc : Thread Cert.BlendKIdeal.nD Cert.BlendKIdeal.τ).loc Cert.BlendKIdeal.main_arg7) = m ((c.tc : Thread Cert.BlendKIdeal.nD Cert.BlendKIdeal.τ).loc Cert.BlendKIdeal.main_arg7)
      ∧ r.2.mem ((c.tc : Thread Cert.BlendKIdeal.nD Cert.BlendKIdeal.τ).loc Cert.BlendKIdeal.main_arg8) = m ((c.tc : Thread Cert.BlendKIdeal.nD Cert.BlendKIdeal.τ).loc Cert.BlendKIdeal.main_arg8)
      ∧ r.2.mem ((c.tc : Thread Cert.BlendKIdeal.nD Cert.BlendKIdeal.τ).loc Cert.BlendKIdeal.main_arg9) = m ((c.tc : Thread Cert.BlendKIdeal.nD Cert.BlendKIdeal.τ).loc Cert.BlendKIdeal.main_arg9))
      ∧ r.2.sem = fun _ => 0)

def quiescent_BlendRIdeal [hBlendRIdeal : Cert.BlendRIdeal.Facts] : Prop :=
  ∀ (m : (ℓ : Loc Cert.BlendRIdeal.nD Cert.BlendRIdeal.τ Cert.BlendRIdeal.sig) → Buf (Elt Ideal) ℓ) (g : Dev Cert.BlendRIdeal.nD → PrngReg), Pre_BlendRIdeal m →
    θ_run (Cert.BlendRIdeal.defs (F := Ideal)) (onTc (τ := Cert.BlendRIdeal.τ) (Cert.BlendRIdeal.main (F := Ideal))) ⟨m, fun _ => 0, g⟩ (fun r => (∀ c : Dev Cert.BlendRIdeal.nD,
      r.2.mem ((c.tc : Thread Cert.BlendRIdeal.nD Cert.BlendRIdeal.τ).loc Cert.BlendRIdeal.main_arg0) = m ((c.tc : Thread Cert.BlendRIdeal.nD Cert.BlendRIdeal.τ).loc Cert.BlendRIdeal.main_arg0)
      ∧ r.2.mem ((c.tc : Thread Cert.BlendRIdeal.nD Cert.BlendRIdeal.τ).loc Cert.BlendRIdeal.main_arg1) = m ((c.tc : Thread Cert.BlendRIdeal.nD Cert.BlendRIdeal.τ).loc Cert.BlendRIdeal.main_arg1)
      ∧ r.2.mem ((c.tc : Thread Cert.BlendRIdeal.nD Cert.BlendRIdeal.τ).loc Cert.BlendRIdeal.main_arg2) = m ((c.tc : Thread Cert.BlendRIdeal.nD Cert.BlendRIdeal.τ).loc Cert.BlendRIdeal.main_arg2)
      ∧ r.2.mem ((c.tc : Thread Cert.BlendRIdeal.nD Cert.BlendRIdeal.τ).loc Cert.BlendRIdeal.main_arg3) = m ((c.tc : Thread Cert.BlendRIdeal.nD Cert.BlendRIdeal.τ).loc Cert.BlendRIdeal.main_arg3)
      ∧ r.2.mem ((c.tc : Thread Cert.BlendRIdeal.nD Cert.BlendRIdeal.τ).loc Cert.BlendRIdeal.main_arg4) = m ((c.tc : Thread Cert.BlendRIdeal.nD Cert.BlendRIdeal.τ).loc Cert.BlendRIdeal.main_arg4)
      ∧ r.2.mem ((c.tc : Thread Cert.BlendRIdeal.nD Cert.BlendRIdeal.τ).loc Cert.BlendRIdeal.main_arg5) = m ((c.tc : Thread Cert.BlendRIdeal.nD Cert.BlendRIdeal.τ).loc Cert.BlendRIdeal.main_arg5)
      ∧ r.2.mem ((c.tc : Thread Cert.BlendRIdeal.nD Cert.BlendRIdeal.τ).loc Cert.BlendRIdeal.main_arg6) = m ((c.tc : Thread Cert.BlendRIdeal.nD Cert.BlendRIdeal.τ).loc Cert.BlendRIdeal.main_arg6)
      ∧ r.2.mem ((c.tc : Thread Cert.BlendRIdeal.nD Cert.BlendRIdeal.τ).loc Cert.BlendRIdeal.main_arg7) = m ((c.tc : Thread Cert.BlendRIdeal.nD Cert.BlendRIdeal.τ).loc Cert.BlendRIdeal.main_arg7)
      ∧ r.2.mem ((c.tc : Thread Cert.BlendRIdeal.nD Cert.BlendRIdeal.τ).loc Cert.BlendRIdeal.main_arg8) = m ((c.tc : Thread Cert.BlendRIdeal.nD Cert.BlendRIdeal.τ).loc Cert.BlendRIdeal.main_arg8)
      ∧ r.2.mem ((c.tc : Thread Cert.BlendRIdeal.nD Cert.BlendRIdeal.τ).loc Cert.BlendRIdeal.main_arg9) = m ((c.tc : Thread Cert.BlendRIdeal.nD Cert.BlendRIdeal.τ).loc Cert.BlendRIdeal.main_arg9))
      ∧ r.2.sem = fun _ => 0)

def quiescent_NnK [hNnK : Cert.NnK.Facts] : Prop :=
  ∀ (m : (ℓ : Loc Cert.NnK.nD Cert.NnK.τ Cert.NnK.sig) → Buf (Elt Bits) ℓ) (g : Dev Cert.NnK.nD → PrngReg), Pre_NnK m →
    θ_run (Cert.NnK.defs (F := Bits)) (onTc (τ := Cert.NnK.τ) (Cert.NnK.main (F := Bits))) ⟨m, fun _ => 0, g⟩ (fun r => (∀ c : Dev Cert.NnK.nD,
      r.2.mem ((c.tc : Thread Cert.NnK.nD Cert.NnK.τ).loc Cert.NnK.main_arg0) = m ((c.tc : Thread Cert.NnK.nD Cert.NnK.τ).loc Cert.NnK.main_arg0)
      ∧ r.2.mem ((c.tc : Thread Cert.NnK.nD Cert.NnK.τ).loc Cert.NnK.main_arg1) = m ((c.tc : Thread Cert.NnK.nD Cert.NnK.τ).loc Cert.NnK.main_arg1))
      ∧ r.2.sem = fun _ => 0)

def quiescent_NnKIdeal [hNnKIdeal : Cert.NnKIdeal.Facts] : Prop :=
  ∀ (m : (ℓ : Loc Cert.NnKIdeal.nD Cert.NnKIdeal.τ Cert.NnKIdeal.sig) → Buf (Elt Ideal) ℓ) (g : Dev Cert.NnKIdeal.nD → PrngReg), Pre_NnKIdeal m →
    θ_run (Cert.NnKIdeal.defs (F := Ideal)) (onTc (τ := Cert.NnKIdeal.τ) (Cert.NnKIdeal.main (F := Ideal))) ⟨m, fun _ => 0, g⟩ (fun r => (∀ c : Dev Cert.NnKIdeal.nD,
      r.2.mem ((c.tc : Thread Cert.NnKIdeal.nD Cert.NnKIdeal.τ).loc Cert.NnKIdeal.main_arg0) = m ((c.tc : Thread Cert.NnKIdeal.nD Cert.NnKIdeal.τ).loc Cert.NnKIdeal.main_arg0)
      ∧ r.2.mem ((c.tc : Thread Cert.NnKIdeal.nD Cert.NnKIdeal.τ).loc Cert.NnKIdeal.main_arg1) = m ((c.tc : Thread Cert.NnKIdeal.nD Cert.NnKIdeal.τ).loc Cert.NnKIdeal.main_arg1))
      ∧ r.2.sem = fun _ => 0)

def quiescent_NnRIdeal [hNnRIdeal : Cert.NnRIdeal.Facts] : Prop :=
  ∀ (m : (ℓ : Loc Cert.NnRIdeal.nD Cert.NnRIdeal.τ Cert.NnRIdeal.sig) → Buf (Elt Ideal) ℓ) (g : Dev Cert.NnRIdeal.nD → PrngReg), Pre_NnRIdeal m →
    θ_run (Cert.NnRIdeal.defs (F := Ideal)) (onTc (τ := Cert.NnRIdeal.τ) (Cert.NnRIdeal.main (F := Ideal))) ⟨m, fun _ => 0, g⟩ (fun r => (∀ c : Dev Cert.NnRIdeal.nD,
      r.2.mem ((c.tc : Thread Cert.NnRIdeal.nD Cert.NnRIdeal.τ).loc Cert.NnRIdeal.main_arg0) = m ((c.tc : Thread Cert.NnRIdeal.nD Cert.NnRIdeal.τ).loc Cert.NnRIdeal.main_arg0)
      ∧ r.2.mem ((c.tc : Thread Cert.NnRIdeal.nD Cert.NnRIdeal.τ).loc Cert.NnRIdeal.main_arg1) = m ((c.tc : Thread Cert.NnRIdeal.nD Cert.NnRIdeal.τ).loc Cert.NnRIdeal.main_arg1))
      ∧ r.2.sem = fun _ => 0)

def quiescent_TnK [hTnK : Cert.TnK.Facts] : Prop :=
  ∀ (m : (ℓ : Loc Cert.TnK.nD Cert.TnK.τ Cert.TnK.sig) → Buf (Elt Bits) ℓ) (g : Dev Cert.TnK.nD → PrngReg), Pre_TnK m →
    θ_run (Cert.TnK.defs (F := Bits)) (onTc (τ := Cert.TnK.τ) (Cert.TnK.main (F := Bits))) ⟨m, fun _ => 0, g⟩ (fun r => (∀ c : Dev Cert.TnK.nD,
      r.2.mem ((c.tc : Thread Cert.TnK.nD Cert.TnK.τ).loc Cert.TnK.main_arg0) = m ((c.tc : Thread Cert.TnK.nD Cert.TnK.τ).loc Cert.TnK.main_arg0)
      ∧ r.2.mem ((c.tc : Thread Cert.TnK.nD Cert.TnK.τ).loc Cert.TnK.main_arg1) = m ((c.tc : Thread Cert.TnK.nD Cert.TnK.τ).loc Cert.TnK.main_arg1))
      ∧ r.2.sem = fun _ => 0)

def quiescent_TnKIdeal [hTnKIdeal : Cert.TnKIdeal.Facts] : Prop :=
  ∀ (m : (ℓ : Loc Cert.TnKIdeal.nD Cert.TnKIdeal.τ Cert.TnKIdeal.sig) → Buf (Elt Ideal) ℓ) (g : Dev Cert.TnKIdeal.nD → PrngReg), Pre_TnKIdeal m →
    θ_run (Cert.TnKIdeal.defs (F := Ideal)) (onTc (τ := Cert.TnKIdeal.τ) (Cert.TnKIdeal.main (F := Ideal))) ⟨m, fun _ => 0, g⟩ (fun r => (∀ c : Dev Cert.TnKIdeal.nD,
      r.2.mem ((c.tc : Thread Cert.TnKIdeal.nD Cert.TnKIdeal.τ).loc Cert.TnKIdeal.main_arg0) = m ((c.tc : Thread Cert.TnKIdeal.nD Cert.TnKIdeal.τ).loc Cert.TnKIdeal.main_arg0)
      ∧ r.2.mem ((c.tc : Thread Cert.TnKIdeal.nD Cert.TnKIdeal.τ).loc Cert.TnKIdeal.main_arg1) = m ((c.tc : Thread Cert.TnKIdeal.nD Cert.TnKIdeal.τ).loc Cert.TnKIdeal.main_arg1))
      ∧ r.2.sem = fun _ => 0)

def quiescent_TnRIdeal [hTnRIdeal : Cert.TnRIdeal.Facts] : Prop :=
  ∀ (m : (ℓ : Loc Cert.TnRIdeal.nD Cert.TnRIdeal.τ Cert.TnRIdeal.sig) → Buf (Elt Ideal) ℓ) (g : Dev Cert.TnRIdeal.nD → PrngReg), Pre_TnRIdeal m →
    θ_run (Cert.TnRIdeal.defs (F := Ideal)) (onTc (τ := Cert.TnRIdeal.τ) (Cert.TnRIdeal.main (F := Ideal))) ⟨m, fun _ => 0, g⟩ (fun r => (∀ c : Dev Cert.TnRIdeal.nD,
      r.2.mem ((c.tc : Thread Cert.TnRIdeal.nD Cert.TnRIdeal.τ).loc Cert.TnRIdeal.main_arg0) = m ((c.tc : Thread Cert.TnRIdeal.nD Cert.TnRIdeal.τ).loc Cert.TnRIdeal.main_arg0)
      ∧ r.2.mem ((c.tc : Thread Cert.TnRIdeal.nD Cert.TnRIdeal.τ).loc Cert.TnRIdeal.main_arg1) = m ((c.tc : Thread Cert.TnRIdeal.nD Cert.TnRIdeal.τ).loc Cert.TnRIdeal.main_arg1))
      ∧ r.2.sem = fun _ => 0)

def quiescent_DhK [hDhK : Cert.DhK.Facts] : Prop :=
  ∀ (m : (ℓ : Loc Cert.DhK.nD Cert.DhK.τ Cert.DhK.sig) → Buf (Elt Bits) ℓ) (g : Dev Cert.DhK.nD → PrngReg), Pre_DhK m →
    θ_run (Cert.DhK.defs (F := Bits)) (onTc (τ := Cert.DhK.τ) (Cert.DhK.main (F := Bits))) ⟨m, fun _ => 0, g⟩ (fun r => (∀ c : Dev Cert.DhK.nD,
      r.2.mem ((c.tc : Thread Cert.DhK.nD Cert.DhK.τ).loc Cert.DhK.main_arg0) = m ((c.tc : Thread Cert.DhK.nD Cert.DhK.τ).loc Cert.DhK.main_arg0)
      ∧ r.2.mem ((c.tc : Thread Cert.DhK.nD Cert.DhK.τ).loc Cert.DhK.main_arg1) = m ((c.tc : Thread Cert.DhK.nD Cert.DhK.τ).loc Cert.DhK.main_arg1))
      ∧ r.2.sem = fun _ => 0)

def quiescent_DhKIdeal [hDhKIdeal : Cert.DhKIdeal.Facts] : Prop :=
  ∀ (m : (ℓ : Loc Cert.DhKIdeal.nD Cert.DhKIdeal.τ Cert.DhKIdeal.sig) → Buf (Elt Ideal) ℓ) (g : Dev Cert.DhKIdeal.nD → PrngReg), Pre_DhKIdeal m →
    θ_run (Cert.DhKIdeal.defs (F := Ideal)) (onTc (τ := Cert.DhKIdeal.τ) (Cert.DhKIdeal.main (F := Ideal))) ⟨m, fun _ => 0, g⟩ (fun r => (∀ c : Dev Cert.DhKIdeal.nD,
      r.2.mem ((c.tc : Thread Cert.DhKIdeal.nD Cert.DhKIdeal.τ).loc Cert.DhKIdeal.main_arg0) = m ((c.tc : Thread Cert.DhKIdeal.nD Cert.DhKIdeal.τ).loc Cert.DhKIdeal.main_arg0)
      ∧ r.2.mem ((c.tc : Thread Cert.DhKIdeal.nD Cert.DhKIdeal.τ).loc Cert.DhKIdeal.main_arg1) = m ((c.tc : Thread Cert.DhKIdeal.nD Cert.DhKIdeal.τ).loc Cert.DhKIdeal.main_arg1))
      ∧ r.2.sem = fun _ => 0)

def quiescent_DhRIdeal [hDhRIdeal : Cert.DhRIdeal.Facts] : Prop :=
  ∀ (m : (ℓ : Loc Cert.DhRIdeal.nD Cert.DhRIdeal.τ Cert.DhRIdeal.sig) → Buf (Elt Ideal) ℓ) (g : Dev Cert.DhRIdeal.nD → PrngReg), Pre_DhRIdeal m →
    θ_run (Cert.DhRIdeal.defs (F := Ideal)) (onTc (τ := Cert.DhRIdeal.τ) (Cert.DhRIdeal.main (F := Ideal))) ⟨m, fun _ => 0, g⟩ (fun r => (∀ c : Dev Cert.DhRIdeal.nD,
      r.2.mem ((c.tc : Thread Cert.DhRIdeal.nD Cert.DhRIdeal.τ).loc Cert.DhRIdeal.main_arg0) = m ((c.tc : Thread Cert.DhRIdeal.nD Cert.DhRIdeal.τ).loc Cert.DhRIdeal.main_arg0)
      ∧ r.2.mem ((c.tc : Thread Cert.DhRIdeal.nD Cert.DhRIdeal.τ).loc Cert.DhRIdeal.main_arg1) = m ((c.tc : Thread Cert.DhRIdeal.nD Cert.DhRIdeal.τ).loc Cert.DhRIdeal.main_arg1))
      ∧ r.2.sem = fun _ => 0)

def quiescent_SumK [hSumK : Cert.SumK.Facts] : Prop :=
  ∀ (m : (ℓ : Loc Cert.SumK.nD Cert.SumK.τ Cert.SumK.sig) → Buf (Elt Bits) ℓ) (g : Dev Cert.SumK.nD → PrngReg), Pre_SumK m →
    θ_run (Cert.SumK.defs (F := Bits)) (onTc (τ := Cert.SumK.τ) (Cert.SumK.main (F := Bits))) ⟨m, fun _ => 0, g⟩ (fun r => (∀ c : Dev Cert.SumK.nD,
      r.2.mem ((c.tc : Thread Cert.SumK.nD Cert.SumK.τ).loc Cert.SumK.main_arg0) = m ((c.tc : Thread Cert.SumK.nD Cert.SumK.τ).loc Cert.SumK.main_arg0))
      ∧ r.2.sem = fun _ => 0)

def quiescent_SumKIdeal [hSumKIdeal : Cert.SumKIdeal.Facts] : Prop :=
  ∀ (m : (ℓ : Loc Cert.SumKIdeal.nD Cert.SumKIdeal.τ Cert.SumKIdeal.sig) → Buf (Elt Ideal) ℓ) (g : Dev Cert.SumKIdeal.nD → PrngReg), Pre_SumKIdeal m →
    θ_run (Cert.SumKIdeal.defs (F := Ideal)) (onTc (τ := Cert.SumKIdeal.τ) (Cert.SumKIdeal.main (F := Ideal))) ⟨m, fun _ => 0, g⟩ (fun r => (∀ c : Dev Cert.SumKIdeal.nD,
      r.2.mem ((c.tc : Thread Cert.SumKIdeal.nD Cert.SumKIdeal.τ).loc Cert.SumKIdeal.main_arg0) = m ((c.tc : Thread Cert.SumKIdeal.nD Cert.SumKIdeal.τ).loc Cert.SumKIdeal.main_arg0))
      ∧ r.2.sem = fun _ => 0)

def quiescent_SumRIdeal [hSumRIdeal : Cert.SumRIdeal.Facts] : Prop :=
  ∀ (m : (ℓ : Loc Cert.SumRIdeal.nD Cert.SumRIdeal.τ Cert.SumRIdeal.sig) → Buf (Elt Ideal) ℓ) (g : Dev Cert.SumRIdeal.nD → PrngReg), Pre_SumRIdeal m →
    θ_run (Cert.SumRIdeal.defs (F := Ideal)) (onTc (τ := Cert.SumRIdeal.τ) (Cert.SumRIdeal.main (F := Ideal))) ⟨m, fun _ => 0, g⟩ (fun r => (∀ c : Dev Cert.SumRIdeal.nD,
      r.2.mem ((c.tc : Thread Cert.SumRIdeal.nD Cert.SumRIdeal.τ).loc Cert.SumRIdeal.main_arg0) = m ((c.tc : Thread Cert.SumRIdeal.nD Cert.SumRIdeal.τ).loc Cert.SumRIdeal.main_arg0))
      ∧ r.2.sem = fun _ => 0)

def quiescent_MixK [hMixK : Cert.MixK.Facts] : Prop :=
  ∀ (m : (ℓ : Loc Cert.MixK.nD Cert.MixK.τ Cert.MixK.sig) → Buf (Elt Bits) ℓ) (g : Dev Cert.MixK.nD → PrngReg), Pre_MixK m →
    θ_run (Cert.MixK.defs (F := Bits)) (onTc (τ := Cert.MixK.τ) (Cert.MixK.main (F := Bits))) ⟨m, fun _ => 0, g⟩ (fun r => (∀ c : Dev Cert.MixK.nD,
      r.2.mem ((c.tc : Thread Cert.MixK.nD Cert.MixK.τ).loc Cert.MixK.main_arg0) = m ((c.tc : Thread Cert.MixK.nD Cert.MixK.τ).loc Cert.MixK.main_arg0)
      ∧ r.2.mem ((c.tc : Thread Cert.MixK.nD Cert.MixK.τ).loc Cert.MixK.main_arg1) = m ((c.tc : Thread Cert.MixK.nD Cert.MixK.τ).loc Cert.MixK.main_arg1)
      ∧ r.2.mem ((c.tc : Thread Cert.MixK.nD Cert.MixK.τ).loc Cert.MixK.main_arg2) = m ((c.tc : Thread Cert.MixK.nD Cert.MixK.τ).loc Cert.MixK.main_arg2)
      ∧ r.2.mem ((c.tc : Thread Cert.MixK.nD Cert.MixK.τ).loc Cert.MixK.main_arg3) = m ((c.tc : Thread Cert.MixK.nD Cert.MixK.τ).loc Cert.MixK.main_arg3)
      ∧ r.2.mem ((c.tc : Thread Cert.MixK.nD Cert.MixK.τ).loc Cert.MixK.main_arg4) = m ((c.tc : Thread Cert.MixK.nD Cert.MixK.τ).loc Cert.MixK.main_arg4)
      ∧ r.2.mem ((c.tc : Thread Cert.MixK.nD Cert.MixK.τ).loc Cert.MixK.main_arg5) = m ((c.tc : Thread Cert.MixK.nD Cert.MixK.τ).loc Cert.MixK.main_arg5)
      ∧ r.2.mem ((c.tc : Thread Cert.MixK.nD Cert.MixK.τ).loc Cert.MixK.main_arg6) = m ((c.tc : Thread Cert.MixK.nD Cert.MixK.τ).loc Cert.MixK.main_arg6)
      ∧ r.2.mem ((c.tc : Thread Cert.MixK.nD Cert.MixK.τ).loc Cert.MixK.main_arg7) = m ((c.tc : Thread Cert.MixK.nD Cert.MixK.τ).loc Cert.MixK.main_arg7)
      ∧ r.2.mem ((c.tc : Thread Cert.MixK.nD Cert.MixK.τ).loc Cert.MixK.main_arg8) = m ((c.tc : Thread Cert.MixK.nD Cert.MixK.τ).loc Cert.MixK.main_arg8)
      ∧ r.2.mem ((c.tc : Thread Cert.MixK.nD Cert.MixK.τ).loc Cert.MixK.main_arg9) = m ((c.tc : Thread Cert.MixK.nD Cert.MixK.τ).loc Cert.MixK.main_arg9)
      ∧ r.2.mem ((c.tc : Thread Cert.MixK.nD Cert.MixK.τ).loc Cert.MixK.main_arg10) = m ((c.tc : Thread Cert.MixK.nD Cert.MixK.τ).loc Cert.MixK.main_arg10)
      ∧ r.2.mem ((c.tc : Thread Cert.MixK.nD Cert.MixK.τ).loc Cert.MixK.main_arg11) = m ((c.tc : Thread Cert.MixK.nD Cert.MixK.τ).loc Cert.MixK.main_arg11)
      ∧ r.2.mem ((c.tc : Thread Cert.MixK.nD Cert.MixK.τ).loc Cert.MixK.main_arg12) = m ((c.tc : Thread Cert.MixK.nD Cert.MixK.τ).loc Cert.MixK.main_arg12)
      ∧ r.2.mem ((c.tc : Thread Cert.MixK.nD Cert.MixK.τ).loc Cert.MixK.main_arg13) = m ((c.tc : Thread Cert.MixK.nD Cert.MixK.τ).loc Cert.MixK.main_arg13)
      ∧ r.2.mem ((c.tc : Thread Cert.MixK.nD Cert.MixK.τ).loc Cert.MixK.main_arg14) = m ((c.tc : Thread Cert.MixK.nD Cert.MixK.τ).loc Cert.MixK.main_arg14)
      ∧ r.2.mem ((c.tc : Thread Cert.MixK.nD Cert.MixK.τ).loc Cert.MixK.main_arg15) = m ((c.tc : Thread Cert.MixK.nD Cert.MixK.τ).loc Cert.MixK.main_arg15)
      ∧ r.2.mem ((c.tc : Thread Cert.MixK.nD Cert.MixK.τ).loc Cert.MixK.main_arg16) = m ((c.tc : Thread Cert.MixK.nD Cert.MixK.τ).loc Cert.MixK.main_arg16))
      ∧ r.2.sem = fun _ => 0)

def quiescent_MixKIdeal [hMixKIdeal : Cert.MixKIdeal.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
      ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
      ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
      ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
      ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
      ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
      ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7)
      ∧ r.2.mem ((c.tc : Thread Cert.MixKIdeal.nD Cert.MixKIdeal.τ).loc Cert.MixKIdeal.main_arg8) = m ((c.tc : Thread Cert.MixKIdeal.nD Cert.MixKIdeal.τ).loc Cert.MixKIdeal.main_arg8)
      ∧ r.2.mem ((c.tc : Thread Cert.MixKIdeal.nD Cert.MixKIdeal.τ).loc Cert.MixKIdeal.main_arg9) = m ((c.tc : Thread Cert.MixKIdeal.nD Cert.MixKIdeal.τ).loc Cert.MixKIdeal.main_arg9)
      ∧ r.2.mem ((c.tc : Thread Cert.MixKIdeal.nD Cert.MixKIdeal.τ).loc Cert.MixKIdeal.main_arg10) = m ((c.tc : Thread Cert.MixKIdeal.nD Cert.MixKIdeal.τ).loc Cert.MixKIdeal.main_arg10)
      ∧ r.2.mem ((c.tc : Thread Cert.MixKIdeal.nD Cert.MixKIdeal.τ).loc Cert.MixKIdeal.main_arg11) = m ((c.tc : Thread Cert.MixKIdeal.nD Cert.MixKIdeal.τ).loc Cert.MixKIdeal.main_arg11)
      ∧ r.2.mem ((c.tc : Thread Cert.MixKIdeal.nD Cert.MixKIdeal.τ).loc Cert.MixKIdeal.main_arg12) = m ((c.tc : Thread Cert.MixKIdeal.nD Cert.MixKIdeal.τ).loc Cert.MixKIdeal.main_arg12)
      ∧ r.2.mem ((c.tc : Thread Cert.MixKIdeal.nD Cert.MixKIdeal.τ).loc Cert.MixKIdeal.main_arg13) = m ((c.tc : Thread Cert.MixKIdeal.nD Cert.MixKIdeal.τ).loc Cert.MixKIdeal.main_arg13)
      ∧ r.2.mem ((c.tc : Thread Cert.MixKIdeal.nD Cert.MixKIdeal.τ).loc Cert.MixKIdeal.main_arg14) = m ((c.tc : Thread Cert.MixKIdeal.nD Cert.MixKIdeal.τ).loc Cert.MixKIdeal.main_arg14)
      ∧ r.2.mem ((c.tc : Thread Cert.MixKIdeal.nD Cert.MixKIdeal.τ).loc Cert.MixKIdeal.main_arg15) = m ((c.tc : Thread Cert.MixKIdeal.nD Cert.MixKIdeal.τ).loc Cert.MixKIdeal.main_arg15)
      ∧ r.2.mem ((c.tc : Thread Cert.MixKIdeal.nD Cert.MixKIdeal.τ).loc Cert.MixKIdeal.main_arg16) = m ((c.tc : Thread Cert.MixKIdeal.nD Cert.MixKIdeal.τ).loc Cert.MixKIdeal.main_arg16))
      ∧ r.2.sem = fun _ => 0)

def quiescent_MixRIdeal [hMixRIdeal : Cert.MixRIdeal.Facts] : Prop :=
  ∀ (m : (ℓ : Loc Cert.MixRIdeal.nD Cert.MixRIdeal.τ Cert.MixRIdeal.sig) → Buf (Elt Ideal) ℓ) (g : Dev Cert.MixRIdeal.nD → PrngReg), Pre_MixRIdeal m →
    θ_run (Cert.MixRIdeal.defs (F := Ideal)) (onTc (τ := Cert.MixRIdeal.τ) (Cert.MixRIdeal.main (F := Ideal))) ⟨m, fun _ => 0, g⟩ (fun r => (∀ c : Dev Cert.MixRIdeal.nD,
      r.2.mem ((c.tc : Thread Cert.MixRIdeal.nD Cert.MixRIdeal.τ).loc Cert.MixRIdeal.main_arg0) = m ((c.tc : Thread Cert.MixRIdeal.nD Cert.MixRIdeal.τ).loc Cert.MixRIdeal.main_arg0)
      ∧ r.2.mem ((c.tc : Thread Cert.MixRIdeal.nD Cert.MixRIdeal.τ).loc Cert.MixRIdeal.main_arg1) = m ((c.tc : Thread Cert.MixRIdeal.nD Cert.MixRIdeal.τ).loc Cert.MixRIdeal.main_arg1)
      ∧ r.2.mem ((c.tc : Thread Cert.MixRIdeal.nD Cert.MixRIdeal.τ).loc Cert.MixRIdeal.main_arg2) = m ((c.tc : Thread Cert.MixRIdeal.nD Cert.MixRIdeal.τ).loc Cert.MixRIdeal.main_arg2)
      ∧ r.2.mem ((c.tc : Thread Cert.MixRIdeal.nD Cert.MixRIdeal.τ).loc Cert.MixRIdeal.main_arg3) = m ((c.tc : Thread Cert.MixRIdeal.nD Cert.MixRIdeal.τ).loc Cert.MixRIdeal.main_arg3)
      ∧ r.2.mem ((c.tc : Thread Cert.MixRIdeal.nD Cert.MixRIdeal.τ).loc Cert.MixRIdeal.main_arg4) = m ((c.tc : Thread Cert.MixRIdeal.nD Cert.MixRIdeal.τ).loc Cert.MixRIdeal.main_arg4)
      ∧ r.2.mem ((c.tc : Thread Cert.MixRIdeal.nD Cert.MixRIdeal.τ).loc Cert.MixRIdeal.main_arg5) = m ((c.tc : Thread Cert.MixRIdeal.nD Cert.MixRIdeal.τ).loc Cert.MixRIdeal.main_arg5)
      ∧ r.2.mem ((c.tc : Thread Cert.MixRIdeal.nD Cert.MixRIdeal.τ).loc Cert.MixRIdeal.main_arg6) = m ((c.tc : Thread Cert.MixRIdeal.nD Cert.MixRIdeal.τ).loc Cert.MixRIdeal.main_arg6)
      ∧ r.2.mem ((c.tc : Thread Cert.MixRIdeal.nD Cert.MixRIdeal.τ).loc Cert.MixRIdeal.main_arg7) = m ((c.tc : Thread Cert.MixRIdeal.nD Cert.MixRIdeal.τ).loc Cert.MixRIdeal.main_arg7)
      ∧ r.2.mem ((c.tc : Thread Cert.MixRIdeal.nD Cert.MixRIdeal.τ).loc Cert.MixRIdeal.main_arg8) = m ((c.tc : Thread Cert.MixRIdeal.nD Cert.MixRIdeal.τ).loc Cert.MixRIdeal.main_arg8)
      ∧ r.2.mem ((c.tc : Thread Cert.MixRIdeal.nD Cert.MixRIdeal.τ).loc Cert.MixRIdeal.main_arg9) = m ((c.tc : Thread Cert.MixRIdeal.nD Cert.MixRIdeal.τ).loc Cert.MixRIdeal.main_arg9)
      ∧ r.2.mem ((c.tc : Thread Cert.MixRIdeal.nD Cert.MixRIdeal.τ).loc Cert.MixRIdeal.main_arg10) = m ((c.tc : Thread Cert.MixRIdeal.nD Cert.MixRIdeal.τ).loc Cert.MixRIdeal.main_arg10)
      ∧ r.2.mem ((c.tc : Thread Cert.MixRIdeal.nD Cert.MixRIdeal.τ).loc Cert.MixRIdeal.main_arg11) = m ((c.tc : Thread Cert.MixRIdeal.nD Cert.MixRIdeal.τ).loc Cert.MixRIdeal.main_arg11)
      ∧ r.2.mem ((c.tc : Thread Cert.MixRIdeal.nD Cert.MixRIdeal.τ).loc Cert.MixRIdeal.main_arg12) = m ((c.tc : Thread Cert.MixRIdeal.nD Cert.MixRIdeal.τ).loc Cert.MixRIdeal.main_arg12)
      ∧ r.2.mem ((c.tc : Thread Cert.MixRIdeal.nD Cert.MixRIdeal.τ).loc Cert.MixRIdeal.main_arg13) = m ((c.tc : Thread Cert.MixRIdeal.nD Cert.MixRIdeal.τ).loc Cert.MixRIdeal.main_arg13)
      ∧ r.2.mem ((c.tc : Thread Cert.MixRIdeal.nD Cert.MixRIdeal.τ).loc Cert.MixRIdeal.main_arg14) = m ((c.tc : Thread Cert.MixRIdeal.nD Cert.MixRIdeal.τ).loc Cert.MixRIdeal.main_arg14)
      ∧ r.2.mem ((c.tc : Thread Cert.MixRIdeal.nD Cert.MixRIdeal.τ).loc Cert.MixRIdeal.main_arg15) = m ((c.tc : Thread Cert.MixRIdeal.nD Cert.MixRIdeal.τ).loc Cert.MixRIdeal.main_arg15)
      ∧ r.2.mem ((c.tc : Thread Cert.MixRIdeal.nD Cert.MixRIdeal.τ).loc Cert.MixRIdeal.main_arg16) = m ((c.tc : Thread Cert.MixRIdeal.nD Cert.MixRIdeal.τ).loc Cert.MixRIdeal.main_arg16))
      ∧ r.2.sem = fun _ => 0)

def quiescent_AdamK [hAdamK : Cert.AdamK.Facts] : Prop :=
  ∀ (m : (ℓ : Loc Cert.AdamK.nD Cert.AdamK.τ Cert.AdamK.sig) → Buf (Elt Bits) ℓ) (g : Dev Cert.AdamK.nD → PrngReg), Pre_AdamK m →
    θ_run (Cert.AdamK.defs (F := Bits)) (onTc (τ := Cert.AdamK.τ) (Cert.AdamK.main (F := Bits))) ⟨m, fun _ => 0, g⟩ (fun r => (∀ c : Dev Cert.AdamK.nD,
      r.2.mem ((c.tc : Thread Cert.AdamK.nD Cert.AdamK.τ).loc Cert.AdamK.main_arg0) = m ((c.tc : Thread Cert.AdamK.nD Cert.AdamK.τ).loc Cert.AdamK.main_arg0)
      ∧ r.2.mem ((c.tc : Thread Cert.AdamK.nD Cert.AdamK.τ).loc Cert.AdamK.main_arg1) = m ((c.tc : Thread Cert.AdamK.nD Cert.AdamK.τ).loc Cert.AdamK.main_arg1)
      ∧ r.2.mem ((c.tc : Thread Cert.AdamK.nD Cert.AdamK.τ).loc Cert.AdamK.main_arg2) = m ((c.tc : Thread Cert.AdamK.nD Cert.AdamK.τ).loc Cert.AdamK.main_arg2)
      ∧ r.2.mem ((c.tc : Thread Cert.AdamK.nD Cert.AdamK.τ).loc Cert.AdamK.main_arg3) = m ((c.tc : Thread Cert.AdamK.nD Cert.AdamK.τ).loc Cert.AdamK.main_arg3))
      ∧ r.2.sem = fun _ => 0)

def quiescent_AdamKIdeal [hAdamKIdeal : Cert.AdamKIdeal.Facts] : Prop :=
  ∀ (m : (ℓ : Loc Cert.AdamKIdeal.nD Cert.AdamKIdeal.τ Cert.AdamKIdeal.sig) → Buf (Elt Ideal) ℓ) (g : Dev Cert.AdamKIdeal.nD → PrngReg), Pre_AdamKIdeal m →
    θ_run (Cert.AdamKIdeal.defs (F := Ideal)) (onTc (τ := Cert.AdamKIdeal.τ) (Cert.AdamKIdeal.main (F := Ideal))) ⟨m, fun _ => 0, g⟩ (fun r => (∀ c : Dev Cert.AdamKIdeal.nD,
      r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
      ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
      ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
      ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3))
      ∧ r.2.sem = fun _ => 0)

def preserves_RmsK_RmsKIdeal : Prop :=
  True

def algebraic_RmsKIdeal_RmsRIdeal_pre_finite_rms [hRmsKIdeal : Cert.RmsKIdeal.Facts] [hRmsRIdeal : Cert.RmsRIdeal.Facts] [hPre_finite_rms : Cert.Pre_finite_rms.Facts] : Prop :=
  ∀ (m : (ℓ : Loc Cert.RmsKIdeal.nD Cert.RmsKIdeal.τ Cert.RmsKIdeal.sig) → Buf (Elt Ideal) ℓ) (g : Dev Cert.RmsKIdeal.nD → PrngReg)
    (m' : (ℓ : Loc Cert.RmsRIdeal.nD Cert.RmsRIdeal.τ Cert.RmsRIdeal.sig) → Buf (Elt Ideal) ℓ) (g' : Dev Cert.RmsRIdeal.nD → PrngReg), Pre_RmsKIdeal_finite_rms m →
    (∀ c : Dev Cert.RmsKIdeal.nD,
      m' ((c.tc : Thread Cert.RmsRIdeal.nD Cert.RmsRIdeal.τ).loc Cert.RmsRIdeal.main_arg0) = m ((c.tc : Thread Cert.RmsKIdeal.nD Cert.RmsKIdeal.τ).loc Cert.RmsKIdeal.main_arg0)
      ∧ m' ((c.tc : Thread Cert.RmsRIdeal.nD Cert.RmsRIdeal.τ).loc Cert.RmsRIdeal.main_arg1) = m ((c.tc : Thread Cert.RmsKIdeal.nD Cert.RmsKIdeal.τ).loc Cert.RmsKIdeal.main_arg1)
      ∧ m' ((c.tc : Thread Cert.RmsRIdeal.nD Cert.RmsRIdeal.τ).loc Cert.RmsRIdeal.main_arg2) = m ((c.tc : Thread Cert.RmsKIdeal.nD Cert.RmsKIdeal.τ).loc Cert.RmsKIdeal.main_arg2)
      ∧ m' ((c.tc : Thread Cert.RmsRIdeal.nD Cert.RmsRIdeal.τ).loc Cert.RmsRIdeal.main_arg3) = m ((c.tc : Thread Cert.RmsKIdeal.nD Cert.RmsKIdeal.τ).loc Cert.RmsKIdeal.main_arg3)) →
    ∃ (v0 : (c : Dev Cert.RmsKIdeal.nD) → Buf (Elt Ideal) ((c.tc : Thread Cert.RmsKIdeal.nD Cert.RmsKIdeal.τ).loc Cert.RmsKIdeal.main_v1_0)) (v1 : (c : Dev Cert.RmsKIdeal.nD) → Buf (Elt Ideal) ((c.tc : Thread Cert.RmsKIdeal.nD Cert.RmsKIdeal.τ).loc Cert.RmsKIdeal.main_v2)),
      θ_run (Cert.RmsKIdeal.defs (F := Ideal)) (onTc (τ := Cert.RmsKIdeal.τ) (Cert.RmsKIdeal.main (F := Ideal))) ⟨m, fun _ => 0, g⟩ (fun r => ∀ c : Dev Cert.RmsKIdeal.nD,
          r.2.mem ((c.tc : Thread Cert.RmsKIdeal.nD Cert.RmsKIdeal.τ).loc Cert.RmsKIdeal.main_v1_0) = v0 c
          ∧ r.2.mem ((c.tc : Thread Cert.RmsKIdeal.nD Cert.RmsKIdeal.τ).loc Cert.RmsKIdeal.main_v2) = v1 c
          ∧ r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
          ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1)
          ∧ r.2.mem ((c.tc : Thread Cert.RmsKIdeal.nD Cert.RmsKIdeal.τ).loc Cert.RmsKIdeal.main_arg2) = m ((c.tc : Thread Cert.RmsKIdeal.nD Cert.RmsKIdeal.τ).loc Cert.RmsKIdeal.main_arg2)
          ∧ r.2.mem ((c.tc : Thread Cert.RmsKIdeal.nD Cert.RmsKIdeal.τ).loc Cert.RmsKIdeal.main_arg3) = m ((c.tc : Thread Cert.RmsKIdeal.nD Cert.RmsKIdeal.τ).loc Cert.RmsKIdeal.main_arg3))
      ∧ θ_run (Cert.RmsRIdeal.defs (F := Ideal)) (onTc (τ := Cert.RmsRIdeal.τ) (Cert.RmsRIdeal.main (F := Ideal))) ⟨m', fun _ => 0, g'⟩ (fun r => ∀ c : Dev Cert.RmsRIdeal.nD,
          r.2.mem ((c.tc : Thread Cert.RmsRIdeal.nD Cert.RmsRIdeal.τ).loc Cert.RmsRIdeal.main_v36) = v0 c
          ∧ r.2.mem ((c.tc : Thread Cert.RmsRIdeal.nD Cert.RmsRIdeal.τ).loc Cert.RmsRIdeal.main_v21) = v1 c
          ∧ r.2.mem ((c.tc : Thread Cert.RmsRIdeal.nD Cert.RmsRIdeal.τ).loc Cert.RmsRIdeal.main_arg0) = m' ((c.tc : Thread Cert.RmsRIdeal.nD Cert.RmsRIdeal.τ).loc Cert.RmsRIdeal.main_arg0)
          ∧ r.2.mem ((c.tc : Thread Cert.RmsRIdeal.nD Cert.RmsRIdeal.τ).loc Cert.RmsRIdeal.main_arg1) = m' ((c.tc : Thread Cert.RmsRIdeal.nD Cert.RmsRIdeal.τ).loc Cert.RmsRIdeal.main_arg1)
          ∧ r.2.mem ((c.tc : Thread Cert.RmsRIdeal.nD Cert.RmsRIdeal.τ).loc Cert.RmsRIdeal.main_arg2) = m' ((c.tc : Thread Cert.RmsRIdeal.nD Cert.RmsRIdeal.τ).loc Cert.RmsRIdeal.main_arg2)
          ∧ r.2.mem ((c.tc : Thread Cert.RmsRIdeal.nD Cert.RmsRIdeal.τ).loc Cert.RmsRIdeal.main_arg3) = m' ((c.tc : Thread Cert.RmsRIdeal.nD Cert.RmsRIdeal.τ).loc Cert.RmsRIdeal.main_arg3))

def preserves_AttnK_AttnKIdeal : Prop :=
  True

def algebraic_AttnKIdeal_AttnRIdeal_pre_finite_attn [hAttnKIdeal : Cert.AttnKIdeal.Facts] [hAttnRIdeal : Cert.AttnRIdeal.Facts] [hPre_finite_attn : Cert.Pre_finite_attn.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnKIdeal_finite_attn m →
    (∀ c : Dev Cert.AttnKIdeal.nD,
      m' ((c.tc : Thread Cert.AttnRIdeal.nD Cert.AttnRIdeal.τ).loc Cert.AttnRIdeal.main_arg0) = m ((c.tc : Thread Cert.AttnKIdeal.nD Cert.AttnKIdeal.τ).loc Cert.AttnKIdeal.main_arg0)
      ∧ m' ((c.tc : Thread Cert.AttnRIdeal.nD Cert.AttnRIdeal.τ).loc Cert.AttnRIdeal.main_arg1) = m ((c.tc : Thread Cert.AttnKIdeal.nD Cert.AttnKIdeal.τ).loc Cert.AttnKIdeal.main_arg1)
      ∧ m' ((c.tc : Thread Cert.AttnRIdeal.nD Cert.AttnRIdeal.τ).loc Cert.AttnRIdeal.main_arg2) = m ((c.tc : Thread Cert.AttnKIdeal.nD Cert.AttnKIdeal.τ).loc Cert.AttnKIdeal.main_arg2)) →
    ∃ (v0 : (c : Dev Cert.AttnKIdeal.nD) → Buf (Elt Ideal) ((c.tc : Thread Cert.AttnKIdeal.nD Cert.AttnKIdeal.τ).loc Cert.AttnKIdeal.main_v44_0)) (v1 : (c : Dev Cert.AttnKIdeal.nD) → Buf (Elt Ideal) ((c.tc : Thread Cert.AttnKIdeal.nD Cert.AttnKIdeal.τ).loc Cert.AttnKIdeal.main_v44_1)) (v2 : (c : Dev Cert.AttnKIdeal.nD) → Buf (Elt Ideal) ((c.tc : Thread Cert.AttnKIdeal.nD Cert.AttnKIdeal.τ).loc Cert.AttnKIdeal.main_v44_2)) (v3 : (c : Dev Cert.AttnKIdeal.nD) → Buf (Elt Ideal) ((c.tc : Thread Cert.AttnKIdeal.nD Cert.AttnKIdeal.τ).loc Cert.AttnKIdeal.main_v44_3)) (v4 : (c : Dev Cert.AttnKIdeal.nD) → Buf (Elt Ideal) ((c.tc : Thread Cert.AttnKIdeal.nD Cert.AttnKIdeal.τ).loc Cert.AttnKIdeal.main_v44_4)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v44_0) = v0 c
          ∧ r.2.mem ((c.tc : Thread Cert.AttnKIdeal.nD Cert.AttnKIdeal.τ).loc Cert.AttnKIdeal.main_v44_1) = v1 c
          ∧ r.2.mem ((c.tc : Thread Cert.AttnKIdeal.nD Cert.AttnKIdeal.τ).loc Cert.AttnKIdeal.main_v44_2) = v2 c
          ∧ r.2.mem ((c.tc : Thread Cert.AttnKIdeal.nD Cert.AttnKIdeal.τ).loc Cert.AttnKIdeal.main_v44_3) = v3 c
          ∧ r.2.mem ((c.tc : Thread Cert.AttnKIdeal.nD Cert.AttnKIdeal.τ).loc Cert.AttnKIdeal.main_v44_4) = v4 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
          ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v82) = v0 c
          ∧ r.2.mem ((c.tc : Thread Cert.AttnRIdeal.nD Cert.AttnRIdeal.τ).loc Cert.AttnRIdeal.main_v81) = v1 c
          ∧ r.2.mem ((c.tc : Thread Cert.AttnRIdeal.nD Cert.AttnRIdeal.τ).loc Cert.AttnRIdeal.main_v57) = v2 c
          ∧ r.2.mem ((c.tc : Thread Cert.AttnRIdeal.nD Cert.AttnRIdeal.τ).loc Cert.AttnRIdeal.main_v83) = v3 c
          ∧ r.2.mem ((c.tc : Thread Cert.AttnRIdeal.nD Cert.AttnRIdeal.τ).loc Cert.AttnRIdeal.main_v84) = v4 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2))

def preserves_CumK_CumKIdeal : Prop :=
  True

def algebraic_CumKIdeal_CumRIdeal_pre_finite_cum [hCumKIdeal : Cert.CumKIdeal.Facts] [hCumRIdeal : Cert.CumRIdeal.Facts] [hPre_finite_cum : Cert.Pre_finite_cum.Facts] : Prop :=
  ∀ (m : (ℓ : Loc Cert.CumKIdeal.nD Cert.CumKIdeal.τ Cert.CumKIdeal.sig) → Buf (Elt Ideal) ℓ) (g : Dev Cert.CumKIdeal.nD → PrngReg)
    (m' : (ℓ : Loc Cert.CumRIdeal.nD Cert.CumRIdeal.τ Cert.CumRIdeal.sig) → Buf (Elt Ideal) ℓ) (g' : Dev Cert.CumRIdeal.nD → PrngReg), Pre_CumKIdeal_finite_cum m →
    (∀ c : Dev Cert.CumKIdeal.nD,
      m' ((c.tc : Thread Cert.CumRIdeal.nD Cert.CumRIdeal.τ).loc Cert.CumRIdeal.main_arg0) = m ((c.tc : Thread Cert.CumKIdeal.nD Cert.CumKIdeal.τ).loc Cert.CumKIdeal.main_arg0)
      ∧ m' ((c.tc : Thread Cert.CumRIdeal.nD Cert.CumRIdeal.τ).loc Cert.CumRIdeal.main_arg1) = m ((c.tc : Thread Cert.CumKIdeal.nD Cert.CumKIdeal.τ).loc Cert.CumKIdeal.main_arg1)
      ∧ m' ((c.tc : Thread Cert.CumRIdeal.nD Cert.CumRIdeal.τ).loc Cert.CumRIdeal.main_arg2) = m ((c.tc : Thread Cert.CumKIdeal.nD Cert.CumKIdeal.τ).loc Cert.CumKIdeal.main_arg2)
      ∧ m' ((c.tc : Thread Cert.CumRIdeal.nD Cert.CumRIdeal.τ).loc Cert.CumRIdeal.main_arg3) = m ((c.tc : Thread Cert.CumKIdeal.nD Cert.CumKIdeal.τ).loc Cert.CumKIdeal.main_arg3)) →
    ∃ (v0 : (c : Dev Cert.CumKIdeal.nD) → Buf (Elt Ideal) ((c.tc : Thread Cert.CumKIdeal.nD Cert.CumKIdeal.τ).loc Cert.CumKIdeal.main_v7)) (v1 : (c : Dev Cert.CumKIdeal.nD) → Buf (Elt Ideal) ((c.tc : Thread Cert.CumKIdeal.nD Cert.CumKIdeal.τ).loc Cert.CumKIdeal.main_v9)),
      θ_run (Cert.CumKIdeal.defs (F := Ideal)) (onTc (τ := Cert.CumKIdeal.τ) (Cert.CumKIdeal.main (F := Ideal))) ⟨m, fun _ => 0, g⟩ (fun r => ∀ c : Dev Cert.CumKIdeal.nD,
          r.2.mem ((c.tc : Thread Cert.CumKIdeal.nD Cert.CumKIdeal.τ).loc Cert.CumKIdeal.main_v7) = v0 c
          ∧ r.2.mem ((c.tc : Thread Cert.CumKIdeal.nD Cert.CumKIdeal.τ).loc Cert.CumKIdeal.main_v9) = v1 c
          ∧ r.2.mem ((c.tc : Thread Cert.CumKIdeal.nD Cert.CumKIdeal.τ).loc Cert.CumKIdeal.main_arg0) = m ((c.tc : Thread Cert.CumKIdeal.nD Cert.CumKIdeal.τ).loc Cert.CumKIdeal.main_arg0)
          ∧ r.2.mem ((c.tc : Thread Cert.CumKIdeal.nD Cert.CumKIdeal.τ).loc Cert.CumKIdeal.main_arg1) = m ((c.tc : Thread Cert.CumKIdeal.nD Cert.CumKIdeal.τ).loc Cert.CumKIdeal.main_arg1)
          ∧ r.2.mem ((c.tc : Thread Cert.CumKIdeal.nD Cert.CumKIdeal.τ).loc Cert.CumKIdeal.main_arg2) = m ((c.tc : Thread Cert.CumKIdeal.nD Cert.CumKIdeal.τ).loc Cert.CumKIdeal.main_arg2)
          ∧ r.2.mem ((c.tc : Thread Cert.CumKIdeal.nD Cert.CumKIdeal.τ).loc Cert.CumKIdeal.main_arg3) = m ((c.tc : Thread Cert.CumKIdeal.nD Cert.CumKIdeal.τ).loc Cert.CumKIdeal.main_arg3))
      ∧ θ_run (Cert.CumRIdeal.defs (F := Ideal)) (onTc (τ := Cert.CumRIdeal.τ) (Cert.CumRIdeal.main (F := Ideal))) ⟨m', fun _ => 0, g'⟩ (fun r => ∀ c : Dev Cert.CumRIdeal.nD,
          r.2.mem ((c.tc : Thread Cert.CumRIdeal.nD Cert.CumRIdeal.τ).loc Cert.CumRIdeal.main_v17) = v0 c
          ∧ r.2.mem ((c.tc : Thread Cert.CumRIdeal.nD Cert.CumRIdeal.τ).loc Cert.CumRIdeal.main_v16) = v1 c
          ∧ r.2.mem ((c.tc : Thread Cert.CumRIdeal.nD Cert.CumRIdeal.τ).loc Cert.CumRIdeal.main_arg0) = m' ((c.tc : Thread Cert.CumRIdeal.nD Cert.CumRIdeal.τ).loc Cert.CumRIdeal.main_arg0)
          ∧ r.2.mem ((c.tc : Thread Cert.CumRIdeal.nD Cert.CumRIdeal.τ).loc Cert.CumRIdeal.main_arg1) = m' ((c.tc : Thread Cert.CumRIdeal.nD Cert.CumRIdeal.τ).loc Cert.CumRIdeal.main_arg1)
          ∧ r.2.mem ((c.tc : Thread Cert.CumRIdeal.nD Cert.CumRIdeal.τ).loc Cert.CumRIdeal.main_arg2) = m' ((c.tc : Thread Cert.CumRIdeal.nD Cert.CumRIdeal.τ).loc Cert.CumRIdeal.main_arg2)
          ∧ r.2.mem ((c.tc : Thread Cert.CumRIdeal.nD Cert.CumRIdeal.τ).loc Cert.CumRIdeal.main_arg3) = m' ((c.tc : Thread Cert.CumRIdeal.nD Cert.CumRIdeal.τ).loc Cert.CumRIdeal.main_arg3))

def preserves_LossK_LossKIdeal : Prop :=
  True

def algebraic_LossKIdeal_LossRIdeal_pre_finite_loss [hLossKIdeal : Cert.LossKIdeal.Facts] [hLossRIdeal : Cert.LossRIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_finite_loss m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v3)) (v1 : (c : Dev Cert.LossKIdeal.nD) → Buf (Elt Ideal) ((c.tc : Thread Cert.LossKIdeal.nD Cert.LossKIdeal.τ).loc Cert.LossKIdeal.main_v1_1)) (v2 : (c : Dev Cert.LossKIdeal.nD) → Buf (Elt Ideal) ((c.tc : Thread Cert.LossKIdeal.nD Cert.LossKIdeal.τ).loc Cert.LossKIdeal.main_v4)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v3) = v0 c
          ∧ r.2.mem ((c.tc : Thread Cert.LossKIdeal.nD Cert.LossKIdeal.τ).loc Cert.LossKIdeal.main_v1_1) = v1 c
          ∧ r.2.mem ((c.tc : Thread Cert.LossKIdeal.nD Cert.LossKIdeal.τ).loc Cert.LossKIdeal.main_v4) = v2 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v24) = v0 c
          ∧ r.2.mem ((c.tc : Thread Cert.LossRIdeal.nD Cert.LossRIdeal.τ).loc Cert.LossRIdeal.main_v50) = v1 c
          ∧ r.2.mem ((c.tc : Thread Cert.LossRIdeal.nD Cert.LossRIdeal.τ).loc Cert.LossRIdeal.main_v36) = v2 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_MergeK_MergeKIdeal : Prop :=
  True

def algebraic_MergeKIdeal_MergeRIdeal_pre_finite_merge [hMergeKIdeal : Cert.MergeKIdeal.Facts] [hMergeRIdeal : Cert.MergeRIdeal.Facts] [hPre_finite_merge : Cert.Pre_finite_merge.Facts] : Prop :=
  ∀ (m : (ℓ : Loc Cert.MergeKIdeal.nD Cert.MergeKIdeal.τ Cert.MergeKIdeal.sig) → Buf (Elt Ideal) ℓ) (g : Dev Cert.MergeKIdeal.nD → PrngReg)
    (m' : (ℓ : Loc Cert.MergeRIdeal.nD Cert.MergeRIdeal.τ Cert.MergeRIdeal.sig) → Buf (Elt Ideal) ℓ) (g' : Dev Cert.MergeRIdeal.nD → PrngReg), Pre_MergeKIdeal_finite_merge m →
    (∀ c : Dev Cert.MergeKIdeal.nD,
      m' ((c.tc : Thread Cert.MergeRIdeal.nD Cert.MergeRIdeal.τ).loc Cert.MergeRIdeal.main_arg0) = m ((c.tc : Thread Cert.MergeKIdeal.nD Cert.MergeKIdeal.τ).loc Cert.MergeKIdeal.main_arg0)
      ∧ m' ((c.tc : Thread Cert.MergeRIdeal.nD Cert.MergeRIdeal.τ).loc Cert.MergeRIdeal.main_arg1) = m ((c.tc : Thread Cert.MergeKIdeal.nD Cert.MergeKIdeal.τ).loc Cert.MergeKIdeal.main_arg1)
      ∧ m' ((c.tc : Thread Cert.MergeRIdeal.nD Cert.MergeRIdeal.τ).loc Cert.MergeRIdeal.main_arg2) = m ((c.tc : Thread Cert.MergeKIdeal.nD Cert.MergeKIdeal.τ).loc Cert.MergeKIdeal.main_arg2)
      ∧ m' ((c.tc : Thread Cert.MergeRIdeal.nD Cert.MergeRIdeal.τ).loc Cert.MergeRIdeal.main_arg3) = m ((c.tc : Thread Cert.MergeKIdeal.nD Cert.MergeKIdeal.τ).loc Cert.MergeKIdeal.main_arg3)
      ∧ m' ((c.tc : Thread Cert.MergeRIdeal.nD Cert.MergeRIdeal.τ).loc Cert.MergeRIdeal.main_arg4) = m ((c.tc : Thread Cert.MergeKIdeal.nD Cert.MergeKIdeal.τ).loc Cert.MergeKIdeal.main_arg4)
      ∧ m' ((c.tc : Thread Cert.MergeRIdeal.nD Cert.MergeRIdeal.τ).loc Cert.MergeRIdeal.main_arg5) = m ((c.tc : Thread Cert.MergeKIdeal.nD Cert.MergeKIdeal.τ).loc Cert.MergeKIdeal.main_arg5)
      ∧ m' ((c.tc : Thread Cert.MergeRIdeal.nD Cert.MergeRIdeal.τ).loc Cert.MergeRIdeal.main_arg6) = m ((c.tc : Thread Cert.MergeKIdeal.nD Cert.MergeKIdeal.τ).loc Cert.MergeKIdeal.main_arg6)
      ∧ m' ((c.tc : Thread Cert.MergeRIdeal.nD Cert.MergeRIdeal.τ).loc Cert.MergeRIdeal.main_arg7) = m ((c.tc : Thread Cert.MergeKIdeal.nD Cert.MergeKIdeal.τ).loc Cert.MergeKIdeal.main_arg7)) →
    ∃ (v0 : (c : Dev Cert.MergeKIdeal.nD) → Buf (Elt Ideal) ((c.tc : Thread Cert.MergeKIdeal.nD Cert.MergeKIdeal.τ).loc Cert.MergeKIdeal.main_v21_0)) (v1 : (c : Dev Cert.MergeKIdeal.nD) → Buf (Elt Ideal) ((c.tc : Thread Cert.MergeKIdeal.nD Cert.MergeKIdeal.τ).loc Cert.MergeKIdeal.main_v21_1)) (v2 : (c : Dev Cert.MergeKIdeal.nD) → Buf (Elt Ideal) ((c.tc : Thread Cert.MergeKIdeal.nD Cert.MergeKIdeal.τ).loc Cert.MergeKIdeal.main_v21_2)) (v3 : (c : Dev Cert.MergeKIdeal.nD) → Buf (Elt Ideal) ((c.tc : Thread Cert.MergeKIdeal.nD Cert.MergeKIdeal.τ).loc Cert.MergeKIdeal.main_v21_3)) (v4 : (c : Dev Cert.MergeKIdeal.nD) → Buf (Elt Ideal) ((c.tc : Thread Cert.MergeKIdeal.nD Cert.MergeKIdeal.τ).loc Cert.MergeKIdeal.main_v21_4)) (v5 : (c : Dev Cert.MergeKIdeal.nD) → Buf (Elt Ideal) ((c.tc : Thread Cert.MergeKIdeal.nD Cert.MergeKIdeal.τ).loc Cert.MergeKIdeal.main_v21_5)) (v6 : (c : Dev Cert.MergeKIdeal.nD) → Buf (Elt Ideal) ((c.tc : Thread Cert.MergeKIdeal.nD Cert.MergeKIdeal.τ).loc Cert.MergeKIdeal.main_v21_6)) (v7 : (c : Dev Cert.MergeKIdeal.nD) → Buf (Elt Ideal) ((c.tc : Thread Cert.MergeKIdeal.nD Cert.MergeKIdeal.τ).loc Cert.MergeKIdeal.main_v21_7)),
      θ_run (Cert.MergeKIdeal.defs (F := Ideal)) (onTc (τ := Cert.MergeKIdeal.τ) (Cert.MergeKIdeal.main (F := Ideal))) ⟨m, fun _ => 0, g⟩ (fun r => ∀ c : Dev Cert.MergeKIdeal.nD,
          r.2.mem ((c.tc : Thread Cert.MergeKIdeal.nD Cert.MergeKIdeal.τ).loc Cert.MergeKIdeal.main_v21_0) = v0 c
          ∧ r.2.mem ((c.tc : Thread Cert.MergeKIdeal.nD Cert.MergeKIdeal.τ).loc Cert.MergeKIdeal.main_v21_1) = v1 c
          ∧ r.2.mem ((c.tc : Thread Cert.MergeKIdeal.nD Cert.MergeKIdeal.τ).loc Cert.MergeKIdeal.main_v21_2) = v2 c
          ∧ r.2.mem ((c.tc : Thread Cert.MergeKIdeal.nD Cert.MergeKIdeal.τ).loc Cert.MergeKIdeal.main_v21_3) = v3 c
          ∧ r.2.mem ((c.tc : Thread Cert.MergeKIdeal.nD Cert.MergeKIdeal.τ).loc Cert.MergeKIdeal.main_v21_4) = v4 c
          ∧ r.2.mem ((c.tc : Thread Cert.MergeKIdeal.nD Cert.MergeKIdeal.τ).loc Cert.MergeKIdeal.main_v21_5) = v5 c
          ∧ r.2.mem ((c.tc : Thread Cert.MergeKIdeal.nD Cert.MergeKIdeal.τ).loc Cert.MergeKIdeal.main_v21_6) = v6 c
          ∧ r.2.mem ((c.tc : Thread Cert.MergeKIdeal.nD Cert.MergeKIdeal.τ).loc Cert.MergeKIdeal.main_v21_7) = v7 c
          ∧ r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
          ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
          ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
          ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
          ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
          ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
          ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
          ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7))
      ∧ θ_run (Cert.MergeRIdeal.defs (F := Ideal)) (onTc (τ := Cert.MergeRIdeal.τ) (Cert.MergeRIdeal.main (F := Ideal))) ⟨m', fun _ => 0, g'⟩ (fun r => ∀ c : Dev Cert.MergeRIdeal.nD,
          r.2.mem ((c.tc : Thread Cert.MergeRIdeal.nD Cert.MergeRIdeal.τ).loc Cert.MergeRIdeal.main_v54) = v0 c
          ∧ r.2.mem ((c.tc : Thread Cert.MergeRIdeal.nD Cert.MergeRIdeal.τ).loc Cert.MergeRIdeal.main_v42) = v1 c
          ∧ r.2.mem ((c.tc : Thread Cert.MergeRIdeal.nD Cert.MergeRIdeal.τ).loc Cert.MergeRIdeal.main_v53) = v2 c
          ∧ r.2.mem ((c.tc : Thread Cert.MergeRIdeal.nD Cert.MergeRIdeal.τ).loc Cert.MergeRIdeal.main_v51) = v3 c
          ∧ r.2.mem ((c.tc : Thread Cert.MergeRIdeal.nD Cert.MergeRIdeal.τ).loc Cert.MergeRIdeal.main_v46) = v4 c
          ∧ r.2.mem ((c.tc : Thread Cert.MergeRIdeal.nD Cert.MergeRIdeal.τ).loc Cert.MergeRIdeal.main_v48) = v5 c
          ∧ r.2.mem ((c.tc : Thread Cert.MergeRIdeal.nD Cert.MergeRIdeal.τ).loc Cert.MergeRIdeal.main_v55) = v6 c
          ∧ r.2.mem ((c.tc : Thread Cert.MergeRIdeal.nD Cert.MergeRIdeal.τ).loc Cert.MergeRIdeal.main_v56) = v7 c
          ∧ r.2.mem ((c.tc : Thread Cert.MergeRIdeal.nD Cert.MergeRIdeal.τ).loc Cert.MergeRIdeal.main_arg0) = m' ((c.tc : Thread Cert.MergeRIdeal.nD Cert.MergeRIdeal.τ).loc Cert.MergeRIdeal.main_arg0)
          ∧ r.2.mem ((c.tc : Thread Cert.MergeRIdeal.nD Cert.MergeRIdeal.τ).loc Cert.MergeRIdeal.main_arg1) = m' ((c.tc : Thread Cert.MergeRIdeal.nD Cert.MergeRIdeal.τ).loc Cert.MergeRIdeal.main_arg1)
          ∧ r.2.mem ((c.tc : Thread Cert.MergeRIdeal.nD Cert.MergeRIdeal.τ).loc Cert.MergeRIdeal.main_arg2) = m' ((c.tc : Thread Cert.MergeRIdeal.nD Cert.MergeRIdeal.τ).loc Cert.MergeRIdeal.main_arg2)
          ∧ r.2.mem ((c.tc : Thread Cert.MergeRIdeal.nD Cert.MergeRIdeal.τ).loc Cert.MergeRIdeal.main_arg3) = m' ((c.tc : Thread Cert.MergeRIdeal.nD Cert.MergeRIdeal.τ).loc Cert.MergeRIdeal.main_arg3)
          ∧ r.2.mem ((c.tc : Thread Cert.MergeRIdeal.nD Cert.MergeRIdeal.τ).loc Cert.MergeRIdeal.main_arg4) = m' ((c.tc : Thread Cert.MergeRIdeal.nD Cert.MergeRIdeal.τ).loc Cert.MergeRIdeal.main_arg4)
          ∧ r.2.mem ((c.tc : Thread Cert.MergeRIdeal.nD Cert.MergeRIdeal.τ).loc Cert.MergeRIdeal.main_arg5) = m' ((c.tc : Thread Cert.MergeRIdeal.nD Cert.MergeRIdeal.τ).loc Cert.MergeRIdeal.main_arg5)
          ∧ r.2.mem ((c.tc : Thread Cert.MergeRIdeal.nD Cert.MergeRIdeal.τ).loc Cert.MergeRIdeal.main_arg6) = m' ((c.tc : Thread Cert.MergeRIdeal.nD Cert.MergeRIdeal.τ).loc Cert.MergeRIdeal.main_arg6)
          ∧ r.2.mem ((c.tc : Thread Cert.MergeRIdeal.nD Cert.MergeRIdeal.τ).loc Cert.MergeRIdeal.main_arg7) = m' ((c.tc : Thread Cert.MergeRIdeal.nD Cert.MergeRIdeal.τ).loc Cert.MergeRIdeal.main_arg7))

def preserves_FwdK_FwdKIdeal : Prop :=
  IdealRules.named_const.Statement Cert.FwdKIdeal.κ "mask" .f32 0xF149F2CA#32 ⊥

def algebraic_FwdKIdeal_FwdRIdeal_pre_finite_fwd [hFwdKIdeal : Cert.FwdKIdeal.Facts] [hFwdRIdeal : Cert.FwdRIdeal.Facts] [hPre_finite_fwd : Cert.Pre_finite_fwd.Facts] : Prop :=
  ∀ (m : (ℓ : Loc Cert.FwdKIdeal.nD Cert.FwdKIdeal.τ Cert.FwdKIdeal.sig) → Buf (Elt Ideal) ℓ) (g : Dev Cert.FwdKIdeal.nD → PrngReg)
    (m' : (ℓ : Loc Cert.FwdRIdeal.nD Cert.FwdRIdeal.τ Cert.FwdRIdeal.sig) → Buf (Elt Ideal) ℓ) (g' : Dev Cert.FwdRIdeal.nD → PrngReg), Pre_FwdKIdeal_finite_fwd m →
    (∀ c : Dev Cert.FwdKIdeal.nD,
      m' ((c.tc : Thread Cert.FwdRIdeal.nD Cert.FwdRIdeal.τ).loc Cert.FwdRIdeal.main_arg0) = m ((c.tc : Thread Cert.FwdKIdeal.nD Cert.FwdKIdeal.τ).loc Cert.FwdKIdeal.main_arg0)
      ∧ m' ((c.tc : Thread Cert.FwdRIdeal.nD Cert.FwdRIdeal.τ).loc Cert.FwdRIdeal.main_arg1) = m ((c.tc : Thread Cert.FwdKIdeal.nD Cert.FwdKIdeal.τ).loc Cert.FwdKIdeal.main_arg1)) →
    ∃ (v0 : (c : Dev Cert.FwdKIdeal.nD) → Buf (Elt Ideal) ((c.tc : Thread Cert.FwdKIdeal.nD Cert.FwdKIdeal.τ).loc Cert.FwdKIdeal.main_v16_0)) (v1 : (c : Dev Cert.FwdKIdeal.nD) → Buf (Elt Ideal) ((c.tc : Thread Cert.FwdKIdeal.nD Cert.FwdKIdeal.τ).loc Cert.FwdKIdeal.main_v16_1)),
      θ_run (Cert.FwdKIdeal.defs (F := Ideal)) (onTc (τ := Cert.FwdKIdeal.τ) (Cert.FwdKIdeal.main (F := Ideal))) ⟨m, fun _ => 0, g⟩ (fun r => ∀ c : Dev Cert.FwdKIdeal.nD,
          r.2.mem ((c.tc : Thread Cert.FwdKIdeal.nD Cert.FwdKIdeal.τ).loc Cert.FwdKIdeal.main_v16_0) = v0 c
          ∧ r.2.mem ((c.tc : Thread Cert.FwdKIdeal.nD Cert.FwdKIdeal.τ).loc Cert.FwdKIdeal.main_v16_1) = v1 c
          ∧ r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
          ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1))
      ∧ θ_run (Cert.FwdRIdeal.defs (F := Ideal)) (onTc (τ := Cert.FwdRIdeal.τ) (Cert.FwdRIdeal.main (F := Ideal))) ⟨m', fun _ => 0, g'⟩ (fun r => ∀ c : Dev Cert.FwdRIdeal.nD,
          r.2.mem ((c.tc : Thread Cert.FwdRIdeal.nD Cert.FwdRIdeal.τ).loc Cert.FwdRIdeal.main_v45) = v0 c
          ∧ r.2.mem ((c.tc : Thread Cert.FwdRIdeal.nD Cert.FwdRIdeal.τ).loc Cert.FwdRIdeal.main_v33) = v1 c
          ∧ r.2.mem ((c.tc : Thread Cert.FwdRIdeal.nD Cert.FwdRIdeal.τ).loc Cert.FwdRIdeal.main_arg0) = m' ((c.tc : Thread Cert.FwdRIdeal.nD Cert.FwdRIdeal.τ).loc Cert.FwdRIdeal.main_arg0)
          ∧ r.2.mem ((c.tc : Thread Cert.FwdRIdeal.nD Cert.FwdRIdeal.τ).loc Cert.FwdRIdeal.main_arg1) = m' ((c.tc : Thread Cert.FwdRIdeal.nD Cert.FwdRIdeal.τ).loc Cert.FwdRIdeal.main_arg1))

def preserves_NormK_NormKIdeal : Prop :=
  True

def algebraic_NormKIdeal_NormRIdeal [hNormKIdeal : Cert.NormKIdeal.Facts] [hNormRIdeal : Cert.NormRIdeal.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)) →
    ∃ (v0 : (c : Dev Cert.NormKIdeal.nD) → Buf (Elt Ideal) ((c.tc : Thread Cert.NormKIdeal.nD Cert.NormKIdeal.τ).loc Cert.NormKIdeal.main_v1)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v1) = v0 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v13) = v0 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1))

def preserves_GateK_GateKIdeal : Prop :=
  True

def algebraic_GateKIdeal_GateRIdeal [hGateKIdeal : Cert.GateKIdeal.Facts] [hGateRIdeal : Cert.GateRIdeal.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)) →
    ∃ (v0 : (c : Dev Cert.GateKIdeal.nD) → Buf (Elt Ideal) ((c.tc : Thread Cert.GateKIdeal.nD Cert.GateKIdeal.τ).loc Cert.GateKIdeal.main_v5)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v5) = v0 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v5) = v0 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1))

def preserves_JoinK_JoinKIdeal : Prop :=
  True

def algebraic_JoinKIdeal_JoinRIdeal [hJoinKIdeal : Cert.JoinKIdeal.Facts] [hJoinRIdeal : Cert.JoinRIdeal.Facts] : Prop :=
  ∀ (m : (ℓ : Loc Cert.JoinKIdeal.nD Cert.JoinKIdeal.τ Cert.JoinKIdeal.sig) → Buf (Elt Ideal) ℓ) (g : Dev Cert.JoinKIdeal.nD → PrngReg)
    (m' : (ℓ : Loc Cert.JoinRIdeal.nD Cert.JoinRIdeal.τ Cert.JoinRIdeal.sig) → Buf (Elt Ideal) ℓ) (g' : Dev Cert.JoinRIdeal.nD → PrngReg), Pre_JoinKIdeal m →
    (∀ c : Dev Cert.JoinKIdeal.nD,
      m' ((c.tc : Thread Cert.JoinRIdeal.nD Cert.JoinRIdeal.τ).loc Cert.JoinRIdeal.main_arg0) = m ((c.tc : Thread Cert.JoinKIdeal.nD Cert.JoinKIdeal.τ).loc Cert.JoinKIdeal.main_arg0)
      ∧ m' ((c.tc : Thread Cert.JoinRIdeal.nD Cert.JoinRIdeal.τ).loc Cert.JoinRIdeal.main_arg1) = m ((c.tc : Thread Cert.JoinKIdeal.nD Cert.JoinKIdeal.τ).loc Cert.JoinKIdeal.main_arg1)
      ∧ m' ((c.tc : Thread Cert.JoinRIdeal.nD Cert.JoinRIdeal.τ).loc Cert.JoinRIdeal.main_arg2) = m ((c.tc : Thread Cert.JoinKIdeal.nD Cert.JoinKIdeal.τ).loc Cert.JoinKIdeal.main_arg2)
      ∧ m' ((c.tc : Thread Cert.JoinRIdeal.nD Cert.JoinRIdeal.τ).loc Cert.JoinRIdeal.main_arg3) = m ((c.tc : Thread Cert.JoinKIdeal.nD Cert.JoinKIdeal.τ).loc Cert.JoinKIdeal.main_arg3)
      ∧ m' ((c.tc : Thread Cert.JoinRIdeal.nD Cert.JoinRIdeal.τ).loc Cert.JoinRIdeal.main_arg4) = m ((c.tc : Thread Cert.JoinKIdeal.nD Cert.JoinKIdeal.τ).loc Cert.JoinKIdeal.main_arg4)
      ∧ m' ((c.tc : Thread Cert.JoinRIdeal.nD Cert.JoinRIdeal.τ).loc Cert.JoinRIdeal.main_arg5) = m ((c.tc : Thread Cert.JoinKIdeal.nD Cert.JoinKIdeal.τ).loc Cert.JoinKIdeal.main_arg5)
      ∧ m' ((c.tc : Thread Cert.JoinRIdeal.nD Cert.JoinRIdeal.τ).loc Cert.JoinRIdeal.main_arg6) = m ((c.tc : Thread Cert.JoinKIdeal.nD Cert.JoinKIdeal.τ).loc Cert.JoinKIdeal.main_arg6)
      ∧ m' ((c.tc : Thread Cert.JoinRIdeal.nD Cert.JoinRIdeal.τ).loc Cert.JoinRIdeal.main_arg7) = m ((c.tc : Thread Cert.JoinKIdeal.nD Cert.JoinKIdeal.τ).loc Cert.JoinKIdeal.main_arg7)) →
    ∃ (v0 : (c : Dev Cert.JoinKIdeal.nD) → Buf (Elt Ideal) ((c.tc : Thread Cert.JoinKIdeal.nD Cert.JoinKIdeal.τ).loc Cert.JoinKIdeal.main_v15_0)) (v1 : (c : Dev Cert.JoinKIdeal.nD) → Buf (Elt Ideal) ((c.tc : Thread Cert.JoinKIdeal.nD Cert.JoinKIdeal.τ).loc Cert.JoinKIdeal.main_v15_1)),
      θ_run (Cert.JoinKIdeal.defs (F := Ideal)) (onTc (τ := Cert.JoinKIdeal.τ) (Cert.JoinKIdeal.main (F := Ideal))) ⟨m, fun _ => 0, g⟩ (fun r => ∀ c : Dev Cert.JoinKIdeal.nD,
          r.2.mem ((c.tc : Thread Cert.JoinKIdeal.nD Cert.JoinKIdeal.τ).loc Cert.JoinKIdeal.main_v15_0) = v0 c
          ∧ r.2.mem ((c.tc : Thread Cert.JoinKIdeal.nD Cert.JoinKIdeal.τ).loc Cert.JoinKIdeal.main_v15_1) = v1 c
          ∧ r.2.mem ((c.tc : Thread Cert.JoinKIdeal.nD Cert.JoinKIdeal.τ).loc Cert.JoinKIdeal.main_arg0) = m ((c.tc : Thread Cert.JoinKIdeal.nD Cert.JoinKIdeal.τ).loc Cert.JoinKIdeal.main_arg0)
          ∧ r.2.mem ((c.tc : Thread Cert.JoinKIdeal.nD Cert.JoinKIdeal.τ).loc Cert.JoinKIdeal.main_arg1) = m ((c.tc : Thread Cert.JoinKIdeal.nD Cert.JoinKIdeal.τ).loc Cert.JoinKIdeal.main_arg1)
          ∧ r.2.mem ((c.tc : Thread Cert.JoinKIdeal.nD Cert.JoinKIdeal.τ).loc Cert.JoinKIdeal.main_arg2) = m ((c.tc : Thread Cert.JoinKIdeal.nD Cert.JoinKIdeal.τ).loc Cert.JoinKIdeal.main_arg2)
          ∧ r.2.mem ((c.tc : Thread Cert.JoinKIdeal.nD Cert.JoinKIdeal.τ).loc Cert.JoinKIdeal.main_arg3) = m ((c.tc : Thread Cert.JoinKIdeal.nD Cert.JoinKIdeal.τ).loc Cert.JoinKIdeal.main_arg3)
          ∧ r.2.mem ((c.tc : Thread Cert.JoinKIdeal.nD Cert.JoinKIdeal.τ).loc Cert.JoinKIdeal.main_arg4) = m ((c.tc : Thread Cert.JoinKIdeal.nD Cert.JoinKIdeal.τ).loc Cert.JoinKIdeal.main_arg4)
          ∧ r.2.mem ((c.tc : Thread Cert.JoinKIdeal.nD Cert.JoinKIdeal.τ).loc Cert.JoinKIdeal.main_arg5) = m ((c.tc : Thread Cert.JoinKIdeal.nD Cert.JoinKIdeal.τ).loc Cert.JoinKIdeal.main_arg5)
          ∧ r.2.mem ((c.tc : Thread Cert.JoinKIdeal.nD Cert.JoinKIdeal.τ).loc Cert.JoinKIdeal.main_arg6) = m ((c.tc : Thread Cert.JoinKIdeal.nD Cert.JoinKIdeal.τ).loc Cert.JoinKIdeal.main_arg6)
          ∧ r.2.mem ((c.tc : Thread Cert.JoinKIdeal.nD Cert.JoinKIdeal.τ).loc Cert.JoinKIdeal.main_arg7) = m ((c.tc : Thread Cert.JoinKIdeal.nD Cert.JoinKIdeal.τ).loc Cert.JoinKIdeal.main_arg7))
      ∧ θ_run (Cert.JoinRIdeal.defs (F := Ideal)) (onTc (τ := Cert.JoinRIdeal.τ) (Cert.JoinRIdeal.main (F := Ideal))) ⟨m', fun _ => 0, g'⟩ (fun r => ∀ c : Dev Cert.JoinRIdeal.nD,
          r.2.mem ((c.tc : Thread Cert.JoinRIdeal.nD Cert.JoinRIdeal.τ).loc Cert.JoinRIdeal.main_v21) = v0 c
          ∧ r.2.mem ((c.tc : Thread Cert.JoinRIdeal.nD Cert.JoinRIdeal.τ).loc Cert.JoinRIdeal.main_v22) = v1 c
          ∧ r.2.mem ((c.tc : Thread Cert.JoinRIdeal.nD Cert.JoinRIdeal.τ).loc Cert.JoinRIdeal.main_arg0) = m' ((c.tc : Thread Cert.JoinRIdeal.nD Cert.JoinRIdeal.τ).loc Cert.JoinRIdeal.main_arg0)
          ∧ r.2.mem ((c.tc : Thread Cert.JoinRIdeal.nD Cert.JoinRIdeal.τ).loc Cert.JoinRIdeal.main_arg1) = m' ((c.tc : Thread Cert.JoinRIdeal.nD Cert.JoinRIdeal.τ).loc Cert.JoinRIdeal.main_arg1)
          ∧ r.2.mem ((c.tc : Thread Cert.JoinRIdeal.nD Cert.JoinRIdeal.τ).loc Cert.JoinRIdeal.main_arg2) = m' ((c.tc : Thread Cert.JoinRIdeal.nD Cert.JoinRIdeal.τ).loc Cert.JoinRIdeal.main_arg2)
          ∧ r.2.mem ((c.tc : Thread Cert.JoinRIdeal.nD Cert.JoinRIdeal.τ).loc Cert.JoinRIdeal.main_arg3) = m' ((c.tc : Thread Cert.JoinRIdeal.nD Cert.JoinRIdeal.τ).loc Cert.JoinRIdeal.main_arg3)
          ∧ r.2.mem ((c.tc : Thread Cert.JoinRIdeal.nD Cert.JoinRIdeal.τ).loc Cert.JoinRIdeal.main_arg4) = m' ((c.tc : Thread Cert.JoinRIdeal.nD Cert.JoinRIdeal.τ).loc Cert.JoinRIdeal.main_arg4)
          ∧ r.2.mem ((c.tc : Thread Cert.JoinRIdeal.nD Cert.JoinRIdeal.τ).loc Cert.JoinRIdeal.main_arg5) = m' ((c.tc : Thread Cert.JoinRIdeal.nD Cert.JoinRIdeal.τ).loc Cert.JoinRIdeal.main_arg5)
          ∧ r.2.mem ((c.tc : Thread Cert.JoinRIdeal.nD Cert.JoinRIdeal.τ).loc Cert.JoinRIdeal.main_arg6) = m' ((c.tc : Thread Cert.JoinRIdeal.nD Cert.JoinRIdeal.τ).loc Cert.JoinRIdeal.main_arg6)
          ∧ r.2.mem ((c.tc : Thread Cert.JoinRIdeal.nD Cert.JoinRIdeal.τ).loc Cert.JoinRIdeal.main_arg7) = m' ((c.tc : Thread Cert.JoinRIdeal.nD Cert.JoinRIdeal.τ).loc Cert.JoinRIdeal.main_arg7))

def preserves_BlendK_BlendKIdeal : Prop :=
  True

def preserves_NnK_NnKIdeal : Prop :=
  True

def algebraic_NnKIdeal_NnRIdeal [hNnKIdeal : Cert.NnKIdeal.Facts] [hNnRIdeal : Cert.NnRIdeal.Facts] : Prop :=
  ∀ (m : (ℓ : Loc Cert.NnKIdeal.nD Cert.NnKIdeal.τ Cert.NnKIdeal.sig) → Buf (Elt Ideal) ℓ) (g : Dev Cert.NnKIdeal.nD → PrngReg)
    (m' : (ℓ : Loc Cert.NnRIdeal.nD Cert.NnRIdeal.τ Cert.NnRIdeal.sig) → Buf (Elt Ideal) ℓ) (g' : Dev Cert.NnRIdeal.nD → PrngReg), Pre_NnKIdeal m →
    (∀ c : Dev Cert.NnKIdeal.nD,
      m' ((c.tc : Thread Cert.NnRIdeal.nD Cert.NnRIdeal.τ).loc Cert.NnRIdeal.main_arg0) = m ((c.tc : Thread Cert.NnKIdeal.nD Cert.NnKIdeal.τ).loc Cert.NnKIdeal.main_arg0)
      ∧ m' ((c.tc : Thread Cert.NnRIdeal.nD Cert.NnRIdeal.τ).loc Cert.NnRIdeal.main_arg1) = m ((c.tc : Thread Cert.NnKIdeal.nD Cert.NnKIdeal.τ).loc Cert.NnKIdeal.main_arg1)) →
    ∃ (v0 : (c : Dev Cert.NnKIdeal.nD) → Buf (Elt Ideal) ((c.tc : Thread Cert.NnKIdeal.nD Cert.NnKIdeal.τ).loc Cert.NnKIdeal.main_v10)),
      θ_run (Cert.NnKIdeal.defs (F := Ideal)) (onTc (τ := Cert.NnKIdeal.τ) (Cert.NnKIdeal.main (F := Ideal))) ⟨m, fun _ => 0, g⟩ (fun r => ∀ c : Dev Cert.NnKIdeal.nD,
          r.2.mem ((c.tc : Thread Cert.NnKIdeal.nD Cert.NnKIdeal.τ).loc Cert.NnKIdeal.main_v10) = v0 c
          ∧ r.2.mem ((c.tc : Thread Cert.NnKIdeal.nD Cert.NnKIdeal.τ).loc Cert.NnKIdeal.main_arg0) = m ((c.tc : Thread Cert.NnKIdeal.nD Cert.NnKIdeal.τ).loc Cert.NnKIdeal.main_arg0)
          ∧ r.2.mem ((c.tc : Thread Cert.NnKIdeal.nD Cert.NnKIdeal.τ).loc Cert.NnKIdeal.main_arg1) = m ((c.tc : Thread Cert.NnKIdeal.nD Cert.NnKIdeal.τ).loc Cert.NnKIdeal.main_arg1))
      ∧ θ_run (Cert.NnRIdeal.defs (F := Ideal)) (onTc (τ := Cert.NnRIdeal.τ) (Cert.NnRIdeal.main (F := Ideal))) ⟨m', fun _ => 0, g'⟩ (fun r => ∀ c : Dev Cert.NnRIdeal.nD,
          r.2.mem ((c.tc : Thread Cert.NnRIdeal.nD Cert.NnRIdeal.τ).loc Cert.NnRIdeal.main_v1) = v0 c
          ∧ r.2.mem ((c.tc : Thread Cert.NnRIdeal.nD Cert.NnRIdeal.τ).loc Cert.NnRIdeal.main_arg0) = m' ((c.tc : Thread Cert.NnRIdeal.nD Cert.NnRIdeal.τ).loc Cert.NnRIdeal.main_arg0)
          ∧ r.2.mem ((c.tc : Thread Cert.NnRIdeal.nD Cert.NnRIdeal.τ).loc Cert.NnRIdeal.main_arg1) = m' ((c.tc : Thread Cert.NnRIdeal.nD Cert.NnRIdeal.τ).loc Cert.NnRIdeal.main_arg1))

def preserves_TnK_TnKIdeal : Prop :=
  True

def algebraic_TnKIdeal_TnRIdeal [hTnKIdeal : Cert.TnKIdeal.Facts] [hTnRIdeal : Cert.TnRIdeal.Facts] : Prop :=
  ∀ (m : (ℓ : Loc Cert.TnKIdeal.nD Cert.TnKIdeal.τ Cert.TnKIdeal.sig) → Buf (Elt Ideal) ℓ) (g : Dev Cert.TnKIdeal.nD → PrngReg)
    (m' : (ℓ : Loc Cert.TnRIdeal.nD Cert.TnRIdeal.τ Cert.TnRIdeal.sig) → Buf (Elt Ideal) ℓ) (g' : Dev Cert.TnRIdeal.nD → PrngReg), Pre_TnKIdeal m →
    (∀ c : Dev Cert.TnKIdeal.nD,
      m' ((c.tc : Thread Cert.TnRIdeal.nD Cert.TnRIdeal.τ).loc Cert.TnRIdeal.main_arg0) = m ((c.tc : Thread Cert.TnKIdeal.nD Cert.TnKIdeal.τ).loc Cert.TnKIdeal.main_arg0)
      ∧ m' ((c.tc : Thread Cert.TnRIdeal.nD Cert.TnRIdeal.τ).loc Cert.TnRIdeal.main_arg1) = m ((c.tc : Thread Cert.TnKIdeal.nD Cert.TnKIdeal.τ).loc Cert.TnKIdeal.main_arg1)) →
    ∃ (v0 : (c : Dev Cert.TnKIdeal.nD) → Buf (Elt Ideal) ((c.tc : Thread Cert.TnKIdeal.nD Cert.TnKIdeal.τ).loc Cert.TnKIdeal.main_v2)),
      θ_run (Cert.TnKIdeal.defs (F := Ideal)) (onTc (τ := Cert.TnKIdeal.τ) (Cert.TnKIdeal.main (F := Ideal))) ⟨m, fun _ => 0, g⟩ (fun r => ∀ c : Dev Cert.TnKIdeal.nD,
          r.2.mem ((c.tc : Thread Cert.TnKIdeal.nD Cert.TnKIdeal.τ).loc Cert.TnKIdeal.main_v2) = v0 c
          ∧ r.2.mem ((c.tc : Thread Cert.TnKIdeal.nD Cert.TnKIdeal.τ).loc Cert.TnKIdeal.main_arg0) = m ((c.tc : Thread Cert.TnKIdeal.nD Cert.TnKIdeal.τ).loc Cert.TnKIdeal.main_arg0)
          ∧ r.2.mem ((c.tc : Thread Cert.TnKIdeal.nD Cert.TnKIdeal.τ).loc Cert.TnKIdeal.main_arg1) = m ((c.tc : Thread Cert.TnKIdeal.nD Cert.TnKIdeal.τ).loc Cert.TnKIdeal.main_arg1))
      ∧ θ_run (Cert.TnRIdeal.defs (F := Ideal)) (onTc (τ := Cert.TnRIdeal.τ) (Cert.TnRIdeal.main (F := Ideal))) ⟨m', fun _ => 0, g'⟩ (fun r => ∀ c : Dev Cert.TnRIdeal.nD,
          r.2.mem ((c.tc : Thread Cert.TnRIdeal.nD Cert.TnRIdeal.τ).loc Cert.TnRIdeal.main_v4) = v0 c
          ∧ r.2.mem ((c.tc : Thread Cert.TnRIdeal.nD Cert.TnRIdeal.τ).loc Cert.TnRIdeal.main_arg0) = m' ((c.tc : Thread Cert.TnRIdeal.nD Cert.TnRIdeal.τ).loc Cert.TnRIdeal.main_arg0)
          ∧ r.2.mem ((c.tc : Thread Cert.TnRIdeal.nD Cert.TnRIdeal.τ).loc Cert.TnRIdeal.main_arg1) = m' ((c.tc : Thread Cert.TnRIdeal.nD Cert.TnRIdeal.τ).loc Cert.TnRIdeal.main_arg1))

def preserves_DhK_DhKIdeal : Prop :=
  True

def algebraic_DhKIdeal_DhRIdeal [hDhKIdeal : Cert.DhKIdeal.Facts] [hDhRIdeal : Cert.DhRIdeal.Facts] : Prop :=
  ∀ (m : (ℓ : Loc Cert.DhKIdeal.nD Cert.DhKIdeal.τ Cert.DhKIdeal.sig) → Buf (Elt Ideal) ℓ) (g : Dev Cert.DhKIdeal.nD → PrngReg)
    (m' : (ℓ : Loc Cert.DhRIdeal.nD Cert.DhRIdeal.τ Cert.DhRIdeal.sig) → Buf (Elt Ideal) ℓ) (g' : Dev Cert.DhRIdeal.nD → PrngReg), Pre_DhKIdeal m →
    (∀ c : Dev Cert.DhKIdeal.nD,
      m' ((c.tc : Thread Cert.DhRIdeal.nD Cert.DhRIdeal.τ).loc Cert.DhRIdeal.main_arg0) = m ((c.tc : Thread Cert.DhKIdeal.nD Cert.DhKIdeal.τ).loc Cert.DhKIdeal.main_arg0)
      ∧ m' ((c.tc : Thread Cert.DhRIdeal.nD Cert.DhRIdeal.τ).loc Cert.DhRIdeal.main_arg1) = m ((c.tc : Thread Cert.DhKIdeal.nD Cert.DhKIdeal.τ).loc Cert.DhKIdeal.main_arg1)) →
    ∃ (v0 : (c : Dev Cert.DhKIdeal.nD) → Buf (Elt Ideal) ((c.tc : Thread Cert.DhKIdeal.nD Cert.DhKIdeal.τ).loc Cert.DhKIdeal.main_v24)),
      θ_run (Cert.DhKIdeal.defs (F := Ideal)) (onTc (τ := Cert.DhKIdeal.τ) (Cert.DhKIdeal.main (F := Ideal))) ⟨m, fun _ => 0, g⟩ (fun r => ∀ c : Dev Cert.DhKIdeal.nD,
          r.2.mem ((c.tc : Thread Cert.DhKIdeal.nD Cert.DhKIdeal.τ).loc Cert.DhKIdeal.main_v24) = v0 c
          ∧ r.2.mem ((c.tc : Thread Cert.DhKIdeal.nD Cert.DhKIdeal.τ).loc Cert.DhKIdeal.main_arg0) = m ((c.tc : Thread Cert.DhKIdeal.nD Cert.DhKIdeal.τ).loc Cert.DhKIdeal.main_arg0)
          ∧ r.2.mem ((c.tc : Thread Cert.DhKIdeal.nD Cert.DhKIdeal.τ).loc Cert.DhKIdeal.main_arg1) = m ((c.tc : Thread Cert.DhKIdeal.nD Cert.DhKIdeal.τ).loc Cert.DhKIdeal.main_arg1))
      ∧ θ_run (Cert.DhRIdeal.defs (F := Ideal)) (onTc (τ := Cert.DhRIdeal.τ) (Cert.DhRIdeal.main (F := Ideal))) ⟨m', fun _ => 0, g'⟩ (fun r => ∀ c : Dev Cert.DhRIdeal.nD,
          r.2.mem ((c.tc : Thread Cert.DhRIdeal.nD Cert.DhRIdeal.τ).loc Cert.DhRIdeal.main_v2) = v0 c
          ∧ r.2.mem ((c.tc : Thread Cert.DhRIdeal.nD Cert.DhRIdeal.τ).loc Cert.DhRIdeal.main_arg0) = m' ((c.tc : Thread Cert.DhRIdeal.nD Cert.DhRIdeal.τ).loc Cert.DhRIdeal.main_arg0)
          ∧ r.2.mem ((c.tc : Thread Cert.DhRIdeal.nD Cert.DhRIdeal.τ).loc Cert.DhRIdeal.main_arg1) = m' ((c.tc : Thread Cert.DhRIdeal.nD Cert.DhRIdeal.τ).loc Cert.DhRIdeal.main_arg1))

def preserves_SumK_SumKIdeal : Prop :=
  True

def algebraic_SumKIdeal_SumRIdeal [hSumKIdeal : Cert.SumKIdeal.Facts] [hSumRIdeal : Cert.SumRIdeal.Facts] : Prop :=
  ∀ (m : (ℓ : Loc Cert.SumKIdeal.nD Cert.SumKIdeal.τ Cert.SumKIdeal.sig) → Buf (Elt Ideal) ℓ) (g : Dev Cert.SumKIdeal.nD → PrngReg)
    (m' : (ℓ : Loc Cert.SumRIdeal.nD Cert.SumRIdeal.τ Cert.SumRIdeal.sig) → Buf (Elt Ideal) ℓ) (g' : Dev Cert.SumRIdeal.nD → PrngReg), Pre_SumKIdeal m →
    (∀ c : Dev Cert.SumKIdeal.nD,
      m' ((c.tc : Thread Cert.SumRIdeal.nD Cert.SumRIdeal.τ).loc Cert.SumRIdeal.main_arg0) = m ((c.tc : Thread Cert.SumKIdeal.nD Cert.SumKIdeal.τ).loc Cert.SumKIdeal.main_arg0)) →
    ∃ (v0 : (c : Dev Cert.SumKIdeal.nD) → Buf (Elt Ideal) ((c.tc : Thread Cert.SumKIdeal.nD Cert.SumKIdeal.τ).loc Cert.SumKIdeal.main_v0)),
      θ_run (Cert.SumKIdeal.defs (F := Ideal)) (onTc (τ := Cert.SumKIdeal.τ) (Cert.SumKIdeal.main (F := Ideal))) ⟨m, fun _ => 0, g⟩ (fun r => ∀ c : Dev Cert.SumKIdeal.nD,
          r.2.mem ((c.tc : Thread Cert.SumKIdeal.nD Cert.SumKIdeal.τ).loc Cert.SumKIdeal.main_v0) = v0 c
          ∧ r.2.mem ((c.tc : Thread Cert.SumKIdeal.nD Cert.SumKIdeal.τ).loc Cert.SumKIdeal.main_arg0) = m ((c.tc : Thread Cert.SumKIdeal.nD Cert.SumKIdeal.τ).loc Cert.SumKIdeal.main_arg0))
      ∧ θ_run (Cert.SumRIdeal.defs (F := Ideal)) (onTc (τ := Cert.SumRIdeal.τ) (Cert.SumRIdeal.main (F := Ideal))) ⟨m', fun _ => 0, g'⟩ (fun r => ∀ c : Dev Cert.SumRIdeal.nD,
          r.2.mem ((c.tc : Thread Cert.SumRIdeal.nD Cert.SumRIdeal.τ).loc Cert.SumRIdeal.main_v1) = v0 c
          ∧ r.2.mem ((c.tc : Thread Cert.SumRIdeal.nD Cert.SumRIdeal.τ).loc Cert.SumRIdeal.main_arg0) = m' ((c.tc : Thread Cert.SumRIdeal.nD Cert.SumRIdeal.τ).loc Cert.SumRIdeal.main_arg0))

def preserves_MixK_MixKIdeal : Prop :=
  True

def preserves_AdamK_AdamKIdeal : Prop :=
  True

def algebraic_AdamKIdeal_AdamRIdeal [hAdamKIdeal : Cert.AdamKIdeal.Facts] [hAdamRIdeal : Cert.AdamRIdeal.Facts] : Prop :=
  ∀ (m : (ℓ : Loc Cert.AdamKIdeal.nD Cert.AdamKIdeal.τ Cert.AdamKIdeal.sig) → Buf (Elt Ideal) ℓ) (g : Dev Cert.AdamKIdeal.nD → PrngReg)
    (m' : (ℓ : Loc Cert.AdamRIdeal.nD Cert.AdamRIdeal.τ Cert.AdamRIdeal.sig) → Buf (Elt Ideal) ℓ) (g' : Dev Cert.AdamRIdeal.nD → PrngReg), Pre_AdamKIdeal m →
    (∀ c : Dev Cert.AdamKIdeal.nD,
      m' ((c.tc : Thread Cert.AdamRIdeal.nD Cert.AdamRIdeal.τ).loc Cert.AdamRIdeal.main_arg0) = m ((c.tc : Thread Cert.AdamKIdeal.nD Cert.AdamKIdeal.τ).loc Cert.AdamKIdeal.main_arg0)
      ∧ m' ((c.tc : Thread Cert.AdamRIdeal.nD Cert.AdamRIdeal.τ).loc Cert.AdamRIdeal.main_arg1) = m ((c.tc : Thread Cert.AdamKIdeal.nD Cert.AdamKIdeal.τ).loc Cert.AdamKIdeal.main_arg1)
      ∧ m' ((c.tc : Thread Cert.AdamRIdeal.nD Cert.AdamRIdeal.τ).loc Cert.AdamRIdeal.main_arg2) = m ((c.tc : Thread Cert.AdamKIdeal.nD Cert.AdamKIdeal.τ).loc Cert.AdamKIdeal.main_arg2)
      ∧ m' ((c.tc : Thread Cert.AdamRIdeal.nD Cert.AdamRIdeal.τ).loc Cert.AdamRIdeal.main_arg3) = m ((c.tc : Thread Cert.AdamKIdeal.nD Cert.AdamKIdeal.τ).loc Cert.AdamKIdeal.main_arg3)) →
    ∃ (v0 : (c : Dev Cert.AdamKIdeal.nD) → Buf (Elt Ideal) ((c.tc : Thread Cert.AdamKIdeal.nD Cert.AdamKIdeal.τ).loc Cert.AdamKIdeal.main_v0_0)) (v1 : (c : Dev Cert.AdamKIdeal.nD) → Buf (Elt Ideal) ((c.tc : Thread Cert.AdamKIdeal.nD Cert.AdamKIdeal.τ).loc Cert.AdamKIdeal.main_v0_1)) (v2 : (c : Dev Cert.AdamKIdeal.nD) → Buf (Elt Ideal) ((c.tc : Thread Cert.AdamKIdeal.nD Cert.AdamKIdeal.τ).loc Cert.AdamKIdeal.main_v0_2)),
      θ_run (Cert.AdamKIdeal.defs (F := Ideal)) (onTc (τ := Cert.AdamKIdeal.τ) (Cert.AdamKIdeal.main (F := Ideal))) ⟨m, fun _ => 0, g⟩ (fun r => ∀ c : Dev Cert.AdamKIdeal.nD,
          r.2.mem ((c.tc : Thread Cert.AdamKIdeal.nD Cert.AdamKIdeal.τ).loc Cert.AdamKIdeal.main_v0_0) = v0 c
          ∧ r.2.mem ((c.tc : Thread Cert.AdamKIdeal.nD Cert.AdamKIdeal.τ).loc Cert.AdamKIdeal.main_v0_1) = v1 c
          ∧ r.2.mem ((c.tc : Thread Cert.AdamKIdeal.nD Cert.AdamKIdeal.τ).loc Cert.AdamKIdeal.main_v0_2) = v2 c
          ∧ r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
          ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
          ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
          ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ θ_run (Cert.AdamRIdeal.defs (F := Ideal)) (onTc (τ := Cert.AdamRIdeal.τ) (Cert.AdamRIdeal.main (F := Ideal))) ⟨m', fun _ => 0, g'⟩ (fun r => ∀ c : Dev Cert.AdamRIdeal.nD,
          r.2.mem ((c.tc : Thread Cert.AdamRIdeal.nD Cert.AdamRIdeal.τ).loc Cert.AdamRIdeal.main_v23) = v0 c
          ∧ r.2.mem ((c.tc : Thread Cert.AdamRIdeal.nD Cert.AdamRIdeal.τ).loc Cert.AdamRIdeal.main_v4) = v1 c
          ∧ r.2.mem ((c.tc : Thread Cert.AdamRIdeal.nD Cert.AdamRIdeal.τ).loc Cert.AdamRIdeal.main_v10) = v2 c
          ∧ r.2.mem ((c.tc : Thread Cert.AdamRIdeal.nD Cert.AdamRIdeal.τ).loc Cert.AdamRIdeal.main_arg0) = m' ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m' ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m' ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m' ((c.tc : Thread Cert.AdamRIdeal.nD Cert.AdamRIdeal.τ).loc Cert.AdamRIdeal.main_arg3))

def Claim : Prop :=
  ∃ (hRmsK : Cert.RmsK.Facts) (hRmsKIdeal : Cert.RmsKIdeal.Facts) (hRmsRIdeal : Cert.RmsRIdeal.Facts) (hAttnK : Cert.AttnK.Facts) (hAttnKIdeal : Cert.AttnKIdeal.Facts) (hAttnRIdeal : Cert.AttnRIdeal.Facts) (hCumK : Cert.CumK.Facts) (hCumKIdeal : Cert.CumKIdeal.Facts) (hCumRIdeal : Cert.CumRIdeal.Facts) (hLossK : Cert.LossK.Facts) (hLossKIdeal : Cert.LossKIdeal.Facts) (hLossRIdeal : Cert.LossRIdeal.Facts) (hMergeK : Cert.MergeK.Facts) (hMergeKIdeal : Cert.MergeKIdeal.Facts) (hMergeRIdeal : Cert.MergeRIdeal.Facts) (hFwdK : Cert.FwdK.Facts) (hFwdKIdeal : Cert.FwdKIdeal.Facts) (hFwdRIdeal : Cert.FwdRIdeal.Facts) (hNormK : Cert.NormK.Facts) (hNormKIdeal : Cert.NormKIdeal.Facts) (hNormRIdeal : Cert.NormRIdeal.Facts) (hGateK : Cert.GateK.Facts) (hGateKIdeal : Cert.GateKIdeal.Facts) (hGateRIdeal : Cert.GateRIdeal.Facts) (hJoinK : Cert.JoinK.Facts) (hJoinKIdeal : Cert.JoinKIdeal.Facts) (hJoinRIdeal : Cert.JoinRIdeal.Facts) (hBlendK : Cert.BlendK.Facts) (hBlendKIdeal : Cert.BlendKIdeal.Facts) (hBlendRIdeal : Cert.BlendRIdeal.Facts) (hNnK : Cert.NnK.Facts) (hNnKIdeal : Cert.NnKIdeal.Facts) (hNnRIdeal : Cert.NnRIdeal.Facts) (hTnK : Cert.TnK.Facts) (hTnKIdeal : Cert.TnKIdeal.Facts) (hTnRIdeal : Cert.TnRIdeal.Facts) (hDhK : Cert.DhK.Facts) (hDhKIdeal : Cert.DhKIdeal.Facts) (hDhRIdeal : Cert.DhRIdeal.Facts) (hSumK : Cert.SumK.Facts) (hSumKIdeal : Cert.SumKIdeal.Facts) (hSumRIdeal : Cert.SumRIdeal.Facts) (hMixK : Cert.MixK.Facts) (hMixKIdeal : Cert.MixKIdeal.Facts) (hMixRIdeal : Cert.MixRIdeal.Facts) (hAdamK : Cert.AdamK.Facts) (hAdamKIdeal : Cert.AdamKIdeal.Facts) (hAdamRIdeal : Cert.AdamRIdeal.Facts) (hPre_finite_rms : Cert.Pre_finite_rms.Facts) (hPre_finite_attn : Cert.Pre_finite_attn.Facts) (hPre_finite_cum : Cert.Pre_finite_cum.Facts) (hPre_finite_loss : Cert.Pre_finite_loss.Facts) (hPre_finite_merge : Cert.Pre_finite_merge.Facts) (hPre_finite_fwd : Cert.Pre_finite_fwd.Facts),
    quiescent_RmsK (hRmsK := hRmsK)
    ∧ quiescent_RmsKIdeal (hRmsKIdeal := hRmsKIdeal)
    ∧ quiescent_RmsKIdeal_pre_finite_rms (hRmsKIdeal := hRmsKIdeal) (hPre_finite_rms := hPre_finite_rms)
    ∧ quiescent_RmsRIdeal (hRmsRIdeal := hRmsRIdeal)
    ∧ quiescent_RmsRIdeal_pre_finite_rms (hRmsRIdeal := hRmsRIdeal) (hPre_finite_rms := hPre_finite_rms)
    ∧ quiescent_AttnK (hAttnK := hAttnK)
    ∧ quiescent_AttnKIdeal (hAttnKIdeal := hAttnKIdeal)
    ∧ quiescent_AttnKIdeal_pre_finite_attn (hAttnKIdeal := hAttnKIdeal) (hPre_finite_attn := hPre_finite_attn)
    ∧ quiescent_AttnRIdeal (hAttnRIdeal := hAttnRIdeal)
    ∧ quiescent_AttnRIdeal_pre_finite_attn (hAttnRIdeal := hAttnRIdeal) (hPre_finite_attn := hPre_finite_attn)
    ∧ quiescent_CumK (hCumK := hCumK)
    ∧ quiescent_CumKIdeal (hCumKIdeal := hCumKIdeal)
    ∧ quiescent_CumKIdeal_pre_finite_cum (hCumKIdeal := hCumKIdeal) (hPre_finite_cum := hPre_finite_cum)
    ∧ quiescent_CumRIdeal (hCumRIdeal := hCumRIdeal)
    ∧ quiescent_CumRIdeal_pre_finite_cum (hCumRIdeal := hCumRIdeal) (hPre_finite_cum := hPre_finite_cum)
    ∧ quiescent_LossK (hLossK := hLossK)
    ∧ quiescent_LossKIdeal (hLossKIdeal := hLossKIdeal)
    ∧ quiescent_LossKIdeal_pre_finite_loss (hLossKIdeal := hLossKIdeal) (hPre_finite_loss := hPre_finite_loss)
    ∧ quiescent_LossRIdeal (hLossRIdeal := hLossRIdeal)
    ∧ quiescent_LossRIdeal_pre_finite_loss (hLossRIdeal := hLossRIdeal) (hPre_finite_loss := hPre_finite_loss)
    ∧ quiescent_MergeK (hMergeK := hMergeK)
    ∧ quiescent_MergeKIdeal (hMergeKIdeal := hMergeKIdeal)
    ∧ quiescent_MergeKIdeal_pre_finite_merge (hMergeKIdeal := hMergeKIdeal) (hPre_finite_merge := hPre_finite_merge)
    ∧ quiescent_MergeRIdeal (hMergeRIdeal := hMergeRIdeal)
    ∧ quiescent_MergeRIdeal_pre_finite_merge (hMergeRIdeal := hMergeRIdeal) (hPre_finite_merge := hPre_finite_merge)
    ∧ quiescent_FwdK (hFwdK := hFwdK)
    ∧ quiescent_FwdKIdeal (hFwdKIdeal := hFwdKIdeal)
    ∧ quiescent_FwdKIdeal_pre_finite_fwd (hFwdKIdeal := hFwdKIdeal) (hPre_finite_fwd := hPre_finite_fwd)
    ∧ quiescent_FwdRIdeal (hFwdRIdeal := hFwdRIdeal)
    ∧ quiescent_FwdRIdeal_pre_finite_fwd (hFwdRIdeal := hFwdRIdeal) (hPre_finite_fwd := hPre_finite_fwd)
    ∧ quiescent_NormK (hNormK := hNormK)
    ∧ quiescent_NormKIdeal (hNormKIdeal := hNormKIdeal)
    ∧ quiescent_NormRIdeal (hNormRIdeal := hNormRIdeal)
    ∧ quiescent_GateK (hGateK := hGateK)
    ∧ quiescent_GateKIdeal (hGateKIdeal := hGateKIdeal)
    ∧ quiescent_GateRIdeal (hGateRIdeal := hGateRIdeal)
    ∧ quiescent_JoinK (hJoinK := hJoinK)
    ∧ quiescent_JoinKIdeal (hJoinKIdeal := hJoinKIdeal)
    ∧ quiescent_JoinRIdeal (hJoinRIdeal := hJoinRIdeal)
    ∧ quiescent_BlendK (hBlendK := hBlendK)
    ∧ quiescent_BlendKIdeal (hBlendKIdeal := hBlendKIdeal)
    ∧ quiescent_BlendRIdeal (hBlendRIdeal := hBlendRIdeal)
    ∧ quiescent_NnK (hNnK := hNnK)
    ∧ quiescent_NnKIdeal (hNnKIdeal := hNnKIdeal)
    ∧ quiescent_NnRIdeal (hNnRIdeal := hNnRIdeal)
    ∧ quiescent_TnK (hTnK := hTnK)
    ∧ quiescent_TnKIdeal (hTnKIdeal := hTnKIdeal)
    ∧ quiescent_TnRIdeal (hTnRIdeal := hTnRIdeal)
    ∧ quiescent_DhK (hDhK := hDhK)
    ∧ quiescent_DhKIdeal (hDhKIdeal := hDhKIdeal)
    ∧ quiescent_DhRIdeal (hDhRIdeal := hDhRIdeal)
    ∧ quiescent_SumK (hSumK := hSumK)
    ∧ quiescent_SumKIdeal (hSumKIdeal := hSumKIdeal)
    ∧ quiescent_SumRIdeal (hSumRIdeal := hSumRIdeal)
    ∧ quiescent_MixK (hMixK := hMixK)
    ∧ quiescent_MixKIdeal (hMixKIdeal := hMixKIdeal)
    ∧ quiescent_MixRIdeal (hMixRIdeal := hMixRIdeal)
    ∧ quiescent_AdamK (hAdamK := hAdamK)
    ∧ quiescent_AdamKIdeal (hAdamKIdeal := hAdamKIdeal)
    ∧ quiescent_AdamRIdeal (hAdamRIdeal := hAdamRIdeal)
    ∧ preserves_RmsK_RmsKIdeal
    ∧ algebraic_RmsKIdeal_RmsRIdeal_pre_finite_rms (hRmsKIdeal := hRmsKIdeal) (hRmsRIdeal := hRmsRIdeal) (hPre_finite_rms := hPre_finite_rms)
    ∧ preserves_AttnK_AttnKIdeal
    ∧ algebraic_AttnKIdeal_AttnRIdeal_pre_finite_attn (hAttnKIdeal := hAttnKIdeal) (hAttnRIdeal := hAttnRIdeal) (hPre_finite_attn := hPre_finite_attn)
    ∧ preserves_CumK_CumKIdeal
    ∧ algebraic_CumKIdeal_CumRIdeal_pre_finite_cum (hCumKIdeal := hCumKIdeal) (hCumRIdeal := hCumRIdeal) (hPre_finite_cum := hPre_finite_cum)
    ∧ preserves_LossK_LossKIdeal
    ∧ algebraic_LossKIdeal_LossRIdeal_pre_finite_loss (hLossKIdeal := hLossKIdeal) (hLossRIdeal := hLossRIdeal) (hPre_finite_loss := hPre_finite_loss)
    ∧ preserves_MergeK_MergeKIdeal
    ∧ algebraic_MergeKIdeal_MergeRIdeal_pre_finite_merge (hMergeKIdeal := hMergeKIdeal) (hMergeRIdeal := hMergeRIdeal) (hPre_finite_merge := hPre_finite_merge)
    ∧ preserves_FwdK_FwdKIdeal
    ∧ algebraic_FwdKIdeal_FwdRIdeal_pre_finite_fwd (hFwdKIdeal := hFwdKIdeal) (hFwdRIdeal := hFwdRIdeal) (hPre_finite_fwd := hPre_finite_fwd)
    ∧ preserves_NormK_NormKIdeal
    ∧ algebraic_NormKIdeal_NormRIdeal (hNormKIdeal := hNormKIdeal) (hNormRIdeal := hNormRIdeal)
    ∧ preserves_GateK_GateKIdeal
    ∧ algebraic_GateKIdeal_GateRIdeal (hGateKIdeal := hGateKIdeal) (hGateRIdeal := hGateRIdeal)
    ∧ preserves_JoinK_JoinKIdeal
    ∧ algebraic_JoinKIdeal_JoinRIdeal (hJoinKIdeal := hJoinKIdeal) (hJoinRIdeal := hJoinRIdeal)
    ∧ preserves_BlendK_BlendKIdeal
    ∧ preserves_NnK_NnKIdeal
    ∧ algebraic_NnKIdeal_NnRIdeal (hNnKIdeal := hNnKIdeal) (hNnRIdeal := hNnRIdeal)
    ∧ preserves_TnK_TnKIdeal
    ∧ algebraic_TnKIdeal_TnRIdeal (hTnKIdeal := hTnKIdeal) (hTnRIdeal := hTnRIdeal)
    ∧ preserves_DhK_DhKIdeal
    ∧ algebraic_DhKIdeal_DhRIdeal (hDhKIdeal := hDhKIdeal) (hDhRIdeal := hDhRIdeal)
    ∧ preserves_SumK_SumKIdeal
    ∧ algebraic_SumKIdeal_SumRIdeal (hSumKIdeal := hSumKIdeal) (hSumRIdeal := hSumRIdeal)
    ∧ preserves_MixK_MixKIdeal
    ∧ preserves_AdamK_AdamKIdeal
    ∧ algebraic_AdamKIdeal_AdamRIdeal (hAdamKIdeal := hAdamKIdeal) (hAdamRIdeal := hAdamRIdeal)
-- ==== Pre_finite_attn.lean ====
abbrev S4096x768 : Shape := ⟨2, ![4096, 768]⟩
abbrev S4x4096 : Shape := ⟨2, ![4, 4096]⟩
abbrev S4096x256 : Shape := ⟨2, ![4096, 256]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x768 .f32) (main_arg1 : FVec F S4x4096 .f32) (main_arg2 : FVec F S4096x256 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Pre_finite_cum.lean ====
abbrev S4096x4 : Shape := ⟨2, ![4096, 4]⟩
abbrev S4 : Shape := ⟨1, ![4]⟩
abbrev S4x4096x1 : Shape := ⟨3, ![4, 4096, 1]⟩
abbrev S4x8x1x512 : Shape := ⟨4, ![4, 8, 1, 512]⟩
abbrev S_ : Shape := ⟨0, ![]⟩
abbrev S1x4 : Shape := ⟨2, ![1, 4]⟩

class Facts : Prop where
  bcast_S_S4096x4 : S_.BroadcastsInDim S4096x4 (![] : Fin 0 → Fin S4096x4.rank)
  bcast_S_S4 : S_.BroadcastsInDim S4 (![] : Fin 0 → Fin S4.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)

variable [Facts]

def fn {F : FTy → Type} [FloatOps F] (main_arg0 : FVec F S4096x4 .f32) (main_arg1 : FVec F S4 .f32) (main_arg2 : FVec F S4x4096x1 .f32) (main_arg3 : FVec F S4x8x1x512 .f32) : IVec S4096x4 1 :=
  let main_v0 : FVec F S4096x4 .f32 := Host.absf main_arg0
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_v3 : FVec F S4 .f32 := Host.absf main_arg1
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  let main_v6 : IVec S1x4 1 := broadcastInDim S1x4 ![1] bcast_S4_S1x4_1 main_v5
  let main_v7 : IVec S4096x4 1 := broadcastInDim S4096x4 ![0, 1] bcast_S1x4_S4096x4_0_1 main_v6
  let main_v8 : IVec S4096x4 1 := andi main_v2 main_v7
  main_v8
-- ==== Pre_finite_fwd.lean ====
abbrev S4096x768 : Shape := ⟨2, ![4096, 768]⟩
abbrev S4x4096 : Shape := ⟨2, ![4, 4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : FVec F S4096x768 .f32) (main_arg1 : FVec F S4x4096 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  main_v8
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_finite_merge.lean ====
abbrev S4096x7684 : Shape := ⟨2, ![4096, 7684]⟩
abbrev S4096x256 : Shape := ⟨2, ![4096, 256]⟩
abbrev S4x256x1024 : Shape := ⟨3, ![4, 256, 1024]⟩
abbrev S1024x1024 : Shape := ⟨2, ![1024, 1024]⟩
abbrev S4096x1024 : Shape := ⟨2, ![4096, 1024]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x7684 .f32) (main_arg1 : FVec F S4096x256 .f32) (main_arg2 : FVec F S4096x256 .f32) (main_arg3 : FVec F S4096x256 .f32) (main_arg4 : FVec F S4096x256 .f32) (main_arg5 : FVec F S4x256x1024 .f32) (main_arg6 : FVec F S1024x1024 .f32) (main_arg7 : FVec F S4096x1024 .f32) : IVec S_ 1 :=
  let main_v0 : FVec F S4096x256 .f32 := Host.absf main_arg2
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4x256x1024 .f32 := Host.absf main_arg5
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_c_1 : IVec S_ 1 := constantI S_ 1 1#1
  let main_v7 : IVec S_ 1 := (fun x v => Host.reduce IntOp.andi x v reducesTo_S4x256x1024_S_d0_1_2 h_S_) main_v6 main_c_1
  let main_v8 : IVec S_ 1 := andi main_v3 main_v7
  let main_v9 : FVec F S1024x1024 .f32 := Host.absf main_arg6
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4096x1024 .f32 := Host.absf main_arg7
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_rms.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S4096x1024 .f32) (main_arg3 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== RmsK.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x1024, .f32⟩
  | .hbm, ⟨7, _⟩ => ⟨S_, .f32⟩
  | .hbm, ⟨8, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== AttnK.lean ====
abbrev S4096x768 : Shape := ⟨2, ![4096, 768]⟩
abbrev S4x4096 : Shape := ⟨2, ![4, 4096]⟩
abbrev S4096x256 : Shape := ⟨2, ![4096, 256]⟩
abbrev S4096x4x64 : Shape := ⟨3, ![4096, 4, 64]⟩
abbrev S4x4096x64 : Shape := ⟨3, ![4, 4096, 64]⟩
abbrev S_ : Shape := ⟨0, ![]⟩
abbrev S4x4096x1 : Shape := ⟨3, ![4, 4096, 1]⟩
abbrev S4096 : Shape := ⟨1, ![4096]⟩
abbrev S4x4096x4096 : Shape := ⟨3, ![4, 4096, 4096]⟩
abbrev S4x1x4096 : Shape := ⟨3, ![4, 1, 4096]⟩
abbrev S4096x1 : Shape := ⟨2, ![4096, 1]⟩
abbrev S1x4096 : Shape := ⟨2, ![1, 4096]⟩
abbrev S4096x4096 : Shape := ⟨2, ![4096, 4096]⟩
abbrev S4x8x1x512 : Shape := ⟨4, ![4, 8, 1, 512]⟩
abbrev S1x4096x64 : Shape := ⟨3, ![1, 4096, 64]⟩
abbrev S1x4096x1 : Shape := ⟨3, ![1, 4096, 1]⟩
abbrev S1x8x1x512 : Shape := ⟨4, ![1, 8, 1, 512]⟩
abbrev S4096x64 : Shape := ⟨2, ![4096, 64]⟩
abbrev S1x512x64 : Shape := ⟨3, ![1, 512, 64]⟩
abbrev S512x64 : Shape := ⟨2, ![512, 64]⟩
abbrev S1x1x1x512 : Shape := ⟨4, ![1, 1, 1, 512]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x1024x64 : Shape := ⟨3, ![1, 1024, 64]⟩
abbrev S1024x64 : Shape := ⟨2, ![1024, 64]⟩
abbrev S1024x512 : Shape := ⟨2, ![1024, 512]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 59
  | .vmem => 27
  | .smem => 0
  | _ => 0

abbrev bufTy : (tb : Table) → Fin (tcTables nBuf tb) → BufTy
  | .hbm, ⟨0, _⟩ => ⟨S4096x768, .f32⟩
  | .hbm, ⟨1, _⟩ => ⟨S4x4096, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x4x64, .f32⟩
  | .hbm, ⟨7, _⟩ => ⟨S4x4096x64, .f32⟩
  | .hbm, ⟨8, _⟩ => ⟨S4096x4x64, .f32⟩
  | .hbm, ⟨9, _⟩ => ⟨S4x4096x64, .f32⟩
  | .hbm, ⟨10, _⟩ => ⟨S4096x4x64, .f32⟩
  | .hbm, ⟨11, _⟩ => ⟨S4x4096x64, .f32⟩
  | .hbm, ⟨12, _⟩ => ⟨S_, .f32⟩
  | .hbm, ⟨13, _⟩ => ⟨S4x4096x64, .f32⟩
  | .hbm, ⟨14, _⟩ => ⟨S4x4096x64, .f32⟩
  | .hbm, ⟨15, _⟩ => ⟨S4x4096x64, .bf16⟩
  | .hbm, ⟨16, _⟩ => ⟨S4x4096x64, .bf16⟩
  | .hbm, ⟨17, _⟩ => ⟨S4x4096x64, .bf16⟩
  | .hbm, ⟨18, _⟩ => ⟨S4x4096x1, .f32⟩
  | .hbm, ⟨19, _⟩ => ⟨S4096, .i32⟩
  | .hbm, ⟨20, _⟩ => ⟨S4x4096x4096, .f32⟩
  | .hbm, ⟨21, _⟩ => ⟨S4x1x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4096x1, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4x4096x4096, .i1⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x4096, .bf16⟩
  | .hbm, ⟨46, _⟩ => ⟨S4x4096x64, .f32⟩
  | .hbm, ⟨47, _⟩ => ⟨S4x4096x64, .f32⟩
  | .hbm, ⟨48, _⟩ => ⟨S4x4096x64, .f32⟩
  | .hbm, ⟨49, _⟩ => ⟨S4x4096x1, .f32⟩
  | .hbm, ⟨50, _⟩ => ⟨S4x4096x1, .f32⟩
  | .hbm, ⟨51, _⟩ => ⟨S4x8x1x512, .f32⟩
  | .hbm, ⟨52, _⟩ => ⟨S4096x4x64, .f32⟩
  | .hbm, ⟨53, _⟩ => ⟨S4x4096x64, .f32⟩
  | .hbm, ⟨54, _⟩ => ⟨S4x4096x64, .f32⟩
  | .hbm, ⟨55, _⟩ => ⟨S4x4096x64, .f32⟩
  | .hbm, ⟨56, _⟩ => ⟨S4x4096x64, .f32⟩
  | .hbm, ⟨57, _⟩ => ⟨S4x4096x1, .f32⟩
  | .hbm, ⟨58, _⟩ => ⟨S4x8x1x512, .f32⟩
  | .local _ .vmem, ⟨0, _⟩ => ⟨S1x4096x64, .bf16⟩
  | .local _ .vmem, ⟨1, _⟩ => ⟨S1x4096x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x4096x1, .f32⟩
  | .local _ .vmem, ⟨7, _⟩ => ⟨S1x4096x1, .f32⟩
  | .local _ .vmem, ⟨8, _⟩ => ⟨S1x8x1x512, .f32⟩
  | .local _ .vmem, ⟨9, _⟩ => ⟨S1x8x1x512, .f32⟩
  | .local _ .vmem, ⟨10, _⟩ => ⟨S1x4096x64, .f32⟩
  | .local _ .vmem, ⟨11, _⟩ => ⟨S1x4096x64, .f32⟩
  | .local _ .vmem, ⟨12, _⟩ => ⟨S1x4096x1, .f32⟩
  | .local _ .vmem, ⟨13, _⟩ => ⟨S1x4096x1, .f32⟩
  | .local _ .vmem, ⟨14, _⟩ => ⟨S1x4096x64, .f32⟩
  | .local _ .vmem, ⟨15, _⟩ => ⟨S1x4096x64, .f32⟩
  | .local _ .vmem, ⟨16, _⟩ => ⟨S1x4096x64, .f32⟩
  | .local _ .vmem, ⟨17, _⟩ => ⟨S1x4096x64, .f32⟩
  | .local _ .vmem, ⟨18, _⟩ => ⟨S1x4096x64, .f32⟩
  | .local _ .vmem, ⟨19, _⟩ => ⟨S1x4096x64, .f32⟩
  | .local _ .vmem, ⟨20, _⟩ => ⟨S1x4096x64, .f32⟩
  | .local _ .vmem, ⟨21, _⟩ => ⟨S1x4096x64, .f32⟩
  | .local _ .vmem, ⟨22, _⟩ => ⟨S1x4096x1, .f32⟩
  | .local _ .vmem, ⟨23, _⟩ => ⟨S1x4096x1, .f32⟩
  | .local _ .vmem, ⟨24, _⟩ => ⟨S1x8x1x512, .f32⟩
  | .local _ .vmem, ⟨25, _⟩ => ⟨S1x8x1x512, .f32⟩
  | .local _ .vmem, ⟨26, _⟩ => ⟨S4096x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev main_v44_3 : Ref sig .tc := ⟨.hbm, 57, rfl⟩
abbrev main_v44_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![4], ![false]⟩

@[reducible] def k0_t1_loop : Scf.Loop 32 :=
  let c1_i32 : BitVec 32 := 1#32
  let c3_i32 : BitVec 32 := 3#32
  let v128 : BitVec 32 := Scalar.addi c1_i32 c3_i32
  let c1_i32_97 : BitVec 32 := 1#32
  ⟨c1_i32, v128, c1_i32_97⟩
def k0_mult1 (k0_t1 : Fin k0_t1_loop.trips) : BitVec 32 :=
  let c1_i32 : BitVec 32 := 1#32
  let c1_i32_97 : BitVec 32 := 1#32
  let arg15 : BitVec 32 := Scf.iv c1_i32 c1_i32_97 k0_t1
  let c1024_i32_684 : BitVec 32 := 1024#32
  let v932 : BitVec 32 := Scalar.muli arg15 c1024_i32_684
  v932
def k0_off1 (k0_t1 : Fin k0_t1_loop.trips) : Fin 3 → Nat :=
  let c0_685 : Index := 0#32
  let c1_i32 : BitVec 32 := 1#32
  let c1_i32_97 : BitVec 32 := 1#32
  let arg15 : BitVec 32 := Scf.iv c1_i32 c1_i32_97 k0_t1
  let c1024_i32_684 : BitVec 32 := 1024#32
  let v932 : BitVec 32 := Scalar.muli arg15 c1024_i32_684
  let v933 : BitVec 32 := v932
  let v934 : Index := Scalar.indexCast v933
  let c0_686 : Index := 0#32
  ![0, v934.toNat, 0]
def k0_off2 (k0_t1 : Fin k0_t1_loop.trips) : Fin 3 → Nat :=
  let c0_690 : Index := 0#32
  let c1_i32 : BitVec 32 := 1#32
  let c1_i32_97 : BitVec 32 := 1#32
  let arg15 : BitVec 32 := Scf.iv c1_i32 c1_i32_97 k0_t1
  let c1024_i32_684 : BitVec 32 := 1024#32
  let v932 : BitVec 32 := Scalar.muli arg15 c1024_i32_684
  let v933 : BitVec 32 := v932
  let v942 : Index := Scalar.indexCast v933
  let c0_691 : Index := 0#32
  ![0, v942.toNat, 0]
def k0_off3 (k0_t1 : Fin k0_t1_loop.trips) : Fin 2 → Nat :=
  let c1_i32 : BitVec 32 := 1#32
  let c1_i32_97 : BitVec 32 := 1#32
  let arg15 : BitVec 32 := Scf.iv c1_i32 c1_i32_97 k0_t1
  let c1024_i32_684 : BitVec 32 := 1024#32
  let v932 : BitVec 32 := Scalar.muli arg15 c1024_i32_684
  let v933 : BitVec 32 := v932
  let v956 : Index := Scalar.indexCast v933
  let c0_695 : Index := 0#32
  ![v956.toNat, 0]
@[reducible] def k0_t2_loop : Scf.Loop 32 :=
  let c1_i32_158 : BitVec 32 := 1#32
  let c3_i32_159 : BitVec 32 := 3#32
  let v205 : BitVec 32 := Scalar.addi c1_i32_158 c3_i32_159
  let c1_i32_160 : BitVec 32 := 1#32
  ⟨c1_i32_158, v205, c1_i32_160⟩
def k0_mult2 (k0_t2 : Fin k0_t2_loop.trips) : BitVec 32 :=
  let c1_i32_158 : BitVec 32 := 1#32
  let c1_i32_160 : BitVec 32 := 1#32
  let arg15 : BitVec 32 := Scf.iv c1_i32_158 c1_i32_160 k0_t2
  let c1024_i32_684 : BitVec 32 := 1024#32
  let v932 : BitVec 32 := Scalar.muli arg15 c1024_i32_684
  v932
def k0_off4 (k0_t2 : Fin k0_t2_loop.trips) : Fin 3 → Nat :=
  let c0_685 : Index := 0#32
  let c1_i32_158 : BitVec 32 := 1#32
  let c1_i32_160 : BitVec 32 := 1#32
  let arg15 : BitVec 32 := Scf.iv c1_i32_158 c1_i32_160 k0_t2
  let c1024_i32_684 : BitVec 32 := 1024#32
  let v932 : BitVec 32 := Scalar.muli arg15 c1024_i32_684
  let v933 : BitVec 32 := v932
  let v934 : Index := Scalar.indexCast v933
  let c0_686 : Index := 0#32
  ![0, v934.toNat, 0]
def k0_off5 (k0_t2 : Fin k0_t2_loop.trips) : Fin 3 → Nat :=
  let c0_690 : Index := 0#32
  let c1_i32_158 : BitVec 32 := 1#32
  let c1_i32_160 : BitVec 32 := 1#32
  let arg15 : BitVec 32 := Scf.iv c1_i32_158 c1_i32_160 k0_t2
  let c1024_i32_684 : BitVec 32 := 1024#32
  let v932 : BitVec 32 := Scalar.muli arg15 c1024_i32_684
  let v933 : BitVec 32 := v932
  let v942 : Index := Scalar.indexCast v933
  let c0_691 : Index := 0#32
  ![0, v942.toNat, 0]
def k0_off6 (k0_t2 : Fin k0_t2_loop.trips) : Fin 2 → Nat :=
  let c1_i32_158 : BitVec 32 := 1#32
  let c1_i32_160 : BitVec 32 := 1#32
  let arg15 : BitVec 32 := Scf.iv c1_i32_158 c1_i32_160 k0_t2
  let c1024_i32_684 : BitVec 32 := 1024#32
  let v932 : BitVec 32 := Scalar.muli arg15 c1024_i32_684
  let v933 : BitVec 32 := v932
  let v956 : Index := Scalar.indexCast v933
  let c0_695 : Index := 0#32
  ![v956.toNat, 0]
@[reducible] def k0_t3_loop : Scf.Loop 32 :=
  let c2_i32 : BitVec 32 := 2#32
  let c2_i32_253 : BitVec 32 := 2#32
  let v330 : BitVec 32 := Scalar.addi c2_i32 c2_i32_253
  let c1_i32_254 : BitVec 32 := 1#32
  ⟨c2_i32, v330, c1_i32_254⟩
def k0_mult3 (k0_t3 : Fin k0_t3_loop.trips) : BitVec 32 :=
  let c2_i32 : BitVec 32 := 2#32
  let c1_i32_254 : BitVec 32 := 1#32
  let arg15 : BitVec 32 := Scf.iv c2_i32 c1_i32_254 k0_t3
  let c1024_i32_684 : BitVec 32 := 1024#32
  let v932 : BitVec 32 := Scalar.muli arg15 c1024_i32_684
  v932
def k0_off7 (k0_t3 : Fin k0_t3_loop.trips) : Fin 3 → Nat :=
  let c0_685 : Index := 0#32
  let c2_i32 : BitVec 32 := 2#32
  let c1_i32_254 : BitVec 32 := 1#32
  let arg15 : BitVec 32 := Scf.iv c2_i32 c1_i32_254 k0_t3
  let c1024_i32_684 : BitVec 32 := 1024#32
  let v932 : BitVec 32 := Scalar.muli arg15 c1024_i32_684
  let v933 : BitVec 32 := v932
  let v934 : Index := Scalar.indexCast v933
  let c0_686 : Index := 0#32
  ![0, v934.toNat, 0]
def k0_off8 (k0_t3 : Fin k0_t3_loop.trips) : Fin 3 → Nat :=
  let c0_690 : Index := 0#32
  let c2_i32 : BitVec 32 := 2#32
  let c1_i32_254 : BitVec 32 := 1#32
  let arg15 : BitVec 32 := Scf.iv c2_i32 c1_i32_254 k0_t3
  let c1024_i32_684 : BitVec 32 := 1024#32
  let v932 : BitVec 32 := Scalar.muli arg15 c1024_i32_684
  let v933 : BitVec 32 := v932
  let v942 : Index := Scalar.indexCast v933
  let c0_691 : Index := 0#32
  ![0, v942.toNat, 0]
def k0_off9 (k0_t3 : Fin k0_t3_loop.trips) : Fin 2 → Nat :=
  let c2_i32 : BitVec 32 := 2#32
  let c1_i32_254 : BitVec 32 := 1#32
  let arg15 : BitVec 32 := Scf.iv c2_i32 c1_i32_254 k0_t3
  let c1024_i32_684 : BitVec 32 := 1024#32
  let v932 : BitVec 32 := Scalar.muli arg15 c1024_i32_684
  let v933 : BitVec 32 := v932
  let v956 : Index := Scalar.indexCast v933
  let c0_695 : Index := 0#32
  ![v956.toNat, 0]
@[reducible] def k0_t4_loop : Scf.Loop 32 :=
  let c2_i32_315 : BitVec 32 := 2#32
  let c2_i32_316 : BitVec 32 := 2#32
  let v407 : BitVec 32 := Scalar.addi c2_i32_315 c2_i32_316
  let c1_i32_317 : BitVec 32 := 1#32
  ⟨c2_i32_315, v407, c1_i32_317⟩
def k0_mult4 (k0_t4 : Fin k0_t4_loop.trips) : BitVec 32 :=
  let c2_i32_315 : BitVec 32 := 2#32
  let c1_i32_317 : BitVec 32 := 1#32
  let arg15 : BitVec 32 := Scf.iv c2_i32_315 c1_i32_317 k0_t4
  let c1024_i32_684 : BitVec 32 := 1024#32
  let v932 : BitVec 32 := Scalar.muli arg15 c1024_i32_684
  v932
def k0_off10 (k0_t4 : Fin k0_t4_loop.trips) : Fin 3 → Nat :=
  let c0_685 : Index := 0#32
  let c2_i32_315 : BitVec 32 := 2#32
  let c1_i32_317 : BitVec 32 := 1#32
  let arg15 : BitVec 32 := Scf.iv c2_i32_315 c1_i32_317 k0_t4
  let c1024_i32_684 : BitVec 32 := 1024#32
  let v932 : BitVec 32 := Scalar.muli arg15 c1024_i32_684
  let v933 : BitVec 32 := v932
  let v934 : Index := Scalar.indexCast v933
  let c0_686 : Index := 0#32
  ![0, v934.toNat, 0]
def k0_off11 (k0_t4 : Fin k0_t4_loop.trips) : Fin 3 → Nat :=
  let c0_690 : Index := 0#32
  let c2_i32_315 : BitVec 32 := 2#32
  let c1_i32_317 : BitVec 32 := 1#32
  let arg15 : BitVec 32 := Scf.iv c2_i32_315 c1_i32_317 k0_t4
  let c1024_i32_684 : BitVec 32 := 1024#32
  let v932 : BitVec 32 := Scalar.muli arg15 c1024_i32_684
  let v933 : BitVec 32 := v932
  let v942 : Index := Scalar.indexCast v933
  let c0_691 : Index := 0#32
  ![0, v942.toNat, 0]
def k0_off12 (k0_t4 : Fin k0_t4_loop.trips) : Fin 2 → Nat :=
  let c2_i32_315 : BitVec 32 := 2#32
  let c1_i32_317 : BitVec 32 := 1#32
  let arg15 : BitVec 32 := Scf.iv c2_i32_315 c1_i32_317 k0_t4
  let c1024_i32_684 : BitVec 32 := 1024#32
  let v932 : BitVec 32 := Scalar.muli arg15 c1024_i32_684
  let v933 : BitVec 32 := v932
  let v956 : Index := Scalar.indexCast v933
  let c0_695 : Index := 0#32
  ![v956.toNat, 0]
def k0_mult5 : BitVec 32 :=
  let c3_i32_410 : BitVec 32 := 3#32
  let c1024_i32 : BitVec 32 := 1024#32
  let v532 : BitVec 32 := Scalar.muli c3_i32_410 c1024_i32
  v532
def k0_off13 : Fin 3 → Nat :=
  let c0_411 : Index := 0#32
  let c3_i32_410 : BitVec 32 := 3#32
  let c1024_i32 : BitVec 32 := 1024#32
  let v532 : BitVec 32 := Scalar.muli c3_i32_410 c1024_i32
  let v533 : BitVec 32 := v532
  let v534 : Index := Scalar.indexCast v533
  let c0_412 : Index := 0#32
  ![0, v534.toNat, 0]
def k0_off14 : Fin 3 → Nat :=
  let c0_416 : Index := 0#32
  let c3_i32_410 : BitVec 32 := 3#32
  let c1024_i32 : BitVec 32 := 1024#32
  let v532 : BitVec 32 := Scalar.muli c3_i32_410 c1024_i32
  let v533 : BitVec 32 := v532
  let v542 : Index := Scalar.indexCast v533
  let c0_417 : Index := 0#32
  ![0, v542.toNat, 0]
def k0_off15 : Fin 2 → Nat :=
  let c3_i32_410 : BitVec 32 := 3#32
  let c1024_i32 : BitVec 32 := 1024#32
  let v532 : BitVec 32 := Scalar.muli c3_i32_410 c1024_i32
  let v533 : BitVec 32 := v532
  let v556 : Index := Scalar.indexCast v533
  let c0_421 : Index := 0#32
  ![v556.toNat, 0]
def k0_mult6 : BitVec 32 :=
  let c3_i32_496 : BitVec 32 := 3#32
  let c1024_i32_497 : BitVec 32 := 1024#32
  let v666 : BitVec 32 := Scalar.muli c3_i32_496 c1024_i32_497
  v666
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnRIdeal.lean ====
abbrev S4096x768 : Shape := ⟨2, ![4096, 768]⟩
abbrev S4x4096 : Shape := ⟨2, ![4, 4096]⟩
abbrev S4096x256 : Shape := ⟨2, ![4096, 256]⟩
abbrev S4096x4x64 : Shape := ⟨3, ![4096, 4, 64]⟩
abbrev S4x4096x64 : Shape := ⟨3, ![4, 4096, 64]⟩
abbrev S4096 : Shape := ⟨1, ![4096]⟩
abbrev S4x4096x4096 : Shape := ⟨3, ![4, 4096, 4096]⟩
abbrev S_ : Shape := ⟨0, ![]⟩
abbrev S4x4096x1 : Shape := ⟨3, ![4, 4096, 1]⟩
abbrev S4x1x4096 : Shape := ⟨3, ![4, 1, 4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩
abbrev S4x8x1x512 : Shape := ⟨4, ![4, 8, 1, 512]⟩

abbrev nBuf : Space → Nat
  | .hbm => 114
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4x4096, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x4x64, .f32⟩
  | .hbm, ⟨7, _⟩ => ⟨S4x4096x64, .f32⟩
  | .hbm, ⟨8, _⟩ => ⟨S4096x4x64, .f32⟩
  | .hbm, ⟨9, _⟩ => ⟨S4x4096x64, .f32⟩
  | .hbm, ⟨10, _⟩ => ⟨S4096x4x64, .f32⟩
  | .hbm, ⟨11, _⟩ => ⟨S4x4096x64, .f32⟩
  | .hbm, ⟨12, _⟩ => ⟨S4096, .i32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x1, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4x4096x4096, .i1⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .i1⟩
  | .hbm, ⟨40, _⟩ => ⟨S4x4096x4096, .f32⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S4x4096, .f32⟩
  | .hbm, ⟨46, _⟩ => ⟨S_, .f32⟩
  | .hbm, ⟨47, _⟩ => ⟨S4x4096, .f32⟩
  | .hbm, ⟨48, _⟩ => ⟨S4x4096, .i1⟩
  | .hbm, ⟨49, _⟩ => ⟨S_, .f32⟩
  | .hbm, ⟨50, _⟩ => ⟨S4x4096, .f32⟩
  | .hbm, ⟨51, _⟩ => ⟨S4x4096, .i1⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4x4096, .f32⟩
  | .hbm, ⟨56, _⟩ => ⟨S_, .f32⟩
  | .hbm, ⟨57, _⟩ => ⟨S4x4096, .f32⟩
  | .hbm, ⟨58, _⟩ => ⟨S4x4096, .f32⟩
  | .hbm, ⟨59, _⟩ => ⟨S4x4096, .f32⟩
  | .hbm, ⟨60, _⟩ => ⟨S4x4096x1, .f32⟩
  | .hbm, ⟨61, _⟩ => ⟨S4x4096x4096, .f32⟩
  | .hbm, ⟨62, _⟩ => ⟨S4x4096x4096, .f32⟩
  | .hbm, ⟨63, _⟩ => ⟨S4x4096x4096, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x4096, .f32⟩
  | .hbm, ⟨68, _⟩ => ⟨S4x4096x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x64, .f32⟩
  | .hbm, ⟨74, _⟩ => ⟨S4096x4x64, .f32⟩
  | .hbm, ⟨75, _⟩ => ⟨S4x4096x64, .f32⟩
  | .hbm, ⟨76, _⟩ => ⟨S4x64x4096, .f32⟩
  | .hbm, ⟨77, _⟩ => ⟨S4x4096x64, .f32⟩
  | .hbm, ⟨78, _⟩ => ⟨S4x4096x4096, .f32⟩
  | .hbm, ⟨79, _⟩ => ⟨S4x4096x4096, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096, .f32⟩
  | .hbm, ⟨84, _⟩ => ⟨S4x4096x1, .f32⟩
  | .hbm, ⟨85, _⟩ => ⟨S4x4096x1, .f32⟩
  | .hbm, ⟨86, _⟩ => ⟨S4x4096x4096, .f32⟩
  | .hbm, ⟨87, _⟩ => ⟨S4x4096x4096, .f32⟩
  | .hbm, ⟨88, _⟩ => ⟨S_, .f32⟩
  | .hbm, ⟨89, _⟩ => ⟨S4x4096, .f32⟩
  | .hbm, ⟨90, _⟩ => ⟨S4x4096x4096, .f32⟩
  | .hbm, ⟨91, _⟩ => ⟨S4x4096x4096, .f32⟩
  | .hbm, ⟨92, _⟩ => ⟨S4x4096x4096, .f32⟩
  | .hbm, ⟨93, _⟩ => ⟨S_, .f32⟩
  | .hbm, ⟨94, _⟩ => ⟨S4x4096x4096, .f32⟩
  | .hbm, ⟨95, _⟩ => ⟨S4x4096x4096, .f32⟩
  | .hbm, ⟨96, _⟩ => ⟨S_, .f32⟩
  | .hbm, ⟨97, _⟩ => ⟨S4x4096, .f32⟩
  | .hbm, ⟨98, _⟩ => ⟨S4x4096x1, .f32⟩
  | .hbm, ⟨99, _⟩ => ⟨S4x4096x4096, .f32⟩
  | .hbm, ⟨100, _⟩ => ⟨S_, .f32⟩
  | .hbm, ⟨101, _⟩ => ⟨S4x4096, .f32⟩
  | .hbm, ⟨102, _⟩ => ⟨S4x1x4096, .f32⟩
  | .hbm, ⟨103, _⟩ => ⟨S_, .f32⟩
  | .hbm, ⟨104, _⟩ => ⟨S4x4096, .f32⟩
  | .hbm, ⟨105, _⟩ => ⟨S_, .f32⟩
  | .hbm, ⟨106, _⟩ => ⟨S4x4096, .f32⟩
  | .hbm, ⟨107, _⟩ => ⟨S_, .f32⟩
  | .hbm, ⟨108, _⟩ => ⟨S4x4096x4096, .f32⟩
  | .hbm, ⟨109, _⟩ => ⟨S4x4096x4096, .f32⟩
  | .hbm, ⟨110, _⟩ => ⟨S4x4096x64, .f32⟩
  | .hbm, ⟨111, _⟩ => ⟨S4x4096x64, .f32⟩
  | .hbm, ⟨112, _⟩ => ⟨S4x4096x1, .f32⟩
  | .hbm, ⟨113, _⟩ => ⟨S4x8x1x512, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_cst : Ref sig .tc := ⟨.hbm, 93, rfl⟩
abbrev main_call1_v0 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== CumK.lean ====
abbrev S4096x4 : Shape := ⟨2, ![4096, 4]⟩
abbrev S4 : Shape := ⟨1, ![4]⟩
abbrev S4x4096x1 : Shape := ⟨3, ![4, 4096, 1]⟩
abbrev S4x8x1x512 : Shape := ⟨4, ![4, 8, 1, 512]⟩
abbrev S_ : Shape := ⟨0, ![]⟩
abbrev S4096x128 : Shape := ⟨2, ![4096, 128]⟩
abbrev S1x4 : Shape := ⟨2, ![1, 4]⟩
abbrev S1x128 : Shape := ⟨2, ![1, 128]⟩
abbrev S4x4096 : Shape := ⟨2, ![4, 4096]⟩
abbrev S8x128 : Shape := ⟨2, ![8, 128]⟩
abbrev S4x512x1 : Shape := ⟨3, ![4, 512, 1]⟩
abbrev S512x128 : Shape := ⟨2, ![512, 128]⟩
abbrev S1x512x1 : Shape := ⟨3, ![1, 512, 1]⟩
abbrev S512x1 : Shape := ⟨2, ![512, 1]⟩
abbrev S512x512 : Shape := ⟨2, ![512, 512]⟩
abbrev S128 : Shape := ⟨1, ![128]⟩

abbrev nBuf : Space → Nat
  | .hbm => 22
  | .vmem => 11
  | .smem => 0
  | _ => 0

abbrev bufTy : (tb : Table) → Fin (tcTables nBuf tb) → BufTy
  | .hbm, ⟨0, _⟩ => ⟨S4096x4, .f32⟩
  | .hbm, ⟨1, _⟩ => ⟨S4, .f32⟩
  | .hbm, ⟨2, _⟩ => ⟨S4x4096x1, .f32⟩
  | .hbm, ⟨3, _⟩ => ⟨S4x8x1x512, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S1x4, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S4x4096, .f32⟩
  | .hbm, ⟨12, _⟩ => ⟨S4096x4, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S8x128, .f32⟩
  | .hbm, ⟨18, _⟩ => ⟨S4096x4, .bf16⟩
  | .hbm, ⟨19, _⟩ => ⟨S_, .f32⟩
  | .hbm, ⟨20, _⟩ => ⟨S128, .f32⟩
  | .hbm, ⟨21, _⟩ => ⟨S4, .f32⟩
  | .local _ .vmem, ⟨0, _⟩ => ⟨S4x512x1, .f32⟩
  | .local _ .vmem, ⟨1, _⟩ => ⟨S4x512x1, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S8x128, .f32⟩
  | .local _ .vmem, ⟨10, _⟩ => ⟨S1x128, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== CumRIdeal.lean ====
abbrev S4096x4 : Shape := ⟨2, ![4096, 4]⟩
abbrev S4 : Shape := ⟨1, ![4]⟩
abbrev S4x4096x1 : Shape := ⟨3, ![4, 4096, 1]⟩
abbrev S4x8x1x512 : Shape := ⟨4, ![4, 8, 1, 512]⟩
abbrev S1x4 : Shape := ⟨2, ![1, 4]⟩
abbrev S_ : Shape := ⟨0, ![]⟩
abbrev S4x4096 : Shape := ⟨2, ![4, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4, .f32⟩
  | .hbm, ⟨2, _⟩ => ⟨S4x4096x1, .f32⟩
  | .hbm, ⟨3, _⟩ => ⟨S4x8x1x512, .f32⟩
  | .hbm, ⟨4, _⟩ => ⟨S1x4, .f32⟩
  | .hbm, ⟨5, _⟩ => ⟨S4096x4, .f32⟩
  | .hbm, ⟨6, _⟩ => ⟨S4096x4, .f32⟩
  | .hbm, ⟨7, _⟩ => ⟨S4096x4, .f32⟩
  | .hbm, ⟨8, _⟩ => ⟨S_, .f32⟩
  | .hbm, ⟨9, _⟩ => ⟨S4096x4, .f32⟩
  | .hbm, ⟨10, _⟩ => ⟨S4096x4, .f32⟩
  | .hbm, ⟨11, _⟩ => ⟨S4096x4, .f32⟩
  | .hbm, ⟨12, _⟩ => ⟨S4096x4, .f32⟩
  | .hbm, ⟨13, _⟩ => ⟨S4096x4, .i1⟩
  | .hbm, ⟨14, _⟩ => ⟨S4096x4, .f32⟩
  | .hbm, ⟨15, _⟩ => ⟨S4096x4, .f32⟩
  | .hbm, ⟨16, _⟩ => ⟨S4096x4, .f32⟩
  | .hbm, ⟨17, _⟩ => ⟨S4096x4, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S4096x4, .f32⟩
  | .hbm, ⟨22, _⟩ => ⟨S_, .f32⟩
  | .hbm, ⟨23, _⟩ => ⟨S4096x4, .f32⟩
  | .hbm, ⟨24, _⟩ => ⟨S4096x4, .i1⟩
  | .hbm, ⟨25, _⟩ => ⟨S_, .f32⟩
  | .hbm, ⟨26, _⟩ => ⟨S4096x4, .f32⟩
  | .hbm, ⟨27, _⟩ => ⟨S4096x4, .f32⟩
  | .hbm, ⟨28, _⟩ => ⟨S_, .f32⟩
  | .hbm, ⟨29, _⟩ => ⟨S4096x4, .f32⟩
  | .hbm, ⟨30, _⟩ => ⟨S4096x4, .i1⟩
  | .hbm, ⟨31, _⟩ => ⟨S_, .f32⟩
  | .hbm, ⟨32, _⟩ => ⟨S4096x4, .f32⟩
  | .hbm, ⟨33, _⟩ => ⟨S4096x4, .f32⟩
  | .hbm, ⟨34, _⟩ => ⟨S4096x4, .f32⟩
  | .hbm, ⟨35, _⟩ => ⟨S4096x4, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x4, .f32⟩
  | .hbm, ⟨44, _⟩ => ⟨S4096x4, .i1⟩
  | .hbm, ⟨45, _⟩ => ⟨S_, .f32⟩
  | .hbm, ⟨46, _⟩ => ⟨S4096x4, .f32⟩
  | .hbm, ⟨47, _⟩ => ⟨S4096x4, .f32⟩
  | .hbm, ⟨48, _⟩ => ⟨S4096x4, .f32⟩
  | .hbm, ⟨49, _⟩ => ⟨S4096x4, .f32⟩
  | .hbm, ⟨50, _⟩ => ⟨S4096x4, .f32⟩
  | .hbm, ⟨51, _⟩ => ⟨S_, .f32⟩
  | .hbm, ⟨52, _⟩ => ⟨S4096x4, .f32⟩
  | .hbm, ⟨53, _⟩ => ⟨S4096x4, .f32⟩
  | .hbm, ⟨54, _⟩ => ⟨S4096x4, .f32⟩
  | .hbm, ⟨55, _⟩ => ⟨S_, .f32⟩
  | .hbm, ⟨56, _⟩ => ⟨S_, .f32⟩
  | .hbm, ⟨57, _⟩ => ⟨S4096x4, .f32⟩
  | .hbm, ⟨58, _⟩ => ⟨S4x4096, .f32⟩
  | .hbm, ⟨59, _⟩ => ⟨S4x4096x1, .f32⟩
  | .hbm, ⟨60, _⟩ => ⟨S4x8x1x512, .f32⟩
  | .hbm, ⟨61, _⟩ => ⟨S4x4096, .f32⟩
  | .hbm, ⟨62, _⟩ => ⟨S4x4096, .f32⟩
  | .hbm, ⟨63, _⟩ => ⟨S4x4096, .f32⟩
  | .hbm, ⟨64, _⟩ => ⟨S4096x4, .f32⟩
  | .hbm, ⟨65, _⟩ => ⟨S_, .f32⟩
  | .hbm, ⟨66, _⟩ => ⟨S_, .f32⟩
  | .hbm, ⟨67, _⟩ => ⟨S4096x4, .f32⟩
  | .hbm, ⟨68, _⟩ => ⟨S4096x4, .f32⟩
  | .hbm, ⟨69, _⟩ => ⟨S4096x4, .f32⟩
  | .hbm, ⟨70, _⟩ => ⟨S4096x4, .f32⟩
  | .hbm, ⟨71, _⟩ => ⟨S_, .f32⟩
  | .hbm, ⟨72, _⟩ => ⟨S4, .f32⟩
  | .hbm, ⟨73, _⟩ => ⟨S1x4, .f32⟩
  | .hbm, ⟨74, _⟩ => ⟨S_, .f32⟩
  | .hbm, ⟨75, _⟩ => ⟨S4, .f32⟩
  | .hbm, ⟨76, _⟩ => ⟨S4096x4, .bf16⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_call2_call0_cst : Ref sig .tc := ⟨.hbm, 65, rfl⟩
abbrev main_call2_call0_v0 : Ref sig .tc := ⟨.hbm, 66, rfl⟩
abbrev main_v12 : Ref sig .tc := ⟨.hbm, 67, rfl⟩
abbrev main_call3_v0 : Ref sig .tc := ⟨.hbm, 68, rfl⟩
abbrev main_call3_v1 : Ref sig .tc := ⟨.hbm, 69, rfl⟩
abbrev main_v13 : Ref sig .tc := ⟨.hbm, 70, rfl⟩
abbrev main_cst : Ref sig .tc := ⟨.hbm, 71, rfl⟩
abbrev main_v14 : Ref sig .tc := ⟨.hbm, 72, rfl⟩
abbrev main_v15 : Ref sig .tc := ⟨.hbm, 73, rfl⟩
abbrev main_cst_0 : Ref sig .tc := ⟨.hbm, 74, rfl⟩
abbrev main_v16 : Ref sig .tc := ⟨.hbm, 75, rfl⟩
abbrev main_v17 : Ref sig .tc := ⟨.hbm, 76, rfl⟩

abbrev nD : Nat := 1
abbrev τ : Topo := Topo.v7x

variable {F : FTy → Type} [FloatOps F]
-- ==== LossK.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x1024, .f32⟩
  | .hbm, ⟨5, _⟩ => ⟨S4096x1024, .f32⟩
  | .hbm, ⟨6, _⟩ => ⟨S8x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== MergeK.lean ====
abbrev S4096x7684 : Shape := ⟨2, ![4096, 7684]⟩
abbrev S4096x256 : Shape := ⟨2, ![4096, 256]⟩
abbrev S4x256x1024 : Shape := ⟨3, ![4, 256, 1024]⟩
abbrev S1024x1024 : Shape := ⟨2, ![1024, 1024]⟩
abbrev S4096x1024 : Shape := ⟨2, ![4096, 1024]⟩
abbrev S4096x1536 : Shape := ⟨2, ![4096, 1536]⟩
abbrev S4096x512 : Shape := ⟨2, ![4096, 512]⟩
abbrev S4096x3584 : Shape := ⟨2, ![4096, 3584]⟩
abbrev S4096x4096 : Shape := ⟨2, ![4096, 4096]⟩
abbrev S4096x4 : Shape := ⟨2, ![4096, 4]⟩
abbrev S4096x4x64 : Shape := ⟨3, ![4096, 4, 64]⟩
abbrev S4x4096x64 : Shape := ⟨3, ![4, 4096, 64]⟩
abbrev S_ : Shape := ⟨0, ![]⟩
abbrev S256x1024 : Shape := ⟨2, ![256, 1024]⟩
abbrev S256x256 : Shape := ⟨2, ![256, 256]⟩
abbrev S4x256x64 : Shape := ⟨3, ![4, 256, 64]⟩
abbrev S256x4096 : Shape := ⟨2, ![256, 4096]⟩
abbrev S1x256x1024 : Shape := ⟨3, ![1, 256, 1024]⟩
abbrev S256x64 : Shape := ⟨2, ![256, 64]⟩
abbrev S1x256x64 : Shape := ⟨3, ![1, 256, 64]⟩

abbrev nBuf : Space → Nat
  | .hbm => 45
  | .vmem => 34
  | .smem => 0
  | _ => 0

abbrev bufTy : (tb : Table) → Fin (tcTables nBuf tb) → BufTy
  | .hbm, ⟨0, _⟩ => ⟨S4096x7684, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4x256x1024, .f32⟩
  | .hbm, ⟨6, _⟩ => ⟨S1024x1024, .f32⟩
  | .hbm, ⟨7, _⟩ => ⟨S4096x1024, .f32⟩
  | .hbm, ⟨8, _⟩ => ⟨S4096x1536, .f32⟩
  | .hbm, ⟨9, _⟩ => ⟨S4096x256, .f32⟩
  | .hbm, ⟨10, _⟩ => ⟨S4096x256, .f32⟩
  | .hbm, ⟨11, _⟩ => ⟨S4096x1024, .f32⟩
  | .hbm, ⟨12, _⟩ => ⟨S4096x512, .f32⟩
  | .hbm, ⟨13, _⟩ => ⟨S4096x3584, .f32⟩
  | .hbm, ⟨14, _⟩ => ⟨S4096x4096, .f32⟩
  | .hbm, ⟨15, _⟩ => ⟨S4096x4, .f32⟩
  | .hbm, ⟨16, _⟩ => ⟨S4096x4x64, .f32⟩
  | .hbm, ⟨17, _⟩ => ⟨S4x4096x64, .f32⟩
  | .hbm, ⟨18, _⟩ => ⟨S4096x4x64, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .bf16⟩
  | .hbm, ⟨32, _⟩ => ⟨S4096x256, .bf16⟩
  | .hbm, ⟨33, _⟩ => ⟨S4096x256, .bf16⟩
  | .hbm, ⟨34, _⟩ => ⟨S4096x256, .bf16⟩
  | .hbm, ⟨35, _⟩ => ⟨S4x256x1024, .bf16⟩
  | .hbm, ⟨36, _⟩ => ⟨S1024x1024, .bf16⟩
  | .hbm, ⟨37, _⟩ => ⟨S4096x4096, .bf16⟩
  | .hbm, ⟨38, _⟩ => ⟨S4096x256, .f32⟩
  | .hbm, ⟨39, _⟩ => ⟨S4x4096x64, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4x256x1024, .bf16⟩
  | .hbm, ⟨44, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S4x256x64, .f32⟩
  | .local _ .vmem, ⟨11, _⟩ => ⟨S4x256x64, .f32⟩
  | .local _ .vmem, ⟨12, _⟩ => ⟨S256x256, .f32⟩
  | .local _ .vmem, ⟨13, _⟩ => ⟨S256x256, .f32⟩
  | .local _ .vmem, ⟨14, _⟩ => ⟨S256x4096, .f32⟩
  | .local _ .vmem, ⟨15, _⟩ => ⟨S256x4096, .f32⟩
  | .local _ .vmem, ⟨16, _⟩ => ⟨S4x256x1024, .bf16⟩
  | .local _ .vmem, ⟨17, _⟩ => ⟨S1024x1024, .bf16⟩
  | .local _ .vmem, ⟨18, _⟩ => ⟨S256x4096, .bf16⟩
  | .local _ .vmem, ⟨19, _⟩ => ⟨S256x4096, .bf16⟩
  | .local _ .vmem, ⟨20, _⟩ => ⟨S256x256, .f32⟩
  | .local _ .vmem, ⟨21, _⟩ => ⟨S256x256, .f32⟩
  | .local _ .vmem, ⟨22, _⟩ => ⟨S4x256x64, .f32⟩
  | .local _ .vmem, ⟨23, _⟩ => ⟨S4x256x64, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S4x256x1024, .bf16⟩
  | .local _ .vmem, ⟨31, _⟩ => ⟨S1024x1024, .bf16⟩
  | .local _ .vmem, ⟨32, _⟩ => ⟨S4x256x1024, .f32⟩
  | .local _ .vmem, ⟨33, _⟩ => ⟨S1024x1024, .f32⟩
  | _, _ => ⟨S4096x7684, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev main_v21_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v211 : BitVec 1 := Scalar.cmpi .eq arg0 c15_i32
  let v212 : BitVec 32 := Scalar.extui v211
  let c0_i32_146 : BitVec 32 := 0#32
  let v213 : BitVec 1 := Scalar.cmpi .ne v212 c0_i32_146
  v213

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeRIdeal.lean ====
abbrev S4096x7684 : Shape := ⟨2, ![4096, 7684]⟩
abbrev S4096x256 : Shape := ⟨2, ![4096, 256]⟩
abbrev S4x256x1024 : Shape := ⟨3, ![4, 256, 1024]⟩
abbrev S1024x1024 : Shape := ⟨2, ![1024, 1024]⟩
abbrev S4096x1024 : Shape := ⟨2, ![4096, 1024]⟩
abbrev S4096x4096 : Shape := ⟨2, ![4096, 4096]⟩
abbrev S4096x4x64 : Shape := ⟨3, ![4096, 4, 64]⟩
abbrev S4x4096x64 : Shape := ⟨3, ![4, 4096, 64]⟩
abbrev S_ : Shape := ⟨0, ![]⟩
abbrev S4096x1x256 : Shape := ⟨3, ![4096, 1, 256]⟩
abbrev S4096x4x256 : Shape := ⟨3, ![4096, 4, 256]⟩
abbrev S4x1024x4096 : Shape := ⟨3, ![4, 1024, 4096]⟩
abbrev S4096x4x1024 : Shape := ⟨3, ![4096, 4, 1024]⟩
abbrev S4x4096x256 : Shape := ⟨3, ![4, 4096, 256]⟩
abbrev S4x1024x256 : Shape := ⟨3, ![4, 1024, 256]⟩

abbrev nBuf : Space → Nat
  | .hbm => 84
  | .vmem => 0
  | .smem => 0
  | _ => 0

abbrev bufTy : (tb : Table) → Fin (tcTables nBuf tb) → BufTy
  | .hbm, ⟨0, _⟩ => ⟨S4096x7684, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4x256x1024, .f32⟩
  | .hbm, ⟨6, _⟩ => ⟨S1024x1024, .f32⟩
  | .hbm, ⟨7, _⟩ => ⟨S4096x1024, .f32⟩
  | .hbm, ⟨8, _⟩ => ⟨S4096x256, .f32⟩
  | .hbm, ⟨9, _⟩ => ⟨S4096x4096, .f32⟩
  | .hbm, ⟨10, _⟩ => ⟨S4096x4x64, .f32⟩
  | .hbm, ⟨11, _⟩ => ⟨S4x4096x64, .f32⟩
  | .hbm, ⟨12, _⟩ => ⟨S4096x4x64, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x1x256, .f32⟩
  | .hbm, ⟨29, _⟩ => ⟨S4096x1x256, .f32⟩
  | .hbm, ⟨30, _⟩ => ⟨S4096x1x256, .f32⟩
  | .hbm, ⟨31, _⟩ => ⟨S4096x1x256, .f32⟩
  | .hbm, ⟨32, _⟩ => ⟨S4096x4x256, .f32⟩
  | .hbm, ⟨33, _⟩ => ⟨S4x1024x4096, .f32⟩
  | .hbm, ⟨34, _⟩ => ⟨S4096x4x1024, .f32⟩
  | .hbm, ⟨35, _⟩ => ⟨S4096x4x1024, .f32⟩
  | .hbm, ⟨36, _⟩ => ⟨S4096x4x1024, .f32⟩
  | .hbm, ⟨37, _⟩ => ⟨S4096x4x1024, .f32⟩
  | .hbm, ⟨38, _⟩ => ⟨S_, .f32⟩
  | .hbm, ⟨39, _⟩ => ⟨S4096x4x1024, .f32⟩
  | .hbm, ⟨40, _⟩ => ⟨S4096x4x1024, .f32⟩
  | .hbm, ⟨41, _⟩ => ⟨S_, .f32⟩
  | .hbm, ⟨42, _⟩ => ⟨S4096x4x1024, .f32⟩
  | .hbm, ⟨43, _⟩ => ⟨S4096x4x1024, .f32⟩
  | .hbm, ⟨44, _⟩ => ⟨S_, .f32⟩
  | .hbm, ⟨45, _⟩ => ⟨S4096x4x1024, .f32⟩
  | .hbm, ⟨46, _⟩ => ⟨S4096x4x1024, .f32⟩
  | .hbm, ⟨47, _⟩ => ⟨S4096x4x1024, .f32⟩
  | .hbm, ⟨48, _⟩ => ⟨S4096x4x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S1024x1024, .f32⟩
  | .hbm, ⟨53, _⟩ => ⟨S1024x1024, .f32⟩
  | .hbm, ⟨54, _⟩ => ⟨S4096x1024, .f32⟩
  | .hbm, ⟨55, _⟩ => ⟨S4096x4x1024, .f32⟩
  | .hbm, ⟨56, _⟩ => ⟨S4096x4x1024, .f32⟩
  | .hbm, ⟨57, _⟩ => ⟨S4096x4x1024, .f32⟩
  | .hbm, ⟨58, _⟩ => ⟨S4096x4x1024, .f32⟩
  | .hbm, ⟨59, _⟩ => ⟨S4096x4096, .f32⟩
  | .hbm, ⟨60, _⟩ => ⟨S4x1024x4096, .f32⟩
  | .hbm, ⟨61, _⟩ => ⟨S4x4096x256, .f32⟩
  | .hbm, ⟨62, _⟩ => ⟨S4096x4x256, .f32⟩
  | .hbm, ⟨63, _⟩ => ⟨S4x1024x256, .f32⟩
  | .hbm, ⟨64, _⟩ => ⟨S4x256x1024, .f32⟩
  | .hbm, ⟨65, _⟩ => ⟨S4096x1x256, .f32⟩
  | .hbm, ⟨66, _⟩ => ⟨S4096x256, .f32⟩
  | .hbm, ⟨67, _⟩ => ⟨S4096x1x256, .f32⟩
  | .hbm, ⟨68, _⟩ => ⟨S4096x256, .f32⟩
  | .hbm, ⟨69, _⟩ => ⟨S4096x1x256, .f32⟩
  | .hbm, ⟨70, _⟩ => ⟨S4096x256, .f32⟩
  | .hbm, ⟨71, _⟩ => ⟨S4096x1x256, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x4x64, .f32⟩
  | .hbm, ⟨80, _⟩ => ⟨S4x4096x64, .f32⟩
  | .hbm, ⟨81, _⟩ => ⟨S4096x4096, .bf16⟩
  | .hbm, ⟨82, _⟩ => ⟨S4x256x1024, .bf16⟩
  | .hbm, ⟨83, _⟩ => ⟨S1024x1024, .bf16⟩
  | _, _ => ⟨S4096x7684, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v6_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v6_1 : Ref sig .tc := ⟨.hbm, 25, rfl⟩
abbrev main_v6_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== FwdK.lean ====
abbrev S4096x768 : Shape := ⟨2, ![4096, 768]⟩
abbrev S4x4096 : Shape := ⟨2, ![4, 4096]⟩
abbrev S4096x256 : Shape := ⟨2, ![4096, 256]⟩
abbrev S4096x4x64 : Shape := ⟨3, ![4096, 4, 64]⟩
abbrev S4x4096x64 : Shape := ⟨3, ![4, 4096, 64]⟩
abbrev S4x4096x1 : Shape := ⟨3, ![4, 4096, 1]⟩
abbrev S_ : Shape := ⟨0, ![]⟩
abbrev S4x4x1x1024 : Shape := ⟨4, ![4, 4, 1, 1024]⟩
abbrev S1x4096x64 : Shape := ⟨3, ![1, 4096, 64]⟩
abbrev S1x4096x1 : Shape := ⟨3, ![1, 4096, 1]⟩
abbrev S1x4x1x1024 : Shape := ⟨4, ![1, 4, 1, 1024]⟩
abbrev S1x1024x64 : Shape := ⟨3, ![1, 1024, 64]⟩
abbrev S1024x64 : Shape := ⟨2, ![1024, 64]⟩
abbrev S1x1024x1 : Shape := ⟨3, ![1, 1024, 1]⟩
abbrev S1024x1 : Shape := ⟨2, ![1024, 1]⟩
abbrev S1024x1024 : Shape := ⟨2, ![1024, 1024]⟩
abbrev S1x1x1x1024 : Shape := ⟨4, ![1, 1, 1, 1024]⟩
abbrev S1x1024 : Shape := ⟨2, ![1, 1024]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4x4096, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x4x64, .f32⟩
  | .hbm, ⟨6, _⟩ => ⟨S4x4096x64, .f32⟩
  | .hbm, ⟨7, _⟩ => ⟨S4096x4x64, .f32⟩
  | .hbm, ⟨8, _⟩ => ⟨S4x4096x64, .f32⟩
  | .hbm, ⟨9, _⟩ => ⟨S4096x4x64, .f32⟩
  | .hbm, ⟨10, _⟩ => ⟨S4x4096x64, .f32⟩
  | .hbm, ⟨11, _⟩ => ⟨S4x4096x1, .f32⟩
  | .hbm, ⟨12, _⟩ => ⟨S_, .f32⟩
  | .hbm, ⟨13, _⟩ => ⟨S4x4096x64, .f32⟩
  | .hbm, ⟨14, _⟩ => ⟨S4x4096x64, .f32⟩
  | .hbm, ⟨15, _⟩ => ⟨S4x4096x64, .bf16⟩
  | .hbm, ⟨16, _⟩ => ⟨S4x4096x64, .bf16⟩
  | .hbm, ⟨17, _⟩ => ⟨S4x4096x64, .bf16⟩
  | .hbm, ⟨18, _⟩ => ⟨S4x4x1x1024, .f32⟩
  | .hbm, ⟨19, _⟩ => ⟨S4x4096x64, .f32⟩
  | .hbm, ⟨20, _⟩ => ⟨S4x4096x1, .f32⟩
  | .local _ .vmem, ⟨0, _⟩ => ⟨S1x4096x64, .bf16⟩
  | .local _ .vmem, ⟨1, _⟩ => ⟨S1x4096x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x4096x1, .f32⟩
  | .local _ .vmem, ⟨7, _⟩ => ⟨S1x4096x1, .f32⟩
  | .local _ .vmem, ⟨8, _⟩ => ⟨S1x4x1x1024, .f32⟩
  | .local _ .vmem, ⟨9, _⟩ => ⟨S1x4x1x1024, .f32⟩
  | .local _ .vmem, ⟨10, _⟩ => ⟨S1x4096x64, .f32⟩
  | .local _ .vmem, ⟨11, _⟩ => ⟨S1x4096x64, .f32⟩
  | .local _ .vmem, ⟨12, _⟩ => ⟨S1x4096x1, .f32⟩
  | .local _ .vmem, ⟨13, _⟩ => ⟨S1x4096x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16_0 : Ref sig .tc := ⟨.hbm, 19, rfl⟩
abbrev main_v16_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  c0_i32
def k0_mult2 : BitVec 32 :=
  let c0_i32_36 : BitVec 32 := 0#32
  let c1024_i32 : BitVec 32 := 1024#32
  let v64 : BitVec 32 := Scalar.muli c0_i32_36 c1024_i32
  v64
def k0_off1 : Fin 3 → Nat :=
  let c0_37 : Index := 0#32
  let c0_i32_36 : BitVec 32 := 0#32
  let c1024_i32 : BitVec 32 := 1024#32
  let v64 : BitVec 32 := Scalar.muli c0_i32_36 c1024_i32
  let v65 : BitVec 32 := v64
  let v66 : Index := Scalar.indexCast v65
  let c0_38 : Index := 0#32
  ![0, v66.toNat, 0]
def k0_mult3 : BitVec 32 :=
  let c1024_i32_48 : BitVec 32 := 1024#32
  c1024_i32_48
@[reducible] def k0_t1_loop : Scf.Loop 32 :=
  let c0_i32_77 : BitVec 32 := 0#32
  let c2_i32 : BitVec 32 := 2#32
  let v154 : BitVec 32 := Scalar.addi c0_i32_77 c2_i32
  let c1_i32_78 : BitVec 32 := 1#32
  ⟨c0_i32_77, v154, c1_i32_78⟩
def k0_mult4 (k0_t1 : Fin k0_t1_loop.trips) : BitVec 32 :=
  let c0_i32_77 : BitVec 32 := 0#32
  let c1_i32_78 : BitVec 32 := 1#32
  let arg8 : BitVec 32 := Scf.iv c0_i32_77 c1_i32_78 k0_t1
  let c1024_i32_131 : BitVec 32 := 1024#32
  let v265 : BitVec 32 := Scalar.muli arg8 c1024_i32_131
  v265
def k0_off2 (k0_t1 : Fin k0_t1_loop.trips) : Fin 3 → Nat :=
  let c0_132 : Index := 0#32
  let c0_i32_77 : BitVec 32 := 0#32
  let c1_i32_78 : BitVec 32 := 1#32
  let arg8 : BitVec 32 := Scf.iv c0_i32_77 c1_i32_78 k0_t1
  let c1024_i32_131 : BitVec 32 := 1024#32
  let v265 : BitVec 32 := Scalar.muli arg8 c1024_i32_131
  let v266 : BitVec 32 := v265
  let v267 : Index := Scalar.indexCast v266
  let c0_133 : Index := 0#32
  ![0, v267.toNat, 0]
def k0_off3 (k0_t1 : Fin k0_t1_loop.trips) : Fin 4 → Nat :=
  let c0_137 : Index := 0#32
  let c0_i32_77 : BitVec 32 := 0#32
  let c1_i32_78 : BitVec 32 := 1#32
  let arg8 : BitVec 32 := Scf.iv c0_i32_77 c1_i32_78 k0_t1
  let v274 : Index := Scalar.indexCast arg8
  let c0_138 : Index := 0#32
  let c0_139 : Index := 0#32
  ![0, v274.toNat, 0, 0]
def k0_mult5 : BitVec 32 :=
  let c2048_i32 : BitVec 32 := 2048#32
  c2048_i32
@[reducible] def k0_t2_loop : Scf.Loop 32 :=
  let c0_i32_108 : BitVec 32 := 0#32
  let c3_i32 : BitVec 32 := 3#32
  let v213 : BitVec 32 := Scalar.addi c0_i32_108 c3_i32
  let c1_i32_109 : BitVec 32 := 1#32
  ⟨c0_i32_108, v213, c1_i32_109⟩
def k0_mult6 (k0_t2 : Fin k0_t2_loop.trips) : BitVec 32 :=
  let c0_i32_108 : BitVec 32 := 0#32
  let c1_i32_109 : BitVec 32 := 1#32
  let arg8 : BitVec 32 := Scf.iv c0_i32_108 c1_i32_109 k0_t2
  let c1024_i32_131 : BitVec 32 := 1024#32
  let v265 : BitVec 32 := Scalar.muli arg8 c1024_i32_131
  v265
def k0_off4 (k0_t2 : Fin k0_t2_loop.trips) : Fin 3 → Nat :=
  let c0_132 : Index := 0#32
  let c0_i32_108 : BitVec 32 := 0#32
  let c1_i32_109 : BitVec 32 := 1#32
  let arg8 : BitVec 32 := Scf.iv c0_i32_108 c1_i32_109 k0_t2
  let c1024_i32_131 : BitVec 32 := 1024#32
  let v265 : BitVec 32 := Scalar.muli arg8 c1024_i32_131
  let v266 : BitVec 32 := v265
  let v267 : Index := Scalar.indexCast v266
  let c0_133 : Index := 0#32
  ![0, v267.toNat, 0]
def k0_off5 (k0_t2 : Fin k0_t2_loop.trips) : Fin 4 → Nat :=
  let c0_137 : Index := 0#32
  let c0_i32_108 : BitVec 32 := 0#32
  let c1_i32_109 : BitVec 32 := 1#32
  let arg8 : BitVec 32 := Scf.iv c0_i32_108 c1_i32_109 k0_t2
  let v274 : Index := Scalar.indexCast arg8
  let c0_138 : Index := 0#32
  let c0_139 : Index := 0#32
  ![0, v274.toNat, 0, 0]
def k0_mult7 : BitVec 32 :=
  let c3072_i32 : BitVec 32 := 3072#32
  c3072_i32
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdKIdeal.lean ====
variable {F : FTy → Type} [FloatOps F] [Named F]
def κ : String → Option EReal := fun
  | "mask" => some ⊥
  | _ => none
-- ==== FwdRIdeal.lean ====
abbrev S4096x768 : Shape := ⟨2, ![4096, 768]⟩
abbrev S4x4096 : Shape := ⟨2, ![4, 4096]⟩
abbrev S4096x256 : Shape := ⟨2, ![4096, 256]⟩
abbrev S4096x4x64 : Shape := ⟨3, ![4096, 4, 64]⟩
abbrev S4x4096x64 : Shape := ⟨3, ![4, 4096, 64]⟩
abbrev S4096 : Shape := ⟨1, ![4096]⟩
abbrev S4x4096x4096 : Shape := ⟨3, ![4, 4096, 4096]⟩
abbrev S_ : Shape := ⟨0, ![]⟩
abbrev S4x4096x1 : Shape := ⟨3, ![4, 4096, 1]⟩
abbrev S4x1x4096 : Shape := ⟨3, ![4, 1, 4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4x4096, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x4x64, .f32⟩
  | .hbm, ⟨6, _⟩ => ⟨S4x4096x64, .f32⟩
  | .hbm, ⟨7, _⟩ => ⟨S4096x4x64, .f32⟩
  | .hbm, ⟨8, _⟩ => ⟨S4x4096x64, .f32⟩
  | .hbm, ⟨9, _⟩ => ⟨S4096x4x64, .f32⟩
  | .hbm, ⟨10, _⟩ => ⟨S4x4096x64, .f32⟩
  | .hbm, ⟨11, _⟩ => ⟨S4096, .i32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x1, .f32⟩
  | .hbm, ⟨17, _⟩ => ⟨S4x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S4x4096x4096, .i1⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096, .f32⟩
  | .hbm, ⟨45, _⟩ => ⟨S_, .f32⟩
  | .hbm, ⟨46, _⟩ => ⟨S4x4096, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S4x4096x4096, .f32⟩
  | .hbm, ⟨56, _⟩ => ⟨S4x4096x4096, .f32⟩
  | .hbm, ⟨57, _⟩ => ⟨S4x4096x64, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== NormK.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateK.lean ====
abbrev S4096x4 : Shape := ⟨2, ![4096, 4]⟩
abbrev S4 : Shape := ⟨1, ![4]⟩
abbrev S_ : Shape := ⟨0, ![]⟩
abbrev S4096x128 : Shape := ⟨2, ![4096, 128]⟩
abbrev S1x4 : Shape := ⟨2, ![1, 4]⟩
abbrev S1x128 : Shape := ⟨2, ![1, 128]⟩
abbrev S512x128 : Shape := ⟨2, ![512, 128]⟩
abbrev S512x512 : Shape := ⟨2, ![512, 512]⟩
abbrev S128 : Shape := ⟨1, ![128]⟩
abbrev S4x4096 : Shape := ⟨2, ![4, 4096]⟩

abbrev nBuf : Space → Nat
  | .hbm => 12
  | .vmem => 6
  | .smem => 0
  | _ => 0

abbrev bufTy : (tb : Table) → Fin (tcTables nBuf tb) → BufTy
  | .hbm, ⟨0, _⟩ => ⟨S4096x4, .f32⟩
  | .hbm, ⟨1, _⟩ => ⟨S4, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S1x4, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S4096x128, .f32⟩
  | .hbm, ⟨10, _⟩ => ⟨S4096x4, .f32⟩
  | .hbm, ⟨11, _⟩ => ⟨S4x4096, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S1x128, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRIdeal.lean ====
abbrev S4096x4 : Shape := ⟨2, ![4096, 4]⟩
abbrev S4 : Shape := ⟨1, ![4]⟩
abbrev S1x4 : Shape := ⟨2, ![1, 4]⟩
abbrev S_ : Shape := ⟨0, ![]⟩
abbrev S4x4096 : Shape := ⟨2, ![4, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4, .f32⟩
  | .hbm, ⟨2, _⟩ => ⟨S1x4, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S_, .f32⟩
  | .hbm, ⟨7, _⟩ => ⟨S4096x4, .f32⟩
  | .hbm, ⟨8, _⟩ => ⟨S4096x4, .f32⟩
  | .hbm, ⟨9, _⟩ => ⟨S4096x4, .f32⟩
  | .hbm, ⟨10, _⟩ => ⟨S4096x4, .f32⟩
  | .hbm, ⟨11, _⟩ => ⟨S4096x4, .i1⟩
  | .hbm, ⟨12, _⟩ => ⟨S4096x4, .f32⟩
  | .hbm, ⟨13, _⟩ => ⟨S4096x4, .f32⟩
  | .hbm, ⟨14, _⟩ => ⟨S4096x4, .f32⟩
  | .hbm, ⟨15, _⟩ => ⟨S4096x4, .f32⟩
  | .hbm, ⟨16, _⟩ => ⟨S4096x4, .f32⟩
  | .hbm, ⟨17, _⟩ => ⟨S4096x4, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S_, .f32⟩
  | .hbm, ⟨22, _⟩ => ⟨S_, .f32⟩
  | .hbm, ⟨23, _⟩ => ⟨S4096x4, .f32⟩
  | .hbm, ⟨24, _⟩ => ⟨S4x4096, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== JoinK.lean ====
abbrev S4096x1024 : Shape := ⟨2, ![4096, 1024]⟩
abbrev S4096x7684 : Shape := ⟨2, ![4096, 7684]⟩
abbrev S4096x256 : Shape := ⟨2, ![4096, 256]⟩
abbrev S4x256x1024 : Shape := ⟨3, ![4, 256, 1024]⟩
abbrev S1024x1024 : Shape := ⟨2, ![1024, 1024]⟩
abbrev S4096x1536 : Shape := ⟨2, ![4096, 1536]⟩
abbrev S4096x512 : Shape := ⟨2, ![4096, 512]⟩
abbrev S4096x3584 : Shape := ⟨2, ![4096, 3584]⟩
abbrev S4096x4096 : Shape := ⟨2, ![4096, 4096]⟩
abbrev S4096x4 : Shape := ⟨2, ![4096, 4]⟩
abbrev S4096x4x64 : Shape := ⟨3, ![4096, 4, 64]⟩
abbrev S4x4096x64 : Shape := ⟨3, ![4, 4096, 64]⟩
abbrev S256x1024 : Shape := ⟨2, ![256, 1024]⟩
abbrev S256x256 : Shape := ⟨2, ![256, 256]⟩
abbrev S4x256x64 : Shape := ⟨3, ![4, 256, 64]⟩
abbrev S256x4096 : Shape := ⟨2, ![256, 4096]⟩
abbrev S1x256x64 : Shape := ⟨3, ![1, 256, 64]⟩
abbrev S256x64 : Shape := ⟨2, ![256, 64]⟩
abbrev S1x256x256 : Shape := ⟨3, ![1, 256, 256]⟩

abbrev nBuf : Space → Nat
  | .hbm => 25
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x7684, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4x256x1024, .f32⟩
  | .hbm, ⟨7, _⟩ => ⟨S1024x1024, .f32⟩
  | .hbm, ⟨8, _⟩ => ⟨S4096x1536, .f32⟩
  | .hbm, ⟨9, _⟩ => ⟨S4096x256, .f32⟩
  | .hbm, ⟨10, _⟩ => ⟨S4096x256, .f32⟩
  | .hbm, ⟨11, _⟩ => ⟨S4096x1024, .f32⟩
  | .hbm, ⟨12, _⟩ => ⟨S4096x512, .f32⟩
  | .hbm, ⟨13, _⟩ => ⟨S4096x3584, .f32⟩
  | .hbm, ⟨14, _⟩ => ⟨S4096x4096, .f32⟩
  | .hbm, ⟨15, _⟩ => ⟨S4096x4, .f32⟩
  | .hbm, ⟨16, _⟩ => ⟨S4096x256, .bf16⟩
  | .hbm, ⟨17, _⟩ => ⟨S4096x256, .bf16⟩
  | .hbm, ⟨18, _⟩ => ⟨S4096x256, .bf16⟩
  | .hbm, ⟨19, _⟩ => ⟨S4096x4x64, .f32⟩
  | .hbm, ⟨20, _⟩ => ⟨S4x4096x64, .f32⟩
  | .hbm, ⟨21, _⟩ => ⟨S4x256x1024, .bf16⟩
  | .hbm, ⟨22, _⟩ => ⟨S1024x1024, .bf16⟩
  | .hbm, ⟨23, _⟩ => ⟨S4096x1024, .f32⟩
  | .hbm, ⟨24, _⟩ => ⟨S4096x256, .bf16⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S4x256x64, .f32⟩
  | .local _ .vmem, ⟨9, _⟩ => ⟨S4x256x64, .f32⟩
  | .local _ .vmem, ⟨10, _⟩ => ⟨S256x256, .f32⟩
  | .local _ .vmem, ⟨11, _⟩ => ⟨S256x256, .f32⟩
  | .local _ .vmem, ⟨12, _⟩ => ⟨S256x4096, .f32⟩
  | .local _ .vmem, ⟨13, _⟩ => ⟨S256x4096, .f32⟩
  | .local _ .vmem, ⟨14, _⟩ => ⟨S4x256x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x256, .bf16⟩
  | .local _ .vmem, ⟨19, _⟩ => ⟨S256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== JoinRIdeal.lean ====
abbrev S4096x1024 : Shape := ⟨2, ![4096, 1024]⟩
abbrev S4096x7684 : Shape := ⟨2, ![4096, 7684]⟩
abbrev S4096x256 : Shape := ⟨2, ![4096, 256]⟩
abbrev S4x256x1024 : Shape := ⟨3, ![4, 256, 1024]⟩
abbrev S1024x1024 : Shape := ⟨2, ![1024, 1024]⟩
abbrev S_ : Shape := ⟨0, ![]⟩
abbrev S4096x1x256 : Shape := ⟨3, ![4096, 1, 256]⟩
abbrev S4096x4x256 : Shape := ⟨3, ![4096, 4, 256]⟩
abbrev S4x1024x4096 : Shape := ⟨3, ![4, 1024, 4096]⟩
abbrev S4096x4x1024 : Shape := ⟨3, ![4096, 4, 1024]⟩
abbrev S4096x4096 : Shape := ⟨2, ![4096, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7684, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4x256x1024, .f32⟩
  | .hbm, ⟨7, _⟩ => ⟨S1024x1024, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x1x256, .f32⟩
  | .hbm, ⟨20, _⟩ => ⟨S4096x1x256, .f32⟩
  | .hbm, ⟨21, _⟩ => ⟨S4096x1x256, .f32⟩
  | .hbm, ⟨22, _⟩ => ⟨S4096x1x256, .f32⟩
  | .hbm, ⟨23, _⟩ => ⟨S4096x4x256, .f32⟩
  | .hbm, ⟨24, _⟩ => ⟨S4x1024x4096, .f32⟩
  | .hbm, ⟨25, _⟩ => ⟨S4096x4x1024, .f32⟩
  | .hbm, ⟨26, _⟩ => ⟨S4096x4096, .f32⟩
  | .hbm, ⟨27, _⟩ => ⟨S4096x4x1024, .f32⟩
  | .hbm, ⟨28, _⟩ => ⟨S4096x4x1024, .f32⟩
  | .hbm, ⟨29, _⟩ => ⟨S4096x4x1024, .f32⟩
  | .hbm, ⟨30, _⟩ => ⟨S_, .f32⟩
  | .hbm, ⟨31, _⟩ => ⟨S4096x4x1024, .f32⟩
  | .hbm, ⟨32, _⟩ => ⟨S4096x4x1024, .f32⟩
  | .hbm, ⟨33, _⟩ => ⟨S_, .f32⟩
  | .hbm, ⟨34, _⟩ => ⟨S4096x4x1024, .f32⟩
  | .hbm, ⟨35, _⟩ => ⟨S4096x4x1024, .f32⟩
  | .hbm, ⟨36, _⟩ => ⟨S4096x4x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== BlendK.lean ====
abbrev S4096x7684 : Shape := ⟨2, ![4096, 7684]⟩
abbrev S4x128x128 : Shape := ⟨3, ![4, 128, 128]⟩
abbrev S4x128 : Shape := ⟨2, ![4, 128]⟩
abbrev S256 : Shape := ⟨1, ![256]⟩
abbrev S3x256 : Shape := ⟨2, ![3, 256]⟩
abbrev S31x256 : Shape := ⟨2, ![31, 256]⟩
abbrev S4096x1536 : Shape := ⟨2, ![4096, 1536]⟩
abbrev S4096x256 : Shape := ⟨2, ![4096, 256]⟩
abbrev S4096x1024 : Shape := ⟨2, ![4096, 1024]⟩
abbrev S4096x512 : Shape := ⟨2, ![4096, 512]⟩
abbrev S4096x3584 : Shape := ⟨2, ![4096, 3584]⟩
abbrev S4096x4096 : Shape := ⟨2, ![4096, 4096]⟩
abbrev S4096x4 : Shape := ⟨2, ![4096, 4]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8x256 : Shape := ⟨2, ![8, 256]⟩
abbrev S32x256 : Shape := ⟨2, ![32, 256]⟩
abbrev S4x4096x64 : Shape := ⟨3, ![4, 4096, 64]⟩
abbrev S512x3584 : Shape := ⟨2, ![512, 3584]⟩
abbrev S32x3584 : Shape := ⟨2, ![32, 3584]⟩
abbrev S512x256 : Shape := ⟨2, ![512, 256]⟩
abbrev S4x512x64 : Shape := ⟨3, ![4, 512, 64]⟩
abbrev S544x256 : Shape := ⟨2, ![544, 256]⟩
abbrev S512x64 : Shape := ⟨2, ![512, 64]⟩
abbrev S1x512x64 : Shape := ⟨3, ![1, 512, 64]⟩
abbrev S128x512 : Shape := ⟨2, ![128, 512]⟩
abbrev S128 : Shape := ⟨1, ![128]⟩
abbrev S128x1 : Shape := ⟨2, ![128, 1]⟩
abbrev S64x256 : Shape := ⟨2, ![64, 256]⟩
abbrev S72x256 : Shape := ⟨2, ![72, 256]⟩
abbrev S96x256 : Shape := ⟨2, ![96, 256]⟩
abbrev S64 : Shape := ⟨1, ![64]⟩
abbrev S64x1 : Shape := ⟨2, ![64, 1]⟩

abbrev nBuf : Space → Nat
  | .hbm => 57
  | .vmem => 29
  | .smem => 0
  | _ => 0

abbrev bufTy : (tb : Table) → Fin (tcTables nBuf tb) → BufTy
  | .hbm, ⟨0, _⟩ => ⟨S4096x7684, .f32⟩
  | .hbm, ⟨1, _⟩ => ⟨S4x128x128, .f32⟩
  | .hbm, ⟨2, _⟩ => ⟨S4x128, .f32⟩
  | .hbm, ⟨3, _⟩ => ⟨S256, .f32⟩
  | .hbm, ⟨4, _⟩ => ⟨S256, .f32⟩
  | .hbm, ⟨5, _⟩ => ⟨S3x256, .f32⟩
  | .hbm, ⟨6, _⟩ => ⟨S31x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S4096x1536, .f32⟩
  | .hbm, ⟨11, _⟩ => ⟨S4096x256, .f32⟩
  | .hbm, ⟨12, _⟩ => ⟨S4096x256, .f32⟩
  | .hbm, ⟨13, _⟩ => ⟨S4096x1024, .f32⟩
  | .hbm, ⟨14, _⟩ => ⟨S4096x512, .f32⟩
  | .hbm, ⟨15, _⟩ => ⟨S4096x3584, .f32⟩
  | .hbm, ⟨16, _⟩ => ⟨S4096x4096, .f32⟩
  | .hbm, ⟨17, _⟩ => ⟨S4096x4, .f32⟩
  | .hbm, ⟨18, _⟩ => ⟨S_, .i1⟩
  | .hbm, ⟨19, _⟩ => ⟨S128x128, .i1⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S_, .i1⟩
  | .hbm, ⟨27, _⟩ => ⟨S128x128, .i1⟩
  | .hbm, ⟨28, _⟩ => ⟨S128x128, .i1⟩
  | .hbm, ⟨29, _⟩ => ⟨S1x128x128, .i1⟩
  | .hbm, ⟨30, _⟩ => ⟨S_, .f32⟩
  | .hbm, ⟨31, _⟩ => ⟨S_, .f32⟩
  | .hbm, ⟨32, _⟩ => ⟨S4x128x128, .i1⟩
  | .hbm, ⟨33, _⟩ => ⟨S4x128x128, .f32⟩
  | .hbm, ⟨34, _⟩ => ⟨S4x128x128, .f32⟩
  | .hbm, ⟨35, _⟩ => ⟨S4x128x128, .bf16⟩
  | .hbm, ⟨36, _⟩ => ⟨S128x4, .f32⟩
  | .hbm, ⟨37, _⟩ => ⟨S128x4x64, .f32⟩
  | .hbm, ⟨38, _⟩ => ⟨S128x256, .f32⟩
  | .hbm, ⟨39, _⟩ => ⟨S1x256, .f32⟩
  | .hbm, ⟨40, _⟩ => ⟨S1x256, .f32⟩
  | .hbm, ⟨41, _⟩ => ⟨S_, .i32⟩
  | .hbm, ⟨42, _⟩ => ⟨S_, .f32⟩
  | .hbm, ⟨43, _⟩ => ⟨S8x256, .f32⟩
  | .hbm, ⟨44, _⟩ => ⟨S_, .i32⟩
  | .hbm, ⟨45, _⟩ => ⟨S_, .f32⟩
  | .hbm, ⟨46, _⟩ => ⟨S32x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S4096x256, .bf16⟩
  | .hbm, ⟨51, _⟩ => ⟨S4096x256, .bf16⟩
  | .hbm, ⟨52, _⟩ => ⟨S4096x256, .bf16⟩
  | .hbm, ⟨53, _⟩ => ⟨S4x4096x64, .bf16⟩
  | .hbm, ⟨54, _⟩ => ⟨S4x4096x64, .bf16⟩
  | .hbm, ⟨55, _⟩ => ⟨S4x4096x64, .bf16⟩
  | .hbm, ⟨56, _⟩ => ⟨S4096x256, .f32⟩
  | .local _ .vmem, ⟨0, _⟩ => ⟨S512x3584, .f32⟩
  | .local _ .vmem, ⟨1, _⟩ => ⟨S512x3584, .f32⟩
  | .local _ .vmem, ⟨2, _⟩ => ⟨S32x3584, .f32⟩
  | .local _ .vmem, ⟨3, _⟩ => ⟨S32x3584, .f32⟩
  | .local _ .vmem, ⟨4, _⟩ => ⟨S4x128x128, .bf16⟩
  | .local _ .vmem, ⟨5, _⟩ => ⟨S128x256, .f32⟩
  | .local _ .vmem, ⟨6, _⟩ => ⟨S1x256, .f32⟩
  | .local _ .vmem, ⟨7, _⟩ => ⟨S1x256, .f32⟩
  | .local _ .vmem, ⟨8, _⟩ => ⟨S8x256, .f32⟩
  | .local _ .vmem, ⟨9, _⟩ => ⟨S32x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S4x512x64, .bf16⟩
  | .local _ .vmem, ⟨20, _⟩ => ⟨S4x512x64, .bf16⟩
  | .local _ .vmem, ⟨21, _⟩ => ⟨S4x512x64, .bf16⟩
  | .local _ .vmem, ⟨22, _⟩ => ⟨S4x512x64, .bf16⟩
  | .local _ .vmem, ⟨23, _⟩ => ⟨S4x512x64, .bf16⟩
  | .local _ .vmem, ⟨24, _⟩ => ⟨S4x512x64, .bf16⟩
  | .local _ .vmem, ⟨25, _⟩ => ⟨S512x256, .f32⟩
  | .local _ .vmem, ⟨26, _⟩ => ⟨S512x256, .f32⟩
  | .local _ .vmem, ⟨27, _⟩ => ⟨S544x256, .f32⟩
  | .local _ .vmem, ⟨28, _⟩ => ⟨S544x256, .f32⟩
  | _, _ => ⟨S4096x7684, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_0 : Ref sig .tc := ⟨.hbm, 41, rfl⟩
abbrev main_call2_v0 : Ref sig .tc := ⟨.hbm, 42, rfl⟩
abbrev main_v18 : Ref sig .tc := ⟨.hbm, 43, rfl⟩
abbrev main_c_1 : Ref sig .tc := ⟨.hbm, 44, rfl⟩
abbrev main_call3_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v23_2 : Ref sig .tc := ⟨.hbm, 52, rfl⟩
abbrev main_v23_3 : Ref sig .tc := ⟨.hbm, 53, rfl⟩
abbrev main_v23_4 : Ref sig .tc := ⟨.hbm, 54, rfl⟩
abbrev main_v23_5 : Ref sig .tc := ⟨.hbm, 55, rfl⟩
abbrev main_v23_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== BlendRIdeal.lean ====
abbrev S4096x7684 : Shape := ⟨2, ![4096, 7684]⟩
abbrev S4x128x128 : Shape := ⟨3, ![4, 128, 128]⟩
abbrev S4x128 : Shape := ⟨2, ![4, 128]⟩
abbrev S256 : Shape := ⟨1, ![256]⟩
abbrev S3x256 : Shape := ⟨2, ![3, 256]⟩
abbrev S31x256 : Shape := ⟨2, ![31, 256]⟩
abbrev S4096x512 : Shape := ⟨2, ![4096, 512]⟩
abbrev S_ : Shape := ⟨0, ![]⟩
abbrev S4096x256 : Shape := ⟨2, ![4096, 256]⟩
abbrev S4096 : Shape := ⟨1, ![4096]⟩
abbrev S4096x1 : Shape := ⟨2, ![4096, 1]⟩
abbrev S1x256 : Shape := ⟨2, ![1, 256]⟩
abbrev S32x128x4x64 : Shape := ⟨4, ![32, 128, 4, 64]⟩
abbrev S128x128 : Shape := ⟨2, ![128, 128]⟩
abbrev S1x128x128 : Shape := ⟨3, ![1, 128, 128]⟩
abbrev S4x32x64x128 : Shape := ⟨4, ![4, 32, 64, 128]⟩
abbrev S128x4 : Shape := ⟨2, ![128, 4]⟩
abbrev S1x128x4x1 : Shape := ⟨4, ![1, 128, 4, 1]⟩
abbrev S4096x768 : Shape := ⟨2, ![4096, 768]⟩
abbrev S4096x4x64 : Shape := ⟨3, ![4096, 4, 64]⟩
abbrev S4x4096x64 : Shape := ⟨3, ![4, 4096, 64]⟩
abbrev S2x256 : Shape := ⟨2, ![2, 256]⟩
abbrev S4098x256 : Shape := ⟨2, ![4098, 256]⟩
abbrev S30x256 : Shape := ⟨2, ![30, 256]⟩
abbrev S4126x256 : Shape := ⟨2, ![4126, 256]⟩

abbrev nBuf : Space → Nat
  | .hbm => 439
  | .vmem => 0
  | .smem => 0
  | _ => 0

abbrev hbmTy0_0 (i : Nat) : BufTy := match i % 128 with
  | 0 => ⟨S4096x7684, .f32⟩
  | 1 => ⟨S4x128x128, .f32⟩
  | 2 => ⟨S4x128, .f32⟩
  | 3 => ⟨S256, .f32⟩
  | 4 => ⟨S256, .f32⟩
  | 5 => ⟨S3x256, .f32⟩
  | 6 => ⟨S31x256, .f32⟩
  | 7 => ⟨S256, .f32⟩
  | 8 => ⟨S256, .f32⟩
  | 9 => ⟨S256, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S4096x512, .f32⟩
  | 28 => ⟨S4096x256, .f32⟩
  | 29 => ⟨S4096x256, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x256, .f32⟩
  | 37 => ⟨S4096x256, .f32⟩
  | 38 => ⟨S4096x256, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x256, .f32⟩
  | 50 => ⟨S4096x256, .f32⟩
  | 51 => ⟨S1x256, .f32⟩
  | 52 => ⟨S4096x256, .f32⟩
  | 53 => ⟨S4096x256, .f32⟩
  | 54 => ⟨S1x256, .f32⟩
  | 55 => ⟨S4096x256, .f32⟩
  | 56 => ⟨S4096x256, .f32⟩
  | 57 => ⟨S32x128x4x64, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S1x128x128, .i1⟩
  | 70 => ⟨S_, .f32⟩
  | 71 => ⟨S4x128x128, .f32⟩
  | 72 => ⟨S4x128x128, .i1⟩
  | 73 => ⟨S4x128x128, .f32⟩
  | 74 => ⟨S4x32x64x128, .f32⟩
  | 75 => ⟨S32x128x4x64, .f32⟩
  | 76 => ⟨S128x4, .f32⟩
  | 77 => ⟨S1x128x4x1, .f32⟩
  | 78 => ⟨S32x128x4x64, .f32⟩
  | 79 => ⟨S32x128x4x64, .f32⟩
  | 80 => ⟨S4096x256, .f32⟩
  | 81 => ⟨S4096x256, .f32⟩
  | 82 => ⟨S4096x256, .f32⟩
  | 83 => ⟨S4096x256, .f32⟩
  | 84 => ⟨S4096x256, .f32⟩
  | 85 => ⟨S_, .f32⟩
  | 86 => ⟨S4096x256, .f32⟩
  | 87 => ⟨S4096x256, .f32⟩
  | 88 => ⟨S_, .f32⟩
  | 89 => ⟨S4096x256, .f32⟩
  | 90 => ⟨S4096x256, .f32⟩
  | 91 => ⟨S4096x256, .f32⟩
  | 92 => ⟨S4096x256, .f32⟩
  | 93 => ⟨S4096x768, .f32⟩
  | 94 => ⟨S4096x256, .f32⟩
  | 95 => ⟨S4096x256, .f32⟩
  | 96 => ⟨S4096x256, .f32⟩
  | 97 => ⟨S4096x4x64, .f32⟩
  | 98 => ⟨S4x4096x64, .f32⟩
  | 99 => ⟨S4096x4x64, .f32⟩
  | 100 => ⟨S4x4096x64, .f32⟩
  | 101 => ⟨S4096x4x64, .f32⟩
  | 102 => ⟨S4x4096x64, .f32⟩
  | 103 => ⟨S4096x768, .f32⟩
  | 104 => ⟨S4096x256, .f32⟩
  | 105 => ⟨S4096x256, .f32⟩
  | 106 => ⟨S4096x256, .f32⟩
  | 107 => ⟨S4096x256, .f32⟩
  | 108 => ⟨S_, .f32⟩
  | 109 => ⟨S2x256, .f32⟩
  | 110 => ⟨S4098x256, .f32⟩
  | 111 => ⟨S1x256, .f32⟩
  | 112 => ⟨S256, .f32⟩
  | 113 => ⟨S4096x256, .f32⟩
  | 114 => ⟨S1x256, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256, .f32⟩
  | 121 => ⟨S256, .f32⟩
  | 122 => ⟨S4096x256, .f32⟩
  | 123 => ⟨S1x256, .f32⟩
  | 124 => ⟨S4096x256, .f32⟩
  | 125 => ⟨S4096x256, .f32⟩
  | 126 => ⟨S4096x256, .f32⟩
  | 127 => ⟨S1x256, .f32⟩
  | _ => ⟨S4096x7684, .f32⟩

abbrev hbmTy0_1 (i : Nat) : BufTy := match i % 128 with
  | 0 => ⟨S256, .f32⟩
  | 1 => ⟨S4096x256, .f32⟩
  | 2 => ⟨S1x256, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S4096x256, .f32⟩
  | 18 => ⟨S4096x512, .f32⟩
  | 19 => ⟨S4096x256, .f32⟩
  | 20 => ⟨S4096x256, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S_, .f32⟩
  | 27 => ⟨S4096x256, .f32⟩
  | 28 => ⟨S4096x256, .f32⟩
  | 29 => ⟨S4096x256, .f32⟩
  | 30 => ⟨S_, .f32⟩
  | 31 => ⟨S30x256, .f32⟩
  | 32 => ⟨S4126x256, .f32⟩
  | 33 => ⟨S1x256, .f32⟩
  | 34 => ⟨S256, .f32⟩
  | 35 => ⟨S4096x256, .f32⟩
  | 36 => ⟨S1x256, .f32⟩
  | 37 => ⟨S4096x256, .f32⟩
  | 38 => ⟨S4096x256, .f32⟩
  | 39 => ⟨S_, .f32⟩
  | 40 => ⟨S4096x256, .f32⟩
  | 41 => ⟨S4096x256, .f32⟩
  | 42 => ⟨S1x256, .f32⟩
  | 43 => ⟨S256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S1x256, .f32⟩
  | 50 => ⟨S256, .f32⟩
  | 51 => ⟨S4096x256, .f32⟩
  | 52 => ⟨S1x256, .f32⟩
  | 53 => ⟨S4096x256, .f32⟩
  | 54 => ⟨S4096x256, .f32⟩
  | 55 => ⟨S4096x256, .f32⟩
  | 56 => ⟨S1x256, .f32⟩
  | 57 => ⟨S256, .f32⟩
  | 58 => ⟨S4096x256, .f32⟩
  | 59 => ⟨S1x256, .f32⟩
  | 60 => ⟨S4096x256, .f32⟩
  | 61 => ⟨S4096x256, .f32⟩
  | 62 => ⟨S4096x256, .f32⟩
  | 63 => ⟨S1x256, .f32⟩
  | 64 => ⟨S256, .f32⟩
  | 65 => ⟨S4096x256, .f32⟩
  | 66 => ⟨S1x256, .f32⟩
  | 67 => ⟨S4096x256, .f32⟩
  | 68 => ⟨S4096x256, .f32⟩
  | 69 => ⟨S4096x256, .f32⟩
  | 70 => ⟨S1x256, .f32⟩
  | 71 => ⟨S256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S1x256, .f32⟩
  | 78 => ⟨S256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S1x256, .f32⟩
  | 85 => ⟨S256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S1x256, .f32⟩
  | 92 => ⟨S256, .f32⟩
  | 93 => ⟨S4096x256, .f32⟩
  | 94 => ⟨S1x256, .f32⟩
  | 95 => ⟨S4096x256, .f32⟩
  | 96 => ⟨S4096x256, .f32⟩
  | 97 => ⟨S4096x256, .f32⟩
  | 98 => ⟨S1x256, .f32⟩
  | 99 => ⟨S256, .f32⟩
  | 100 => ⟨S4096x256, .f32⟩
  | 101 => ⟨S1x256, .f32⟩
  | 102 => ⟨S4096x256, .f32⟩
  | 103 => ⟨S4096x256, .f32⟩
  | 104 => ⟨S4096x256, .f32⟩
  | 105 => ⟨S1x256, .f32⟩
  | 106 => ⟨S256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S1x256, .f32⟩
  | 113 => ⟨S256, .f32⟩
  | 114 => ⟨S4096x256, .f32⟩
  | 115 => ⟨S1x256, .f32⟩
  | 116 => ⟨S4096x256, .f32⟩
  | 117 => ⟨S4096x256, .f32⟩
  | 118 => ⟨S4096x256, .f32⟩
  | 119 => ⟨S1x256, .f32⟩
  | 120 => ⟨S256, .f32⟩
  | 121 => ⟨S4096x256, .f32⟩
  | 122 => ⟨S1x256, .f32⟩
  | 123 => ⟨S4096x256, .f32⟩
  | 124 => ⟨S4096x256, .f32⟩
  | 125 => ⟨S4096x256, .f32⟩
  | 126 => ⟨S1x256, .f32⟩
  | 127 => ⟨S256, .f32⟩
  | _ => ⟨S4096x7684, .f32⟩

abbrev hbmTy0_2 (i : Nat) : BufTy := match i % 128 with
  | 0 => ⟨S4096x256, .f32⟩
  | 1 => ⟨S1x256, .f32⟩
  | 2 => ⟨S4096x256, .f32⟩
  | 3 => ⟨S4096x256, .f32⟩
  | 4 => ⟨S4096x256, .f32⟩
  | 5 => ⟨S1x256, .f32⟩
  | 6 => ⟨S256, .f32⟩
  | 7 => ⟨S4096x256, .f32⟩
  | 8 => ⟨S1x256, .f32⟩
  | 9 => ⟨S4096x256, .f32⟩
  | 10 => ⟨S4096x256, .f32⟩
  | 11 => ⟨S4096x256, .f32⟩
  | 12 => ⟨S1x256, .f32⟩
  | 13 => ⟨S256, .f32⟩
  | 14 => ⟨S4096x256, .f32⟩
  | 15 => ⟨S1x256, .f32⟩
  | 16 => ⟨S4096x256, .f32⟩
  | 17 => ⟨S4096x256, .f32⟩
  | 18 => ⟨S4096x256, .f32⟩
  | 19 => ⟨S1x256, .f32⟩
  | 20 => ⟨S256, .f32⟩
  | 21 => ⟨S4096x256, .f32⟩
  | 22 => ⟨S1x256, .f32⟩
  | 23 => ⟨S4096x256, .f32⟩
  | 24 => ⟨S4096x256, .f32⟩
  | 25 => ⟨S4096x256, .f32⟩
  | 26 => ⟨S1x256, .f32⟩
  | 27 => ⟨S256, .f32⟩
  | 28 => ⟨S4096x256, .f32⟩
  | 29 => ⟨S1x256, .f32⟩
  | 30 => ⟨S4096x256, .f32⟩
  | 31 => ⟨S4096x256, .f32⟩
  | 32 => ⟨S4096x256, .f32⟩
  | 33 => ⟨S1x256, .f32⟩
  | 34 => ⟨S256, .f32⟩
  | 35 => ⟨S4096x256, .f32⟩
  | 36 => ⟨S1x256, .f32⟩
  | 37 => ⟨S4096x256, .f32⟩
  | 38 => ⟨S4096x256, .f32⟩
  | 39 => ⟨S4096x256, .f32⟩
  | 40 => ⟨S1x256, .f32⟩
  | 41 => ⟨S256, .f32⟩
  | 42 => ⟨S4096x256, .f32⟩
  | 43 => ⟨S1x256, .f32⟩
  | 44 => ⟨S4096x256, .f32⟩
  | 45 => ⟨S4096x256, .f32⟩
  | 46 => ⟨S4096x256, .f32⟩
  | 47 => ⟨S1x256, .f32⟩
  | 48 => ⟨S256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S1x256, .f32⟩
  | 55 => ⟨S256, .f32⟩
  | 56 => ⟨S4096x256, .f32⟩
  | 57 => ⟨S1x256, .f32⟩
  | 58 => ⟨S4096x256, .f32⟩
  | 59 => ⟨S4096x256, .f32⟩
  | 60 => ⟨S4096x256, .f32⟩
  | 61 => ⟨S1x256, .f32⟩
  | 62 => ⟨S256, .f32⟩
  | 63 => ⟨S4096x256, .f32⟩
  | 64 => ⟨S1x256, .f32⟩
  | 65 => ⟨S4096x256, .f32⟩
  | 66 => ⟨S4096x256, .f32⟩
  | 67 => ⟨S4096x256, .f32⟩
  | 68 => ⟨S1x256, .f32⟩
  | 69 => ⟨S256, .f32⟩
  | 70 => ⟨S4096x256, .f32⟩
  | 71 => ⟨S1x256, .f32⟩
  | 72 => ⟨S4096x256, .f32⟩
  | 73 => ⟨S4096x256, .f32⟩
  | 74 => ⟨S4096x256, .f32⟩
  | 75 => ⟨S1x256, .f32⟩
  | 76 => ⟨S256, .f32⟩
  | 77 => ⟨S4096x256, .f32⟩
  | 78 => ⟨S1x256, .f32⟩
  | 79 => ⟨S4096x256, .f32⟩
  | 80 => ⟨S4096x256, .f32⟩
  | 81 => ⟨S4096x256, .f32⟩
  | 82 => ⟨S1x256, .f32⟩
  | 83 => ⟨S256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S1x256, .f32⟩
  | 90 => ⟨S256, .f32⟩
  | 91 => ⟨S4096x256, .f32⟩
  | 92 => ⟨S1x256, .f32⟩
  | 93 => ⟨S4096x256, .f32⟩
  | 94 => ⟨S4096x256, .f32⟩
  | 95 => ⟨S4096x256, .f32⟩
  | 96 => ⟨S1x256, .f32⟩
  | 97 => ⟨S256, .f32⟩
  | 98 => ⟨S4096x256, .f32⟩
  | 99 => ⟨S1x256, .f32⟩
  | 100 => ⟨S4096x256, .f32⟩
  | 101 => ⟨S4096x256, .f32⟩
  | 102 => ⟨S4096x256, .f32⟩
  | 103 => ⟨S1x256, .f32⟩
  | 104 => ⟨S256, .f32⟩
  | 105 => ⟨S4096x256, .f32⟩
  | 106 => ⟨S1x256, .f32⟩
  | 107 => ⟨S4096x256, .f32⟩
  | 108 => ⟨S4096x256, .f32⟩
  | 109 => ⟨S4096x256, .f32⟩
  | 110 => ⟨S1x256, .f32⟩
  | 111 => ⟨S256, .f32⟩
  | 112 => ⟨S4096x256, .f32⟩
  | 113 => ⟨S1x256, .f32⟩
  | 114 => ⟨S4096x256, .f32⟩
  | 115 => ⟨S4096x256, .f32⟩
  | 116 => ⟨S4096x256, .f32⟩
  | 117 => ⟨S1x256, .f32⟩
  | 118 => ⟨S256, .f32⟩
  | 119 => ⟨S4096x256, .f32⟩
  | 120 => ⟨S1x256, .f32⟩
  | 121 => ⟨S4096x256, .f32⟩
  | 122 => ⟨S4096x256, .f32⟩
  | 123 => ⟨S4096x256, .f32⟩
  | 124 => ⟨S1x256, .f32⟩
  | 125 => ⟨S4096x256, .f32⟩
  | 126 => ⟨S4096x256, .f32⟩
  | 127 => ⟨S_, .f32⟩
  | _ => ⟨S4096x7684, .f32⟩

abbrev hbmTy0_3 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S4096x256, .f32⟩
  | 6 => ⟨S4096x256, .f32⟩
  | 7 => ⟨S4096x256, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x256, .f32⟩
  | 19 => ⟨S4096x256, .f32⟩
  | 20 => ⟨S1x256, .f32⟩
  | 21 => ⟨S4096x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S4096x256, .f32⟩
  | 46 => ⟨S4096x256, .bf16⟩
  | 47 => ⟨S4096x256, .bf16⟩
  | 48 => ⟨S4096x256, .bf16⟩
  | 49 => ⟨S_, .f32⟩
  | 50 => ⟨S4x4096x64, .f32⟩
  | 51 => ⟨S4x4096x64, .f32⟩
  | 52 => ⟨S4x4096x64, .bf16⟩
  | 53 => ⟨S4x4096x64, .bf16⟩
  | 54 => ⟨S4x4096x64, .bf16⟩
  | _ => ⟨S4096x7684, .f32⟩

abbrev hbmTy (i : Nat) : BufTy := match i / 128 with
  | 0 => hbmTy0_0 i
  | 1 => hbmTy0_1 i
  | 2 => hbmTy0_2 i
  | 3 => hbmTy0_3 i
  | _ => ⟨S4096x7684, .f32⟩

abbrev bufTy : (tb : Table) → Fin (tcTables nBuf tb) → BufTy
  | .hbm, ⟨i, _⟩ => hbmTy i
  | _, _ => ⟨S4096x7684, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c : Ref sig .tc := ⟨.hbm, 58, rfl⟩
abbrev main_v39 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_call1_v0 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_9 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_10 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call3_v0 : Ref sig .tc := ⟨.hbm, 136, rfl⟩
abbrev main_call3_v1 : Ref sig .tc := ⟨.hbm, 137, rfl⟩
abbrev main_call3_cst : Ref sig .tc := ⟨.hbm, 138, rfl⟩
abbrev main_call3_v2 : Ref sig .tc := ⟨.hbm, 139, rfl⟩
abbrev main_call3_v3 : Ref sig .tc := ⟨.hbm, 140, rfl⟩
abbrev main_call3_cst_0 : Ref sig .tc := ⟨.hbm, 141, rfl⟩
abbrev main_call3_v4 : Ref sig .tc := ⟨.hbm, 142, rfl⟩
abbrev main_call3_v5 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_11 : Ref sig .tc := ⟨.hbm, 151, rfl⟩
abbrev main_v103 : Ref sig .tc := ⟨.hbm, 152, rfl⟩
abbrev main_v104 : Ref sig .tc := ⟨.hbm, 153, rfl⟩
abbrev main_cst_12 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_13 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_14 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_cst_15 : Ref sig .tc := ⟨.hbm, 383, rfl⟩
abbrev main_v331 : Ref sig .tc := ⟨.hbm, 384, rfl⟩
abbrev main_v332 : Ref sig .tc := ⟨.hbm, 385, rfl⟩
abbrev main_cst_16 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_cst_17 : Ref sig .tc := ⟨.hbm, 392, rfl⟩
abbrev main_v338 : Ref sig .tc := ⟨.hbm, 393, rfl⟩
abbrev main_v339 : Ref sig .tc := ⟨.hbm, 394, rfl⟩
abbrev main_cst_18 : Ref sig .tc := ⟨.hbm, 395, rfl⟩
abbrev main_v340 : Ref sig .tc := ⟨.hbm, 396, rfl⟩
abbrev main_v341 : Ref sig .tc := ⟨.hbm, 397, rfl⟩
abbrev main_cst_19 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_call4_v0 : Ref sig .tc := ⟨.hbm, 410, rfl⟩
abbrev main_call4_v1 : Ref sig .tc := ⟨.hbm, 411, rfl⟩
abbrev main_call4_cst : Ref sig .tc := ⟨.hbm, 412, rfl⟩
abbrev main_call4_v2 : Ref sig .tc := ⟨.hbm, 413, rfl⟩
abbrev main_call4_v3 : Ref sig .tc := ⟨.hbm, 414, rfl⟩
abbrev main_call4_cst_0 : Ref sig .tc := ⟨.hbm, 415, rfl⟩
abbrev main_call4_v4 : Ref sig .tc := ⟨.hbm, 416, rfl⟩
abbrev main_call4_v5 : Ref sig .tc := ⟨.hbm, 417, rfl⟩
abbrev main_v353 : Ref sig .tc := ⟨.hbm, 418, rfl⟩
abbrev main_v354 : Ref sig .tc := ⟨.hbm, 419, rfl⟩
abbrev main_call5_v0 : Ref sig .tc := ⟨.hbm, 420, rfl⟩
abbrev main_call5_v1 : Ref sig .tc := ⟨.hbm, 421, rfl⟩
abbrev main_call5_cst : Ref sig .tc := ⟨.hbm, 422, rfl⟩
abbrev main_call5_v2 : Ref sig .tc := ⟨.hbm, 423, rfl⟩
abbrev main_call5_v3 : Ref sig .tc := ⟨.hbm, 424, rfl⟩
abbrev main_call5_cst_0 : Ref sig .tc := ⟨.hbm, 425, rfl⟩
abbrev main_call5_v4 : Ref sig .tc := ⟨.hbm, 426, rfl⟩
abbrev main_call5_v5 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_cst_20 : Ref sig .tc := ⟨.hbm, 433, rfl⟩
abbrev main_v360 : Ref sig .tc := ⟨.hbm, 434, rfl⟩
abbrev main_v361 : Ref sig .tc := ⟨.hbm, 435, rfl⟩
abbrev main_v362 : Ref sig .tc := ⟨.hbm, 436, rfl⟩
abbrev main_v363 : Ref sig .tc := ⟨.hbm, 437, rfl⟩
abbrev main_v364 : Ref sig .tc := ⟨.hbm, 438, rfl⟩

abbrev nD : Nat := 1
abbrev τ : Topo := Topo.v7x

variable {F : FTy → Type} [FloatOps F]
-- ==== NnK.lean ====
abbrev S4096x1024 : Shape := ⟨2, ![4096, 1024]⟩
abbrev S1024x7684 : Shape := ⟨2, ![1024, 7684]⟩
abbrev S1024x1536 : Shape := ⟨2, ![1024, 1536]⟩
abbrev S1024x256 : Shape := ⟨2, ![1024, 256]⟩
abbrev S1024x1024 : Shape := ⟨2, ![1024, 1024]⟩
abbrev S1024x512 : Shape := ⟨2, ![1024, 512]⟩
abbrev S1024x3584 : Shape := ⟨2, ![1024, 3584]⟩
abbrev S1024x4096 : Shape := ⟨2, ![1024, 4096]⟩
abbrev S1024x4 : Shape := ⟨2, ![1024, 4]⟩
abbrev S4096x4096 : Shape := ⟨2, ![4096, 4096]⟩
abbrev S1024x2048 : Shape := ⟨2, ![1024, 2048]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x7684, .f32⟩
  | .hbm, ⟨2, _⟩ => ⟨S4096x1024, .bf16⟩
  | .hbm, ⟨3, _⟩ => ⟨S1024x1536, .f32⟩
  | .hbm, ⟨4, _⟩ => ⟨S1024x256, .f32⟩
  | .hbm, ⟨5, _⟩ => ⟨S1024x256, .f32⟩
  | .hbm, ⟨6, _⟩ => ⟨S1024x1024, .f32⟩
  | .hbm, ⟨7, _⟩ => ⟨S1024x512, .f32⟩
  | .hbm, ⟨8, _⟩ => ⟨S1024x3584, .f32⟩
  | .hbm, ⟨9, _⟩ => ⟨S1024x4096, .f32⟩
  | .hbm, ⟨10, _⟩ => ⟨S1024x4, .f32⟩
  | .hbm, ⟨11, _⟩ => ⟨S1024x4096, .bf16⟩
  | .hbm, ⟨12, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NnRIdeal.lean ====
abbrev S4096x1024 : Shape := ⟨2, ![4096, 1024]⟩
abbrev S1024x7684 : Shape := ⟨2, ![1024, 7684]⟩
abbrev S4096x7684 : Shape := ⟨2, ![4096, 7684]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7684, .f32⟩
  | .hbm, ⟨2, _⟩ => ⟨S4096x7684, .f32⟩
  | .hbm, ⟨3, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== TnK.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnRIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhK.lean ====
abbrev S4096x7684 : Shape := ⟨2, ![4096, 7684]⟩
abbrev S1024x7684 : Shape := ⟨2, ![1024, 7684]⟩
abbrev S4096x1536 : Shape := ⟨2, ![4096, 1536]⟩
abbrev S4096x256 : Shape := ⟨2, ![4096, 256]⟩
abbrev S4096x1024 : Shape := ⟨2, ![4096, 1024]⟩
abbrev S4096x512 : Shape := ⟨2, ![4096, 512]⟩
abbrev S4096x3584 : Shape := ⟨2, ![4096, 3584]⟩
abbrev S4096x4096 : Shape := ⟨2, ![4096, 4096]⟩
abbrev S4096x4 : Shape := ⟨2, ![4096, 4]⟩
abbrev S1024x1536 : Shape := ⟨2, ![1024, 1536]⟩
abbrev S1024x256 : Shape := ⟨2, ![1024, 256]⟩
abbrev S1024x1024 : Shape := ⟨2, ![1024, 1024]⟩
abbrev S1024x512 : Shape := ⟨2, ![1024, 512]⟩
abbrev S1024x3584 : Shape := ⟨2, ![1024, 3584]⟩
abbrev S1024x4096 : Shape := ⟨2, ![1024, 4096]⟩
abbrev S1024x4 : Shape := ⟨2, ![1024, 4]⟩
abbrev S_ : Shape := ⟨0, ![]⟩
abbrev S4096x128 : Shape := ⟨2, ![4096, 128]⟩
abbrev S1024x128 : Shape := ⟨2, ![1024, 128]⟩
abbrev S1024x896 : Shape := ⟨2, ![1024, 896]⟩

abbrev nBuf : Space → Nat
  | .hbm => 31
  | .vmem => 13
  | .smem => 0
  | _ => 0

abbrev bufTy : (tb : Table) → Fin (tcTables nBuf tb) → BufTy
  | .hbm, ⟨0, _⟩ => ⟨S4096x7684, .f32⟩
  | .hbm, ⟨1, _⟩ => ⟨S1024x7684, .f32⟩
  | .hbm, ⟨2, _⟩ => ⟨S4096x1536, .f32⟩
  | .hbm, ⟨3, _⟩ => ⟨S4096x256, .f32⟩
  | .hbm, ⟨4, _⟩ => ⟨S4096x256, .f32⟩
  | .hbm, ⟨5, _⟩ => ⟨S4096x1024, .f32⟩
  | .hbm, ⟨6, _⟩ => ⟨S4096x512, .f32⟩
  | .hbm, ⟨7, _⟩ => ⟨S4096x3584, .f32⟩
  | .hbm, ⟨8, _⟩ => ⟨S4096x4096, .f32⟩
  | .hbm, ⟨9, _⟩ => ⟨S4096x4, .f32⟩
  | .hbm, ⟨10, _⟩ => ⟨S1024x1536, .f32⟩
  | .hbm, ⟨11, _⟩ => ⟨S1024x256, .f32⟩
  | .hbm, ⟨12, _⟩ => ⟨S1024x256, .f32⟩
  | .hbm, ⟨13, _⟩ => ⟨S1024x1024, .f32⟩
  | .hbm, ⟨14, _⟩ => ⟨S1024x512, .f32⟩
  | .hbm, ⟨15, _⟩ => ⟨S1024x3584, .f32⟩
  | .hbm, ⟨16, _⟩ => ⟨S1024x4096, .f32⟩
  | .hbm, ⟨17, _⟩ => ⟨S1024x4, .f32⟩
  | .hbm, ⟨18, _⟩ => ⟨S4096x3584, .bf16⟩
  | .hbm, ⟨19, _⟩ => ⟨S4096x4096, .bf16⟩
  | .hbm, ⟨20, _⟩ => ⟨S_, .i32⟩
  | .hbm, ⟨21, _⟩ => ⟨S_, .f32⟩
  | .hbm, ⟨22, _⟩ => ⟨S4096x128, .f32⟩
  | .hbm, ⟨23, _⟩ => ⟨S4096x128, .bf16⟩
  | .hbm, ⟨24, _⟩ => ⟨S1024x3584, .bf16⟩
  | .hbm, ⟨25, _⟩ => ⟨S1024x4096, .bf16⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x128, .bf16⟩
  | .hbm, ⟨30, _⟩ => ⟨S4096x1024, .f32⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S1024x128, .bf16⟩
  | .local _ .vmem, ⟨6, _⟩ => ⟨S1024x896, .bf16⟩
  | .local _ .vmem, ⟨7, _⟩ => ⟨S1024x896, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x1024, .f32⟩
  | .local _ .vmem, ⟨12, _⟩ => ⟨S1024x1024, .f32⟩
  | _, _ => ⟨S4096x7684, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DhRIdeal.lean ====
abbrev S4096x7684 : Shape := ⟨2, ![4096, 7684]⟩
abbrev S1024x7684 : Shape := ⟨2, ![1024, 7684]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x7684, .f32⟩
  | .hbm, ⟨1, _⟩ => ⟨S1024x7684, .f32⟩
  | .hbm, ⟨2, _⟩ => ⟨S_, .f32⟩
  | .hbm, ⟨3, _⟩ => ⟨S4096x1024, .f32⟩
  | .hbm, ⟨4, _⟩ => ⟨S4096x7684, .f32⟩
  | .hbm, ⟨5, _⟩ => ⟨S4096x1024, .f32⟩
  | _, _ => ⟨S4096x7684, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumK.lean ====
abbrev S8x128x4096 : Shape := ⟨3, ![8, 128, 4096]⟩
abbrev S128x4096 : Shape := ⟨2, ![128, 4096]⟩
abbrev S8x64x4096 : Shape := ⟨3, ![8, 64, 4096]⟩
abbrev S64x4096 : Shape := ⟨2, ![64, 4096]⟩
abbrev S1x64x4096 : Shape := ⟨3, ![1, 64, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8x128x4096, .bf16⟩
  | .hbm, ⟨1, _⟩ => ⟨S128x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S64x4096, .f32⟩
  | .local _ .vmem, ⟨3, _⟩ => ⟨S64x4096, .f32⟩
  | _, _ => ⟨S8x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRIdeal.lean ====
abbrev S8x128x4096 : Shape := ⟨3, ![8, 128, 4096]⟩
abbrev S_ : Shape := ⟨0, ![]⟩
abbrev S128x4096 : Shape := ⟨2, ![128, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8x128x4096, .bf16⟩
  | .hbm, ⟨1, _⟩ => ⟨S8x128x4096, .f32⟩
  | .hbm, ⟨2, _⟩ => ⟨S_, .f32⟩
  | .hbm, ⟨3, _⟩ => ⟨S128x4096, .f32⟩
  | _, _ => ⟨S8x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixK.lean ====
abbrev S4096x7684 : Shape := ⟨2, ![4096, 7684]⟩
abbrev S4x128x128 : Shape := ⟨3, ![4, 128, 128]⟩
abbrev S4x128 : Shape := ⟨2, ![4, 128]⟩
abbrev S256 : Shape := ⟨1, ![256]⟩
abbrev S3x256 : Shape := ⟨2, ![3, 256]⟩
abbrev S31x256 : Shape := ⟨2, ![31, 256]⟩
abbrev S4096x256 : Shape := ⟨2, ![4096, 256]⟩
abbrev S4x4096x64 : Shape := ⟨3, ![4, 4096, 64]⟩
abbrev S4096x1536 : Shape := ⟨2, ![4096, 1536]⟩
abbrev S4096x1024 : Shape := ⟨2, ![4096, 1024]⟩
abbrev S4096x512 : Shape := ⟨2, ![4096, 512]⟩
abbrev S4096x3584 : Shape := ⟨2, ![4096, 3584]⟩
abbrev S4096x4096 : Shape := ⟨2, ![4096, 4096]⟩
abbrev S4096x4 : Shape := ⟨2, ![4096, 4]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8x256 : Shape := ⟨2, ![8, 256]⟩
abbrev S32x256 : Shape := ⟨2, ![32, 256]⟩
abbrev S30x256 : Shape := ⟨2, ![30, 256]⟩
abbrev S4126x256 : Shape := ⟨2, ![4126, 256]⟩
abbrev S16x256 : Shape := ⟨2, ![16, 256]⟩
abbrev S64x256 : Shape := ⟨2, ![64, 256]⟩
abbrev S256x256 : Shape := ⟨2, ![256, 256]⟩
abbrev S512x3584 : Shape := ⟨2, ![512, 3584]⟩
abbrev S32x3584 : Shape := ⟨2, ![32, 3584]⟩
abbrev S512x256 : Shape := ⟨2, ![512, 256]⟩
abbrev S4x512x64 : Shape := ⟨3, ![4, 512, 64]⟩
abbrev S544x256 : Shape := ⟨2, ![544, 256]⟩
abbrev S128x512 : Shape := ⟨2, ![128, 512]⟩
abbrev S128 : Shape := ⟨1, ![128]⟩
abbrev S128x1 : Shape := ⟨2, ![128, 1]⟩
abbrev S1x512x64 : Shape := ⟨3, ![1, 512, 64]⟩
abbrev S512x64 : Shape := ⟨2, ![512, 64]⟩
abbrev S72x256 : Shape := ⟨2, ![72, 256]⟩
abbrev S64 : Shape := ⟨1, ![64]⟩
abbrev S64x1 : Shape := ⟨2, ![64, 1]⟩
abbrev S32 : Shape := ⟨1, ![32]⟩
abbrev S32x1 : Shape := ⟨2, ![32, 1]⟩
abbrev S96x256 : Shape := ⟨2, ![96, 256]⟩
abbrev S8x8x256 : Shape := ⟨3, ![8, 8, 256]⟩
abbrev S32x8x256 : Shape := ⟨3, ![32, 8, 256]⟩

abbrev nBuf : Space → Nat
  | .hbm => 329
  | .vmem => 49
  | .smem => 0
  | _ => 0

abbrev hbmTy0_0 (i : Nat) : BufTy := match i % 128 with
  | 0 => ⟨S4096x7684, .f32⟩
  | 1 => ⟨S4x128x128, .f32⟩
  | 2 => ⟨S4x128, .f32⟩
  | 3 => ⟨S256, .f32⟩
  | 4 => ⟨S256, .f32⟩
  | 5 => ⟨S3x256, .f32⟩
  | 6 => ⟨S31x256, .f32⟩
  | 7 => ⟨S256, .f32⟩
  | 8 => ⟨S256, .f32⟩
  | 9 => ⟨S256, .f32⟩
  | 10 => ⟨S4096x256, .f32⟩
  | 11 => ⟨S4x4096x64, .f32⟩
  | 12 => ⟨S4x4096x64, .f32⟩
  | 13 => ⟨S4x4096x64, .f32⟩
  | 14 => ⟨S4096x256, .f32⟩
  | 15 => ⟨S4096x256, .f32⟩
  | 16 => ⟨S4096x256, .f32⟩
  | 17 => ⟨S4096x1536, .f32⟩
  | 18 => ⟨S4096x256, .f32⟩
  | 19 => ⟨S4096x256, .f32⟩
  | 20 => ⟨S4096x1024, .f32⟩
  | 21 => ⟨S4096x512, .f32⟩
  | 22 => ⟨S4096x3584, .f32⟩
  | 23 => ⟨S4096x4096, .f32⟩
  | 24 => ⟨S4096x4, .f32⟩
  | 25 => ⟨S_, .i1⟩
  | 26 => ⟨S128x128, .i1⟩
  | 27 => ⟨S128x128, .i32⟩
  | 28 => ⟨S_, .i32⟩
  | 29 => ⟨S128x128, .i32⟩
  | 30 => ⟨S128x128, .i32⟩
  | 31 => ⟨S128x128, .i32⟩
  | 32 => ⟨S128x128, .i1⟩
  | 33 => ⟨S_, .i1⟩
  | 34 => ⟨S128x128, .i1⟩
  | 35 => ⟨S128x128, .i1⟩
  | 36 => ⟨S1x128x128, .i1⟩
  | 37 => ⟨S_, .f32⟩
  | 38 => ⟨S_, .f32⟩
  | 39 => ⟨S4x128x128, .i1⟩
  | 40 => ⟨S4x128x128, .f32⟩
  | 41 => ⟨S4x128x128, .f32⟩
  | 42 => ⟨S4x128x128, .bf16⟩
  | 43 => ⟨S4x128x128, .f32⟩
  | 44 => ⟨S4x128x128, .bf16⟩
  | 45 => ⟨S128x4, .f32⟩
  | 46 => ⟨S128x4x64, .f32⟩
  | 47 => ⟨S128x256, .f32⟩
  | 48 => ⟨S1x256, .f32⟩
  | 49 => ⟨S1x256, .f32⟩
  | 50 => ⟨S_, .i32⟩
  | 51 => ⟨S_, .f32⟩
  | 52 => ⟨S8x256, .f32⟩
  | 53 => ⟨S_, .i32⟩
  | 54 => ⟨S_, .f32⟩
  | 55 => ⟨S32x256, .f32⟩
  | 56 => ⟨S1x256, .f32⟩
  | 57 => ⟨S1x256, .f32⟩
  | 58 => ⟨S1x256, .f32⟩
  | 59 => ⟨S4096x256, .f32⟩
  | 60 => ⟨S4096x256, .f32⟩
  | 61 => ⟨S4096x256, .f32⟩
  | 62 => ⟨S4096x256, .f32⟩
  | 63 => ⟨S_, .f32⟩
  | 64 => ⟨S4096x256, .f32⟩
  | 65 => ⟨S4096x256, .f32⟩
  | 66 => ⟨S_, .f32⟩
  | 67 => ⟨S4096x256, .f32⟩
  | 68 => ⟨S4096x256, .f32⟩
  | 69 => ⟨S4096x256, .f32⟩
  | 70 => ⟨S_, .f32⟩
  | 71 => ⟨S30x256, .f32⟩
  | 72 => ⟨S4126x256, .f32⟩
  | 73 => ⟨S1x256, .f32⟩
  | 74 => ⟨S256, .f32⟩
  | 75 => ⟨S4096x256, .f32⟩
  | 76 => ⟨S1x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S1x256, .f32⟩
  | 83 => ⟨S256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S1x256, .f32⟩
  | 90 => ⟨S256, .f32⟩
  | 91 => ⟨S4096x256, .f32⟩
  | 92 => ⟨S1x256, .f32⟩
  | 93 => ⟨S4096x256, .f32⟩
  | 94 => ⟨S4096x256, .f32⟩
  | 95 => ⟨S4096x256, .f32⟩
  | 96 => ⟨S1x256, .f32⟩
  | 97 => ⟨S256, .f32⟩
  | 98 => ⟨S4096x256, .f32⟩
  | 99 => ⟨S1x256, .f32⟩
  | 100 => ⟨S4096x256, .f32⟩
  | 101 => ⟨S4096x256, .f32⟩
  | 102 => ⟨S4096x256, .f32⟩
  | 103 => ⟨S1x256, .f32⟩
  | 104 => ⟨S256, .f32⟩
  | 105 => ⟨S4096x256, .f32⟩
  | 106 => ⟨S1x256, .f32⟩
  | 107 => ⟨S4096x256, .f32⟩
  | 108 => ⟨S4096x256, .f32⟩
  | 109 => ⟨S4096x256, .f32⟩
  | 110 => ⟨S1x256, .f32⟩
  | 111 => ⟨S256, .f32⟩
  | 112 => ⟨S4096x256, .f32⟩
  | 113 => ⟨S1x256, .f32⟩
  | 114 => ⟨S4096x256, .f32⟩
  | 115 => ⟨S4096x256, .f32⟩
  | 116 => ⟨S4096x256, .f32⟩
  | 117 => ⟨S1x256, .f32⟩
  | 118 => ⟨S256, .f32⟩
  | 119 => ⟨S4096x256, .f32⟩
  | 120 => ⟨S1x256, .f32⟩
  | 121 => ⟨S4096x256, .f32⟩
  | 122 => ⟨S4096x256, .f32⟩
  | 123 => ⟨S4096x256, .f32⟩
  | 124 => ⟨S1x256, .f32⟩
  | 125 => ⟨S256, .f32⟩
  | 126 => ⟨S4096x256, .f32⟩
  | 127 => ⟨S1x256, .f32⟩
  | _ => ⟨S4096x7684, .f32⟩

abbrev hbmTy0_1 (i : Nat) : BufTy := match i % 128 with
  | 0 => ⟨S4096x256, .f32⟩
  | 1 => ⟨S4096x256, .f32⟩
  | 2 => ⟨S4096x256, .f32⟩
  | 3 => ⟨S1x256, .f32⟩
  | 4 => ⟨S256, .f32⟩
  | 5 => ⟨S4096x256, .f32⟩
  | 6 => ⟨S1x256, .f32⟩
  | 7 => ⟨S4096x256, .f32⟩
  | 8 => ⟨S4096x256, .f32⟩
  | 9 => ⟨S4096x256, .f32⟩
  | 10 => ⟨S1x256, .f32⟩
  | 11 => ⟨S256, .f32⟩
  | 12 => ⟨S4096x256, .f32⟩
  | 13 => ⟨S1x256, .f32⟩
  | 14 => ⟨S4096x256, .f32⟩
  | 15 => ⟨S4096x256, .f32⟩
  | 16 => ⟨S4096x256, .f32⟩
  | 17 => ⟨S1x256, .f32⟩
  | 18 => ⟨S256, .f32⟩
  | 19 => ⟨S4096x256, .f32⟩
  | 20 => ⟨S1x256, .f32⟩
  | 21 => ⟨S4096x256, .f32⟩
  | 22 => ⟨S4096x256, .f32⟩
  | 23 => ⟨S4096x256, .f32⟩
  | 24 => ⟨S1x256, .f32⟩
  | 25 => ⟨S256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S1x256, .f32⟩
  | 32 => ⟨S256, .f32⟩
  | 33 => ⟨S4096x256, .f32⟩
  | 34 => ⟨S1x256, .f32⟩
  | 35 => ⟨S4096x256, .f32⟩
  | 36 => ⟨S4096x256, .f32⟩
  | 37 => ⟨S4096x256, .f32⟩
  | 38 => ⟨S1x256, .f32⟩
  | 39 => ⟨S256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S1x256, .f32⟩
  | 46 => ⟨S256, .f32⟩
  | 47 => ⟨S4096x256, .f32⟩
  | 48 => ⟨S1x256, .f32⟩
  | 49 => ⟨S4096x256, .f32⟩
  | 50 => ⟨S4096x256, .f32⟩
  | 51 => ⟨S4096x256, .f32⟩
  | 52 => ⟨S1x256, .f32⟩
  | 53 => ⟨S256, .f32⟩
  | 54 => ⟨S4096x256, .f32⟩
  | 55 => ⟨S1x256, .f32⟩
  | 56 => ⟨S4096x256, .f32⟩
  | 57 => ⟨S4096x256, .f32⟩
  | 58 => ⟨S4096x256, .f32⟩
  | 59 => ⟨S1x256, .f32⟩
  | 60 => ⟨S256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S1x256, .f32⟩
  | 67 => ⟨S256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S1x256, .f32⟩
  | 74 => ⟨S256, .f32⟩
  | 75 => ⟨S4096x256, .f32⟩
  | 76 => ⟨S1x256, .f32⟩
  | 77 => ⟨S4096x256, .f32⟩
  | 78 => ⟨S4096x256, .f32⟩
  | 79 => ⟨S4096x256, .f32⟩
  | 80 => ⟨S1x256, .f32⟩
  | 81 => ⟨S256, .f32⟩
  | 82 => ⟨S4096x256, .f32⟩
  | 83 => ⟨S1x256, .f32⟩
  | 84 => ⟨S4096x256, .f32⟩
  | 85 => ⟨S4096x256, .f32⟩
  | 86 => ⟨S4096x256, .f32⟩
  | 87 => ⟨S1x256, .f32⟩
  | 88 => ⟨S256, .f32⟩
  | 89 => ⟨S4096x256, .f32⟩
  | 90 => ⟨S1x256, .f32⟩
  | 91 => ⟨S4096x256, .f32⟩
  | 92 => ⟨S4096x256, .f32⟩
  | 93 => ⟨S4096x256, .f32⟩
  | 94 => ⟨S1x256, .f32⟩
  | 95 => ⟨S256, .f32⟩
  | 96 => ⟨S4096x256, .f32⟩
  | 97 => ⟨S1x256, .f32⟩
  | 98 => ⟨S4096x256, .f32⟩
  | 99 => ⟨S4096x256, .f32⟩
  | 100 => ⟨S4096x256, .f32⟩
  | 101 => ⟨S1x256, .f32⟩
  | 102 => ⟨S256, .f32⟩
  | 103 => ⟨S4096x256, .f32⟩
  | 104 => ⟨S1x256, .f32⟩
  | 105 => ⟨S4096x256, .f32⟩
  | 106 => ⟨S4096x256, .f32⟩
  | 107 => ⟨S4096x256, .f32⟩
  | 108 => ⟨S1x256, .f32⟩
  | 109 => ⟨S256, .f32⟩
  | 110 => ⟨S4096x256, .f32⟩
  | 111 => ⟨S1x256, .f32⟩
  | 112 => ⟨S4096x256, .f32⟩
  | 113 => ⟨S4096x256, .f32⟩
  | 114 => ⟨S4096x256, .f32⟩
  | 115 => ⟨S1x256, .f32⟩
  | 116 => ⟨S256, .f32⟩
  | 117 => ⟨S4096x256, .f32⟩
  | 118 => ⟨S1x256, .f32⟩
  | 119 => ⟨S4096x256, .f32⟩
  | 120 => ⟨S4096x256, .f32⟩
  | 121 => ⟨S4096x256, .f32⟩
  | 122 => ⟨S1x256, .f32⟩
  | 123 => ⟨S256, .f32⟩
  | 124 => ⟨S4096x256, .f32⟩
  | 125 => ⟨S1x256, .f32⟩
  | 126 => ⟨S4096x256, .f32⟩
  | 127 => ⟨S4096x256, .f32⟩
  | _ => ⟨S4096x7684, .f32⟩

abbrev hbmTy0_2 (i : Nat) : BufTy := match i % 128 with
  | 0 => ⟨S4096x256, .f32⟩
  | 1 => ⟨S1x256, .f32⟩
  | 2 => ⟨S256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S1x256, .f32⟩
  | 9 => ⟨S256, .f32⟩
  | 10 => ⟨S4096x256, .f32⟩
  | 11 => ⟨S1x256, .f32⟩
  | 12 => ⟨S4096x256, .f32⟩
  | 13 => ⟨S4096x256, .f32⟩
  | 14 => ⟨S4096x256, .f32⟩
  | 15 => ⟨S1x256, .f32⟩
  | 16 => ⟨S256, .f32⟩
  | 17 => ⟨S4096x256, .f32⟩
  | 18 => ⟨S1x256, .f32⟩
  | 19 => ⟨S4096x256, .f32⟩
  | 20 => ⟨S4096x256, .f32⟩
  | 21 => ⟨S4096x256, .f32⟩
  | 22 => ⟨S1x256, .f32⟩
  | 23 => ⟨S256, .f32⟩
  | 24 => ⟨S4096x256, .f32⟩
  | 25 => ⟨S1x256, .f32⟩
  | 26 => ⟨S4096x256, .f32⟩
  | 27 => ⟨S4096x256, .f32⟩
  | 28 => ⟨S4096x256, .f32⟩
  | 29 => ⟨S1x256, .f32⟩
  | 30 => ⟨S256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S1x256, .f32⟩
  | 37 => ⟨S4096x256, .f32⟩
  | 38 => ⟨S4096x256, .f32⟩
  | 39 => ⟨S4096x3584, .bf16⟩
  | 40 => ⟨S4x128x128, .f32⟩
  | 41 => ⟨S128x256, .f32⟩
  | 42 => ⟨S16x256, .f32⟩
  | 43 => ⟨S64x256, .f32⟩
  | 44 => ⟨S256x256, .f32⟩
  | 45 => ⟨S1x128x128, .i1⟩
  | 46 => ⟨S_, .f32⟩
  | 47 => ⟨S_, .f32⟩
  | 48 => ⟨S4x128x128, .i1⟩
  | 49 => ⟨S4x128x128, .f32⟩
  | 50 => ⟨S4x128x128, .f32⟩
  | 51 => ⟨S128x4x64, .f32⟩
  | 52 => ⟨S_, .f32⟩
  | 53 => ⟨S128x4, .f32⟩
  | 54 => ⟨S4x128, .f32⟩
  | 55 => ⟨S1x256, .f32⟩
  | 56 => ⟨S256, .f32⟩
  | 57 => ⟨S1x256, .f32⟩
  | 58 => ⟨S256, .f32⟩
  | 59 => ⟨S8x8x256, .f32⟩
  | 60 => ⟨S_, .f32⟩
  | 61 => ⟨S8x256, .f32⟩
  | 62 => ⟨S3x256, .f32⟩
  | 63 => ⟨S32x8x256, .f32⟩
  | 64 => ⟨S_, .f32⟩
  | 65 => ⟨S32x256, .f32⟩
  | 66 => ⟨S31x256, .f32⟩
  | 67 => ⟨S1x256, .f32⟩
  | 68 => ⟨S256, .f32⟩
  | 69 => ⟨S1x256, .f32⟩
  | 70 => ⟨S256, .f32⟩
  | 71 => ⟨S1x256, .f32⟩
  | 72 => ⟨S256, .f32⟩
  | _ => ⟨S4096x7684, .f32⟩

abbrev hbmTy (i : Nat) : BufTy := match i / 128 with
  | 0 => hbmTy0_0 i
  | 1 => hbmTy0_1 i
  | 2 => hbmTy0_2 i
  | _ => ⟨S4096x7684, .f32⟩

abbrev bufTy : (tb : Table) → Fin (tcTables nBuf tb) → BufTy
  | .hbm, ⟨i, _⟩ => hbmTy i
  | .local _ .vmem, ⟨0, _⟩ => ⟨S512x3584, .f32⟩
  | .local _ .vmem, ⟨1, _⟩ => ⟨S512x3584, .f32⟩
  | .local _ .vmem, ⟨2, _⟩ => ⟨S32x3584, .f32⟩
  | .local _ .vmem, ⟨3, _⟩ => ⟨S32x3584, .f32⟩
  | .local _ .vmem, ⟨4, _⟩ => ⟨S32x3584, .f32⟩
  | .local _ .vmem, ⟨5, _⟩ => ⟨S32x3584, .f32⟩
  | .local _ .vmem, ⟨6, _⟩ => ⟨S512x256, .f32⟩
  | .local _ .vmem, ⟨7, _⟩ => ⟨S512x256, .f32⟩
  | .local _ .vmem, ⟨8, _⟩ => ⟨S32x256, .f32⟩
  | .local _ .vmem, ⟨9, _⟩ => ⟨S32x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S32x256, .f32⟩
  | .local _ .vmem, ⟨15, _⟩ => ⟨S32x256, .f32⟩
  | .local _ .vmem, ⟨16, _⟩ => ⟨S512x256, .f32⟩
  | .local _ .vmem, ⟨17, _⟩ => ⟨S512x256, .f32⟩
  | .local _ .vmem, ⟨18, _⟩ => ⟨S32x256, .f32⟩
  | .local _ .vmem, ⟨19, _⟩ => ⟨S32x256, .f32⟩
  | .local _ .vmem, ⟨20, _⟩ => ⟨S4x512x64, .f32⟩
  | .local _ .vmem, ⟨21, _⟩ => ⟨S4x512x64, .f32⟩
  | .local _ .vmem, ⟨22, _⟩ => ⟨S4x512x64, .f32⟩
  | .local _ .vmem, ⟨23, _⟩ => ⟨S4x512x64, .f32⟩
  | .local _ .vmem, ⟨24, _⟩ => ⟨S4x512x64, .f32⟩
  | .local _ .vmem, ⟨25, _⟩ => ⟨S4x512x64, .f32⟩
  | .local _ .vmem, ⟨26, _⟩ => ⟨S512x256, .f32⟩
  | .local _ .vmem, ⟨27, _⟩ => ⟨S512x256, .f32⟩
  | .local _ .vmem, ⟨28, _⟩ => ⟨S4x128x128, .bf16⟩
  | .local _ .vmem, ⟨29, _⟩ => ⟨S4x128x128, .bf16⟩
  | .local _ .vmem, ⟨30, _⟩ => ⟨S128x256, .f32⟩
  | .local _ .vmem, ⟨31, _⟩ => ⟨S1x256, .f32⟩
  | .local _ .vmem, ⟨32, _⟩ => ⟨S1x256, .f32⟩
  | .local _ .vmem, ⟨33, _⟩ => ⟨S8x256, .f32⟩
  | .local _ .vmem, ⟨34, _⟩ => ⟨S32x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S512x3584, .bf16⟩
  | .local _ .vmem, ⟨39, _⟩ => ⟨S512x3584, .bf16⟩
  | .local _ .vmem, ⟨40, _⟩ => ⟨S4x128x128, .f32⟩
  | .local _ .vmem, ⟨41, _⟩ => ⟨S128x256, .f32⟩
  | .local _ .vmem, ⟨42, _⟩ => ⟨S16x256, .f32⟩
  | .local _ .vmem, ⟨43, _⟩ => ⟨S64x256, .f32⟩
  | .local _ .vmem, ⟨44, _⟩ => ⟨S256x256, .f32⟩
  | .local _ .vmem, ⟨45, _⟩ => ⟨S544x256, .f32⟩
  | .local _ .vmem, ⟨46, _⟩ => ⟨S544x256, .f32⟩
  | .local _ .vmem, ⟨47, _⟩ => ⟨S544x256, .f32⟩
  | .local _ .vmem, ⟨48, _⟩ => ⟨S544x256, .f32⟩
  | _, _ => ⟨S4096x7684, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_0 : Ref sig .tc := ⟨.hbm, 50, rfl⟩
abbrev main_call2_v0 : Ref sig .tc := ⟨.hbm, 51, rfl⟩
abbrev main_v20 : Ref sig .tc := ⟨.hbm, 52, rfl⟩
abbrev main_c_1 : Ref sig .tc := ⟨.hbm, 53, rfl⟩
abbrev main_call3_v0 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_cst_3 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_4 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_5 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257_0 : Ref sig .tc := ⟨.hbm, 295, rfl⟩
abbrev main_v257_1 : Ref sig .tc := ⟨.hbm, 296, rfl⟩
abbrev main_v257_2 : Ref sig .tc := ⟨.hbm, 297, rfl⟩
abbrev main_v257_3 : Ref sig .tc := ⟨.hbm, 298, rfl⟩
abbrev main_v257_4 : Ref sig .tc := ⟨.hbm, 299, rfl⟩
abbrev main_v257_5 : Ref sig .tc := ⟨.hbm, 300, rfl⟩
abbrev main_v258 : Ref sig .tc := ⟨.hbm, 301, rfl⟩
abbrev main_cst_6 : Ref sig .tc := ⟨.hbm, 302, rfl⟩
abbrev main_call4_v0 : Ref sig .tc := ⟨.hbm, 303, rfl⟩
abbrev main_call4_v1 : Ref sig .tc := ⟨.hbm, 304, rfl⟩
abbrev main_call4_v2 : Ref sig .tc := ⟨.hbm, 305, rfl⟩
abbrev main_v259 : Ref sig .tc := ⟨.hbm, 306, rfl⟩
abbrev main_v260 : Ref sig .tc := ⟨.hbm, 307, rfl⟩
abbrev main_cst_7 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_cst_8 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_cst_9 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg28_0 : Ref sig .tc := ⟨.vmem, 43, rfl⟩
abbrev cc0_stg29_0 : Ref sig .tc := ⟨.vmem, 44, rfl⟩
abbrev cc0_scratch0 : Ref sig .tc := ⟨.vmem, 45, rfl⟩
abbrev cc0_scratch1 : Ref sig .tc := ⟨.vmem, 46, rfl⟩
abbrev cc0_scratch2 : Ref sig .tc := ⟨.vmem, 47, rfl⟩
abbrev cc0_scratch3 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem24_1 : DmaSem sig := 39
abbrev cc0_sem25_0 : DmaSem sig := 40
abbrev cc0_sem26_0 : DmaSem sig := 41
abbrev cc0_sem27_0 : DmaSem sig := 42
abbrev cc0_sem28_0 : DmaSem sig := 43
abbrev cc0_sem29_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x3584 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S4x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S16x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S64x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S256x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== MixRIdeal.lean ====
abbrev S4096x7684 : Shape := ⟨2, ![4096, 7684]⟩
abbrev S4x128x128 : Shape := ⟨3, ![4, 128, 128]⟩
abbrev S4x128 : Shape := ⟨2, ![4, 128]⟩
abbrev S256 : Shape := ⟨1, ![256]⟩
abbrev S3x256 : Shape := ⟨2, ![3, 256]⟩
abbrev S31x256 : Shape := ⟨2, ![31, 256]⟩
abbrev S4096x256 : Shape := ⟨2, ![4096, 256]⟩
abbrev S4x4096x64 : Shape := ⟨3, ![4, 4096, 64]⟩
abbrev S4096x512 : Shape := ⟨2, ![4096, 512]⟩
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S32x128x4x64 : Shape := ⟨4, ![32, 128, 4, 64]⟩
abbrev S128x128 : Shape := ⟨2, ![128, 128]⟩
abbrev S1x128x128 : Shape := ⟨3, ![1, 128, 128]⟩
abbrev S4x32x64x128 : Shape := ⟨4, ![4, 32, 64, 128]⟩
abbrev S128x4 : Shape := ⟨2, ![128, 4]⟩
abbrev S1x128x4x1 : Shape := ⟨4, ![1, 128, 4, 1]⟩
abbrev S4096x4x64 : Shape := ⟨3, ![4096, 4, 64]⟩
abbrev S2x256 : Shape := ⟨2, ![2, 256]⟩
abbrev S4098x256 : Shape := ⟨2, ![4098, 256]⟩
abbrev S30x256 : Shape := ⟨2, ![30, 256]⟩
abbrev S4126x256 : Shape := ⟨2, ![4126, 256]⟩
abbrev S4096x3584 : Shape := ⟨2, ![4096, 3584]⟩

abbrev nBuf : Space → Nat
  | .hbm => 1153
  | .vmem => 0
  | .smem => 0
  | _ => 0

abbrev hbmTy0_0 (i : Nat) : BufTy := match i % 128 with
  | 0 => ⟨S4096x7684, .f32⟩
  | 1 => ⟨S4x128x128, .f32⟩
  | 2 => ⟨S4x128, .f32⟩
  | 3 => ⟨S256, .f32⟩
  | 4 => ⟨S256, .f32⟩
  | 5 => ⟨S3x256, .f32⟩
  | 6 => ⟨S31x256, .f32⟩
  | 7 => ⟨S256, .f32⟩
  | 8 => ⟨S256, .f32⟩
  | 9 => ⟨S256, .f32⟩
  | 10 => ⟨S4096x256, .f32⟩
  | 11 => ⟨S4x4096x64, .f32⟩
  | 12 => ⟨S4x4096x64, .f32⟩
  | 13 => ⟨S4x4096x64, .f32⟩
  | 14 => ⟨S4096x256, .f32⟩
  | 15 => ⟨S4096x256, .f32⟩
  | 16 => ⟨S4096x256, .f32⟩
  | 17 => ⟨S4096x512, .f32⟩
  | 18 => ⟨S4096x256, .f32⟩
  | 19 => ⟨S4096x768, .f32⟩
  | 20 => ⟨S4096x256, .f32⟩
  | 21 => ⟨S4096x256, .f32⟩
  | 22 => ⟨S4096x768, .f32⟩
  | 23 => ⟨S4096x256, .f32⟩
  | 24 => ⟨S4096x512, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S4096x512, .f32⟩
  | 53 => ⟨S4096x256, .f32⟩
  | 54 => ⟨S4096x256, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x256, .f32⟩
  | 62 => ⟨S4096x256, .f32⟩
  | 63 => ⟨S4096x256, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x256, .f32⟩
  | 79 => ⟨S4096x256, .f32⟩
  | 80 => ⟨S1x256, .f32⟩
  | 81 => ⟨S4096x256, .f32⟩
  | 82 => ⟨S4096x256, .f32⟩
  | 83 => ⟨S1x256, .f32⟩
  | 84 => ⟨S4096x256, .f32⟩
  | 85 => ⟨S4096x256, .f32⟩
  | 86 => ⟨S32x128x4x64, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S1x128x128, .i1⟩
  | 99 => ⟨S_, .f32⟩
  | 100 => ⟨S4x128x128, .f32⟩
  | 101 => ⟨S4x128x128, .i1⟩
  | 102 => ⟨S4x128x128, .f32⟩
  | 103 => ⟨S_, .f32⟩
  | 104 => ⟨S4x128x128, .f32⟩
  | 105 => ⟨S4x32x64x128, .f32⟩
  | 106 => ⟨S32x128x4x64, .f32⟩
  | 107 => ⟨S128x4, .f32⟩
  | 108 => ⟨S1x128x4x1, .f32⟩
  | 109 => ⟨S32x128x4x64, .f32⟩
  | 110 => ⟨S32x128x4x64, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S_, .f32⟩
  | 122 => ⟨S4096x256, .f32⟩
  | 123 => ⟨S4096x256, .f32⟩
  | 124 => ⟨S4096x256, .f32⟩
  | 125 => ⟨S4096x256, .f32⟩
  | 126 => ⟨S4096x256, .f32⟩
  | 127 => ⟨S4096x256, .f32⟩
  | _ => ⟨S4096x7684, .f32⟩

abbrev hbmTy0_1 (i : Nat) : BufTy := match i % 128 with
  | 0 => ⟨S4096x256, .f32⟩
  | 1 => ⟨S4096x256, .f32⟩
  | 2 => ⟨S4096x4x64, .f32⟩
  | 3 => ⟨S4x4096x64, .f32⟩
  | 4 => ⟨S4096x4x64, .f32⟩
  | 5 => ⟨S4x4096x64, .f32⟩
  | 6 => ⟨S4096x4x64, .f32⟩
  | 7 => ⟨S4x4096x64, .f32⟩
  | 8 => ⟨S4096x256, .f32⟩
  | 9 => ⟨S4096x256, .f32⟩
  | 10 => ⟨S4096x256, .f32⟩
  | 11 => ⟨S4096x256, .f32⟩
  | 12 => ⟨S_, .f32⟩
  | 13 => ⟨S2x256, .f32⟩
  | 14 => ⟨S4098x256, .f32⟩
  | 15 => ⟨S_, .f32⟩
  | 16 => ⟨S2x256, .f32⟩
  | 17 => ⟨S1x256, .f32⟩
  | 18 => ⟨S256, .f32⟩
  | 19 => ⟨S4096x256, .f32⟩
  | 20 => ⟨S1x256, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S1x256, .f32⟩
  | 27 => ⟨S256, .f32⟩
  | 28 => ⟨S4096x256, .f32⟩
  | 29 => ⟨S1x256, .f32⟩
  | 30 => ⟨S4096x256, .f32⟩
  | 31 => ⟨S4096x256, .f32⟩
  | 32 => ⟨S4096x256, .f32⟩
  | 33 => ⟨S1x256, .f32⟩
  | 34 => ⟨S256, .f32⟩
  | 35 => ⟨S4096x256, .f32⟩
  | 36 => ⟨S1x256, .f32⟩
  | 37 => ⟨S4096x256, .f32⟩
  | 38 => ⟨S4096x256, .f32⟩
  | 39 => ⟨S4096x256, .f32⟩
  | 40 => ⟨S4096x256, .f32⟩
  | 41 => ⟨S4096x256, .f32⟩
  | 42 => ⟨S4096x256, .f32⟩
  | 43 => ⟨S_, .f32⟩
  | 44 => ⟨S4096x256, .f32⟩
  | 45 => ⟨S4096x256, .f32⟩
  | 46 => ⟨S_, .f32⟩
  | 47 => ⟨S4096x256, .f32⟩
  | 48 => ⟨S4096x256, .f32⟩
  | 49 => ⟨S_, .f32⟩
  | 50 => ⟨S4096x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S_, .f32⟩
  | 63 => ⟨S4096x256, .f32⟩
  | 64 => ⟨S4096x256, .f32⟩
  | 65 => ⟨S_, .f32⟩
  | 66 => ⟨S4096x256, .f32⟩
  | 67 => ⟨S4096x256, .f32⟩
  | 68 => ⟨S4096x256, .f32⟩
  | 69 => ⟨S4096x256, .f32⟩
  | 70 => ⟨S_, .f32⟩
  | 71 => ⟨S30x256, .f32⟩
  | 72 => ⟨S4126x256, .f32⟩
  | 73 => ⟨S_, .f32⟩
  | 74 => ⟨S30x256, .f32⟩
  | 75 => ⟨S1x256, .f32⟩
  | 76 => ⟨S256, .f32⟩
  | 77 => ⟨S4096x256, .f32⟩
  | 78 => ⟨S1x256, .f32⟩
  | 79 => ⟨S4096x256, .f32⟩
  | 80 => ⟨S4096x256, .f32⟩
  | 81 => ⟨S_, .f32⟩
  | 82 => ⟨S4096x256, .f32⟩
  | 83 => ⟨S4096x256, .f32⟩
  | 84 => ⟨S1x256, .f32⟩
  | 85 => ⟨S256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S1x256, .f32⟩
  | 92 => ⟨S256, .f32⟩
  | 93 => ⟨S4096x256, .f32⟩
  | 94 => ⟨S1x256, .f32⟩
  | 95 => ⟨S4096x256, .f32⟩
  | 96 => ⟨S4096x256, .f32⟩
  | 97 => ⟨S4096x256, .f32⟩
  | 98 => ⟨S1x256, .f32⟩
  | 99 => ⟨S256, .f32⟩
  | 100 => ⟨S4096x256, .f32⟩
  | 101 => ⟨S1x256, .f32⟩
  | 102 => ⟨S4096x256, .f32⟩
  | 103 => ⟨S4096x256, .f32⟩
  | 104 => ⟨S4096x256, .f32⟩
  | 105 => ⟨S1x256, .f32⟩
  | 106 => ⟨S256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S1x256, .f32⟩
  | 113 => ⟨S256, .f32⟩
  | 114 => ⟨S4096x256, .f32⟩
  | 115 => ⟨S1x256, .f32⟩
  | 116 => ⟨S4096x256, .f32⟩
  | 117 => ⟨S4096x256, .f32⟩
  | 118 => ⟨S4096x256, .f32⟩
  | 119 => ⟨S1x256, .f32⟩
  | 120 => ⟨S256, .f32⟩
  | 121 => ⟨S4096x256, .f32⟩
  | 122 => ⟨S1x256, .f32⟩
  | 123 => ⟨S4096x256, .f32⟩
  | 124 => ⟨S4096x256, .f32⟩
  | 125 => ⟨S4096x256, .f32⟩
  | 126 => ⟨S1x256, .f32⟩
  | 127 => ⟨S256, .f32⟩
  | _ => ⟨S4096x7684, .f32⟩

abbrev hbmTy0_2 (i : Nat) : BufTy := match i % 128 with
  | 0 => ⟨S4096x256, .f32⟩
  | 1 => ⟨S1x256, .f32⟩
  | 2 => ⟨S4096x256, .f32⟩
  | 3 => ⟨S4096x256, .f32⟩
  | 4 => ⟨S4096x256, .f32⟩
  | 5 => ⟨S1x256, .f32⟩
  | 6 => ⟨S256, .f32⟩
  | 7 => ⟨S4096x256, .f32⟩
  | 8 => ⟨S1x256, .f32⟩
  | 9 => ⟨S4096x256, .f32⟩
  | 10 => ⟨S4096x256, .f32⟩
  | 11 => ⟨S4096x256, .f32⟩
  | 12 => ⟨S1x256, .f32⟩
  | 13 => ⟨S256, .f32⟩
  | 14 => ⟨S4096x256, .f32⟩
  | 15 => ⟨S1x256, .f32⟩
  | 16 => ⟨S4096x256, .f32⟩
  | 17 => ⟨S4096x256, .f32⟩
  | 18 => ⟨S4096x256, .f32⟩
  | 19 => ⟨S1x256, .f32⟩
  | 20 => ⟨S256, .f32⟩
  | 21 => ⟨S4096x256, .f32⟩
  | 22 => ⟨S1x256, .f32⟩
  | 23 => ⟨S4096x256, .f32⟩
  | 24 => ⟨S4096x256, .f32⟩
  | 25 => ⟨S4096x256, .f32⟩
  | 26 => ⟨S1x256, .f32⟩
  | 27 => ⟨S256, .f32⟩
  | 28 => ⟨S4096x256, .f32⟩
  | 29 => ⟨S1x256, .f32⟩
  | 30 => ⟨S4096x256, .f32⟩
  | 31 => ⟨S4096x256, .f32⟩
  | 32 => ⟨S4096x256, .f32⟩
  | 33 => ⟨S1x256, .f32⟩
  | 34 => ⟨S256, .f32⟩
  | 35 => ⟨S4096x256, .f32⟩
  | 36 => ⟨S1x256, .f32⟩
  | 37 => ⟨S4096x256, .f32⟩
  | 38 => ⟨S4096x256, .f32⟩
  | 39 => ⟨S4096x256, .f32⟩
  | 40 => ⟨S1x256, .f32⟩
  | 41 => ⟨S256, .f32⟩
  | 42 => ⟨S4096x256, .f32⟩
  | 43 => ⟨S1x256, .f32⟩
  | 44 => ⟨S4096x256, .f32⟩
  | 45 => ⟨S4096x256, .f32⟩
  | 46 => ⟨S4096x256, .f32⟩
  | 47 => ⟨S1x256, .f32⟩
  | 48 => ⟨S256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S1x256, .f32⟩
  | 55 => ⟨S256, .f32⟩
  | 56 => ⟨S4096x256, .f32⟩
  | 57 => ⟨S1x256, .f32⟩
  | 58 => ⟨S4096x256, .f32⟩
  | 59 => ⟨S4096x256, .f32⟩
  | 60 => ⟨S4096x256, .f32⟩
  | 61 => ⟨S1x256, .f32⟩
  | 62 => ⟨S256, .f32⟩
  | 63 => ⟨S4096x256, .f32⟩
  | 64 => ⟨S1x256, .f32⟩
  | 65 => ⟨S4096x256, .f32⟩
  | 66 => ⟨S4096x256, .f32⟩
  | 67 => ⟨S4096x256, .f32⟩
  | 68 => ⟨S1x256, .f32⟩
  | 69 => ⟨S256, .f32⟩
  | 70 => ⟨S4096x256, .f32⟩
  | 71 => ⟨S1x256, .f32⟩
  | 72 => ⟨S4096x256, .f32⟩
  | 73 => ⟨S4096x256, .f32⟩
  | 74 => ⟨S4096x256, .f32⟩
  | 75 => ⟨S1x256, .f32⟩
  | 76 => ⟨S256, .f32⟩
  | 77 => ⟨S4096x256, .f32⟩
  | 78 => ⟨S1x256, .f32⟩
  | 79 => ⟨S4096x256, .f32⟩
  | 80 => ⟨S4096x256, .f32⟩
  | 81 => ⟨S4096x256, .f32⟩
  | 82 => ⟨S1x256, .f32⟩
  | 83 => ⟨S256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S1x256, .f32⟩
  | 90 => ⟨S256, .f32⟩
  | 91 => ⟨S4096x256, .f32⟩
  | 92 => ⟨S1x256, .f32⟩
  | 93 => ⟨S4096x256, .f32⟩
  | 94 => ⟨S4096x256, .f32⟩
  | 95 => ⟨S4096x256, .f32⟩
  | 96 => ⟨S1x256, .f32⟩
  | 97 => ⟨S256, .f32⟩
  | 98 => ⟨S4096x256, .f32⟩
  | 99 => ⟨S1x256, .f32⟩
  | 100 => ⟨S4096x256, .f32⟩
  | 101 => ⟨S4096x256, .f32⟩
  | 102 => ⟨S4096x256, .f32⟩
  | 103 => ⟨S1x256, .f32⟩
  | 104 => ⟨S256, .f32⟩
  | 105 => ⟨S4096x256, .f32⟩
  | 106 => ⟨S1x256, .f32⟩
  | 107 => ⟨S4096x256, .f32⟩
  | 108 => ⟨S4096x256, .f32⟩
  | 109 => ⟨S4096x256, .f32⟩
  | 110 => ⟨S1x256, .f32⟩
  | 111 => ⟨S256, .f32⟩
  | 112 => ⟨S4096x256, .f32⟩
  | 113 => ⟨S1x256, .f32⟩
  | 114 => ⟨S4096x256, .f32⟩
  | 115 => ⟨S4096x256, .f32⟩
  | 116 => ⟨S4096x256, .f32⟩
  | 117 => ⟨S1x256, .f32⟩
  | 118 => ⟨S256, .f32⟩
  | 119 => ⟨S4096x256, .f32⟩
  | 120 => ⟨S1x256, .f32⟩
  | 121 => ⟨S4096x256, .f32⟩
  | 122 => ⟨S4096x256, .f32⟩
  | 123 => ⟨S4096x256, .f32⟩
  | 124 => ⟨S1x256, .f32⟩
  | 125 => ⟨S256, .f32⟩
  | 126 => ⟨S4096x256, .f32⟩
  | 127 => ⟨S1x256, .f32⟩
  | _ => ⟨S4096x7684, .f32⟩

abbrev hbmTy0_3 (i : Nat) : BufTy := match i % 128 with
  | 0 => ⟨S4096x256, .f32⟩
  | 1 => ⟨S4096x256, .f32⟩
  | 2 => ⟨S4096x256, .f32⟩
  | 3 => ⟨S1x256, .f32⟩
  | 4 => ⟨S256, .f32⟩
  | 5 => ⟨S4096x256, .f32⟩
  | 6 => ⟨S1x256, .f32⟩
  | 7 => ⟨S4096x256, .f32⟩
  | 8 => ⟨S4096x256, .f32⟩
  | 9 => ⟨S4096x256, .f32⟩
  | 10 => ⟨S1x256, .f32⟩
  | 11 => ⟨S256, .f32⟩
  | 12 => ⟨S4096x256, .f32⟩
  | 13 => ⟨S1x256, .f32⟩
  | 14 => ⟨S4096x256, .f32⟩
  | 15 => ⟨S4096x256, .f32⟩
  | 16 => ⟨S4096x256, .f32⟩
  | 17 => ⟨S1x256, .f32⟩
  | 18 => ⟨S256, .f32⟩
  | 19 => ⟨S4096x256, .f32⟩
  | 20 => ⟨S1x256, .f32⟩
  | 21 => ⟨S4096x256, .f32⟩
  | 22 => ⟨S4096x256, .f32⟩
  | 23 => ⟨S4096x256, .f32⟩
  | 24 => ⟨S1x256, .f32⟩
  | 25 => ⟨S256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S1x256, .f32⟩
  | 32 => ⟨S256, .f32⟩
  | 33 => ⟨S4096x256, .f32⟩
  | 34 => ⟨S1x256, .f32⟩
  | 35 => ⟨S4096x256, .f32⟩
  | 36 => ⟨S4096x256, .f32⟩
  | 37 => ⟨S4096x256, .f32⟩
  | 38 => ⟨S1x256, .f32⟩
  | 39 => ⟨S4096x256, .f32⟩
  | 40 => ⟨S4096x256, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S4096x256, .f32⟩
  | 48 => ⟨S4096x256, .f32⟩
  | 49 => ⟨S4096x256, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x256, .f32⟩
  | 65 => ⟨S4096x256, .f32⟩
  | 66 => ⟨S1x256, .f32⟩
  | 67 => ⟨S4096x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S_, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S4096x256, .f32⟩
  | 87 => ⟨S_, .f32⟩
  | 88 => ⟨S4096x256, .f32⟩
  | 89 => ⟨S4096x256, .f32⟩
  | 90 => ⟨S_, .f32⟩
  | 91 => ⟨S4096x256, .f32⟩
  | 92 => ⟨S4096x256, .f32⟩
  | 93 => ⟨S_, .f32⟩
  | 94 => ⟨S4096x256, .f32⟩
  | 95 => ⟨S4096x256, .f32⟩
  | 96 => ⟨S4096x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S4096x256, .f32⟩
  | 109 => ⟨S_, .f32⟩
  | 110 => ⟨S256, .f32⟩
  | 111 => ⟨S1x256, .f32⟩
  | 112 => ⟨S_, .f32⟩
  | 113 => ⟨S256, .f32⟩
  | 114 => ⟨S4096x256, .f32⟩
  | 115 => ⟨S_, .f32⟩
  | 116 => ⟨S256, .f32⟩
  | 117 => ⟨S1x256, .f32⟩
  | 118 => ⟨S4096x256, .f32⟩
  | 119 => ⟨S4096x256, .f32⟩
  | 120 => ⟨S_, .f32⟩
  | 121 => ⟨S256, .f32⟩
  | 122 => ⟨S4096x256, .f32⟩
  | 123 => ⟨S_, .f32⟩
  | 124 => ⟨S4096, .f32⟩
  | 125 => ⟨S4096x1, .f32⟩
  | 126 => ⟨S4096x256, .f32⟩
  | 127 => ⟨S4096x256, .f32⟩
  | _ => ⟨S4096x7684, .f32⟩

abbrev hbmTy0_4 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x256, .f32⟩
  | 7 => ⟨S4096x256, .f32⟩
  | 8 => ⟨S4096x256, .f32⟩
  | 9 => ⟨S4096x256, .f32⟩
  | 10 => ⟨S4096x256, .f32⟩
  | 11 => ⟨S4096x256, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096, .f32⟩
  | 20 => ⟨S4096x256, .f32⟩
  | 21 => ⟨S4096x256, .f32⟩
  | 22 => ⟨S_, .f32⟩
  | 23 => ⟨S256, .f32⟩
  | 24 => ⟨S1x256, .f32⟩
  | 25 => ⟨S_, .f32⟩
  | 26 => ⟨S256, .f32⟩
  | 27 => ⟨S4096x256, .f32⟩
  | 28 => ⟨S4096x256, .f32⟩
  | 29 => ⟨S4096x256, .f32⟩
  | 30 => ⟨S_, .f32⟩
  | 31 => ⟨S256, .f32⟩
  | 32 => ⟨S1x256, .f32⟩
  | 33 => ⟨S_, .f32⟩
  | 34 => ⟨S256, .f32⟩
  | 35 => ⟨S_, .f32⟩
  | 36 => ⟨S4126x256, .f32⟩
  | 37 => ⟨S1x256, .f32⟩
  | 38 => ⟨S_, .f32⟩
  | 39 => ⟨S31x256, .f32⟩
  | 40 => ⟨S4096x256, .f32⟩
  | 41 => ⟨S4096x256, .f32⟩
  | 42 => ⟨S4096x256, .f32⟩
  | 43 => ⟨S_, .f32⟩
  | 44 => ⟨S256, .f32⟩
  | 45 => ⟨S1x256, .f32⟩
  | 46 => ⟨S_, .f32⟩
  | 47 => ⟨S256, .f32⟩
  | 48 => ⟨S_, .f32⟩
  | 49 => ⟨S4126x256, .f32⟩
  | 50 => ⟨S4126x256, .f32⟩
  | 51 => ⟨S1x256, .f32⟩
  | 52 => ⟨S_, .f32⟩
  | 53 => ⟨S31x256, .f32⟩
  | 54 => ⟨S31x256, .f32⟩
  | 55 => ⟨S4096x256, .f32⟩
  | 56 => ⟨S4096x256, .f32⟩
  | 57 => ⟨S4096x256, .f32⟩
  | 58 => ⟨S_, .f32⟩
  | 59 => ⟨S256, .f32⟩
  | 60 => ⟨S1x256, .f32⟩
  | 61 => ⟨S_, .f32⟩
  | 62 => ⟨S256, .f32⟩
  | 63 => ⟨S_, .f32⟩
  | 64 => ⟨S4126x256, .f32⟩
  | 65 => ⟨S4126x256, .f32⟩
  | 66 => ⟨S1x256, .f32⟩
  | 67 => ⟨S_, .f32⟩
  | 68 => ⟨S31x256, .f32⟩
  | 69 => ⟨S31x256, .f32⟩
  | 70 => ⟨S4096x256, .f32⟩
  | 71 => ⟨S4096x256, .f32⟩
  | 72 => ⟨S4096x256, .f32⟩
  | 73 => ⟨S_, .f32⟩
  | 74 => ⟨S256, .f32⟩
  | 75 => ⟨S1x256, .f32⟩
  | 76 => ⟨S_, .f32⟩
  | 77 => ⟨S256, .f32⟩
  | 78 => ⟨S_, .f32⟩
  | 79 => ⟨S4126x256, .f32⟩
  | 80 => ⟨S4126x256, .f32⟩
  | 81 => ⟨S1x256, .f32⟩
  | 82 => ⟨S_, .f32⟩
  | 83 => ⟨S31x256, .f32⟩
  | 84 => ⟨S31x256, .f32⟩
  | 85 => ⟨S4096x256, .f32⟩
  | 86 => ⟨S4096x256, .f32⟩
  | 87 => ⟨S4096x256, .f32⟩
  | 88 => ⟨S_, .f32⟩
  | 89 => ⟨S256, .f32⟩
  | 90 => ⟨S1x256, .f32⟩
  | 91 => ⟨S_, .f32⟩
  | 92 => ⟨S256, .f32⟩
  | 93 => ⟨S_, .f32⟩
  | 94 => ⟨S4126x256, .f32⟩
  | 95 => ⟨S4126x256, .f32⟩
  | 96 => ⟨S1x256, .f32⟩
  | 97 => ⟨S_, .f32⟩
  | 98 => ⟨S31x256, .f32⟩
  | 99 => ⟨S31x256, .f32⟩
  | 100 => ⟨S4096x256, .f32⟩
  | 101 => ⟨S4096x256, .f32⟩
  | 102 => ⟨S4096x256, .f32⟩
  | 103 => ⟨S_, .f32⟩
  | 104 => ⟨S256, .f32⟩
  | 105 => ⟨S1x256, .f32⟩
  | 106 => ⟨S_, .f32⟩
  | 107 => ⟨S256, .f32⟩
  | 108 => ⟨S_, .f32⟩
  | 109 => ⟨S4126x256, .f32⟩
  | 110 => ⟨S4126x256, .f32⟩
  | 111 => ⟨S1x256, .f32⟩
  | 112 => ⟨S_, .f32⟩
  | 113 => ⟨S31x256, .f32⟩
  | 114 => ⟨S31x256, .f32⟩
  | 115 => ⟨S4096x256, .f32⟩
  | 116 => ⟨S4096x256, .f32⟩
  | 117 => ⟨S4096x256, .f32⟩
  | 118 => ⟨S_, .f32⟩
  | 119 => ⟨S256, .f32⟩
  | 120 => ⟨S1x256, .f32⟩
  | 121 => ⟨S_, .f32⟩
  | 122 => ⟨S256, .f32⟩
  | 123 => ⟨S_, .f32⟩
  | 124 => ⟨S4126x256, .f32⟩
  | 125 => ⟨S4126x256, .f32⟩
  | 126 => ⟨S1x256, .f32⟩
  | 127 => ⟨S_, .f32⟩
  | _ => ⟨S4096x7684, .f32⟩

abbrev hbmTy0_5 (i : Nat) : BufTy := match i % 128 with
  | 0 => ⟨S31x256, .f32⟩
  | 1 => ⟨S31x256, .f32⟩
  | 2 => ⟨S4096x256, .f32⟩
  | 3 => ⟨S4096x256, .f32⟩
  | 4 => ⟨S4096x256, .f32⟩
  | 5 => ⟨S_, .f32⟩
  | 6 => ⟨S256, .f32⟩
  | 7 => ⟨S1x256, .f32⟩
  | 8 => ⟨S_, .f32⟩
  | 9 => ⟨S256, .f32⟩
  | 10 => ⟨S_, .f32⟩
  | 11 => ⟨S4126x256, .f32⟩
  | 12 => ⟨S4126x256, .f32⟩
  | 13 => ⟨S1x256, .f32⟩
  | 14 => ⟨S_, .f32⟩
  | 15 => ⟨S31x256, .f32⟩
  | 16 => ⟨S31x256, .f32⟩
  | 17 => ⟨S4096x256, .f32⟩
  | 18 => ⟨S4096x256, .f32⟩
  | 19 => ⟨S4096x256, .f32⟩
  | 20 => ⟨S_, .f32⟩
  | 21 => ⟨S256, .f32⟩
  | 22 => ⟨S1x256, .f32⟩
  | 23 => ⟨S_, .f32⟩
  | 24 => ⟨S256, .f32⟩
  | 25 => ⟨S_, .f32⟩
  | 26 => ⟨S4126x256, .f32⟩
  | 27 => ⟨S4126x256, .f32⟩
  | 28 => ⟨S1x256, .f32⟩
  | 29 => ⟨S_, .f32⟩
  | 30 => ⟨S31x256, .f32⟩
  | 31 => ⟨S31x256, .f32⟩
  | 32 => ⟨S4096x256, .f32⟩
  | 33 => ⟨S4096x256, .f32⟩
  | 34 => ⟨S4096x256, .f32⟩
  | 35 => ⟨S_, .f32⟩
  | 36 => ⟨S256, .f32⟩
  | 37 => ⟨S1x256, .f32⟩
  | 38 => ⟨S_, .f32⟩
  | 39 => ⟨S256, .f32⟩
  | 40 => ⟨S_, .f32⟩
  | 41 => ⟨S4126x256, .f32⟩
  | 42 => ⟨S4126x256, .f32⟩
  | 43 => ⟨S1x256, .f32⟩
  | 44 => ⟨S_, .f32⟩
  | 45 => ⟨S31x256, .f32⟩
  | 46 => ⟨S31x256, .f32⟩
  | 47 => ⟨S4096x256, .f32⟩
  | 48 => ⟨S4096x256, .f32⟩
  | 49 => ⟨S4096x256, .f32⟩
  | 50 => ⟨S_, .f32⟩
  | 51 => ⟨S256, .f32⟩
  | 52 => ⟨S1x256, .f32⟩
  | 53 => ⟨S_, .f32⟩
  | 54 => ⟨S256, .f32⟩
  | 55 => ⟨S_, .f32⟩
  | 56 => ⟨S4126x256, .f32⟩
  | 57 => ⟨S4126x256, .f32⟩
  | 58 => ⟨S1x256, .f32⟩
  | 59 => ⟨S_, .f32⟩
  | 60 => ⟨S31x256, .f32⟩
  | 61 => ⟨S31x256, .f32⟩
  | 62 => ⟨S4096x256, .f32⟩
  | 63 => ⟨S4096x256, .f32⟩
  | 64 => ⟨S4096x256, .f32⟩
  | 65 => ⟨S_, .f32⟩
  | 66 => ⟨S256, .f32⟩
  | 67 => ⟨S1x256, .f32⟩
  | 68 => ⟨S_, .f32⟩
  | 69 => ⟨S256, .f32⟩
  | 70 => ⟨S_, .f32⟩
  | 71 => ⟨S4126x256, .f32⟩
  | 72 => ⟨S4126x256, .f32⟩
  | 73 => ⟨S1x256, .f32⟩
  | 74 => ⟨S_, .f32⟩
  | 75 => ⟨S31x256, .f32⟩
  | 76 => ⟨S31x256, .f32⟩
  | 77 => ⟨S4096x256, .f32⟩
  | 78 => ⟨S4096x256, .f32⟩
  | 79 => ⟨S4096x256, .f32⟩
  | 80 => ⟨S_, .f32⟩
  | 81 => ⟨S256, .f32⟩
  | 82 => ⟨S1x256, .f32⟩
  | 83 => ⟨S_, .f32⟩
  | 84 => ⟨S256, .f32⟩
  | 85 => ⟨S_, .f32⟩
  | 86 => ⟨S4126x256, .f32⟩
  | 87 => ⟨S4126x256, .f32⟩
  | 88 => ⟨S1x256, .f32⟩
  | 89 => ⟨S_, .f32⟩
  | 90 => ⟨S31x256, .f32⟩
  | 91 => ⟨S31x256, .f32⟩
  | 92 => ⟨S4096x256, .f32⟩
  | 93 => ⟨S4096x256, .f32⟩
  | 94 => ⟨S4096x256, .f32⟩
  | 95 => ⟨S_, .f32⟩
  | 96 => ⟨S256, .f32⟩
  | 97 => ⟨S1x256, .f32⟩
  | 98 => ⟨S_, .f32⟩
  | 99 => ⟨S256, .f32⟩
  | 100 => ⟨S_, .f32⟩
  | 101 => ⟨S4126x256, .f32⟩
  | 102 => ⟨S4126x256, .f32⟩
  | 103 => ⟨S1x256, .f32⟩
  | 104 => ⟨S_, .f32⟩
  | 105 => ⟨S31x256, .f32⟩
  | 106 => ⟨S31x256, .f32⟩
  | 107 => ⟨S4096x256, .f32⟩
  | 108 => ⟨S4096x256, .f32⟩
  | 109 => ⟨S4096x256, .f32⟩
  | 110 => ⟨S_, .f32⟩
  | 111 => ⟨S256, .f32⟩
  | 112 => ⟨S1x256, .f32⟩
  | 113 => ⟨S_, .f32⟩
  | 114 => ⟨S256, .f32⟩
  | 115 => ⟨S_, .f32⟩
  | 116 => ⟨S4126x256, .f32⟩
  | 117 => ⟨S4126x256, .f32⟩
  | 118 => ⟨S1x256, .f32⟩
  | 119 => ⟨S_, .f32⟩
  | 120 => ⟨S31x256, .f32⟩
  | 121 => ⟨S31x256, .f32⟩
  | 122 => ⟨S4096x256, .f32⟩
  | 123 => ⟨S4096x256, .f32⟩
  | 124 => ⟨S4096x256, .f32⟩
  | 125 => ⟨S_, .f32⟩
  | 126 => ⟨S256, .f32⟩
  | 127 => ⟨S1x256, .f32⟩
  | _ => ⟨S4096x7684, .f32⟩

abbrev hbmTy0_6 (i : Nat) : BufTy := match i % 128 with
  | 0 => ⟨S_, .f32⟩
  | 1 => ⟨S256, .f32⟩
  | 2 => ⟨S_, .f32⟩
  | 3 => ⟨S4126x256, .f32⟩
  | 4 => ⟨S4126x256, .f32⟩
  | 5 => ⟨S1x256, .f32⟩
  | 6 => ⟨S_, .f32⟩
  | 7 => ⟨S31x256, .f32⟩
  | 8 => ⟨S31x256, .f32⟩
  | 9 => ⟨S4096x256, .f32⟩
  | 10 => ⟨S4096x256, .f32⟩
  | 11 => ⟨S4096x256, .f32⟩
  | 12 => ⟨S_, .f32⟩
  | 13 => ⟨S256, .f32⟩
  | 14 => ⟨S1x256, .f32⟩
  | 15 => ⟨S_, .f32⟩
  | 16 => ⟨S256, .f32⟩
  | 17 => ⟨S_, .f32⟩
  | 18 => ⟨S4126x256, .f32⟩
  | 19 => ⟨S4126x256, .f32⟩
  | 20 => ⟨S1x256, .f32⟩
  | 21 => ⟨S_, .f32⟩
  | 22 => ⟨S31x256, .f32⟩
  | 23 => ⟨S31x256, .f32⟩
  | 24 => ⟨S4096x256, .f32⟩
  | 25 => ⟨S4096x256, .f32⟩
  | 26 => ⟨S4096x256, .f32⟩
  | 27 => ⟨S_, .f32⟩
  | 28 => ⟨S256, .f32⟩
  | 29 => ⟨S1x256, .f32⟩
  | 30 => ⟨S_, .f32⟩
  | 31 => ⟨S256, .f32⟩
  | 32 => ⟨S_, .f32⟩
  | 33 => ⟨S4126x256, .f32⟩
  | 34 => ⟨S4126x256, .f32⟩
  | 35 => ⟨S1x256, .f32⟩
  | 36 => ⟨S_, .f32⟩
  | 37 => ⟨S31x256, .f32⟩
  | 38 => ⟨S31x256, .f32⟩
  | 39 => ⟨S4096x256, .f32⟩
  | 40 => ⟨S4096x256, .f32⟩
  | 41 => ⟨S4096x256, .f32⟩
  | 42 => ⟨S_, .f32⟩
  | 43 => ⟨S256, .f32⟩
  | 44 => ⟨S1x256, .f32⟩
  | 45 => ⟨S_, .f32⟩
  | 46 => ⟨S256, .f32⟩
  | 47 => ⟨S_, .f32⟩
  | 48 => ⟨S4126x256, .f32⟩
  | 49 => ⟨S4126x256, .f32⟩
  | 50 => ⟨S1x256, .f32⟩
  | 51 => ⟨S_, .f32⟩
  | 52 => ⟨S31x256, .f32⟩
  | 53 => ⟨S31x256, .f32⟩
  | 54 => ⟨S4096x256, .f32⟩
  | 55 => ⟨S4096x256, .f32⟩
  | 56 => ⟨S4096x256, .f32⟩
  | 57 => ⟨S_, .f32⟩
  | 58 => ⟨S256, .f32⟩
  | 59 => ⟨S1x256, .f32⟩
  | 60 => ⟨S_, .f32⟩
  | 61 => ⟨S256, .f32⟩
  | 62 => ⟨S_, .f32⟩
  | 63 => ⟨S4126x256, .f32⟩
  | 64 => ⟨S4126x256, .f32⟩
  | 65 => ⟨S1x256, .f32⟩
  | 66 => ⟨S_, .f32⟩
  | 67 => ⟨S31x256, .f32⟩
  | 68 => ⟨S31x256, .f32⟩
  | 69 => ⟨S4096x256, .f32⟩
  | 70 => ⟨S4096x256, .f32⟩
  | 71 => ⟨S4096x256, .f32⟩
  | 72 => ⟨S_, .f32⟩
  | 73 => ⟨S256, .f32⟩
  | 74 => ⟨S1x256, .f32⟩
  | 75 => ⟨S_, .f32⟩
  | 76 => ⟨S256, .f32⟩
  | 77 => ⟨S_, .f32⟩
  | 78 => ⟨S4126x256, .f32⟩
  | 79 => ⟨S4126x256, .f32⟩
  | 80 => ⟨S1x256, .f32⟩
  | 81 => ⟨S_, .f32⟩
  | 82 => ⟨S31x256, .f32⟩
  | 83 => ⟨S31x256, .f32⟩
  | 84 => ⟨S4096x256, .f32⟩
  | 85 => ⟨S4096x256, .f32⟩
  | 86 => ⟨S4096x256, .f32⟩
  | 87 => ⟨S_, .f32⟩
  | 88 => ⟨S256, .f32⟩
  | 89 => ⟨S1x256, .f32⟩
  | 90 => ⟨S_, .f32⟩
  | 91 => ⟨S256, .f32⟩
  | 92 => ⟨S_, .f32⟩
  | 93 => ⟨S4126x256, .f32⟩
  | 94 => ⟨S4126x256, .f32⟩
  | 95 => ⟨S1x256, .f32⟩
  | 96 => ⟨S_, .f32⟩
  | 97 => ⟨S31x256, .f32⟩
  | 98 => ⟨S31x256, .f32⟩
  | 99 => ⟨S4096x256, .f32⟩
  | 100 => ⟨S4096x256, .f32⟩
  | 101 => ⟨S4096x256, .f32⟩
  | 102 => ⟨S_, .f32⟩
  | 103 => ⟨S256, .f32⟩
  | 104 => ⟨S1x256, .f32⟩
  | 105 => ⟨S_, .f32⟩
  | 106 => ⟨S256, .f32⟩
  | 107 => ⟨S_, .f32⟩
  | 108 => ⟨S4126x256, .f32⟩
  | 109 => ⟨S4126x256, .f32⟩
  | 110 => ⟨S1x256, .f32⟩
  | 111 => ⟨S_, .f32⟩
  | 112 => ⟨S31x256, .f32⟩
  | 113 => ⟨S31x256, .f32⟩
  | 114 => ⟨S4096x256, .f32⟩
  | 115 => ⟨S4096x256, .f32⟩
  | 116 => ⟨S4096x256, .f32⟩
  | 117 => ⟨S_, .f32⟩
  | 118 => ⟨S256, .f32⟩
  | 119 => ⟨S1x256, .f32⟩
  | 120 => ⟨S_, .f32⟩
  | 121 => ⟨S256, .f32⟩
  | 122 => ⟨S_, .f32⟩
  | 123 => ⟨S4126x256, .f32⟩
  | 124 => ⟨S4126x256, .f32⟩
  | 125 => ⟨S1x256, .f32⟩
  | 126 => ⟨S_, .f32⟩
  | 127 => ⟨S31x256, .f32⟩
  | _ => ⟨S4096x7684, .f32⟩

abbrev hbmTy0_7 (i : Nat) : BufTy := match i % 128 with
  | 0 => ⟨S31x256, .f32⟩
  | 1 => ⟨S4096x256, .f32⟩
  | 2 => ⟨S4096x256, .f32⟩
  | 3 => ⟨S4096x256, .f32⟩
  | 4 => ⟨S_, .f32⟩
  | 5 => ⟨S256, .f32⟩
  | 6 => ⟨S1x256, .f32⟩
  | 7 => ⟨S_, .f32⟩
  | 8 => ⟨S256, .f32⟩
  | 9 => ⟨S_, .f32⟩
  | 10 => ⟨S4126x256, .f32⟩
  | 11 => ⟨S4126x256, .f32⟩
  | 12 => ⟨S1x256, .f32⟩
  | 13 => ⟨S_, .f32⟩
  | 14 => ⟨S31x256, .f32⟩
  | 15 => ⟨S31x256, .f32⟩
  | 16 => ⟨S4096x256, .f32⟩
  | 17 => ⟨S4096x256, .f32⟩
  | 18 => ⟨S4096x256, .f32⟩
  | 19 => ⟨S_, .f32⟩
  | 20 => ⟨S256, .f32⟩
  | 21 => ⟨S1x256, .f32⟩
  | 22 => ⟨S_, .f32⟩
  | 23 => ⟨S256, .f32⟩
  | 24 => ⟨S_, .f32⟩
  | 25 => ⟨S4126x256, .f32⟩
  | 26 => ⟨S4126x256, .f32⟩
  | 27 => ⟨S1x256, .f32⟩
  | 28 => ⟨S_, .f32⟩
  | 29 => ⟨S31x256, .f32⟩
  | 30 => ⟨S31x256, .f32⟩
  | 31 => ⟨S4096x256, .f32⟩
  | 32 => ⟨S4096x256, .f32⟩
  | 33 => ⟨S4096x256, .f32⟩
  | 34 => ⟨S_, .f32⟩
  | 35 => ⟨S256, .f32⟩
  | 36 => ⟨S1x256, .f32⟩
  | 37 => ⟨S_, .f32⟩
  | 38 => ⟨S256, .f32⟩
  | 39 => ⟨S_, .f32⟩
  | 40 => ⟨S4126x256, .f32⟩
  | 41 => ⟨S4126x256, .f32⟩
  | 42 => ⟨S1x256, .f32⟩
  | 43 => ⟨S_, .f32⟩
  | 44 => ⟨S31x256, .f32⟩
  | 45 => ⟨S31x256, .f32⟩
  | 46 => ⟨S4096x256, .f32⟩
  | 47 => ⟨S4096x256, .f32⟩
  | 48 => ⟨S4096x256, .f32⟩
  | 49 => ⟨S_, .f32⟩
  | 50 => ⟨S256, .f32⟩
  | 51 => ⟨S1x256, .f32⟩
  | 52 => ⟨S_, .f32⟩
  | 53 => ⟨S256, .f32⟩
  | 54 => ⟨S_, .f32⟩
  | 55 => ⟨S4126x256, .f32⟩
  | 56 => ⟨S4126x256, .f32⟩
  | 57 => ⟨S1x256, .f32⟩
  | 58 => ⟨S_, .f32⟩
  | 59 => ⟨S31x256, .f32⟩
  | 60 => ⟨S31x256, .f32⟩
  | 61 => ⟨S4096x256, .f32⟩
  | 62 => ⟨S4096x256, .f32⟩
  | 63 => ⟨S4096x256, .f32⟩
  | 64 => ⟨S_, .f32⟩
  | 65 => ⟨S256, .f32⟩
  | 66 => ⟨S1x256, .f32⟩
  | 67 => ⟨S_, .f32⟩
  | 68 => ⟨S256, .f32⟩
  | 69 => ⟨S_, .f32⟩
  | 70 => ⟨S4126x256, .f32⟩
  | 71 => ⟨S4126x256, .f32⟩
  | 72 => ⟨S1x256, .f32⟩
  | 73 => ⟨S_, .f32⟩
  | 74 => ⟨S31x256, .f32⟩
  | 75 => ⟨S31x256, .f32⟩
  | 76 => ⟨S4096x256, .f32⟩
  | 77 => ⟨S4096x256, .f32⟩
  | 78 => ⟨S4096x256, .f32⟩
  | 79 => ⟨S_, .f32⟩
  | 80 => ⟨S256, .f32⟩
  | 81 => ⟨S1x256, .f32⟩
  | 82 => ⟨S_, .f32⟩
  | 83 => ⟨S256, .f32⟩
  | 84 => ⟨S_, .f32⟩
  | 85 => ⟨S4126x256, .f32⟩
  | 86 => ⟨S4126x256, .f32⟩
  | 87 => ⟨S1x256, .f32⟩
  | 88 => ⟨S_, .f32⟩
  | 89 => ⟨S31x256, .f32⟩
  | 90 => ⟨S31x256, .f32⟩
  | 91 => ⟨S4096x256, .f32⟩
  | 92 => ⟨S4096x256, .f32⟩
  | 93 => ⟨S4096x256, .f32⟩
  | 94 => ⟨S_, .f32⟩
  | 95 => ⟨S256, .f32⟩
  | 96 => ⟨S1x256, .f32⟩
  | 97 => ⟨S_, .f32⟩
  | 98 => ⟨S256, .f32⟩
  | 99 => ⟨S_, .f32⟩
  | 100 => ⟨S4126x256, .f32⟩
  | 101 => ⟨S4126x256, .f32⟩
  | 102 => ⟨S1x256, .f32⟩
  | 103 => ⟨S_, .f32⟩
  | 104 => ⟨S31x256, .f32⟩
  | 105 => ⟨S31x256, .f32⟩
  | 106 => ⟨S30x256, .f32⟩
  | 107 => ⟨S4096x256, .f32⟩
  | 108 => ⟨S4096x256, .f32⟩
  | 109 => ⟨S4096x256, .f32⟩
  | 110 => ⟨S4096x256, .f32⟩
  | 111 => ⟨S4096x512, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S4096x256, .f32⟩
  | 121 => ⟨S4096x256, .f32⟩
  | 122 => ⟨S4096x256, .f32⟩
  | 123 => ⟨S_, .f32⟩
  | 124 => ⟨S256, .f32⟩
  | 125 => ⟨S1x256, .f32⟩
  | 126 => ⟨S_, .f32⟩
  | 127 => ⟨S256, .f32⟩
  | _ => ⟨S4096x7684, .f32⟩

abbrev hbmTy0_8 (i : Nat) : BufTy := match i % 128 with
  | 0 => ⟨S_, .f32⟩
  | 1 => ⟨S4098x256, .f32⟩
  | 2 => ⟨S1x256, .f32⟩
  | 3 => ⟨S_, .f32⟩
  | 4 => ⟨S3x256, .f32⟩
  | 5 => ⟨S4096x256, .f32⟩
  | 6 => ⟨S4096x256, .f32⟩
  | 7 => ⟨S4096x256, .f32⟩
  | 8 => ⟨S_, .f32⟩
  | 9 => ⟨S256, .f32⟩
  | 10 => ⟨S1x256, .f32⟩
  | 11 => ⟨S_, .f32⟩
  | 12 => ⟨S256, .f32⟩
  | 13 => ⟨S_, .f32⟩
  | 14 => ⟨S4098x256, .f32⟩
  | 15 => ⟨S4098x256, .f32⟩
  | 16 => ⟨S1x256, .f32⟩
  | 17 => ⟨S_, .f32⟩
  | 18 => ⟨S3x256, .f32⟩
  | 19 => ⟨S3x256, .f32⟩
  | 20 => ⟨S4096x256, .f32⟩
  | 21 => ⟨S4096x256, .f32⟩
  | 22 => ⟨S4096x256, .f32⟩
  | 23 => ⟨S_, .f32⟩
  | 24 => ⟨S256, .f32⟩
  | 25 => ⟨S1x256, .f32⟩
  | 26 => ⟨S_, .f32⟩
  | 27 => ⟨S256, .f32⟩
  | 28 => ⟨S_, .f32⟩
  | 29 => ⟨S4098x256, .f32⟩
  | 30 => ⟨S4098x256, .f32⟩
  | 31 => ⟨S1x256, .f32⟩
  | 32 => ⟨S_, .f32⟩
  | 33 => ⟨S3x256, .f32⟩
  | 34 => ⟨S3x256, .f32⟩
  | 35 => ⟨S2x256, .f32⟩
  | 36 => ⟨S4096x256, .f32⟩
  | 37 => ⟨S4096x256, .f32⟩
  | 38 => ⟨S4096x256, .f32⟩
  | 39 => ⟨S4096x768, .f32⟩
  | 40 => ⟨S4096x4x64, .f32⟩
  | 41 => ⟨S4096x256, .f32⟩
  | 42 => ⟨S4096x4x64, .f32⟩
  | 43 => ⟨S4096x256, .f32⟩
  | 44 => ⟨S4096x4x64, .f32⟩
  | 45 => ⟨S4096x256, .f32⟩
  | 46 => ⟨S4096x768, .f32⟩
  | 47 => ⟨S4096x256, .f32⟩
  | 48 => ⟨S4096x256, .f32⟩
  | 49 => ⟨S4096x256, .f32⟩
  | 50 => ⟨S4096x256, .f32⟩
  | 51 => ⟨S4096x256, .f32⟩
  | 52 => ⟨S4096x256, .f32⟩
  | 53 => ⟨S4096x256, .f32⟩
  | 54 => ⟨S4096x256, .f32⟩
  | 55 => ⟨S32x128x4x64, .f32⟩
  | 56 => ⟨S_, .f32⟩
  | 57 => ⟨S128x4, .f32⟩
  | 58 => ⟨S1x128x4x1, .f32⟩
  | 59 => ⟨S_, .f32⟩
  | 60 => ⟨S128x4, .f32⟩
  | 61 => ⟨S4x128, .f32⟩
  | 62 => ⟨S4x32x64x128, .f32⟩
  | 63 => ⟨S4x128x128, .f32⟩
  | 64 => ⟨S4x32x64x128, .f32⟩
  | 65 => ⟨S32x128x4x64, .f32⟩
  | 66 => ⟨S_, .f32⟩
  | 67 => ⟨S4x128x128, .f32⟩
  | 68 => ⟨S4x128x128, .f32⟩
  | 69 => ⟨S4096x256, .f32⟩
  | 70 => ⟨S_, .f32⟩
  | 71 => ⟨S256, .f32⟩
  | 72 => ⟨S1x256, .f32⟩
  | 73 => ⟨S_, .f32⟩
  | 74 => ⟨S256, .f32⟩
  | 75 => ⟨S4096x256, .f32⟩
  | 76 => ⟨S_, .f32⟩
  | 77 => ⟨S256, .f32⟩
  | 78 => ⟨S1x256, .f32⟩
  | 79 => ⟨S4096x256, .f32⟩
  | 80 => ⟨S4096x256, .f32⟩
  | 81 => ⟨S_, .f32⟩
  | 82 => ⟨S256, .f32⟩
  | 83 => ⟨S4096x256, .f32⟩
  | 84 => ⟨S_, .f32⟩
  | 85 => ⟨S4096, .f32⟩
  | 86 => ⟨S4096x1, .f32⟩
  | 87 => ⟨S4096x256, .f32⟩
  | 88 => ⟨S4096x256, .f32⟩
  | 89 => ⟨S4096x1, .f32⟩
  | 90 => ⟨S_, .f32⟩
  | 91 => ⟨S4096x1, .f32⟩
  | 92 => ⟨S4096x1, .f32⟩
  | 93 => ⟨S_, .f32⟩
  | 94 => ⟨S4096, .f32⟩
  | 95 => ⟨S4096x256, .f32⟩
  | 96 => ⟨S4096x256, .f32⟩
  | 97 => ⟨S4096x256, .f32⟩
  | 98 => ⟨S4096x256, .f32⟩
  | 99 => ⟨S4096x256, .f32⟩
  | 100 => ⟨S4096x256, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x256, .f32⟩
  | 110 => ⟨S4096x256, .f32⟩
  | 111 => ⟨S4096x512, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S4096x512, .f32⟩
  | 126 => ⟨S4096x512, .f32⟩
  | 127 => ⟨S4096x3584, .f32⟩
  | _ => ⟨S4096x7684, .f32⟩

abbrev hbmTy0_9 (i : Nat) : BufTy := match i % 128 with
  | 0 => ⟨S4096x3584, .bf16⟩
  | _ => ⟨S4096x7684, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4096x7684, .f32⟩

abbrev bufTy : (tb : Table) → Fin (tcTables nBuf tb) → BufTy
  | .hbm, ⟨i, _⟩ => hbmTy i
  | _, _ => ⟨S4096x7684, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c : Ref sig .tc := ⟨.hbm, 87, rfl⟩
abbrev main_v57 : Ref sig .tc := ⟨.hbm, 88, rfl⟩
abbrev main_call0_v0 : Ref sig .tc := ⟨.hbm, 89, rfl⟩
abbrev main_call0_c : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_c_0 : Ref sig .tc := ⟨.hbm, 95, rfl⟩
abbrev main_call0_v5 : Ref sig .tc := ⟨.hbm, 96, rfl⟩
abbrev main_v58 : Ref sig .tc := ⟨.hbm, 97, rfl⟩
abbrev main_v59 : Ref sig .tc := ⟨.hbm, 98, rfl⟩
abbrev main_cst_12 : Ref sig .tc := ⟨.hbm, 99, rfl⟩
abbrev main_v60 : Ref sig .tc := ⟨.hbm, 100, rfl⟩
abbrev main_v61_1 : Ref sig .tc := ⟨.hbm, 101, rfl⟩
abbrev main_v61_0 : Ref sig .tc := ⟨.hbm, 102, rfl⟩
abbrev main_call1_cst : Ref sig .tc := ⟨.hbm, 103, rfl⟩
abbrev main_v61_2 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call2_v0 : Ref sig .tc := ⟨.hbm, 113, rfl⟩
abbrev main_call2_v1 : Ref sig .tc := ⟨.hbm, 114, rfl⟩
abbrev main_call2_cst : Ref sig .tc := ⟨.hbm, 115, rfl⟩
abbrev main_call2_v2 : Ref sig .tc := ⟨.hbm, 116, rfl⟩
abbrev main_call2_v3 : Ref sig .tc := ⟨.hbm, 117, rfl⟩
abbrev main_call2_cst_0 : Ref sig .tc := ⟨.hbm, 118, rfl⟩
abbrev main_call2_v4 : Ref sig .tc := ⟨.hbm, 119, rfl⟩
abbrev main_v70_2 : Ref sig .tc := ⟨.hbm, 120, rfl⟩
abbrev main_call2_cst_1 : Ref sig .tc := ⟨.hbm, 121, rfl⟩
abbrev main_call2_v6 : Ref sig .tc := ⟨.hbm, 122, rfl⟩
abbrev main_call2_v7 : Ref sig .tc := ⟨.hbm, 123, rfl⟩
abbrev main_v70_1 : Ref sig .tc := ⟨.hbm, 124, rfl⟩
abbrev main_v70_0 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_13 : Ref sig .tc := ⟨.hbm, 140, rfl⟩
abbrev main_v85 : Ref sig .tc := ⟨.hbm, 141, rfl⟩
abbrev main_v86 : Ref sig .tc := ⟨.hbm, 142, rfl⟩
abbrev main_cst_14 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_15 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_call3_v0 : Ref sig .tc := ⟨.hbm, 169, rfl⟩
abbrev main_call3_v1 : Ref sig .tc := ⟨.hbm, 170, rfl⟩
abbrev main_call3_cst : Ref sig .tc := ⟨.hbm, 171, rfl⟩
abbrev main_call3_v2 : Ref sig .tc := ⟨.hbm, 172, rfl⟩
abbrev main_call3_v3 : Ref sig .tc := ⟨.hbm, 173, rfl⟩
abbrev main_call3_cst_0 : Ref sig .tc := ⟨.hbm, 174, rfl⟩
abbrev main_call3_v4 : Ref sig .tc := ⟨.hbm, 175, rfl⟩
abbrev main_v111_2 : Ref sig .tc := ⟨.hbm, 176, rfl⟩
abbrev main_call3_cst_1 : Ref sig .tc := ⟨.hbm, 177, rfl⟩
abbrev main_call3_v6 : Ref sig .tc := ⟨.hbm, 178, rfl⟩
abbrev main_call3_v7 : Ref sig .tc := ⟨.hbm, 179, rfl⟩
abbrev main_v111_1 : Ref sig .tc := ⟨.hbm, 180, rfl⟩
abbrev main_v111_0 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_16 : Ref sig .tc := ⟨.hbm, 187, rfl⟩
abbrev main_v117 : Ref sig .tc := ⟨.hbm, 188, rfl⟩
abbrev main_v118 : Ref sig .tc := ⟨.hbm, 189, rfl⟩
abbrev main_cst_17 : Ref sig .tc := ⟨.hbm, 190, rfl⟩
abbrev main_v119 : Ref sig .tc := ⟨.hbm, 191, rfl⟩
abbrev main_v120 : Ref sig .tc := ⟨.hbm, 192, rfl⟩
abbrev main_cst_18 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_19 : Ref sig .tc := ⟨.hbm, 198, rfl⟩
abbrev main_v125 : Ref sig .tc := ⟨.hbm, 199, rfl⟩
abbrev main_v126 : Ref sig .tc := ⟨.hbm, 200, rfl⟩
abbrev main_cst_20 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_cst_21 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_v324 : Ref sig .tc := ⟨.hbm, 400, rfl⟩
abbrev main_v325 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_cst_22 : Ref sig .tc := ⟨.hbm, 425, rfl⟩
abbrev main_v349 : Ref sig .tc := ⟨.hbm, 426, rfl⟩
abbrev main_v350 : Ref sig .tc := ⟨.hbm, 427, rfl⟩
abbrev main_cst_23 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_cst_24 : Ref sig .tc := ⟨.hbm, 434, rfl⟩
abbrev main_v356 : Ref sig .tc := ⟨.hbm, 435, rfl⟩
abbrev main_v357 : Ref sig .tc := ⟨.hbm, 436, rfl⟩
abbrev main_cst_25 : Ref sig .tc := ⟨.hbm, 437, rfl⟩
abbrev main_v358 : Ref sig .tc := ⟨.hbm, 438, rfl⟩
abbrev main_v359 : Ref sig .tc := ⟨.hbm, 439, rfl⟩
abbrev main_cst_26 : Ref sig .tc := ⟨.hbm, 440, rfl⟩
abbrev main_v360 : Ref sig .tc := ⟨.hbm, 441, rfl⟩
abbrev main_v361 : Ref sig .tc := ⟨.hbm, 442, rfl⟩
abbrev main_v362 : Ref sig .tc := ⟨.hbm, 443, rfl⟩
abbrev main_v363 : Ref sig .tc := ⟨.hbm, 444, rfl⟩
abbrev main_cst_27 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩
abbrev main_call4_v0 : Ref sig .tc := ⟨.hbm, 456, rfl⟩
abbrev main_call4_v1 : Ref sig .tc := ⟨.hbm, 457, rfl⟩
abbrev main_call4_cst : Ref sig .tc := ⟨.hbm, 458, rfl⟩
abbrev main_call4_v2 : Ref sig .tc := ⟨.hbm, 459, rfl⟩
abbrev main_call4_v3 : Ref sig .tc := ⟨.hbm, 460, rfl⟩
abbrev main_call4_cst_0 : Ref sig .tc := ⟨.hbm, 461, rfl⟩
abbrev main_call4_v4 : Ref sig .tc := ⟨.hbm, 462, rfl⟩
abbrev main_v374_2 : Ref sig .tc := ⟨.hbm, 463, rfl⟩
abbrev main_call4_cst_1 : Ref sig .tc := ⟨.hbm, 464, rfl⟩
abbrev main_call4_v6 : Ref sig .tc := ⟨.hbm, 465, rfl⟩
abbrev main_call4_v7 : Ref sig .tc := ⟨.hbm, 466, rfl⟩
abbrev main_v374_1 : Ref sig .tc := ⟨.hbm, 467, rfl⟩
abbrev main_v374_0 : Ref sig .tc := ⟨.hbm, 468, rfl⟩
abbrev main_call5_v0 : Ref sig .tc := ⟨.hbm, 469, rfl⟩
abbrev main_call5_v1 : Ref sig .tc := ⟨.hbm, 470, rfl⟩
abbrev main_call5_cst : Ref sig .tc := ⟨.hbm, 471, rfl⟩
abbrev main_call5_v2 : Ref sig .tc := ⟨.hbm, 472, rfl⟩
abbrev main_call5_v3 : Ref sig .tc := ⟨.hbm, 473, rfl⟩
abbrev main_call5_cst_0 : Ref sig .tc := ⟨.hbm, 474, rfl⟩
abbrev main_call5_v4 : Ref sig .tc := ⟨.hbm, 475, rfl⟩
abbrev main_v375_2 : Ref sig .tc := ⟨.hbm, 476, rfl⟩
abbrev main_call5_cst_1 : Ref sig .tc := ⟨.hbm, 477, rfl⟩
abbrev main_call5_v6 : Ref sig .tc := ⟨.hbm, 478, rfl⟩
abbrev main_call5_v7 : Ref sig .tc := ⟨.hbm, 479, rfl⟩
abbrev main_v375_1 : Ref sig .tc := ⟨.hbm, 480, rfl⟩
abbrev main_v375_0 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_call6_v0 : Ref sig .tc := ⟨.hbm, 485, rfl⟩
abbrev main_call6_v1 : Ref sig .tc := ⟨.hbm, 486, rfl⟩
abbrev main_call6_v2 : Ref sig .tc := ⟨.hbm, 487, rfl⟩
abbrev main_v379 : Ref sig .tc := ⟨.hbm, 488, rfl⟩
abbrev main_call7_v0 : Ref sig .tc := ⟨.hbm, 489, rfl⟩
abbrev main_call7_v1 : Ref sig .tc := ⟨.hbm, 490, rfl⟩
abbrev main_call7_v2 : Ref sig .tc := ⟨.hbm, 491, rfl⟩
abbrev main_v380 : Ref sig .tc := ⟨.hbm, 492, rfl⟩
abbrev main_cst_28 : Ref sig .tc := ⟨.hbm, 493, rfl⟩
abbrev main_v381 : Ref sig .tc := ⟨.hbm, 494, rfl⟩
abbrev main_v382 : Ref sig .tc := ⟨.hbm, 495, rfl⟩
abbrev main_cst_29 : Ref sig .tc := ⟨.hbm, 496, rfl⟩
abbrev main_v383 : Ref sig .tc := ⟨.hbm, 497, rfl⟩
abbrev main_v384 : Ref sig .tc := ⟨.hbm, 498, rfl⟩
abbrev main_cst_30 : Ref sig .tc := ⟨.hbm, 499, rfl⟩
abbrev main_v385 : Ref sig .tc := ⟨.hbm, 500, rfl⟩
abbrev main_v386 : Ref sig .tc := ⟨.hbm, 501, rfl⟩
abbrev main_v387 : Ref sig .tc := ⟨.hbm, 502, rfl⟩
abbrev main_v388 : Ref sig .tc := ⟨.hbm, 503, rfl⟩
abbrev main_cst_31 : Ref sig .tc := ⟨.hbm, 504, rfl⟩
abbrev main_v389 : Ref sig .tc := ⟨.hbm, 505, rfl⟩
abbrev main_v390 : Ref sig .tc := ⟨.hbm, 506, rfl⟩
abbrev main_cst_32 : Ref sig .tc := ⟨.hbm, 507, rfl⟩
abbrev main_v391 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_v395 : Ref sig .tc := ⟨.hbm, 512, rfl⟩
abbrev main_cst_33 : Ref sig .tc := ⟨.hbm, 513, rfl⟩
abbrev main_v396 : Ref sig .tc := ⟨.hbm, 514, rfl⟩
abbrev main_v397 : Ref sig .tc := ⟨.hbm, 515, rfl⟩
abbrev main_cst_34 : Ref sig .tc := ⟨.hbm, 516, rfl⟩
abbrev main_v398 : Ref sig .tc := ⟨.hbm, 517, rfl⟩
abbrev main_v399 : Ref sig .tc := ⟨.hbm, 518, rfl⟩
abbrev main_v400 : Ref sig .tc := ⟨.hbm, 519, rfl⟩
abbrev main_v401 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩
abbrev main_cst_35 : Ref sig .tc := ⟨.hbm, 524, rfl⟩
abbrev main_v405 : Ref sig .tc := ⟨.hbm, 525, rfl⟩
abbrev main_v406 : Ref sig .tc := ⟨.hbm, 526, rfl⟩
abbrev main_cst_36 : Ref sig .tc := ⟨.hbm, 527, rfl⟩
abbrev main_v407 : Ref sig .tc := ⟨.hbm, 528, rfl⟩
abbrev main_v408 : Ref sig .tc := ⟨.hbm, 529, rfl⟩
abbrev main_cst_37 : Ref sig .tc := ⟨.hbm, 530, rfl⟩
abbrev main_v409 : Ref sig .tc := ⟨.hbm, 531, rfl⟩
abbrev main_v410 : Ref sig .tc := ⟨.hbm, 532, rfl⟩
abbrev main_v411 : Ref sig .tc := ⟨.hbm, 533, rfl⟩
abbrev main_cst_38 : Ref sig .tc := ⟨.hbm, 534, rfl⟩
abbrev main_v412 : Ref sig .tc := ⟨.hbm, 535, rfl⟩
abbrev main_v413 : Ref sig .tc := ⟨.hbm, 536, rfl⟩
abbrev main_cst_39 : Ref sig .tc := ⟨.hbm, 537, rfl⟩
abbrev main_v414 : Ref sig .tc := ⟨.hbm, 538, rfl⟩
abbrev main_v415 : Ref sig .tc := ⟨.hbm, 539, rfl⟩
abbrev main_v416 : Ref sig .tc := ⟨.hbm, 540, rfl⟩
abbrev main_v417 : Ref sig .tc := ⟨.hbm, 541, rfl⟩
abbrev main_cst_40 : Ref sig .tc := ⟨.hbm, 542, rfl⟩
abbrev main_v418 : Ref sig .tc := ⟨.hbm, 543, rfl⟩
abbrev main_v419 : Ref sig .tc := ⟨.hbm, 544, rfl⟩
abbrev main_cst_41 : Ref sig .tc := ⟨.hbm, 545, rfl⟩
abbrev main_v420 : Ref sig .tc := ⟨.hbm, 546, rfl⟩
abbrev main_cst_42 : Ref sig .tc := ⟨.hbm, 547, rfl⟩
abbrev main_v421 : Ref sig .tc := ⟨.hbm, 548, rfl⟩
abbrev main_v422 : Ref sig .tc := ⟨.hbm, 549, rfl⟩
abbrev main_cst_43 : Ref sig .tc := ⟨.hbm, 550, rfl⟩
abbrev main_v423 : Ref sig .tc := ⟨.hbm, 551, rfl⟩
abbrev main_v424 : Ref sig .tc := ⟨.hbm, 552, rfl⟩
abbrev main_v425 : Ref sig .tc := ⟨.hbm, 553, rfl⟩
abbrev main_v426 : Ref sig .tc := ⟨.hbm, 554, rfl⟩
abbrev main_cst_44 : Ref sig .tc := ⟨.hbm, 555, rfl⟩
abbrev main_v427 : Ref sig .tc := ⟨.hbm, 556, rfl⟩
abbrev main_v428 : Ref sig .tc := ⟨.hbm, 557, rfl⟩
abbrev main_cst_45 : Ref sig .tc := ⟨.hbm, 558, rfl⟩
abbrev main_v429 : Ref sig .tc := ⟨.hbm, 559, rfl⟩
abbrev main_cst_46 : Ref sig .tc := ⟨.hbm, 560, rfl⟩
abbrev main_v430 : Ref sig .tc := ⟨.hbm, 561, rfl⟩
abbrev main_v431 : Ref sig .tc := ⟨.hbm, 562, rfl⟩
abbrev main_v432 : Ref sig .tc := ⟨.hbm, 563, rfl⟩
abbrev main_cst_47 : Ref sig .tc := ⟨.hbm, 564, rfl⟩
abbrev main_v433 : Ref sig .tc := ⟨.hbm, 565, rfl⟩
abbrev main_v434 : Ref sig .tc := ⟨.hbm, 566, rfl⟩
abbrev main_v435 : Ref sig .tc := ⟨.hbm, 567, rfl⟩
abbrev main_v436 : Ref sig .tc := ⟨.hbm, 568, rfl⟩
abbrev main_v437 : Ref sig .tc := ⟨.hbm, 569, rfl⟩
abbrev main_cst_48 : Ref sig .tc := ⟨.hbm, 570, rfl⟩
abbrev main_v438 : Ref sig .tc := ⟨.hbm, 571, rfl⟩
abbrev main_v439 : Ref sig .tc := ⟨.hbm, 572, rfl⟩
abbrev main_cst_49 : Ref sig .tc := ⟨.hbm, 573, rfl⟩
abbrev main_v440 : Ref sig .tc := ⟨.hbm, 574, rfl⟩
abbrev main_cst_50 : Ref sig .tc := ⟨.hbm, 575, rfl⟩
abbrev main_v441 : Ref sig .tc := ⟨.hbm, 576, rfl⟩
abbrev main_v442 : Ref sig .tc := ⟨.hbm, 577, rfl⟩
abbrev main_v443 : Ref sig .tc := ⟨.hbm, 578, rfl⟩
abbrev main_cst_51 : Ref sig .tc := ⟨.hbm, 579, rfl⟩
abbrev main_v444 : Ref sig .tc := ⟨.hbm, 580, rfl⟩
abbrev main_v445 : Ref sig .tc := ⟨.hbm, 581, rfl⟩
abbrev main_v446 : Ref sig .tc := ⟨.hbm, 582, rfl⟩
abbrev main_v447 : Ref sig .tc := ⟨.hbm, 583, rfl⟩
abbrev main_v448 : Ref sig .tc := ⟨.hbm, 584, rfl⟩
abbrev main_cst_52 : Ref sig .tc := ⟨.hbm, 585, rfl⟩
abbrev main_v449 : Ref sig .tc := ⟨.hbm, 586, rfl⟩
abbrev main_v450 : Ref sig .tc := ⟨.hbm, 587, rfl⟩
abbrev main_cst_53 : Ref sig .tc := ⟨.hbm, 588, rfl⟩
abbrev main_v451 : Ref sig .tc := ⟨.hbm, 589, rfl⟩
abbrev main_cst_54 : Ref sig .tc := ⟨.hbm, 590, rfl⟩
abbrev main_v452 : Ref sig .tc := ⟨.hbm, 591, rfl⟩
abbrev main_v453 : Ref sig .tc := ⟨.hbm, 592, rfl⟩
abbrev main_v454 : Ref sig .tc := ⟨.hbm, 593, rfl⟩
abbrev main_cst_55 : Ref sig .tc := ⟨.hbm, 594, rfl⟩
abbrev main_v455 : Ref sig .tc := ⟨.hbm, 595, rfl⟩
abbrev main_v456 : Ref sig .tc := ⟨.hbm, 596, rfl⟩
abbrev main_v457 : Ref sig .tc := ⟨.hbm, 597, rfl⟩
abbrev main_v458 : Ref sig .tc := ⟨.hbm, 598, rfl⟩
abbrev main_v459 : Ref sig .tc := ⟨.hbm, 599, rfl⟩
abbrev main_cst_56 : Ref sig .tc := ⟨.hbm, 600, rfl⟩
abbrev main_v460 : Ref sig .tc := ⟨.hbm, 601, rfl⟩
abbrev main_v461 : Ref sig .tc := ⟨.hbm, 602, rfl⟩
abbrev main_cst_57 : Ref sig .tc := ⟨.hbm, 603, rfl⟩
abbrev main_v462 : Ref sig .tc := ⟨.hbm, 604, rfl⟩
abbrev main_cst_58 : Ref sig .tc := ⟨.hbm, 605, rfl⟩
abbrev main_v463 : Ref sig .tc := ⟨.hbm, 606, rfl⟩
abbrev main_v464 : Ref sig .tc := ⟨.hbm, 607, rfl⟩
abbrev main_v465 : Ref sig .tc := ⟨.hbm, 608, rfl⟩
abbrev main_cst_59 : Ref sig .tc := ⟨.hbm, 609, rfl⟩
abbrev main_v466 : Ref sig .tc := ⟨.hbm, 610, rfl⟩
abbrev main_v467 : Ref sig .tc := ⟨.hbm, 611, rfl⟩
abbrev main_v468 : Ref sig .tc := ⟨.hbm, 612, rfl⟩
abbrev main_v469 : Ref sig .tc := ⟨.hbm, 613, rfl⟩
abbrev main_v470 : Ref sig .tc := ⟨.hbm, 614, rfl⟩
abbrev main_cst_60 : Ref sig .tc := ⟨.hbm, 615, rfl⟩
abbrev main_v471 : Ref sig .tc := ⟨.hbm, 616, rfl⟩
abbrev main_v472 : Ref sig .tc := ⟨.hbm, 617, rfl⟩
abbrev main_cst_61 : Ref sig .tc := ⟨.hbm, 618, rfl⟩
abbrev main_v473 : Ref sig .tc := ⟨.hbm, 619, rfl⟩
abbrev main_cst_62 : Ref sig .tc := ⟨.hbm, 620, rfl⟩
abbrev main_v474 : Ref sig .tc := ⟨.hbm, 621, rfl⟩
abbrev main_v475 : Ref sig .tc := ⟨.hbm, 622, rfl⟩
abbrev main_v476 : Ref sig .tc := ⟨.hbm, 623, rfl⟩
abbrev main_cst_63 : Ref sig .tc := ⟨.hbm, 624, rfl⟩
abbrev main_v477 : Ref sig .tc := ⟨.hbm, 625, rfl⟩
abbrev main_v478 : Ref sig .tc := ⟨.hbm, 626, rfl⟩
abbrev main_v479 : Ref sig .tc := ⟨.hbm, 627, rfl⟩
abbrev main_v480 : Ref sig .tc := ⟨.hbm, 628, rfl⟩
abbrev main_v481 : Ref sig .tc := ⟨.hbm, 629, rfl⟩
abbrev main_cst_64 : Ref sig .tc := ⟨.hbm, 630, rfl⟩
abbrev main_v482 : Ref sig .tc := ⟨.hbm, 631, rfl⟩
abbrev main_v483 : Ref sig .tc := ⟨.hbm, 632, rfl⟩
abbrev main_cst_65 : Ref sig .tc := ⟨.hbm, 633, rfl⟩
abbrev main_v484 : Ref sig .tc := ⟨.hbm, 634, rfl⟩
abbrev main_cst_66 : Ref sig .tc := ⟨.hbm, 635, rfl⟩
abbrev main_v485 : Ref sig .tc := ⟨.hbm, 636, rfl⟩
abbrev main_v486 : Ref sig .tc := ⟨.hbm, 637, rfl⟩
abbrev main_v487 : Ref sig .tc := ⟨.hbm, 638, rfl⟩
abbrev main_cst_67 : Ref sig .tc := ⟨.hbm, 639, rfl⟩
abbrev main_v488 : Ref sig .tc := ⟨.hbm, 640, rfl⟩
abbrev main_v489 : Ref sig .tc := ⟨.hbm, 641, rfl⟩
abbrev main_v490 : Ref sig .tc := ⟨.hbm, 642, rfl⟩
abbrev main_v491 : Ref sig .tc := ⟨.hbm, 643, rfl⟩
abbrev main_v492 : Ref sig .tc := ⟨.hbm, 644, rfl⟩
abbrev main_cst_68 : Ref sig .tc := ⟨.hbm, 645, rfl⟩
abbrev main_v493 : Ref sig .tc := ⟨.hbm, 646, rfl⟩
abbrev main_v494 : Ref sig .tc := ⟨.hbm, 647, rfl⟩
abbrev main_cst_69 : Ref sig .tc := ⟨.hbm, 648, rfl⟩
abbrev main_v495 : Ref sig .tc := ⟨.hbm, 649, rfl⟩
abbrev main_cst_70 : Ref sig .tc := ⟨.hbm, 650, rfl⟩
abbrev main_v496 : Ref sig .tc := ⟨.hbm, 651, rfl⟩
abbrev main_v497 : Ref sig .tc := ⟨.hbm, 652, rfl⟩
abbrev main_v498 : Ref sig .tc := ⟨.hbm, 653, rfl⟩
abbrev main_cst_71 : Ref sig .tc := ⟨.hbm, 654, rfl⟩
abbrev main_v499 : Ref sig .tc := ⟨.hbm, 655, rfl⟩
abbrev main_v500 : Ref sig .tc := ⟨.hbm, 656, rfl⟩
abbrev main_v501 : Ref sig .tc := ⟨.hbm, 657, rfl⟩
abbrev main_v502 : Ref sig .tc := ⟨.hbm, 658, rfl⟩
abbrev main_v503 : Ref sig .tc := ⟨.hbm, 659, rfl⟩
abbrev main_cst_72 : Ref sig .tc := ⟨.hbm, 660, rfl⟩
abbrev main_v504 : Ref sig .tc := ⟨.hbm, 661, rfl⟩
abbrev main_v505 : Ref sig .tc := ⟨.hbm, 662, rfl⟩
abbrev main_cst_73 : Ref sig .tc := ⟨.hbm, 663, rfl⟩
abbrev main_v506 : Ref sig .tc := ⟨.hbm, 664, rfl⟩
abbrev main_cst_74 : Ref sig .tc := ⟨.hbm, 665, rfl⟩
abbrev main_v507 : Ref sig .tc := ⟨.hbm, 666, rfl⟩
abbrev main_v508 : Ref sig .tc := ⟨.hbm, 667, rfl⟩
abbrev main_v509 : Ref sig .tc := ⟨.hbm, 668, rfl⟩
abbrev main_cst_75 : Ref sig .tc := ⟨.hbm, 669, rfl⟩
abbrev main_v510 : Ref sig .tc := ⟨.hbm, 670, rfl⟩
abbrev main_v511 : Ref sig .tc := ⟨.hbm, 671, rfl⟩
abbrev main_v512 : Ref sig .tc := ⟨.hbm, 672, rfl⟩
abbrev main_v513 : Ref sig .tc := ⟨.hbm, 673, rfl⟩
abbrev main_v514 : Ref sig .tc := ⟨.hbm, 674, rfl⟩
abbrev main_cst_76 : Ref sig .tc := ⟨.hbm, 675, rfl⟩
abbrev main_v515 : Ref sig .tc := ⟨.hbm, 676, rfl⟩
abbrev main_v516 : Ref sig .tc := ⟨.hbm, 677, rfl⟩
abbrev main_cst_77 : Ref sig .tc := ⟨.hbm, 678, rfl⟩
abbrev main_v517 : Ref sig .tc := ⟨.hbm, 679, rfl⟩
abbrev main_cst_78 : Ref sig .tc := ⟨.hbm, 680, rfl⟩
abbrev main_v518 : Ref sig .tc := ⟨.hbm, 681, rfl⟩
abbrev main_v519 : Ref sig .tc := ⟨.hbm, 682, rfl⟩
abbrev main_v520 : Ref sig .tc := ⟨.hbm, 683, rfl⟩
abbrev main_cst_79 : Ref sig .tc := ⟨.hbm, 684, rfl⟩
abbrev main_v521 : Ref sig .tc := ⟨.hbm, 685, rfl⟩
abbrev main_v522 : Ref sig .tc := ⟨.hbm, 686, rfl⟩
abbrev main_v523 : Ref sig .tc := ⟨.hbm, 687, rfl⟩
abbrev main_v524 : Ref sig .tc := ⟨.hbm, 688, rfl⟩
abbrev main_v525 : Ref sig .tc := ⟨.hbm, 689, rfl⟩
abbrev main_cst_80 : Ref sig .tc := ⟨.hbm, 690, rfl⟩
abbrev main_v526 : Ref sig .tc := ⟨.hbm, 691, rfl⟩
abbrev main_v527 : Ref sig .tc := ⟨.hbm, 692, rfl⟩
abbrev main_cst_81 : Ref sig .tc := ⟨.hbm, 693, rfl⟩
abbrev main_v528 : Ref sig .tc := ⟨.hbm, 694, rfl⟩
abbrev main_cst_82 : Ref sig .tc := ⟨.hbm, 695, rfl⟩
abbrev main_v529 : Ref sig .tc := ⟨.hbm, 696, rfl⟩
abbrev main_v530 : Ref sig .tc := ⟨.hbm, 697, rfl⟩
abbrev main_v531 : Ref sig .tc := ⟨.hbm, 698, rfl⟩
abbrev main_cst_83 : Ref sig .tc := ⟨.hbm, 699, rfl⟩
abbrev main_v532 : Ref sig .tc := ⟨.hbm, 700, rfl⟩
abbrev main_v533 : Ref sig .tc := ⟨.hbm, 701, rfl⟩
abbrev main_v534 : Ref sig .tc := ⟨.hbm, 702, rfl⟩
abbrev main_v535 : Ref sig .tc := ⟨.hbm, 703, rfl⟩
abbrev main_v536 : Ref sig .tc := ⟨.hbm, 704, rfl⟩
abbrev main_cst_84 : Ref sig .tc := ⟨.hbm, 705, rfl⟩
abbrev main_v537 : Ref sig .tc := ⟨.hbm, 706, rfl⟩
abbrev main_v538 : Ref sig .tc := ⟨.hbm, 707, rfl⟩
abbrev main_cst_85 : Ref sig .tc := ⟨.hbm, 708, rfl⟩
abbrev main_v539 : Ref sig .tc := ⟨.hbm, 709, rfl⟩
abbrev main_cst_86 : Ref sig .tc := ⟨.hbm, 710, rfl⟩
abbrev main_v540 : Ref sig .tc := ⟨.hbm, 711, rfl⟩
abbrev main_v541 : Ref sig .tc := ⟨.hbm, 712, rfl⟩
abbrev main_v542 : Ref sig .tc := ⟨.hbm, 713, rfl⟩
abbrev main_cst_87 : Ref sig .tc := ⟨.hbm, 714, rfl⟩
abbrev main_v543 : Ref sig .tc := ⟨.hbm, 715, rfl⟩
abbrev main_v544 : Ref sig .tc := ⟨.hbm, 716, rfl⟩
abbrev main_v545 : Ref sig .tc := ⟨.hbm, 717, rfl⟩
abbrev main_v546 : Ref sig .tc := ⟨.hbm, 718, rfl⟩
abbrev main_v547 : Ref sig .tc := ⟨.hbm, 719, rfl⟩
abbrev main_cst_88 : Ref sig .tc := ⟨.hbm, 720, rfl⟩
abbrev main_v548 : Ref sig .tc := ⟨.hbm, 721, rfl⟩
abbrev main_v549 : Ref sig .tc := ⟨.hbm, 722, rfl⟩
abbrev main_cst_89 : Ref sig .tc := ⟨.hbm, 723, rfl⟩
abbrev main_v550 : Ref sig .tc := ⟨.hbm, 724, rfl⟩
abbrev main_cst_90 : Ref sig .tc := ⟨.hbm, 725, rfl⟩
abbrev main_v551 : Ref sig .tc := ⟨.hbm, 726, rfl⟩
abbrev main_v552 : Ref sig .tc := ⟨.hbm, 727, rfl⟩
abbrev main_v553 : Ref sig .tc := ⟨.hbm, 728, rfl⟩
abbrev main_cst_91 : Ref sig .tc := ⟨.hbm, 729, rfl⟩
abbrev main_v554 : Ref sig .tc := ⟨.hbm, 730, rfl⟩
abbrev main_v555 : Ref sig .tc := ⟨.hbm, 731, rfl⟩
abbrev main_v556 : Ref sig .tc := ⟨.hbm, 732, rfl⟩
abbrev main_v557 : Ref sig .tc := ⟨.hbm, 733, rfl⟩
abbrev main_v558 : Ref sig .tc := ⟨.hbm, 734, rfl⟩
abbrev main_cst_92 : Ref sig .tc := ⟨.hbm, 735, rfl⟩
abbrev main_v559 : Ref sig .tc := ⟨.hbm, 736, rfl⟩
abbrev main_v560 : Ref sig .tc := ⟨.hbm, 737, rfl⟩
abbrev main_cst_93 : Ref sig .tc := ⟨.hbm, 738, rfl⟩
abbrev main_v561 : Ref sig .tc := ⟨.hbm, 739, rfl⟩
abbrev main_cst_94 : Ref sig .tc := ⟨.hbm, 740, rfl⟩
abbrev main_v562 : Ref sig .tc := ⟨.hbm, 741, rfl⟩
abbrev main_v563 : Ref sig .tc := ⟨.hbm, 742, rfl⟩
abbrev main_v564 : Ref sig .tc := ⟨.hbm, 743, rfl⟩
abbrev main_cst_95 : Ref sig .tc := ⟨.hbm, 744, rfl⟩
abbrev main_v565 : Ref sig .tc := ⟨.hbm, 745, rfl⟩
abbrev main_v566 : Ref sig .tc := ⟨.hbm, 746, rfl⟩
abbrev main_v567 : Ref sig .tc := ⟨.hbm, 747, rfl⟩
abbrev main_v568 : Ref sig .tc := ⟨.hbm, 748, rfl⟩
abbrev main_v569 : Ref sig .tc := ⟨.hbm, 749, rfl⟩
abbrev main_cst_96 : Ref sig .tc := ⟨.hbm, 750, rfl⟩
abbrev main_v570 : Ref sig .tc := ⟨.hbm, 751, rfl⟩
abbrev main_v571 : Ref sig .tc := ⟨.hbm, 752, rfl⟩
abbrev main_cst_97 : Ref sig .tc := ⟨.hbm, 753, rfl⟩
abbrev main_v572 : Ref sig .tc := ⟨.hbm, 754, rfl⟩
abbrev main_cst_98 : Ref sig .tc := ⟨.hbm, 755, rfl⟩
abbrev main_v573 : Ref sig .tc := ⟨.hbm, 756, rfl⟩
abbrev main_v574 : Ref sig .tc := ⟨.hbm, 757, rfl⟩
abbrev main_v575 : Ref sig .tc := ⟨.hbm, 758, rfl⟩
abbrev main_cst_99 : Ref sig .tc := ⟨.hbm, 759, rfl⟩
abbrev main_v576 : Ref sig .tc := ⟨.hbm, 760, rfl⟩
abbrev main_v577 : Ref sig .tc := ⟨.hbm, 761, rfl⟩
abbrev main_v578 : Ref sig .tc := ⟨.hbm, 762, rfl⟩
abbrev main_v579 : Ref sig .tc := ⟨.hbm, 763, rfl⟩
abbrev main_v580 : Ref sig .tc := ⟨.hbm, 764, rfl⟩
abbrev main_cst_100 : Ref sig .tc := ⟨.hbm, 765, rfl⟩
abbrev main_v581 : Ref sig .tc := ⟨.hbm, 766, rfl⟩
abbrev main_v582 : Ref sig .tc := ⟨.hbm, 767, rfl⟩
abbrev main_cst_101 : Ref sig .tc := ⟨.hbm, 768, rfl⟩
abbrev main_v583 : Ref sig .tc := ⟨.hbm, 769, rfl⟩
abbrev main_cst_102 : Ref sig .tc := ⟨.hbm, 770, rfl⟩
abbrev main_v584 : Ref sig .tc := ⟨.hbm, 771, rfl⟩
abbrev main_v585 : Ref sig .tc := ⟨.hbm, 772, rfl⟩
abbrev main_v586 : Ref sig .tc := ⟨.hbm, 773, rfl⟩
abbrev main_cst_103 : Ref sig .tc := ⟨.hbm, 774, rfl⟩
abbrev main_v587 : Ref sig .tc := ⟨.hbm, 775, rfl⟩
abbrev main_v588 : Ref sig .tc := ⟨.hbm, 776, rfl⟩
abbrev main_v589 : Ref sig .tc := ⟨.hbm, 777, rfl⟩
abbrev main_v590 : Ref sig .tc := ⟨.hbm, 778, rfl⟩
abbrev main_v591 : Ref sig .tc := ⟨.hbm, 779, rfl⟩
abbrev main_cst_104 : Ref sig .tc := ⟨.hbm, 780, rfl⟩
abbrev main_v592 : Ref sig .tc := ⟨.hbm, 781, rfl⟩
abbrev main_v593 : Ref sig .tc := ⟨.hbm, 782, rfl⟩
abbrev main_cst_105 : Ref sig .tc := ⟨.hbm, 783, rfl⟩
abbrev main_v594 : Ref sig .tc := ⟨.hbm, 784, rfl⟩
abbrev main_cst_106 : Ref sig .tc := ⟨.hbm, 785, rfl⟩
abbrev main_v595 : Ref sig .tc := ⟨.hbm, 786, rfl⟩
abbrev main_v596 : Ref sig .tc := ⟨.hbm, 787, rfl⟩
abbrev main_v597 : Ref sig .tc := ⟨.hbm, 788, rfl⟩
abbrev main_cst_107 : Ref sig .tc := ⟨.hbm, 789, rfl⟩
abbrev main_v598 : Ref sig .tc := ⟨.hbm, 790, rfl⟩
abbrev main_v599 : Ref sig .tc := ⟨.hbm, 791, rfl⟩
abbrev main_v600 : Ref sig .tc := ⟨.hbm, 792, rfl⟩
abbrev main_v601 : Ref sig .tc := ⟨.hbm, 793, rfl⟩
abbrev main_v602 : Ref sig .tc := ⟨.hbm, 794, rfl⟩
abbrev main_cst_108 : Ref sig .tc := ⟨.hbm, 795, rfl⟩
abbrev main_v603 : Ref sig .tc := ⟨.hbm, 796, rfl⟩
abbrev main_v604 : Ref sig .tc := ⟨.hbm, 797, rfl⟩
abbrev main_cst_109 : Ref sig .tc := ⟨.hbm, 798, rfl⟩
abbrev main_v605 : Ref sig .tc := ⟨.hbm, 799, rfl⟩
abbrev main_cst_110 : Ref sig .tc := ⟨.hbm, 800, rfl⟩
abbrev main_v606 : Ref sig .tc := ⟨.hbm, 801, rfl⟩
abbrev main_v607 : Ref sig .tc := ⟨.hbm, 802, rfl⟩
abbrev main_v608 : Ref sig .tc := ⟨.hbm, 803, rfl⟩
abbrev main_cst_111 : Ref sig .tc := ⟨.hbm, 804, rfl⟩
abbrev main_v609 : Ref sig .tc := ⟨.hbm, 805, rfl⟩
abbrev main_v610 : Ref sig .tc := ⟨.hbm, 806, rfl⟩
abbrev main_v611 : Ref sig .tc := ⟨.hbm, 807, rfl⟩
abbrev main_v612 : Ref sig .tc := ⟨.hbm, 808, rfl⟩
abbrev main_v613 : Ref sig .tc := ⟨.hbm, 809, rfl⟩
abbrev main_cst_112 : Ref sig .tc := ⟨.hbm, 810, rfl⟩
abbrev main_v614 : Ref sig .tc := ⟨.hbm, 811, rfl⟩
abbrev main_v615 : Ref sig .tc := ⟨.hbm, 812, rfl⟩
abbrev main_cst_113 : Ref sig .tc := ⟨.hbm, 813, rfl⟩
abbrev main_v616 : Ref sig .tc := ⟨.hbm, 814, rfl⟩
abbrev main_cst_114 : Ref sig .tc := ⟨.hbm, 815, rfl⟩
abbrev main_v617 : Ref sig .tc := ⟨.hbm, 816, rfl⟩
abbrev main_v618 : Ref sig .tc := ⟨.hbm, 817, rfl⟩
abbrev main_v619 : Ref sig .tc := ⟨.hbm, 818, rfl⟩
abbrev main_cst_115 : Ref sig .tc := ⟨.hbm, 819, rfl⟩
abbrev main_v620 : Ref sig .tc := ⟨.hbm, 820, rfl⟩
abbrev main_v621 : Ref sig .tc := ⟨.hbm, 821, rfl⟩
abbrev main_v622 : Ref sig .tc := ⟨.hbm, 822, rfl⟩
abbrev main_v623 : Ref sig .tc := ⟨.hbm, 823, rfl⟩
abbrev main_v624 : Ref sig .tc := ⟨.hbm, 824, rfl⟩
abbrev main_cst_116 : Ref sig .tc := ⟨.hbm, 825, rfl⟩
abbrev main_v625 : Ref sig .tc := ⟨.hbm, 826, rfl⟩
abbrev main_v626 : Ref sig .tc := ⟨.hbm, 827, rfl⟩
abbrev main_cst_117 : Ref sig .tc := ⟨.hbm, 828, rfl⟩
abbrev main_v627 : Ref sig .tc := ⟨.hbm, 829, rfl⟩
abbrev main_cst_118 : Ref sig .tc := ⟨.hbm, 830, rfl⟩
abbrev main_v628 : Ref sig .tc := ⟨.hbm, 831, rfl⟩
abbrev main_v629 : Ref sig .tc := ⟨.hbm, 832, rfl⟩
abbrev main_v630 : Ref sig .tc := ⟨.hbm, 833, rfl⟩
abbrev main_cst_119 : Ref sig .tc := ⟨.hbm, 834, rfl⟩
abbrev main_v631 : Ref sig .tc := ⟨.hbm, 835, rfl⟩
abbrev main_v632 : Ref sig .tc := ⟨.hbm, 836, rfl⟩
abbrev main_v633 : Ref sig .tc := ⟨.hbm, 837, rfl⟩
abbrev main_v634 : Ref sig .tc := ⟨.hbm, 838, rfl⟩
abbrev main_v635 : Ref sig .tc := ⟨.hbm, 839, rfl⟩
abbrev main_cst_120 : Ref sig .tc := ⟨.hbm, 840, rfl⟩
abbrev main_v636 : Ref sig .tc := ⟨.hbm, 841, rfl⟩
abbrev main_v637 : Ref sig .tc := ⟨.hbm, 842, rfl⟩
abbrev main_cst_121 : Ref sig .tc := ⟨.hbm, 843, rfl⟩
abbrev main_v638 : Ref sig .tc := ⟨.hbm, 844, rfl⟩
abbrev main_cst_122 : Ref sig .tc := ⟨.hbm, 845, rfl⟩
abbrev main_v639 : Ref sig .tc := ⟨.hbm, 846, rfl⟩
abbrev main_v640 : Ref sig .tc := ⟨.hbm, 847, rfl⟩
abbrev main_v641 : Ref sig .tc := ⟨.hbm, 848, rfl⟩
abbrev main_cst_123 : Ref sig .tc := ⟨.hbm, 849, rfl⟩
abbrev main_v642 : Ref sig .tc := ⟨.hbm, 850, rfl⟩
abbrev main_v643 : Ref sig .tc := ⟨.hbm, 851, rfl⟩
abbrev main_v644 : Ref sig .tc := ⟨.hbm, 852, rfl⟩
abbrev main_v645 : Ref sig .tc := ⟨.hbm, 853, rfl⟩
abbrev main_v646 : Ref sig .tc := ⟨.hbm, 854, rfl⟩
abbrev main_cst_124 : Ref sig .tc := ⟨.hbm, 855, rfl⟩
abbrev main_v647 : Ref sig .tc := ⟨.hbm, 856, rfl⟩
abbrev main_v648 : Ref sig .tc := ⟨.hbm, 857, rfl⟩
abbrev main_cst_125 : Ref sig .tc := ⟨.hbm, 858, rfl⟩
abbrev main_v649 : Ref sig .tc := ⟨.hbm, 859, rfl⟩
abbrev main_cst_126 : Ref sig .tc := ⟨.hbm, 860, rfl⟩
abbrev main_v650 : Ref sig .tc := ⟨.hbm, 861, rfl⟩
abbrev main_v651 : Ref sig .tc := ⟨.hbm, 862, rfl⟩
abbrev main_v652 : Ref sig .tc := ⟨.hbm, 863, rfl⟩
abbrev main_cst_127 : Ref sig .tc := ⟨.hbm, 864, rfl⟩
abbrev main_v653 : Ref sig .tc := ⟨.hbm, 865, rfl⟩
abbrev main_v654 : Ref sig .tc := ⟨.hbm, 866, rfl⟩
abbrev main_v655 : Ref sig .tc := ⟨.hbm, 867, rfl⟩
abbrev main_v656 : Ref sig .tc := ⟨.hbm, 868, rfl⟩
abbrev main_v657 : Ref sig .tc := ⟨.hbm, 869, rfl⟩
abbrev main_cst_128 : Ref sig .tc := ⟨.hbm, 870, rfl⟩
abbrev main_v658 : Ref sig .tc := ⟨.hbm, 871, rfl⟩
abbrev main_v659 : Ref sig .tc := ⟨.hbm, 872, rfl⟩
abbrev main_cst_129 : Ref sig .tc := ⟨.hbm, 873, rfl⟩
abbrev main_v660 : Ref sig .tc := ⟨.hbm, 874, rfl⟩
abbrev main_cst_130 : Ref sig .tc := ⟨.hbm, 875, rfl⟩
abbrev main_v661 : Ref sig .tc := ⟨.hbm, 876, rfl⟩
abbrev main_v662 : Ref sig .tc := ⟨.hbm, 877, rfl⟩
abbrev main_v663 : Ref sig .tc := ⟨.hbm, 878, rfl⟩
abbrev main_cst_131 : Ref sig .tc := ⟨.hbm, 879, rfl⟩
abbrev main_v664 : Ref sig .tc := ⟨.hbm, 880, rfl⟩
abbrev main_v665 : Ref sig .tc := ⟨.hbm, 881, rfl⟩
abbrev main_v666 : Ref sig .tc := ⟨.hbm, 882, rfl⟩
abbrev main_v667 : Ref sig .tc := ⟨.hbm, 883, rfl⟩
abbrev main_v668 : Ref sig .tc := ⟨.hbm, 884, rfl⟩
abbrev main_cst_132 : Ref sig .tc := ⟨.hbm, 885, rfl⟩
abbrev main_v669 : Ref sig .tc := ⟨.hbm, 886, rfl⟩
abbrev main_v670 : Ref sig .tc := ⟨.hbm, 887, rfl⟩
abbrev main_cst_133 : Ref sig .tc := ⟨.hbm, 888, rfl⟩
abbrev main_v671 : Ref sig .tc := ⟨.hbm, 889, rfl⟩
abbrev main_cst_134 : Ref sig .tc := ⟨.hbm, 890, rfl⟩
abbrev main_v672 : Ref sig .tc := ⟨.hbm, 891, rfl⟩
abbrev main_v673 : Ref sig .tc := ⟨.hbm, 892, rfl⟩
abbrev main_v674 : Ref sig .tc := ⟨.hbm, 893, rfl⟩
abbrev main_cst_135 : Ref sig .tc := ⟨.hbm, 894, rfl⟩
abbrev main_v675 : Ref sig .tc := ⟨.hbm, 895, rfl⟩
abbrev main_v676 : Ref sig .tc := ⟨.hbm, 896, rfl⟩
abbrev main_v677 : Ref sig .tc := ⟨.hbm, 897, rfl⟩
abbrev main_v678 : Ref sig .tc := ⟨.hbm, 898, rfl⟩
abbrev main_v679 : Ref sig .tc := ⟨.hbm, 899, rfl⟩
abbrev main_cst_136 : Ref sig .tc := ⟨.hbm, 900, rfl⟩
abbrev main_v680 : Ref sig .tc := ⟨.hbm, 901, rfl⟩
abbrev main_v681 : Ref sig .tc := ⟨.hbm, 902, rfl⟩
abbrev main_cst_137 : Ref sig .tc := ⟨.hbm, 903, rfl⟩
abbrev main_v682 : Ref sig .tc := ⟨.hbm, 904, rfl⟩
abbrev main_cst_138 : Ref sig .tc := ⟨.hbm, 905, rfl⟩
abbrev main_v683 : Ref sig .tc := ⟨.hbm, 906, rfl⟩
abbrev main_v684 : Ref sig .tc := ⟨.hbm, 907, rfl⟩
abbrev main_v685 : Ref sig .tc := ⟨.hbm, 908, rfl⟩
abbrev main_cst_139 : Ref sig .tc := ⟨.hbm, 909, rfl⟩
abbrev main_v686 : Ref sig .tc := ⟨.hbm, 910, rfl⟩
abbrev main_v687 : Ref sig .tc := ⟨.hbm, 911, rfl⟩
abbrev main_v688 : Ref sig .tc := ⟨.hbm, 912, rfl⟩
abbrev main_v689 : Ref sig .tc := ⟨.hbm, 913, rfl⟩
abbrev main_v690 : Ref sig .tc := ⟨.hbm, 914, rfl⟩
abbrev main_cst_140 : Ref sig .tc := ⟨.hbm, 915, rfl⟩
abbrev main_v691 : Ref sig .tc := ⟨.hbm, 916, rfl⟩
abbrev main_v692 : Ref sig .tc := ⟨.hbm, 917, rfl⟩
abbrev main_cst_141 : Ref sig .tc := ⟨.hbm, 918, rfl⟩
abbrev main_v693 : Ref sig .tc := ⟨.hbm, 919, rfl⟩
abbrev main_cst_142 : Ref sig .tc := ⟨.hbm, 920, rfl⟩
abbrev main_v694 : Ref sig .tc := ⟨.hbm, 921, rfl⟩
abbrev main_v695 : Ref sig .tc := ⟨.hbm, 922, rfl⟩
abbrev main_v696 : Ref sig .tc := ⟨.hbm, 923, rfl⟩
abbrev main_cst_143 : Ref sig .tc := ⟨.hbm, 924, rfl⟩
abbrev main_v697 : Ref sig .tc := ⟨.hbm, 925, rfl⟩
abbrev main_v698 : Ref sig .tc := ⟨.hbm, 926, rfl⟩
abbrev main_v699 : Ref sig .tc := ⟨.hbm, 927, rfl⟩
abbrev main_v700 : Ref sig .tc := ⟨.hbm, 928, rfl⟩
abbrev main_v701 : Ref sig .tc := ⟨.hbm, 929, rfl⟩
abbrev main_cst_144 : Ref sig .tc := ⟨.hbm, 930, rfl⟩
abbrev main_v702 : Ref sig .tc := ⟨.hbm, 931, rfl⟩
abbrev main_v703 : Ref sig .tc := ⟨.hbm, 932, rfl⟩
abbrev main_cst_145 : Ref sig .tc := ⟨.hbm, 933, rfl⟩
abbrev main_v704 : Ref sig .tc := ⟨.hbm, 934, rfl⟩
abbrev main_cst_146 : Ref sig .tc := ⟨.hbm, 935, rfl⟩
abbrev main_v705 : Ref sig .tc := ⟨.hbm, 936, rfl⟩
abbrev main_v706 : Ref sig .tc := ⟨.hbm, 937, rfl⟩
abbrev main_v707 : Ref sig .tc := ⟨.hbm, 938, rfl⟩
abbrev main_cst_147 : Ref sig .tc := ⟨.hbm, 939, rfl⟩
abbrev main_v708 : Ref sig .tc := ⟨.hbm, 940, rfl⟩
abbrev main_v709 : Ref sig .tc := ⟨.hbm, 941, rfl⟩
abbrev main_v710 : Ref sig .tc := ⟨.hbm, 942, rfl⟩
abbrev main_v711 : Ref sig .tc := ⟨.hbm, 943, rfl⟩
abbrev main_v712 : Ref sig .tc := ⟨.hbm, 944, rfl⟩
abbrev main_cst_148 : Ref sig .tc := ⟨.hbm, 945, rfl⟩
abbrev main_v713 : Ref sig .tc := ⟨.hbm, 946, rfl⟩
abbrev main_v714 : Ref sig .tc := ⟨.hbm, 947, rfl⟩
abbrev main_cst_149 : Ref sig .tc := ⟨.hbm, 948, rfl⟩
abbrev main_v715 : Ref sig .tc := ⟨.hbm, 949, rfl⟩
abbrev main_cst_150 : Ref sig .tc := ⟨.hbm, 950, rfl⟩
abbrev main_v716 : Ref sig .tc := ⟨.hbm, 951, rfl⟩
abbrev main_v717 : Ref sig .tc := ⟨.hbm, 952, rfl⟩
abbrev main_v718 : Ref sig .tc := ⟨.hbm, 953, rfl⟩
abbrev main_cst_151 : Ref sig .tc := ⟨.hbm, 954, rfl⟩
abbrev main_v719 : Ref sig .tc := ⟨.hbm, 955, rfl⟩
abbrev main_v720 : Ref sig .tc := ⟨.hbm, 956, rfl⟩
abbrev main_v721 : Ref sig .tc := ⟨.hbm, 957, rfl⟩
abbrev main_v722 : Ref sig .tc := ⟨.hbm, 958, rfl⟩
abbrev main_v723 : Ref sig .tc := ⟨.hbm, 959, rfl⟩
abbrev main_cst_152 : Ref sig .tc := ⟨.hbm, 960, rfl⟩
abbrev main_v724 : Ref sig .tc := ⟨.hbm, 961, rfl⟩
abbrev main_v725 : Ref sig .tc := ⟨.hbm, 962, rfl⟩
abbrev main_cst_153 : Ref sig .tc := ⟨.hbm, 963, rfl⟩
abbrev main_v726 : Ref sig .tc := ⟨.hbm, 964, rfl⟩
abbrev main_cst_154 : Ref sig .tc := ⟨.hbm, 965, rfl⟩
abbrev main_v727 : Ref sig .tc := ⟨.hbm, 966, rfl⟩
abbrev main_v728 : Ref sig .tc := ⟨.hbm, 967, rfl⟩
abbrev main_v729 : Ref sig .tc := ⟨.hbm, 968, rfl⟩
abbrev main_cst_155 : Ref sig .tc := ⟨.hbm, 969, rfl⟩
abbrev main_v730 : Ref sig .tc := ⟨.hbm, 970, rfl⟩
abbrev main_v731 : Ref sig .tc := ⟨.hbm, 971, rfl⟩
abbrev main_v732 : Ref sig .tc := ⟨.hbm, 972, rfl⟩
abbrev main_v733 : Ref sig .tc := ⟨.hbm, 973, rfl⟩
abbrev main_v734 : Ref sig .tc := ⟨.hbm, 974, rfl⟩
abbrev main_cst_156 : Ref sig .tc := ⟨.hbm, 975, rfl⟩
abbrev main_v735 : Ref sig .tc := ⟨.hbm, 976, rfl⟩
abbrev main_v736 : Ref sig .tc := ⟨.hbm, 977, rfl⟩
abbrev main_cst_157 : Ref sig .tc := ⟨.hbm, 978, rfl⟩
abbrev main_v737 : Ref sig .tc := ⟨.hbm, 979, rfl⟩
abbrev main_cst_158 : Ref sig .tc := ⟨.hbm, 980, rfl⟩
abbrev main_v738 : Ref sig .tc := ⟨.hbm, 981, rfl⟩
abbrev main_v739 : Ref sig .tc := ⟨.hbm, 982, rfl⟩
abbrev main_v740 : Ref sig .tc := ⟨.hbm, 983, rfl⟩
abbrev main_cst_159 : Ref sig .tc := ⟨.hbm, 984, rfl⟩
abbrev main_v741 : Ref sig .tc := ⟨.hbm, 985, rfl⟩
abbrev main_v742 : Ref sig .tc := ⟨.hbm, 986, rfl⟩
abbrev main_v743 : Ref sig .tc := ⟨.hbm, 987, rfl⟩
abbrev main_v744 : Ref sig .tc := ⟨.hbm, 988, rfl⟩
abbrev main_v745 : Ref sig .tc := ⟨.hbm, 989, rfl⟩
abbrev main_cst_160 : Ref sig .tc := ⟨.hbm, 990, rfl⟩
abbrev main_v746 : Ref sig .tc := ⟨.hbm, 991, rfl⟩
abbrev main_v747 : Ref sig .tc := ⟨.hbm, 992, rfl⟩
abbrev main_cst_161 : Ref sig .tc := ⟨.hbm, 993, rfl⟩
abbrev main_v748 : Ref sig .tc := ⟨.hbm, 994, rfl⟩
abbrev main_cst_162 : Ref sig .tc := ⟨.hbm, 995, rfl⟩
abbrev main_v749 : Ref sig .tc := ⟨.hbm, 996, rfl⟩
abbrev main_v750 : Ref sig .tc := ⟨.hbm, 997, rfl⟩
abbrev main_v751 : Ref sig .tc := ⟨.hbm, 998, rfl⟩
abbrev main_cst_163 : Ref sig .tc := ⟨.hbm, 999, rfl⟩
abbrev main_v752 : Ref sig .tc := ⟨.hbm, 1000, rfl⟩
abbrev main_v753 : Ref sig .tc := ⟨.hbm, 1001, rfl⟩
abbrev main_v754 : Ref sig .tc := ⟨.hbm, 1002, rfl⟩
abbrev main_v755 : Ref sig .tc := ⟨.hbm, 1003, rfl⟩
abbrev main_v756 : Ref sig .tc := ⟨.hbm, 1004, rfl⟩
abbrev main_v757 : Ref sig .tc := ⟨.hbm, 1005, rfl⟩
abbrev main_v758 : Ref sig .tc := ⟨.hbm, 1006, rfl⟩
abbrev main_v759 : Ref sig .tc := ⟨.hbm, 1007, rfl⟩
abbrev main_v760 : Ref sig .tc := ⟨.hbm, 1008, rfl⟩
abbrev main_v761 : Ref sig .tc := ⟨.hbm, 1009, rfl⟩
abbrev main_call8_v0 : Ref sig .tc := ⟨.hbm, 1010, rfl⟩
abbrev main_call8_v1 : Ref sig .tc := ⟨.hbm, 1011, rfl⟩
abbrev main_call8_v2 : Ref sig .tc := ⟨.hbm, 1012, rfl⟩
abbrev main_v762 : Ref sig .tc := ⟨.hbm, 1013, rfl⟩
abbrev main_v763 : Ref sig .tc := ⟨.hbm, 1014, rfl⟩
abbrev main_v764 : Ref sig .tc := ⟨.hbm, 1015, rfl⟩
abbrev main_v765 : Ref sig .tc := ⟨.hbm, 1016, rfl⟩
abbrev main_v766 : Ref sig .tc := ⟨.hbm, 1017, rfl⟩
abbrev main_v767 : Ref sig .tc := ⟨.hbm, 1018, rfl⟩
abbrev main_cst_164 : Ref sig .tc := ⟨.hbm, 1019, rfl⟩
abbrev main_v768 : Ref sig .tc := ⟨.hbm, 1020, rfl⟩
abbrev main_v769 : Ref sig .tc := ⟨.hbm, 1021, rfl⟩
abbrev main_cst_165 : Ref sig .tc := ⟨.hbm, 1022, rfl⟩
abbrev main_v770 : Ref sig .tc := ⟨.hbm, 1023, rfl⟩
abbrev main_cst_166 : Ref sig .tc := ⟨.hbm, 1024, rfl⟩
abbrev main_v771 : Ref sig .tc := ⟨.hbm, 1025, rfl⟩
abbrev main_v772 : Ref sig .tc := ⟨.hbm, 1026, rfl⟩
abbrev main_cst_167 : Ref sig .tc := ⟨.hbm, 1027, rfl⟩
abbrev main_v773 : Ref sig .tc := ⟨.hbm, 1028, rfl⟩
abbrev main_v774 : Ref sig .tc := ⟨.hbm, 1029, rfl⟩
abbrev main_v775 : Ref sig .tc := ⟨.hbm, 1030, rfl⟩
abbrev main_v776 : Ref sig .tc := ⟨.hbm, 1031, rfl⟩
abbrev main_cst_168 : Ref sig .tc := ⟨.hbm, 1032, rfl⟩
abbrev main_v777 : Ref sig .tc := ⟨.hbm, 1033, rfl⟩
abbrev main_v778 : Ref sig .tc := ⟨.hbm, 1034, rfl⟩
abbrev main_cst_169 : Ref sig .tc := ⟨.hbm, 1035, rfl⟩
abbrev main_v779 : Ref sig .tc := ⟨.hbm, 1036, rfl⟩
abbrev main_cst_170 : Ref sig .tc := ⟨.hbm, 1037, rfl⟩
abbrev main_v780 : Ref sig .tc := ⟨.hbm, 1038, rfl⟩
abbrev main_v781 : Ref sig .tc := ⟨.hbm, 1039, rfl⟩
abbrev main_v782 : Ref sig .tc := ⟨.hbm, 1040, rfl⟩
abbrev main_cst_171 : Ref sig .tc := ⟨.hbm, 1041, rfl⟩
abbrev main_v783 : Ref sig .tc := ⟨.hbm, 1042, rfl⟩
abbrev main_v784 : Ref sig .tc := ⟨.hbm, 1043, rfl⟩
abbrev main_v785 : Ref sig .tc := ⟨.hbm, 1044, rfl⟩
abbrev main_v786 : Ref sig .tc := ⟨.hbm, 1045, rfl⟩
abbrev main_v787 : Ref sig .tc := ⟨.hbm, 1046, rfl⟩
abbrev main_cst_172 : Ref sig .tc := ⟨.hbm, 1047, rfl⟩
abbrev main_v788 : Ref sig .tc := ⟨.hbm, 1048, rfl⟩
abbrev main_v789 : Ref sig .tc := ⟨.hbm, 1049, rfl⟩
abbrev main_cst_173 : Ref sig .tc := ⟨.hbm, 1050, rfl⟩
abbrev main_v790 : Ref sig .tc := ⟨.hbm, 1051, rfl⟩
abbrev main_cst_174 : Ref sig .tc := ⟨.hbm, 1052, rfl⟩
abbrev main_v791 : Ref sig .tc := ⟨.hbm, 1053, rfl⟩
abbrev main_v792 : Ref sig .tc := ⟨.hbm, 1054, rfl⟩
abbrev main_v793 : Ref sig .tc := ⟨.hbm, 1055, rfl⟩
abbrev main_cst_175 : Ref sig .tc := ⟨.hbm, 1056, rfl⟩
abbrev main_v794 : Ref sig .tc := ⟨.hbm, 1057, rfl⟩
abbrev main_v795 : Ref sig .tc := ⟨.hbm, 1058, rfl⟩
abbrev main_v796 : Ref sig .tc := ⟨.hbm, 1059, rfl⟩
abbrev main_v797 : Ref sig .tc := ⟨.hbm, 1060, rfl⟩
abbrev main_v798 : Ref sig .tc := ⟨.hbm, 1061, rfl⟩
abbrev main_v799 : Ref sig .tc := ⟨.hbm, 1062, rfl⟩
abbrev main_v800 : Ref sig .tc := ⟨.hbm, 1063, rfl⟩
abbrev main_v801 : Ref sig .tc := ⟨.hbm, 1064, rfl⟩
abbrev main_v802 : Ref sig .tc := ⟨.hbm, 1065, rfl⟩
abbrev main_v803 : Ref sig .tc := ⟨.hbm, 1066, rfl⟩
abbrev main_v804 : Ref sig .tc := ⟨.hbm, 1067, rfl⟩
abbrev main_v805 : Ref sig .tc := ⟨.hbm, 1068, rfl⟩
abbrev main_v806 : Ref sig .tc := ⟨.hbm, 1069, rfl⟩
abbrev main_v807 : Ref sig .tc := ⟨.hbm, 1070, rfl⟩
abbrev main_v808 : Ref sig .tc := ⟨.hbm, 1071, rfl⟩
abbrev main_v809 : Ref sig .tc := ⟨.hbm, 1072, rfl⟩
abbrev main_call9_v0 : Ref sig .tc := ⟨.hbm, 1073, rfl⟩
abbrev main_call9_v1 : Ref sig .tc := ⟨.hbm, 1074, rfl⟩
abbrev main_call9_v2 : Ref sig .tc := ⟨.hbm, 1075, rfl⟩
abbrev main_v810 : Ref sig .tc := ⟨.hbm, 1076, rfl⟩
abbrev main_v811 : Ref sig .tc := ⟨.hbm, 1077, rfl⟩
abbrev main_v812 : Ref sig .tc := ⟨.hbm, 1078, rfl⟩
abbrev main_v813 : Ref sig .tc := ⟨.hbm, 1079, rfl⟩
abbrev main_cst_176 : Ref sig .tc := ⟨.hbm, 1080, rfl⟩
abbrev main_v814 : Ref sig .tc := ⟨.hbm, 1081, rfl⟩
abbrev main_v815 : Ref sig .tc := ⟨.hbm, 1082, rfl⟩
abbrev main_cst_177 : Ref sig .tc := ⟨.hbm, 1083, rfl⟩
abbrev main_v816 : Ref sig .tc := ⟨.hbm, 1084, rfl⟩
abbrev main_v817 : Ref sig .tc := ⟨.hbm, 1085, rfl⟩
abbrev main_v818 : Ref sig .tc := ⟨.hbm, 1086, rfl⟩
abbrev main_v819 : Ref sig .tc := ⟨.hbm, 1087, rfl⟩
abbrev main_v820 : Ref sig .tc := ⟨.hbm, 1088, rfl⟩
abbrev main_v821 : Ref sig .tc := ⟨.hbm, 1089, rfl⟩
abbrev main_call10_cst : Ref sig .tc := ⟨.hbm, 1090, rfl⟩
abbrev main_call10_v0 : Ref sig .tc := ⟨.hbm, 1091, rfl⟩
abbrev main_v822 : Ref sig .tc := ⟨.hbm, 1092, rfl⟩
abbrev main_v823 : Ref sig .tc := ⟨.hbm, 1093, rfl⟩
abbrev main_cst_178 : Ref sig .tc := ⟨.hbm, 1094, rfl⟩
abbrev main_v824 : Ref sig .tc := ⟨.hbm, 1095, rfl⟩
abbrev main_v825 : Ref sig .tc := ⟨.hbm, 1096, rfl⟩
abbrev main_cst_179 : Ref sig .tc := ⟨.hbm, 1097, rfl⟩
abbrev main_v826 : Ref sig .tc := ⟨.hbm, 1098, rfl⟩
abbrev main_v827 : Ref sig .tc := ⟨.hbm, 1099, rfl⟩
abbrev main_cst_180 : Ref sig .tc := ⟨.hbm, 1100, rfl⟩
abbrev main_v828 : Ref sig .tc := ⟨.hbm, 1101, rfl⟩
abbrev main_v829 : Ref sig .tc := ⟨.hbm, 1102, rfl⟩
abbrev main_v830 : Ref sig .tc := ⟨.hbm, 1103, rfl⟩
abbrev main_v831 : Ref sig .tc := ⟨.hbm, 1104, rfl⟩
abbrev main_cst_181 : Ref sig .tc := ⟨.hbm, 1105, rfl⟩
abbrev main_v832 : Ref sig .tc := ⟨.hbm, 1106, rfl⟩
abbrev main_v833 : Ref sig .tc := ⟨.hbm, 1107, rfl⟩
abbrev main_cst_182 : Ref sig .tc := ⟨.hbm, 1108, rfl⟩
abbrev main_v834 : Ref sig .tc := ⟨.hbm, 1109, rfl⟩
abbrev main_v835 : Ref sig .tc := ⟨.hbm, 1110, rfl⟩
abbrev main_v836 : Ref sig .tc := ⟨.hbm, 1111, rfl⟩
abbrev main_v837 : Ref sig .tc := ⟨.hbm, 1112, rfl⟩
abbrev main_v838 : Ref sig .tc := ⟨.hbm, 1113, rfl⟩
abbrev main_cst_183 : Ref sig .tc := ⟨.hbm, 1114, rfl⟩
abbrev main_v839 : Ref sig .tc := ⟨.hbm, 1115, rfl⟩
abbrev main_v840 : Ref sig .tc := ⟨.hbm, 1116, rfl⟩
abbrev main_cst_184 : Ref sig .tc := ⟨.hbm, 1117, rfl⟩
abbrev main_v841 : Ref sig .tc := ⟨.hbm, 1118, rfl⟩
abbrev main_v842 : Ref sig .tc := ⟨.hbm, 1119, rfl⟩
abbrev main_v843 : Ref sig .tc := ⟨.hbm, 1120, rfl⟩
abbrev main_v844 : Ref sig .tc := ⟨.hbm, 1121, rfl⟩
abbrev main_v845 : Ref sig .tc := ⟨.hbm, 1122, rfl⟩
abbrev main_v846 : Ref sig .tc := ⟨.hbm, 1123, rfl⟩
abbrev main_v847 : Ref sig .tc := ⟨.hbm, 1124, rfl⟩
abbrev main_cst_185 : Ref sig .tc := ⟨.hbm, 1125, rfl⟩
abbrev main_v848 : Ref sig .tc := ⟨.hbm, 1126, rfl⟩
abbrev main_v849 : Ref sig .tc := ⟨.hbm, 1127, rfl⟩
abbrev main_cst_186 : Ref sig .tc := ⟨.hbm, 1128, rfl⟩
abbrev main_v850 : Ref sig .tc := ⟨.hbm, 1129, rfl⟩
abbrev main_v851 : Ref sig .tc := ⟨.hbm, 1130, rfl⟩
abbrev main_cst_187 : Ref sig .tc := ⟨.hbm, 1131, rfl⟩
abbrev main_v852 : Ref sig .tc := ⟨.hbm, 1132, rfl⟩
abbrev main_v853 : Ref sig .tc := ⟨.hbm, 1133, rfl⟩
abbrev main_v854 : Ref sig .tc := ⟨.hbm, 1134, rfl⟩
abbrev main_v855 : Ref sig .tc := ⟨.hbm, 1135, rfl⟩
abbrev main_v856 : Ref sig .tc := ⟨.hbm, 1136, rfl⟩
abbrev main_v857 : Ref sig .tc := ⟨.hbm, 1137, rfl⟩
abbrev main_cst_188 : Ref sig .tc := ⟨.hbm, 1138, rfl⟩
abbrev main_v858 : Ref sig .tc := ⟨.hbm, 1139, rfl⟩
abbrev main_v859 : Ref sig .tc := ⟨.hbm, 1140, rfl⟩
abbrev main_v860 : Ref sig .tc := ⟨.hbm, 1141, rfl⟩
abbrev main_cst_189 : Ref sig .tc := ⟨.hbm, 1142, rfl⟩
abbrev main_v861 : Ref sig .tc := ⟨.hbm, 1143, rfl⟩
abbrev main_v862 : Ref sig .tc := ⟨.hbm, 1144, rfl⟩
abbrev main_v863 : Ref sig .tc := ⟨.hbm, 1145, rfl⟩
abbrev main_cst_190 : Ref sig .tc := ⟨.hbm, 1146, rfl⟩
abbrev main_v864 : Ref sig .tc := ⟨.hbm, 1147, rfl⟩
abbrev main_v865 : Ref sig .tc := ⟨.hbm, 1148, rfl⟩
abbrev main_v866 : Ref sig .tc := ⟨.hbm, 1149, rfl⟩
abbrev main_v867 : Ref sig .tc := ⟨.hbm, 1150, rfl⟩
abbrev main_v868 : Ref sig .tc := ⟨.hbm, 1151, rfl⟩
abbrev main_v869 : Ref sig .tc := ⟨.hbm, 1152, rfl⟩

abbrev nD : Nat := 1
abbrev τ : Topo := Topo.v7x

variable {F : FTy → Type} [FloatOps F]
-- ==== AdamK.lean ====
abbrev S2x128x7684 : Shape := ⟨3, ![2, 128, 7684]⟩
abbrev S1x32x7684 : Shape := ⟨3, ![1, 32, 7684]⟩

abbrev nBuf : Space → Nat
  | .hbm => 7
  | .vmem => 14
  | .smem => 0
  | _ => 0

abbrev bufTy : (tb : Table) → Fin (tcTables nBuf tb) → BufTy
  | .hbm, ⟨0, _⟩ => ⟨S2x128x7684, .f32⟩
  | .hbm, ⟨1, _⟩ => ⟨S2x128x7684, .f32⟩
  | .hbm, ⟨2, _⟩ => ⟨S2x128x7684, .f32⟩
  | .hbm, ⟨3, _⟩ => ⟨S2x128x7684, .f32⟩
  | .hbm, ⟨4, _⟩ => ⟨S2x128x7684, .f32⟩
  | .hbm, ⟨5, _⟩ => ⟨S2x128x7684, .f32⟩
  | .hbm, ⟨6, _⟩ => ⟨S2x128x7684, .f32⟩
  | .local _ .vmem, ⟨0, _⟩ => ⟨S1x32x7684, .f32⟩
  | .local _ .vmem, ⟨1, _⟩ => ⟨S1x32x7684, .f32⟩
  | .local _ .vmem, ⟨2, _⟩ => ⟨S1x32x7684, .f32⟩
  | .local _ .vmem, ⟨3, _⟩ => ⟨S1x32x7684, .f32⟩
  | .local _ .vmem, ⟨4, _⟩ => ⟨S1x32x7684, .f32⟩
  | .local _ .vmem, ⟨5, _⟩ => ⟨S1x32x7684, .f32⟩
  | .local _ .vmem, ⟨6, _⟩ => ⟨S1x32x7684, .f32⟩
  | .local _ .vmem, ⟨7, _⟩ => ⟨S1x32x7684, .f32⟩
  | .local _ .vmem, ⟨8, _⟩ => ⟨S1x32x7684, .f32⟩
  | .local _ .vmem, ⟨9, _⟩ => ⟨S1x32x7684, .f32⟩
  | .local _ .vmem, ⟨10, _⟩ => ⟨S1x32x7684, .f32⟩
  | .local _ .vmem, ⟨11, _⟩ => ⟨S1x32x7684, .f32⟩
  | .local _ .vmem, ⟨12, _⟩ => ⟨S1x32x7684, .f32⟩
  | .local _ .vmem, ⟨13, _⟩ => ⟨S1x32x7684, .f32⟩
  | _, _ => ⟨S2x128x7684, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x7684 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x7684 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x7684 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x7684 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x7684 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x7684 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x7684 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamRIdeal.lean ====
abbrev S2x128x7684 : Shape := ⟨3, ![2, 128, 7684]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128x7684, .f32⟩
  | .hbm, ⟨1, _⟩ => ⟨S2x128x7684, .f32⟩
  | .hbm, ⟨2, _⟩ => ⟨S2x128x7684, .f32⟩
  | .hbm, ⟨3, _⟩ => ⟨S2x128x7684, .f32⟩
  | .hbm, ⟨4, _⟩ => ⟨S_, .f32⟩
  | .hbm, ⟨5, _⟩ => ⟨S2x128x7684, .f32⟩
  | .hbm, ⟨6, _⟩ => ⟨S2x128x7684, .f32⟩
  | .hbm, ⟨7, _⟩ => ⟨S_, .f32⟩
  | .hbm, ⟨8, _⟩ => ⟨S2x128x7684, .f32⟩
  | .hbm, ⟨9, _⟩ => ⟨S2x128x7684, .f32⟩
  | .hbm, ⟨10, _⟩ => ⟨S2x128x7684, .f32⟩
  | .hbm, ⟨11, _⟩ => ⟨S_, .f32⟩
  | .hbm, ⟨12, _⟩ => ⟨S2x128x7684, .f32⟩
  | .hbm, ⟨13, _⟩ => ⟨S2x128x7684, .f32⟩
  | .hbm, ⟨14, _⟩ => ⟨S2x128x7684, .f32⟩
  | .hbm, ⟨15, _⟩ => ⟨S_, .f32⟩
  | .hbm, ⟨16, _⟩ => ⟨S2x128x7684, .f32⟩
  | .hbm, ⟨17, _⟩ => ⟨S2x128x7684, .f32⟩
  | .hbm, ⟨18, _⟩ => ⟨S2x128x7684, .f32⟩
  | .hbm, ⟨19, _⟩ => ⟨S_, .f32⟩
  | .hbm, ⟨20, _⟩ => ⟨S2x128x7684, .f32⟩
  | .hbm, ⟨21, _⟩ => ⟨S2x128x7684, .f32⟩
  | .hbm, ⟨22, _⟩ => ⟨S_, .f32⟩
  | .hbm, ⟨23, _⟩ => ⟨S2x128x7684, .f32⟩
  | .hbm, ⟨24, _⟩ => ⟨S2x128x7684, .f32⟩
  | .hbm, ⟨25, _⟩ => ⟨S2x128x7684, .f32⟩
  | .hbm, ⟨26, _⟩ => ⟨S_, .f32⟩
  | .hbm, ⟨27, _⟩ => ⟨S2x128x7684, .f32⟩
  | .hbm, ⟨28, _⟩ => ⟨S2x128x7684, .f32⟩
  | .hbm, ⟨29, _⟩ => ⟨S2x128x7684, .f32⟩
  | .hbm, ⟨30, _⟩ => ⟨S_, .f32⟩
  | .hbm, ⟨31, _⟩ => ⟨S2x128x7684, .f32⟩
  | .hbm, ⟨32, _⟩ => ⟨S2x128x7684, .f32⟩
  | .hbm, ⟨33, _⟩ => ⟨S2x128x7684, .f32⟩
  | .hbm, ⟨34, _⟩ => ⟨S_, .f32⟩
  | .hbm, ⟨35, _⟩ => ⟨S2x128x7684, .f32⟩
  | .hbm, ⟨36, _⟩ => ⟨S2x128x7684, .f32⟩
  | _, _ => ⟨S2x128x7684, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MixIdealFrame.lean ====
/- The mixer's backward call over the extended reals ends, its argument arrays unchanged. -/
module

public import proofs.«01_k».proof.Defs
public import proofs.«01_k».proof.Proof.Gen.MixKIdeal.Frame.RunB
public import proofs.«01_k».proof.Proof.Gen.MixKIdeal
public import Idealize.ShloMosaic.Lib.Claim

@[expose] public section

set_option maxRecDepth 16384

noncomputable section

namespace Cert.MixKIdealFrame

open Cert.MixKIdeal Cert.MixKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

/-- The separation-logic propositions of this program's machine. -/
abbrev SP (F : FTy → Type) [FloatOps F] := sProp (MT nD τ sig Unit (Elt F) ℕ (UR sig nD τ) ℕ)

/-- The six output windows: a frame says nothing of what they hold. -/
def outs : Fin 30 → Bool := fun w => Nat.ble 24 w.val

/-- The pipeline's proof data: each input's buffer holds its block after every point, the outputs' are not named. -/
def data (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => iblk m c 5 t | ⟨6, _⟩ => iblk m c 6 t | ⟨7, _⟩ => iblk m c 7 t | ⟨8, _⟩ => iblk m c 8 t | ⟨9, _⟩ => iblk m c 9 t
    | ⟨10, _⟩ => iblk m c 10 t | ⟨11, _⟩ => iblk m c 11 t | ⟨12, _⟩ => iblk m c 12 t | ⟨13, _⟩ => iblk m c 13 t | ⟨14, _⟩ => iblk m c 14 t
    | ⟨15, _⟩ => iblk m c 15 t | ⟨16, _⟩ => iblk m c 16 t | ⟨17, _⟩ => iblk m c 17 t | ⟨18, _⟩ => iblk m c 18 t | ⟨19, _⟩ => iblk m c 19 t
    | ⟨20, _⟩ => iblk m c 20 t | ⟨21, _⟩ => iblk m c 21 t | ⟨22, _⟩ => iblk m c 22 t | ⟨23, _⟩ => iblk m c 23 t
    | ⟨24, h⟩ => Dat.unnamed (cfg := cfg0) ⟨24, h⟩ t | ⟨25, h⟩ => Dat.unnamed (cfg := cfg0) ⟨25, h⟩ t
    | ⟨26, h⟩ => Dat.unnamed (cfg := cfg0) ⟨26, h⟩ t | ⟨27, h⟩ => Dat.unnamed (cfg := cfg0) ⟨27, h⟩ t
    | ⟨28, h⟩ => Dat.unnamed (cfg := cfg0) ⟨28, h⟩ t | ⟨29, h⟩ => Dat.unnamed (cfg := cfg0) ⟨29, h⟩ t
    | ⟨_ + 30, h⟩ => absurd h (Nat.not_lt.2 (Nat.le_add_left _ _))
  Φ _ := Pipeline.ΦA spec0 c
  q w := Pipeline.shareOf spec0 w
  owed _ := 0

theorem data_A (c : Dev nD) (w : Fin cfg0.W) : (data m 0 c).A w = V m c (Pipeline.arrRef spec0 w) := by dsimp only [data]

/-- A buffer owned whole at a value. -/
abbrev held (c : Dev nD) {S : Shape} {e : EltTy} (v : Memref sig .tc .vmem S e) (d : S.Idx → Elt F e) : SP F := owns (c : Thread nD τ) v fullShare d

/-- A buffer owned whole at some value. -/
abbrev some_ (c : Dev nD) {S : Shape} {e : EltTy} (v : Memref sig .tc .vmem S e) : SP F := iprop(∃ d, owns (c : Thread nD τ) v fullShare d)

/-- The inputs' buffers at their blocks, then `R`. -/
abbrev ins (c : Dev nD) (t : Fin cfg0.N) (R : SP F) : SP F :=
  iprop(held c (ms0_0 t) ((data m 0 c).after 0 t) ∗ held c (ms0_1 t) ((data m 0 c).after 1 t) ∗ held c (ms0_2 t) ((data m 0 c).after 2 t) ∗
    held c (ms0_3 t) ((data m 0 c).after 3 t) ∗ held c (ms0_4 t) ((data m 0 c).after 4 t) ∗ held c (ms0_5 t) ((data m 0 c).after 5 t) ∗
    held c (ms0_6 t) ((data m 0 c).after 6 t) ∗ held c (ms0_7 t) ((data m 0 c).after 7 t) ∗ held c (ms0_8 t) ((data m 0 c).after 8 t) ∗
    held c (ms0_9 t) ((data m 0 c).after 9 t) ∗ held c (ms0_10 t) ((data m 0 c).after 10 t) ∗ held c (ms0_11 t) ((data m 0 c).after 11 t) ∗
    held c (ms0_12 t) ((data m 0 c).after 12 t) ∗ held c (ms0_13 t) ((data m 0 c).after 13 t) ∗ held c (ms0_14 t) ((data m 0 c).after 14 t) ∗
    held c (ms0_15 t) ((data m 0 c).after 15 t) ∗ held c (ms0_16 t) ((data m 0 c).after 16 t) ∗ held c (ms0_17 t) ((data m 0 c).after 17 t) ∗
    held c (ms0_18 t) ((data m 0 c).after 18 t) ∗ held c (ms0_19 t) ((data m 0 c).after 19 t) ∗ held c (ms0_20 t) ((data m 0 c).after 20 t) ∗
    held c (ms0_21 t) ((data m 0 c).after 21 t) ∗ held c (ms0_22 t) ((data m 0 c).after 22 t) ∗ held c (ms0_23 t) ((data m 0 c).after 23 t) ∗ R)

/-- The outputs' buffers at anything. -/
abbrev anyOuts (c : Dev nD) (t : Fin cfg0.N) : SP F := iprop(some_ c (ms0_24 t) ∗ some_ c (ms0_25 t) ∗ some_ c (ms0_26 t) ∗ some_ c (ms0_27 t) ∗ some_ c (ms0_28 t) ∗ some_ c (ms0_29 t))

theorem ins_mono (c : Dev nD) (t : Fin cfg0.N) {R R' : SP F} (h : R ⊢ R') : ins m c t R ⊢ ins m c t R' := by
  iterate 24 refine sep_mono_right ?_
  exact h

theorem ins_in (c : Dev nD) (t : Fin cfg0.N) (X R : SP F) : iprop(X ∗ ins m c t R) ⊢ ins m c t iprop(X ∗ R) := by
  iterate 24 refine sep_left_comm.1.trans (sep_mono_right ?_)
  exact .rfl

theorem ins_out (c : Dev nD) (t : Fin cfg0.N) (X R : SP F) : ins m c t iprop(X ∗ R) ⊢ iprop(X ∗ ins m c t R) := by
  iterate 24 refine Entails.trans (sep_mono_right ?_) sep_left_comm.1
  exact .rfl

/-- What the body finds at a point, window by window: the inputs' blocks, anything in the outputs. -/
def pre (c : Dev nD) (t : Fin cfg0.N) : SP F :=
  iprop((data m 0 c).Φ t.castSucc ∗ (data m 0 c).owesAt () t.castSucc ∗
    (∃ d, held c (ms0_0 t) ((data m 0 c).before 0 t d)) ∗ (∃ d, held c (ms0_1 t) ((data m 0 c).before 1 t d)) ∗
    (∃ d, held c (ms0_2 t) ((data m 0 c).before 2 t d)) ∗ (∃ d, held c (ms0_3 t) ((data m 0 c).before 3 t d)) ∗
    (∃ d, held c (ms0_4 t) ((data m 0 c).before 4 t d)) ∗ (∃ d, held c (ms0_5 t) ((data m 0 c).before 5 t d)) ∗
    (∃ d, held c (ms0_6 t) ((data m 0 c).before 6 t d)) ∗ (∃ d, held c (ms0_7 t) ((data m 0 c).before 7 t d)) ∗
    (∃ d, held c (ms0_8 t) ((data m 0 c).before 8 t d)) ∗ (∃ d, held c (ms0_9 t) ((data m 0 c).before 9 t d)) ∗
    (∃ d, held c (ms0_10 t) ((data m 0 c).before 10 t d)) ∗ (∃ d, held c (ms0_11 t) ((data m 0 c).before 11 t d)) ∗
    (∃ d, held c (ms0_12 t) ((data m 0 c).before 12 t d)) ∗ (∃ d, held c (ms0_13 t) ((data m 0 c).before 13 t d)) ∗
    (∃ d, held c (ms0_14 t) ((data m 0 c).before 14 t d)) ∗ (∃ d, held c (ms0_15 t) ((data m 0 c).before 15 t d)) ∗
    (∃ d, held c (ms0_16 t) ((data m 0 c).before 16 t d)) ∗ (∃ d, held c (ms0_17 t) ((data m 0 c).before 17 t d)) ∗
    (∃ d, held c (ms0_18 t) ((data m 0 c).before 18 t d)) ∗ (∃ d, held c (ms0_19 t) ((data m 0 c).before 19 t d)) ∗
    (∃ d, held c (ms0_20 t) ((data m 0 c).before 20 t d)) ∗ (∃ d, held c (ms0_21 t) ((data m 0 c).before 21 t d)) ∗
    (∃ d, held c (ms0_22 t) ((data m 0 c).before 22 t d)) ∗ (∃ d, held c (ms0_23 t) ((data m 0 c).before 23 t d)) ∗ anyOuts c t)

/-- What it leaves: the inputs' blocks, anything in the outputs. -/
def post (c : Dev nD) (t : Fin cfg0.N) : SP F :=
  iprop((data m 0 c).Φ t.succ ∗ (data m 0 c).owesAt () t.succ ∗ ins m c t (anyOuts c t))

/-- The scratch buffers at anything. -/
abbrev scr (c : Dev nD) : SP F := iprop(some_ c scM0_0 ∗ some_ c scM0_1 ∗ some_ c scM0_2 ∗ some_ c scM0_3)

/-- What the body at a point does not touch. -/
abbrev rest (c : Dev nD) (t : Fin cfg0.N) : SP F := iprop((∃ r, prngReg c r) ∗ (data m 0 c).owesAt () t.castSucc)

theorem mono {P P' Q Q' : SP F} (h : P ⊢ P') (h' : Q ⊢ Q') : iprop(P ∗ Q) ⊢ iprop(P' ∗ Q') := BIClass.sep_mono h h'

/-- A buffer held at some contents is owned at some value. -/
theorem some_of (c : Dev nD) {S : Shape} {e : EltTy} (v : Memref sig .tc .vmem S e) (f : Buf (Elt F) (v.view.loc (c : Thread nD τ))) :
    ((v.view.loc (c : Thread nD τ) ↦[v.view.set]{fullShare} f) : SP F) ⊢ some_ c v := by
  iintro H; iexists _; unfold owns; iexists _; isplitr
  swap; · iexact H
  ipureintro; rfl

/-- A buffer found at one of some values, all equal to `y`, is held at what equals `y`. -/
theorem into (c : Dev nD) (t : Fin cfg0.N) {S : Shape} {e : EltTy} {v : Memref sig .tc .vmem S e} {D : Sort _} {x : Fin cfg0.N → D → S.Idx → Elt F e}
    {y z : Fin cfg0.N → S.Idx → Elt F e} (hx : (∀ t, z t = y t) → ∀ t d, x t d = y t) (hz : ∀ t, z t = y t) :
    iprop(∃ d, held c v (x t d)) ⊢ held c v (z t) :=
  exists_elim fun d => by rw [hx hz t d, hz t]

set_option maxHeartbeats 16000000 in
/-- The inputs' buffers hold their blocks as the body starts. -/
theorem enter (c : Dev nD) (t : Fin cfg0.N) : pre m c t ⊢ ins m c t iprop(anyOuts c t ∗ scr c ∗ rest m c t) := by
  unfold pre
  rw [show (data m 0 c).Φ t.castSucc = Pipeline.ΦA spec0 c from rfl, PhiA0_eq]
  refine BIBase.Entails.trans (sep_mono_right (sep_mono_right (Q' := ins m c t (anyOuts c t)) ?_)) ((sep_mono_right (ins_in m c t _ _)).trans ((ins_in m c t _ _).trans (ins_mono m c t ?_)))
  rotate_left
  · iintro ⟨⟨HS, Hg⟩, Ho, HO⟩
    isplitl [HO]; · iexact HO
    isplitl [HS]; · iexact HS
    isplitl [Hg]; · iexact Hg
    iexact Ho
  exact mono (into c t (before0_0_of m (data m 0 c) (data_A m c 0)) (fun _ => by dsimp only [data])) <| mono (into c t (before0_1_of m (data m 0 c) (data_A m c 1)) (fun _ => by dsimp only [data])) <|
    mono (into c t (before0_2_of m (data m 0 c) (data_A m c 2)) (fun _ => by dsimp only [data])) <| mono (into c t (before0_3_of m (data m 0 c) (data_A m c 3)) (fun _ => by dsimp only [data])) <|
    mono (into c t (before0_4_of m (data m 0 c) (data_A m c 4)) (fun _ => by dsimp only [data])) <| mono (into c t (before0_5_of m (data m 0 c) (data_A m c 5)) (fun _ => by dsimp only [data])) <|
    mono (into c t (before0_6_of m (data m 0 c) (data_A m c 6)) (fun _ => by dsimp only [data])) <| mono (into c t (before0_7_of m (data m 0 c) (data_A m c 7)) (fun _ => by dsimp only [data])) <|
    mono (into c t (before0_8_of m (data m 0 c) (data_A m c 8)) (fun _ => by dsimp only [data])) <| mono (into c t (before0_9_of m (data m 0 c) (data_A m c 9)) (fun _ => by dsimp only [data])) <|
    mono (into c t (before0_10_of m (data m 0 c) (data_A m c 10)) (fun _ => by dsimp only [data])) <| mono (into c t (before0_11_of m (data m 0 c) (data_A m c 11)) (fun _ => by dsimp only [data])) <|
    mono (into c t (before0_12_of m (data m 0 c) (data_A m c 12)) (fun _ => by dsimp only [data])) <| mono (into c t (before0_13_of m (data m 0 c) (data_A m c 13)) (fun _ => by dsimp only [data])) <|
    mono (into c t (before0_14_of m (data m 0 c) (data_A m c 14)) (fun _ => by dsimp only [data])) <| mono (into c t (before0_15_of m (data m 0 c) (data_A m c 15)) (fun _ => by dsimp only [data])) <|
    mono (into c t (before0_16_of m (data m 0 c) (data_A m c 16)) (fun _ => by dsimp only [data])) <| mono (into c t (before0_17_of m (data m 0 c) (data_A m c 17)) (fun _ => by dsimp only [data])) <|
    mono (into c t (before0_18_of m (data m 0 c) (data_A m c 18)) (fun _ => by dsimp only [data])) <| mono (into c t (before0_19_of m (data m 0 c) (data_A m c 19)) (fun _ => by dsimp only [data])) <|
    mono (into c t (before0_20_of m (data m 0 c) (data_A m c 20)) (fun _ => by dsimp only [data])) <| mono (into c t (before0_21_of m (data m 0 c) (data_A m c 21)) (fun _ => by dsimp only [data])) <|
    mono (into c t (before0_22_of m (data m 0 c) (data_A m c 22)) (fun _ => by dsimp only [data])) <| mono (into c t (before0_23_of m (data m 0 c) (data_A m c 23)) (fun _ => by dsimp only [data])) <| .rfl

set_option maxHeartbeats 3200000 in
/-- What either case of the body ends with gives what the point leaves. -/
theorem leave (c : Dev nD) (t : Fin cfg0.N) {R : SP F}
    (h : R ⊢ iprop(anyOuts c t ∗ some_ c scM0_0 ∗ some_ c scM0_1 ∗ some_ c scM0_2 ∗ some_ c scM0_3)) :
    iprop((∃ r, prngReg c r) ∗ (data m 0 c).owesAt () t.castSucc) ⊢ iprop(ins m c t R -∗ post m c t) := by
  refine BIClass.wand_intro ?_
  unfold post
  rw [show (data m 0 c).Φ t.succ = Pipeline.ΦA spec0 c from rfl, PhiA0_eq,
    show (data m 0 c).owesAt () t.succ = (data m 0 c).owesAt () t.castSucc from rfl]
  refine (ins_in m c t _ _).trans (BIBase.Entails.trans ?_ ((ins_out m c t _ _).trans (sep_mono_right (ins_out m c t _ _))))
  refine ins_mono m c t ((sep_mono_right h).trans ?_)
  iintro ⟨⟨Hg, Ho⟩, HO, HS⟩
  isplitl [HS Hg]
  · isplitl [HS]; · iexact HS
    iexact Hg
  isplitl [Ho]; · iexact Ho
  iexact HO

/-- A buffer held at one of some contents is owned at some value. -/
theorem any {c : Dev nD} {S : Shape} {e : EltTy} {v : Memref sig .tc .vmem S e} {D : Sort _} {f : D → Buf (Elt F) (v.view.loc (c : Thread nD τ))} :
    (iprop(∃ d, v.view.loc (c : Thread nD τ) ↦[v.view.set]{fullShare} f d) : SP F) ⊢ some_ c v :=
  exists_elim fun d => some_of c v _

/-- Ten entailments side by side, the first six apart. -/
theorem ends (c : Dev nD) {A0 A1 A2 A3 A4 A5 A6 A7 A8 A9 B0 B1 B2 B3 B4 B5 B6 B7 B8 B9 : SP F} (h0 : A0 ⊢ B0) (h1 : A1 ⊢ B1) (h2 : A2 ⊢ B2)
    (h3 : A3 ⊢ B3) (h4 : A4 ⊢ B4) (h5 : A5 ⊢ B5) (h6 : A6 ⊢ B6) (h7 : A7 ⊢ B7) (h8 : A8 ⊢ B8) (h9 : A9 ⊢ B9) :
    iprop(A0 ∗ A1 ∗ A2 ∗ A3 ∗ A4 ∗ A5 ∗ A6 ∗ A7 ∗ A8 ∗ A9) ⊢ iprop((B0 ∗ B1 ∗ B2 ∗ B3 ∗ B4 ∗ B5) ∗ B6 ∗ B7 ∗ B8 ∗ B9) := by
  iintro ⟨H0, H1, H2, H3, H4, H5, H6, H7, H8, H9⟩
  isplitl [H0 H1 H2 H3 H4 H5]
  · (isplitl [H0]; · iapply h0; iexact H0); (isplitl [H1]; · iapply h1; iexact H1); (isplitl [H2]; · iapply h2; iexact H2)
    (isplitl [H3]; · iapply h3; iexact H3); (isplitl [H4]; · iapply h4; iexact H4); iapply h5; iexact H5
  (isplitl [H6]; · iapply h6; iexact H6); (isplitl [H7]; · iapply h7; iexact H7); (isplitl [H8]; · iapply h8; iexact H8)
  iapply h9; iexact H9

/-- Ten propositions apart, what follows them carried on. -/
theorem flat {A0 A1 A2 A3 A4 A5 A6 A7 A8 A9 X Y : SP F} (h : X ⊢ Y) :
    iprop((A0 ∗ A1 ∗ A2 ∗ A3 ∗ A4 ∗ A5) ∗ (A6 ∗ A7 ∗ A8 ∗ A9) ∗ X) ⊢ iprop(A0 ∗ A1 ∗ A2 ∗ A3 ∗ A4 ∗ A5 ∗ A6 ∗ A7 ∗ A8 ∗ A9 ∗ Y) := by
  iintro ⟨⟨H0, H1, H2, H3, H4, H5⟩, ⟨H6, H7, H8, H9⟩, HX⟩
  (isplitl [H0]; · iexact H0); (isplitl [H1]; · iexact H1); (isplitl [H2]; · iexact H2); (isplitl [H3]; · iexact H3); (isplitl [H4]; · iexact H4)
  (isplitl [H5]; · iexact H5); (isplitl [H6]; · iexact H6); (isplitl [H7]; · iexact H7); (isplitl [H8]; · iexact H8); (isplitl [H9]; · iexact H9)
  iapply h; iexact HX

set_option maxHeartbeats 6400000 in
/-- The body at the first point, which sets the accumulated outputs. -/
theorem start (c : Dev nD) (t : Fin cfg0.N) (h0 : t.val % 8 = 0) :
    ins m c t iprop(anyOuts c t ∗ scr c ∗ rest m c t)
      ⊢ wp frame (wpE (defs₀ (F := F)) Variants.none c none) Set.univ (bodyAt0 t) (fun _ => post m c t) := by
  obtain ⟨L24, L25, L26, L27, L28, L29, T0, T1, T2, T3, h⟩ := kernelRun0_A c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t)
      (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _)
      scM0_2 (Memref.isWhole_whole _) scM0_3 (Memref.isWhole_whole _)
      ((hcond0_0 t).mpr h0) ((data m 0 c).after 0 t) ((data m 0 c).after 1 t) ((data m 0 c).after 2 t) ((data m 0 c).after 3 t) ((data m 0 c).after 4 t) ((data m 0 c).after 5 t) ((data m 0 c).after 6 t) ((data m 0 c).after 7 t) ((data m 0 c).after 8 t) ((data m 0 c).after 9 t) ((data m 0 c).after 10 t) ((data m 0 c).after 11 t) ((data m 0 c).after 12 t) ((data m 0 c).after 13 t) ((data m 0 c).after 14 t) ((data m 0 c).after 15 t) ((data m 0 c).after 16 t) ((data m 0 c).after 17 t) ((data m 0 c).after 18 t) ((data m 0 c).after 19 t) ((data m 0 c).after 20 t) ((data m 0 c).after 21 t) ((data m 0 c).after 22 t) ((data m 0 c).after 23 t)
  unfold bodyAt0
  refine BIBase.Entails.trans (ins_mono m c t ?_) (h Set.univ (fun _ => post m c t))
  exact flat (leave m c t (ends c any any any any any any any any any any))

set_option maxHeartbeats 6400000 in
/-- The body at a later point, which adds to them. -/
theorem later (c : Dev nD) (t : Fin cfg0.N) (h0 : ¬t.val % 8 = 0) (d25) (d26) (d27) (d28) (d29) :
    ins m c t iprop((some_ c (ms0_24 t) ∗ held c (ms0_25 t) d25 ∗ held c (ms0_26 t) d26 ∗ held c (ms0_27 t) d27 ∗ held c (ms0_28 t) d28
        ∗ held c (ms0_29 t) d29) ∗ scr c ∗ rest m c t)
      ⊢ wp frame (wpE (defs₀ (F := F)) Variants.none c none) Set.univ (bodyAt0 t) (fun _ => post m c t) := by
  obtain ⟨L24, L25, L26, L27, L28, L29, T0, T1, T2, T3, h⟩ := kernelRun0_B c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t)
      (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _)
      scM0_2 (Memref.isWhole_whole _) scM0_3 (Memref.isWhole_whole _)
      (fun h => h0 ((hcond0_0 t).mp h)) ((data m 0 c).after 0 t) ((data m 0 c).after 1 t) ((data m 0 c).after 2 t) ((data m 0 c).after 3 t) ((data m 0 c).after 4 t) ((data m 0 c).after 5 t) ((data m 0 c).after 6 t) ((data m 0 c).after 7 t) ((data m 0 c).after 8 t) ((data m 0 c).after 9 t) ((data m 0 c).after 10 t) ((data m 0 c).after 11 t) ((data m 0 c).after 12 t) ((data m 0 c).after 13 t) ((data m 0 c).after 14 t) ((data m 0 c).after 15 t) ((data m 0 c).after 16 t) ((data m 0 c).after 17 t) ((data m 0 c).after 18 t) ((data m 0 c).after 19 t) ((data m 0 c).after 20 t) ((data m 0 c).after 21 t) ((data m 0 c).after 22 t) ((data m 0 c).after 23 t) d25 d26 d27 d28 d29
  unfold bodyAt0
  refine BIBase.Entails.trans (ins_mono m c t ?_) (h Set.univ (fun _ => post m c t))
  exact flat (leave m c t (ends c any any any (some_of c _ _) (some_of c _ _) (some_of c _ _) any any any any))

/-- Outputs at anything are outputs at some values. -/
theorem fixed (c : Dev nD) (t : Fin cfg0.N) {Z W : SP F}
    (h : ∀ d25 d26 d27 d28 d29, ins m c t iprop((some_ c (ms0_24 t) ∗ held c (ms0_25 t) d25 ∗ held c (ms0_26 t) d26 ∗ held c (ms0_27 t) d27
      ∗ held c (ms0_28 t) d28 ∗ held c (ms0_29 t) d29) ∗ Z) ⊢ W) : ins m c t iprop(anyOuts c t ∗ Z) ⊢ W := by
  refine (ins_out m c t _ _).trans ?_
  iintro ⟨⟨H24, ⟨%d25, H25⟩, ⟨%d26, H26⟩, ⟨%d27, H27⟩, ⟨%d28, H28⟩, %d29, H29⟩, HZ⟩
  iapply ((ins_in m c t _ _).trans (h d25 d26 d27 d28 d29))
  isplitr [HZ]
  · (isplitl [H24]; · iexact H24); (isplitl [H25]; · iexact H25); (isplitl [H26]; · iexact H26); (isplitl [H27]; · iexact H27); (isplitl [H28]; · iexact H28)
    iexact H29
  iexact HZ

/-- The body at any point, by its two runs. -/
theorem body (c : Dev nD) (t : Fin cfg0.N) :
    pre m c t ⊢ wp frame (wpE (defs₀ (F := F)) Variants.none c none) Set.univ (bodyAt0 t) (fun _ => post m c t) := by
  refine (enter m c t).trans ?_
  by_cases h0 : t.val % 8 = 0
  · exact start m c t h0
  · exact fixed m c t (later m c t h0)

theorem row (t : Fin cfg0.N) : defs₀ (F := F) .tc cfg0.body (cfg0.bodyArgs t (cfg0.slots t)) = bodyAt0 t := by
  unfold defs₀; rw [Defs.onTc_tc]

set_option maxHeartbeats 8000000 in
/-- The pipeline's obligation on its body. -/
theorem obligation (c : Dev nD) : BodyObligation (data (F := F) m 0 c) (defs₀ (F := F)) Variants.none () Set.univ outs := fun t => by
  rw [bigSep_W0, bigSep_W0, row]
  exact triple_restated (body m c t) rfl .rfl fun _ => .rfl

/-- The buffers the host lines after the kernel write. -/
def late : Finset (Ref sig .tc) := {main_call4_v0, main_call4_v1, main_call4_v2, main_cst_6, main_cst_7, main_cst_8, main_cst_9, main_v258, main_v259, main_v260, main_v261,
  main_v262, main_v263, main_v264, main_v265, main_v266, main_v267, main_v268, main_v269, main_v270, main_v271, main_v272,
  main_v273, main_v274, main_v275, main_v276, main_v277, main_v278}

theorem late_writes : ∀ ops ∈ ([hostOps1, hostOps1_1, hostOps1_2] : List (List (HloOp τ sig (Elt F)))), ∀ op ∈ ops,
    ∀ b : Ref sig .tc, Proc.devRef .tc b ∈ op.writes → b ∈ late := by
  simp only [hostOps1, hostOps1_1, hostOps1_2, List.forall_mem_cons, List.not_mem_nil, false_imp_iff, implies_true, and_true]
  refine ⟨?_, ?_, ?_⟩ <;> repeat' apply And.intro
  all_goals
    intro b hb
    simp only [StableHlo.nullary_writes, StableHlo.unary_writes, StableHlo.binary_writes, StableHlo.ternary_writes,
      StableHlo.reshape_writes, StableHlo.binaryIndexed_writes, StableHlo.unaryIndexed_writes, StableHlo.nary_writes,
      Finset.mem_singleton] at hb
    cases Proc.devRef_injective _ hb
    decide

set_option backward.isDefEq.respectTransparency.types false in
set_option maxHeartbeats 3200000 in
/-- Every run ends, with the input arrays as the kernel found them and every counter at zero. -/
theorem run : θ_run defs (onTc (τ := τ) (main (F := F))) (s₀ m ρ)
    (fun r => Pipeline.RDat.FramePostR (cfgs 0) (fun c => (data m 0 c).toRForget outs) late (V m) r ∧ r.2.sem = fun _ => 0) :=
  Pipeline.θ_run_frame_around_T_forget_shared (Q' := _) cfgs (data m) (0 : Fin 1) launch₀0 defs₀ Variants.none outs late m ρ main
    (hbody := fun c => (obligation m c).loose) (hq := fun _ _ _ => rfl) (howed := fun _ _ => rfl) (V₀ := V0 m)
    (opss := [hostOps1, hostOps1_1, hostOps1_2]) (hsub := sfx_sub) (hfresh := sfx_fresh) (hkeep := sfx_keeps) (hT := late_writes)
    (hmain := hmain m Variants.none) (hA := data_A m) (hΦ := fun _ _ => rfl)

set_option maxHeartbeats 12800000 in
/-- The frame: the argument arrays end unchanged and the machine is quiet. -/
theorem claim : Cert.quiescent_MixKIdeal (hMixKIdeal := Cert.MixKIdeal.Gen.facts) := fun m ρ _ =>
  θ_run_and ((θ_run defs _ _).mono (fun r hr c => by
      have rest (b : Ref sig .tc) (h₁) (h₂) (h₃ : b ∉ late) := (hr.1 c).2 b (Finset.mem_sdiff.mpr ⟨Pipeline.mem_restRefs_of b h₁ h₂, h₃⟩)
      have arr := Pipeline.RDat.FramePostR.arr_in hr.1 c
      exact ⟨(rest main_arg0 (by decide) (by decide) (by decide)).trans (V_main_arg0 m c), (rest main_arg1 (by decide) (by decide) (by decide)).trans (V_main_arg1 m c),
        (rest main_arg2 (by decide) (by decide) (by decide)).trans (V_main_arg2 m c), (rest main_arg3 (by decide) (by decide) (by decide)).trans (V_main_arg3 m c),
        (rest main_arg4 (by decide) (by decide) (by decide)).trans (V_main_arg4 m c), (rest main_arg5 (by decide) (by decide) (by decide)).trans (V_main_arg5 m c),
        (rest main_arg6 (by decide) (by decide) (by decide)).trans (V_main_arg6 m c), (rest main_arg7 (by decide) (by decide) (by decide)).trans (V_main_arg7 m c),
        (rest main_arg8 (by decide) (by decide) (by decide)).trans (V_main_arg8 m c), (rest main_arg9 (by decide) (by decide) (by decide)).trans (V_main_arg9 m c),
        (arr 5 rfl).trans (V_main_arg10 m c), (arr 10 rfl).trans (V_main_arg11 m c), (arr 11 rfl).trans (V_main_arg12 m c), (arr 12 rfl).trans (V_main_arg13 m c),
        (arr 13 rfl).trans (V_main_arg14 m c), (arr 7 rfl).trans (V_main_arg15 m c), (arr 9 rfl).trans (V_main_arg16 m c)⟩) (run m ρ))
    ((θ_run defs _ _).mono (fun _ h => h.2) (run m ρ))

end Cert.MixKIdealFrame
-- ==== Proof.Num.lean ====
/- Extended-real arithmetic shared by the value proofs: literals, sums of finite values, distributivity. -/
module

public import Idealize.ShloMosaic.Lib.Pipeline.ValueKit
public import Idealize.ShloMosaic.Lib.Pointwise
public import Idealize.ShloMosaic.Lib.IdealHost

@[expose] public section

noncomputable section

open Idealize.ShloMosaic

namespace Cert.Num

theorem lit_1024 : Ideal.ofBits .f32 0x44800000#32 = ((1024 : ℝ) : EReal) := by
  simp [Ideal.ofBits, Ideal.ieee, -EReal.coe_mul]; norm_num

/-- The epsilon of the root-mean-square norm, as the rational its word denotes. -/
def epsR : ℝ := 8796093 / 8796093022208

theorem lit_eps : Ideal.ofBits .f32 0x358637BD#32 = (epsR : EReal) := by
  simp [Ideal.ofBits, Ideal.ieee, -EReal.coe_mul, epsR]; norm_num

theorem epsR_pos : 0 < epsR := by unfold epsR; norm_num

theorem lit_neg_half : Ideal.ofBits .f32 0xBF000000#32 = ((-(1 / 2) : ℝ) : EReal) := by
  simp [Ideal.ofBits, Ideal.ieee, -EReal.coe_mul]; norm_num

theorem lit_inf : Ideal.ofBits .f32 0x7F800000#32 = (⊤ : EReal) := by
  simp [Ideal.ofBits, Ideal.ieee]

/-- An extended real whose absolute value is below infinity is a real number. -/
theorem real_of_abs_lt {x : EReal} (h : max x (-x) < ⊤) : ∃ r : ℝ, x = (r : EReal) := by
  induction x using EReal.rec with
  | bot => simp at h
  | coe r => exact ⟨r, rfl⟩
  | top => simp at h

/-- What the finiteness test of an argument says at an index. -/
theorem real_of_test {s : Shape} (X B : FVec Ideal s .f32) (i : s.Idx) (hB : B i = Ideal.ofBits .f32 0x7F800000#32)
    (h : cmpf .olt (Host.absf X) B i = 1#1) : ∃ r : ℝ, X i = (r : EReal) := by
  refine real_of_abs_lt ?_
  rw [← lit_inf, ← hB]
  by_contra hn
  have e : cmpf .olt (Host.absf X) B i = BitVec.ofBool (decide (max (X i) (-X i) < B i)) := rfl
  rw [e, decide_eq_false hn] at h
  exact absurd h (by decide)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x : EReal) {r : ℝ} (hr : r ≠ 0) : Ideal.div x (r : EReal) = x * ((r⁻¹ : ℝ) : EReal) := by
  unfold Ideal.div
  rw [if_neg (by exact_mod_cast hr), EReal.coe_inv]

theorem coe_div_coe (x : ℝ) {r : ℝ} (hr : r ≠ 0) : Ideal.div (x : EReal) (r : EReal) = ((x / r : ℝ) : EReal) := by
  rw [div_coe _ hr, ← EReal.coe_mul, div_eq_mul_inv]

theorem rsqrt_coe {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.2 hr.le), if_neg hr.ne']

/-- A nonnegative real factor distributes over a sum of two extended reals. -/
theorem mul_add_nonneg {r : ℝ} (hr : 0 ≤ r) (x y : EReal) : (r : EReal) * (x + y) = r * x + r * y :=
  EReal.left_distrib_of_nonneg_of_ne_top (by exact_mod_cast hr) (EReal.coe_ne_top r) x y

/-- A nonnegative real factor distributes over a finite sum of extended reals. -/
theorem mul_sum_nonneg {ι : Type*} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, mul_add_nonneg hr, ih]

/-- Two halves of a real multiple of any extended real make the whole multiple. -/
theorem half_add_half (k : ℝ) (x : EReal) : ((k / 2 : ℝ) : EReal) * x + ((k / 2 : ℝ) : EReal) * x = (k : EReal) * x := by
  rcases le_total 0 k with hk | hk
  · rw [← EReal.right_distrib_of_nonneg (by exact_mod_cast (by positivity : (0:ℝ) ≤ k / 2)) (by exact_mod_cast (by positivity : (0:ℝ) ≤ k / 2)),
      ← EReal.coe_add, add_halves]
  · have h : (0 : EReal) ≤ ((-(k / 2) : ℝ) : EReal) := by exact_mod_cast (by linarith : (0:ℝ) ≤ -(k / 2))
    have e : ((k / 2 : ℝ) : EReal) * x = ((-(k / 2) : ℝ) : EReal) * (-x) := by
      rw [EReal.coe_neg, neg_mul, mul_neg, neg_neg]
    have e' : (k : EReal) * x = ((-k : ℝ) : EReal) * (-x) := by
      rw [EReal.coe_neg, neg_mul, mul_neg, neg_neg]
    rw [e, e', ← EReal.right_distrib_of_nonneg h h, ← EReal.coe_add]
    congr 2; ring

/-- A sum over the 4096 rows, taken by block of 512 rows, within it by group of eight, and last over the place in the group. -/
theorem sum_rows {M : Type*} [AddCommMonoid M] (f : Fin 4096 → M) :
    ∑ a : Fin 8, ∑ p : Fin 8, ∑ q : Fin 64, f ⟨p * 512 + (q * 8 + a), by omega⟩ = ∑ r : Fin 4096, f r := by
  rw [Finset.sum_comm, Fin.sum_univ_tiles 8 512 rfl f]
  refine Finset.sum_congr rfl fun p _ => ?_
  rw [Finset.sum_comm, Fin.sum_univ_tiles 64 8 rfl fun t : Fin 512 => f ⟨p * 512 + t, by omega⟩]

theorem lit_half : Ideal.ofBits .f32 0x3F000000#32 = ((1 / 2 : ℝ) : EReal) := by
  simp [Ideal.ofBits, Ideal.ieee, -EReal.coe_mul]; norm_num

theorem log1p_coe {r : ℝ} (hr : 0 < 1 + r) : Ideal.log1p (r : EReal) = ((Real.log (1 + r) : ℝ) : EReal) := by
  have h1 : (1 : EReal) + (r : EReal) = ((1 + r : ℝ) : EReal) := by rw [EReal.coe_add, EReal.coe_one]
  show Ideal.log (1 + (r : EReal)) = _
  rw [h1]
  show (if 1 + r ≤ 0 then (⊥ : EReal) else (Real.log (1 + r) : ℝ)) = _
  rw [if_neg (not_le.2 hr)]

theorem coe_max (a b : ℝ) : ((max a b : ℝ) : EReal) = max (a : EReal) (b : EReal) := EReal.coe_strictMono.monotone.map_max

theorem abs_coe (r : ℝ) : FloatOps.absf (F := Ideal) (φ := .f32) (r : EReal) = ((|r| : ℝ) : EReal) := by
  show max (r : EReal) (-(r : EReal)) = _
  rw [← EReal.coe_neg, ← coe_max]
  rfl

theorem foldl_add {α : Type} (l : List α) (g : α → EReal) (v : EReal) : l.foldl (fun r n => r + g n) v = v + (l.map g).sum := by
  induction l generalizing v with
  | nil => simp
  | cons a l ih => simp only [List.foldl_cons, List.map_cons, List.sum_cons, ih, add_assoc]

end Cert.Num

end
-- ==== Proof.NormPair.lean ====
/- The forward root-mean-square norm: the kernel's result is the reference's. -/
module

public import proofs.«01_k».proof.Defs
public import proofs.«01_k».proof.Proof.Num
public import proofs.«01_k».proof.Proof.Gen.NormKIdeal.Value
public import proofs.«01_k».proof.Proof.Gen.NormKIdeal.Frame
public import proofs.«01_k».proof.Proof.Gen.NormRIdeal.Run

@[expose] public section

set_option maxRecDepth 16384

noncomputable section

open Idealize.ShloMosaic Idealize.ShloMosaic.TcCoe Idealize.SL.Sem

namespace Cert.Norm

open Cert.NormKIdeal Cert.NormKIdeal.Gen Cert.NormKIdeal.Value

/-- One element of a row divided by its root mean square and scaled. -/
def KN (x : FVec Ideal S4096x1024 .f32) (g : FVec Ideal S1024 .f32) : FVec Ideal S4096x1024 .bf16 := fun i =>
  HMul.hMul (α := EReal) (x (ix2 (i 0) (i 1)) * Ideal.rsqrt (Ideal.div (∑ k : Fin 1024, x (ix2 (i 0) k) * x (ix2 (i 0) k)) (Ideal.ofBits .f32 0x44800000#32)
    + Ideal.ofBits .f32 0x358637BD#32)) (g (ix1 (i 1)))

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The weight as the region finds it: one row. -/
theorem V_v0 (c : Dev nD) : V m c main_v0 = shapeCast S1x1024 (m ((c : Thread nD τ).loc main_arg1)) facts.shapeCasts_S1024_S1x1024 := by
  show StableHlo.after hostOps0 _ _ = _
  after_results
  try rfl

theorem fin2 (c : Dev nD) : (dats m 0 c).arrAt 2 (cfgs 0).N
    = KN (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, KN]
  blk_point [iblk, V, idx t]
  all_goals
    rw [V_v0]
    pointwise
    blk_ext [idx t]

theorem algebraic : Cert.algebraic_NormKIdeal_NormRIdeal := by
  pair_intro
  · run_from Cert.NormKIdeal.Value.run_blocks m g
  · run_from Cert.NormRIdeal.Value.run m' g'
    · funext i
      idx_vars i
      rw [fin2]
      pointwise [KN]

end Cert.Norm

end
-- ==== Proof.Gate.lean ====
/- The forward cumulative sum of the forget gate's logarithms: what the kernel's result holds. -/
module

public import proofs.«01_k».proof.Proof.Num
public import proofs.«01_k».proof.Proof.Gen.GateKIdeal.Frame

@[expose] public section

set_option maxRecDepth 16384

noncomputable section

open Idealize.ShloMosaic Idealize.ShloMosaic.TcCoe Idealize.SL.Sem

namespace Cert.GateKIdeal.Value

open Cert.GateKIdeal Cert.GateKIdeal.Gen

/-- The logarithm of the logistic function, as the kernel writes it. -/
def KL (z : EReal) : EReal :=
  min z 0 - Ideal.log (1 + Ideal.exp (0 - FloatOps.absf (F := Ideal) (φ := .f32) z))

/-- Row `k` of the block the point `n` reads. -/
def rowN (n : ℕ) (h : n < 8) (k : Fin 512) : Fin 4096 := ⟨n * 512 + k, by omega⟩

/-- The sum of the rows up to `r`, block by block: the blocks already passed in whole, and of the point's own the rows up to `r`. -/
theorem prefix_sum (f : Fin 4096 → EReal) (t : ℕ) (ht : t < 8) (r : Fin 512) :
    (∑ x : Fin 512, if x ≤ r then f (rowN t ht x) else 0) + ∑ p : Fin 8, (if p.val < t then ∑ x : Fin 512, f (rowN p p.isLt x) else 0)
      = ∑ j : Fin 4096, if j ≤ rowN t ht r then f j else 0 := by
  rw [Fin.sum_univ_tiles 8 512 rfl]
  have h (p : Fin 8) : (∑ x : Fin 512, if (⟨p.val * 512 + x.val, by omega⟩ : Fin 4096) ≤ rowN t ht r then f ⟨p.val * 512 + x.val, by omega⟩ else 0)
      = (if p = ⟨t, ht⟩ then ∑ x : Fin 512, (if x ≤ r then f (rowN t ht x) else 0) else 0)
        + if p.val < t then ∑ x : Fin 512, f (rowN p p.isLt x) else 0 := by
    rcases lt_trichotomy p.val t with h | h | h
    · rw [if_neg (fun e => by rw [e] at h; exact lt_irrefl _ h), if_pos h, zero_add]
      refine Finset.sum_congr rfl fun x _ => if_pos ?_
      show p.val * 512 + x.val ≤ t * 512 + r.val
      omega
    · subst h
      rw [if_pos rfl, if_neg (lt_irrefl _), add_zero]
      refine Finset.sum_congr rfl fun x _ => if_congr ?_ rfl rfl
      show p.val * 512 + x.val ≤ p.val * 512 + r.val ↔ x.val ≤ r.val
      omega
    · rw [if_neg (fun e => by rw [e] at h; exact lt_irrefl _ h), if_neg (by omega), zero_add]
      refine Finset.sum_eq_zero fun x _ => if_neg ?_
      show ¬p.val * 512 + x.val ≤ t * 512 + r.val
      omega
  refine Eq.trans ?_ (Finset.sum_congr rfl fun p _ => (h p).symm)
  rw [Finset.sum_add_distrib, Finset.sum_ite_eq' Finset.univ, if_pos (Finset.mem_univ _)]

theorem sum_Iic {N : ℕ} (hN : N = 8) (t : Fin N) (A : Fin 8 → EReal) :
    ∑ p ∈ Finset.Iic t, A (p.cast hN) = ∑ p : Fin 8, if p.val < t.val + 1 then A p else 0 := by
  subst hN
  rw [← Finset.sum_filter]
  refine Finset.sum_congr (Finset.ext fun p => ?_) fun _ _ => rfl
  simp only [Finset.mem_Iic, Finset.mem_filter, Finset.mem_univ, true_and]
  exact Nat.lt_succ_iff.symm

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem V_v0 (c : Dev nD) : V m c main_v0 = pad S4096x128 ![0, 0] ![0, 124] ![0, 0] (m ((c : Thread nD τ).loc main_arg0) : FVec Ideal S4096x4 .f32)
      (sitofp (F := Ideal) .f32 (constantI S_ 32 0#32)) facts.pads_S4096x4_S4096x128_000_01240 facts.h_S_ := by
  show StableHlo.after (List.flatten [hostOps0, hostOps0_1, hostOps0_2, hostOps0_3]) _ _ = _
  simp only [List.flatten, List.append]
  after_results
  rfl

theorem V_v2 (c : Dev nD) : V m c main_v2 = pad S1x128 ![0, 0] ![0, 124] ![0, 0] (shapeCast S1x4 (m (c, Proc.tc.devRef main_arg1)) facts.shapeCasts_S4_S1x4)
      (sitofp (F := Ideal) .f32 (constantI S_ 32 0#32)) facts.pads_S1x4_S1x128_000_01240 facts.h_S_ := by
  show StableHlo.after (List.flatten [hostOps0, hostOps0_1, hostOps0_2, hostOps0_3]) _ _ = _
  simp only [List.flatten, List.append]
  after_results
  rfl

theorem pad_lane (x : FVec Ideal S4096x4 .f32) (v : FVec Ideal S_ .f32) (h) (hu) (r : Fin 4096) (l : Fin 4) :
    (pad S4096x128 ![0, 0] ![0, 124] ![0, 0] x v h hu : FVec Ideal S4096x128 .f32) (ix2 r ⟨l, by omega⟩) = x (ix2 r l) := by
  have := l.isLt
  pointwise

theorem v0_apply (c : Dev nD) (r : Fin 4096) (l : Fin 4) : V m c main_v0 (ix2 r ⟨l, by omega⟩)
    = m ((c : Thread nD τ).loc main_arg0) (ix2 r l) :=
  (congrFun (V_v0 m c) _).trans (pad_lane _ _ _ _ r l)

theorem v2_apply (c : Dev nD) (l : Fin 4) : V m c main_v2 (ix2 0 ⟨l, by omega⟩) = m ((c : Thread nD τ).loc main_arg1) (ix1 l) := by
  rw [V_v2]
  have := l.isLt
  pointwise

/-- The logarithm of the gate at a row and a lane. -/
def LF (c : Dev nD) (r : Fin 4096) (l : Fin 128) : EReal :=
  KL (HAdd.hAdd (α := EReal) (β := EReal) (γ := EReal) (V m c main_v0 (ix2 r l)) (V m c main_v2 (ix2 0 l)))

theorem pay3 (c : Dev nD) (t : Fin cfg0.N) (h : t.val < 8) (k : Fin 512) (l : Fin 128) :
    k0_pay3 (F := Ideal) (iblk m c 0 t) (iblk m c 1 t) (ix2 k l) = LF m c (rowN t h k) l := by
  have h2 : iblk m c 0 t (ix2 k l) = V m c main_v0 (ix2 (rowN t h k) l) := by blk_point [iblk, V, idx t, rowN]
  have h3 : iblk m c 1 t (ix2 0 l) = V m c main_v2 (ix2 0 l) := by blk_point [iblk, V, idx t]
  pointwise [k0_pay3, LF, KL]
  rw [h2, h3]

/-- The carry after point `t`: the rows of the blocks passed so far. -/
theorem carry (c : Dev nD) (t : Fin cfg0.N) (l : Fin 128) : (outsAt0 m c t.val t.isLt).2 (ix2 0 l)
    = ∑ p : Fin 8, if p.val < t.val + 1 then ∑ x : Fin 512, LF m c (rowN p p.isLt x) l else 0 := by
  rw [Pipeline.eq_sum_fin_of_reset_step_apply_single (fun n h => (outsAt0 m c n h).2) 8 (fun _ => (0 : EReal))
    (fun p j => ∑ x : Fin 512, LF m c (rowN p (lt_of_lt_of_eq p.isLt N_0) x) (j 1)) (fun t h j => by
      rw [outsAt0_A m c t h]; frame_out
      idx_vars j
      pointwise [k0_pay1, k0_pay5, k0_pay2]
      exact Finset.sum_congr rfl fun x _ => pay3 m c t _ x j1)
    (fun t h j => by
      rw [outsAt0_B m c t h]; frame_out
      idx_vars j
      pointwise [k0_pay1, k0_pay5]
      rw [(Memref.isWhole_whole _).read_unread]
      exact congrArg _ (Finset.sum_congr rfl fun x _ => pay3 m c t _ x j1))
    (le_of_eq N_0) t (ix2 0 l), zero_add]
  exact sum_Iic N_0 t (fun p => ∑ x : Fin 512, LF m c (rowN p p.isLt x) l)

/-- The cumulated logarithms, all lanes. -/
def KC (c : Dev nD) : FVec Ideal S4096x128 .f32 := fun i => ∑ j : Fin 4096, if j ≤ i 0 then LF m c j (i 1) else 0

theorem pay4 (c : Dev nD) (t : Fin cfg0.N) (h : t.val < 8) (cy : FVec Ideal S1x128 .f32) (j : S512x128.Idx)
    (hcy : ∀ l : Fin 128, cy (ix2 0 l) = ∑ p : Fin 8, if p.val < t.val then ∑ x : Fin 512, LF m c (rowN p p.isLt x) l else 0) :
    k0_pay4 (F := Ideal) (iblk m c 0 t) (iblk m c 1 t) cy j = KC m c (ix2 (rowN t h (j 0)) (j 1)) := by
  idx_vars j
  pointwise [k0_pay4, KC]
  rw [hcy, ← prefix_sum _ t.val h]
  congr 1
  refine Finset.sum_congr rfl fun x _ => ?_
  rw [pay3 m c t h]
  have := j0.isLt
  have := x.isLt
  word_cmp
  exact if_congr Iff.rfl rfl rfl

theorem carry_A (c : Dev nD) (t : Fin cfg0.N) (h : t.val % 8 = 0) (l : Fin 128) :
    k0_pay2 (F := Ideal) (ix2 0 l) = ∑ p : Fin 8, if p.val < t.val then ∑ x : Fin 512, LF m c (rowN p p.isLt x) l else 0 := by
  have ht : t.val < 8 := lt_of_lt_of_eq t.isLt N_0
  have h0 : t.val = 0 := by omega
  pointwise [k0_pay2]
  rw [h0]
  exact (Finset.sum_eq_zero fun p _ => if_neg (Nat.not_lt_zero _)).symm

theorem carry_B (c : Dev nD) (t : Fin cfg0.N) (h : ¬t.val % 8 = 0) (l : Fin 128) :
    (outsAt0 m c (t.val - 1) (Nat.lt_of_le_of_lt (Nat.sub_le _ _) t.isLt)).2 (ix2 0 l)
      = ∑ p : Fin 8, if p.val < t.val then ∑ x : Fin 512, LF m c (rowN p p.isLt x) l else 0 := by
  have h1 : t.val - 1 + 1 = t.val := by omega
  have := carry m c ⟨t.val - 1, Nat.lt_of_le_of_lt (Nat.sub_le _ _) t.isLt⟩ l
  rw [h1] at this
  exact this

theorem fin2 (c : Dev nD) : (dats m 0 c).arrAt 2 (cfgs 0).N = KC m c := by
  refine (dats m 0 c).arrAt_eq_of_covers 2 _ (by decide +kernel) fun t hf y => ?_
  blk_simp
  rw [after0_2]
  have ht : t.val < 8 := lt_of_lt_of_eq t.isLt N_0
  have e : ((cfg0.win 2).blk t).view.emb y = ix2 (rowN t ht (y 0)) (y 1) := by
    blk_ext [idx t, rowN]
  by_cases h : t.val % 8 = 0
  · rw [outsAt0_A m c t h]; frame_out
    exact (pay4 m c t ht _ y (carry_A m c t h)).trans (congrArg (KC m c) e).symm
  · rw [outsAt0_B m c t h]; frame_out
    rw [(Memref.isWhole_whole _).read_unread]
    exact (pay4 m c t ht _ y (carry_B m c t h)).trans (congrArg (KC m c) e).symm

end Cert.GateKIdeal.Value

end
-- ==== Proof.GatePair.lean ====
/- The forward cumulative sum: the kernel's result is the reference's. -/
module

public import proofs.«01_k».proof.Defs
public import proofs.«01_k».proof.Proof.Gate
public import proofs.«01_k».proof.Proof.Gen.GateRIdeal.Run
public import proofs.«01_k».proof.Proof.Gen.GateRIdeal.Read

@[expose] public section

set_option maxRecDepth 16384

noncomputable section

open Idealize.ShloMosaic Idealize.ShloMosaic.TcCoe Idealize.SL.Sem

namespace Cert.Gate

open Cert.GateKIdeal.Value (KL)

section Reference

open Cert.GateRIdeal Cert.GateRIdeal.Read Cert.Num

/-- The logarithm of the logistic function written with its softplus is the kernel's, at every extended real. -/
theorem log_gate (z : EReal) :
    -(if -z - 0 ≠ -z - 0 then -z + 0 else max (-z) 0 + Ideal.log1p (Ideal.exp (-FloatOps.absf (F := Ideal) (φ := .f32) (-z - 0)))) = KL z := by
  have e0 : Ideal.exp (⊥ : EReal) = ((0 : ℝ) : EReal) := rfl
  have el : Ideal.log1p ((0 : ℝ) : EReal) = 0 := by
    rw [log1p_coe (by norm_num)]
    norm_num
  have el' : Ideal.log (1 + ((0 : ℝ) : EReal)) = 0 := el
  have at_ : FloatOps.absf (F := Ideal) (φ := .f32) (⊤ : EReal) = (⊤ : EReal) := by
    show max (⊤ : EReal) (-(⊤ : EReal)) = ⊤
    simp
  have ab_ : FloatOps.absf (F := Ideal) (φ := .f32) (⊥ : EReal) = (⊤ : EReal) := by
    show max (⊥ : EReal) (-(⊥ : EReal)) = ⊤
    simp
  rw [if_neg (not_not.2 rfl), sub_zero]
  unfold KL
  induction z using EReal.rec with
  | bot =>
    rw [EReal.neg_bot, at_, ab_, EReal.neg_top, zero_sub, EReal.neg_top, e0, el, el']
    simp
  | top =>
    rw [EReal.neg_top, at_, ab_, EReal.neg_top, zero_sub, EReal.neg_top, e0, el, el']
    simp
  | coe z =>
    have hm : min (z : EReal) 0 = ((min z 0 : ℝ) : EReal) := by
      rw [← EReal.coe_zero]
      exact (EReal.coe_strictMono.monotone.map_min).symm
    have hl : Ideal.log (1 + ((Real.exp (-|z|) : ℝ) : EReal)) = ((Real.log (1 + Real.exp (-|z|)) : ℝ) : EReal) := log1p_coe (by positivity)
    rw [hm, ← EReal.coe_neg, abs_coe, abs_coe, zero_sub, abs_neg, ← EReal.coe_neg, ← EReal.coe_zero, ← coe_max]
    rw [show Ideal.exp ((-|z| : ℝ) : EReal) = ((Real.exp (-|z|) : ℝ) : EReal) from rfl, hl, log1p_coe (by positivity), ← EReal.coe_add, ← EReal.coe_neg, ← EReal.coe_sub]
    congr 1
    have : max (-z) 0 = -min z 0 := by rw [← neg_zero, max_neg_neg, neg_zero]
    rw [this]
    ring

/-- The cumulative sum: a window of all rows padded at the start. -/
theorem window (x : FVec Ideal S4096x4 .f32) (init : FVec Ideal S_ .f32) (h) (hu) (r : Fin 4096) (l : Fin 4) (h0 : init (Shape.Idx.first hu) = 0) :
    (Host.reduceWindowAdd ![4096, 1] ![1, 1] ![4095, 0] ![0, 0] x init h hu : FVec Ideal S4096x4 .f32) (ix2 r l) = ∑ j : Fin 4096, if j ≤ r then x (ix2 j l) else 0 := by
  unfold Host.reduceWindowAdd
  rw [Ideal.hostReduceWindowAdd_def, h0]
  unfold Ideal.hostReduceWindowAdd Host.reduceWindow
  refine (foldl_add _ _ _).trans ?_
  rw [show ((fun _ => (0 : EReal)) (Shape.Idx.first Ideal.hostReduceWindowAdd._proof_1) : EReal) = 0 from rfl, zero_add, ← Fin.sum_univ_def]
  have hW : (⟨2, ![4096, 1]⟩ : Shape).numel = 4096 := by
    show ∏ a : Fin 2, (![4096, 1] : Fin 2 → Nat) a = _
    rw [Fin.prod_univ_two]; rfl
  refine (Fintype.sum_equiv (finCongr hW) _ (fun n : Fin 4096 => if h : 4095 ≤ r.val + n.val then x (ix2 ⟨r.val + n.val - 4095, by omega⟩ l) else 0) fun i => ?_).trans ?_
  · have e : (⟨2, ![4096, 1]⟩ : Shape).rowMajor.symm i = ix2 (finCongr hW i) 0 :=
      (Shape.rowMajor _).symm_apply_eq.2 (Fin.ext (by rw [Shape.rowMajor_val_two]; show i.val = i.val * 1 + 0; omega))
    have w0 : ((⟨2, ![4096, 1]⟩ : Shape).rowMajor.symm i 0).val = (finCongr hW i).val := by rw [e]; rfl
    have w1 : ((⟨2, ![4096, 1]⟩ : Shape).rowMajor.symm i 1).val = 0 := by rw [e]; rfl
    have hl := (finCongr hW i).isLt
    by_cases h : 4095 ≤ r.val + (finCongr hW i).val
    · rw [dif_pos h]
      refine (dif_pos (show ∀ a : Fin 2, _ from fun a => ?_)).trans (congrArg x (funext (show ∀ a : Fin 2, _ from fun a => Fin.ext ?_)))
      · match a with
        | ⟨0, _⟩ => show 4095 ≤ r.val * 1 + ((⟨2, ![4096, 1]⟩ : Shape).rowMajor.symm i 0).val ∧ r.val * 1 + ((⟨2, ![4096, 1]⟩ : Shape).rowMajor.symm i 0).val - 4095 < 4096; omega
        | ⟨1, _⟩ => show 0 ≤ l.val * 1 + ((⟨2, ![4096, 1]⟩ : Shape).rowMajor.symm i 1).val ∧ l.val * 1 + ((⟨2, ![4096, 1]⟩ : Shape).rowMajor.symm i 1).val - 0 < 4; omega
      · match a with
        | ⟨0, _⟩ => show r.val * 1 + ((⟨2, ![4096, 1]⟩ : Shape).rowMajor.symm i 0).val - 4095 = r.val + (finCongr hW i).val - 4095; omega
        | ⟨1, _⟩ => show l.val * 1 + ((⟨2, ![4096, 1]⟩ : Shape).rowMajor.symm i 1).val - 0 = l.val; omega
    · rw [dif_neg h]
      refine dif_neg fun hin => ?_
      have h0 : 4095 ≤ r.val * 1 + ((⟨2, ![4096, 1]⟩ : Shape).rowMajor.symm i 0).val ∧ r.val * 1 + ((⟨2, ![4096, 1]⟩ : Shape).rowMajor.symm i 0).val - 4095 < 4096 := hin 0
      omega
  · let g : ℕ → EReal := fun j => if h : j < 4096 then x (ix2 ⟨j, h⟩ l) else 0
    have h1 : ∑ n : Fin 4096, (if h : 4095 ≤ r.val + n.val then x (ix2 ⟨r.val + n.val - 4095, by omega⟩ l) else 0)
        = ∑ n ∈ Finset.range 4096, if 4095 ≤ r.val + n then g (r.val + n - 4095) else 0 := by
      rw [← Fin.sum_univ_eq_sum_range (fun n => if 4095 ≤ r.val + n then g (r.val + n - 4095) else 0) 4096]
      refine Finset.sum_congr rfl fun n _ => ?_
      split_ifs with h
      · have h5 : r.val + n.val - 4095 < 4096 := by omega
        exact (show g (r.val + n.val - 4095) = x (ix2 ⟨r.val + n.val - 4095, h5⟩ l) from dif_pos h5).symm
      · rfl
    have h2 : ∑ j : Fin 4096, (if j ≤ r then x (ix2 j l) else 0) = ∑ j ∈ Finset.range 4096, if j ≤ r.val then g j else 0 := by
      rw [← Fin.sum_univ_eq_sum_range (fun j => if j ≤ r.val then g j else 0) 4096]
      refine Finset.sum_congr rfl fun j _ => ?_
      show _ = if j.val ≤ r.val then g j.val else 0
      rw [show g j.val = x (ix2 j l) from dif_pos j.isLt]
      rfl
    refine h1.trans (Eq.trans ?_ h2.symm)
    rw [← Finset.sum_filter, ← Finset.sum_filter]
    refine Finset.sum_bij' (fun n _ => r.val + n - 4095) (fun j _ => j + 4095 - r.val) ?_ ?_ ?_ ?_ ?_
    all_goals
      intro a ha
      simp only [Finset.mem_filter, Finset.mem_range] at ha ⊢
      first | omega | rfl | skip

/-- One logarithm of the gate in the reference. -/
theorem ref3 (x0 : (⟨S4096x4, .f32⟩ : BufTy).Contents (Elt Ideal)) (x1 : (⟨S4, .f32⟩ : BufTy).Contents (Elt Ideal)) (r : Fin 4096) (l : Fin 4) :
    val_main_v3 (F := Ideal) x0 x1 (ix2 r l) = KL (HAdd.hAdd (α := EReal) (β := EReal) (γ := EReal) (x0 (ix2 r l)) (x1 (ix1 l))) := by
  have e : val_main_call0_v0 (F := Ideal) x0 x1 (ix2 r l) = -(HAdd.hAdd (α := EReal) (β := EReal) (γ := EReal) (x0 (ix2 r l)) (x1 (ix1 l))) := by
    pointwise [val_main_call0_v0, val_main_v2, val_main_v1, val_main_v0]
  rw [val_main_v3_apply, val_main_call0_v1_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply, e]
  refine Eq.trans ?_ (log_gate _)
  pointwise [val_main_call0_call0_v0, val_main_call0_call0_v2, val_main_call0_call0_v5, val_main_call0_call0_cst]

/-- The cumulated logarithms in the reference. -/
theorem ref5 (x0 : (⟨S4096x4, .f32⟩ : BufTy).Contents (Elt Ideal)) (x1 : (⟨S4, .f32⟩ : BufTy).Contents (Elt Ideal)) (r : Fin 4096) (l : Fin 4) :
    val_main_v5 (F := Ideal) x0 x1 (ix2 l r)
      = ∑ j : Fin 4096, if j ≤ r then KL (HAdd.hAdd (α := EReal) (β := EReal) (γ := EReal) (x0 (ix2 j l)) (x1 (ix1 l))) else 0 := by
  have e : val_main_v5 (F := Ideal) x0 x1 (ix2 l r) = val_main_v4 (F := Ideal) x0 x1 (ix2 r l) := by
    pointwise [val_main_v5]
  rw [e]
  unfold val_main_v4
  rw [window _ _ _ _ r l (by pointwise [val_main_call1_call0_v0, val_main_call1_call0_cst])]
  exact Finset.sum_congr rfl fun j _ => by rw [ref3]

/-- The reference's run, its result the last stage of the line. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v5_eq _ _), (h c).2⟩)
    (Cert.GateRIdeal.Value.run m ρ)

end Reference

open Cert.GateKIdeal Cert.GateKIdeal.Gen Cert.GateKIdeal.Value

variable (m : (ℓ : Loc nD τ sig) → Buf (Elt Ideal) ℓ)

theorem tail (c : Dev nD) : Pipeline.afterTail₀ cfgs (dats m) 0 (V0 m) [hostOps1] c main_v5
      = (transpose S4x4096 [1, 0] (extractStridedSlice S4096x4 ![0, 0] (KC m c) facts.slices_S4096x128_S4096x4_0_0) facts.transposes_S4096x4_S4x4096_1_0 : FVec Ideal S4x4096 .f32) := by
  unfold Pipeline.afterTail₀
  show StableHlo.after hostOps1 _ _ = _
  after_results
  have e : Pipeline.withArrays (cfgs 0).spec c (V0 m c) (fun w => (dats m 0 c).arrAt w (cfgs 0).N) (Proc.devRef .tc main_v3)
      = (dats m 0 c).arrAt 2 (cfgs 0).N := Pipeline.withArrays_arr (cfgs 0).spec launch0.win.arr_inj c _ _ 2
  rw [e, fin2]

theorem algebraic : Cert.algebraic_GateKIdeal_GateRIdeal := by
  pair_intro
  · run_from Cert.GateKIdeal.Gen.run_main m g
    · exact W_main_arg0 m (dats m) c
    · exact W_main_arg1 m (dats m) c
  · refine Idealize.ShloMosaic.θ_run_mono (ref_run m' g') ?_
    intro r hr c
    have hc := hr c
    refine ⟨hc.1.trans ?_, hc.2⟩
    rw [(hagree c).1, (hagree c).2]
    clear hc hr
    rw [tail]
    funext i
    idx_vars i
    rw [ref5]
    pointwise [KC, LF]
    refine Finset.sum_congr rfl fun j _ => ?_
    rw [← v0_apply m c j i0, ← v2_apply m c i0]

end Cert.Gate

end
-- ==== Proof.MergePay.lean ====
/- The merge backward's block arithmetic: what each of the kernel's stored blocks holds, entry by entry. -/
module

public import proofs.«01_k».proof.Proof.Num
public import proofs.«01_k».proof.Proof.Gen.MergeKIdeal.Frame

@[expose] public section

set_option maxRecDepth 16384

noncomputable section

open Idealize.ShloMosaic Idealize.ShloMosaic.TcCoe Idealize.SL.Sem

namespace Cert.MergeKIdeal.Value

open Cert.MergeKIdeal Cert.MergeKIdeal.Gen

/-- The gate as the kernel takes it: the logistic function by its hyperbolic tangent. -/
def sg (v : EReal) : EReal :=
  Ideal.ofBits .f32 0x3F000000#32 * Ideal.tanh (Ideal.ofBits .f32 0x3F000000#32 * v) + Ideal.ofBits .f32 0x3F000000#32

/-- The cotangent of the merged rows, from a row of the output's. -/
def dm (d : Fin 1024 → EReal) (w : Fin 1024 → Fin 1024 → EReal) (l : Fin 1024) : EReal := ∑ k : Fin 1024, d k * w l k

/-- A branch's projection of one row. -/
def pr (y : Fin 256 → EReal) (w : Fin 256 → Fin 1024 → EReal) (l : Fin 1024) : EReal := ∑ k : Fin 256, y k * w k l

/-- The cotangent of a gate's logit. -/
def dpg (a p g : EReal) : EReal := a * p * sg g * (1 - sg g)

/-- The cotangent of a branch's row. -/
def dy (g a : Fin 1024 → EReal) (w : Fin 256 → Fin 1024 → EReal) (c : Fin 256) : EReal := ∑ l : Fin 1024, sg (g l) * a l * w c l

theorem pay8 (X : FVec Ideal S256x1024 .f32) (W : FVec Ideal S1024x1024 .bf16) (r : Fin 256) (l : Fin 1024) :
    k0_pay8 (F := Ideal) X W (ix2 r l) = dm (fun k => X (ix2 r k)) (fun l k => W (ix2 l k)) l := by
  unfold dm
  pointwise [k0_pay8, k0_pay7]

theorem pay13 (P : FVec Ideal S256x1024 .f32) (r : Fin 256) (l : Fin 1024) : k0_pay13 (F := Ideal) P (ix2 r l) = sg (P (ix2 r l)) := by
  unfold sg
  pointwise [k0_pay13]

theorem pay21 (P : FVec Ideal S256x1024 .f32) (r : Fin 256) (l : Fin 1024) : k0_pay21 (F := Ideal) P (ix2 r l) = sg (P (ix2 r l)) := by
  unfold sg
  pointwise [k0_pay21]

theorem pay9 (Y : FVec Ideal S256x256 .bf16) : k0_pay9 (F := Ideal) Y = Y :=
  funext fun j => by idx_vars j; pointwise [k0_pay9]

theorem pay10 (Y : FVec Ideal S256x256 .bf16) : k0_pay10 (F := Ideal) Y = Y :=
  funext fun j => by idx_vars j; pointwise [k0_pay10]

theorem pay11 (Y : FVec Ideal S256x256 .bf16) : k0_pay11 (F := Ideal) Y = Y :=
  funext fun j => by idx_vars j; pointwise [k0_pay11]

theorem pay12 (Y : FVec Ideal S256x256 .bf16) : k0_pay12 (F := Ideal) Y = Y :=
  funext fun j => by idx_vars j; pointwise [k0_pay12]

section
variable (X : FVec Ideal S256x1024 .f32) (W : FVec Ideal S1024x1024 .bf16) (D : FVec Ideal S256x1024 .f32) (P G : FVec Ideal S256x1024 .f32) (w : FVec Ideal S1x256x1024 .bf16) (Y : FVec Ideal S256x256 .bf16)

theorem pay49 (r : Fin 256) (l : Fin 1024) : k0_pay49 (F := Ideal) D Y P w (ix2 r l)
    = dpg (D (ix2 r l)) (pr (fun k => Y (ix2 r k)) (fun k l => w (ix3 0 k l)) l) (P (ix2 r l)) := by
  unfold dpg pr sg
  pointwise [k0_pay49, k0_pay46, k0_pay47]

theorem pay42 (r : Fin 256) (l : Fin 1024) : k0_pay42 (F := Ideal) D Y P w (ix2 r l)
    = dpg (D (ix2 r l)) (pr (fun k => Y (ix2 r k)) (fun k l => w (ix3 0 k l)) l) (P (ix2 r l)) := by
  unfold dpg pr sg
  pointwise [k0_pay42, k0_pay39, k0_pay40]

theorem pay24 (r : Fin 256) (l : Fin 1024) : k0_pay24 (F := Ideal) D (k0_pay21 (F := Ideal) P) (k0_pay22 (F := Ideal) Y w) (ix2 r l)
    = dpg (D (ix2 r l)) (pr (fun k => Y (ix2 r k)) (fun k l => w (ix3 0 k l)) l) (P (ix2 r l)) := by
  unfold dpg pr sg
  pointwise [k0_pay24, k0_pay21, k0_pay22]

theorem pay17 (r : Fin 256) (l : Fin 1024) : k0_pay17 (F := Ideal) (k0_pay13 (F := Ideal) P) (k0_pay16 (F := Ideal) X W Y P w) (ix2 r l)
    = dpg (dm (fun k => X (ix2 r k)) (fun l k => W (ix2 l k)) l) (pr (fun k => Y (ix2 r k)) (fun k l => w (ix3 0 k l)) l) (P (ix2 r l)) := by
  unfold dpg pr dm sg
  pointwise [k0_pay17, k0_pay13, k0_pay16, k0_pay14, k0_pay8, k0_pay7, k0_pay9]

theorem pay45 (r c : Fin 256) : k0_pay45 (F := Ideal) (k0_pay43 (F := Ideal) D P) w (ix2 r c)
    = dy (fun l => P (ix2 r l)) (fun l => D (ix2 r l)) (fun k l => w (ix3 0 k l)) c := by
  unfold dy sg
  pointwise [k0_pay45, k0_pay43, k0_pay39]

theorem pay20 (r c : Fin 256) : k0_pay20 (F := Ideal) D (k0_pay13 (F := Ideal) P) w (ix2 r c)
    = dy (fun l => P (ix2 r l)) (fun l => D (ix2 r l)) (fun k l => w (ix3 0 k l)) c := by
  unfold dy sg
  pointwise [k0_pay20, k0_pay18, k0_pay13]

theorem pay27 (r c : Fin 256) : k0_pay27 (F := Ideal) D (k0_pay21 (F := Ideal) P) w (ix2 r c)
    = dy (fun l => P (ix2 r l)) (fun l => D (ix2 r l)) (fun k l => w (ix3 0 k l)) c := by
  unfold dy sg
  pointwise [k0_pay27, k0_pay25, k0_pay21]

theorem pay1 (r c : Fin 256) : k0_pay1 (F := Ideal) (k0_pay50 (F := Ideal) D P) w (ix2 r c)
    = dy (fun l => P (ix2 r l)) (fun l => D (ix2 r l)) (fun k l => w (ix3 0 k l)) c := by
  unfold dy sg
  pointwise [k0_pay1, k0_pay50, k0_pay46]

/-- A branch's share of the merged rows. -/
def gp (g p : EReal) : EReal := sg g * p

theorem pay15 (r : Fin 256) (l : Fin 1024) : k0_pay15 (F := Ideal) Y P w (ix2 r l)
    = gp (P (ix2 r l)) (pr (fun k => Y (ix2 r k)) (fun k l => w (ix3 0 k l)) l) := by
  unfold gp pr sg
  pointwise [k0_pay15, k0_pay13, k0_pay14, k0_pay9]

theorem pay23 (r : Fin 256) (l : Fin 1024) : k0_pay23 (F := Ideal) Y G P w (ix2 r l)
    = G (ix2 r l) + gp (P (ix2 r l)) (pr (fun k => Y (ix2 r k)) (fun k l => w (ix3 0 k l)) l) := by
  unfold gp pr sg
  pointwise [k0_pay23, k0_pay21, k0_pay22]

theorem pay41 (r : Fin 256) (l : Fin 1024) : k0_pay41 (F := Ideal) Y G P w (ix2 r l)
    = G (ix2 r l) + gp (P (ix2 r l)) (pr (fun k => Y (ix2 r k)) (fun k l => w (ix3 0 k l)) l) := by
  unfold gp pr sg
  pointwise [k0_pay41, k0_pay39, k0_pay40]

theorem pay48 (r : Fin 256) (l : Fin 1024) : k0_pay48 (F := Ideal) Y G P w (ix2 r l)
    = G (ix2 r l) + gp (P (ix2 r l)) (pr (fun k => Y (ix2 r k)) (fun k l => w (ix3 0 k l)) l) := by
  unfold gp pr sg
  pointwise [k0_pay48, k0_pay46, k0_pay47]

theorem pay2 (A : FVec Ideal S1024x1024 .f32) (k l : Fin 1024) : k0_pay2 (F := Ideal) (k0_pay7 (F := Ideal) X) G A (ix2 k l)
    = A (ix2 k l) + ∑ r : Fin 256, HMul.hMul (α := EReal) (β := EReal) (γ := EReal) (G (ix2 r k)) (X (ix2 r l)) := by
  pointwise [k0_pay2, k0_pay7]

/-- What a block adds to the cotangent of a branch's projection. -/
def dw (y g a : Fin 256 → EReal) : EReal := ∑ r : Fin 256, y r * (sg (g r) * a r)

variable (A : FVec Ideal S1x256x1024 .f32)

theorem pay19 (k : Fin 256) (l : Fin 1024) : k0_pay19 (F := Ideal) D Y (k0_pay13 (F := Ideal) P) A (ix3 0 k l)
    = A (ix3 0 k l) + dw (fun r => Y (ix2 r k)) (fun r => P (ix2 r l)) (fun r => D (ix2 r l)) := by
  unfold dw sg
  pointwise [k0_pay19, k0_pay18, k0_pay13]

theorem pay26 (k : Fin 256) (l : Fin 1024) : k0_pay26 (F := Ideal) D Y (k0_pay21 (F := Ideal) P) A (ix3 0 k l)
    = A (ix3 0 k l) + dw (fun r => Y (ix2 r k)) (fun r => P (ix2 r l)) (fun r => D (ix2 r l)) := by
  unfold dw sg
  pointwise [k0_pay26, k0_pay25, k0_pay21]

theorem pay44 (k : Fin 256) (l : Fin 1024) : k0_pay44 (F := Ideal) D Y P A (ix3 0 k l)
    = A (ix3 0 k l) + dw (fun r => Y (ix2 r k)) (fun r => P (ix2 r l)) (fun r => D (ix2 r l)) := by
  unfold dw sg
  pointwise [k0_pay44, k0_pay43, k0_pay39]

theorem pay51 (k : Fin 256) (l : Fin 1024) : k0_pay51 (F := Ideal) D Y P A (ix3 0 k l)
    = A (ix3 0 k l) + dw (fun r => Y (ix2 r k)) (fun r => P (ix2 r l)) (fun r => D (ix2 r l)) := by
  unfold dw sg
  pointwise [k0_pay51, k0_pay50, k0_pay46]

variable (B : FVec Ideal S256x256 .f32)

/-- The cotangent of the gated branch's input. -/
def dov (a b : EReal) : EReal := a * (b * sg b)

/-- The cotangent of the gate's input. -/
def dbg (a o b : EReal) : EReal := a * o * (sg b * (1 + b * (1 - sg b)))

theorem pay29 (r c : Fin 256) : k0_pay29 (F := Ideal) D (k0_pay21 (F := Ideal) P) w B (ix2 r c)
    = dov (dy (fun l => P (ix2 r l)) (fun l => D (ix2 r l)) (fun k l => w (ix3 0 k l)) c) (B (ix2 r c)) := by
  rw [← pay27]
  unfold dov sg
  pointwise [k0_pay29, k0_pay28, k0_pay36]

theorem pay30 (r : Fin 256) (e : Fin 64) : k0_pay30 (F := Ideal) D (k0_pay21 (F := Ideal) P) w B (ix3 0 r e)
    = dov (dy (fun l => P (ix2 r l)) (fun l => D (ix2 r l)) (fun k l => w (ix3 0 k l)) ⟨e.val, by omega⟩) (B (ix2 r ⟨e.val, by omega⟩)) := by
  rw [← pay29]
  generalize k0_pay21 (F := Ideal) P = Q
  unfold k0_pay30
  generalize k0_pay29 (F := Ideal) D Q w B = Z
  pointwise

theorem pay32 (r : Fin 256) (e : Fin 64) : k0_pay32 (F := Ideal) (k0_pay31 (F := Ideal) D (k0_pay21 (F := Ideal) P) w B) (ix3 0 r e)
    = dov (dy (fun l => P (ix2 r l)) (fun l => D (ix2 r l)) (fun k l => w (ix3 0 k l)) ⟨64 + e.val, by omega⟩) (B (ix2 r ⟨64 + e.val, by omega⟩)) := by
  rw [← pay29]
  generalize k0_pay21 (F := Ideal) P = Q
  unfold k0_pay32 k0_pay31
  generalize k0_pay29 (F := Ideal) D Q w B = Z
  pointwise

theorem pay33 (Z : FVec Ideal S256x256 .f32) (r : Fin 256) (e : Fin 64) : k0_pay33 (F := Ideal) Z (ix3 0 r e) = Z (ix2 r ⟨128 + e.val, by omega⟩) := by
  pointwise [k0_pay33]

theorem pay34 (Z : FVec Ideal S256x256 .f32) (r : Fin 256) (e : Fin 64) : k0_pay34 (F := Ideal) Z (ix3 0 r e) = Z (ix2 r ⟨192 + e.val, by omega⟩) := by
  pointwise [k0_pay34]

theorem pay38 (Z : FVec Ideal S256x256 .f32) (r c : Fin 256) :
    k0_pay38 (F := Ideal) Z (k0_pay36 (F := Ideal) (k0_pay28 (F := Ideal) B)) (k0_pay37 (F := Ideal) (k0_pay28 (F := Ideal) B))
      (FloatOps.ofBits .f32 1065353216#32) (ix2 r c)
    = Z (ix2 r c) * (sg (B (ix2 r c)) * (1 + B (ix2 r c) * (1 - sg (B (ix2 r c))))) := by
  unfold sg
  pointwise [k0_pay38, k0_pay36, k0_pay37, k0_pay28]

theorem pay35 (Z : FVec Ideal S256x256 .f32) (O : Fin 4 → FVec Ideal S1x256x64 .f32) (r : Fin 256) (h : Fin 4) (e : Fin 64) :
    k0_pay35 (F := Ideal) Z (O 0) (O 1) (O 2) (O 3) (ix2 r ⟨h.val * 64 + e.val, by omega⟩)
    = Z (ix2 r ⟨h.val * 64 + e.val, by omega⟩) * O h (ix3 0 r e) := by
  fin_cases h
  · pointwise [k0_pay35]
  · pointwise [k0_pay35]
  · pointwise [k0_pay35]
    rw [dif_neg (by omega), dif_neg (by omega), dif_pos (by omega)]
    exact congrArg (fun x : Fin 64 => Z (ix2 r ⟨128 + e.val, by omega⟩) * O 2 (ix3 0 r x)) (Fin.ext (by show 128 + e.val - 64 - 64 = e.val; omega))
  · pointwise [k0_pay35]
    rw [dif_neg (by omega), dif_neg (by omega), dif_neg (by omega)]
    exact congrArg (fun x : Fin 64 => Z (ix2 r ⟨192 + e.val, by omega⟩) * O 3 (ix3 0 r x)) (Fin.ext (by show 192 + e.val - 64 - 64 - 64 = e.val; omega))

end

end Cert.MergeKIdeal.Value
-- ==== Proof.MergeArr.lean ====
/- The merge backward's arrays: the operands the host prepares and the kernel's blocks of them. -/
module

public import proofs.«01_k».proof.Proof.MergePay
public import proofs.«01_k».proof.Proof.Gen.MergeKIdeal.Value

@[expose] public section

set_option maxRecDepth 16384

noncomputable section

open Idealize.ShloMosaic Idealize.ShloMosaic.TcCoe Idealize.SL.Sem

namespace Cert.MergeKIdeal.Value

open Cert.MergeKIdeal Cert.MergeKIdeal.Gen

/-! ### The results, as functions of the arguments -/

/-- Column `l` of the branch `n`'s logits. -/
def lg (n : Fin 4) (l : Fin 1024) : Fin 4096 := ⟨n.val * 1024 + l.val, by omega⟩

/-- Column `e` of the head `h`. -/
def hd (h : Fin 4) (e : Fin 64) : Fin 256 := ⟨h.val * 64 + e.val, by omega⟩

section Results

variable (x0 : S4096x7684.Idx → EReal) (x1 x2 x3 x4 : S4096x256.Idx → EReal) (x5 : S4x256x1024.Idx → EReal)
  (x6 : S1024x1024.Idx → EReal) (x7 : S4096x1024.Idx → EReal)

/-- The branches' gate logits. -/
def gP (n : Fin 4) (r : Fin 4096) (l : Fin 1024) : EReal := x0 (ix2 r ⟨3588 + (n.val * 1024 + l.val), by omega⟩)

/-- The second branch's gate. -/
def gB (r : Fin 4096) (k : Fin 256) : EReal := x0 (ix2 r ⟨1540 + k.val, by omega⟩)

/-- The branches' rows; the second one gated. -/
def gY : Fin 4 → Fin 4096 → Fin 256 → EReal
  | 0, r, k => x1 (ix2 r k)
  | 1, r, k => x2 (ix2 r k) * (gB x0 r k * Ideal.div 1 (1 + Ideal.exp (-gB x0 r k)))
  | 2, r, k => x3 (ix2 r k)
  | 3, r, k => x4 (ix2 r k)

/-- A branch's projection matrix. -/
def gW (n : Fin 4) (k : Fin 256) (l : Fin 1024) : EReal := x5 (ix3 n k l)

/-- The cotangent of the merged rows. -/
def gD (r : Fin 4096) (l : Fin 1024) : EReal := dm (fun k => x7 (ix2 r k)) (fun l k => x6 (ix2 l k)) l

/-- A branch's projected row. -/
def gV (n : Fin 4) (r : Fin 4096) (l : Fin 1024) : EReal := pr (gY x0 x1 x2 x3 x4 n r) (gW x5 n) l

/-- The logits' cotangent. -/
def kpg (n : Fin 4) (r : Fin 4096) (l : Fin 1024) : EReal := dpg (gD x6 x7 r l) (gV x0 x1 x2 x3 x4 x5 n r l) (gP x0 n r l)

/-- A branch's cotangent. -/
def kdy (n : Fin 4) (r : Fin 4096) (k : Fin 256) : EReal := dy (gP x0 n r) (gD x6 x7 r) (gW x5 n) k

/-- The cotangent of the second branch before its gate. -/
def kdo (r : Fin 4096) (k : Fin 256) : EReal := dov (kdy x0 x5 x6 x7 1 r k) (gB x0 r k)

/-- The cotangent of the second branch's gate. -/
def kbg (r : Fin 4096) (k : Fin 256) : EReal := dbg (kdy x0 x5 x6 x7 1 r k) (x2 (ix2 r k)) (gB x0 r k)

/-- The cotangent of a branch's projection matrix. -/
def kwb (n : Fin 4) (k : Fin 256) (l : Fin 1024) : EReal :=
  ∑ r : Fin 4096, gY x0 x1 x2 x3 x4 n r k * (sg (gP x0 n r l) * gD x6 x7 r l)

/-- The merged rows. -/
def gM (r : Fin 4096) (l : Fin 1024) : EReal := ∑ n : Fin 4, gp (gP x0 n r l) (gV x0 x1 x2 x3 x4 x5 n r l)

/-- The cotangent of the output projection. -/
def kwo (k l : Fin 1024) : EReal := ∑ r : Fin 4096, gM x0 x1 x2 x3 x4 x5 r k * x7 (ix2 r l)

end Results

/-! ### The operands the host prepares -/

/-- The packed columns the kernel reads: the gate's block is the seventh. -/
def hpm (x0 : FVec Ideal S4096x7684 .f32) : FVec Ideal S4096x3584 .f32 :=
  concatenate S4096x3584 1 [⟨S4096x1536, extractStridedSlice S4096x1536 ![0, 0] x0 slices_S4096x7684_S4096x1536_0_0⟩,
    ⟨S4096x256, extractStridedSlice S4096x256 ![0, 1540] x0 slices_S4096x7684_S4096x256_0_1540⟩,
    ⟨S4096x256, extractStridedSlice S4096x256 ![0, 3332] x0 slices_S4096x7684_S4096x256_0_3332⟩,
    ⟨S4096x1024, extractStridedSlice S4096x1024 ![0, 1796] x0 slices_S4096x7684_S4096x1024_0_1796⟩,
    ⟨S4096x512, extractStridedSlice S4096x512 ![0, 2820] x0 slices_S4096x7684_S4096x512_0_2820⟩]
    concatenates_S4096x1536_S4096x256_S4096x256_S4096x1024_S4096x512_S4096x3584_d1

theorem hpm_at (x0 : FVec Ideal S4096x7684 .f32) (r : Fin 4096) (k : Fin 256) :
    hpm x0 (ix2 r ⟨1536 + k.val, by omega⟩) = gB x0 r k := by
  unfold gB
  pointwise [hpm]

/-- The second branch: the attention's rows times the gate's swish. -/
def hyb (x0 : FVec Ideal S4096x7684 .f32) (x2 : FVec Ideal S4096x256 .f32) : FVec Ideal S4096x256 .bf16 :=
  truncf .bf16 (mulf (shapeCast S4096x256 (transpose S4096x4x64 [1, 0, 2] (transpose S4x4096x64 [1, 0, 2]
      (shapeCast S4096x4x64 x2 shapeCasts_S4096x256_S4096x4x64) transposes_S4096x4x64_S4x4096x64_1_0_2)
      transposes_S4x4096x64_S4096x4x64_1_0_2) shapeCasts_S4096x4x64_S4096x256)
    (mulf (extractStridedSlice S4096x256 ![0, 1536] (hpm x0) slices_S4096x3584_S4096x256_0_1536)
      (Host.divf (broadcastInDim S4096x256 ![] bcast_S_S4096x256 (constant S_ .f32 0x3F800000#32))
        (addf (broadcastInDim S4096x256 ![] bcast_S_S4096x256 (constant S_ .f32 0x3F800000#32))
          (Host.exp (Host.negf (extractStridedSlice S4096x256 ![0, 1536] (hpm x0) slices_S4096x3584_S4096x256_0_1536))))))) bitsLt_bf16_f32

theorem hyb_at (x0 : FVec Ideal S4096x7684 .f32) (x1 x2 x3 x4 : FVec Ideal S4096x256 .f32) (r : Fin 4096) (k : Fin 256) :
    hyb x0 x2 (ix2 r k) = gY x0 x1 x2 x3 x4 1 r k := by
  show _ = x2 (ix2 r k) * (gB x0 r k * Ideal.div 1 (1 + Ideal.exp (-gB x0 r k)))
  rw [← hpm_at]
  unfold hyb
  generalize hpm x0 = X
  pointwise

section Blocks

variable (m : (ℓ : Loc nD τ sig) → Buf (Elt Ideal) ℓ) (c : Dev nD)

theorem V_bg : V m c main_v5 = hpm (m ((c : Thread nD τ).loc main_arg0)) := by
  show StableHlo.after (List.flatten [hostOps0, hostOps0_1, hostOps0_2]) _ _ = _
  simp only [List.flatten, List.append]
  after_results
  rfl

theorem V_yb : V m c main_v15 = hyb (m ((c : Thread nD τ).loc main_arg0)) (m ((c : Thread nD τ).loc main_arg2)) := by
  show StableHlo.after (List.flatten [hostOps0, hostOps0_1, hostOps0_2]) _ _ = _
  simp only [List.flatten, List.append]
  after_results
  rfl

theorem V_o (h : Fin 4) (r : Fin 4096) (e : Fin 64) :
    V m c main_v9 (ix3 h r e) = m ((c : Thread nD τ).loc main_arg2) (ix2 r (hd h e)) := by
  show StableHlo.after (List.flatten [hostOps0, hostOps0_1, hostOps0_2]) _ _ _ = _
  simp only [List.flatten, List.append]
  after_results
  unfold hd
  generalize m ((c : Thread nD τ).loc main_arg2) = X
  pointwise

theorem V_pg (n : Fin 4) (r : Fin 4096) (l : Fin 1024) : V m c main_v6 (ix2 r (lg n l)) = gP (m ((c : Thread nD τ).loc main_arg0)) n r l := by
  show StableHlo.after (List.flatten [hostOps0, hostOps0_1, hostOps0_2]) _ _ _ = _
  simp only [List.flatten, List.append]
  after_results
  unfold gP lg
  generalize m ((c : Thread nD τ).loc main_arg0) = X
  pointwise

theorem V_ya : V m c main_v16 = m ((c : Thread nD τ).loc main_arg1) := by
  funext i
  show StableHlo.after (List.flatten [hostOps0, hostOps0_1, hostOps0_2]) _ _ _ = _
  simp only [List.flatten, List.append]
  after_results
  generalize m ((c : Thread nD τ).loc main_arg1) = X
  pointwise

theorem V_yc : V m c main_v17 = m ((c : Thread nD τ).loc main_arg3) := by
  funext i
  show StableHlo.after (List.flatten [hostOps0, hostOps0_1, hostOps0_2]) _ _ _ = _
  simp only [List.flatten, List.append]
  after_results
  generalize m ((c : Thread nD τ).loc main_arg3) = X
  pointwise

theorem V_yd : V m c main_v18 = m ((c : Thread nD τ).loc main_arg4) := by
  funext i
  show StableHlo.after (List.flatten [hostOps0, hostOps0_1, hostOps0_2]) _ _ _ = _
  simp only [List.flatten, List.append]
  after_results
  generalize m ((c : Thread nD τ).loc main_arg4) = X
  pointwise

theorem V_wb : V m c main_v19 = m ((c : Thread nD τ).loc main_arg5) := by
  funext i
  show StableHlo.after (List.flatten [hostOps0, hostOps0_1, hostOps0_2]) _ _ _ = _
  simp only [List.flatten, List.append]
  after_results
  generalize m ((c : Thread nD τ).loc main_arg5) = X
  pointwise

theorem V_wo : V m c main_v20 = m ((c : Thread nD τ).loc main_arg6) := by
  funext i
  show StableHlo.after (List.flatten [hostOps0, hostOps0_1, hostOps0_2]) _ _ _ = _
  simp only [List.flatten, List.append]
  after_results
  generalize m ((c : Thread nD τ).loc main_arg6) = X
  pointwise

theorem V_dx : V m c main_arg7 = m ((c : Thread nD τ).loc main_arg7) := by
  show StableHlo.after (List.flatten [hostOps0, hostOps0_1, hostOps0_2]) _ _ = _
  simp only [List.flatten, List.append]
  after_results

/-! ### The kernel's blocks -/

/-- Row `r` of the block the point `t` works on. -/
def row (t : Fin cfg0.N) (r : Fin 256) : Fin 4096 := ⟨t.val * 256 + r.val, by have := t.isLt.trans_eq N_0; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, t.val, 0] ∧ win0_6.index t = ![t.val, 6]
    ∧ win0_7.index t = ![t.val, 0] ∧ win0_8.index t = ![0, 0, 0] ∧ win0_9.index t = ![0, 0] ∧ win0_10.index t = ![t.val, 0]
    ∧ win0_11.index t = ![t.val, 0] ∧ win0_12.index t = ![0, t.val, 0] ∧ win0_13.index t = ![t.val, 0] ∧ win0_14.index t = ![t.val, 0]
    ∧ win0_15.index t = ![t.val, 0] ∧ win0_16.index t = ![0, 0, 0] ∧ win0_17.index t = ![0, 0] :=
  (by decide +kernel : ∀ t : Fin grid0.N, _)

section Read

variable (t : Fin cfg0.N) (Z : S4096x1024.Idx → EReal) (Y : S4096x256.Idx → EReal) (r : Fin 256)

theorem read0 (k : Fin 1024) : ((cfg0.win 0).blk t).view.read (Elt Ideal) Z (ix2 r k) = Z (ix2 (row t r) k) := by
  unfold row; blk_point [idx t]

theorem read1 (k : Fin 256) : ((cfg0.win 1).blk t).view.read (Elt Ideal) Y (ix2 r k) = Y (ix2 (row t r) k) := by
  unfold row; blk_point [idx t]

theorem read2 (k : Fin 256) : ((cfg0.win 2).blk t).view.read (Elt Ideal) Y (ix2 r k) = Y (ix2 (row t r) k) := by
  unfold row; blk_point [idx t]

theorem read3 (k : Fin 256) : ((cfg0.win 3).blk t).view.read (Elt Ideal) Y (ix2 r k) = Y (ix2 (row t r) k) := by
  unfold row; blk_point [idx t]

theorem read4 (k : Fin 256) : ((cfg0.win 4).blk t).view.read (Elt Ideal) Y (ix2 r k) = Y (ix2 (row t r) k) := by
  unfold row; blk_point [idx t]

theorem read5 (O : S4x4096x64.Idx → EReal) (h : Fin 4) (e : Fin 64) :
    ((cfg0.win 5).blk t).view.read (Elt Ideal) O (ix3 h r e) = O (ix3 h (row t r) e) := by
  unfold row; blk_point [idx t]

theorem read6 (B : S4096x3584.Idx → EReal) (k : Fin 256) :
    ((cfg0.win 6).blk t).view.read (Elt Ideal) B (ix2 r k) = B (ix2 (row t r) ⟨1536 + k.val, by omega⟩) := by
  unfold row; blk_point [idx t]

theorem read7 (G : S4096x4096.Idx → EReal) (k : Fin 4096) : ((cfg0.win 7).blk t).view.read (Elt Ideal) G (ix2 r k) = G (ix2 (row t r) k) := by
  unfold row; blk_point [idx t]

theorem read8 (W : S4x256x1024.Idx → EReal) (n : Fin 4) (k : Fin 256) (l : Fin 1024) :
    ((cfg0.win 8).blk t).view.read (Elt Ideal) W (ix3 n k l) = W (ix3 n k l) := by
  blk_point [idx t]

theorem read9 (W : S1024x1024.Idx → EReal) (l k : Fin 1024) : ((cfg0.win 9).blk t).view.read (Elt Ideal) W (ix2 l k) = W (ix2 l k) := by
  blk_point [idx t]

end Read

section Blk

variable (t : Fin cfg0.N) (r : Fin 256)

theorem blk0 (k : Fin 1024) : iblk m c 0 t (ix2 r k) = m ((c : Thread nD τ).loc main_arg7) (ix2 (row t r) k) :=
  (read0 t (V m c main_arg7) r k).trans (congrFun (V_dx m c) _)

theorem blk1 (k : Fin 256) : iblk m c 1 t (ix2 r k) = m ((c : Thread nD τ).loc main_arg1) (ix2 (row t r) k) :=
  (read1 t (V m c main_v16) r k).trans (congrFun (V_ya m c) _)

theorem blk2 (k : Fin 256) : iblk m c 2 t (ix2 r k) = hyb (m ((c : Thread nD τ).loc main_arg0)) (m ((c : Thread nD τ).loc main_arg2)) (ix2 (row t r) k) :=
  (read2 t (V m c main_v15) r k).trans (congrFun (V_yb m c) _)

theorem blk3 (k : Fin 256) : iblk m c 3 t (ix2 r k) = m ((c : Thread nD τ).loc main_arg3) (ix2 (row t r) k) :=
  (read3 t (V m c main_v17) r k).trans (congrFun (V_yc m c) _)

theorem blk4 (k : Fin 256) : iblk m c 4 t (ix2 r k) = m ((c : Thread nD τ).loc main_arg4) (ix2 (row t r) k) :=
  (read4 t (V m c main_v18) r k).trans (congrFun (V_yd m c) _)

theorem blk5 (h : Fin 4) (e : Fin 64) : iblk m c 5 t (ix3 h r e) = m ((c : Thread nD τ).loc main_arg2) (ix2 (row t r) (hd h e)) :=
  (read5 t r (V m c main_v9) h e).trans (V_o m c h _ e)

theorem blk6 (k : Fin 256) : iblk m c 6 t (ix2 r k) = gB (m ((c : Thread nD τ).loc main_arg0)) (row t r) k :=
  (read6 t r (V m c main_v5) k).trans ((congrFun (V_bg m c) _).trans (hpm_at _ _ _))

theorem blk7 (n : Fin 4) (l : Fin 1024) : iblk m c 7 t (ix2 r (lg n l)) = gP (m ((c : Thread nD τ).loc main_arg0)) n (row t r) l :=
  (read7 t r (V m c main_v6) _).trans (V_pg m c n _ l)

theorem blk8 (n : Fin 4) (k : Fin 256) (l : Fin 1024) : iblk m c 8 t (ix3 n k l) = gW (m ((c : Thread nD τ).loc main_arg5)) n k l :=
  (read8 t (V m c main_v19) n k l).trans (congrFun (V_wb m c) _)

theorem blk9 (l k : Fin 1024) : iblk m c 9 t (ix2 l k) = m ((c : Thread nD τ).loc main_arg6) (ix2 l k) :=
  (read9 t (V m c main_v20) l k).trans (congrFun (V_wo m c) _)

end Blk

end Blocks
end Cert.MergeKIdeal.Value
-- ==== Proof.Merge.lean ====
/- The merge backward's results, as the kernel leaves them in its arrays. -/
module

public import proofs.«01_k».proof.Proof.MergeArr
public import proofs.«01_k».proof.Proof.Gen.MergeK.Frame

@[expose] public section

set_option maxRecDepth 16384

noncomputable section

open Idealize.ShloMosaic Idealize.ShloMosaic.TcCoe Idealize.SL.Sem

namespace Cert.MergeKIdeal.Value

open Cert.MergeKIdeal Cert.MergeKIdeal.Gen

/-! ### The kernel's loads of one branch or head -/

theorem ldP0 (X : Vec Ideal S256x4096 .f32) (r : Fin 256) (l : Fin 1024) :
    View.ld (Val := Elt Ideal) X (Rect.unit ![0, 0] ![256, 1024] inb_S256x4096_S256x1024_0_0) (ix2 r l) = X (ix2 r (lg 0 l)) := by
  unfold lg; pointwise

theorem ldW0 (X : Vec Ideal S4x256x1024 .bf16) (k : Fin 256) (l : Fin 1024) :
    View.ld (Val := Elt Ideal) X (Rect.unit ![0, 0, 0] ![1, 256, 1024] inb_S4x256x1024_S1x256x1024_0_0_0) (ix3 0 k l) = X (ix3 0 k l) := by
  pointwise

theorem ldO0 (X : Vec Ideal S4x256x64 .f32) (r : Fin 256) (e : Fin 64) :
    View.ld (Val := Elt Ideal) X (Rect.unit ![0, 0, 0] ![1, 256, 64] inb_S4x256x64_S1x256x64_0_0_0) (ix3 0 r e) = X (ix3 0 r e) := by
  pointwise

theorem ldP1 (X : Vec Ideal S256x4096 .f32) (r : Fin 256) (l : Fin 1024) :
    View.ld (Val := Elt Ideal) X (Rect.unit ![0, 1024] ![256, 1024] inb_S256x4096_S256x1024_0_1024) (ix2 r l) = X (ix2 r (lg 1 l)) := by
  unfold lg; pointwise

theorem ldW1 (X : Vec Ideal S4x256x1024 .bf16) (k : Fin 256) (l : Fin 1024) :
    View.ld (Val := Elt Ideal) X (Rect.unit ![1, 0, 0] ![1, 256, 1024] inb_S4x256x1024_S1x256x1024_1_0_0) (ix3 0 k l) = X (ix3 1 k l) := by
  pointwise

theorem ldO1 (X : Vec Ideal S4x256x64 .f32) (r : Fin 256) (e : Fin 64) :
    View.ld (Val := Elt Ideal) X (Rect.unit ![1, 0, 0] ![1, 256, 64] inb_S4x256x64_S1x256x64_1_0_0) (ix3 0 r e) = X (ix3 1 r e) := by
  pointwise

theorem ldP2 (X : Vec Ideal S256x4096 .f32) (r : Fin 256) (l : Fin 1024) :
    View.ld (Val := Elt Ideal) X (Rect.unit ![0, 2048] ![256, 1024] inb_S256x4096_S256x1024_0_2048) (ix2 r l) = X (ix2 r (lg 2 l)) := by
  unfold lg; pointwise

theorem ldW2 (X : Vec Ideal S4x256x1024 .bf16) (k : Fin 256) (l : Fin 1024) :
    View.ld (Val := Elt Ideal) X (Rect.unit ![2, 0, 0] ![1, 256, 1024] inb_S4x256x1024_S1x256x1024_2_0_0) (ix3 0 k l) = X (ix3 2 k l) := by
  pointwise

theorem ldO2 (X : Vec Ideal S4x256x64 .f32) (r : Fin 256) (e : Fin 64) :
    View.ld (Val := Elt Ideal) X (Rect.unit ![2, 0, 0] ![1, 256, 64] inb_S4x256x64_S1x256x64_2_0_0) (ix3 0 r e) = X (ix3 2 r e) := by
  pointwise

theorem ldP3 (X : Vec Ideal S256x4096 .f32) (r : Fin 256) (l : Fin 1024) :
    View.ld (Val := Elt Ideal) X (Rect.unit ![0, 3072] ![256, 1024] inb_S256x4096_S256x1024_0_3072) (ix2 r l) = X (ix2 r (lg 3 l)) := by
  unfold lg; pointwise

theorem ldW3 (X : Vec Ideal S4x256x1024 .bf16) (k : Fin 256) (l : Fin 1024) :
    View.ld (Val := Elt Ideal) X (Rect.unit ![3, 0, 0] ![1, 256, 1024] inb_S4x256x1024_S1x256x1024_3_0_0) (ix3 0 k l) = X (ix3 3 k l) := by
  pointwise

theorem ldO3 (X : Vec Ideal S4x256x64 .f32) (r : Fin 256) (e : Fin 64) :
    View.ld (Val := Elt Ideal) X (Rect.unit ![3, 0, 0] ![1, 256, 64] inb_S4x256x64_S1x256x64_3_0_0) (ix3 0 r e) = X (ix3 3 r e) := by
  pointwise

/-- The branch of a column of logits. -/
def nOf (q : Fin 4096) : Fin 4 := ⟨q.val / 1024, by omega⟩

/-- The column within its branch. -/
def lOf (q : Fin 4096) : Fin 1024 := ⟨q.val % 1024, by omega⟩

theorem nOf_lg (n : Fin 4) (l : Fin 1024) : nOf (lg n l) = n := Fin.ext (by show (n.val * 1024 + l.val) / 1024 = n.val; omega)

theorem lOf_lg (n : Fin 4) (l : Fin 1024) : lOf (lg n l) = l := Fin.ext (by show (n.val * 1024 + l.val) % 1024 = l.val; omega)

theorem lg_of {q : Fin 4096} (n : Fin 4) (l : Fin 1024) (h : q.val = n.val * 1024 + l.val) : nOf q = n ∧ lOf q = l :=
  ⟨Fin.ext (by show q.val / 1024 = n.val; omega), Fin.ext (by show q.val % 1024 = l.val; omega)⟩

section Fin

variable (m : (ℓ : Loc nD τ sig) → Buf (Elt Ideal) ℓ) (c : Dev nD)

/-- The arguments, by position. -/
abbrev a0 : S4096x7684.Idx → EReal := m ((c : Thread nD τ).loc main_arg0)
abbrev a1 : S4096x256.Idx → EReal := m ((c : Thread nD τ).loc main_arg1)
abbrev a2 : S4096x256.Idx → EReal := m ((c : Thread nD τ).loc main_arg2)
abbrev a3 : S4096x256.Idx → EReal := m ((c : Thread nD τ).loc main_arg3)
abbrev a4 : S4096x256.Idx → EReal := m ((c : Thread nD τ).loc main_arg4)
abbrev a5 : S4x256x1024.Idx → EReal := m ((c : Thread nD τ).loc main_arg5)
abbrev a6 : S1024x1024.Idx → EReal := m ((c : Thread nD τ).loc main_arg6)
abbrev a7 : S4096x1024.Idx → EReal := m ((c : Thread nD τ).loc main_arg7)

/-- The first point, the points between, and the last one. -/
theorem cases3 (t : Fin cfg0.N) : (t.val % 16 = 0 ∧ ¬t.val % 16 = 15) ∨ (¬t.val % 16 = 0 ∧ ¬t.val % 16 = 15) ∨ (¬t.val % 16 = 0 ∧ t.val % 16 = 15) := by
  omega

theorem D_at (t : Fin cfg0.N) (r : Fin 256) (l : Fin 1024) :
    k0_pay8 (F := Ideal) (iblk m c 0 t) (iblk m c 9 t) (ix2 r l) = gD (a6 m c) (a7 m c) (row t r) l := by
  rw [pay8]
  simp only [blk0, blk9]
  rfl

theorem y0 (t : Fin cfg0.N) (r k : Fin 256) : iblk m c 1 t (ix2 r k) = gY (a0 m c) (a1 m c) (a2 m c) (a3 m c) (a4 m c) 0 (row t r) k := blk1 m c t r k
theorem y1 (t : Fin cfg0.N) (r k : Fin 256) : iblk m c 2 t (ix2 r k) = gY (a0 m c) (a1 m c) (a2 m c) (a3 m c) (a4 m c) 1 (row t r) k :=
  (blk2 m c t r k).trans (hyb_at (a0 m c) (a1 m c) (a2 m c) (a3 m c) (a4 m c) (row t r) k)
theorem y2 (t : Fin cfg0.N) (r k : Fin 256) : iblk m c 3 t (ix2 r k) = gY (a0 m c) (a1 m c) (a2 m c) (a3 m c) (a4 m c) 2 (row t r) k := blk3 m c t r k
theorem y3 (t : Fin cfg0.N) (r k : Fin 256) : iblk m c 4 t (ix2 r k) = gY (a0 m c) (a1 m c) (a2 m c) (a3 m c) (a4 m c) 3 (row t r) k := blk4 m c t r k

/-- The results over the kernel's own arguments. -/
abbrev mpg := kpg (a0 m c) (a1 m c) (a2 m c) (a3 m c) (a4 m c) (a5 m c) (a6 m c) (a7 m c)
abbrev mY := gY (a0 m c) (a1 m c) (a2 m c) (a3 m c) (a4 m c)
abbrev mP := gP (a0 m c)
abbrev mW := gW (a5 m c)
abbrev mD := gD (a6 m c) (a7 m c)
abbrev mdy := kdy (a0 m c) (a5 m c) (a6 m c) (a7 m c)

section Tile

variable (t : Fin cfg0.N)

theorem p0 (r : Fin 256) (l : Fin 1024) :
    View.ld (Val := Elt Ideal) (iblk m c 7 t) (Rect.unit ![0, 0] ![256, 1024] inb_S256x4096_S256x1024_0_0) (ix2 r l) = mP m c 0 (row t r) l :=
  (ldP0 (iblk m c 7 t) r l).trans (blk7 m c t r 0 l)

theorem w0 (k : Fin 256) (l : Fin 1024) :
    View.ld (Val := Elt Ideal) (iblk m c 8 t) (Rect.unit ![0, 0, 0] ![1, 256, 1024] inb_S4x256x1024_S1x256x1024_0_0_0) (ix3 0 k l) = mW m c 0 k l :=
  (ldW0 (iblk m c 8 t) k l).trans (blk8 m c t 0 k l)

theorem p1 (r : Fin 256) (l : Fin 1024) :
    View.ld (Val := Elt Ideal) (iblk m c 7 t) (Rect.unit ![0, 1024] ![256, 1024] inb_S256x4096_S256x1024_0_1024) (ix2 r l) = mP m c 1 (row t r) l :=
  (ldP1 (iblk m c 7 t) r l).trans (blk7 m c t r 1 l)

theorem w1 (k : Fin 256) (l : Fin 1024) :
    View.ld (Val := Elt Ideal) (iblk m c 8 t) (Rect.unit ![1, 0, 0] ![1, 256, 1024] inb_S4x256x1024_S1x256x1024_1_0_0) (ix3 0 k l) = mW m c 1 k l :=
  (ldW1 (iblk m c 8 t) k l).trans (blk8 m c t 1 k l)

theorem p2 (r : Fin 256) (l : Fin 1024) :
    View.ld (Val := Elt Ideal) (iblk m c 7 t) (Rect.unit ![0, 2048] ![256, 1024] inb_S256x4096_S256x1024_0_2048) (ix2 r l) = mP m c 2 (row t r) l :=
  (ldP2 (iblk m c 7 t) r l).trans (blk7 m c t r 2 l)

theorem w2 (k : Fin 256) (l : Fin 1024) :
    View.ld (Val := Elt Ideal) (iblk m c 8 t) (Rect.unit ![2, 0, 0] ![1, 256, 1024] inb_S4x256x1024_S1x256x1024_2_0_0) (ix3 0 k l) = mW m c 2 k l :=
  (ldW2 (iblk m c 8 t) k l).trans (blk8 m c t 2 k l)

theorem p3 (r : Fin 256) (l : Fin 1024) :
    View.ld (Val := Elt Ideal) (iblk m c 7 t) (Rect.unit ![0, 3072] ![256, 1024] inb_S256x4096_S256x1024_0_3072) (ix2 r l) = mP m c 3 (row t r) l :=
  (ldP3 (iblk m c 7 t) r l).trans (blk7 m c t r 3 l)

theorem w3 (k : Fin 256) (l : Fin 1024) :
    View.ld (Val := Elt Ideal) (iblk m c 8 t) (Rect.unit ![3, 0, 0] ![1, 256, 1024] inb_S4x256x1024_S1x256x1024_3_0_0) (ix3 0 k l) = mW m c 3 k l :=
  (ldW3 (iblk m c 8 t) k l).trans (blk8 m c t 3 k l)

variable {D P : FVec Ideal S256x1024 .f32} {Y : FVec Ideal S256x256 .bf16} {w : FVec Ideal S1x256x1024 .bf16} (n : Fin 4)

theorem pg_at (hD : ∀ r l, D (ix2 r l) = mD m c (row t r) l) (hY : ∀ r k, Y (ix2 r k) = mY m c n (row t r) k)
    (hP : ∀ r l, P (ix2 r l) = mP m c n (row t r) l) (hw : ∀ k l, w (ix3 0 k l) = mW m c n k l) (r : Fin 256) (l : Fin 1024) :
    dpg (D (ix2 r l)) (pr (fun k => Y (ix2 r k)) (fun k l => w (ix3 0 k l)) l) (P (ix2 r l)) = mpg m c n (row t r) l := by
  simp only [hD, hY, hP, hw]
  rfl

theorem dy_at (hD : ∀ r l, D (ix2 r l) = mD m c (row t r) l)
    (hP : ∀ r l, P (ix2 r l) = mP m c n (row t r) l) (hw : ∀ k l, w (ix3 0 k l) = mW m c n k l) (r k : Fin 256) :
    dy (fun l => P (ix2 r l)) (fun l => D (ix2 r l)) (fun k l => w (ix3 0 k l)) k = mdy m c n (row t r) k := by
  simp only [hD, hP, hw]
  rfl

end Tile

theorem tile10 (t : Fin cfg0.N) (y : S256x4096.Idx) : (outsAt0 m c t.val t.isLt).1 y
    = mpg m c (nOf (y 1)) (row t (y 0)) (lOf (y 1)) := by
  rcases cases3 t with ⟨h0, h1⟩ | ⟨h0, h1⟩ | ⟨h0, h1⟩ <;>
    [rw [outsAt0_A m c t h0 h1]; rw [outsAt0_B m c t h0 h1]; rw [outsAt0_C m c t h0 h1]]
  all_goals
    frame_out
    clear h0 h1
    canon_tiles x h
    case piece0 =>
      idx_vars x
      rw [(lg_of 3 x1 h1).1, (lg_of 3 x1 h1).2, show y 0 = x0 from Fin.ext h0, pay12, pay49]
      exact pg_at m c t 3 (D_at m c t) (y3 m c t) (p3 m c t) (w3 m c t) x0 x1
    case piece1 =>
      idx_vars x
      rw [(lg_of 2 x1 h1).1, (lg_of 2 x1 h1).2, show y 0 = x0 from Fin.ext h0, pay11, pay42]
      exact pg_at m c t 2 (D_at m c t) (y2 m c t) (p2 m c t) (w2 m c t) x0 x1
    case piece2 =>
      idx_vars x
      rw [(lg_of 1 x1 h1).1, (lg_of 1 x1 h1).2, show y 0 = x0 from Fin.ext h0, pay10, pay24]
      exact pg_at m c t 1 (D_at m c t) (y1 m c t) (p1 m c t) (w1 m c t) x0 x1
    case piece3 =>
      idx_vars x
      have e1 := lg_of (q := y 1) 0 x1 (by rw [h1]; omega)
      rw [e1.1, e1.2, show y 0 = x0 from Fin.ext h0, pay17, ← pay8]
      exact pg_at m c t 0 (D_at m c t) (y0 m c t) (p0 m c t) (w0 m c t) x0 x1

theorem tile11 (t : Fin cfg0.N) (r k : Fin 256) : (outsAt0 m c t.val t.isLt).2.1 (ix2 r k) = mdy m c 0 (row t r) k := by
  rcases cases3 t with ⟨h0, h1⟩ | ⟨h0, h1⟩ | ⟨h0, h1⟩ <;>
    [rw [outsAt0_A m c t h0 h1]; rw [outsAt0_B m c t h0 h1]; rw [outsAt0_C m c t h0 h1]]
  all_goals
    frame_out
    exact (pay20 _ _ _ r k).trans (dy_at m c t 0 (D_at m c t) (p0 m c t) (w0 m c t) r k)

theorem tile14 (t : Fin cfg0.N) (r k : Fin 256) : (outsAt0 m c t.val t.isLt).2.2.2.2.1 (ix2 r k) = mdy m c 2 (row t r) k := by
  rcases cases3 t with ⟨h0, h1⟩ | ⟨h0, h1⟩ | ⟨h0, h1⟩ <;>
    [rw [outsAt0_A m c t h0 h1]; rw [outsAt0_B m c t h0 h1]; rw [outsAt0_C m c t h0 h1]]
  all_goals
    frame_out
    exact (pay45 _ _ _ r k).trans (dy_at m c t 2 (D_at m c t) (p2 m c t) (w2 m c t) r k)

theorem tile15 (t : Fin cfg0.N) (r k : Fin 256) : (outsAt0 m c t.val t.isLt).2.2.2.2.2.1 (ix2 r k) = mdy m c 3 (row t r) k := by
  rcases cases3 t with ⟨h0, h1⟩ | ⟨h0, h1⟩ | ⟨h0, h1⟩ <;>
    [rw [outsAt0_A m c t h0 h1]; rw [outsAt0_B m c t h0 h1]; rw [outsAt0_C m c t h0 h1]]
  all_goals
    frame_out
    exact (pay1 _ _ _ r k).trans (dy_at m c t 3 (D_at m c t) (p3 m c t) (w3 m c t) r k)

/-- The gated branch's cotangents over the kernel's own arguments. -/
abbrev mdo := kdo (a0 m c) (a5 m c) (a6 m c) (a7 m c)
abbrev mbg := kbg (a0 m c) (a2 m c) (a5 m c) (a6 m c) (a7 m c)

theorem do_at (t : Fin cfg0.N) (r k : Fin 256) :
    k0_pay29 (F := Ideal) (k0_pay8 (F := Ideal) (iblk m c 0 t) (iblk m c 9 t))
      (k0_pay21 (F := Ideal) (View.ld (Val := Elt Ideal) (iblk m c 7 t) (Rect.unit ![0, 1024] ![256, 1024] inb_S256x4096_S256x1024_0_1024)))
      (View.ld (Val := Elt Ideal) (iblk m c 8 t) (Rect.unit ![1, 0, 0] ![1, 256, 1024] inb_S4x256x1024_S1x256x1024_1_0_0)) (iblk m c 6 t) (ix2 r k)
    = mdo m c (row t r) k := by
  rw [pay29]
  exact congrArg₂ dov (dy_at m c t 1 (D_at m c t) (p1 m c t) (w1 m c t) r k) (blk6 m c t r k)

theorem tile12 (t : Fin cfg0.N) (y : S4x256x64.Idx) : (outsAt0 m c t.val t.isLt).2.2.1 y = mdo m c (row t (y 1)) (hd (y 0) (y 2)) := by
  rcases cases3 t with ⟨h0, h1⟩ | ⟨h0, h1⟩ | ⟨h0, h1⟩ <;>
    [rw [outsAt0_A m c t h0 h1]; rw [outsAt0_B m c t h0 h1]; rw [outsAt0_C m c t h0 h1]]
  all_goals
    frame_out
    clear h0 h1
    canon_tiles x h
    case piece0 =>
      idx_vars x
      obtain rfl : x0 = 0 := Subsingleton.elim _ _
      have e : mdo m c (row t (y 1)) (hd (y 0) (y 2)) = mdo m c (row t x1) ⟨192 + x2.val, by omega⟩ := by
        rw [show y 1 = x1 from Fin.ext h1]
        exact congrArg (mdo m c (row t x1)) (Fin.ext (by show (y 0).val * 64 + (y 2).val = 192 + x2.val; rw [h0, h2]; simp))
      rw [e]
      exact (pay34 _ x1 x2).trans (do_at m c t x1 _)
    case piece1 =>
      idx_vars x
      obtain rfl : x0 = 0 := Subsingleton.elim _ _
      have e : mdo m c (row t (y 1)) (hd (y 0) (y 2)) = mdo m c (row t x1) ⟨128 + x2.val, by omega⟩ := by
        rw [show y 1 = x1 from Fin.ext h1]
        exact congrArg (mdo m c (row t x1)) (Fin.ext (by show (y 0).val * 64 + (y 2).val = 128 + x2.val; rw [h0, h2]; simp))
      rw [e]
      exact (pay33 _ x1 x2).trans (do_at m c t x1 _)
    case piece2 =>
      idx_vars x
      obtain rfl : x0 = 0 := Subsingleton.elim _ _
      have e : mdo m c (row t (y 1)) (hd (y 0) (y 2)) = mdo m c (row t x1) ⟨64 + x2.val, by omega⟩ := by
        rw [show y 1 = x1 from Fin.ext h1]
        exact congrArg (mdo m c (row t x1)) (Fin.ext (by show (y 0).val * 64 + (y 2).val = 64 + x2.val; rw [h0, h2]; simp))
      rw [e]
      exact ((pay32 _ _ _ _ x1 x2).trans (pay29 _ _ _ _ x1 _).symm).trans (do_at m c t x1 _)
    case piece3 =>
      idx_vars x
      obtain rfl : x0 = 0 := Subsingleton.elim _ _
      have e : mdo m c (row t (y 1)) (hd (y 0) (y 2)) = mdo m c (row t x1) ⟨0 + x2.val, by omega⟩ := by
        rw [show y 1 = x1 from Fin.ext h1]
        exact congrArg (mdo m c (row t x1)) (Fin.ext (by show (y 0).val * 64 + (y 2).val = 0 + x2.val; rw [h0, h2]; show (0 : Fin 1).val * 64 + x2.val = _; simp))
      rw [e]
      rw [show (⟨0 + x2.val, by omega⟩ : Fin 256) = ⟨x2.val, by omega⟩ from Fin.ext (Nat.zero_add _)]
      exact ((pay30 _ _ _ _ x1 x2).trans (pay29 _ _ _ _ x1 _).symm).trans (do_at m c t x1 _)

/-- A head's block of the attention's rows. -/
def oh (t : Fin cfg0.N) : Fin 4 → Vec Ideal S1x256x64 .f32
  | 0 => View.ld (Val := Elt Ideal) (iblk m c 5 t) (Rect.unit ![0, 0, 0] ![1, 256, 64] inb_S4x256x64_S1x256x64_0_0_0)
  | 1 => View.ld (Val := Elt Ideal) (iblk m c 5 t) (Rect.unit ![1, 0, 0] ![1, 256, 64] inb_S4x256x64_S1x256x64_1_0_0)
  | 2 => View.ld (Val := Elt Ideal) (iblk m c 5 t) (Rect.unit ![2, 0, 0] ![1, 256, 64] inb_S4x256x64_S1x256x64_2_0_0)
  | 3 => View.ld (Val := Elt Ideal) (iblk m c 5 t) (Rect.unit ![3, 0, 0] ![1, 256, 64] inb_S4x256x64_S1x256x64_3_0_0)

theorem oh_at (t : Fin cfg0.N) (h : Fin 4) (r : Fin 256) (e : Fin 64) : oh m c t h (ix3 0 r e) = a2 m c (ix2 (row t r) (hd h e)) := by
  fin_cases h
  · exact (ldO0 (iblk m c 5 t) r e).trans (blk5 m c t r 0 e)
  · exact (ldO1 (iblk m c 5 t) r e).trans (blk5 m c t r 1 e)
  · exact (ldO2 (iblk m c 5 t) r e).trans (blk5 m c t r 2 e)
  · exact (ldO3 (iblk m c 5 t) r e).trans (blk5 m c t r 3 e)

theorem bg_at (t : Fin cfg0.N) (Z : FVec Ideal S256x256 .f32) (hZ : ∀ r k, Z (ix2 r k) = mdy m c 1 (row t r) k) (r k : Fin 256) :
    k0_pay38 (F := Ideal) (k0_pay35 (F := Ideal) Z (oh m c t 0) (oh m c t 1) (oh m c t 2) (oh m c t 3))
      (k0_pay36 (F := Ideal) (k0_pay28 (F := Ideal) (iblk m c 6 t))) (k0_pay37 (F := Ideal) (k0_pay28 (F := Ideal) (iblk m c 6 t)))
      (FloatOps.ofBits .f32 1065353216#32) (ix2 r k) = mbg m c (row t r) k := by
  obtain ⟨h, e, rfl⟩ : ∃ (h : Fin 4) (e : Fin 64), k = ⟨h.val * 64 + e.val, by omega⟩ :=
    ⟨⟨k.val / 64, by omega⟩, ⟨k.val % 64, by omega⟩, Fin.ext (by show k.val = k.val / 64 * 64 + k.val % 64; omega)⟩
  rw [pay38, pay35, hZ, oh_at, blk6]
  rfl

theorem tile13 (t : Fin cfg0.N) (r k : Fin 256) : (outsAt0 m c t.val t.isLt).2.2.2.1 (ix2 r k) = mbg m c (row t r) k := by
  rcases cases3 t with ⟨h0, h1⟩ | ⟨h0, h1⟩ | ⟨h0, h1⟩ <;>
    [rw [outsAt0_A m c t h0 h1]; rw [outsAt0_B m c t h0 h1]; rw [outsAt0_C m c t h0 h1]]
  all_goals
    frame_out
    exact bg_at m c t _ (fun r k => (pay27 _ _ _ r k).trans (dy_at m c t 1 (D_at m c t) (p1 m c t) (w1 m c t) r k)) r k

/-- What the point `t` adds to the cotangent of a branch's projection matrix. -/
def mdw (t : Fin cfg0.N) (n : Fin 4) (k : Fin 256) (l : Fin 1024) : EReal :=
  ∑ r : Fin 256, mY m c n (row t r) k * (sg (mP m c n (row t r) l) * mD m c (row t r) l)

theorem dw_at (t : Fin cfg0.N) (n : Fin 4) {D P : FVec Ideal S256x1024 .f32} {Y : FVec Ideal S256x256 .bf16}
    (hD : ∀ r l, D (ix2 r l) = mD m c (row t r) l) (hY : ∀ r k, Y (ix2 r k) = mY m c n (row t r) k)
    (hP : ∀ r l, P (ix2 r l) = mP m c n (row t r) l) (k : Fin 256) (l : Fin 1024) :
    dw (fun r => Y (ix2 r k)) (fun r => P (ix2 r l)) (fun r => D (ix2 r l)) = mdw m c t n k l := by
  simp only [hD, hY, hP]
  rfl

/-- A branch's slice of the accumulator, read where the writes since the zero fill were other branches'. -/
theorem rd_skip {n n' : ℕ} (hn : n ≠ n') (inb : ∀ a, (![n, 0, 0] : Fin 3 → ℕ) a + S1x256x1024.size a ≤ S4x256x1024.size a)
    (inb' : ∀ a, (![n', 0, 0] : Fin 3 → ℕ) a + S1x256x1024.size a ≤ S4x256x1024.size a) (w : Vec Ideal S1x256x1024 .f32)
    (L : List (View.Piece (Elt Ideal) S4x256x1024 .f32)) (x : S1x256x1024.Idx) :
    (View.whole cc0_scratch0).readCov (⟨Rect.unit (s := S4x256x1024) ![n', 0, 0] S1x256x1024.size inb', w⟩ :: L)
        (Rect.unit (s := S4x256x1024) ![n, 0, 0] S1x256x1024.size inb).toLoadRect x
      = (View.whole cc0_scratch0).readCov L (Rect.unit (s := S4x256x1024) ![n, 0, 0] S1x256x1024.size inb).toLoadRect x := by
  rw [View.readCov_eq_canon', View.readCov_eq_canon']
  refine View.canon_cons_of_not_mem _ _ ?_
  rw [Rect.mem_set_unit]
  intro hm
  have h := hm 0
  have hx : (x 0).val < 1 := (x 0).isLt
  have h1 : n' ≤ n + 1 * (x 0).val ∧ n + 1 * (x 0).val < n' + 1 := h
  omega

theorem rd_zero {n : ℕ} (inb : ∀ a, (![n, 0, 0] : Fin 3 → ℕ) a + S1x256x1024.size a ≤ S4x256x1024.size a) (x : S1x256x1024.Idx) :
    (View.whole cc0_scratch0).readCov (Val := Elt Ideal) [⟨Rect.unit ![0, 0, 0] ![4, 256, 1024] inb_S4x256x1024_S4x256x1024_0_0_0, k0_pay5 (F := Ideal)⟩]
        (Rect.unit (s := S4x256x1024) ![n, 0, 0] S1x256x1024.size inb).toLoadRect x = k0_pay5 (F := Ideal) (ix3 0 0 0) := by
  rw [View.readCov_eq_canon']
  show View.canon _ _ = _
  generalize (Rect.unit (s := S4x256x1024) ![n, 0, 0] S1x256x1024.size inb).toLoadRect.idx x = y
  canon_tiles z h
  idx_vars z
  pointwise [k0_pay5]

theorem cn_hit (n : Fin 4) (inb : ∀ a, (![n.val, 0, 0] : Fin 3 → ℕ) a + S1x256x1024.size a ≤ S4x256x1024.size a) (w : Vec Ideal S1x256x1024 .f32)
    (L : List (View.Piece (Elt Ideal) S4x256x1024 .f32)) (k : Fin 256) (l : Fin 1024) :
    View.canon (⟨Rect.unit (s := S4x256x1024) ![n.val, 0, 0] S1x256x1024.size inb, w⟩ :: L) (ix3 n k l) = w (ix3 0 k l) := by
  have e : (Rect.unit (s := S4x256x1024) ![n.val, 0, 0] S1x256x1024.size inb).emb (ix3 0 k l) = ix3 n k l := by
    funext i
    refine Fin.ext ?_
    match i with
    | ⟨0, _⟩ => rfl
    | ⟨1, _⟩ => show 0 + 1 * k.val = k.val; omega
    | ⟨2, _⟩ => show 0 + 1 * l.val = l.val; omega
  rw [← e, View.canon_cons_emb]

theorem cn_skip {n : Fin 4} {n' : ℕ} (hn : n.val ≠ n') (inb : ∀ a, (![n', 0, 0] : Fin 3 → ℕ) a + S1x256x1024.size a ≤ S4x256x1024.size a)
    (w : Vec Ideal S1x256x1024 .f32) (L : List (View.Piece (Elt Ideal) S4x256x1024 .f32)) (k : Fin 256) (l : Fin 1024) :
    View.canon (⟨Rect.unit (s := S4x256x1024) ![n', 0, 0] S1x256x1024.size inb, w⟩ :: L) (ix3 n k l) = View.canon L (ix3 n k l) := by
  refine View.canon_cons_of_not_mem _ _ ?_
  rw [Rect.mem_set_unit]
  intro hm
  have h1 : n' ≤ n.val ∧ n.val < n' + 1 := hm 0
  omega

theorem zero_at (y : S4x256x1024.Idx) : k0_pay5 (F := Ideal) y = 0 := by
  idx_vars y
  pointwise [k0_pay5]

/-- A branch's slice of what the point before left. -/
theorem ldS (n : ℕ) (inb : ∀ a, (![n, 0, 0] : Fin 3 → ℕ) a + S1x256x1024.size a ≤ S4x256x1024.size a) (X : Vec Ideal S4x256x1024 .f32)
    (h : n < 4) (k : Fin 256) (l : Fin 1024) :
    View.ld (Val := Elt Ideal) X (Rect.unit (s := S4x256x1024) ![n, 0, 0] S1x256x1024.size inb) (ix3 0 k l) = X (ix3 ⟨n, h⟩ k l) := by
  refine congrArg X (funext fun i => Fin.ext ?_)
  match i with
  | ⟨0, _⟩ => rfl
  | ⟨1, _⟩ => show 0 + 1 * k.val = k.val; omega
  | ⟨2, _⟩ => show 0 + 1 * l.val = l.val; omega

/-- The accumulated cotangents of the projection matrices: the first point starts from zero, -/
theorem scr0_A (t : Fin cfg0.N) (n : Fin 4) (k : Fin 256) (l : Fin 1024) (h0 : t.val % 16 = 0) (h1 : ¬t.val % 16 = 15) :
    (outsAt0 m c t.val t.isLt).2.2.2.2.2.2.2.2.1 (ix3 n k l) = 0 + mdw m c t n k l := by
  rw [outsAt0_A m c t h0 h1]; frame_out
  rw [← zero_at (ix3 0 0 0)]
  match n with
  | 0 =>
    refine (cn_skip (by decide) _ _ _ _ _).trans ((cn_skip (by decide) _ _ _ _ _).trans ((cn_skip (by decide) _ _ _ _ _).trans ((cn_hit 0 _ _ _ _ _).trans ?_)))
    rw [pay9]
    refine (pay19 _ _ _ _ k l).trans (congrArg₂ _ ?_ (dw_at m c t 0 (D_at m c t) (y0 m c t) (p0 m c t) k l))
    exact rd_zero _ _
  | 1 =>
    refine (cn_skip (by decide) _ _ _ _ _).trans ((cn_skip (by decide) _ _ _ _ _).trans ((cn_hit 1 _ _ _ _ _).trans ?_))
    rw [pay10]
    refine (pay26 _ _ _ _ k l).trans (congrArg₂ _ ?_ (dw_at m c t 1 (D_at m c t) (y1 m c t) (p1 m c t) k l))
    exact (rd_skip (by decide : 1 ≠ 0) _ _ _ _ _).trans (rd_zero _ _)
  | 2 =>
    refine (cn_skip (by decide) _ _ _ _ _).trans ((cn_hit 2 _ _ _ _ _).trans ?_)
    rw [pay11]
    refine (pay44 _ _ _ _ k l).trans (congrArg₂ _ ?_ (dw_at m c t 2 (D_at m c t) (y2 m c t) (p2 m c t) k l))
    exact (rd_skip (by decide : 2 ≠ 1) _ _ _ _ _).trans ((rd_skip (by decide : 2 ≠ 0) _ _ _ _ _).trans (rd_zero _ _))
  | 3 =>
    refine (cn_hit 3 _ _ _ _ _).trans ?_
    rw [pay12]
    refine (pay51 _ _ _ _ k l).trans (congrArg₂ _ ?_ (dw_at m c t 3 (D_at m c t) (y3 m c t) (p3 m c t) k l))
    exact (rd_skip (by decide : 3 ≠ 2) _ _ _ _ _).trans ((rd_skip (by decide : 3 ≠ 1) _ _ _ _ _).trans ((rd_skip (by decide : 3 ≠ 0) _ _ _ _ _).trans (rd_zero _ _)))

/-- and the others from what the point before left. -/
theorem scr0_BC (t : Fin cfg0.N) (n : Fin 4) (k : Fin 256) (l : Fin 1024) (h0 : ¬t.val % 16 = 0) :
    (outsAt0 m c t.val t.isLt).2.2.2.2.2.2.2.2.1 (ix3 n k l)
      = (outsAt0 m c (t.val - 1) (Nat.lt_of_le_of_lt (Nat.sub_le _ _) t.isLt)).2.2.2.2.2.2.2.2.1 (ix3 n k l) + mdw m c t n k l := by
  by_cases h1 : t.val % 16 = 15 <;> [rw [outsAt0_C m c t h0 h1]; rw [outsAt0_B m c t h0 h1]]
  all_goals
    frame_out
    match n with
    | 0 =>
      refine (cn_skip (by decide) _ _ _ _ _).trans ((cn_skip (by decide) _ _ _ _ _).trans ((cn_skip (by decide) _ _ _ _ _).trans ((cn_hit 0 _ _ _ _ _).trans ?_)))
      rw [pay9, (Memref.isWhole_whole _).read_unread]
      exact (pay19 _ _ _ _ k l).trans (congrArg₂ _ (ldS 0 _ _ (by decide) k l) (dw_at m c t 0 (D_at m c t) (y0 m c t) (p0 m c t) k l))
    | 1 =>
      refine (cn_skip (by decide) _ _ _ _ _).trans ((cn_skip (by decide) _ _ _ _ _).trans ((cn_hit 1 _ _ _ _ _).trans ?_))
      rw [pay10, (Memref.isWhole_whole _).read_unread]
      exact (pay26 _ _ _ _ k l).trans (congrArg₂ _ (ldS 1 _ _ (by decide) k l) (dw_at m c t 1 (D_at m c t) (y1 m c t) (p1 m c t) k l))
    | 2 =>
      refine (cn_skip (by decide) _ _ _ _ _).trans ((cn_hit 2 _ _ _ _ _).trans ?_)
      rw [pay11, (Memref.isWhole_whole _).read_unread]
      exact (pay44 _ _ _ _ k l).trans (congrArg₂ _ (ldS 2 _ _ (by decide) k l) (dw_at m c t 2 (D_at m c t) (y2 m c t) (p2 m c t) k l))
    | 3 =>
      refine (cn_hit 3 _ _ _ _ _).trans ?_
      rw [pay12, (Memref.isWhole_whole _).read_unread]
      exact (pay51 _ _ _ _ k l).trans (congrArg₂ _ (ldS 3 _ _ (by decide) k l) (dw_at m c t 3 (D_at m c t) (y3 m c t) (p3 m c t) k l))

/-- The merged rows over the kernel's own arguments. -/
abbrev mM := gM (a0 m c) (a1 m c) (a2 m c) (a3 m c) (a4 m c) (a5 m c)

theorem gp_at (t : Fin cfg0.N) (n : Fin 4) {P : FVec Ideal S256x1024 .f32} {Y : FVec Ideal S256x256 .bf16} {w : FVec Ideal S1x256x1024 .bf16}
    (hY : ∀ r k, Y (ix2 r k) = mY m c n (row t r) k) (hP : ∀ r l, P (ix2 r l) = mP m c n (row t r) l)
    (hw : ∀ k l, w (ix3 0 k l) = mW m c n k l) (r : Fin 256) (l : Fin 1024) :
    gp (P (ix2 r l)) (pr (fun k => Y (ix2 r k)) (fun k l => w (ix3 0 k l)) l)
      = gp (mP m c n (row t r) l) (gV (a0 m c) (a1 m c) (a2 m c) (a3 m c) (a4 m c) (a5 m c) n (row t r) l) := by
  simp only [hY, hP, hw]
  rfl

/-- The block's merged rows, branch by branch. -/
def mg (t : Fin cfg0.N) : FVec Ideal S256x1024 .f32 :=
  k0_pay48 (F := Ideal) (k0_pay12 (F := Ideal) (iblk m c 4 t)) (k0_pay41 (F := Ideal) (k0_pay11 (F := Ideal) (iblk m c 3 t))
    (k0_pay23 (F := Ideal) (k0_pay10 (F := Ideal) (iblk m c 2 t)) (k0_pay15 (F := Ideal) (iblk m c 1 t)
        (View.ld (Val := Elt Ideal) (iblk m c 7 t) (Rect.unit ![0, 0] ![256, 1024] inb_S256x4096_S256x1024_0_0))
        (View.ld (Val := Elt Ideal) (iblk m c 8 t) (Rect.unit ![0, 0, 0] ![1, 256, 1024] inb_S4x256x1024_S1x256x1024_0_0_0)))
      (View.ld (Val := Elt Ideal) (iblk m c 7 t) (Rect.unit ![0, 1024] ![256, 1024] inb_S256x4096_S256x1024_0_1024))
      (View.ld (Val := Elt Ideal) (iblk m c 8 t) (Rect.unit ![1, 0, 0] ![1, 256, 1024] inb_S4x256x1024_S1x256x1024_1_0_0)))
    (View.ld (Val := Elt Ideal) (iblk m c 7 t) (Rect.unit ![0, 2048] ![256, 1024] inb_S256x4096_S256x1024_0_2048))
    (View.ld (Val := Elt Ideal) (iblk m c 8 t) (Rect.unit ![2, 0, 0] ![1, 256, 1024] inb_S4x256x1024_S1x256x1024_2_0_0)))
  (View.ld (Val := Elt Ideal) (iblk m c 7 t) (Rect.unit ![0, 3072] ![256, 1024] inb_S256x4096_S256x1024_0_3072))
  (View.ld (Val := Elt Ideal) (iblk m c 8 t) (Rect.unit ![3, 0, 0] ![1, 256, 1024] inb_S4x256x1024_S1x256x1024_3_0_0))

theorem mg_at (t : Fin cfg0.N) (r : Fin 256) (l : Fin 1024) : mg m c t (ix2 r l) = mM m c (row t r) l := by
  unfold mg
  rw [pay10, pay11, pay12]
  refine Eq.trans ?_ (Fin.sum_univ_four _).symm
  refine (pay48 _ _ _ _ r l).trans (congrArg₂ _ ((pay41 _ _ _ _ r l).trans (congrArg₂ _ ((pay23 _ _ _ _ r l).trans (congrArg₂ _ ((pay15 _ _ _ r l).trans ?_) ?_)) ?_)) ?_)
  · exact gp_at m c t 0 (y0 m c t) (p0 m c t) (w0 m c t) r l
  · exact gp_at m c t 1 (y1 m c t) (p1 m c t) (w1 m c t) r l
  · exact gp_at m c t 2 (y2 m c t) (p2 m c t) (w2 m c t) r l
  · exact gp_at m c t 3 (y3 m c t) (p3 m c t) (w3 m c t) r l

/-- What the point `t` adds to the cotangent of the output projection. -/
def mdo2 (t : Fin cfg0.N) (k l : Fin 1024) : EReal := ∑ r : Fin 256, mM m c (row t r) k * a7 m c (ix2 (row t r) l)

theorem wo_at (t : Fin cfg0.N) (A : FVec Ideal S1024x1024 .f32) (k l : Fin 1024) :
    k0_pay2 (F := Ideal) (k0_pay7 (F := Ideal) (iblk m c 0 t)) (mg m c t) A (ix2 k l) = A (ix2 k l) + mdo2 m c t k l := by
  rw [pay2]
  simp only [mg_at, blk0]
  rfl

theorem scr1_A (t : Fin cfg0.N) (k l : Fin 1024) (h0 : t.val % 16 = 0) (h1 : ¬t.val % 16 = 15) :
    (outsAt0 m c t.val t.isLt).2.2.2.2.2.2.2.2.2 (ix2 k l) = 0 + mdo2 m c t k l := by
  rw [outsAt0_A m c t h0 h1]; frame_out
  refine (wo_at m c t _ k l).trans (congrArg (· + mdo2 m c t k l) ?_)
  pointwise [k0_pay6]

theorem scr1_BC (t : Fin cfg0.N) (k l : Fin 1024) (h0 : ¬t.val % 16 = 0) :
    (outsAt0 m c t.val t.isLt).2.2.2.2.2.2.2.2.2 (ix2 k l)
      = (outsAt0 m c (t.val - 1) (Nat.lt_of_le_of_lt (Nat.sub_le _ _) t.isLt)).2.2.2.2.2.2.2.2.2 (ix2 k l) + mdo2 m c t k l := by
  by_cases h1 : t.val % 16 = 15 <;> [rw [outsAt0_C m c t h0 h1]; rw [outsAt0_B m c t h0 h1]]
  all_goals
    frame_out
    rw [(Memref.isWhole_whole _).read_unread]
    exact wo_at m c t _ k l

theorem rd_whole (L : List (View.Piece (Elt Ideal) S4x256x1024 .f32)) (y : S4x256x1024.Idx) :
    k0_pay3 (F := Ideal) ((View.whole cc0_scratch0).readCov (Val := Elt Ideal) L
      (Rect.unit (s := S4x256x1024) ![0, 0, 0] S4x256x1024.size inb_S4x256x1024_S4x256x1024_0_0_0).toLoadRect) y = View.canon L y := by
  rw [View.readCov_eq_canon']
  generalize View.canon L = X
  idx_vars y
  pointwise [k0_pay3]

/-- The last point writes out what it has accumulated. -/
theorem last16 (t : Fin cfg0.N) (y : S4x256x1024.Idx) (h0 : ¬t.val % 16 = 0) (h1 : t.val % 16 = 15) :
    (outsAt0 m c t.val t.isLt).2.2.2.2.2.2.1 y = (outsAt0 m c t.val t.isLt).2.2.2.2.2.2.2.2.1 y := by
  rw [outsAt0_C m c t h0 h1]; frame_out
  exact rd_whole _ y

theorem pay4 (A : FVec Ideal S1024x1024 .f32) (y : S1024x1024.Idx) : k0_pay4 (F := Ideal) A y = A y := by
  idx_vars y
  pointwise [k0_pay4]

theorem last17 (t : Fin cfg0.N) (y : S1024x1024.Idx) (h0 : ¬t.val % 16 = 0) (h1 : t.val % 16 = 15) :
    (outsAt0 m c t.val t.isLt).2.2.2.2.2.2.2.1 y = (outsAt0 m c t.val t.isLt).2.2.2.2.2.2.2.2.2 y := by
  rw [outsAt0_C m c t h0 h1]; frame_out
  exact pay4 _ y

/-! ### The arrays after the run -/

theorem read10 (t : Fin cfg0.N) (G : S4096x4096.Idx → EReal) (r : Fin 256) (k : Fin 4096) :
    ((cfg0.win 10).blk t).view.read (Elt Ideal) G (ix2 r k) = G (ix2 (row t r) k) := by
  unfold row; blk_point [idx t]

theorem fin10 : (dats m 0 c).arrAt 10 cfg0.N = fun i => mpg m c (nOf (i 1)) (i 0) (lOf (i 1)) := by
  refine (dats m 0 c).arrAt_eq_of_covers 10 _ (by decide +kernel) fun t hf y => ?_
  rw [after0_10]
  idx_vars y
  exact (tile10 m c t (ix2 y0 y1)).trans (read10 t (fun i => mpg m c (nOf (i 1)) (i 0) (lOf (i 1))) y0 y1).symm

theorem read11 (t : Fin cfg0.N) (G : S4096x256.Idx → EReal) (r : Fin 256) (k : Fin 256) :
    ((cfg0.win 11).blk t).view.read (Elt Ideal) G (ix2 r k) = G (ix2 (row t r) k) := by
  unfold row; blk_point [idx t]

theorem fin11 : (dats m 0 c).arrAt 11 cfg0.N = fun i => mdy m c 0 (i 0) (i 1) := by
  refine (dats m 0 c).arrAt_eq_of_covers 11 _ (by decide +kernel) fun t hf y => ?_
  rw [after0_11]
  idx_vars y
  exact (tile11 m c t y0 y1).trans (read11 t (fun i => mdy m c 0 (i 0) (i 1)) y0 y1).symm

theorem read13 (t : Fin cfg0.N) (G : S4096x256.Idx → EReal) (r : Fin 256) (k : Fin 256) :
    ((cfg0.win 13).blk t).view.read (Elt Ideal) G (ix2 r k) = G (ix2 (row t r) k) := by
  unfold row; blk_point [idx t]

theorem fin13 : (dats m 0 c).arrAt 13 cfg0.N = fun i => mbg m c (i 0) (i 1) := by
  refine (dats m 0 c).arrAt_eq_of_covers 13 _ (by decide +kernel) fun t hf y => ?_
  rw [after0_13]
  idx_vars y
  exact (tile13 m c t y0 y1).trans (read13 t (fun i => mbg m c (i 0) (i 1)) y0 y1).symm

theorem read14 (t : Fin cfg0.N) (G : S4096x256.Idx → EReal) (r : Fin 256) (k : Fin 256) :
    ((cfg0.win 14).blk t).view.read (Elt Ideal) G (ix2 r k) = G (ix2 (row t r) k) := by
  unfold row; blk_point [idx t]

theorem fin14 : (dats m 0 c).arrAt 14 cfg0.N = fun i => mdy m c 2 (i 0) (i 1) := by
  refine (dats m 0 c).arrAt_eq_of_covers 14 _ (by decide +kernel) fun t hf y => ?_
  rw [after0_14]
  idx_vars y
  exact (tile14 m c t y0 y1).trans (read14 t (fun i => mdy m c 2 (i 0) (i 1)) y0 y1).symm

theorem read15 (t : Fin cfg0.N) (G : S4096x256.Idx → EReal) (r : Fin 256) (k : Fin 256) :
    ((cfg0.win 15).blk t).view.read (Elt Ideal) G (ix2 r k) = G (ix2 (row t r) k) := by
  unfold row; blk_point [idx t]

theorem fin15 : (dats m 0 c).arrAt 15 cfg0.N = fun i => mdy m c 3 (i 0) (i 1) := by
  refine (dats m 0 c).arrAt_eq_of_covers 15 _ (by decide +kernel) fun t hf y => ?_
  rw [after0_15]
  idx_vars y
  exact (tile15 m c t y0 y1).trans (read15 t (fun i => mdy m c 3 (i 0) (i 1)) y0 y1).symm

theorem read12 (t : Fin cfg0.N) (G : S4x4096x64.Idx → EReal) (h : Fin 4) (r : Fin 256) (e : Fin 64) :
    ((cfg0.win 12).blk t).view.read (Elt Ideal) G (ix3 h r e) = G (ix3 h (row t r) e) := by
  unfold row; blk_point [idx t]

theorem fin12 : (dats m 0 c).arrAt 12 cfg0.N = fun i => mdo m c (i 1) (hd (i 0) (i 2)) := by
  refine (dats m 0 c).arrAt_eq_of_covers 12 _ (by decide +kernel) fun t hf y => ?_
  rw [after0_12]
  idx_vars y
  exact (tile12 m c t (ix3 y0 y1 y2)).trans (read12 t (fun i => mdo m c (i 1) (hd (i 0) (i 2))) y0 y1 y2).symm

theorem fin16 : (dats m 0 c).arrAt 16 cfg0.N = fun i => kwb (a0 m c) (a1 m c) (a2 m c) (a3 m c) (a4 m c) (a6 m c) (a7 m c) (i 0) (i 1) (i 2) := by
  refine (dats m 0 c).arrAt_eq_of_after_last 16 t0_15 (by decide +kernel) _ fun y => ?_
  blk_simp
  rw [after0_16]
  refine (last16 m c t0_15 y (by decide) (by decide)).trans ?_
  rw [Pipeline.eq_sum_fin_of_reset_step_apply_last (fun n h => (outsAt0 m c n h).2.2.2.2.2.2.2.2.1) 16 (fun _ => (0 : EReal))
    (fun p j => mdw m c p (j 0) (j 1) (j 2))
    (fun t h j => by idx_vars j; exact scr0_A m c t j0 j1 j2 h (by omega))
    (fun t h j => by idx_vars j; exact scr0_BC m c t j0 j1 j2 h)
    (le_of_eq N_0) t0_15 rfl y, zero_add]
  exact (Fin.sum_univ_tiles 16 256 rfl (fun r => mY m c (y 0) r (y 1) * (sg (mP m c (y 0) r (y 2)) * mD m c r (y 2)))).symm

theorem fin17 : (dats m 0 c).arrAt 17 cfg0.N = fun i => kwo (a0 m c) (a1 m c) (a2 m c) (a3 m c) (a4 m c) (a5 m c) (a7 m c) (i 0) (i 1) := by
  refine (dats m 0 c).arrAt_eq_of_after_last 17 t0_15 (by decide +kernel) _ fun y => ?_
  blk_simp
  rw [after0_17]
  refine (last17 m c t0_15 y (by decide) (by decide)).trans ?_
  rw [Pipeline.eq_sum_fin_of_reset_step_apply_last (fun n h => (outsAt0 m c n h).2.2.2.2.2.2.2.2.2) 16 (fun _ => (0 : EReal))
    (fun p j => mdo2 m c p (j 0) (j 1))
    (fun t h j => by idx_vars j; exact scr1_A m c t j0 j1 h (by omega))
    (fun t h j => by idx_vars j; exact scr1_BC m c t j0 j1 h)
    (le_of_eq N_0) t0_15 rfl y, zero_add]
  exact (Fin.sum_univ_tiles 16 256 rfl (fun r => mM m c r (y 0) * a7 m c (ix2 r (y 1)))).symm

end Fin
end Cert.MergeKIdeal.Value
-- ==== Proof.MergePair.lean ====
/- The merge backward against the vector-Jacobian product of the gated merge. -/
module

public import proofs.«01_k».proof.Proof.Merge
public import proofs.«01_k».proof.Proof.Num
public import proofs.«01_k».proof.Proof.Gen.MergeRIdeal.Run
public import proofs.«01_k».proof.Proof.Gen.MergeRIdeal.Read
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Merge

open Cert.MergeKIdeal.Value

instance preFacts : Cert.Pre_finite_merge.Facts :=
  ⟨by decide, by decide, by decide, by decide, by decide, by decide, by decide, by decide, by decide⟩

/-! ### The gate -/

theorem sg_coe (z : ℝ) : sg (z : EReal) = ((1 / 2 * Real.tanh (1 / 2 * z) + 1 / 2 : ℝ) : EReal) := by
  unfold sg
  rw [Cert.Num.lit_half, ← EReal.coe_mul, show Ideal.tanh ((1 / 2 * z : ℝ) : EReal) = ((Real.tanh (1 / 2 * z) : ℝ) : EReal) from rfl,
    ← EReal.coe_mul, ← EReal.coe_add]

theorem sg_top : sg ⊤ = 1 := by
  unfold sg
  rw [Cert.Num.lit_half, EReal.coe_mul_top_of_pos (by norm_num), show Ideal.tanh ⊤ = 1 from rfl, mul_one, ← EReal.coe_add]
  norm_num

theorem sg_bot : sg ⊥ = 0 := by
  unfold sg
  rw [Cert.Num.lit_half, EReal.coe_mul_bot_of_pos (by norm_num), show Ideal.tanh ⊥ = -1 from rfl, ← EReal.coe_one, ← EReal.coe_neg, ← EReal.coe_mul,
    ← EReal.coe_add]
  norm_num

/-- The gate by the hyperbolic tangent is the gate by the exponential, at every argument. -/
theorem sg_logistic (v : EReal) : Ideal.div 1 (1 + Ideal.exp (-v)) = sg v := by
  induction v using EReal.rec with
  | bot =>
    rw [sg_bot, EReal.neg_bot, show Ideal.exp ⊤ = ⊤ from rfl, EReal.add_top_of_ne_bot (by rw [← EReal.coe_one]; exact EReal.coe_ne_bot 1), Ideal.div, if_neg (by simp), EReal.inv_top, mul_zero]
  | top =>
    rw [sg_top, EReal.neg_top, show Ideal.exp ⊥ = 0 from rfl, add_zero, Ideal.div, if_neg (by simp)]
    rw [← EReal.coe_one, ← EReal.coe_inv, ← EReal.coe_mul]
    norm_num
  | coe z =>
    rw [sg_coe, ← EReal.coe_neg, show Ideal.exp ((-z : ℝ) : EReal) = ((Real.exp (-z) : ℝ) : EReal) from rfl, ← EReal.coe_one, ← EReal.coe_add]
    have h := Real.exp_pos (-z)
    rw [Cert.Num.coe_div_coe _ (by positivity)]
    refine congrArg _ ?_
    have h2 : Real.exp (-z) = Real.exp (-(1 / 2 * z)) * Real.exp (-(1 / 2 * z)) := by rw [← Real.exp_add]; congr 1; ring
    have h3 : Real.exp (1 / 2 * z) * Real.exp (-(1 / 2 * z)) = 1 := by rw [← Real.exp_add]; simp
    have p1 := Real.exp_pos (1 / 2 * z)
    have p2 := Real.exp_pos (-(1 / 2 * z))
    rw [Real.tanh_eq_sinh_div_cosh, Real.sinh_eq, Real.cosh_eq, h2]
    generalize Real.exp (1 / 2 * z) = p at *
    generalize Real.exp (-(1 / 2 * z)) = q at *
    field_simp
    nlinarith [h3]

theorem sg_real (v : EReal) : ∃ s : ℝ, sg v = (s : EReal) := by
  induction v using EReal.rec with
  | bot => exact ⟨0, by rw [sg_bot]; rfl⟩
  | top => exact ⟨1, by rw [sg_top]; rfl⟩
  | coe z => exact ⟨_, sg_coe z⟩

/-- The derivative of the gated line, factored and unfactored, at a real cotangent. -/
theorem dbg_eq (d : ℝ) (v : EReal) : (d : EReal) * (sg v * (1 + v * (1 - sg v))) = d * sg v + v * d * (sg v * (1 - sg v)) := by
  induction v using EReal.rec with
  | bot => rw [sg_bot]; simp
  | top =>
    have h : (1 : EReal) - 1 = 0 := by rw [← EReal.coe_one, ← EReal.coe_sub]; norm_num
    rw [sg_top, h]; simp
  | coe z =>
    rw [sg_coe, ← EReal.coe_one]
    simp only [← EReal.coe_mul, ← EReal.coe_add, ← EReal.coe_sub]
    exact congrArg _ (by ring)

section Reference

open Cert.MergeRIdeal Cert.MergeRIdeal.Gen Cert.MergeRIdeal.Read

variable (x0 : (⟨S4096x7684, .f32⟩ : BufTy).Contents (Elt Ideal)) (x1 x2 x3 x4 : (⟨S4096x256, .f32⟩ : BufTy).Contents (Elt Ideal))
  (x5 : (⟨S4x256x1024, .f32⟩ : BufTy).Contents (Elt Ideal)) (x6 : (⟨S1024x1024, .f32⟩ : BufTy).Contents (Elt Ideal))
  (x7 : (⟨S4096x1024, .f32⟩ : BufTy).Contents (Elt Ideal))

theorem ref6_2 (r : Fin 4096) (k : Fin 256) : val_main_v6_2 (F := Ideal) x0 (ix2 r k) = sg (gB x0 r k) := by
  refine Eq.trans ?_ (sg_logistic _)
  unfold val_main_v6_2
  pointwise [val_main_call0_v4, val_main_call0_v3, val_main_call0_v2, val_main_call0_v1, val_main_call0_v0, val_main_call0_cst, val_main_call0_cst_0,
    val_main_v0]
  rfl

theorem ref6_0 (r : Fin 4096) (k : Fin 256) : val_main_v6_0 (F := Ideal) x0 (ix2 r k) = gB x0 r k * sg (gB x0 r k) := by
  have e : val_main_v6_0 (F := Ideal) x0 (ix2 r k) = gB x0 r k * val_main_v6_2 (F := Ideal) x0 (ix2 r k) := by
    unfold val_main_v6_0
    generalize val_main_v6_2 (F := Ideal) x0 = X
    pointwise [val_main_v0]
    rfl
  rw [e, ref6_2]

theorem ref6_1 (r : Fin 4096) (k : Fin 256) : val_main_v6_1 (F := Ideal) x0 (ix2 r k) = sg (gB x0 r k) * (1 - sg (gB x0 r k)) := by
  have e : val_main_v6_1 (F := Ideal) x0 (ix2 r k)
      = HMul.hMul (α := EReal) (β := EReal) (γ := EReal) (val_main_v6_2 (F := Ideal) x0 (ix2 r k)) (1 - val_main_v6_2 (F := Ideal) x0 (ix2 r k)) := by
    unfold val_main_v6_1 val_main_call0_v7
    generalize val_main_v6_2 (F := Ideal) x0 = X
    pointwise [val_main_call0_v6, val_main_call0_cst_1]
  rw [e, ref6_2]

theorem ref5 (r : Fin 4096) (k : Fin 256) : val_main_v5 (F := Ideal) x2 (ix2 r k) = x2 (ix2 r k) := by
  unfold val_main_v5
  pointwise [val_main_v4, val_main_v3, val_main_v2]

theorem ref7 (r : Fin 4096) (k : Fin 256) : val_main_v7 (F := Ideal) x0 x2 (ix2 r k) = x2 (ix2 r k) * (gB x0 r k * sg (gB x0 r k)) := by
  have e : val_main_v7 (F := Ideal) x0 x2 (ix2 r k)
      = HMul.hMul (α := EReal) (β := EReal) (γ := EReal) (val_main_v5 (F := Ideal) x2 (ix2 r k)) (val_main_v6_0 (F := Ideal) x0 (ix2 r k)) := by
    unfold val_main_v7
    generalize val_main_v6_0 (F := Ideal) x0 = X
    generalize val_main_v5 (F := Ideal) x2 = Y
    pointwise
  rw [e, ref6_0, ref5]

/-- The branches' rows, stacked. -/
theorem ref12 (n : Fin 4) (r : Fin 4096) (k : Fin 256) : val_main_v12 (F := Ideal) x0 x1 x2 x3 x4 (ix3 r n k) = gY x0 x1 x2 x3 x4 n r k := by
  have h9 : val_main_v9 (F := Ideal) x0 x2 (ix3 r 0 k) = x2 (ix2 r k) * (gB x0 r k * sg (gB x0 r k)) := by
    refine Eq.trans ?_ (ref7 x0 x2 r k)
    unfold val_main_v9
    generalize val_main_v7 (F := Ideal) x0 x2 = X
    pointwise
  fin_cases n
  · show val_main_v12 (F := Ideal) x0 x1 x2 x3 x4 (ix3 r 0 k) = x1 (ix2 r k)
    unfold val_main_v12
    generalize val_main_v9 (F := Ideal) x0 x2 = X
    pointwise [val_main_v8]
  · show val_main_v12 (F := Ideal) x0 x1 x2 x3 x4 (ix3 r 1 k) = x2 (ix2 r k) * (gB x0 r k * Ideal.div 1 (1 + Ideal.exp (-gB x0 r k)))
    rw [sg_logistic, ← h9]
    unfold val_main_v12
    generalize val_main_v9 (F := Ideal) x0 x2 = X
    pointwise
  · show val_main_v12 (F := Ideal) x0 x1 x2 x3 x4 (ix3 r 2 k) = x3 (ix2 r k)
    unfold val_main_v12
    generalize val_main_v9 (F := Ideal) x0 x2 = X
    pointwise [val_main_v10]
  · show val_main_v12 (F := Ideal) x0 x1 x2 x3 x4 (ix3 r 3 k) = x4 (ix2 r k)
    unfold val_main_v12
    generalize val_main_v9 (F := Ideal) x0 x2 = X
    pointwise [val_main_v11]

/-- The branches' projected rows. -/
theorem ref14 (n : Fin 4) (r : Fin 4096) (l : Fin 1024) :
    val_main_v14 (F := Ideal) x0 x1 x2 x3 x4 x5 (ix3 r n l) = gV x0 x1 x2 x3 x4 x5 n r l := by
  have e : val_main_v14 (F := Ideal) x0 x1 x2 x3 x4 x5 (ix3 r n l)
      = ∑ k : Fin 256, HMul.hMul (α := EReal) (β := EReal) (γ := EReal) (x5 (ix3 n k l)) (val_main_v12 (F := Ideal) x0 x1 x2 x3 x4 (ix3 r n k)) := by
    unfold val_main_v14 val_main_v13
    generalize val_main_v12 (F := Ideal) x0 x1 x2 x3 x4 = X
    pointwise
  rw [e]
  unfold gV pr gW
  exact Finset.sum_congr rfl fun k _ => by rw [ref12]; exact mul_comm _ _

theorem ref21 (n : Fin 4) (r : Fin 4096) (l : Fin 1024) : val_main_v21 (F := Ideal) x0 (ix3 r n l) = sg (gP x0 n r l) := by
  refine Eq.trans ?_ (sg_logistic _)
  unfold val_main_v21
  pointwise [val_main_v20, val_main_v19, val_main_v18, val_main_v17, val_main_v16, val_main_v15, val_main_v1, val_main_cst, val_main_cst_0]
  rfl

theorem ref24 (n : Fin 4) (r : Fin 4096) (l : Fin 1024) : val_main_v24 (F := Ideal) x0 (ix3 r n l) = sg (gP x0 n r l) * (1 - sg (gP x0 n r l)) := by
  have e : val_main_v24 (F := Ideal) x0 (ix3 r n l)
      = HMul.hMul (α := EReal) (β := EReal) (γ := EReal) (val_main_v21 (F := Ideal) x0 (ix3 r n l)) (1 - val_main_v21 (F := Ideal) x0 (ix3 r n l)) := by
    unfold val_main_v24 val_main_v23
    generalize val_main_v21 (F := Ideal) x0 = X
    pointwise [val_main_v22, val_main_cst_1]
  rw [e, ref21]

/-- The merged rows. -/
theorem ref26 (r : Fin 4096) (l : Fin 1024) : val_main_v26 (F := Ideal) x0 x1 x2 x3 x4 x5 (ix2 r l) = gM x0 x1 x2 x3 x4 x5 r l := by
  have e : val_main_v26 (F := Ideal) x0 x1 x2 x3 x4 x5 (ix2 r l) = ∑ n : Fin 4,
      HMul.hMul (α := EReal) (β := EReal) (γ := EReal) (val_main_v21 (F := Ideal) x0 (ix3 r n l)) (val_main_v14 (F := Ideal) x0 x1 x2 x3 x4 x5 (ix3 r n l)) := by
    unfold val_main_v26 val_main_v25
    generalize val_main_v21 (F := Ideal) x0 = X
    generalize val_main_v14 (F := Ideal) x0 x1 x2 x3 x4 x5 = Y
    pointwise [val_main_cst_2]
  rw [e]
  unfold gM gp
  exact Finset.sum_congr rfl fun n _ => by rw [ref21, ref14]

/-- The cotangent of the merged rows. -/
theorem ref31 (n : Fin 4) (r : Fin 4096) (l : Fin 1024) : val_main_v31 (F := Ideal) x6 x7 (ix3 r n l) = gD x6 x7 r l := by
  unfold val_main_v31
  pointwise [val_main_v30]
  rfl

theorem ref32 (n : Fin 4) (r : Fin 4096) (l : Fin 1024) : val_main_v32 (F := Ideal) x0 x6 x7 (ix3 r n l) = sg (gP x0 n r l) * gD x6 x7 r l := by
  have e : val_main_v32 (F := Ideal) x0 x6 x7 (ix3 r n l)
      = HMul.hMul (α := EReal) (β := EReal) (γ := EReal) (val_main_v21 (F := Ideal) x0 (ix3 r n l)) (val_main_v31 (F := Ideal) x6 x7 (ix3 r n l)) := by
    unfold val_main_v32
    generalize val_main_v21 (F := Ideal) x0 = X
    generalize val_main_v31 (F := Ideal) x6 x7 = Y
    pointwise
  rw [e, ref21, ref31]

/-- The logits' cotangent. -/
theorem ref54 (n : Fin 4) (r : Fin 4096) (l : Fin 1024) :
    val_main_v54 (F := Ideal) x0 x1 x2 x3 x4 x5 x6 x7 (ix2 r (lg n l)) = kpg x0 x1 x2 x3 x4 x5 x6 x7 n r l := by
  have e : val_main_v54 (F := Ideal) x0 x1 x2 x3 x4 x5 x6 x7 (ix2 r (lg n l))
      = HMul.hMul (α := EReal) (β := EReal) (γ := EReal) (HMul.hMul (α := EReal) (β := EReal) (γ := EReal) (val_main_v31 (F := Ideal) x6 x7 (ix3 r n l))
        (val_main_v14 (F := Ideal) x0 x1 x2 x3 x4 x5 (ix3 r n l))) (val_main_v24 (F := Ideal) x0 (ix3 r n l)) := by
    unfold val_main_v54 val_main_v35 val_main_v34 val_main_v33 lg
    generalize val_main_v24 (F := Ideal) x0 = X
    generalize val_main_v31 (F := Ideal) x6 x7 = Y
    generalize val_main_v14 (F := Ideal) x0 x1 x2 x3 x4 x5 = Z
    pointwise
  rw [e, ref24, ref31, ref14]
  exact (mul_assoc _ _ _).symm

/-- The branches' cotangents. -/
theorem ref38 (n : Fin 4) (r : Fin 4096) (k : Fin 256) : val_main_v38 (F := Ideal) x0 x5 x6 x7 (ix3 r n k) = kdy x0 x5 x6 x7 n r k := by
  have e : val_main_v38 (F := Ideal) x0 x5 x6 x7 (ix3 r n k)
      = ∑ l : Fin 1024, HMul.hMul (α := EReal) (β := EReal) (γ := EReal) (val_main_v32 (F := Ideal) x0 x6 x7 (ix3 r n l)) (x5 (ix3 n k l)) := by
    unfold val_main_v38 val_main_v37 val_main_v36
    generalize val_main_v32 (F := Ideal) x0 x6 x7 = X
    pointwise
  rw [e]
  unfold kdy dy gW
  exact Finset.sum_congr rfl fun l _ => by rw [ref32]

theorem ref42 (r : Fin 4096) (k : Fin 256) : val_main_v42 (F := Ideal) x0 x5 x6 x7 (ix2 r k) = kdy x0 x5 x6 x7 0 r k := by
  rw [← ref38]
  unfold val_main_v42 val_main_v41
  generalize val_main_v38 (F := Ideal) x0 x5 x6 x7 = X
  pointwise

theorem ref44 (r : Fin 4096) (k : Fin 256) : val_main_v44 (F := Ideal) x0 x5 x6 x7 (ix2 r k) = kdy x0 x5 x6 x7 1 r k := by
  rw [← ref38]
  unfold val_main_v44 val_main_v43
  generalize val_main_v38 (F := Ideal) x0 x5 x6 x7 = X
  pointwise

theorem ref46 (r : Fin 4096) (k : Fin 256) : val_main_v46 (F := Ideal) x0 x5 x6 x7 (ix2 r k) = kdy x0 x5 x6 x7 2 r k := by
  rw [← ref38]
  unfold val_main_v46 val_main_v45
  generalize val_main_v38 (F := Ideal) x0 x5 x6 x7 = X
  pointwise

theorem ref48 (r : Fin 4096) (k : Fin 256) : val_main_v48 (F := Ideal) x0 x5 x6 x7 (ix2 r k) = kdy x0 x5 x6 x7 3 r k := by
  rw [← ref38]
  unfold val_main_v48 val_main_v47
  generalize val_main_v38 (F := Ideal) x0 x5 x6 x7 = X
  pointwise

/-- The cotangent of the second branch before its gate. -/
theorem ref53 (h : Fin 4) (r : Fin 4096) (d : Fin 64) : val_main_v53 (F := Ideal) x0 x5 x6 x7 (ix3 h r d) = kdo x0 x5 x6 x7 r (hd h d) := by
  have e : val_main_v53 (F := Ideal) x0 x5 x6 x7 (ix3 h r d)
      = HMul.hMul (α := EReal) (β := EReal) (γ := EReal) (val_main_v44 (F := Ideal) x0 x5 x6 x7 (ix2 r (hd h d))) (val_main_v6_0 (F := Ideal) x0 (ix2 r (hd h d))) := by
    unfold val_main_v53 val_main_v52 val_main_v50 hd
    generalize val_main_v44 (F := Ideal) x0 x5 x6 x7 = X
    generalize val_main_v6_0 (F := Ideal) x0 = Y
    pointwise
  rw [e, ref44, ref6_0]
  rfl

/-- The cotangent of the projections. -/
theorem ref55 (n : Fin 4) (k : Fin 256) (l : Fin 1024) :
    val_main_v55 (F := Ideal) x0 x1 x2 x3 x4 x6 x7 (ix3 n k l) = kwb x0 x1 x2 x3 x4 x6 x7 n k l := by
  have e : val_main_v55 (F := Ideal) x0 x1 x2 x3 x4 x6 x7 (ix3 n k l) = ∑ r : Fin 4096,
      HMul.hMul (α := EReal) (β := EReal) (γ := EReal) (val_main_v32 (F := Ideal) x0 x6 x7 (ix3 r n l)) (val_main_v12 (F := Ideal) x0 x1 x2 x3 x4 (ix3 r n k)) := by
    unfold val_main_v55 val_main_v40 val_main_v39 val_main_v36
    generalize val_main_v32 (F := Ideal) x0 x6 x7 = X
    generalize val_main_v12 (F := Ideal) x0 x1 x2 x3 x4 = Y
    pointwise
  rw [e]
  unfold kwb
  exact Finset.sum_congr rfl fun r _ => by rw [ref32, ref12]; exact mul_comm _ _

/-- The cotangent of the output projection. -/
theorem ref56 (k l : Fin 1024) : val_main_v56 (F := Ideal) x0 x1 x2 x3 x4 x5 x7 (ix2 k l) = kwo x0 x1 x2 x3 x4 x5 x7 k l := by
  have e : val_main_v56 (F := Ideal) x0 x1 x2 x3 x4 x5 x7 (ix2 k l) = ∑ r : Fin 4096,
      HMul.hMul (α := EReal) (β := EReal) (γ := EReal) (x7 (ix2 r l)) (val_main_v26 (F := Ideal) x0 x1 x2 x3 x4 x5 (ix2 r k)) := by
    unfold val_main_v56 val_main_v29 val_main_v28
    generalize val_main_v26 (F := Ideal) x0 x1 x2 x3 x4 x5 = Y
    pointwise
  rw [e]
  unfold kwo
  exact Finset.sum_congr rfl fun r _ => by rw [ref26]; exact mul_comm _ _

/-- The second branch's cotangent is a real number when its factors are. -/
theorem kdy_real (h5 : ∀ i, ∃ r : ℝ, x5 i = (r : EReal)) (h6 : ∀ i, ∃ r : ℝ, x6 i = (r : EReal)) (h7 : ∀ i, ∃ r : ℝ, x7 i = (r : EReal))
    (n : Fin 4) (r : Fin 4096) (k : Fin 256) : ∃ s : ℝ, kdy x0 x5 x6 x7 n r k = (s : EReal) := by
  choose f5 e5 using h5
  choose f6 e6 using h6
  choose f7 e7 using h7
  choose g eg using fun l => sg_real (gP x0 n r l)
  refine ⟨∑ l : Fin 1024, g l * (∑ j : Fin 1024, f7 (ix2 r j) * f6 (ix2 l j)) * f5 (ix3 n k l), ?_⟩
  unfold kdy dy gD dm gW
  simp only [eg, e5, e6, e7, EReal.coe_mul, Cert.Num.coe_sum]

/-- The cotangent of the second branch's gate. -/
theorem ref51 (h2 : ∀ i, ∃ r : ℝ, x2 i = (r : EReal)) (h5 : ∀ i, ∃ r : ℝ, x5 i = (r : EReal)) (h6 : ∀ i, ∃ r : ℝ, x6 i = (r : EReal))
    (h7 : ∀ i, ∃ r : ℝ, x7 i = (r : EReal)) (r : Fin 4096) (k : Fin 256) :
    val_main_v51 (F := Ideal) x0 x2 x5 x6 x7 (ix2 r k) = kbg x0 x2 x5 x6 x7 r k := by
  have e49 : val_main_v49 (F := Ideal) x0 x2 x5 x6 x7 (ix2 r k)
      = HMul.hMul (α := EReal) (β := EReal) (γ := EReal) (val_main_v5 (F := Ideal) x2 (ix2 r k)) (val_main_v44 (F := Ideal) x0 x5 x6 x7 (ix2 r k)) := by
    unfold val_main_v49
    generalize val_main_v5 (F := Ideal) x2 = X
    generalize val_main_v44 (F := Ideal) x0 x5 x6 x7 = Y
    pointwise
  have e : val_main_v51 (F := Ideal) x0 x2 x5 x6 x7 (ix2 r k)
      = HAdd.hAdd (α := EReal) (β := EReal) (γ := EReal) (HMul.hMul (α := EReal) (β := EReal) (γ := EReal) (val_main_v49 (F := Ideal) x0 x2 x5 x6 x7 (ix2 r k)) (val_main_v6_2 (F := Ideal) x0 (ix2 r k)))
        (HMul.hMul (α := EReal) (β := EReal) (γ := EReal) (gB x0 r k * val_main_v49 (F := Ideal) x0 x2 x5 x6 x7 (ix2 r k)) (val_main_v6_1 (F := Ideal) x0 (ix2 r k))) := by
    unfold val_main_v51 val_main_call1_v1 val_main_call1_v2 val_main_call1_v0
    generalize val_main_v49 (F := Ideal) x0 x2 x5 x6 x7 = X
    generalize val_main_v6_1 (F := Ideal) x0 = Y
    generalize val_main_v6_2 (F := Ideal) x0 = Z
    pointwise [val_main_v0]
    rfl
  obtain ⟨a, ha⟩ := kdy_real x0 x5 x6 x7 h5 h6 h7 1 r k
  obtain ⟨b, hb⟩ := h2 (ix2 r k)
  rw [e, e49, ref44, ref5, ref6_2, ref6_1, ha, hb, ← EReal.coe_mul, ← dbg_eq]
  unfold kbg dbg
  rw [ha, hb, ← EReal.coe_mul, _root_.mul_comm a b]

theorem lg_nOf_lOf (q : Fin 4096) : lg (nOf q) (lOf q) = q :=
  Fin.ext (by show q.val / 1024 * 1024 + q.val % 1024 = q.val; omega)

theorem res54 : (fun i : S4096x4096.Idx => kpg x0 x1 x2 x3 x4 x5 x6 x7 (nOf (i 1)) (i 0) (lOf (i 1))) = val_main_v54 (F := Ideal) x0 x1 x2 x3 x4 x5 x6 x7 := by
  refine funext fun i => ?_
  idx_vars i
  exact (ref54 x0 x1 x2 x3 x4 x5 x6 x7 _ _ _).symm.trans (by rw [lg_nOf_lOf])

theorem res42 : (fun i : S4096x256.Idx => kdy x0 x5 x6 x7 0 (i 0) (i 1)) = val_main_v42 (F := Ideal) x0 x5 x6 x7 := by
  refine funext fun i => ?_
  idx_vars i
  exact (ref42 x0 x5 x6 x7 _ _).symm

theorem res53 : (fun i : S4x4096x64.Idx => kdo x0 x5 x6 x7 (i 1) (hd (i 0) (i 2))) = val_main_v53 (F := Ideal) x0 x5 x6 x7 := by
  refine funext fun i => ?_
  idx_vars i
  exact (ref53 x0 x5 x6 x7 _ _ _).symm

theorem res51 (h2 : ∀ i, ∃ r : ℝ, x2 i = (r : EReal)) (h5 : ∀ i, ∃ r : ℝ, x5 i = (r : EReal)) (h6 : ∀ i, ∃ r : ℝ, x6 i = (r : EReal))
    (h7 : ∀ i, ∃ r : ℝ, x7 i = (r : EReal)) : (fun i : S4096x256.Idx => kbg x0 x2 x5 x6 x7 (i 0) (i 1)) = val_main_v51 (F := Ideal) x0 x2 x5 x6 x7 := by
  refine funext fun i => ?_
  idx_vars i
  exact (ref51 x0 x2 x5 x6 x7 h2 h5 h6 h7 _ _).symm

theorem res46 : (fun i : S4096x256.Idx => kdy x0 x5 x6 x7 2 (i 0) (i 1)) = val_main_v46 (F := Ideal) x0 x5 x6 x7 := by
  refine funext fun i => ?_
  idx_vars i
  exact (ref46 x0 x5 x6 x7 _ _).symm

theorem res48 : (fun i : S4096x256.Idx => kdy x0 x5 x6 x7 3 (i 0) (i 1)) = val_main_v48 (F := Ideal) x0 x5 x6 x7 := by
  refine funext fun i => ?_
  idx_vars i
  exact (ref48 x0 x5 x6 x7 _ _).symm

theorem res55 : (fun i : S4x256x1024.Idx => kwb x0 x1 x2 x3 x4 x6 x7 (i 0) (i 1) (i 2)) = val_main_v55 (F := Ideal) x0 x1 x2 x3 x4 x6 x7 := by
  refine funext fun i => ?_
  idx_vars i
  exact (ref55 x0 x1 x2 x3 x4 x6 x7 _ _ _).symm

theorem res56 : (fun i : S1024x1024.Idx => kwo x0 x1 x2 x3 x4 x5 x7 (i 0) (i 1)) = val_main_v56 (F := Ideal) x0 x1 x2 x3 x4 x5 x7 := by
  refine funext fun i => ?_
  idx_vars i
  exact (ref56 x0 x1 x2 x3 x4 x5 x7 _ _).symm

/-- The reference's run on given arguments, its results as the last stages of the line. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ (c : Dev nD) (x0 : (⟨S4096x7684, .f32⟩ : BufTy).Contents (Elt Ideal)) (x1 x2 x3 x4 : (⟨S4096x256, .f32⟩ : BufTy).Contents (Elt Ideal))
      (x5 : (⟨S4x256x1024, .f32⟩ : BufTy).Contents (Elt Ideal)) (x6 : (⟨S1024x1024, .f32⟩ : BufTy).Contents (Elt Ideal)) (x7 : (⟨S4096x1024, .f32⟩ : BufTy).Contents (Elt Ideal)),
      m ((c.tc : Thread nD τ).loc main_arg0) = x0 → m ((c.tc : Thread nD τ).loc main_arg1) = x1 → m ((c.tc : Thread nD τ).loc main_arg2) = x2 → m ((c.tc : Thread nD τ).loc main_arg3) = x3 → m ((c.tc : Thread nD τ).loc main_arg4) = x4 → m ((c.tc : Thread nD τ).loc main_arg5) = x5 → m ((c.tc : Thread nD τ).loc main_arg6) = x6 → m ((c.tc : Thread nD τ).loc main_arg7) = x7 →
      r.2.mem ((c.tc : Thread nD τ).loc main_v54) = val_main_v54 (F := Ideal) x0 x1 x2 x3 x4 x5 x6 x7
      ∧ r.2.mem ((c.tc : Thread nD τ).loc main_v42) = val_main_v42 (F := Ideal) x0 x5 x6 x7
      ∧ r.2.mem ((c.tc : Thread nD τ).loc main_v53) = val_main_v53 (F := Ideal) x0 x5 x6 x7
      ∧ r.2.mem ((c.tc : Thread nD τ).loc main_v51) = val_main_v51 (F := Ideal) x0 x2 x5 x6 x7
      ∧ r.2.mem ((c.tc : Thread nD τ).loc main_v46) = val_main_v46 (F := Ideal) x0 x5 x6 x7
      ∧ r.2.mem ((c.tc : Thread nD τ).loc main_v48) = val_main_v48 (F := Ideal) x0 x5 x6 x7
      ∧ r.2.mem ((c.tc : Thread nD τ).loc main_v55) = val_main_v55 (F := Ideal) x0 x1 x2 x3 x4 x6 x7
      ∧ r.2.mem ((c.tc : Thread nD τ).loc main_v56) = val_main_v56 (F := Ideal) x0 x1 x2 x3 x4 x5 x7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c x0 x1 x2 x3 x4 x5 x6 x7 e0 e1 e2 e3 e4 e5 e6 e7 => ?_) (Cert.MergeRIdeal.Value.run m ρ)
  subst e0 e1 e2 e3 e4 e5 e6 e7
  exact ⟨(h c).1.trans (val_main_v54_eq _ _ _ _ _ _ _ _), (h c).2.1.trans (val_main_v42_eq _ _ _ _), (h c).2.2.1.trans (val_main_v53_eq _ _ _ _), (h c).2.2.2.1.trans (val_main_v51_eq _ _ _ _ _), (h c).2.2.2.2.1.trans (val_main_v46_eq _ _ _ _), (h c).2.2.2.2.2.1.trans (val_main_v48_eq _ _ _ _), (h c).2.2.2.2.2.2.1.trans (val_main_v55_eq _ _ _ _ _ _ _), (h c).2.2.2.2.2.2.2.1.trans (val_main_v56_eq _ _ _ _ _ _ _), (h c).2.2.2.2.2.2.2.2⟩

end Reference

open Cert.MergeKIdeal Cert.MergeKIdeal.Gen

/-- The finiteness test makes the second branch's output, the two projections and the cotangent real numbers. -/
theorem real_of_pre {m : (ℓ : Loc nD τ sig) → Buf (Elt Ideal) ℓ} (hp : Cert.Pre_MergeKIdeal_finite_merge m) (c : Dev nD) :
    (∀ i, ∃ r : ℝ, m ((c.tc : Thread nD τ).loc main_arg2) i = (r : EReal)) ∧ (∀ i, ∃ r : ℝ, m ((c.tc : Thread nD τ).loc main_arg5) i = (r : EReal))
      ∧ (∀ i, ∃ r : ℝ, m ((c.tc : Thread nD τ).loc main_arg6) i = (r : EReal)) ∧ (∀ i, ∃ r : ℝ, m ((c.tc : Thread nD τ).loc main_arg7) i = (r : EReal)) := by
  have h := congrFun (hp c) (fun a => a.elim0)
  dsimp only [Cert.Pre_finite_merge.fn, Cert.Pre_finite_merge.fn_part1] at h
  have h3 := IntOp.andi_eq_one.1 h
  have h2 := IntOp.andi_eq_one.1 h3.1
  have h1 := IntOp.andi_eq_one.1 h2.1
  haveI : Subsingleton (Cert.Pre_finite_merge.S_).Idx := ⟨fun x y => funext fun a => a.elim0⟩
  exact ⟨fun i => Cert.Num.real_of_test _ _ i rfl (Host.reduce_andi_all _ _ _ _ _ h1.1 i),
    fun i => Cert.Num.real_of_test _ _ i rfl (Host.reduce_andi_all _ _ _ _ _ h1.2 i),
    fun i => Cert.Num.real_of_test _ _ i rfl (Host.reduce_andi_all _ _ _ _ _ h2.2 i),
    fun i => Cert.Num.real_of_test _ _ i rfl (Host.reduce_andi_all _ _ _ _ _ h3.2 i)⟩

theorem algebraic : Cert.algebraic_MergeKIdeal_MergeRIdeal_pre_finite_merge := by
  intro m g m' g' hpre hagree
  refine ⟨fun c => Cert.MergeRIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Cert.MergeRIdeal.Read.val_main_v42 (F := Ideal) (m ((c.tc : Thread nD τ).loc main_arg0)) (m ((c.tc : Thread nD τ).loc main_arg5)) (m ((c.tc : Thread nD τ).loc main_arg6)) (m ((c.tc : Thread nD τ).loc main_arg7)),
    fun c => Cert.MergeRIdeal.Read.val_main_v53 (F := Ideal) (m ((c.tc : Thread nD τ).loc main_arg0)) (m ((c.tc : Thread nD τ).loc main_arg5)) (m ((c.tc : Thread nD τ).loc main_arg6)) (m ((c.tc : Thread nD τ).loc main_arg7)),
    fun c => Cert.MergeRIdeal.Read.val_main_v51 (F := Ideal) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)),
    fun c => Cert.MergeRIdeal.Read.val_main_v46 (F := Ideal) (m ((c.tc : Thread nD τ).loc main_arg0)) (m ((c.tc : Thread nD τ).loc main_arg5)) (m ((c.tc : Thread nD τ).loc main_arg6)) (m ((c.tc : Thread nD τ).loc main_arg7)),
    fun c => Cert.MergeRIdeal.Read.val_main_v48 (F := Ideal) (m ((c.tc : Thread nD τ).loc main_arg0)) (m ((c.tc : Thread nD τ).loc main_arg5)) (m ((c.tc : Thread nD τ).loc main_arg6)) (m ((c.tc : Thread nD τ).loc main_arg7)),
    fun c => Cert.MergeRIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)),
    fun c => Cert.MergeRIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)), ?_, ?_⟩
  · refine Idealize.ShloMosaic.θ_run_mono (Cert.MergeKIdeal.Value.run_blocks m g) ?_
    intro r hr c
    obtain ⟨h2, h5, h6, h7⟩ := real_of_pre hpre c
    exact ⟨(hr c).1.trans ((fin10 m c).trans (res54 _ _ _ _ _ _ _ _)),
      (hr c).2.1.trans ((fin11 m c).trans (res42 _ _ _ _)),
      (hr c).2.2.1.trans ((fin12 m c).trans (res53 _ _ _ _)),
      (hr c).2.2.2.1.trans ((fin13 m c).trans (res51 _ _ _ _ _ h2 h5 h6 h7)),
      (hr c).2.2.2.2.1.trans ((fin14 m c).trans (res46 _ _ _ _)),
      (hr c).2.2.2.2.2.1.trans ((fin15 m c).trans (res48 _ _ _ _)),
      (hr c).2.2.2.2.2.2.1.trans ((fin16 m c).trans (res55 _ _ _ _ _ _ _)),
      (hr c).2.2.2.2.2.2.2.1.trans ((fin17 m c).trans (res56 _ _ _ _ _ _ _)),
      (hr c).2.2.2.2.2.2.2.2⟩
  · refine Idealize.ShloMosaic.θ_run_mono (ref_run m' g') ?_
    intro r hr c
    obtain ⟨e0, e1, e2, e3, e4, e5, e6, e7⟩ := hagree c
    exact hr c _ _ _ _ _ _ _ _ e0 e1 e2 e3 e4 e5 e6 e7

end Cert.Merge

end
-- ==== Proof.Join.lean ====
/- The forward merge of the branches: what the kernel's two results hold. -/
module

public import proofs.«01_k».proof.Proof.MergePair
public import proofs.«01_k».proof.Proof.Gen.JoinKIdeal.Frame

@[expose] public section

set_option maxRecDepth 16384

noncomputable section

open Idealize.ShloMosaic Idealize.ShloMosaic.TcCoe Idealize.SL.Sem

namespace Cert.JoinKIdeal.Value

open Cert.JoinKIdeal Cert.JoinKIdeal.Gen
open Cert.MergeKIdeal.Value (sg lg)

/-- Four gated projections added in turn. -/
def G4 (p0 p1 p2 p3 s0 s1 s2 s3 : EReal) : EReal := sg p0 * s0 + sg p1 * s1 + sg p2 * s2 + sg p3 * s3

/-- The product of a row of a branch and a column of its matrix's slice. -/
def pj (y : FVec Ideal S256x256 .bf16) (w : Vec Ideal S1x256x256 .bf16) (r k : Fin 256) : EReal := ∑ q : Fin 256, HMul.hMul (α := EReal) (y (ix2 r q)) (w (ix3 0 q k))

section Chunks

variable (ya yb yc yd : FVec Ideal S256x256 .bf16) (p0 p1 p2 p3 : Vec Ideal S256x256 .f32) (w0 w1 w2 w3 : Vec Ideal S1x256x256 .bf16) (u : Vec Ideal S256x1024 .bf16)
  (x : FVec Ideal S256x1024 .f32) (r : Fin 256) (e : Fin 1024)

/-- A chunk's part of the output. -/
def chunk : EReal := ∑ k : Fin 256, HMul.hMul (α := EReal) (G4 (p0 (ix2 r k)) (p1 (ix2 r k)) (p2 (ix2 r k)) (p3 (ix2 r k)) (pj ya w0 r k) (pj yb w1 r k) (pj yc w2 r k) (pj yd w3 r k)) (u (ix2 k e))

theorem chunk0 : k0_pay9 yc yd x (k0_pay7 yb ya (k0_pay6 (F := Ideal)) p0 w0 p1 w1) (k0_pay8 p2) w2 p3 w3 u (ix2 r e)
    = HAdd.hAdd (α := EReal) (x (ix2 r e)) (chunk ya yb yc yd p0 p1 p2 p3 w0 w1 w2 w3 u r e) := by
  pointwise [k0_pay9, k0_pay7, k0_pay6, k0_pay8, chunk, G4, pj, sg]

theorem chunk1 : k0_pay14 yd x (k0_pay12 yb ya yc (k0_pay10 (F := Ideal)) (k0_pay11 p0) w0 p1 w1 p2 w2) (k0_pay13 p3) (FloatOps.ofBits (F := Ideal) .f32 0x3F000000#32) w3 u (ix2 r e)
    = HAdd.hAdd (α := EReal) (x (ix2 r e)) (chunk ya yb yc yd p0 p1 p2 p3 w0 w1 w2 w3 u r e) := by
  pointwise [k0_pay14, k0_pay12, k0_pay10, k0_pay11, k0_pay13, chunk, G4, pj, sg]

theorem chunk2 : k0_pay19 x (k0_pay18 yb yc yd (k0_pay15 ya p0 w0) (k0_pay16 p1) (k0_pay17 (F := Ideal)) w1 p2 w2 p3 w3) u (ix2 r e)
    = HAdd.hAdd (α := EReal) (x (ix2 r e)) (chunk ya yb yc yd p0 p1 p2 p3 w0 w1 w2 w3 u r e) := by
  pointwise [k0_pay19, k0_pay18, k0_pay15, k0_pay16, k0_pay17, chunk, G4, pj, sg]

theorem chunk3 : k0_pay1 yc yd x (k0_pay20 yb ya p0 w0 p1 w1) (k0_pay21 p2) w2 p3 w3 u (ix2 r e)
    = HAdd.hAdd (α := EReal) (x (ix2 r e)) (chunk ya yb yc yd p0 p1 p2 p3 w0 w1 w2 w3 u r e) := by
  pointwise [k0_pay1, k0_pay20, k0_pay21, chunk, G4, pj, sg]

end Chunks

section Block

variable (x0 : Vec Ideal S256x1024 .f32) (x1 x2 x3 : Vec Ideal S256x256 .bf16) (x4 : Vec Ideal S4x256x64 .f32) (x5 : Vec Ideal S256x256 .f32)
  (x6 : Vec Ideal S256x4096 .f32) (x7 : Vec Ideal S4x256x1024 .bf16) (x8 : Vec Ideal S1024x1024 .bf16)

/-- The gated second branch of a block. -/
def bY (r k : Fin 256) : EReal :=
  HMul.hMul (α := EReal) (x4 (ix3 ⟨k.val / 64, by omega⟩ r ⟨k.val % 64, by omega⟩)) (HMul.hMul (α := EReal) (x5 (ix2 r k)) (sg (x5 (ix2 r k))))

theorem pay2 (r k : Fin 256) : k0_pay2 (F := Ideal) (View.ld x4 r0_0) (View.ld x4 r0_1) (View.ld x4 r0_2) (View.ld x4 r0_3) x5 (ix2 r k) = bY x4 x5 r k := by
  have e (h : Fin 4) (e : Fin 64) (he : h.val * 64 + e.val = k.val) : x4 (ix3 h r e) = x4 (ix3 ⟨k.val / 64, by omega⟩ r ⟨k.val % 64, by omega⟩) := by
    have h1 : h = ⟨k.val / 64, by omega⟩ := Fin.ext (by show h.val = k.val / 64; omega)
    have h2 : e = ⟨k.val % 64, by omega⟩ := Fin.ext (by show e.val = k.val % 64; omega)
    rw [← h1, ← h2]
  have hk := k.isLt
  pointwise [k0_pay2, bY, sg]
  congr 1
  by_cases h1 : k.val < 64
  · rw [dif_pos h1]
    exact e _ _ (by show 0 * 64 + k.val = k.val; omega)
  rw [dif_neg h1]
  by_cases h2 : k.val - 64 < 64
  · rw [dif_pos h2]
    exact e _ _ (by show 1 * 64 + (k.val - 64) = k.val; omega)
  rw [dif_neg h2]
  by_cases h3 : k.val - 64 - 64 < 64
  · rw [dif_pos h3]
    exact e _ _ (by show 2 * 64 + (k.val - 64 - 64) = k.val; omega)
  rw [dif_neg h3]
  exact e _ _ (by show 3 * 64 + (k.val - 64 - 64 - 64) = k.val; omega)

theorem pay22 (r k : Fin 256) : k0_pay22 x0 x1 x2 x3 x4 x5 x6 x7 x8 (ix2 r k) = bY x4 x5 r k := by
  unfold k0_pay22
  rw [pay2]
  pointwise [bY]

/-- The merged row of a block, before the output's matrix. -/
def bM (r : Fin 256) (l : Fin 1024) : EReal :=
  G4 (x6 (ix2 r (lg 0 l))) (x6 (ix2 r (lg 1 l))) (x6 (ix2 r (lg 2 l))) (x6 (ix2 r (lg 3 l)))
    (∑ q : Fin 256, HMul.hMul (α := EReal) (x1 (ix2 r q)) (x7 (ix3 0 q l))) (∑ q : Fin 256, HMul.hMul (α := EReal) (bY x4 x5 r q) (x7 (ix3 1 q l)))
    (∑ q : Fin 256, HMul.hMul (α := EReal) (x2 (ix2 r q)) (x7 (ix3 2 q l))) (∑ q : Fin 256, HMul.hMul (α := EReal) (x3 (ix2 r q)) (x7 (ix3 3 q l)))

theorem part0 (r : Fin 256) (e : Fin 1024) :
    chunk (k0_pay23 x0 x1 x2 x3 x4 x5 x6 x7 x8) (k0_pay22 x0 x1 x2 x3 x4 x5 x6 x7 x8) (k0_pay24 x0 x1 x2 x3 x4 x5 x6 x7 x8) (k0_pay25 x0 x1 x2 x3 x4 x5 x6 x7 x8)
      (View.ld x6 r0_6) (View.ld x6 r0_8) (View.ld x6 r0_10) (View.ld x6 r0_12) (View.ld x7 r0_7) (View.ld x7 r0_9) (View.ld x7 r0_11) (View.ld x7 r0_13) (View.ld x8 r0_14) r e
    = ∑ k : Fin 256, HMul.hMul (α := EReal) (bM x1 x2 x3 x4 x5 x6 x7 r ⟨0 * 256 + k.val, by omega⟩) (x8 (ix2 ⟨0 * 256 + k.val, by omega⟩ e)) := by
  unfold chunk bM pj lg k0_pay23 k0_pay24 k0_pay25
  refine Finset.sum_congr rfl fun k _ => ?_
  simp only [pay22]
  pointwise [k0_pay3, k0_pay4, k0_pay5]

theorem part1 (r : Fin 256) (e : Fin 1024) :
    chunk (k0_pay23 x0 x1 x2 x3 x4 x5 x6 x7 x8) (k0_pay22 x0 x1 x2 x3 x4 x5 x6 x7 x8) (k0_pay24 x0 x1 x2 x3 x4 x5 x6 x7 x8) (k0_pay25 x0 x1 x2 x3 x4 x5 x6 x7 x8)
      (View.ld x6 r0_15) (View.ld x6 r0_17) (View.ld x6 r0_19) (View.ld x6 r0_21) (View.ld x7 r0_16) (View.ld x7 r0_18) (View.ld x7 r0_20) (View.ld x7 r0_22) (View.ld x8 r0_23) r e
    = ∑ k : Fin 256, HMul.hMul (α := EReal) (bM x1 x2 x3 x4 x5 x6 x7 r ⟨1 * 256 + k.val, by omega⟩) (x8 (ix2 ⟨1 * 256 + k.val, by omega⟩ e)) := by
  unfold chunk bM pj lg k0_pay23 k0_pay24 k0_pay25
  refine Finset.sum_congr rfl fun k _ => ?_
  simp only [pay22]
  pointwise [k0_pay3, k0_pay4, k0_pay5]
  simp only [← Nat.add_assoc, Nat.reduceAdd]

theorem part2 (r : Fin 256) (e : Fin 1024) :
    chunk (k0_pay23 x0 x1 x2 x3 x4 x5 x6 x7 x8) (k0_pay22 x0 x1 x2 x3 x4 x5 x6 x7 x8) (k0_pay24 x0 x1 x2 x3 x4 x5 x6 x7 x8) (k0_pay25 x0 x1 x2 x3 x4 x5 x6 x7 x8)
      (View.ld x6 r0_24) (View.ld x6 r0_26) (View.ld x6 r0_28) (View.ld x6 r0_30) (View.ld x7 r0_25) (View.ld x7 r0_27) (View.ld x7 r0_29) (View.ld x7 r0_31) (View.ld x8 r0_32) r e
    = ∑ k : Fin 256, HMul.hMul (α := EReal) (bM x1 x2 x3 x4 x5 x6 x7 r ⟨2 * 256 + k.val, by omega⟩) (x8 (ix2 ⟨2 * 256 + k.val, by omega⟩ e)) := by
  unfold chunk bM pj lg k0_pay23 k0_pay24 k0_pay25
  refine Finset.sum_congr rfl fun k _ => ?_
  simp only [pay22]
  pointwise [k0_pay3, k0_pay4, k0_pay5]
  simp only [← Nat.add_assoc, Nat.reduceAdd]

theorem part3 (r : Fin 256) (e : Fin 1024) :
    chunk (k0_pay23 x0 x1 x2 x3 x4 x5 x6 x7 x8) (k0_pay22 x0 x1 x2 x3 x4 x5 x6 x7 x8) (k0_pay24 x0 x1 x2 x3 x4 x5 x6 x7 x8) (k0_pay25 x0 x1 x2 x3 x4 x5 x6 x7 x8)
      (View.ld x6 r0_33) (View.ld x6 r0_35) (View.ld x6 r0_37) (View.ld x6 r0_39) (View.ld x7 r0_34) (View.ld x7 r0_36) (View.ld x7 r0_38) (View.ld x7 r0_40) (View.ld x8 r0_41) r e
    = ∑ k : Fin 256, HMul.hMul (α := EReal) (bM x1 x2 x3 x4 x5 x6 x7 r ⟨3 * 256 + k.val, by omega⟩) (x8 (ix2 ⟨3 * 256 + k.val, by omega⟩ e)) := by
  unfold chunk bM pj lg k0_pay23 k0_pay24 k0_pay25
  refine Finset.sum_congr rfl fun k _ => ?_
  simp only [pay22]
  pointwise [k0_pay3, k0_pay4, k0_pay5]
  simp only [← Nat.add_assoc, Nat.reduceAdd]

theorem block9 (r : Fin 256) (e : Fin 1024) : out0_9 (F := Ideal) x0 x1 x2 x3 x4 x5 x6 x7 x8 (ix2 r e)
    = HAdd.hAdd (α := EReal) (x0 (ix2 r e)) (∑ l : Fin 1024, HMul.hMul (α := EReal) (bM x1 x2 x3 x4 x5 x6 x7 r l) (x8 (ix2 l e))) := by
  frame_out
  rw [chunk3, chunk2, chunk1, chunk0, part0, part1, part2, part3, Fin.sum_univ_tiles 4 256 rfl fun l : Fin 1024 => HMul.hMul (α := EReal) (bM x1 x2 x3 x4 x5 x6 x7 r l) (x8 (ix2 l e)),
    Fin.sum_univ_four]
  pointwise
  simp only [add_assoc]

theorem block10 (r k : Fin 256) : out0_10 (F := Ideal) x0 x1 x2 x3 x4 x5 x6 x7 x8 (ix2 r k) = bY x4 x5 r k := by
  frame_out
  exact pay2 x4 x5 r k

end Block

end Cert.JoinKIdeal.Value

end
-- ==== Proof.JoinPair.lean ====
/- The forward merge of the branches: the kernel's results are the reference's. -/
module

public import proofs.«01_k».proof.Defs
public import proofs.«01_k».proof.Proof.Join
public import proofs.«01_k».proof.Proof.Gen.JoinKIdeal.Value
public import proofs.«01_k».proof.Proof.Gen.JoinRIdeal.Run
public import proofs.«01_k».proof.Proof.Gen.JoinRIdeal.Read

@[expose] public section

set_option maxRecDepth 16384

noncomputable section

open Idealize.ShloMosaic Idealize.ShloMosaic.TcCoe Idealize.SL.Sem

namespace Cert.Join

open Cert.MergeKIdeal.Value (sg lg hd gP gB gY gW gV gM gp pr)
open Cert.Merge (sg_logistic)

section Reference

open Cert.JoinRIdeal Cert.JoinRIdeal.Read

variable (x0 : (⟨S4096x1024, .f32⟩ : BufTy).Contents (Elt Ideal)) (x1 : (⟨S4096x7684, .f32⟩ : BufTy).Contents (Elt Ideal)) (x2 x3 x4 x5 : (⟨S4096x256, .f32⟩ : BufTy).Contents (Elt Ideal))
  (x6 : (⟨S4x256x1024, .f32⟩ : BufTy).Contents (Elt Ideal)) (x7 : (⟨S1024x1024, .f32⟩ : BufTy).Contents (Elt Ideal))

/-- The gate's swish of the second branch. -/
theorem ref1 (r : Fin 4096) (k : Fin 256) : val_main_v1 (F := Ideal) x1 (ix2 r k) = gB x1 r k * Ideal.div 1 (1 + Ideal.exp (-gB x1 r k)) := by
  unfold val_main_v1 gB
  pointwise [val_main_call0_v5, val_main_call0_v4, val_main_call0_v3, val_main_call0_v2, val_main_call0_v1, val_main_call0_v0, val_main_call0_cst, val_main_call0_cst_0, val_main_v0]
  try rfl

theorem ref2 (r : Fin 4096) (k : Fin 256) : val_main_v2 (F := Ideal) x1 x3 (ix2 r k) = gY x1 x2 x3 x4 x5 1 r k := by
  have e : val_main_v2 (F := Ideal) x1 x3 (ix2 r k) = HMul.hMul (α := EReal) (β := EReal) (γ := EReal) (x3 (ix2 r k)) (val_main_v1 (F := Ideal) x1 (ix2 r k)) := by
    unfold val_main_v2
    generalize val_main_v1 (F := Ideal) x1 = X
    pointwise
  rw [e, ref1]
  rfl

/-- The branches' rows, stacked. -/
theorem ref7 (n : Fin 4) (r : Fin 4096) (k : Fin 256) : val_main_v7 (F := Ideal) x1 x2 x3 x4 x5 (ix3 r n k) = gY x1 x2 x3 x4 x5 n r k := by
  have h4 : val_main_v4 (F := Ideal) x1 x3 (ix3 r 0 k) = val_main_v2 (F := Ideal) x1 x3 (ix2 r k) := by
    unfold val_main_v4
    generalize val_main_v2 (F := Ideal) x1 x3 = X
    pointwise
  fin_cases n
  · show val_main_v7 (F := Ideal) x1 x2 x3 x4 x5 (ix3 r 0 k) = x2 (ix2 r k)
    unfold val_main_v7
    generalize val_main_v4 (F := Ideal) x1 x3 = X
    pointwise [val_main_v3]
  · refine Eq.trans ?_ (ref2 x1 x2 x3 x4 x5 r k)
    rw [← h4]
    show val_main_v7 (F := Ideal) x1 x2 x3 x4 x5 (ix3 r 1 k) = _
    unfold val_main_v7
    generalize val_main_v4 (F := Ideal) x1 x3 = X
    pointwise
  · show val_main_v7 (F := Ideal) x1 x2 x3 x4 x5 (ix3 r 2 k) = x4 (ix2 r k)
    unfold val_main_v7
    generalize val_main_v4 (F := Ideal) x1 x3 = X
    pointwise [val_main_v5]
  · show val_main_v7 (F := Ideal) x1 x2 x3 x4 x5 (ix3 r 3 k) = x5 (ix2 r k)
    unfold val_main_v7
    generalize val_main_v4 (F := Ideal) x1 x3 = X
    pointwise [val_main_v6]

/-- The branches' projected rows. -/
theorem ref9 (n : Fin 4) (r : Fin 4096) (l : Fin 1024) : val_main_v9 (F := Ideal) x1 x2 x3 x4 x5 x6 (ix3 r n l) = gV x1 x2 x3 x4 x5 x6 n r l := by
  have e : val_main_v9 (F := Ideal) x1 x2 x3 x4 x5 x6 (ix3 r n l)
      = ∑ k : Fin 256, HMul.hMul (α := EReal) (β := EReal) (γ := EReal) (x6 (ix3 n k l)) (val_main_v7 (F := Ideal) x1 x2 x3 x4 x5 (ix3 r n k)) := by
    unfold val_main_v9 val_main_v8
    generalize val_main_v7 (F := Ideal) x1 x2 x3 x4 x5 = X
    pointwise
  rw [e]
  unfold gV pr gW
  exact Finset.sum_congr rfl fun k _ => by rw [ref7]; exact mul_comm _ _

theorem ref17 (n : Fin 4) (r : Fin 4096) (l : Fin 1024) : val_main_v17 (F := Ideal) x1 (ix3 r n l) = sg (gP x1 n r l) := by
  refine Eq.trans ?_ (sg_logistic _)
  unfold val_main_v17
  pointwise [val_main_v16, val_main_v15, val_main_v14, val_main_v13, val_main_v12, val_main_v11, val_main_v10, val_main_cst, val_main_cst_0]
  rfl

/-- The merged rows. -/
theorem ref19 (r : Fin 4096) (l : Fin 1024) : val_main_v19 (F := Ideal) x1 x2 x3 x4 x5 x6 (ix2 r l) = gM x1 x2 x3 x4 x5 x6 r l := by
  have e : val_main_v19 (F := Ideal) x1 x2 x3 x4 x5 x6 (ix2 r l) = ∑ n : Fin 4,
      HMul.hMul (α := EReal) (β := EReal) (γ := EReal) (val_main_v17 (F := Ideal) x1 (ix3 r n l)) (val_main_v9 (F := Ideal) x1 x2 x3 x4 x5 x6 (ix3 r n l)) := by
    unfold val_main_v19 val_main_v18
    generalize val_main_v17 (F := Ideal) x1 = X
    generalize val_main_v9 (F := Ideal) x1 x2 x3 x4 x5 x6 = Y
    pointwise [val_main_cst_1]
  rw [e]
  unfold gM gp
  exact Finset.sum_congr rfl fun n _ => by rw [ref17, ref9]

/-- The output rows: the input plus the merged rows' product. -/
def KX (r : Fin 4096) (e : Fin 1024) : EReal := HAdd.hAdd (α := EReal) (x0 (ix2 r e)) (∑ l : Fin 1024, HMul.hMul (α := EReal) (gM x1 x2 x3 x4 x5 x6 r l) (x7 (ix2 l e)))

theorem ref21 (r : Fin 4096) (e : Fin 1024) : val_main_v21 (F := Ideal) x0 x1 x2 x3 x4 x5 x6 x7 (ix2 r e) = KX x0 x1 x2 x3 x4 x5 x6 x7 r e := by
  unfold KX
  simp only [← ref19]
  unfold val_main_v21 val_main_v20
  generalize val_main_v19 (F := Ideal) x1 x2 x3 x4 x5 x6 = X
  pointwise

theorem ref22 (r : Fin 4096) (k : Fin 256) : val_main_v22 (F := Ideal) x1 x3 (ix2 r k) = gY x1 x2 x3 x4 x5 1 r k := by
  refine Eq.trans ?_ (ref2 x1 x2 x3 x4 x5 r k)
  unfold val_main_v22
  generalize val_main_v2 (F := Ideal) x1 x3 = X
  pointwise

/-- The reference's run on given arguments, its results the last stages of the line. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v22) = val_main_v22 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (val_main_v21_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), (h c).2.1.trans (val_main_v22_eq (m ((c.tc : Thread nD τ).loc main_arg1)) (m ((c.tc : Thread nD τ).loc main_arg3))), (h c).2.2⟩)
    (Cert.JoinRIdeal.Value.run m ρ)

end Reference

open Cert.JoinKIdeal Cert.JoinKIdeal.Gen Cert.JoinKIdeal.Value

variable (m : (ℓ : Loc nD τ sig) → Buf (Elt Ideal) ℓ) (c : Dev nD)

/-- Row `r` of the block the point `t` works on. -/
def row (t : Fin cfg0.N) (r : Fin 256) : Fin 4096 := ⟨t.val * 256 + r.val, by have := t.isLt.trans_eq N_0; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![t.val, 6]
    ∧ win0_6.index t = ![t.val, 0] ∧ win0_7.index t = ![0, 0, 0] ∧ win0_8.index t = ![0, 0] ∧ win0_9.index t = ![t.val, 0]
    ∧ win0_10.index t = ![t.val, 0] :=
  (by decide +kernel : ∀ t : Fin grid0.N, _)

open Cert.MergeKIdeal.Value (hpm hpm_at)

theorem V_pm : V m c main_v5 = hpm (m ((c : Thread nD τ).loc main_arg1)) := by
  show StableHlo.after hostOps0 _ _ = _
  after_results
  rfl

theorem V_o (h : Fin 4) (r : Fin 4096) (e : Fin 64) : V m c main_v12 (ix3 h r e) = m ((c : Thread nD τ).loc main_arg3) (ix2 r (hd h e)) := by
  show StableHlo.after hostOps0 _ _ _ = _
  after_results
  unfold hd
  generalize m ((c : Thread nD τ).loc main_arg3) = X
  pointwise

theorem V_pg (n : Fin 4) (r : Fin 4096) (l : Fin 1024) : V m c main_v6 (ix2 r (lg n l)) = gP (m ((c : Thread nD τ).loc main_arg1)) n r l := by
  show StableHlo.after hostOps0 _ _ _ = _
  after_results
  unfold gP lg
  generalize m ((c : Thread nD τ).loc main_arg1) = X
  pointwise

theorem V_ya : V m c main_v8 = m ((c : Thread nD τ).loc main_arg2) := by
  funext i
  show StableHlo.after hostOps0 _ _ _ = _
  after_results
  generalize m ((c : Thread nD τ).loc main_arg2) = X
  pointwise

theorem V_yc : V m c main_v9 = m ((c : Thread nD τ).loc main_arg4) := by
  funext i
  show StableHlo.after hostOps0 _ _ _ = _
  after_results
  generalize m ((c : Thread nD τ).loc main_arg4) = X
  pointwise

theorem V_yd : V m c main_v10 = m ((c : Thread nD τ).loc main_arg5) := by
  funext i
  show StableHlo.after hostOps0 _ _ _ = _
  after_results
  generalize m ((c : Thread nD τ).loc main_arg5) = X
  pointwise

theorem V_wb : V m c main_v13 = m ((c : Thread nD τ).loc main_arg6) := by
  funext i
  show StableHlo.after hostOps0 _ _ _ = _
  after_results
  generalize m ((c : Thread nD τ).loc main_arg6) = X
  pointwise

theorem V_wo : V m c main_v14 = m ((c : Thread nD τ).loc main_arg7) := by
  funext i
  show StableHlo.after hostOps0 _ _ _ = _
  after_results
  generalize m ((c : Thread nD τ).loc main_arg7) = X
  pointwise

theorem V_x : V m c main_arg0 = m ((c : Thread nD τ).loc main_arg0) := by
  show StableHlo.after hostOps0 _ _ = _
  after_results

section Blk

variable (t : Fin cfg0.N) (r : Fin 256)

theorem blk0 (k : Fin 1024) : iblk m c 0 t (ix2 r k) = m ((c : Thread nD τ).loc main_arg0) (ix2 (row t r) k) := by
  rw [← V_x m c]; unfold row; blk_point [iblk, V, idx t]

theorem blk1 (k : Fin 256) : iblk m c 1 t (ix2 r k) = m ((c : Thread nD τ).loc main_arg2) (ix2 (row t r) k) := by
  rw [← V_ya m c]; unfold row; blk_point [iblk, V, idx t]

theorem blk2 (k : Fin 256) : iblk m c 2 t (ix2 r k) = m ((c : Thread nD τ).loc main_arg4) (ix2 (row t r) k) := by
  rw [← V_yc m c]; unfold row; blk_point [iblk, V, idx t]

theorem blk3 (k : Fin 256) : iblk m c 3 t (ix2 r k) = m ((c : Thread nD τ).loc main_arg5) (ix2 (row t r) k) := by
  rw [← V_yd m c]; unfold row; blk_point [iblk, V, idx t]

theorem blk4 (h : Fin 4) (e : Fin 64) : iblk m c 4 t (ix3 h r e) = m ((c : Thread nD τ).loc main_arg3) (ix2 (row t r) (hd h e)) := by
  rw [← V_o m c]; unfold row; blk_point [iblk, V, idx t]

theorem blk5 (k : Fin 256) : iblk m c 5 t (ix2 r k) = gB (m ((c : Thread nD τ).loc main_arg1)) (row t r) k := by
  rw [← hpm_at, ← V_pm m c]; unfold row; blk_point [iblk, V, idx t]

theorem blk6 (n : Fin 4) (l : Fin 1024) : iblk m c 6 t (ix2 r (lg n l)) = gP (m ((c : Thread nD τ).loc main_arg1)) n (row t r) l := by
  rw [← V_pg m c]; unfold row; blk_point [iblk, V, idx t]

theorem blk7 (n : Fin 4) (k : Fin 256) (l : Fin 1024) : iblk m c 7 t (ix3 n k l) = gW (m ((c : Thread nD τ).loc main_arg6)) n k l := by
  unfold gW
  rw [← V_wb m c]; blk_point [iblk, V, idx t]

theorem blk8 (l k : Fin 1024) : iblk m c 8 t (ix2 l k) = m ((c : Thread nD τ).loc main_arg7) (ix2 l k) := by
  rw [← V_wo m c]; blk_point [iblk, V, idx t]

theorem bY_at (k : Fin 256) : bY (iblk m c 4 t) (iblk m c 5 t) r k
    = gY (m ((c : Thread nD τ).loc main_arg1)) (m ((c : Thread nD τ).loc main_arg2)) (m ((c : Thread nD τ).loc main_arg3)) (m ((c : Thread nD τ).loc main_arg4)) (m ((c : Thread nD τ).loc main_arg5)) 1 (row t r) k := by
  unfold bY
  rw [blk4, blk5, ← sg_logistic]
  have e : hd ⟨k.val / 64, by omega⟩ ⟨k.val % 64, by omega⟩ = k := Fin.ext (by show k.val / 64 * 64 + k.val % 64 = k.val; omega)
  rw [e]
  rfl

theorem bM_at (l : Fin 1024) : bM (iblk m c 1 t) (iblk m c 2 t) (iblk m c 3 t) (iblk m c 4 t) (iblk m c 5 t) (iblk m c 6 t) (iblk m c 7 t) r l
    = gM (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) l := by
  unfold bM G4 gM gp gV pr
  rw [Fin.sum_univ_four]
  simp only [bY_at, blk1, blk2, blk3, blk6, blk7]
  rfl

end Blk

/-- The output rows, from the kernel's arguments. -/
def KX9 : FVec Ideal S4096x1024 .f32 := fun i => KX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1)

/-- The second branch's rows, from the kernel's arguments. -/
def KY10 : FVec Ideal S4096x256 .bf16 := fun i => gY (m ((c : Thread nD τ).loc main_arg1)) (m ((c : Thread nD τ).loc main_arg2)) (m ((c : Thread nD τ).loc main_arg3)) (m ((c : Thread nD τ).loc main_arg4)) (m ((c : Thread nD τ).loc main_arg5)) 1 (i 0) (i 1)

theorem read9 (t : Fin cfg0.N) (G : S4096x1024.Idx → EReal) (r : Fin 256) (k : Fin 1024) :
    ((cfg0.win 9).blk t).view.read (Elt Ideal) G (ix2 r k) = G (ix2 (row t r) k) := by
  unfold row; blk_point [idx t]

theorem tile9 (t : Fin cfg0.N) (r : Fin 256) (e : Fin 1024) : out0_9 (iblk m c 0 t) (iblk m c 1 t) (iblk m c 2 t) (iblk m c 3 t) (iblk m c 4 t) (iblk m c 5 t) (iblk m c 6 t) (iblk m c 7 t) (iblk m c 8 t) (ix2 r e) = KX9 m c (ix2 (row t r) e) := by
  refine (block9 _ _ _ _ _ _ _ _ _ r e).trans ?_
  rw [blk0]
  simp only [bM_at, blk8]
  rfl

theorem fin9 : (dats m 0 c).arrAt 9 cfg0.N = KX9 m c := by
  refine (dats m 0 c).arrAt_eq_of_covers 9 _ (by decide +kernel) fun t hf y => ?_
  rw [after0_9]
  idx_vars y
  refine Eq.trans ?_ (read9 t (KX9 m c) y0 y1).symm
  have h := tile9 m c t y0 y1
  generalize out0_9 (iblk m c 0 t) (iblk m c 1 t) (iblk m c 2 t) (iblk m c 3 t) (iblk m c 4 t) (iblk m c 5 t) (iblk m c 6 t) (iblk m c 7 t) (iblk m c 8 t) = O at h ⊢
  exact h

theorem read10 (t : Fin cfg0.N) (G : S4096x256.Idx → EReal) (r k : Fin 256) :
    ((cfg0.win 10).blk t).view.read (Elt Ideal) G (ix2 r k) = G (ix2 (row t r) k) := by
  unfold row; blk_point [idx t]

theorem tile10 (t : Fin cfg0.N) (r k : Fin 256) : out0_10 (iblk m c 0 t) (iblk m c 1 t) (iblk m c 2 t) (iblk m c 3 t) (iblk m c 4 t) (iblk m c 5 t) (iblk m c 6 t) (iblk m c 7 t) (iblk m c 8 t) (ix2 r k) = KY10 m c (ix2 (row t r) k) :=
  (block10 _ _ _ _ _ _ _ _ _ r k).trans (bY_at m c t r k)

theorem fin10 : (dats m 0 c).arrAt 10 cfg0.N = KY10 m c := by
  refine (dats m 0 c).arrAt_eq_of_covers 10 _ (by decide +kernel) fun t hf y => ?_
  rw [after0_10]
  idx_vars y
  refine Eq.trans ?_ (read10 t (KY10 m c) y0 y1).symm
  have h := tile10 m c t y0 y1
  generalize out0_10 (iblk m c 0 t) (iblk m c 1 t) (iblk m c 2 t) (iblk m c 3 t) (iblk m c 4 t) (iblk m c 5 t) (iblk m c 6 t) (iblk m c 7 t) (iblk m c 8 t) = O at h ⊢
  exact h

theorem algebraic : Cert.algebraic_JoinKIdeal_JoinRIdeal := by
  pair_intro
  · run_from Cert.JoinKIdeal.Value.run_blocks m g
  · refine Idealize.ShloMosaic.θ_run_mono (ref_run m' g') ?_
    intro r hr c
    have hc := hr c
    refine ⟨hc.1.trans ?_, hc.2.1.trans ?_, hc.2.2⟩
    · rw [(hagree c).1, (hagree c).2.1, (hagree c).2.2.1, (hagree c).2.2.2.1, (hagree c).2.2.2.2.1, (hagree c).2.2.2.2.2.1, (hagree c).2.2.2.2.2.2.1, (hagree c).2.2.2.2.2.2.2]
      clear hc hr
      rw [fin9]
      funext i
      idx_vars i
      show _ = KX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i0 i1
      exact ref21 _ _ _ _ _ _ _ _ _ _
    · rw [(hagree c).2.1, (hagree c).2.2.2.1]
      clear hc hr
      rw [fin10]
      funext i
      idx_vars i
      exact ref22 _ _ _ _ _ _ _

end Cert.Join

end
-- ==== Proof.BlendPair.lean ====
/- Stub. -/
module

public import proofs.«01_k».proof.Defs
public import proofs.«01_k».proof.Proof.Gen.BlendKIdeal.Value
public import proofs.«01_k».proof.Proof.Gen.BlendKIdeal.Frame
public import proofs.«01_k».proof.Proof.Gen.BlendRIdeal.Run
public import proofs.«01_k».proof.Proof.Gen.BlendRIdeal.Read

@[expose] public section
end
-- ==== Proof.NnPair.lean ====
/- The product of the rows and the merge columns of the input matrix: the kernel's result is the reference's. -/
module

public import proofs.«01_k».proof.Defs
public import proofs.«01_k».proof.Proof.Gen.NnKIdeal.Value
public import proofs.«01_k».proof.Proof.Gen.NnKIdeal.Frame
public import proofs.«01_k».proof.Proof.Gen.NnRIdeal.Run
public import proofs.«01_k».proof.Proof.Gen.NnRIdeal.Read
public import proofs.«01_k».proof.Proof.Num
@[expose] public section

set_option maxRecDepth 16384

noncomputable section

open Idealize.ShloMosaic Idealize.ShloMosaic.TcCoe Idealize.SL.Sem

namespace Cert.Nn

open Cert.NnKIdeal Cert.NnKIdeal.Gen Cert.NnKIdeal.Value

variable (m : (ℓ : Loc nD τ sig) → Buf (Elt Ideal) ℓ)

/-- The column of the matrix a merge column is. -/
def mc (l : Fin 4096) : Fin 7684 := ⟨3588 + l.val, by omega⟩

/-- A row times a column of the merge part. -/
def KM (h : FVec Ideal S4096x1024 .f32) (w : FVec Ideal S1024x7684 .f32) : FVec Ideal S4096x4096 .f32 := fun i =>
  ∑ k : Fin 1024, HMul.hMul (α := EReal) (h (ix2 (i 0) k)) (w (ix2 k (mc (i 1))))

theorem idx : ∀ t : Fin cfg0.N, win0_0.index t = ![t.val % 4, 0] ∧ win0_1.index t = ![0, t.val / 4] ∧ win0_2.index t = ![t.val % 4, t.val / 4] :=
  (by decide +kernel : ∀ t : Fin grid0.N, _)

theorem V_h (c : Dev nD) (r : Fin 4096) (k : Fin 1024) : V m c main_v0 (ix2 r k) = m ((c : Thread nD τ).loc main_arg0) (ix2 r k) := by
  show StableHlo.after hostOps0 _ _ _ = _
  after_results
  generalize m ((c : Thread nD τ).loc main_arg0) = X
  pointwise

theorem V_w (c : Dev nD) (k : Fin 1024) (l : Fin 4096) : V m c main_v9 (ix2 k l) = m ((c : Thread nD τ).loc main_arg1) (ix2 k (mc l)) := by
  unfold mc
  show StableHlo.after hostOps0 _ _ _ = _
  after_results
  generalize m ((c : Thread nD τ).loc main_arg1) = X
  pointwise

/-- The row of the whole array a row of point `t` is. -/
def row (t : Fin cfg0.N) (r : Fin 1024) : Fin 4096 := ⟨t.val % 4 * 1024 + r.val, by omega⟩

/-- The column of the whole array a column of point `t` is. -/
def col (t : Fin cfg0.N) (l : Fin 2048) : Fin 4096 := ⟨t.val / 4 * 2048 + l.val, by have := t.isLt.trans_eq N_0; omega⟩

theorem blkX (c : Dev nD) (t : Fin cfg0.N) (r k : Fin 1024) : iblk m c 0 t (ix2 r k) = m ((c : Thread nD τ).loc main_arg0) (ix2 (row t r) k) := by
  rw [← V_h m c]; unfold row; blk_point [iblk, V, idx t]

theorem blkW (c : Dev nD) (t : Fin cfg0.N) (k : Fin 1024) (l : Fin 2048) : iblk m c 1 t (ix2 k l)
    = m ((c : Thread nD τ).loc main_arg1) (ix2 k (mc (col t l))) := by
  rw [← V_w m c k (col t l)]; unfold col; blk_point [iblk, V, idx t]

theorem pay1 (x : Vec Ideal S1024x1024 .bf16) (w : Vec Ideal S1024x2048 .bf16) (r : Fin 1024) (l : Fin 2048) :
    k0_pay1 (F := Ideal) x w (ix2 r l) = ∑ k : Fin 1024, HMul.hMul (α := EReal) (x (ix2 r k)) (w (ix2 k l)) := by
  pointwise [k0_pay1]

theorem out2 (c : Dev nD) (t : Fin cfg0.N) (r : Fin 1024) (l : Fin 2048) : out0_2 (F := Ideal) (iblk m c 0 t) (iblk m c 1 t) (ix2 r l)
    = KM (m ((c : Thread nD τ).loc main_arg0)) (m ((c : Thread nD τ).loc main_arg1)) (ix2 (row t r) (col t l)) := by
  frame_out
  rw [pay1]
  refine Finset.sum_congr rfl fun k _ => ?_
  rw [blkX, blkW]
  rfl

theorem readO (t : Fin cfg0.N) (G : S4096x4096.Idx → EReal) (r : Fin 1024) (l : Fin 2048) : ((cfg0.win 2).blk t).view.read (Elt Ideal) G (ix2 r l)
    = G (ix2 (row t r) (col t l)) := by
  unfold row col
  blk_point [idx t]

theorem fin2 (c : Dev nD) : (dats m 0 c).arrAt 2 cfg0.N = KM (m ((c : Thread nD τ).loc main_arg0)) (m ((c : Thread nD τ).loc main_arg1)) := by
  refine (dats m 0 c).arrAt_eq_of_covers 2 _ (by decide +kernel) fun t hf y => ?_
  rw [after0_2]
  idx_vars y
  refine Eq.trans ?_ (readO t (KM (m ((c : Thread nD τ).loc main_arg0)) (m ((c : Thread nD τ).loc main_arg1))) y0 y1).symm
  have h := out2 m c t y0 y1
  generalize out0_2 (iblk m c 0 t) (iblk m c 1 t) = O at h ⊢
  exact h

theorem ref (h : FVec Ideal S4096x1024 .f32) (w : FVec Ideal S1024x7684 .f32) :
    (extractStridedSlice Cert.NnRIdeal.S4096x4096 ![0, 3588] (Host.dotGeneral Cert.NnRIdeal.dot_S4096x1024_S1024x7684_S4096x7684_1_0_0_1_n_n none h w)
      Cert.NnRIdeal.Gen.slices_S4096x7684_S4096x4096_0_3588 : FVec Ideal S4096x4096 .f32) = KM h w := by
  funext i
  idx_vars i
  unfold KM mc
  pointwise

theorem algebraic : Cert.algebraic_NnKIdeal_NnRIdeal := by
  pair_intro
  · run_from Cert.NnKIdeal.Value.run_blocks m g
  · refine Idealize.ShloMosaic.θ_run_mono (Cert.NnRIdeal.Value.run m' g') ?_
    intro r hr c
    have hc := hr c
    refine ⟨hc.1.trans ?_, hc.2⟩
    rw [(hagree c).1, (hagree c).2]
    clear hc hr
    rw [fin2]
    exact ref _ _

end Cert.Nn

end
-- ==== Proof.TnPair.lean ====
/- The product of the transposed rows and the merge part's cotangent: the kernel's result is the reference's. -/
module

public import proofs.«01_k».proof.Defs
public import proofs.«01_k».proof.Proof.Gen.TnKIdeal.Value
public import proofs.«01_k».proof.Proof.Gen.TnKIdeal.Frame
public import proofs.«01_k».proof.Proof.Gen.TnRIdeal.Run
public import proofs.«01_k».proof.Proof.Gen.TnRIdeal.Read
public import proofs.«01_k».proof.Proof.Num
@[expose] public section

set_option maxRecDepth 16384

noncomputable section

open Idealize.ShloMosaic Idealize.ShloMosaic.TcCoe Idealize.SL.Sem

namespace Cert.Tn

open Cert.TnKIdeal Cert.TnKIdeal.Gen Cert.TnKIdeal.Value

variable (m : (ℓ : Loc nD τ sig) → Buf (Elt Ideal) ℓ)

/-- A column of the rows times a column of the cotangent. -/
def KW (h : FVec Ideal S4096x1024 .f32) (d : FVec Ideal S4096x4096 .f32) : FVec Ideal S1024x4096 .bf16 := fun i =>
  ∑ k : Fin 4096, HMul.hMul (α := EReal) (h (ix2 k (i 0))) (d (ix2 k (i 1)))

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem V_h (c : Dev nD) (r : Fin 4096) (k : Fin 1024) : V m c main_v0 (ix2 r k) = m ((c : Thread nD τ).loc main_arg0) (ix2 r k) := by
  show StableHlo.after hostOps0 _ _ _ = _
  after_results
  generalize m ((c : Thread nD τ).loc main_arg0) = X
  pointwise

theorem V_d (c : Dev nD) (r : Fin 4096) (k : Fin 4096) : V m c main_v1 (ix2 r k) = m ((c : Thread nD τ).loc main_arg1) (ix2 r k) := by
  show StableHlo.after hostOps0 _ _ _ = _
  after_results
  generalize m ((c : Thread nD τ).loc main_arg1) = X
  pointwise

/-- The row of the whole arrays a row of block `q` is. -/
def row (q : Fin 4) (k : Fin 1024) : Fin 4096 := ⟨q.val * 1024 + k.val, by omega⟩

/-- The column of the whole array a column of half `q` is. -/
def col (q : Fin 2) (l : Fin 2048) : Fin 4096 := ⟨q.val * 2048 + l.val, by omega⟩

def rb (t : Fin cfg0.N) : Fin 4 := ⟨t.val % 4, by omega⟩
def cb (t : Fin cfg0.N) : Fin 2 := ⟨t.val / 4, by have := t.isLt.trans_eq N_0; omega⟩

theorem blkH (c : Dev nD) (t : Fin cfg0.N) (k a : Fin 1024) : iblk m c 0 t (ix2 k a) = m ((c : Thread nD τ).loc main_arg0) (ix2 (row (rb t) k) a) := by
  rw [← V_h m c]; blk_point [iblk, V, idx t, row, rb]

theorem blkD (c : Dev nD) (t : Fin cfg0.N) (k : Fin 1024) (l : Fin 2048) : iblk m c 1 t (ix2 k l)
    = m ((c : Thread nD τ).loc main_arg1) (ix2 (row (rb t) k) (col (cb t) l)) := by
  rw [← V_d m c]; blk_point [iblk, V, idx t, row, rb, col, cb]

/-- The part of the sum that the rows of point `t` contribute. -/
def term (c : Dev nD) (t : Fin cfg0.N) (a : Fin 1024) (l : Fin 2048) : EReal :=
  ∑ k : Fin 1024, HMul.hMul (α := EReal) (m ((c : Thread nD τ).loc main_arg0) (ix2 (row (rb t) k) a)) (m ((c : Thread nD τ).loc main_arg1) (ix2 (row (rb t) k) (col (cb t) l)))

theorem pay2 (x : Vec Ideal S1024x1024 .bf16) (y : Vec Ideal S1024x2048 .bf16) (z : Vec Ideal S1024x2048 .f32) (a : Fin 1024) (l : Fin 2048) :
    k0_pay2 (F := Ideal) z x y (ix2 a l) = HAdd.hAdd (α := EReal) (z (ix2 a l)) (∑ k : Fin 1024, HMul.hMul (α := EReal) (x (ix2 k a)) (y (ix2 k l))) := by
  pointwise [k0_pay2]

theorem pay2_blk (c : Dev nD) (t : Fin cfg0.N) (z : Vec Ideal S1024x2048 .f32) (a : Fin 1024) (l : Fin 2048) :
    k0_pay2 (F := Ideal) z (iblk m c 0 t) (iblk m c 1 t) (ix2 a l) = HAdd.hAdd (α := EReal) (z (ix2 a l)) (term m c t a l) := by
  rw [pay2]
  simp only [blkH, blkD]
  rfl

/-- The scratch at the last point of a column half: the sum over all the rows. -/
theorem carry (c : Dev nD) (t : Fin cfg0.N) (h : t.val % 4 = 3) (a : Fin 1024) (l : Fin 2048) : (outsAt0 m c t.val t.isLt).2 (ix2 a l)
    = ∑ s : Fin 4, term m c ⟨4 * (t.val / 4) + s.val, Pipeline.run_point_lt_of_flush t h s⟩ a l := by
  rw [Pipeline.eq_sum_fin_of_reset_step_apply_of_flush (fun n h => (outsAt0 m c n h).2) 4 (fun _ => (0 : EReal))
    (fun p j => term m c p (j 0) (j 1)) (fun t h j => by
      rw [outsAt0_A m c t h (by omega)]; frame_out
      idx_vars j
      rw [pay2_blk]
      pointwise [k0_pay1])
    (fun t h j => by
      by_cases h3 : t.val % 4 = 3
      · rw [outsAt0_C m c t h h3]; frame_out
        idx_vars j
        rw [pay2_blk, (Memref.isWhole_whole _).read_unread]
      · rw [outsAt0_B m c t h h3]; frame_out
        idx_vars j
        rw [pay2_blk, (Memref.isWhole_whole _).read_unread])
    t h (ix2 a l), zero_add]
  rfl

theorem rows (c : Dev nD) (t : Fin cfg0.N) (h : t.val % 4 = 3) (a : Fin 1024) (l : Fin 2048) :
    ∑ s : Fin 4, term m c ⟨4 * (t.val / 4) + s.val, Pipeline.run_point_lt_of_flush t h s⟩ a l
      = KW (m ((c : Thread nD τ).loc main_arg0)) (m ((c : Thread nD τ).loc main_arg1)) (ix2 a (col (cb t) l)) := by
  show _ = ∑ k : Fin 4096, _
  rw [Fin.sum_univ_tiles 4 1024 rfl]
  refine Finset.sum_congr rfl fun s _ => Finset.sum_congr rfl fun k _ => ?_
  have h1 : rb ⟨4 * (t.val / 4) + s.val, Pipeline.run_point_lt_of_flush t h s⟩ = s := Fin.ext (by show (4 * (t.val / 4) + s.val) % 4 = s.val; omega)
  have h2 : cb ⟨4 * (t.val / 4) + s.val, Pipeline.run_point_lt_of_flush t h s⟩ = cb t := Fin.ext (by show (4 * (t.val / 4) + s.val) / 4 = t.val / 4; omega)
  rw [h1, h2]
  rfl

theorem last (c : Dev nD) (t : Fin cfg0.N) (h : t.val % 4 = 3) : (outsAt0 m c t.val t.isLt).1 = (outsAt0 m c t.val t.isLt).2 := by
  rw [outsAt0_C m c t (by omega) h]
  dsimp only
  funext j
  frame_out
  idx_vars j
  pointwise [k0_pay3]

theorem readO (t : Fin cfg0.N) (G : S1024x4096.Idx → EReal) (a : Fin 1024) (l : Fin 2048) : ((cfg0.win 2).blk t).view.read (Elt Ideal) G (ix2 a l)
    = G (ix2 a (col (cb t) l)) := by
  blk_point [idx t, col, cb]

theorem fin2 (c : Dev nD) : (dats m 0 c).arrAt 2 cfg0.N = KW (m ((c : Thread nD τ).loc main_arg0)) (m ((c : Thread nD τ).loc main_arg1)) := by
  refine (dats m 0 c).arrAt_eq_of_covers 2 _ (by decide +kernel) fun t hf y => ?_
  rw [after0_2]
  idx_vars y
  refine Eq.trans ?_ (readO t (KW (m ((c : Thread nD τ).loc main_arg0)) (m ((c : Thread nD τ).loc main_arg1))) y0 y1).symm
  have h3 := (flush0_2 t).mp hf
  have h := (carry m c t h3 y0 y1).trans (rows m c t h3 y0 y1)
  rw [last m c t h3]
  generalize (outsAt0 m c t.val t.isLt).2 = O at h ⊢
  exact h

theorem ref (h : FVec Ideal S4096x1024 .f32) (d : FVec Ideal S4096x4096 .f32) :
    (truncf .bf16 (transpose Cert.TnRIdeal.S1024x4096 [1, 0] (Host.dotGeneral Cert.TnRIdeal.dot_S4096x4096_S4096x1024_S4096x1024_0_0_1_1_n_n none d h)
      Cert.TnRIdeal.Gen.transposes_S4096x1024_S1024x4096_1_0) Cert.TnRIdeal.Gen.bitsLt_bf16_f32 : FVec Ideal S1024x4096 .bf16) = KW h d := by
  funext i
  idx_vars i
  pointwise [KW]
  exact Finset.sum_congr rfl fun k _ => mul_comm _ _

theorem algebraic : Cert.algebraic_TnKIdeal_TnRIdeal := by
  pair_intro
  · run_from Cert.TnKIdeal.Value.run_blocks m g
  · refine Idealize.ShloMosaic.θ_run_mono (Cert.TnRIdeal.Value.run m' g') ?_
    intro r hr c
    have hc := hr c
    refine ⟨hc.1.trans ?_, hc.2⟩
    rw [(hagree c).1, (hagree c).2]
    clear hc hr
    rw [fin2]
    exact ref _ _

end Cert.Tn

end
-- ==== Proof.DhPair.lean ====
/- The gradient of the block's input through its input product: the kernel's result is the reference's. -/
module

public import proofs.«01_k».proof.Defs
public import proofs.«01_k».proof.Proof.Gen.DhKIdeal.Value
public import proofs.«01_k».proof.Proof.Gen.DhKIdeal.Frame
public import proofs.«01_k».proof.Proof.Gen.DhRIdeal.Run
public import proofs.«01_k».proof.Proof.Gen.DhRIdeal.Read
public import proofs.«01_k».proof.Proof.Num
@[expose] public section

set_option maxRecDepth 16384

noncomputable section

open Idealize.ShloMosaic Idealize.ShloMosaic.TcCoe Idealize.SL.Sem

namespace Cert.Dh

open Cert.DhKIdeal Cert.DhKIdeal.Gen Cert.DhKIdeal.Value

variable (m : (ℓ : Loc nD τ sig) → Buf (Elt Ideal) ℓ)

/-- A row of the cotangent times a row of the matrix. -/
def KH (d : FVec Ideal S4096x7684 .f32) (w : FVec Ideal S1024x7684 .f32) : FVec Ideal S4096x1024 .f32 := fun i =>
  ∑ k : Fin 7684, HMul.hMul (α := EReal) (d (ix2 (i 0) k)) (w (ix2 (i 1) k))

/-- The column a packed column is. -/
def pm (l : Fin 3584) : Fin 7684 :=
  ⟨if l.val < 1536 then l.val else if l.val < 1792 then l.val + 4 else if l.val < 2048 then l.val + 1540 else l.val - 252, by
    split_ifs <;> omega⟩

/-- A sum over all the columns is the sums over the gates', the packed and the merge columns. -/
theorem sum_cols (P : Fin 7684 → EReal) : ∑ n, P n
    = (∑ l : Fin 4, P ⟨1536 + l.val, by omega⟩) + (∑ l : Fin 3584, P (pm l)) + ∑ l : Fin 4096, P ⟨3588 + l.val, by omega⟩ := by
  set Q : ℕ → EReal := fun n => if h : n < 7684 then P ⟨n, h⟩ else 0 with hQ
  have e (n : Fin 7684) : P n = Q n.val := by rw [hQ]; dsimp only; rw [dif_pos n.isLt]
  simp only [e]
  have e2 : ∑ l : Fin 3584, Q (pm l).val = ∑ l ∈ Finset.range (1536 + 256 + 256 + 1536),
      Q (if l < 1536 then l else if l < 1792 then l + 4 else if l < 2048 then l + 1540 else l - 252) :=
    Fin.sum_univ_eq_sum_range (fun l => Q (if l < 1536 then l else if l < 1792 then l + 4 else if l < 2048 then l + 1540 else l - 252)) 3584
  rw [e2, Fin.sum_univ_eq_sum_range Q 7684, Fin.sum_univ_eq_sum_range (fun l => Q (1536 + l)) 4, Fin.sum_univ_eq_sum_range (fun l => Q (3588 + l)) 4096]
  rw [Finset.sum_range_add, Finset.sum_range_add, Finset.sum_range_add]
  rw [show 7684 = 1536 + 4 + 256 + 1536 + 256 + 4096 from rfl, Finset.sum_range_add, Finset.sum_range_add, Finset.sum_range_add,
    Finset.sum_range_add, Finset.sum_range_add]
  have a1 : ∑ x ∈ Finset.range 1536, Q (if x < 1536 then x else if x < 1792 then x + 4 else if x < 2048 then x + 1540 else x - 252)
      = ∑ x ∈ Finset.range 1536, Q x := Finset.sum_congr rfl fun x hx => by
    have := Finset.mem_range.mp hx; rw [if_pos (by omega)]
  have a2 : ∑ x ∈ Finset.range 256, Q (if 1536 + x < 1536 then 1536 + x else if 1536 + x < 1792 then 1536 + x + 4 else if 1536 + x < 2048 then 1536 + x + 1540 else 1536 + x - 252)
      = ∑ x ∈ Finset.range 256, Q (1536 + 4 + x) := Finset.sum_congr rfl fun x hx => by
    have := Finset.mem_range.mp hx; rw [if_neg (by omega), if_pos (by omega)]; congr 1; omega
  have a3 : ∑ x ∈ Finset.range 256, Q (if 1536 + 256 + x < 1536 then 1536 + 256 + x else if 1536 + 256 + x < 1792 then 1536 + 256 + x + 4 else if 1536 + 256 + x < 2048 then 1536 + 256 + x + 1540 else 1536 + 256 + x - 252)
      = ∑ x ∈ Finset.range 256, Q (1536 + 4 + 256 + 1536 + x) := Finset.sum_congr rfl fun x hx => by
    have := Finset.mem_range.mp hx; rw [if_neg (by omega), if_neg (by omega), if_pos (by omega)]; congr 1; omega
  have a4 : ∑ x ∈ Finset.range 1536, Q (if 1536 + 256 + 256 + x < 1536 then 1536 + 256 + 256 + x else if 1536 + 256 + 256 + x < 1792 then 1536 + 256 + 256 + x + 4 else if 1536 + 256 + 256 + x < 2048 then 1536 + 256 + 256 + x + 1540 else 1536 + 256 + 256 + x - 252)
      = ∑ x ∈ Finset.range 1536, Q (1536 + 4 + 256 + x) := Finset.sum_congr rfl fun x hx => by
    have := Finset.mem_range.mp hx; rw [if_neg (by omega), if_neg (by omega), if_neg (by omega)]; congr 1; omega
  rw [a1, a2, a3, a4]
  ac_rfl

/-- A sum of products that vanish from lane 4 on. -/
theorem sum_lanes (f : Fin 128 → EReal) (g : Fin 4 → EReal) (h : ∀ l : Fin 4, f ⟨l.val, by omega⟩ = g l) (h0 : ∀ l : Fin 128, 4 ≤ l.val → f l = 0) :
    ∑ l, f l = ∑ l, g l := by
  rw [show (∑ l, f l) = ∑ l : Fin (4 + 124), f l from rfl, Fin.sum_univ_add,
    Finset.sum_eq_zero (s := Finset.univ) (f := fun i : Fin 124 => f (Fin.natAdd 4 i)) (fun i _ => h0 _ (by show 4 ≤ 4 + i.val; omega)), add_zero]
  exact Finset.sum_congr rfl fun l _ => h l

theorem idx : ∀ t : Fin cfg0.N, (t.val % 8 ≤ 3 → win0_0.index t = ![t.val / 8, t.val % 8] ∧ win0_3.index t = ![0, t.val % 8])
    ∧ (4 ≤ t.val % 8 → win0_1.index t = ![t.val / 8, t.val % 8 - 4] ∧ win0_4.index t = ![0, t.val % 8 - 4])
    ∧ win0_2.index t = ![t.val / 8, 0] ∧ win0_5.index t = ![0, 0] ∧ win0_6.index t = ![t.val / 8, 0] :=
  (by decide +kernel : ∀ t : Fin grid0.N, _)

/-- The packed columns of an array. -/
def packD (x : FVec Ideal S4096x7684 .f32) : FVec Ideal S4096x3584 .f32 :=
  concatenate S4096x3584 1 [⟨S4096x1536, extractStridedSlice S4096x1536 ![0, 0] x slices_S4096x7684_S4096x1536_0_0⟩,
    ⟨S4096x256, extractStridedSlice S4096x256 ![0, 1540] x slices_S4096x7684_S4096x256_0_1540⟩,
    ⟨S4096x256, extractStridedSlice S4096x256 ![0, 3332] x slices_S4096x7684_S4096x256_0_3332⟩,
    ⟨S4096x1024, extractStridedSlice S4096x1024 ![0, 1796] x slices_S4096x7684_S4096x1024_0_1796⟩,
    ⟨S4096x512, extractStridedSlice S4096x512 ![0, 2820] x slices_S4096x7684_S4096x512_0_2820⟩]
    concatenates_S4096x1536_S4096x256_S4096x256_S4096x1024_S4096x512_S4096x3584_d1

def packW (x : FVec Ideal S1024x7684 .f32) : FVec Ideal S1024x3584 .f32 :=
  concatenate S1024x3584 1 [⟨S1024x1536, extractStridedSlice S1024x1536 ![0, 0] x slices_S1024x7684_S1024x1536_0_0⟩,
    ⟨S1024x256, extractStridedSlice S1024x256 ![0, 1540] x slices_S1024x7684_S1024x256_0_1540⟩,
    ⟨S1024x256, extractStridedSlice S1024x256 ![0, 3332] x slices_S1024x7684_S1024x256_0_3332⟩,
    ⟨S1024x1024, extractStridedSlice S1024x1024 ![0, 1796] x slices_S1024x7684_S1024x1024_0_1796⟩,
    ⟨S1024x512, extractStridedSlice S1024x512 ![0, 2820] x slices_S1024x7684_S1024x512_0_2820⟩]
    concatenates_S1024x1536_S1024x256_S1024x256_S1024x1024_S1024x512_S1024x3584_d1

theorem packD_at (x : FVec Ideal S4096x7684 .f32) (r : Fin 4096) (l : Fin 3584) : packD x (ix2 r l) = x (ix2 r (pm l)) := by
  have hl := l.isLt
  pointwise [packD]
  split_ifs
  all_goals refine congrArg x (congrArg (ix2 r) (Fin.ext ?_))
  all_goals unfold pm
  all_goals dsimp only
  all_goals split_ifs <;> omega

theorem packW_at (x : FVec Ideal S1024x7684 .f32) (r : Fin 1024) (l : Fin 3584) : packW x (ix2 r l) = x (ix2 r (pm l)) := by
  have hl := l.isLt
  pointwise [packW]
  split_ifs
  all_goals refine congrArg x (congrArg (ix2 r) (Fin.ext ?_))
  all_goals unfold pm
  all_goals dsimp only
  all_goals split_ifs <;> omega

theorem V_dm (c : Dev nD) : V m c main_v16 = truncf (F := Ideal) .bf16 (packD (m ((c : Thread nD τ).loc main_arg0))) bitsLt_bf16_f32 := by
  show StableHlo.after (List.flatten [hostOps0 (F := Ideal), hostOps0_1 (F := Ideal), hostOps0_2 (F := Ideal), hostOps0_3 (F := Ideal), hostOps0_4 (F := Ideal)]) _ _ = _
  simp only [List.flatten, List.append]
  after_results
  rfl

theorem V_wm (c : Dev nD) : V m c main_v20 = truncf (F := Ideal) .bf16 (packW (m ((c : Thread nD τ).loc main_arg1))) bitsLt_bf16_f32 := by
  show StableHlo.after (List.flatten [hostOps0 (F := Ideal), hostOps0_1 (F := Ideal), hostOps0_2 (F := Ideal), hostOps0_3 (F := Ideal), hostOps0_4 (F := Ideal)]) _ _ = _
  simp only [List.flatten, List.append]
  after_results
  rfl

theorem V_dg (c : Dev nD) : V m c main_v17 = truncf (F := Ideal) .bf16 (extractStridedSlice S4096x4096 ![0, 3588] (m ((c : Thread nD τ).loc main_arg0) : FVec Ideal S4096x7684 .f32) slices_S4096x7684_S4096x4096_0_3588) bitsLt_bf16_f32 := by
  show StableHlo.after (List.flatten [hostOps0 (F := Ideal), hostOps0_1 (F := Ideal), hostOps0_2 (F := Ideal), hostOps0_3 (F := Ideal), hostOps0_4 (F := Ideal)]) _ _ = _
  simp only [List.flatten, List.append]
  after_results

theorem V_wg (c : Dev nD) : V m c main_v21 = truncf (F := Ideal) .bf16 (extractStridedSlice S1024x4096 ![0, 3588] (m ((c : Thread nD τ).loc main_arg1) : FVec Ideal S1024x7684 .f32) slices_S1024x7684_S1024x4096_0_3588) bitsLt_bf16_f32 := by
  show StableHlo.after (List.flatten [hostOps0 (F := Ideal), hostOps0_1 (F := Ideal), hostOps0_2 (F := Ideal), hostOps0_3 (F := Ideal), hostOps0_4 (F := Ideal)]) _ _ = _
  simp only [List.flatten, List.append]
  after_results

theorem V_df (c : Dev nD) : V m c main_v19 = truncf (F := Ideal) .bf16 (pad S4096x128 ![0, 0] ![0, 124] ![0, 0]
      (extractStridedSlice S4096x4 ![0, 1536] (m ((c : Thread nD τ).loc main_arg0) : FVec Ideal S4096x7684 .f32) slices_S4096x7684_S4096x4_0_1536)
      (sitofp (F := Ideal) .f32 (constantI S_ 32 0#32)) pads_S4096x4_S4096x128_000_01240 h_S_) bitsLt_bf16_f32 := by
  show StableHlo.after (List.flatten [hostOps0 (F := Ideal), hostOps0_1 (F := Ideal), hostOps0_2 (F := Ideal), hostOps0_3 (F := Ideal), hostOps0_4 (F := Ideal)]) _ _ = _
  simp only [List.flatten, List.append]
  after_results
  rfl

theorem df_lane (c : Dev nD) (r : Fin 4096) (l : Fin 4) : V m c main_v19 (ix2 r ⟨l.val, by omega⟩)
    = m ((c : Thread nD τ).loc main_arg0) (ix2 r ⟨1536 + l.val, by omega⟩) := by
  rw [V_df]
  have := l.isLt
  pointwise

theorem df_rest (c : Dev nD) (r : Fin 4096) (l : Fin 128) (h : 4 ≤ l.val) : V m c main_v19 (ix2 r l) = (0 : EReal) := by
  rw [V_df]
  have : ¬ l.val < 4 := by omega
  pointwise
  rw [dif_neg this]
  simp [FloatOps.sitofp]

theorem V_wf (c : Dev nD) : V m c main_v23 = truncf (F := Ideal) .bf16 (pad S1024x128 ![0, 0] ![0, 124] ![0, 0]
      (extractStridedSlice S1024x4 ![0, 1536] (m ((c : Thread nD τ).loc main_arg1) : FVec Ideal S1024x7684 .f32) slices_S1024x7684_S1024x4_0_1536)
      (sitofp (F := Ideal) .f32 (constantI S_ 32 0#32)) pads_S1024x4_S1024x128_000_01240 h_S_) bitsLt_bf16_f32 := by
  show StableHlo.after (List.flatten [hostOps0 (F := Ideal), hostOps0_1 (F := Ideal), hostOps0_2 (F := Ideal), hostOps0_3 (F := Ideal), hostOps0_4 (F := Ideal)]) _ _ = _
  simp only [List.flatten, List.append]
  after_results
  rfl

theorem wf_lane (c : Dev nD) (r : Fin 1024) (l : Fin 4) : V m c main_v23 (ix2 r ⟨l.val, by omega⟩)
    = m ((c : Thread nD τ).loc main_arg1) (ix2 r ⟨1536 + l.val, by omega⟩) := by
  rw [V_wf]
  have := l.isLt
  pointwise

theorem wf_rest (c : Dev nD) (r : Fin 1024) (l : Fin 128) (h : 4 ≤ l.val) : V m c main_v23 (ix2 r l) = (0 : EReal) := by
  rw [V_wf]
  have : ¬ l.val < 4 := by omega
  pointwise
  rw [dif_neg this]
  simp [FloatOps.sitofp]

/-- The row of the whole array a row of point `t` is. -/
def row (t : Fin cfg0.N) (r : Fin 1024) : Fin 4096 := ⟨t.val / 8 * 1024 + r.val, by have := t.isLt.trans_eq N_0; omega⟩

/-- The product at a column. -/
def P (c : Dev nD) (r : Fin 4096) (a : Fin 1024) (n : Fin 7684) : EReal :=
  HMul.hMul (α := EReal) (m ((c : Thread nD τ).loc main_arg0) (ix2 r n)) (m ((c : Thread nD τ).loc main_arg1) (ix2 a n))

theorem pay1 (x y : Vec Ideal S1024x128 .bf16) (r a : Fin 1024) :
    k0_pay1 (F := Ideal) x y (ix2 r a) = ∑ k : Fin 128, HMul.hMul (α := EReal) (x (ix2 r k)) (y (ix2 a k)) := by
  pointwise [k0_pay1]

theorem pay2 (z : Vec Ideal S1024x1024 .f32) (x y : Vec Ideal S1024x896 .bf16) (r a : Fin 1024) :
    k0_pay2 (F := Ideal) z x y (ix2 r a) = HAdd.hAdd (α := EReal) (z (ix2 r a)) (∑ k : Fin 896, HMul.hMul (α := EReal) (x (ix2 r k)) (y (ix2 a k))) := by
  pointwise [k0_pay2]

theorem pay3 (z : Vec Ideal S1024x1024 .f32) (x y : Vec Ideal S1024x1024 .bf16) (r a : Fin 1024) :
    k0_pay3 (F := Ideal) z x y (ix2 r a) = HAdd.hAdd (α := EReal) (z (ix2 r a)) (∑ k : Fin 1024, HMul.hMul (α := EReal) (x (ix2 r k)) (y (ix2 a k))) := by
  pointwise [k0_pay3]

theorem blk0 (c : Dev nD) (t : Fin cfg0.N) (h : t.val % 8 ≤ 3) (r : Fin 1024) (k : Fin 896) : iblk m c 0 t (ix2 r k)
    = m ((c : Thread nD τ).loc main_arg0) (ix2 (row t r) (pm ⟨t.val % 8 * 896 + k.val, by omega⟩)) := by
  rw [← packD_at (m ((c : Thread nD τ).loc main_arg0))]
  refine Eq.trans ?_ (congrFun (V_dm m c) _)
  unfold row
  blk_point [iblk, V, ((idx t).1 h).1]

theorem blk3 (c : Dev nD) (t : Fin cfg0.N) (h : t.val % 8 ≤ 3) (a : Fin 1024) (k : Fin 896) : iblk m c 3 t (ix2 a k)
    = m ((c : Thread nD τ).loc main_arg1) (ix2 a (pm ⟨t.val % 8 * 896 + k.val, by omega⟩)) := by
  rw [← packW_at (m ((c : Thread nD τ).loc main_arg1))]
  refine Eq.trans ?_ (congrFun (V_wm m c) _)
  blk_point [iblk, V, ((idx t).1 h).2]

theorem blk1 (c : Dev nD) (t : Fin cfg0.N) (h : 4 ≤ t.val % 8) (r k : Fin 1024) : iblk m c 1 t (ix2 r k)
    = m ((c : Thread nD τ).loc main_arg0) (ix2 (row t r) ⟨3588 + ((t.val % 8 - 4) * 1024 + k.val), by omega⟩) := by
  have e : V m c main_v17 (ix2 (row t r) ⟨(t.val % 8 - 4) * 1024 + k.val, by omega⟩)
      = m ((c : Thread nD τ).loc main_arg0) (ix2 (row t r) ⟨3588 + ((t.val % 8 - 4) * 1024 + k.val), by omega⟩) := by
    rw [V_dg]
    generalize m ((c : Thread nD τ).loc main_arg0) = X
    pointwise
  rw [← e]
  unfold row
  blk_point [iblk, V, ((idx t).2.1 h).1]

theorem blk4 (c : Dev nD) (t : Fin cfg0.N) (h : 4 ≤ t.val % 8) (a k : Fin 1024) : iblk m c 4 t (ix2 a k)
    = m ((c : Thread nD τ).loc main_arg1) (ix2 a ⟨3588 + ((t.val % 8 - 4) * 1024 + k.val), by omega⟩) := by
  have e : V m c main_v21 (ix2 a ⟨(t.val % 8 - 4) * 1024 + k.val, by omega⟩)
      = m ((c : Thread nD τ).loc main_arg1) (ix2 a ⟨3588 + ((t.val % 8 - 4) * 1024 + k.val), by omega⟩) := by
    rw [V_wg]
    generalize m ((c : Thread nD τ).loc main_arg1) = X
    pointwise
  rw [← e]
  blk_point [iblk, V, ((idx t).2.1 h).2]

theorem blk2 (c : Dev nD) (t : Fin cfg0.N) (r : Fin 1024) (k : Fin 128) : iblk m c 2 t (ix2 r k) = V m c main_v19 (ix2 (row t r) k) := by
  unfold row
  blk_point [iblk, V, idx t]

theorem blk5 (c : Dev nD) (t : Fin cfg0.N) (a : Fin 1024) (k : Fin 128) : iblk m c 5 t (ix2 a k) = V m c main_v23 (ix2 a k) := by
  blk_point [iblk, V, idx t]

/-- The gates' columns. -/
def TF (c : Dev nD) (r : Fin 4096) (a : Fin 1024) : EReal := ∑ l : Fin 4, P m c r a ⟨1536 + l.val, by omega⟩
/-- A block of the packed columns. -/
def TM (c : Dev nD) (r : Fin 4096) (a : Fin 1024) (q : Fin 4) : EReal := ∑ k : Fin 896, P m c r a (pm ⟨q.val * 896 + k.val, by omega⟩)
/-- A block of the merge columns. -/
def TG (c : Dev nD) (r : Fin 4096) (a : Fin 1024) (q : Fin 4) : EReal := ∑ k : Fin 1024, P m c r a ⟨3588 + (q.val * 1024 + k.val), by omega⟩

theorem first (c : Dev nD) (t : Fin cfg0.N) (r a : Fin 1024) : k0_pay1 (F := Ideal) (iblk m c 2 t) (iblk m c 5 t) (ix2 r a) = TF m c (row t r) a := by
  rw [pay1]
  refine sum_lanes _ _ (fun l => ?_) fun l hl => ?_
  · rw [blk2, blk5, df_lane, wf_lane]
    rfl
  · rw [blk2, blk5, df_rest m c _ l hl, wf_rest m c _ l hl, mul_zero]

theorem mixed (c : Dev nD) (t : Fin cfg0.N) (h : t.val % 8 ≤ 3) (z : Vec Ideal S1024x1024 .f32) (r a : Fin 1024) :
    k0_pay2 (F := Ideal) z (iblk m c 0 t) (iblk m c 3 t) (ix2 r a) = HAdd.hAdd (α := EReal) (z (ix2 r a)) (TM m c (row t r) a ⟨t.val % 8, by omega⟩) := by
  rw [pay2]
  refine congrArg _ (Finset.sum_congr rfl fun k _ => ?_)
  rw [blk0 m c t h, blk3 m c t h]
  rfl

theorem merged (c : Dev nD) (t : Fin cfg0.N) (h : 4 ≤ t.val % 8) (z : Vec Ideal S1024x1024 .f32) (r a : Fin 1024) :
    k0_pay3 (F := Ideal) z (iblk m c 1 t) (iblk m c 4 t) (ix2 r a) = HAdd.hAdd (α := EReal) (z (ix2 r a)) (TG m c (row t r) a ⟨t.val % 8 - 4, by omega⟩) := by
  rw [pay3]
  refine congrArg _ (Finset.sum_congr rfl fun k _ => ?_)
  rw [blk1 m c t h, blk4 m c t h]
  rfl

/-- What point `t` adds. -/
def term (c : Dev nD) (t : Fin cfg0.N) (r a : Fin 1024) : EReal :=
  if h : t.val % 8 = 0 then TF m c (row t r) a + TM m c (row t r) a 0
  else if h3 : t.val % 8 ≤ 3 then TM m c (row t r) a ⟨t.val % 8, by omega⟩
  else TG m c (row t r) a ⟨t.val % 8 - 4, by omega⟩

theorem acc (c : Dev nD) (t : Fin cfg0.N) (h : t.val % 8 = 7) (r a : Fin 1024) : outsAt0 m c t.val t.isLt (ix2 r a)
    = ∑ s : Fin 8, term m c ⟨8 * (t.val / 8) + s.val, Pipeline.run_point_lt_of_flush t h s⟩ r a := by
  rw [Pipeline.eq_sum_fin_of_reset_step_apply_of_flush (fun n h => outsAt0 m c n h) 8 (fun _ => (0 : EReal))
    (fun p j => term m c p (j 0) (j 1)) (fun t h j => by
      rw [outsAt0_A m c t h (by omega) (by omega)]; frame_out
      idx_vars j
      rw [mixed m c t (by omega), first, zero_add]
      show _ = term m c t j0 j1
      unfold term
      rw [dif_pos h]
      congr 2
      exact Fin.ext h)
    (fun t h j => by
      by_cases h3 : t.val % 8 ≤ 3
      · rw [outsAt0_B m c t h h3 (by omega)]; frame_out
        idx_vars j
        rw [mixed m c t h3]
        show _ = _ + term m c t j0 j1
        unfold term
        rw [dif_neg h, dif_pos h3]
      · rw [outsAt0_C m c t h h3 (by omega)]; frame_out
        idx_vars j
        rw [merged m c t (by omega)]
        show _ = _ + term m c t j0 j1
        unfold term
        rw [dif_neg h, dif_neg h3])
    t h (ix2 r a), zero_add]
  rfl

theorem total (c : Dev nD) (t : Fin cfg0.N) (h : t.val % 8 = 7) (r a : Fin 1024) :
    ∑ s : Fin 8, term m c ⟨8 * (t.val / 8) + s.val, Pipeline.run_point_lt_of_flush t h s⟩ r a
      = KH (m ((c : Thread nD τ).loc main_arg0)) (m ((c : Thread nD τ).loc main_arg1)) (ix2 (row t r) a) := by
  have e (s : Fin 8) : term m c ⟨8 * (t.val / 8) + s.val, Pipeline.run_point_lt_of_flush t h s⟩ r a
      = (if h : s.val = 0 then TF m c (row t r) a + TM m c (row t r) a 0
        else if h3 : s.val ≤ 3 then TM m c (row t r) a ⟨s.val, by omega⟩ else TG m c (row t r) a ⟨s.val - 4, by omega⟩) := by
    have h1 : (8 * (t.val / 8) + s.val) % 8 = s.val := by omega
    have h2 : row ⟨8 * (t.val / 8) + s.val, Pipeline.run_point_lt_of_flush t h s⟩ r = row t r :=
      Fin.ext (by show (8 * (t.val / 8) + s.val) / 8 * 1024 + r.val = t.val / 8 * 1024 + r.val; omega)
    unfold term
    simp only [h1, h2]
  rw [Finset.sum_congr rfl fun s _ => e s, Fin.sum_univ_eight]
  show _ = ∑ n : Fin 7684, P m c (row t r) a n
  rw [sum_cols, Fin.sum_univ_tiles 4 896 rfl, Fin.sum_univ_tiles 4 1024 rfl]
  show _ = TF m c (row t r) a + (∑ q : Fin 4, TM m c (row t r) a q) + ∑ q : Fin 4, TG m c (row t r) a q
  rw [Fin.sum_univ_four, Fin.sum_univ_four]
  show TF m c (row t r) a + TM m c (row t r) a 0 + TM m c (row t r) a 1 + TM m c (row t r) a 2 + TM m c (row t r) a 3 + TG m c (row t r) a 0
    + TG m c (row t r) a 1 + TG m c (row t r) a 2 + TG m c (row t r) a 3 = _
  simp only [add_assoc]

theorem readO (t : Fin cfg0.N) (G : S4096x1024.Idx → EReal) (r a : Fin 1024) : ((cfg0.win 6).blk t).view.read (Elt Ideal) G (ix2 r a) = G (ix2 (row t r) a) := by
  unfold row
  blk_point [idx t]

theorem fin6 (c : Dev nD) : (dats m 0 c).arrAt 6 cfg0.N = KH (m ((c : Thread nD τ).loc main_arg0)) (m ((c : Thread nD τ).loc main_arg1)) := by
  refine (dats m 0 c).arrAt_eq_of_covers 6 _ (by decide +kernel) fun t hf y => ?_
  rw [after0_6]
  idx_vars y
  refine Eq.trans ?_ (readO t (KH (m ((c : Thread nD τ).loc main_arg0)) (m ((c : Thread nD τ).loc main_arg1))) y0 y1).symm
  have h7 := (flush0_6 t).mp hf
  have h := (acc m c t h7 y0 y1).trans (total m c t h7 y0 y1)
  generalize outsAt0 m c t.val t.isLt = O at h ⊢
  exact h

theorem algebraic : Cert.algebraic_DhKIdeal_DhRIdeal := by
  pair_intro
  · run_from Cert.DhKIdeal.Value.run_blocks m g
  · run_from Cert.DhRIdeal.Value.run m' g'
    · funext i
      idx_vars i
      rw [fin6]
      pointwise [KH]

end Cert.Dh

end
-- ==== Proof.SumPair.lean ====
/- The sum of the devices' slabs: the kernel's result is the reference's. -/
module

public import proofs.«01_k».proof.Defs
public import proofs.«01_k».proof.Proof.Gen.SumKIdeal.Value
public import proofs.«01_k».proof.Proof.Gen.SumKIdeal.Frame
public import proofs.«01_k».proof.Proof.Gen.SumRIdeal.Run
public import proofs.«01_k».proof.Proof.Gen.SumRIdeal.Read
public import proofs.«01_k».proof.Proof.Num
@[expose] public section

set_option maxRecDepth 16384

noncomputable section

open Idealize.ShloMosaic Idealize.ShloMosaic.TcCoe Idealize.SL.Sem

namespace Cert.Sum

open Cert.SumKIdeal Cert.SumKIdeal.Gen Cert.SumKIdeal.Value

variable (m : (ℓ : Loc nD τ sig) → Buf (Elt Ideal) ℓ)

/-- The eight slabs added. -/
def KS (a : FVec Ideal S8x128x4096 .bf16) : FVec Ideal S128x4096 .f32 := fun i => ∑ d : Fin 8, (a (ix3 d (i 0) (i 1)) : EReal)

theorem idx : ∀ t : Fin cfg0.N, win0_0.index t = ![0, t.val, 0] ∧ win0_1.index t = ![t.val, 0] :=
  (by decide +kernel : ∀ t : Fin grid0.N, _)

theorem pay1 (a b d e f g h k : Vec Ideal S1x64x4096 .bf16) (r : Fin 64) (l : Fin 4096) :
    k0_pay1 (F := Ideal) a b d e f g h k (ix2 r l) = HAdd.hAdd (α := EReal) (HAdd.hAdd (α := EReal) (HAdd.hAdd (α := EReal) (HAdd.hAdd (α := EReal)
      (HAdd.hAdd (α := EReal) (HAdd.hAdd (α := EReal) (HAdd.hAdd (α := EReal) (a (ix3 0 r l)) (b (ix3 0 r l))) (d (ix3 0 r l))) (e (ix3 0 r l)))
      (f (ix3 0 r l))) (g (ix3 0 r l))) (h (ix3 0 r l))) (k (ix3 0 r l)) := by
  pointwise [k0_pay1]

theorem out1 (x : Vec Ideal S8x64x4096 .bf16) (r : Fin 64) (l : Fin 4096) : out0_1 (F := Ideal) x (ix2 r l) = ∑ d : Fin 8, (x (ix3 d r l) : EReal) := by
  frame_out
  rw [pay1, Fin.sum_univ_eight]
  pointwise

theorem readO (t : Fin cfg0.N) (G : S128x4096.Idx → EReal) (r : Fin 64) (l : Fin 4096) : ((cfg0.win 1).blk t).view.read (Elt Ideal) G (ix2 r l)
    = G (ix2 ⟨t.val * 64 + r.val, by have := t.isLt.trans_eq N_0; omega⟩ l) := by
  blk_point [idx t]

theorem blkX (c : Dev nD) (t : Fin cfg0.N) (d : Fin 8) (r : Fin 64) (l : Fin 4096) : iblk m c 0 t (ix3 d r l)
    = m ((c : Thread nD τ).loc main_arg0) (ix3 d ⟨t.val * 64 + r.val, by have := t.isLt.trans_eq N_0; omega⟩ l) := by
  blk_point [iblk, V, idx t]

theorem fin1 (c : Dev nD) : (dats m 0 c).arrAt 1 cfg0.N = KS (m ((c : Thread nD τ).loc main_arg0)) := by
  refine (dats m 0 c).arrAt_eq_of_covers 1 _ (by decide +kernel) fun t hf y => ?_
  rw [after0_1]
  idx_vars y
  refine Eq.trans ?_ (readO t (KS (m ((c : Thread nD τ).loc main_arg0))) y0 y1).symm
  have h := out1 (iblk m c 0 t) y0 y1
  simp only [blkX] at h
  generalize out0_1 (iblk m c 0 t) = O at h ⊢
  exact h

theorem ref (X : FVec Ideal S8x128x4096 .bf16) : Cert.SumRIdeal.Read.val_main_v1 (F := Ideal) X = KS X := by
  funext i
  idx_vars i
  rw [Cert.SumRIdeal.Read.val_main_v1_apply]
  pointwise [KS, Cert.SumRIdeal.Read.val_main_v0, Cert.SumRIdeal.Read.val_main_cst]
  refine Finset.sum_congr rfl fun x _ => congrArg X ?_
  blk_ext

theorem algebraic : Cert.algebraic_SumKIdeal_SumRIdeal := by
  pair_intro
  · run_from Cert.SumKIdeal.Value.run_blocks m g
  · refine Idealize.ShloMosaic.θ_run_mono (Cert.SumRIdeal.Value.run m' g') ?_
    intro r hr c
    have hc := hr c
    refine ⟨hc.1.trans ?_, hc.2⟩
    rw [hagree c]
    clear hc hr
    rw [fin1]
    exact (Cert.SumRIdeal.Read.val_main_v1_eq _).trans (ref _)

end Cert.Sum

end
-- ==== Proof.AdamPair.lean ====
/- The optimiser's update: the kernel's results are the reference's. -/
module

public import proofs.«01_k».proof.Defs
public import proofs.«01_k».proof.Proof.Gen.AdamKIdeal.Value
public import proofs.«01_k».proof.Proof.Gen.AdamKIdeal.Frame
public import proofs.«01_k».proof.Proof.Gen.AdamRIdeal.Run
public import proofs.«01_k».proof.Proof.Gen.AdamRIdeal.Read
public import proofs.«01_k».proof.Proof.Num
@[expose] public section

set_option maxRecDepth 16384

noncomputable section

open Idealize.ShloMosaic Idealize.ShloMosaic.TcCoe Idealize.SL.Sem

namespace Cert.Adam

open Cert.AdamKIdeal Cert.AdamKIdeal.Gen Cert.AdamKIdeal.Value

variable (m : (ℓ : Loc nD τ sig) → Buf (Elt Ideal) ℓ)

abbrev T3 := FVec Ideal S2x128x7684 .f32

/-- The first moment. -/
def KM (g m : T3) : T3 := fun i => HAdd.hAdd (α := EReal) (Ideal.ofBits .f32 0x3F666666#32 * m i) (Ideal.ofBits .f32 0x3DCCCCCD#32 * g i)

/-- The second moment. -/
def KV (g v : T3) : T3 := fun i => HAdd.hAdd (α := EReal) (Ideal.ofBits .f32 0x3F7FBE77#32 * v i) (Ideal.ofBits .f32 0x3A83126F#32 * HMul.hMul (α := EReal) (g i) (g i))

/-- The step. -/
def KD (p g m v : T3) : T3 := fun i => HMul.hMul (α := EReal) (Ideal.ofBits .f32 0xBA83126F#32)
  (Ideal.div (Ideal.div (KM g m i) (Ideal.ofBits .f32 0x3F26BD02#32))
      (Ideal.sqrt (Ideal.div (KV g v i) (Ideal.ofBits .f32 0x3C231ACC#32)) + Ideal.ofBits .f32 0x322BCC77#32)
    + Ideal.ofBits .f32 0x3C23D70A#32 * p i)

theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![t.val / 4, t.val % 4, 0] ∧ win0_4.index t = ![t.val / 4, t.val % 4, 0] ∧ win0_5.index t = ![t.val / 4, t.val % 4, 0] ∧ win0_6.index t = ![t.val / 4, t.val % 4, 0] :=
  (by decide +kernel : ∀ t : Fin grid0.N, _)

theorem fin4 (c : Dev nD) : (dats m 0 c).arrAt 4 (cfgs 0).N = KD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay4, k0_pay5, k0_pay3, k0_pay2, KM, KV, KD]
  blk_point [iblk, V, idx t]

theorem fin5 (c : Dev nD) : (dats m 0 c).arrAt 5 (cfgs 0).N = KM (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay2, KM]
  blk_point [iblk, V, idx t]

theorem fin6 (c : Dev nD) : (dats m 0 c).arrAt 6 (cfgs 0).N = KV (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay3, KV]
  blk_point [iblk, V, idx t]

theorem algebraic : Cert.algebraic_AdamKIdeal_AdamRIdeal := by
  pair_intro
  · run_from Cert.AdamKIdeal.Value.run_blocks m g
  · run_from Cert.AdamRIdeal.Value.run m' g'
    · funext i
      idx_vars i
      rw [fin4]
      pointwise [KD, KM, KV]
    · funext i
      idx_vars i
      rw [fin5]
      pointwise [KM]
    · funext i
      idx_vars i
      rw [fin6]
      pointwise [KV]

end Cert.Adam

end
-- ==== Proof.Rms.lean ====
/- The backward root-mean-square norm: both results of the kernel against the reference's gradient. -/
module

public import proofs.«01_k».proof.Proof.Num
public import proofs.«01_k».proof.Proof.Gen.RmsKIdeal.Frame

@[expose] public section

set_option maxRecDepth 16384

noncomputable section

open Idealize.ShloMosaic Idealize.ShloMosaic.TcCoe Idealize.SL.Sem

namespace Cert.RmsKIdeal.Value

open Cert.RmsKIdeal Cert.RmsKIdeal.Gen

/-- The reciprocal root mean square of a row. -/
def rr (x : Fin 1024 → EReal) : EReal :=
  Ideal.rsqrt (Ideal.div (∑ k, x k * x k) (Ideal.ofBits .f32 0x44800000#32) + Ideal.ofBits .f32 0x358637BD#32)

/-- One element of the gradient of the norm's input, as the kernel computes it. -/
def dxRow (x d : Fin 1024 → EReal) (p : EReal) (l : Fin 1024) : EReal :=
  p + rr x * (d l - x l * rr x * Ideal.div (∑ k, d k * (x k * rr x)) (Ideal.ofBits .f32 0x44800000#32))

/-- The gradient of the norm's input over the whole arrays. -/
def KDX (x dh p : FVec Ideal S4096x1024 .f32) (g : FVec Ideal S1024 .f32) : FVec Ideal S4096x1024 .f32 := fun i =>
  dxRow (fun k => x (ix2 (i 0) k)) (fun k => dh (ix2 (i 0) k) * g (ix1 k)) (p (ix2 (i 0) (i 1))) (i 1)

/-- One row's part of the scale's gradient. -/
def dgTerm (x dh : FVec Ideal S4096x1024 .f32) (l : Fin 1024) (r : Fin 4096) : EReal :=
  dh (ix2 r l) * (x (ix2 r l) * rr fun k => x (ix2 r k))

/-- The scale's gradient folded to eight rows. -/
def KDG (x dh : FVec Ideal S4096x1024 .f32) : FVec Ideal S8x1024 .f32 := fun i =>
  ∑ p : Fin 8, ∑ q : Fin 64, dgTerm x dh (i 1) ⟨p * 512 + (q * 8 + i 0), by have : (i 0 : ℕ) < 8 := (i 0).isLt; omega⟩

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The weight as the region finds it: one row. -/
theorem V_v0 (c : Dev nD) : V m c main_v0 = shapeCast S1x1024 (m ((c : Thread nD τ).loc main_arg1)) facts.shapeCasts_S1024_S1x1024 := by
  show StableHlo.after hostOps0 _ _ = _
  after_results
  try rfl

theorem point4 (c : Dev nD) (t : Fin cfg0.N) (y) : k0_pay4 (F := Ideal) (iblk m c 1 t) (iblk m c 0 t) (iblk m c 2 t) (iblk m c 3 t) y
    = KDX (m ((c : Thread nD τ).loc main_arg0)) (m ((c : Thread nD τ).loc main_arg2)) (m ((c : Thread nD τ).loc main_arg3))
        (m ((c : Thread nD τ).loc main_arg1)) (((cfg0.win 4).blk t).view.emb y) := by
  pointwise [k0_pay4, k0_pay3, k0_pay2, KDX, dxRow, rr]
  blk_point [iblk, V, idx t]
  all_goals
    rw [V_v0]
    pointwise
    blk_ext [idx t]

theorem fin4 (c : Dev nD) : (dats m 0 c).arrAt 4 (cfgs 0).N
    = KDX (m ((c : Thread nD τ).loc main_arg0)) (m ((c : Thread nD τ).loc main_arg2)) (m ((c : Thread nD τ).loc main_arg3))
        (m ((c : Thread nD τ).loc main_arg1)) := by
  refine (dats m 0 c).arrAt_eq_of_covers 4 _ (by decide +kernel) fun t hf y => ?_
  blk_simp
  rw [after0_4]
  by_cases h : t.val % 8 = 0
  · rw [outsAt0_A m c t h]; frame_out
    exact point4 m c t y
  · rw [outsAt0_B m c t h]; frame_out
    exact point4 m c t y

theorem k0_pay5_zero (j : S8x1024.Idx) : k0_pay5 (F := Ideal) j = 0 := by pointwise [k0_pay5]

/-- The in-kernel fold: the 64 groups of eight rows added up. -/
theorem fold (acc : FVec Ideal S8x1024 .f32) (v : FVec Ideal S512x1024 .f32) (a : Fin 8) (l : Fin 1024) :
    k0_pay1 (k0_pay6 (F := Ideal) acc) v (k0_pay10 v (k0_pay9 v (addf (extractStridedSlice S8x1024 ![0, 0] v slices_S512x1024_o0_0_S8x1024)
        (extractStridedSlice S8x1024 ![8, 0] v slices_S512x1024_o8_0_S8x1024)))) (ix2 a l)
      = acc (ix2 a l) + ∑ q : Fin 64, v (ix2 ⟨q * 8 + a, by omega⟩ l) := by
  obtain ⟨W, hW⟩ : ∃ W : ℕ → EReal, ∀ (n : ℕ) (h : n + a < 512), v (ix2 ⟨n + a, h⟩ l) = W n :=
    ⟨fun n => if h : n + a < 512 then v (ix2 ⟨n + a, h⟩ l) else 0, fun n h => by simp only [h, dite_true]⟩
  have hW0 (h : (a : ℕ) < 512) : v (ix2 ⟨a, h⟩ l) = W 0 := by rw [← hW 0 (by omega)]; simp only [Nat.zero_add]
  pointwise [k0_pay1, k0_pay6, k0_pay10, k0_pay9]
  simp only [hW, hW0]
  rw [Fin.sum_univ_eq_sum_range (fun q => W (q * 8)) 64]
  simp only [Finset.sum_range_succ, Finset.sum_range_zero, Nat.reduceMul, Nat.zero_mul, zero_add]

/-- What one point adds to the folded gradient: its 512 rows by groups of eight. -/
theorem payFold (acc : FVec Ideal S8x1024 .f32) (x dh : FVec Ideal S512x1024 .f32) (j : S8x1024.Idx) :
    k0_pay1 (k0_pay6 (F := Ideal) acc) (k0_pay7 x dh) (k0_pay10 (k0_pay7 x dh) (k0_pay9 (k0_pay7 x dh) (k0_pay8 x dh))) j
      = acc j + ∑ q : Fin 64, dh (ix2 ⟨q * 8 + j 0, by have : (j 0 : ℕ) < 8 := (j 0).isLt; omega⟩ (j 1))
          * (x (ix2 ⟨q * 8 + j 0, by have : (j 0 : ℕ) < 8 := (j 0).isLt; omega⟩ (j 1))
            * rr fun k => x (ix2 ⟨q * 8 + j 0, by have : (j 0 : ℕ) < 8 := (j 0).isLt; omega⟩ k)) := by
  have h (r : Fin 512) (l : Fin 1024) : k0_pay7 (F := Ideal) x dh (ix2 r l) = dh (ix2 r l) * (x (ix2 r l) * rr fun k => x (ix2 r k)) := by
    pointwise [k0_pay7, k0_pay3, k0_pay2, rr]
  idx_vars j
  exact (fold acc (k0_pay7 x dh) j0 j1).trans (congrArg (acc (ix2 j0 j1) + ·) (Finset.sum_congr rfl fun q _ => h _ _))

theorem fin5 (c : Dev nD) : (dats m 0 c).arrAt 5 (cfgs 0).N
    = KDG (m ((c : Thread nD τ).loc main_arg0)) (m ((c : Thread nD τ).loc main_arg2)) := by
  refine (dats m 0 c).arrAt_eq_of_after_last 5 t0_7 (by decide +kernel) _ fun j => ?_
  blk_simp
  rw [after0_5]
  rw [Pipeline.eq_sum_fin_of_reset_step_apply_last (fun n h => (outsAt0 m c n h).2) 8 (fun _ => (0 : EReal)) _
    (fun t h j => by rw [outsAt0_A m c t h]; frame_out; rw [payFold, k0_pay5_zero])
    (fun t h j => by rw [outsAt0_B m c t h]; frame_out; rw [payFold])
    (le_of_eq N_0) t0_7 rfl j, zero_add]
  unfold KDG
  refine Fin.sum_fin_congr fun p => ?_
  refine Fin.sum_fin_congr fun q => ?_
  pointwise [dgTerm, rr]
  blk_point [iblk, V, idx p]

end Cert.RmsKIdeal.Value

end
-- ==== Proof.RmsPair.lean ====
/- The backward root-mean-square norm: the kernel's two results are the reference's. -/
module

public import proofs.«01_k».proof.Defs
public import proofs.«01_k».proof.Proof.Rms
public import proofs.«01_k».proof.Proof.Gen.RmsRIdeal.Run

@[expose] public section

set_option maxRecDepth 16384

noncomputable section

open Idealize.ShloMosaic Idealize.ShloMosaic.TcCoe Idealize.SL.Sem

namespace Cert.Rms

instance preFacts : Cert.Pre_finite_rms.Facts := ⟨by decide⟩

open Cert.RmsKIdeal Cert.RmsKIdeal.Gen Cert.RmsKIdeal.Value

open Cert.Num in
/-- One element of the input's gradient: the reference's two passes through the mean of squares are the kernel's one subtraction. -/
theorem row (a : Fin 1024 → ℝ) (d : Fin 1024 → EReal) (p : EReal) (l : Fin 1024) {x : Fin 1024 → EReal} (hx : ∀ k, x k = a k)
    {r : EReal} (hr : r = rr x) {μ : EReal} (hμ : μ = Ideal.div (∑ k, x k * x k) (Ideal.ofBits .f32 0x44800000#32) + Ideal.ofBits .f32 0x358637BD#32) :
    p + d l * r + x l * (∑ _i : Fin 1, Ideal.div ((∑ k, x k * d k) * (Ideal.ofBits .f32 0xBF000000#32 * Ideal.div r μ)) (Ideal.ofBits .f32 0x44800000#32))
      + (∑ _i : Fin 1, Ideal.div ((∑ k, x k * d k) * (Ideal.ofBits .f32 0xBF000000#32 * Ideal.div r μ)) (Ideal.ofBits .f32 0x44800000#32)) * x l
      = dxRow x d p l := by
  obtain rfl : x = fun k => (a k : EReal) := funext hx
  have h0 : (0 : ℝ) < (∑ k, a k * a k) / 1024 + epsR :=
    add_pos_of_nonneg_of_pos (div_nonneg (Finset.sum_nonneg fun k _ => mul_self_nonneg _) (by norm_num)) epsR_pos
  have e : Ideal.div (∑ k, (a k : EReal) * a k) (Ideal.ofBits .f32 0x44800000#32) + Ideal.ofBits .f32 0x358637BD#32
      = (((∑ k, a k * a k) / 1024 + epsR : ℝ) : EReal) := by
    simp only [← EReal.coe_mul]
    rw [← coe_sum, lit_1024, coe_div_coe _ (by norm_num), lit_eps, EReal.coe_add]
  rw [e] at hμ
  generalize (∑ k, a k * a k) / 1024 + epsR = μ' at h0 e hμ
  have er : rr (fun k => (a k : EReal)) = (((Real.sqrt μ')⁻¹ : ℝ) : EReal) := by
    unfold rr
    rw [e, rsqrt_coe h0]
  have hs : (0 : ℝ) ≤ (Real.sqrt μ')⁻¹ := by positivity
  unfold dxRow
  rw [er] at hr ⊢
  have eS : ∑ k, d k * ((a k : EReal) * (((Real.sqrt μ')⁻¹ : ℝ) : EReal)) = (((Real.sqrt μ')⁻¹ : ℝ) : EReal) * ∑ k, (a k : EReal) * d k := by
    rw [mul_sum_nonneg hs]
    refine Finset.sum_congr rfl fun k _ => ?_
    rw [mul_comm (a k : EReal), ← mul_assoc, mul_comm (d k), mul_assoc, mul_comm (d k)]
  rw [eS, hr, hμ, lit_1024, lit_neg_half, coe_div_coe _ h0.ne', ← EReal.coe_mul]
  generalize ∑ k, (a k : EReal) * d k = S
  simp only [div_coe _ (show (1024 : ℝ) ≠ 0 by norm_num), Finset.univ_unique, Finset.sum_singleton]
  have c1 (u v : ℝ) : (a l : EReal) * (S * (u : EReal) * (v : EReal)) = ((a l * u * v : ℝ) : EReal) * S := by
    rw [mul_comm S, mul_right_comm, ← mul_assoc, ← EReal.coe_mul, ← EReal.coe_mul, mul_assoc]
  rw [mul_comm _ (a l : EReal), c1, add_assoc, add_assoc]
  congr 1
  have c2 (s v : ℝ) : (a l : EReal) * (s : EReal) * ((s : EReal) * S * (v : EReal)) = ((a l * s * s * v : ℝ) : EReal) * S := by
    rw [mul_right_comm (s : EReal) S, ← EReal.coe_mul, ← EReal.coe_mul, ← mul_assoc, ← EReal.coe_mul]
    congr 2; ring
  rw [c2, sub_eq_add_neg, ← neg_mul, ← EReal.coe_neg, mul_add_nonneg hs, mul_comm (d l)]
  congr 1
  rw [← mul_assoc (((Real.sqrt μ')⁻¹ : ℝ) : EReal), ← EReal.coe_mul,
    ← half_add_half ((Real.sqrt μ')⁻¹ * -(a l * (Real.sqrt μ')⁻¹ * (Real.sqrt μ')⁻¹ * (1024 : ℝ)⁻¹))]
  have q : (Real.sqrt μ')⁻¹ * (Real.sqrt μ')⁻¹ = μ'⁻¹ := by rw [← mul_inv, Real.mul_self_sqrt h0.le]
  have q3 : (Real.sqrt μ')⁻¹ * -(a l * (Real.sqrt μ')⁻¹ * (Real.sqrt μ')⁻¹ * (1024 : ℝ)⁻¹) / 2
      = a l * (-(1 / 2) * ((Real.sqrt μ')⁻¹ / μ')) * (1024 : ℝ)⁻¹ := by
    rw [div_eq_mul_inv _ μ', ← q]; ring
  rw [q3]

open Cert.Num in
theorem tail (m : (ℓ : Loc nD τ sig) → Buf (Elt Ideal) ℓ) (c : Dev nD) :
    Pipeline.afterTail₀ cfgs (dats m) 0 (V0 m) [hostOps1] c main_v2
      = (Host.reduceAdd (KDG (m ((c : Thread nD τ).loc main_arg0)) (m ((c : Thread nD τ).loc main_arg2)))
          (constant (F := Ideal) S_ .f32 0x00000000#32) facts.reducesTo_S8x1024_S1024_d0 facts.h_S_ : FVec Ideal S1024 .f32) := by
  unfold Pipeline.afterTail₀
  show StableHlo.after hostOps1 _ _ = _
  after_results
  have e : Pipeline.withArrays (cfgs 0).spec c (V0 m c) (fun w => (dats m 0 c).arrAt w (cfgs 0).N) (Proc.devRef .tc main_v1_1)
      = (dats m 0 c).arrAt 5 (cfgs 0).N := Pipeline.withArrays_arr (cfgs 0).spec launch0.win.arr_inj c _ _ 5
  rw [e, fin5]

theorem real_of_pre {m : (ℓ : Loc Cert.RmsKIdeal.nD Cert.RmsKIdeal.τ Cert.RmsKIdeal.sig) → Buf (Elt Ideal) ℓ}
    (h : Cert.Pre_RmsKIdeal_finite_rms m) (c : Dev Cert.RmsKIdeal.nD) (i) : ∃ r : ℝ, m ((c.tc : Thread nD τ).loc main_arg0) i = (r : EReal) := by
  exact Cert.Num.real_of_test _ _ i rfl (congrFun (h c) i)

theorem algebraic : Cert.algebraic_RmsKIdeal_RmsRIdeal_pre_finite_rms := by
  pair_intro
  · run_from Cert.RmsKIdeal.Gen.run_main m g
    exact W_main_arg1 m (dats m) c
  · run_from Cert.RmsRIdeal.Value.run m' g'
    · funext i
      idx_vars i
      have hf (k : Fin 1024) := real_of_pre hpre c (ix2 i0 k)
      choose a ha using hf
      rw [fin4]
      pointwise [KDX]
      exact row a (fun k => HMul.hMul (α := EReal) (β := EReal) (γ := EReal) (m (c.tc.loc main_arg2) (ix2 i0 k)) (m (c.tc.loc main_arg1) (ix1 k))) (m (c.tc.loc main_arg3) (ix2 i0 i1)) i1 ha rfl rfl
    · funext i
      idx_vars i
      rw [tail]
      pointwise [KDG]
      refine Eq.trans ?_ (Cert.Num.sum_rows (dgTerm (m (c.tc.loc main_arg0)) (m (c.tc.loc main_arg2)) i0)).symm
      rw [Finset.univ_unique, Finset.sum_singleton]
      exact Finset.sum_congr rfl fun r _ => mul_comm _ _

end Cert.Rms

end
-- ==== Proof.Cum.lean ====
/- The backward cumulative sum of the forget gate's logarithms: what the kernel's two results hold. -/
module

public import proofs.«01_k».proof.Proof.Num
public import proofs.«01_k».proof.Proof.Gen.CumKIdeal.Frame

@[expose] public section

set_option maxRecDepth 16384

noncomputable section

open Idealize.ShloMosaic Idealize.ShloMosaic.TcCoe Idealize.SL.Sem

namespace Cert.CumKIdeal.Value

open Cert.CumKIdeal Cert.CumKIdeal.Gen

/-- A column cotangent with the row cotangent of its own head added: the lane `l` picks the head. -/
def dcv (a : EReal) (q : Fin 4 → EReal) (l : Fin 128) : EReal :=
  a + Scalar.select (IntOp.cmpi CmpIPredicate.eq (BitVec.ofNat 32 l) 0#32) (q 0) 0
    + Scalar.select (IntOp.cmpi CmpIPredicate.eq (BitVec.ofNat 32 l) 1#32) (q 1) 0
    + Scalar.select (IntOp.cmpi CmpIPredicate.eq (BitVec.ofNat 32 l) 2#32) (q 2) 0
    + Scalar.select (IntOp.cmpi CmpIPredicate.eq (BitVec.ofNat 32 l) 3#32) (q 3) 0

theorem dcv_lane (a : EReal) (q : Fin 4 → EReal) (l : Fin 4) : dcv a q ⟨l, by omega⟩ = a + q l := by
  unfold dcv
  fin_cases l <;> simp [Scalar.select, IntOp.cmpi]

/-- Row `k` of the block the point `n` reads: the blocks are taken from the last to the first. -/
def revN (n : ℕ) (k : Fin 512) : Fin 4096 := ⟨(7 - n) * 512 + k, by omega⟩

/-- The sum of the rows from `r` on, block by block backwards: the blocks already passed in whole, and of the point's own the rows from `r` on. -/
theorem suffix (f : Fin 4096 → EReal) (t : ℕ) (ht : t < 8) (r : Fin 512) :
    (∑ x : Fin 512, if r ≤ x then f (revN t x) else 0) + ∑ p : Fin 8, (if p.val < t then ∑ x : Fin 512, f (revN p x) else 0)
      = ∑ j : Fin 4096, if revN t r ≤ j then f j else 0 := by
  have e := Equiv.sum_comp Fin.revPerm (fun b : Fin 8 => ∑ x : Fin 512, if revN t r ≤ (⟨b.val * 512 + x.val, by omega⟩ : Fin 4096)
    then f ⟨b.val * 512 + x.val, by omega⟩ else 0)
  rw [Fin.sum_univ_tiles 8 512 rfl]
  refine Eq.trans ?_ e
  have h (p : Fin 8) : (∑ x : Fin 512, if revN t r ≤ (⟨(Fin.revPerm p : Fin 8).val * 512 + x.val, by have := (Fin.revPerm p : Fin 8).isLt; omega⟩ : Fin 4096)
        then f ⟨(Fin.revPerm p : Fin 8).val * 512 + x.val, by have := (Fin.revPerm p : Fin 8).isLt; omega⟩ else 0)
      = (if p = ⟨t, ht⟩ then ∑ x : Fin 512, (if r ≤ x then f (revN t x) else 0) else 0)
        + if p.val < t then ∑ x : Fin 512, f (revN p x) else 0 := by
    have hp : (Fin.revPerm p : Fin 8).val = 7 - p.val := by
      rw [Fin.revPerm_apply, Fin.val_rev]; omega
    have hr (x : Fin 512) : (⟨(Fin.revPerm p : Fin 8).val * 512 + x.val, by have := (Fin.revPerm p : Fin 8).isLt; omega⟩ : Fin 4096) = revN p x :=
      Fin.ext (congrArg (· * 512 + x.val) hp)
    simp only [hr]
    have hlt := p.isLt
    rcases lt_trichotomy p.val t with h | h | h
    · rw [if_neg (fun e => by rw [e] at h; exact lt_irrefl _ h), if_pos h, zero_add]
      refine Finset.sum_congr rfl fun x _ => if_pos ?_
      show (7 - t) * 512 + r.val ≤ (7 - p.val) * 512 + x.val
      have := r.isLt
      omega
    · rw [if_pos (Fin.ext h), if_neg (by omega), add_zero]
      refine Finset.sum_congr rfl fun x _ => ?_
      rw [h]
      refine if_congr ?_ rfl rfl
      show (7 - t) * 512 + r.val ≤ (7 - t) * 512 + x.val ↔ r.val ≤ x.val
      omega
    · rw [if_neg (fun e => by rw [e] at h; exact lt_irrefl _ h), if_neg (by omega), zero_add]
      refine Finset.sum_eq_zero fun x _ => if_neg ?_
      show ¬(7 - t) * 512 + r.val ≤ (7 - p.val) * 512 + x.val
      have := x.isLt
      omega
  refine Eq.trans ?_ (Finset.sum_congr rfl fun p _ => (h p).symm)
  rw [Finset.sum_add_distrib, Finset.sum_ite_eq' Finset.univ, if_pos (Finset.mem_univ _)]

theorem sum_Iic {N : ℕ} (hN : N = 8) (t : Fin N) (A : ℕ → EReal) :
    ∑ p ∈ Finset.Iic t, A p.val = ∑ p : Fin 8, if p.val < t.val + 1 then A p.val else 0 := by
  subst hN
  rw [← Finset.sum_filter]
  refine Finset.sum_congr (Finset.ext fun p => ?_) fun _ _ => rfl
  simp only [Finset.mem_Iic, Finset.mem_filter, Finset.mem_univ, true_and]
  exact Nat.lt_succ_iff.symm

variable (m : (ℓ : Loc nD τ sig) → Buf (Elt Ideal) ℓ)

theorem idx : ∀ t : Fin cfg0.N, win0_0.index t = ![0, 7 - t.val, 0] ∧ win0_1.index t = ![7 - t.val, 0] ∧ win0_2.index t = ![7 - t.val, 0]
    ∧ win0_3.index t = ![0, 0] ∧ win0_4.index t = ![7 - t.val, 0] ∧ win0_5.index t = ![0, 0] :=
  (by decide +kernel : ∀ t : Fin grid0.N, _)

theorem V_v5 (c : Dev nD) : V m c main_v5 = pad S4096x128 ![0, 0] ![0, 124] ![0, 0] (transpose S4096x4 [1, 0]
        (shapeCast S4x4096 (m (c, Proc.tc.devRef main_arg3)) facts.shapeCasts_S4x8x1x512_S4x4096) facts.transposes_S4x4096_S4096x4_1_0)
      (sitofp (F := Ideal) .f32 (constantI S_ 32 0#32)) facts.pads_S4096x4_S4096x128_000_01240 facts.h_S_ := by
  show StableHlo.after (List.flatten [hostOps0, hostOps0_1, hostOps0_2, hostOps0_3, hostOps0_4, hostOps0_5]) _ _ = _
  simp only [List.flatten, List.append]
  after_results
  rfl

theorem V_v0 (c : Dev nD) : V m c main_v0 = pad S4096x128 ![0, 0] ![0, 124] ![0, 0] (m ((c : Thread nD τ).loc main_arg0) : FVec Ideal S4096x4 .f32)
      (sitofp (F := Ideal) .f32 (constantI S_ 32 0#32)) facts.pads_S4096x4_S4096x128_000_01240 facts.h_S_ := by
  show StableHlo.after (List.flatten [hostOps0, hostOps0_1, hostOps0_2, hostOps0_3, hostOps0_4, hostOps0_5]) _ _ = _
  simp only [List.flatten, List.append]
  after_results
  rfl

theorem V_v2 (c : Dev nD) : V m c main_v2 = pad S1x128 ![0, 0] ![0, 124] ![0, 0] (shapeCast S1x4 (m (c, Proc.tc.devRef main_arg1)) facts.shapeCasts_S4_S1x4)
      (sitofp (F := Ideal) .f32 (constantI S_ 32 0#32)) facts.pads_S1x4_S1x128_000_01240 facts.h_S_ := by
  show StableHlo.after (List.flatten [hostOps0, hostOps0_1, hostOps0_2, hostOps0_3, hostOps0_4, hostOps0_5]) _ _ = _
  simp only [List.flatten, List.append]
  after_results
  rfl

theorem v5_apply (c : Dev nD) (r : Fin 4096) (l : Fin 4) : V m c main_v5 (ix2 r ⟨l, by omega⟩)
    = m ((c : Thread nD τ).loc main_arg3) (ix4 l ⟨r / 512, by omega⟩ 0 ⟨r % 512, by omega⟩) := by
  rw [V_v5]
  have := l.isLt
  pointwise

theorem pad_lane (x : FVec Ideal S4096x4 .f32) (v : FVec Ideal S_ .f32) (h) (hu) (r : Fin 4096) (l : Fin 4) :
    (pad S4096x128 ![0, 0] ![0, 124] ![0, 0] x v h hu : FVec Ideal S4096x128 .f32) (ix2 r ⟨l, by omega⟩) = x (ix2 r l) := by
  have := l.isLt
  pointwise

theorem v0_apply (c : Dev nD) (r : Fin 4096) (l : Fin 4) : V m c main_v0 (ix2 r ⟨l, by omega⟩)
    = m ((c : Thread nD τ).loc main_arg0) (ix2 r l) :=
  (congrFun (V_v0 m c) _).trans (pad_lane _ _ _ _ r l)

theorem v2_apply (c : Dev nD) (l : Fin 4) : V m c main_v2 (ix2 0 ⟨l, by omega⟩) = m ((c : Thread nD τ).loc main_arg1) (ix1 l) := by
  rw [V_v2]
  have := l.isLt
  pointwise

/-- The cotangent of the cumulated sum at a row and a lane. -/
def DC (c : Dev nD) (r : Fin 4096) (l : Fin 128) : EReal :=
  dcv (V m c main_v5 (ix2 r l)) (fun h => m ((c : Thread nD τ).loc main_arg2) (ix3 h r 0)) l

/-- The gradient of the gate's sum `z`, from the rows' suffix sum. -/
def DZ (c : Dev nD) (r : Fin 4096) (l : Fin 128) : EReal :=
  (∑ j : Fin 4096, if r ≤ j then DC m c j l else 0)
    * (1 - (Ideal.ofBits .f32 0x3F000000#32 * Ideal.tanh (Ideal.ofBits .f32 0x3F000000#32
        * HAdd.hAdd (α := EReal) (β := EReal) (γ := EReal) (V m c main_v0 (ix2 r l)) (V m c main_v2 (ix2 0 l))) + Ideal.ofBits .f32 0x3F000000#32))

/-- The cotangents' block at point `t`, as the kernel puts it together. -/
abbrev dcBlk (c : Dev nD) (t : Fin cfg0.N) : FVec Ideal S512x128 .f32 :=
  k0_pay4 (iblk m c 1 t) (View.ld (iblk m c 0 t) (Rect.unit ![0, 0, 0] ![1, 512, 1] inb_S4x512x1_S1x512x1_0_0_0))
    (View.ld (iblk m c 0 t) (Rect.unit ![1, 0, 0] ![1, 512, 1] inb_S4x512x1_S1x512x1_1_0_0))
    (View.ld (iblk m c 0 t) (Rect.unit ![2, 0, 0] ![1, 512, 1] inb_S4x512x1_S1x512x1_2_0_0))

theorem blk1 (c : Dev nD) (t : Fin cfg0.N) (k : Fin 512) (l : Fin 128) : iblk m c 1 t (ix2 k l) = V m c main_v5 (ix2 (revN t k) l) := by
  blk_point [iblk, V, idx t, revN]

theorem pay5 (c : Dev nD) (t : Fin cfg0.N) (k : Fin 512) (l : Fin 128) :
    k0_pay5 (F := Ideal) (iota .tc S1x128 32 [1] iota_S1x128_d1_w32) (dcBlk m c t)
      (View.ld (iblk m c 0 t) (Rect.unit ![3, 0, 0] ![1, 512, 1] inb_S4x512x1_S1x512x1_3_0_0)) (ix2 k l) = DC m c (revN t k) l := by
  pointwise [k0_pay5, dcBlk, k0_pay4, DC, dcv]
  have h (a : Fin 4) : iblk m c 0 t (ix3 a k 0) = m ((c : Thread nD τ).loc main_arg2) (ix3 a (revN t k) 0) := by
    blk_point [iblk, V, idx t, revN]
  rw [blk1 m c t k l, h, h, h, h]

/-- The carry after point `t`: the rows of the blocks passed so far. -/
theorem carry (c : Dev nD) (t : Fin cfg0.N) (l : Fin 128) : (outsAt0 m c t.val t.isLt).2.2 (ix2 0 l)
    = ∑ p : Fin 8, if p.val < t.val + 1 then ∑ x : Fin 512, DC m c (revN p x) l else 0 := by
  rw [Pipeline.eq_sum_fin_of_reset_step_apply_single (fun n h => (outsAt0 m c n h).2.2) 8 (fun _ => (0 : EReal))
    (fun p j => ∑ x : Fin 512, DC m c (revN p x) (j 1)) (fun t h j => by
      rw [outsAt0_A m c t h]; frame_out
      idx_vars j
      pointwise [k0_pay7, k0_pay2]
      exact Finset.sum_congr rfl fun x _ => pay5 m c t x j1)
    (fun t h j => by
      rw [outsAt0_B m c t h]; frame_out
      idx_vars j
      pointwise [k0_pay7]
      rw [(Memref.isWhole_whole _).read_unread]
      exact congrArg _ (Finset.sum_congr rfl fun x _ => pay5 m c t x j1))
    (le_of_eq N_0) t (ix2 0 l), zero_add]
  exact sum_Iic N_0 t (fun n => ∑ x : Fin 512, DC m c (revN n x) l)

theorem pay10 (c : Dev nD) (t : Fin cfg0.N) (cy : FVec Ideal S1x128 .f32) (j : S512x128.Idx)
    (hcy : ∀ l : Fin 128, cy (ix2 0 l) = ∑ p : Fin 8, if p.val < t.val then ∑ x : Fin 512, DC m c (revN p x) l else 0) :
    k0_pay10 (F := Ideal) (k0_pay6 (iota .tc S1x128 32 [1] iota_S1x128_d1_w32) (dcBlk m c t)
        (View.ld (iblk m c 0 t) (Rect.unit ![3, 0, 0] ![1, 512, 1] inb_S4x512x1_S1x512x1_3_0_0)) cy)
      (k0_pay8 (iblk m c 2 t) (iblk m c 3 t)) k0_pay9 j = DZ m c (revN t (j 0)) (j 1) := by
  idx_vars j
  have ht : t.val < 8 := lt_of_lt_of_eq t.isLt N_0
  have h2 : iblk m c 2 t (ix2 j0 j1) = V m c main_v0 (ix2 (revN t j0) j1) := by blk_point [iblk, V, idx t, revN]
  have h3 : iblk m c 3 t (ix2 0 j1) = V m c main_v2 (ix2 0 j1) := by blk_point [iblk, V, idx t]
  pointwise [k0_pay10, k0_pay9, k0_pay8, k0_pay6, DZ]
  rw [h2, h3, hcy, ← suffix _ t ht]
  congr 2
  refine Finset.sum_congr rfl fun x _ => ?_
  rw [pay5]
  have := j0.isLt
  have := x.isLt
  word_cmp
  exact if_congr Iff.rfl rfl rfl

/-- The gate logits' gradient, all lanes. -/
def KDP (c : Dev nD) : FVec Ideal S4096x128 .bf16 := fun i => DZ m c (i 0) (i 1)

/-- The bias's gradient folded to eight rows. -/
def KDB (c : Dev nD) : FVec Ideal S8x128 .f32 := fun i =>
  ∑ p : Fin 8, ∑ q : Fin 64, DZ m c (revN p ⟨q * 8 + i 0, by have : (i 0 : ℕ) < 8 := (i 0).isLt; omega⟩) (i 1)

theorem carry_A (c : Dev nD) (t : Fin cfg0.N) (h : t.val % 8 = 0) (l : Fin 128) :
    k0_pay2 (F := Ideal) (ix2 0 l) = ∑ p : Fin 8, if p.val < t.val then ∑ x : Fin 512, DC m c (revN p x) l else 0 := by
  have ht : t.val < 8 := lt_of_lt_of_eq t.isLt N_0
  have h0 : t.val = 0 := by omega
  pointwise [k0_pay2]
  rw [h0]
  exact (Finset.sum_eq_zero fun p _ => if_neg (Nat.not_lt_zero _)).symm

theorem carry_B (c : Dev nD) (t : Fin cfg0.N) (h : ¬t.val % 8 = 0) (l : Fin 128) :
    (outsAt0 m c (t.val - 1) (Nat.lt_of_le_of_lt (Nat.sub_le _ _) t.isLt)).2.2 (ix2 0 l)
      = ∑ p : Fin 8, if p.val < t.val then ∑ x : Fin 512, DC m c (revN p x) l else 0 := by
  have h1 : t.val - 1 + 1 = t.val := by omega
  have := carry m c ⟨t.val - 1, Nat.lt_of_le_of_lt (Nat.sub_le _ _) t.isLt⟩ l
  rw [h1] at this
  exact this

theorem fin4 (c : Dev nD) : (dats m 0 c).arrAt 4 (cfgs 0).N = KDP m c := by
  refine (dats m 0 c).arrAt_eq_of_covers 4 _ (by decide +kernel) fun t hf y => ?_
  blk_simp
  rw [after0_4]
  have e : ((cfg0.win 4).blk t).view.emb y = ix2 (revN t (y 0)) (y 1) := by
    blk_ext [idx t, revN]
  by_cases h : t.val % 8 = 0
  · rw [outsAt0_A m c t h]; frame_out
    pointwise [k0_pay11]
    exact (pay10 m c t _ y (carry_A m c t h)).trans (congrArg (KDP m c) e).symm
  · rw [outsAt0_B m c t h]; frame_out
    pointwise [k0_pay11]
    rw [(Memref.isWhole_whole _).read_unread]
    exact (pay10 m c t _ y (carry_B m c t h)).trans (congrArg (KDP m c) e).symm

/-- The in-kernel fold: the 64 groups of eight rows added up. -/
theorem fold (acc : FVec Ideal S8x128 .f32) (a b c : FVec Ideal S512x128 .f32) (j : S8x128.Idx) :
    k0_pay1 (k0_pay10 (F := Ideal) a b c) (k0_pay12 acc) (k0_pay14 (k0_pay10 a b c) (k0_pay13 a b c)) j
      = acc j + ∑ q : Fin 64, k0_pay10 a b c (ix2 ⟨q * 8 + j 0, by have : (j 0 : ℕ) < 8 := (j 0).isLt; omega⟩ (j 1)) := by
  idx_vars j
  unfold k0_pay13
  generalize k0_pay10 a b c = v
  obtain ⟨W, hW⟩ : ∃ W : ℕ → EReal, ∀ (n : ℕ) (h : n + j0 < 512), v (ix2 ⟨n + j0, h⟩ j1) = W n :=
    ⟨fun n => if h : n + j0 < 512 then v (ix2 ⟨n + j0, h⟩ j1) else 0, fun n h => by simp only [h, dite_true]⟩
  have hW0 (h : (j0 : ℕ) < 512) : v (ix2 ⟨j0, h⟩ j1) = W 0 := by rw [← hW 0 (by omega)]; simp only [Nat.zero_add]
  pointwise [k0_pay1, k0_pay12, k0_pay14]
  simp only [hW, hW0]
  rw [Fin.sum_univ_eq_sum_range (fun q => W (q * 8)) 64]
  simp only [Finset.sum_range_succ, Finset.sum_range_zero, Nat.reduceMul, Nat.zero_mul, zero_add]

theorem k0_pay3_zero (j : S8x128.Idx) : k0_pay3 (F := Ideal) j = 0 := by pointwise [k0_pay3]

theorem fin5 (c : Dev nD) : (dats m 0 c).arrAt 5 (cfgs 0).N = KDB m c := by
  refine (dats m 0 c).arrAt_eq_of_after_last 5 t0_7 (by decide +kernel) _ fun j => ?_
  blk_simp
  rw [after0_5]
  rw [Pipeline.eq_sum_fin_of_reset_step_apply_last (fun n h => (outsAt0 m c n h).2.1) 8 (fun _ => (0 : EReal))
    (fun p j => ∑ q : Fin 64, DZ m c (revN p ⟨q * 8 + j 0, by have : (j 0 : ℕ) < 8 := (j 0).isLt; omega⟩) (j 1))
    (fun t h j => by
      rw [outsAt0_A m c t h]; frame_out
      rw [fold, k0_pay3_zero]
      exact congrArg _ (Finset.sum_congr rfl fun q _ => pay10 m c t _ _ (carry_A m c t h)))
    (fun t h j => by
      rw [outsAt0_B m c t h]; frame_out
      rw [fold, (Memref.isWhole_whole _).read_unread]
      exact congrArg _ (Finset.sum_congr rfl fun q _ => pay10 m c t _ _ (carry_B m c t h)))
    (le_of_eq N_0) t0_7 rfl j, zero_add]
  unfold KDB
  exact Fin.sum_fin_congr fun p => rfl

end Cert.CumKIdeal.Value

end
-- ==== Proof.CumPair.lean ====
/- The backward cumulative sum: the kernel's two results are the reference's. -/
module

public import proofs.«01_k».proof.Defs
public import proofs.«01_k».proof.Proof.Cum
public import proofs.«01_k».proof.Proof.Gen.CumRIdeal.Run
public import proofs.«01_k».proof.Proof.Gen.CumRIdeal.Read

@[expose] public section

set_option maxRecDepth 16384

noncomputable section

open Idealize.ShloMosaic Idealize.ShloMosaic.TcCoe Idealize.SL.Sem

namespace Cert.Cum

instance preFacts : Cert.Pre_finite_cum.Facts := ⟨by decide, by decide, by decide, by decide⟩

section Reference

open Cert.CumRIdeal Cert.CumRIdeal.Read Cert.Num

/-- The derivative of the logarithm of the logistic function, written with its softplus, is one minus the logistic function written with the hyperbolic tangent. -/
theorem logistic_neg (z : ℝ) : Real.exp (-z - (max (-z) 0 + Real.log (1 + Real.exp (-|-z|)))) = 1 - (1 / 2 * Real.tanh (1 / 2 * z) + 1 / 2) := by
  have hp : 0 < 1 + Real.exp (-|-z|) := by positivity
  have e1 : max (-z) 0 + Real.log (1 + Real.exp (-|-z|)) = Real.log (1 + Real.exp (-z)) := by
    rcases le_total 0 (-z) with h | h
    · rw [max_eq_left h, abs_of_nonneg h, ← Real.log_exp (-z), ← Real.log_mul (Real.exp_pos _).ne' (by positivity), Real.log_exp]
      congr 1
      rw [mul_add, mul_one, ← Real.exp_add, add_neg_cancel, Real.exp_zero, add_comm]
    · rw [max_eq_right h, abs_of_nonpos h, zero_add, neg_neg]
  rw [e1, Real.exp_sub, Real.exp_log (by positivity), Real.tanh_eq_sinh_div_cosh, Real.sinh_eq, Real.cosh_eq]
  have e2 : Real.exp (-z) = Real.exp (-(1 / 2 * z)) * Real.exp (-(1 / 2 * z)) := by rw [← Real.exp_add]; congr 1; ring
  have e3 : Real.exp (1 / 2 * z) * Real.exp (-(1 / 2 * z)) = 1 := by rw [← Real.exp_add, add_neg_cancel, Real.exp_zero]
  rw [e2]
  have ha := Real.exp_pos (1 / 2 * z)
  have hb := Real.exp_pos (-(1 / 2 * z))
  generalize Real.exp (1 / 2 * z) = a at *
  generalize Real.exp (-(1 / 2 * z)) = b at *
  field_simp
  nlinarith [e3]

/-- The reference's factor on the suffix sum is the kernel's, at a real `z`. -/
theorem gate (S : EReal) (z : ℝ) :
    -(-S * Ideal.exp ((if -(z : EReal) = Ideal.ofBits FTy.f32 2139095040#32 then 0 else -(z : EReal)) -
            if (if -(z : EReal) ≠ -(z : EReal) then -(z : EReal)
                  else max (-(z : EReal)) 0 + Ideal.log1p (Ideal.exp (-FloatOps.absf (F := Ideal) (φ := .f32) (-(z : EReal))))) =
                  Ideal.ofBits FTy.f32 2139095040#32 then
              0
            else
              if -(z : EReal) ≠ -(z : EReal) then -(z : EReal)
              else max (-(z : EReal)) 0 + Ideal.log1p (Ideal.exp (-FloatOps.absf (F := Ideal) (φ := .f32) (-(z : EReal))))))
      = S * (1 - (Ideal.ofBits .f32 0x3F000000#32 * Ideal.tanh (Ideal.ofBits .f32 0x3F000000#32 * z) + Ideal.ofBits .f32 0x3F000000#32)) := by
  rw [if_neg (not_not.2 rfl), Cert.Num.lit_inf, ← EReal.coe_neg, if_neg (EReal.coe_ne_top _), abs_coe, ← EReal.coe_neg, ← EReal.coe_zero, ← coe_max]
  rw [show Ideal.exp ((-|(-z)| : ℝ) : EReal) = ((Real.exp (-|(-z)|) : ℝ) : EReal) from rfl, log1p_coe (by positivity), ← EReal.coe_add,
    if_neg (EReal.coe_ne_top _), ← EReal.coe_sub]
  rw [show Ideal.exp ((-z - (max (-z) 0 + Real.log (1 + Real.exp (-|-z|))) : ℝ) : EReal)
    = ((Real.exp (-z - (max (-z) 0 + Real.log (1 + Real.exp (-|-z|)))) : ℝ) : EReal) from rfl, logistic_neg, lit_half, ← EReal.coe_mul]
  rw [show Ideal.tanh ((1 / 2 * z : ℝ) : EReal) = ((Real.tanh (1 / 2 * z) : ℝ) : EReal) from rfl, ← EReal.coe_mul, ← EReal.coe_add, ← EReal.coe_one, ← EReal.coe_sub,
    EReal.neg_mul, neg_neg]

/-- One element of the gradient of `z` in the reference. -/
theorem ref13 (x0 : (⟨S4096x4, .f32⟩ : BufTy).Contents (Elt Ideal)) (x1 : (⟨S4, .f32⟩ : BufTy).Contents (Elt Ideal)) (x2 : (⟨S4x4096x1, .f32⟩ : BufTy).Contents (Elt Ideal)) (x3 : (⟨S4x8x1x512, .f32⟩ : BufTy).Contents (Elt Ideal)) (r : Fin 4096) (l : Fin 4) (z : ℝ)
    (hz : HAdd.hAdd (α := EReal) (β := EReal) (γ := EReal) (x0 (ix2 r l)) (x1 (ix1 l)) = (z : EReal)) :
    val_main_v13 (F := Ideal) x0 x1 x2 x3 (ix2 r l) = (val_main_v12 (F := Ideal) x2 x3 (ix2 r l) * (1 - (Ideal.ofBits .f32 0x3F000000#32 * Ideal.tanh (Ideal.ofBits .f32 0x3F000000#32 * (x0 (ix2 r l) + x1 (ix1 l))) + Ideal.ofBits .f32 0x3F000000#32)) : EReal) := by
  rw [val_main_v13_apply, val_main_call3_v1_apply, val_main_call3_v0_apply]
  generalize val_main_v12 (F := Ideal) x2 x3 (ix2 r l) = S
  unfold val_main_v3_1
  pointwise [val_main_call0_call0_v21,val_main_call0_v1_0,val_main_call0_call0_v11]
  pointwise [val_main_call0_call0_v1,val_main_call0_call0_v2,val_main_call0_call0_v3,val_main_call0_call0_v4,val_main_call0_call0_v5,val_main_call0_call0_v6,val_main_call0_call0_v7,val_main_call0_call0_v8,val_main_call0_call0_v9,val_main_call0_call0_v10, val_main_call0_call0_v13,val_main_call0_call0_v14,val_main_call0_call0_v15,val_main_call0_call0_v16,val_main_call0_call0_v17,val_main_call0_call0_v18,val_main_call0_call0_v19,val_main_call0_call0_v20,val_main_call0_call0_v0,val_main_call0_v0, val_main_v2, val_main_v1,val_main_v0,val_main_call0_call0_cst,val_main_call0_v1_0,val_main_call0_call0_cst_0,val_main_call0_call0_cst_1,val_main_call0_call0_cst_2,val_main_call0_call0_cst_3,val_main_call0_call0_v11]
  rw [hz]
  exact gate S z

/-- The cumulative sum run backwards: a window of all rows padded at the end. -/
theorem window (x : FVec Ideal S4096x4 .f32) (init : FVec Ideal S_ .f32) (h) (hu) (r : Fin 4096) (l : Fin 4) (h0 : init (Shape.Idx.first hu) = 0) :
    (Host.reduceWindowAdd ![4096, 1] ![1, 1] ![0, 0] ![4095, 0] x init h hu : FVec Ideal S4096x4 .f32) (ix2 r l) = ∑ j : Fin 4096, if r ≤ j then x (ix2 j l) else 0 := by
  unfold Host.reduceWindowAdd
  rw [Ideal.hostReduceWindowAdd_def, h0]
  unfold Ideal.hostReduceWindowAdd Host.reduceWindow
  refine (foldl_add _ _ _).trans ?_
  rw [show ((fun _ => (0 : EReal)) (Shape.Idx.first Ideal.hostReduceWindowAdd._proof_1) : EReal) = 0 from rfl, zero_add, ← Fin.sum_univ_def]
  have hW : (⟨2, ![4096, 1]⟩ : Shape).numel = 4096 := by
    show ∏ a : Fin 2, (![4096, 1] : Fin 2 → Nat) a = _
    rw [Fin.prod_univ_two]; rfl
  refine (Fintype.sum_equiv (finCongr hW) _ (fun n : Fin 4096 => if h : r.val + n.val < 4096 then x (ix2 ⟨r.val + n.val, h⟩ l) else 0) fun i => ?_).trans ?_
  · have e : (⟨2, ![4096, 1]⟩ : Shape).rowMajor.symm i = ix2 (finCongr hW i) 0 :=
      (Shape.rowMajor _).symm_apply_eq.2 (Fin.ext (by rw [Shape.rowMajor_val_two]; show i.val = i.val * 1 + 0; omega))
    have w0 : ((⟨2, ![4096, 1]⟩ : Shape).rowMajor.symm i 0).val = (finCongr hW i).val := by rw [e]; rfl
    have w1 : ((⟨2, ![4096, 1]⟩ : Shape).rowMajor.symm i 1).val = 0 := by rw [e]; rfl
    by_cases h : r.val + (finCongr hW i).val < 4096
    · rw [dif_pos h]
      refine (dif_pos (show ∀ a : Fin 2, _ from fun a => ?_)).trans (congrArg x (funext (show ∀ a : Fin 2, _ from fun a => Fin.ext ?_)))
      · match a with
        | ⟨0, _⟩ => show 0 ≤ r.val * 1 + ((⟨2, ![4096, 1]⟩ : Shape).rowMajor.symm i 0).val ∧ r.val * 1 + ((⟨2, ![4096, 1]⟩ : Shape).rowMajor.symm i 0).val - 0 < 4096; omega
        | ⟨1, _⟩ => show 0 ≤ l.val * 1 + ((⟨2, ![4096, 1]⟩ : Shape).rowMajor.symm i 1).val ∧ l.val * 1 + ((⟨2, ![4096, 1]⟩ : Shape).rowMajor.symm i 1).val - 0 < 4; omega
      · match a with
        | ⟨0, _⟩ => show r.val * 1 + ((⟨2, ![4096, 1]⟩ : Shape).rowMajor.symm i 0).val - 0 = r.val + (finCongr hW i).val; omega
        | ⟨1, _⟩ => show l.val * 1 + ((⟨2, ![4096, 1]⟩ : Shape).rowMajor.symm i 1).val - 0 = l.val; omega
    · rw [dif_neg h]
      refine dif_neg fun hin => ?_
      have h0 : 0 ≤ r.val * 1 + ((⟨2, ![4096, 1]⟩ : Shape).rowMajor.symm i 0).val ∧ r.val * 1 + ((⟨2, ![4096, 1]⟩ : Shape).rowMajor.symm i 0).val - 0 < 4096 := hin 0
      omega
  · let g : ℕ → EReal := fun j => if h : j < 4096 then x (ix2 ⟨j, h⟩ l) else 0
    have h1 : ∑ n : Fin 4096, (if h : r.val + n.val < 4096 then x (ix2 ⟨r.val + n.val, h⟩ l) else 0) = ∑ n ∈ Finset.range 4096, g (r.val + n) :=
      Fin.sum_univ_eq_sum_range (fun n => g (r.val + n)) 4096
    have h2 : ∑ j : Fin 4096, (if r ≤ j then x (ix2 j l) else 0) = ∑ j ∈ Finset.range 4096, if r.val ≤ j then g j else 0 := by
      rw [← Fin.sum_univ_eq_sum_range (fun j => if r.val ≤ j then g j else 0) 4096]
      refine Finset.sum_congr rfl fun j _ => ?_
      show _ = if r.val ≤ j.val then g j.val else 0
      rw [show g j.val = x (ix2 j l) from dif_pos j.isLt]
      rfl
    refine h1.trans (Eq.trans ?_ h2.symm)
    rw [← Finset.sum_filter]
    have hf : (Finset.range 4096).filter (fun j => r.val ≤ j) = Finset.Ico r.val 4096 := by
      ext j; simp only [Finset.mem_filter, Finset.mem_range, Finset.mem_Ico]; tauto
    rw [hf, Finset.sum_Ico_eq_sum_range]
    symm
    refine Finset.sum_subset (fun j hj => Finset.mem_range.2 (by have := Finset.mem_range.1 hj; omega)) fun j hj hn => dif_neg ?_
    have h' : ¬j < 4096 - r.val := fun h => hn (Finset.mem_range.2 h)
    omega

/-- The cumulated cotangents in the reference. -/
theorem ref12 (x2 : (⟨S4x4096x1, .f32⟩ : BufTy).Contents (Elt Ideal)) (x3 : (⟨S4x8x1x512, .f32⟩ : BufTy).Contents (Elt Ideal)) (r : Fin 4096) (l : Fin 4) :
    val_main_v12 (F := Ideal) x2 x3 (ix2 r l) = ∑ j : Fin 4096, if r ≤ j
      then HAdd.hAdd (α := EReal) (β := EReal) (γ := EReal) (x3 (ix4 l ⟨j / 512, by omega⟩ 0 ⟨j % 512, by omega⟩)) (x2 (ix3 l j 0)) else 0 := by
  unfold val_main_v12
  rw [window _ _ _ _ r l (by pointwise [val_main_call2_call0_v0, val_main_call2_call0_cst])]
  refine Finset.sum_congr rfl fun j _ => ?_
  have e : val_main_v11 (F := Ideal) x2 x3 (ix2 j l)
      = HAdd.hAdd (α := EReal) (β := EReal) (γ := EReal) (x3 (ix4 l ⟨j / 512, by omega⟩ 0 ⟨j % 512, by omega⟩)) (x2 (ix3 l j 0)) := by
    pointwise [val_main_v11, val_main_v10, val_main_v9, val_main_v8]
  rw [e]

/-- The reference's run, its results as the last stages of the line. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = val_main_v17 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v16) = val_main_v16 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v17_eq m c), (h c).2.1.trans (val_main_v16_eq m c), (h c).2.2⟩)
    (Cert.CumRIdeal.Value.run m ρ)

end Reference

open Cert.CumKIdeal Cert.CumKIdeal.Gen Cert.CumKIdeal.Value

variable (m : (ℓ : Loc nD τ sig) → Buf (Elt Ideal) ℓ)

theorem tail0 (c : Dev nD) : Pipeline.afterTail₀ cfgs (dats m) 0 (V0 m) [hostOps1] c main_v7
      = (extractStridedSlice S4096x4 ![0, 0] (KDP m c) facts.slices_S4096x128_S4096x4_0_0 : FVec Ideal S4096x4 .bf16) := by
  unfold Pipeline.afterTail₀
  show StableHlo.after hostOps1 _ _ = _
  after_results
  have e : Pipeline.withArrays (cfgs 0).spec c (V0 m c) (fun w => (dats m 0 c).arrAt w (cfgs 0).N) (Proc.devRef .tc main_v6_0)
      = (dats m 0 c).arrAt 4 (cfgs 0).N := Pipeline.withArrays_arr (cfgs 0).spec launch0.win.arr_inj c _ _ 4
  rw [e, fin4]

theorem tail1 (c : Dev nD) : Pipeline.afterTail₀ cfgs (dats m) 0 (V0 m) [hostOps1] c main_v9
      = (extractStridedSlice S4 ![0] (Host.reduceAdd (KDB m c) (constant (F := Ideal) S_ .f32 0x00000000#32) facts.reducesTo_S8x128_S128_d0 facts.h_S_) facts.slices_S128_S4_0 : FVec Ideal S4 .f32) := by
  unfold Pipeline.afterTail₀
  show StableHlo.after hostOps1 _ _ = _
  after_results
  have e : Pipeline.withArrays (cfgs 0).spec c (V0 m c) (fun w => (dats m 0 c).arrAt w (cfgs 0).N) (Proc.devRef .tc main_v6_1)
      = (dats m 0 c).arrAt 5 (cfgs 0).N := Pipeline.withArrays_arr (cfgs 0).spec launch0.win.arr_inj c _ _ 5
  rw [e, fin5]

theorem real_of_pre {m : (ℓ : Loc nD τ sig) → Buf (Elt Ideal) ℓ} (h : Cert.Pre_CumKIdeal_finite_cum m) (c : Dev nD) (r : Fin 4096) (l : Fin 4) :
    ∃ z : ℝ, HAdd.hAdd (α := EReal) (β := EReal) (γ := EReal) (m ((c.tc : Thread nD τ).loc main_arg0) (ix2 r l)) (m ((c.tc : Thread nD τ).loc main_arg1) (ix1 l)) = (z : EReal) := by
  have hc := IntOp.andi_eq_one.1 (congrFun (h c) (ix2 r l))
  obtain ⟨a, ha⟩ := Cert.Num.real_of_test _ _ (ix2 r l) rfl hc.1
  have h2 : cmpf (F := Ideal) .olt (Host.absf (m ((c.tc : Thread nD τ).loc main_arg1))) (broadcastInDim Pre_finite_cum.S4 ![] (by decide)
      (constant Pre_finite_cum.S_ FTy.f32 2139095040#32)) (ix1 l) = 1#1 := by
    refine Eq.trans ?_ hc.2
    symm
    pointwise
  obtain ⟨b, hb⟩ := Cert.Num.real_of_test (m ((c.tc : Thread nD τ).loc main_arg1)) _ (ix1 l) rfl h2
  exact ⟨a + b, by rw [EReal.coe_add]; exact congrArg₂ _ ha hb⟩

/-- One element of the kernel's gradient of `z`, at the lanes that hold a head. -/
theorem dz_lane (m : (ℓ : Loc nD τ sig) → Buf (Elt Ideal) ℓ) (c : Dev nD) (r : Fin 4096) (l : Fin 4) : DZ m c r ⟨l, by omega⟩
    = HMul.hMul (α := EReal) (β := EReal) (γ := EReal) (∑ j : Fin 4096, if r ≤ j then HAdd.hAdd (α := EReal) (β := EReal) (γ := EReal)
          (m ((c.tc : Thread nD τ).loc main_arg3) (ix4 l ⟨j / 512, by omega⟩ 0 ⟨j % 512, by omega⟩)) (m ((c.tc : Thread nD τ).loc main_arg2) (ix3 l j 0)) else 0)
      (1 - (Ideal.ofBits .f32 0x3F000000#32 * Ideal.tanh (Ideal.ofBits .f32 0x3F000000#32 * HAdd.hAdd (α := EReal) (β := EReal) (γ := EReal)
          (m ((c.tc : Thread nD τ).loc main_arg0) (ix2 r l)) (m ((c.tc : Thread nD τ).loc main_arg1) (ix1 l))) + Ideal.ofBits .f32 0x3F000000#32)) := by
  have e (j : Fin 4096) : DC m c j ⟨l, by omega⟩ = HAdd.hAdd (α := EReal) (β := EReal) (γ := EReal)
      (m ((c.tc : Thread nD τ).loc main_arg3) (ix4 l ⟨j / 512, by omega⟩ 0 ⟨j % 512, by omega⟩)) (m ((c.tc : Thread nD τ).loc main_arg2) (ix3 l j 0)) :=
    (dcv_lane _ _ l).trans (congrArg (· + _) (v5_apply m c j l))
  unfold DZ
  rw [v0_apply, v2_apply, Finset.sum_congr rfl fun j _ => by rw [e j]]

/-- The reference's gradient of `z` is the kernel's. -/
theorem elem (hpre : Cert.Pre_CumKIdeal_finite_cum m) (c : Dev nD) (r : Fin 4096) (l : Fin 4) :
    Cert.CumRIdeal.Read.val_main_v13 (F := Ideal) (m ((c.tc : Thread nD τ).loc main_arg0)) (m ((c.tc : Thread nD τ).loc main_arg1)) (m ((c.tc : Thread nD τ).loc main_arg2)) (m ((c.tc : Thread nD τ).loc main_arg3)) (ix2 r l)
      = DZ m c r ⟨l, by omega⟩ := by
  obtain ⟨z, hz⟩ := real_of_pre hpre c r l
  rw [dz_lane]
  refine (ref13 _ _ _ _ r l z hz).trans ?_
  rw [ref12]

/-- The reference's sum of all rows. -/
theorem total (hpre : Cert.Pre_CumKIdeal_finite_cum m) (c : Dev nD) (l : Fin 4) :
    Cert.CumRIdeal.Read.val_main_v16 (F := Ideal) (m ((c.tc : Thread nD τ).loc main_arg0)) (m ((c.tc : Thread nD τ).loc main_arg1)) (m ((c.tc : Thread nD τ).loc main_arg2)) (m ((c.tc : Thread nD τ).loc main_arg3)) (ix1 l)
      = ∑ r : Fin 4096, DZ m c r ⟨l, by omega⟩ := by
  rw [Finset.sum_congr rfl fun r _ => (elem m hpre c r l).symm]
  rw [Cert.CumRIdeal.Read.val_main_v16_apply]
  pointwise [Cert.CumRIdeal.Read.val_main_cst_0, Cert.CumRIdeal.Read.val_main_v15]
  refine (Fin.sum_univ_one _).trans ?_
  show Cert.CumRIdeal.Read.val_main_v14 (F := Ideal) _ _ _ _ (ix1 l) = _
  rw [Cert.CumRIdeal.Read.val_main_v14_apply]
  have e (x : Fin 4096) : Cert.CumRIdeal.Read.idx_main_v14 (ix1 l) x = ix2 x l :=
    funext fun a => Fin.ext (by match a with | ⟨0, _⟩ => rfl | ⟨1, _⟩ => rfl)
  simp only [e]
  have z (i) : Cert.CumRIdeal.Read.val_main_cst (F := Ideal) i = 0 := by
    pointwise [Cert.CumRIdeal.Read.val_main_cst]
  rw [z, zero_add]

/-- The kernel's sum of the eight folded rows. -/
theorem folded (c : Dev nD) (l : Fin 4) :
    (extractStridedSlice S4 ![0] (Host.reduceAdd (KDB m c) (constant (F := Ideal) S_ .f32 0x00000000#32) facts.reducesTo_S8x128_S128_d0 facts.h_S_) facts.slices_S128_S4_0 : FVec Ideal S4 .f32) (ix1 l)
      = ∑ r : Fin 4096, DZ m c r ⟨l, by omega⟩ := by
  pointwise [KDB]
  rw [← Cert.Num.sum_rows fun r => DZ m c r ⟨l, by omega⟩]
  refine Finset.sum_congr rfl fun a _ => ?_
  have e := Equiv.sum_comp Fin.revPerm fun p : Fin 8 => ∑ q : Fin 64, DZ m c ⟨p * 512 + (q * 8 + a), by omega⟩ ⟨l, by omega⟩
  refine Eq.trans ?_ e
  refine Finset.sum_congr rfl fun p _ => Finset.sum_congr rfl fun q _ => congrArg (fun r => DZ m c r ⟨l, by omega⟩) ?_
  refine Fin.ext (congrArg (· * 512 + (q.val * 8 + a.val)) ?_)
  rw [Fin.revPerm_apply, Fin.val_rev]
  omega

theorem algebraic : Cert.algebraic_CumKIdeal_CumRIdeal_pre_finite_cum := by
  pair_intro
  · run_from Cert.CumKIdeal.Gen.run_main m g
    · exact W_main_arg0 m (dats m) c
    · exact W_main_arg1 m (dats m) c
    · exact W_main_arg3 m (dats m) c
  · refine Idealize.ShloMosaic.θ_run_mono (ref_run m' g') ?_
    intro r hr c
    have hc := hr c
    refine ⟨hc.1.trans ?_, hc.2.1.trans ?_, hc.2.2⟩
    all_goals rw [(hagree c).1, (hagree c).2.1, (hagree c).2.2.1, (hagree c).2.2.2]
    all_goals clear hc hr
    · rw [tail0]
      funext i
      idx_vars i
      rw [Cert.CumRIdeal.Read.val_main_v17_apply]
      refine (elem m hpre c i0 i1).trans ?_
      pointwise [KDP]
    · rw [tail1]
      funext i
      idx_vars i
      exact (total m hpre c i0).trans (folded m c i0).symm

end Cert.Cum

end
-- ==== Proof.Loss.lean ====
/- The loss and its backward norm: what the kernel's three results hold. -/
module

public import proofs.«01_k».proof.Proof.Rms
public import proofs.«01_k».proof.Proof.Gen.LossKIdeal.Frame

@[expose] public section

set_option maxRecDepth 16384

noncomputable section

open Idealize.ShloMosaic Idealize.ShloMosaic.TcCoe Idealize.SL.Sem

namespace Cert.LossKIdeal.Value

open Cert.LossKIdeal Cert.LossKIdeal.Gen
open Cert.RmsKIdeal.Value (rr dxRow)

/-- The difference of the normed row and the target. -/
def er (x t : FVec Ideal S4096x1024 .f32) (g : FVec Ideal S1024 .f32) (r : Fin 4096) (l : Fin 1024) : EReal :=
  x (ix2 r l) * rr (fun k => x (ix2 r k)) * g (ix1 l) - t (ix2 r l)

/-- The cotangent of the normed row. -/
def dy (x t : FVec Ideal S4096x1024 .f32) (g : FVec Ideal S1024 .f32) (r : Fin 4096) (l : Fin 1024) : EReal :=
  er x t g r l * Ideal.ofBits .f32 0x3A800000#32

/-- The gradient of the input over the whole arrays. -/
def KDX (x t : FVec Ideal S4096x1024 .f32) (g : FVec Ideal S1024 .f32) : FVec Ideal S4096x1024 .f32 := fun i =>
  dxRow (fun k => x (ix2 (i 0) k)) (fun k => dy x t g (i 0) k * g (ix1 k)) 0 (i 1)

/-- The scale's gradient folded to eight rows. -/
def KDG (x t : FVec Ideal S4096x1024 .f32) (g : FVec Ideal S1024 .f32) : FVec Ideal S8x1024 .f32 := fun i =>
  ∑ p : Fin 8, ∑ q : Fin 64, (fun r : Fin 4096 => dy x t g r (i 1) * (x (ix2 r (i 1)) * rr fun k => x (ix2 r k)))
    ⟨p * 512 + (q * 8 + i 0), by have : (i 0 : ℕ) < 8 := (i 0).isLt; omega⟩

/-- The squared differences folded to eight rows. -/
def KL (x t : FVec Ideal S4096x1024 .f32) (g : FVec Ideal S1024 .f32) : FVec Ideal S8x1024 .f32 := fun i =>
  ∑ p : Fin 8, ∑ q : Fin 64, (fun r : Fin 4096 => er x t g r (i 1) * er x t g r (i 1))
    ⟨p * 512 + (q * 8 + i 0), by have : (i 0 : ℕ) < 8 := (i 0).isLt; omega⟩

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The weight as the region finds it: one row. -/
theorem V_v0 (c : Dev nD) : V m c main_v0 = shapeCast S1x1024 (m ((c : Thread nD τ).loc main_arg1)) facts.shapeCasts_S1024_S1x1024 := by
  show StableHlo.after hostOps0 _ _ = _
  after_results
  try rfl

theorem point4 (c : Dev nD) (t : Fin cfg0.N) (y) : k0_pay6 (F := Ideal) (iblk m c 0 t) (iblk m c 1 t) (iblk m c 2 t) (iblk m c 1 t) y
    = KDX (m ((c : Thread nD τ).loc main_arg0)) (m ((c : Thread nD τ).loc main_arg2)) (m ((c : Thread nD τ).loc main_arg1))
        (((cfg0.win 4).blk t).view.emb y) := by
  pointwise [k0_pay6, k0_pay5, k0_pay4, k0_pay3, k0_pay2, KDX, dxRow, rr, dy, er]
  blk_point [iblk, V, idx t]
  all_goals
    rw [V_v0]
    pointwise
    blk_ext [idx t]

theorem fin4 (c : Dev nD) : (dats m 0 c).arrAt 4 (cfgs 0).N
    = KDX (m ((c : Thread nD τ).loc main_arg0)) (m ((c : Thread nD τ).loc main_arg2)) (m ((c : Thread nD τ).loc main_arg1)) := by
  refine (dats m 0 c).arrAt_eq_of_covers 4 _ (by decide +kernel) fun t hf y => ?_
  blk_simp
  rw [after0_4]
  by_cases h : t.val % 8 = 0
  · rw [outsAt0_A m c t h]; frame_out
    exact point4 m c t y
  · rw [outsAt0_B m c t h]; frame_out
    exact point4 m c t y

theorem zero7 (j : S8x1024.Idx) : k0_pay7 (F := Ideal) j = 0 := by pointwise [k0_pay7]
theorem zero8 (j : S8x1024.Idx) : k0_pay8 (F := Ideal) j = 0 := by pointwise [k0_pay8]

/-- The scale's fold: the 64 groups of eight rows added up. -/
theorem fold (acc : FVec Ideal S8x1024 .f32) (u v : FVec Ideal S512x1024 .f32) (a : Fin 8) (l : Fin 1024) :
    k0_pay13 (k0_pay9 (F := Ideal) acc) (k0_pay10 u v) (k0_pay12 (k0_pay10 u v) (k0_pay11 u v)) (ix2 a l)
      = acc (ix2 a l) + ∑ q : Fin 64, v (ix2 ⟨q * 8 + a, by omega⟩ l) * u (ix2 ⟨q * 8 + a, by omega⟩ l) := by
  obtain ⟨W, hW⟩ : ∃ W : ℕ → EReal, ∀ (n : ℕ) (h : n + a < 512), v (ix2 ⟨n + a, h⟩ l) * u (ix2 ⟨n + a, h⟩ l) = W n :=
    ⟨fun n => if h : n + a < 512 then v (ix2 ⟨n + a, h⟩ l) * u (ix2 ⟨n + a, h⟩ l) else 0, fun n h => by simp only [h, dite_true]⟩
  have hW0 (h : (a : ℕ) < 512) : v (ix2 ⟨a, h⟩ l) * u (ix2 ⟨a, h⟩ l) = W 0 := by rw [← hW 0 (by omega)]; simp only [Nat.zero_add]
  pointwise [k0_pay13, k0_pay9, k0_pay10, k0_pay11, k0_pay12]
  simp only [hW, hW0]
  rw [Fin.sum_univ_eq_sum_range (fun q => W (q * 8)) 64]
  simp only [Finset.sum_range_succ, Finset.sum_range_zero, Nat.reduceMul, Nat.zero_mul, zero_add]

/-- The loss's fold. -/
theorem foldL (acc : FVec Ideal S8x1024 .f32) (v : FVec Ideal S512x1024 .f32) (a : Fin 8) (l : Fin 1024) :
    k0_pay1 (k0_pay14 (F := Ideal) acc) (k0_pay15 v) (k0_pay18 (k0_pay15 v) (k0_pay16 v) (k0_pay17 v)) (k0_pay19 (k0_pay15 v)) (ix2 a l)
      = acc (ix2 a l) + ∑ q : Fin 64, v (ix2 ⟨q * 8 + a, by omega⟩ l) * v (ix2 ⟨q * 8 + a, by omega⟩ l) := by
  obtain ⟨W, hW⟩ : ∃ W : ℕ → EReal, ∀ (n : ℕ) (h : n + a < 512), v (ix2 ⟨n + a, h⟩ l) * v (ix2 ⟨n + a, h⟩ l) = W n :=
    ⟨fun n => if h : n + a < 512 then v (ix2 ⟨n + a, h⟩ l) * v (ix2 ⟨n + a, h⟩ l) else 0, fun n h => by simp only [h, dite_true]⟩
  have hW0 (h : (a : ℕ) < 512) : v (ix2 ⟨a, h⟩ l) * v (ix2 ⟨a, h⟩ l) = W 0 := by rw [← hW 0 (by omega)]; simp only [Nat.zero_add]
  pointwise [k0_pay1, k0_pay14, k0_pay15, k0_pay16, k0_pay17, k0_pay18, k0_pay19]
  simp only [hW, hW0]
  rw [Fin.sum_univ_eq_sum_range (fun q => W (q * 8)) 64]
  simp only [Finset.sum_range_succ, Finset.sum_range_zero, Nat.reduceMul, Nat.zero_mul, zero_add]

/-- What one point adds to the scale's folded gradient. -/
theorem payG (acc : FVec Ideal S8x1024 .f32) (x t : FVec Ideal S512x1024 .f32) (g : FVec Ideal S1x1024 .f32) (j : S8x1024.Idx) :
    k0_pay13 (k0_pay9 (F := Ideal) acc) (k0_pay10 (k0_pay3 x) (k0_pay5 x g t)) (k0_pay12 (k0_pay10 (k0_pay3 x) (k0_pay5 x g t)) (k0_pay11 (k0_pay3 x) (k0_pay5 x g t))) j
      = acc j + ∑ q : Fin 64, (fun (r : Fin 512) (l : Fin 1024) =>
          (x (ix2 r l) * rr (fun k => x (ix2 r k)) * g (ix2 0 l) - t (ix2 r l)) * Ideal.ofBits .f32 0x3A800000#32 * (x (ix2 r l) * rr fun k => x (ix2 r k)))
          ⟨q * 8 + j 0, by have : (j 0 : ℕ) < 8 := (j 0).isLt; omega⟩ (j 1) := by
  have h (r : Fin 512) (l : Fin 1024) : HMul.hMul (α := EReal) (β := EReal) (γ := EReal) (k0_pay5 (F := Ideal) x g t (ix2 r l)) (k0_pay3 (F := Ideal) x (ix2 r l))
      = (x (ix2 r l) * rr (fun k => x (ix2 r k)) * g (ix2 0 l) - t (ix2 r l)) * Ideal.ofBits .f32 0x3A800000#32 * (x (ix2 r l) * rr fun k => x (ix2 r k)) := by
    pointwise [k0_pay5, k0_pay4, k0_pay3, k0_pay2, rr]
  idx_vars j
  exact (fold acc _ _ j0 j1).trans (congrArg (acc (ix2 j0 j1) + ·) (Finset.sum_congr rfl fun q _ => h _ _))

/-- What one point adds to the folded loss. -/
theorem payL (acc : FVec Ideal S8x1024 .f32) (x t : FVec Ideal S512x1024 .f32) (g : FVec Ideal S1x1024 .f32) (j : S8x1024.Idx) :
    k0_pay1 (k0_pay14 (F := Ideal) acc) (k0_pay15 (k0_pay4 x g t)) (k0_pay18 (k0_pay15 (k0_pay4 x g t)) (k0_pay16 (k0_pay4 x g t)) (k0_pay17 (k0_pay4 x g t))) (k0_pay19 (k0_pay15 (k0_pay4 x g t))) j
      = acc j + ∑ q : Fin 64, (fun (r : Fin 512) (l : Fin 1024) => (x (ix2 r l) * rr (fun k => x (ix2 r k)) * g (ix2 0 l) - t (ix2 r l))
          * (x (ix2 r l) * rr (fun k => x (ix2 r k)) * g (ix2 0 l) - t (ix2 r l)))
          ⟨q * 8 + j 0, by have : (j 0 : ℕ) < 8 := (j 0).isLt; omega⟩ (j 1) := by
  have h (r : Fin 512) (l : Fin 1024) : k0_pay4 (F := Ideal) x g t (ix2 r l) = x (ix2 r l) * rr (fun k => x (ix2 r k)) * g (ix2 0 l) - t (ix2 r l) := by
    pointwise [k0_pay4, k0_pay3, k0_pay2, rr]
  idx_vars j
  exact (foldL acc _ j0 j1).trans (congrArg (acc (ix2 j0 j1) + ·) (Finset.sum_congr rfl fun q _ => by rw [h]))

theorem fin5 (c : Dev nD) : (dats m 0 c).arrAt 5 (cfgs 0).N
    = KDG (m ((c : Thread nD τ).loc main_arg0)) (m ((c : Thread nD τ).loc main_arg2)) (m ((c : Thread nD τ).loc main_arg1)) := by
  refine (dats m 0 c).arrAt_eq_of_after_last 5 t0_7 (by decide +kernel) _ fun j => ?_
  blk_simp
  rw [after0_5]
  rw [Pipeline.eq_sum_fin_of_reset_step_apply_last (fun n h => (outsAt0 m c n h).2.2) 8 (fun _ => (0 : EReal)) _
    (fun t h j => by rw [outsAt0_A m c t h]; frame_out; rw [payG, zero7])
    (fun t h j => by rw [outsAt0_B m c t h]; frame_out; rw [payG])
    (le_of_eq N_0) t0_7 rfl j, zero_add]
  unfold KDG
  refine Fin.sum_fin_congr fun p => ?_
  refine Fin.sum_fin_congr fun q => ?_
  pointwise [dy, er, rr]
  blk_point [iblk, V, idx p]
  all_goals
    rw [V_v0]
    pointwise
    try blk_ext [idx p]

theorem fin3 (c : Dev nD) : (dats m 0 c).arrAt 3 (cfgs 0).N
    = KL (m ((c : Thread nD τ).loc main_arg0)) (m ((c : Thread nD τ).loc main_arg2)) (m ((c : Thread nD τ).loc main_arg1)) := by
  refine (dats m 0 c).arrAt_eq_of_after_last 3 t0_7 (by decide +kernel) _ fun j => ?_
  blk_simp
  rw [after0_3]
  rw [Pipeline.eq_sum_fin_of_reset_step_apply_last (fun n h => (outsAt0 m c n h).1) 8 (fun _ => (0 : EReal)) _
    (fun t h j => by rw [outsAt0_A m c t h]; frame_out; rw [payL, zero8])
    (fun t h j => by rw [outsAt0_B m c t h]; frame_out; rw [payL])
    (le_of_eq N_0) t0_7 rfl j, zero_add]
  unfold KL
  refine Fin.sum_fin_congr fun p => ?_
  refine Fin.sum_fin_congr fun q => ?_
  pointwise [dy, er, rr]
  blk_point [iblk, V, idx p]
  all_goals
    rw [V_v0]
    pointwise
    try blk_ext [idx p]

end Cert.LossKIdeal.Value

end
-- ==== Proof.LossPair.lean ====
/- The loss and its backward norm: the kernel's three results are the reference's. -/
module

public import proofs.«01_k».proof.Proof.RmsPair
public import proofs.«01_k».proof.Proof.Loss
public import proofs.«01_k».proof.Proof.Gen.LossRIdeal.Run
public import proofs.«01_k».proof.Proof.Gen.LossRIdeal.Read

@[expose] public section

set_option maxRecDepth 16384

noncomputable section

open Idealize.ShloMosaic Idealize.ShloMosaic.TcCoe Idealize.SL.Sem

namespace Cert.Loss

instance preFacts : Cert.Pre_finite_loss.Facts := ⟨by decide⟩

open Cert.LossKIdeal.Value
open Cert.RmsKIdeal.Value (rr dxRow)

section Reference

open Cert.LossRIdeal Cert.LossRIdeal.Gen Cert.LossRIdeal.Read

variable (x0 : (⟨S4096x1024, .f32⟩ : BufTy).Contents (Elt Ideal)) (x1 : (⟨S1024, .f32⟩ : BufTy).Contents (Elt Ideal))
  (x2 : (⟨S4096x1024, .f32⟩ : BufTy).Contents (Elt Ideal)) (r : Fin 4096) (l : Fin 1024)

theorem ref6 (z : Fin 1) : val_main_v6 (F := Ideal) x0 (ix2 r z)
    = Ideal.div (∑ k, x0 (ix2 r k) * x0 (ix2 r k)) (Ideal.ofBits .f32 0x44800000#32) + Ideal.ofBits .f32 0x358637BD#32 := by
  pointwise [val_main_v6, val_main_v5, val_main_v4, val_main_v3, val_main_v2, val_main_v1, val_main_v0, val_main_cst, val_main_cst_0, val_main_cst_1]

theorem ref7 (z : Fin 1) : val_main_v7 (F := Ideal) x0 (ix2 r z) = rr fun k => x0 (ix2 r k) := by
  pointwise [val_main_v7, val_main_v6, val_main_v5, val_main_v4, val_main_v3, val_main_v2, val_main_v1, val_main_v0, val_main_cst, val_main_cst_0, val_main_cst_1, rr]

theorem ref16 : val_main_v16 (F := Ideal) x0 x1 x2 (ix2 r l) = er x0 x2 x1 r l := by
  pointwise [val_main_v16, val_main_v15, val_main_v14, val_main_v13, val_main_v12, val_main_v11, er]
  rw [ref7]

/-- Half of one row's share, of twice the difference. -/
theorem share (e : EReal) : HMul.hMul (α := EReal) (β := EReal) (γ := EReal) (Ideal.div (Ideal.ofBits .f32 0x3F000000#32 * Ideal.ofBits .f32 0x3F800000#32) (Ideal.ofBits .f32 0x44800000#32)) (Ideal.ofBits .f32 0x40000000#32 * e)
    = e * Ideal.ofBits .f32 0x3A800000#32 := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  rw [h1, h2, h3, Cert.Num.lit_half, Cert.Num.lit_1024, ← EReal.coe_mul, Cert.Num.coe_div_coe _ (by norm_num), ← mul_assoc, ← EReal.coe_mul, mul_comm]
  norm_num

theorem ref30 : val_main_v30 (F := Ideal) x0 x1 x2 (ix2 r l) = dy x0 x2 x1 r l := by
  have h : val_main_v30 (F := Ideal) x0 x1 x2 (ix2 r l) = HMul.hMul (α := EReal) (β := EReal) (γ := EReal) (Ideal.div (Ideal.ofBits .f32 0x3F000000#32 * Ideal.ofBits .f32 0x3F800000#32) (Ideal.ofBits .f32 0x44800000#32)) (Ideal.ofBits .f32 0x40000000#32 * val_main_v16 (F := Ideal) x0 x1 x2 (ix2 r l)) := by
    pointwise [val_main_v30, val_main_v29, val_main_v28, val_main_v27, val_main_v26, val_main_v25, val_main_v19, val_main_v18, val_main_cst_3, val_main_cst_8, val_main_cst_9, val_main_cst_10]
  rw [h, ref16, share]
  rfl

theorem ref35 : val_main_v35 (F := Ideal) x0 x1 x2 (ix2 r l) = dy x0 x2 x1 r l * x1 (ix1 l) := by
  pointwise [val_main_v35, val_main_v34, val_main_v13]
  rw [ref30]

theorem ref31 : val_main_v31 (F := Ideal) x0 x1 x2 (ix2 r l) = dy x0 x2 x1 r l * (x0 (ix2 r l) * rr fun k => x0 (ix2 r k)) := by
  pointwise [val_main_v31, val_main_v12, val_main_v11]
  rw [ref30, ref7, mul_comm]

theorem ref50 (a : Fin 1024 → ℝ) (ha : ∀ k, x0 (ix2 r k) = (a k : EReal)) :
    val_main_v50 (F := Ideal) x0 x1 x2 (ix2 r l) = KDX x0 x2 x1 (ix2 r l) := by
  have h := Cert.Rms.row a (fun k => dy x0 x2 x1 r k * x1 (ix1 k)) 0 l (x := fun k => x0 (ix2 r k)) ha rfl rfl
  refine Eq.trans ?_ h
  rw [zero_add]
  pointwise [val_main_v50, val_main_v49, val_main_v48, val_main_v47, val_main_v46, val_main_v45, val_main_v44, val_main_v43, val_main_v42, val_main_v41, val_main_v40, val_main_v39,
    val_main_v38, val_main_v37, val_main_v10, val_main_v9, val_main_v8, val_main_cst_2, val_main_cst_13, val_main_cst_14, val_main_cst_15]
  simp only [ref35, ref7, ref6]

theorem ref36 : val_main_v36 (F := Ideal) x0 x1 x2 (ix1 l) = ∑ r : Fin 4096, dy x0 x2 x1 r l * (x0 (ix2 r l) * rr fun k => x0 (ix2 r k)) := by
  pointwise [val_main_v36, val_main_v33, val_main_v32, val_main_cst_11, val_main_cst_12]
  refine (Fin.sum_univ_one _).trans (Finset.sum_congr rfl fun r _ => ?_)
  exact ref31 x0 x1 x2 r l

theorem ref24 (i) : val_main_v24 (F := Ideal) x0 x1 x2 i = Ideal.ofBits .f32 0x3F000000#32 * ∑ r : Fin 4096, Ideal.div (∑ l : Fin 1024, er x0 x2 x1 r l * er x0 x2 x1 r l) (Ideal.ofBits .f32 0x44800000#32) := by
  pointwise [val_main_v24, val_main_v23, val_main_v22, val_main_v21, val_main_v20, val_main_v17, val_main_cst_4, val_main_cst_5, val_main_cst_6, val_main_cst_7]
  simp only [ref16]

/-- The reference's run, its results as the last stages of the line. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = val_main_v24 (F := Ideal) (m ((c.tc : Thread nD τ).loc main_arg0)) (m ((c.tc : Thread nD τ).loc main_arg1)) (m ((c.tc : Thread nD τ).loc main_arg2))
      ∧ r.2.mem ((c.tc : Thread nD τ).loc main_v50) = val_main_v50 (F := Ideal) (m ((c.tc : Thread nD τ).loc main_arg0)) (m ((c.tc : Thread nD τ).loc main_arg1)) (m ((c.tc : Thread nD τ).loc main_arg2))
      ∧ r.2.mem ((c.tc : Thread nD τ).loc main_v36) = val_main_v36 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v24_eq _ _ _), (h c).2.1.trans (val_main_v50_eq m c), (h c).2.2.1.trans (val_main_v36_eq _ _ _), (h c).2.2.2⟩)
    (Cert.LossRIdeal.Value.run m ρ)

end Reference

open Cert.LossKIdeal Cert.LossKIdeal.Gen

variable (m : (ℓ : Loc nD τ sig) → Buf (Elt Ideal) ℓ)

theorem tail3 (c : Dev nD) : Pipeline.afterTail₀ cfgs (dats m) 0 (V0 m) [hostOps1] c main_v3
      = (mulf (constant (F := Ideal) S_ .f32 0x3A000000#32) (Host.reduceAdd (KL (m ((c : Thread nD τ).loc main_arg0)) (m ((c : Thread nD τ).loc main_arg2)) (m ((c : Thread nD τ).loc main_arg1)))
          (constant (F := Ideal) S_ .f32 0x00000000#32) facts.reducesTo_S8x1024_S_d0_1 facts.h_S_) : FVec Ideal S_ .f32) := by
  unfold Pipeline.afterTail₀
  show StableHlo.after hostOps1 _ _ = _
  after_results
  have e : Pipeline.withArrays (cfgs 0).spec c (V0 m c) (fun w => (dats m 0 c).arrAt w (cfgs 0).N) (Proc.devRef .tc main_v1_0)
      = (dats m 0 c).arrAt 3 (cfgs 0).N := Pipeline.withArrays_arr (cfgs 0).spec launch0.win.arr_inj c _ _ 3
  rw [e, fin3]

theorem tail4 (c : Dev nD) : Pipeline.afterTail₀ cfgs (dats m) 0 (V0 m) [hostOps1] c main_v4
      = (Host.reduceAdd (KDG (m ((c : Thread nD τ).loc main_arg0)) (m ((c : Thread nD τ).loc main_arg2)) (m ((c : Thread nD τ).loc main_arg1)))
          (constant (F := Ideal) S_ .f32 0x00000000#32) facts.reducesTo_S8x1024_S1024_d0 facts.h_S_ : FVec Ideal S1024 .f32) := by
  unfold Pipeline.afterTail₀
  show StableHlo.after hostOps1 _ _ = _
  after_results
  have e : Pipeline.withArrays (cfgs 0).spec c (V0 m c) (fun w => (dats m 0 c).arrAt w (cfgs 0).N) (Proc.devRef .tc main_v1_2)
      = (dats m 0 c).arrAt 5 (cfgs 0).N := Pipeline.withArrays_arr (cfgs 0).spec launch0.win.arr_inj c _ _ 5
  rw [e, fin5]

theorem real_of_pre {m : (ℓ : Loc nD τ sig) → Buf (Elt Ideal) ℓ} (h : Cert.Pre_LossKIdeal_finite_loss m) (c : Dev nD) (i) :
    ∃ r : ℝ, m ((c.tc : Thread nD τ).loc main_arg0) i = (r : EReal) := by
  exact Cert.Num.real_of_test _ _ i rfl (congrFun (h c) i)

/-- The half of the rows' means is the kernel's one scaled sum. -/
theorem loss_sum (f : Fin 4096 → Fin 1024 → EReal) :
    Ideal.ofBits .f32 0x3F000000#32 * ∑ r, Ideal.div (∑ l, f r l) (Ideal.ofBits .f32 0x44800000#32) = Ideal.ofBits .f32 0x3A000000#32 * ∑ r, ∑ l, f r l := by
  have h3 : Ideal.ofBits .f32 0x3A000000#32 = ((1 / 2048 : ℝ) : EReal) := by
    simp [Ideal.ofBits, Ideal.ieee, -EReal.coe_mul]; norm_num
  simp only [Cert.Num.lit_1024, Cert.Num.lit_half, h3, Cert.Num.div_coe _ (show (1024 : ℝ) ≠ 0 by norm_num), mul_comm _ (((1024 : ℝ)⁻¹ : ℝ) : EReal)]
  rw [← Cert.Num.mul_sum_nonneg (by norm_num), ← mul_assoc, ← EReal.coe_mul]
  norm_num

theorem kloss (x t : FVec Ideal S4096x1024 .f32) (g : FVec Ideal S1024 .f32) (i) :
    (mulf (constant (F := Ideal) S_ .f32 0x3A000000#32) (Host.reduceAdd (KL x t g)
          (constant (F := Ideal) S_ .f32 0x00000000#32) facts.reducesTo_S8x1024_S_d0_1 facts.h_S_) : FVec Ideal S_ .f32) i
      = Ideal.ofBits .f32 0x3A000000#32 * ∑ r : Fin 4096, ∑ l : Fin 1024, er x t g r l * er x t g r l := by
  pointwise [KL]
  rw [Finset.sum_comm, Finset.sum_comm (s := (Finset.univ : Finset (Fin 4096)))]
  exact congrArg _ (Finset.sum_congr rfl fun l _ => Cert.Num.sum_rows fun r => er x t g r l * er x t g r l)

theorem algebraic : Cert.algebraic_LossKIdeal_LossRIdeal_pre_finite_loss := by
  pair_intro
  · run_from Cert.LossKIdeal.Gen.run_main m g
    · exact W_main_arg1 m (dats m) c
  · refine Idealize.ShloMosaic.θ_run_mono (ref_run m' g') ?_
    intro r hr c
    have hc := hr c
    refine ⟨hc.1.trans ?_, hc.2.1.trans ?_, hc.2.2.1.trans ?_, hc.2.2.2⟩
    all_goals rw [(hagree c).1, (hagree c).2.1, (hagree c).2.2]
    all_goals clear hc hr
    · rw [tail3]
      funext i
      rw [kloss, ref24, loss_sum]
    · rw [fin4]
      funext i
      idx_vars i
      have hf (k : Fin 1024) := real_of_pre hpre c (ix2 i0 k)
      choose a ha using hf
      exact ref50 _ _ _ i0 i1 a ha
    · rw [tail4]
      funext i
      idx_vars i
      rw [ref36]
      pointwise [KDG]
      exact (Cert.Num.sum_rows _).symm

end Cert.Loss

end
-- ==== Proof.AttnMath.lean ====
/- The backward pass of causal softmax attention over the reals: one head's formulas, and the extended-real sums that meet them. -/
module

public import proofs.«01_k».proof.Proof.Num

@[expose] public section

noncomputable section

open Idealize.ShloMosaic

namespace Cert.AttnMath

theorem lit_eighth : Ideal.ofBits .f32 0x3E000000#32 = ((1 / 8 : ℝ) : EReal) := by
  simp [Ideal.ofBits, Ideal.ieee, -EReal.coe_mul]; norm_num

theorem lit_neg_inf : Ideal.ofBits .f32 0xFF800000#32 = (⊥ : EReal) := by
  simp [Ideal.ofBits, Ideal.ieee]

theorem lit_one : Ideal.ofBits .f32 0x3F800000#32 = ((1 : ℝ) : EReal) := by
  simp [Ideal.ofBits, Ideal.ieee, -EReal.coe_mul]; norm_num

theorem log_coe {r : ℝ} (hr : 0 < r) : Ideal.log (r : EReal) = ((Real.log r : ℝ) : EReal) := by
  show (if r ≤ 0 then (⊥ : EReal) else (Real.log r : ℝ)) = _
  rw [if_neg (not_le.2 hr)]

theorem coe_ite (p : Prop) [Decidable p] (a b : ℝ) : (if p then (a : EReal) else (b : EReal)) = ((if p then a else b : ℝ) : EReal) := by
  split_ifs <;> rfl

theorem coe_ite_zero (p : Prop) [Decidable p] (a : ℝ) : (if p then (a : EReal) else 0) = ((if p then a else 0 : ℝ) : EReal) := by
  split_ifs <;> rfl

/-- The largest of finitely many numbers, none of them infinite upwards and one of them real, is real. -/
theorem sup_real {n : ℕ} (f : Fin n → EReal) (h : ∀ j, f j ≠ ⊤) (j₀ : Fin n) (h₀ : f j₀ ≠ ⊥) :
    ∃ M : ℝ, Finset.univ.fold max ⊥ f = (M : EReal) := by
  have e : Finset.univ.fold max ⊥ f = Finset.univ.sup f := rfl
  have ht : Finset.univ.sup f ≠ ⊤ := by
    rw [← lt_top_iff_ne_top, Finset.sup_lt_iff (by exact bot_lt_top)]
    exact fun j _ => lt_top_iff_ne_top.2 (h j)
  have hb : Finset.univ.sup f ≠ ⊥ := by
    rw [← bot_lt_iff_ne_bot]
    exact lt_of_lt_of_le (bot_lt_iff_ne_bot.2 h₀) (Finset.le_sup (Finset.mem_univ j₀))
  exact ⟨(Finset.univ.sup f).toReal, by rw [e, EReal.coe_toReal ht hb]⟩

/-! ### One head -/

section Head

variable (a b v w : Fin 4096 → Fin 64 → ℝ) (c M : Fin 4096 → ℝ)

/-- A score. -/
def score (r j : Fin 4096) : ℝ := ∑ d, a r d * (1 / 8) * b j d + (c r - c j)

/-- A weight before its row is divided by its sum: nothing for a key behind the query. -/
def wt (r j : Fin 4096) : ℝ := if j.val ≤ r.val then Real.exp (score a b c r j - M r) else 0

def rowsum (r : Fin 4096) : ℝ := ∑ j, wt a b c M r j

theorem wt_nonneg (r j : Fin 4096) : 0 ≤ wt a b c M r j := by
  unfold wt
  split_ifs
  · exact (Real.exp_pos _).le
  · exact le_rfl

theorem rowsum_pos (r : Fin 4096) : 0 < rowsum a b c M r := by
  refine Finset.sum_pos' (fun j _ => wt_nonneg a b c M r j) ⟨r, Finset.mem_univ r, ?_⟩
  unfold wt
  rw [if_pos le_rfl]
  exact Real.exp_pos _

/-- The cotangent of a probability. -/
def dp (r j : Fin 4096) : ℝ := ∑ d, w r d * v j d

/-- The row's mean of the cotangents. -/
def mean (r : Fin 4096) : ℝ := ∑ j, wt a b c M r j / rowsum a b c M r * dp v w r j

/-- The cotangent of a score, as if no key were masked. -/
def dsU (r j : Fin 4096) : ℝ :=
  Real.exp (score a b c r j - (M r + Real.log (rowsum a b c M r))) * (dp v w r j - mean a b v w c M r)

/-- The cotangent of a score. -/
def dsM (r j : Fin 4096) : ℝ := wt a b c M r j / rowsum a b c M r * (dp v w r j - mean a b v w c M r)

/-- The kernel's probability is the row's weight over the row's sum. -/
theorem prob_eq (r j : Fin 4096) (h : j.val ≤ r.val) :
    Real.exp (score a b c r j - (M r + Real.log (rowsum a b c M r))) = wt a b c M r j / rowsum a b c M r := by
  unfold wt
  rw [if_pos h, ← sub_sub, Real.exp_sub, Real.exp_log (rowsum_pos a b c M r)]

theorem dsM_eq (r j : Fin 4096) : dsM a b v w c M r j = if j.val ≤ r.val then dsU a b v w c M r j else 0 := by
  unfold dsM dsU
  by_cases h : j.val ≤ r.val
  · rw [if_pos h, prob_eq a b c M r j h]
  · rw [if_neg h]
    unfold wt
    rw [if_neg h, zero_div, zero_mul]

/-- The inner product of a row's output and its cotangent is the row's mean. -/
theorem delta_eq (r : Fin 4096) :
    ∑ d, w r d * ((∑ j, wt a b c M r j * v j d) / rowsum a b c M r) = mean a b v w c M r := by
  unfold mean dp
  simp only [Finset.sum_div, Finset.mul_sum]
  rw [Finset.sum_comm]
  refine Finset.sum_congr rfl fun j _ => Finset.sum_congr rfl fun d _ => ?_
  ring

/-- The reference's form of a score's cotangent. -/
theorem ds_ref (r j : Fin 4096) :
    (dp v w r j / rowsum a b c M r + -(∑ k, dp v w r k * (1 / (rowsum a b c M r * rowsum a b c M r)) * wt a b c M r k)) * wt a b c M r j
      = dsM a b v w c M r j := by
  have hz := (rowsum_pos a b c M r).ne'
  have e : (∑ k, dp v w r k * (1 / (rowsum a b c M r * rowsum a b c M r)) * wt a b c M r k) = mean a b v w c M r / rowsum a b c M r := by
    unfold mean
    rw [Finset.sum_div]
    refine Finset.sum_congr rfl fun k _ => ?_
    field_simp
  rw [e]
  unfold dsM
  field_simp
  ring

end Head

/-- A sum over the key blocks, each over the keys of the block, is the sum over the keys. -/
theorem blocks (f : Fin 4096 → ℝ) (g : ℕ → Fin 512 → ℝ)
    (h : ∀ k x, k < 8 → ∀ hx : k * 512 + x.val < 4096, g k x = f ⟨k * 512 + x.val, hx⟩) :
    ∑ k ∈ Finset.range 8, ∑ x, g k x = ∑ j, f j := by
  rw [Fin.sum_univ_tiles 8 512 rfl f, Finset.sum_range]
  exact Finset.sum_congr rfl fun k _ => Finset.sum_congr rfl fun x _ => h k x k.isLt _

end Cert.AttnMath

end
-- ==== Proof.Attn.lean ====
/- The attention backward's arithmetic: the masked score gradient, the sums down a column block, and the rows written so far. -/
module

public import proofs.«01_k».proof.Proof.Num
public import proofs.«01_k».proof.Proof.Gen.AttnKIdeal.Value
public import proofs.«01_k».proof.Proof.Gen.AttnK.Frame
public import proofs.«01_k».proof.Proof.Gen.AttnRIdeal.Run
public import proofs.«01_k».proof.Proof.Gen.AttnRIdeal.Read

@[expose] public section

set_option maxRecDepth 16384

noncomputable section

open Idealize.ShloMosaic Idealize.ShloMosaic.TcCoe Idealize.SL.Sem

namespace Cert.AttnKIdeal.Value

open Cert.AttnKIdeal Cert.AttnKIdeal.Gen

/-- Position `x` of the block `k` of 512 positions. -/
def col (k : ℕ) (x : Fin 512) : Fin 4096 := Fin.ofNat 4096 (512 * k + x.val)

theorem col_val {k : ℕ} (hk : k < 8) (x : Fin 512) : (col k x).val = 512 * k + x.val :=
  Nat.mod_eq_of_lt (by omega)

theorem col_zero (x : Fin 512) (h : x.val < 4096) : (⟨x.val, h⟩ : Fin 4096) = col 0 x :=
  Fin.ext (by rw [col_val (by decide)]; show x.val = _; omega)

theorem col_of (k n : ℕ) (hk : k < 8) (e : n = 512 * k) (x : Fin 512) (h : n + x.val < 4096) :
    (⟨n + x.val, h⟩ : Fin 4096) = col k x :=
  Fin.ext (by rw [col_val hk]; show n + x.val = _; omega)

/-! ### Sums over the rows of a suffix -/

/-- The sum of `g` over the rows from `n` on. -/
def Tail (g : Fin 4096 → EReal) (n : ℕ) : EReal := ∑ r : Fin 4096, if n ≤ r.val then g r else 0

theorem Tail_end (g : Fin 4096 → EReal) : Tail g 4096 = 0 :=
  Finset.sum_eq_zero fun r _ => if_neg (by have := r.isLt; omega)

/-- A block of `m` rows in front of a suffix. -/
theorem Tail_block (g : Fin 4096 → EReal) (n m : ℕ) (h : n + m ≤ 4096) :
    (∑ r : Fin m, g ⟨n + r.val, by omega⟩) + Tail g (n + m) = Tail g n := by
  have hb : (∑ r : Fin m, g ⟨n + r.val, by omega⟩) = ∑ r : Fin 4096, if n ≤ r.val ∧ r.val < n + m then g r else 0 := by
    rw [← Finset.sum_filter]
    refine Finset.sum_bij (fun r _ => (⟨n + r.val, by omega⟩ : Fin 4096)) (fun r _ => ?_) (fun a _ b _ e => ?_) (fun b hb => ?_) (fun _ _ => rfl)
    · exact Finset.mem_filter.2 ⟨Finset.mem_univ _, by show n ≤ n + r.val; omega, by show n + r.val < n + m; have := r.isLt; omega⟩
    · have := congrArg Fin.val e
      exact Fin.ext (by simpa using this)
    · have hb' := (Finset.mem_filter.1 hb).2
      exact ⟨⟨b.val - n, by omega⟩, Finset.mem_univ _, Fin.ext (by show n + (b.val - n) = b.val; omega)⟩
  rw [hb]
  unfold Tail
  rw [← Finset.sum_add_distrib]
  refine Finset.sum_congr rfl fun r _ => ?_
  by_cases h1 : n ≤ r.val <;> by_cases h2 : r.val < n + m
  · rw [if_pos ⟨h1, h2⟩, if_neg (by omega), if_pos h1, add_zero]
  · rw [if_neg (fun h => h2 h.2), if_pos (by omega), if_pos h1, zero_add]
  · rw [if_neg (fun h => h1 h.1), if_neg (by omega), if_neg h1, add_zero]
  · omega

/-- The rows at or below a position of block `k`: those of its own block, then the suffix after it. -/
theorem Tail_diag (g : Fin 4096 → EReal) (k : ℕ) (hk : k < 8) (x : Fin 512) :
    (∑ r : Fin 512, if x.val ≤ r.val then g (col k r) else 0) + Tail g (512 * (k + 1))
      = ∑ r : Fin 4096, if 512 * k + x.val ≤ r.val then g r else 0 := by
  have e := Tail_block (fun r => if 512 * k + x.val ≤ r.val then g r else 0) (512 * k) 512 (by omega)
  have e1 : Tail (fun r => if 512 * k + x.val ≤ r.val then g r else 0) (512 * k)
      = ∑ r : Fin 4096, if 512 * k + x.val ≤ r.val then g r else 0 := by
    refine Finset.sum_congr rfl fun r _ => ?_
    by_cases h : 512 * k ≤ r.val
    · rw [if_pos h]
    · rw [if_neg h, if_neg (by omega)]
  have e2 : Tail (fun r => if 512 * k + x.val ≤ r.val then g r else 0) (512 * k + 512) = Tail g (512 * (k + 1)) := by
    refine Finset.sum_congr rfl fun r _ => ?_
    by_cases h : 512 * k + 512 ≤ r.val
    · rw [if_pos h, if_pos (by omega)]
      exact if_pos (by omega)
    · rw [if_neg h, if_neg (by omega)]
  rw [e1, e2] at e
  rw [← e]
  refine congrArg (· + _) (Finset.sum_congr rfl fun r _ => ?_)
  have hr : (⟨512 * k + r.val, by omega⟩ : Fin 4096) = col k r := col_of k _ hk rfl r _
  simp only [hr]
  refine if_congr ?_ rfl rfl
  omega

/-- The rows of block `k` at or below its position `x`. -/
def Dg (g : Fin 4096 → EReal) (k : ℕ) (x : Fin 512) : EReal := ∑ r : Fin 512, if x.val ≤ r.val then g (col k r) else 0

/-- The rows at or below a position of block `k`. -/
def From (g : Fin 4096 → EReal) (k : ℕ) (x : Fin 512) : EReal := ∑ r : Fin 4096, if 512 * k + x.val ≤ r.val then g r else 0

theorem one_tail (g : Fin 4096 → EReal) (k b : ℕ) (hk : k < 8) (hb : b = 512 * (k + 1)) (x : Fin 512) :
    Dg g k x + Tail g b = From g k x := by
  subst hb
  exact Tail_diag g k hk x

theorem two_tail (g : Fin 4096 → EReal) (k b : ℕ) (hk : k < 7) (hb : b = 512 * (k + 2)) (x : Fin 512) :
    Dg g k x + (∑ r : Fin 512, g (col (k + 1) r)) + Tail g b = From g k x := by
  subst hb
  rw [← one_tail g k _ (by omega) rfl, add_assoc, ← Tail_block g (512 * (k + 1)) 512 (by omega)]
  refine congrArg (Dg g k x + ·) (congrArg₂ (· + ·) (Finset.sum_congr rfl fun r _ => congrArg g ?_) rfl)
  exact (col_of (k + 1) _ (by omega) rfl r _).symm

theorem one_end (g : Fin 4096 → EReal) (x : Fin 512) : Dg g 7 x = From g 7 x := by
  rw [← one_tail g 7 4096 (by decide) rfl, Tail_end, add_zero]

theorem two_end (g : Fin 4096 → EReal) (x : Fin 512) : Dg g 6 x + (∑ r : Fin 512, g (col 7 r)) = From g 6 x := by
  rw [← two_tail g 6 4096 (by decide) rfl, Tail_end, add_zero]

/-- The last rows as one box. -/
theorem last_box (g : Fin 4096 → EReal) : (∑ r : Fin 1024, g ⟨3072 + r.val, by omega⟩) = Tail g 3072 := by
  rw [← Tail_block g 3072 1024 (by decide), Tail_end, add_zero]

theorem one_box (g : Fin 4096 → EReal) (x : Fin 512) :
    Dg g 5 x + (∑ r : Fin 1024, g ⟨3072 + r.val, by omega⟩) = From g 5 x := by
  rw [last_box, one_tail g 5 3072 (by decide) rfl]

theorem two_box (g : Fin 4096 → EReal) (x : Fin 512) :
    Dg g 4 x + (∑ r : Fin 512, g (col 5 r)) + (∑ r : Fin 1024, g ⟨3072 + r.val, by omega⟩) = From g 4 x := by
  rw [last_box, two_tail g 4 3072 (by decide) rfl]

theorem neg_sum_real {n : ℕ} (f : Fin n → EReal) (h : ∀ r, ∃ t : ℝ, f r = (t : EReal)) : -(∑ r, f r) = ∑ r, -f r := by
  choose t ht using h
  simp only [ht, ← Cert.Num.coe_sum, ← EReal.coe_neg, Finset.sum_neg_distrib]

/-- Sums taken off one after another, when every term is a real number. -/
theorem sub_sum {n : ℕ} (a : EReal) (f : Fin n → EReal) (h : ∀ r, ∃ t : ℝ, f r = (t : EReal)) : a - (∑ r, f r) = a + ∑ r, -f r := by
  rw [sub_eq_add_neg, neg_sum_real f h]

theorem zero_sub_Dg (g : Fin 4096 → EReal) (h : ∀ r, ∃ t : ℝ, g r = (t : EReal)) (k : ℕ) (x : Fin 512) :
    0 - Dg g k x = Dg (fun r => -g r) k x := by
  unfold Dg
  rw [sub_sum, zero_add]
  · refine Finset.sum_congr rfl fun r _ => ?_
    split
    · rfl
    · exact neg_zero
  · intro r
    split
    · exact h _
    · exact ⟨0, rfl⟩

/-- The causal mask inside a diagonal block, as a comparison of positions. -/
theorem select_mask (r x : Fin 512) (a b : EReal) :
    Scalar.select (IntOp.cmpi .sge (IntOp.addi (BitVec.ofNat 32 r.val) 0#32) (IntOp.addi (BitVec.ofNat 32 x.val) 0#32)) a b
      = if x.val ≤ r.val then a else b := by
  have h : (IntOp.cmpi .sge (IntOp.addi (BitVec.ofNat 32 r.val) 0#32) (IntOp.addi (BitVec.ofNat 32 x.val) 0#32) = 1#1) ↔ x.val ≤ r.val := by
    have := r.isLt; have := x.isLt
    have e (n : ℕ) : IntOp.addi (BitVec.ofNat 32 n) 0#32 = BitVec.ofNat 32 n := BitVec.add_zero _
    rw [e, e]
    word_cmp
  unfold Scalar.select
  exact if_congr h rfl rfl

/-! ### Rows written so far -/

section Rows

variable {W : ℕ} (E : ℕ → Fin 4096 → Fin W → EReal)

/-- Of an accumulated array: key blocks before `k` added everywhere, block `k` added in the rows before `b`. -/
def Upto (k b : ℕ) (L : List (View.Piece (Elt Ideal) ⟨3, ![1, 4096, W]⟩ .f32)) : Prop :=
  ∀ (r : Fin 4096) (d : Fin W), View.canon L (ix3 0 r d)
    = (∑ k' ∈ Finset.range k, E k' r d) + if r.val < b then E k r d else 0

theorem upto_start (L : List (View.Piece (Elt Ideal) ⟨3, ![1, 4096, W]⟩ .f32)) (h : ∀ r d, View.canon L (ix3 0 r d) = 0) :
    Upto E 0 0 L := fun r d => by
  rw [h, Finset.sum_range_zero, if_neg (Nat.not_lt_zero _), zero_add]

/-- A key block adds nothing to the rows above it. -/
theorem upto_next {k : ℕ} {L : List (View.Piece (Elt Ideal) ⟨3, ![1, 4096, W]⟩ .f32)}
    (hE : ∀ (r : Fin 4096) d, r.val < 512 * (k + 1) → E (k + 1) r d = 0) (h : Upto E k 4096 L) :
    Upto E (k + 1) (512 * (k + 1)) L := fun r d => by
  rw [h r d, if_pos r.isLt, Finset.sum_range_succ]
  by_cases hr : r.val < 512 * (k + 1)
  · rw [if_pos hr, hE r d hr, add_zero]
  · rw [if_neg hr, add_zero]

/-- One more box of rows written, each with the block's part added to what was there. -/
theorem upto_push {k a n : ℕ} {L : List (View.Piece (Elt Ideal) ⟨3, ![1, 4096, W]⟩ .f32)} (h : Upto E k a L)
    {off : Fin 3 → ℕ} (inb : ∀ i, off i + (⟨3, ![1, n, W]⟩ : Shape).size i ≤ (⟨3, ![1, 4096, W]⟩ : Shape).size i)
    (ho : off = ![0, a, 0]) (han : a + n ≤ 4096)
    (P : Vec Ideal (⟨3, ![1, n, W]⟩ : Shape) .f32)
    (hP : ∀ (j : Fin n) (d : Fin W), P (ix3 0 j d)
      = View.canon L (ix3 0 (⟨a + j.val, by omega⟩ : Fin 4096) d) + E k ⟨a + j.val, by omega⟩ d) :
    Upto E k (a + n) (⟨Rect.unit (s := ⟨3, ![1, 4096, W]⟩) off (⟨3, ![1, n, W]⟩ : Shape).size inb, P⟩ :: L) := by
  subst ho
  have hb (j : Fin n) : a + j.val < 4096 := by omega
  intro r d
  by_cases hr : a ≤ r.val ∧ r.val < a + n
  · obtain ⟨j, rfl⟩ : ∃ j : Fin n, r = ⟨a + j.val, hb j⟩ :=
      ⟨⟨r.val - a, by omega⟩, Fin.ext (by show r.val = a + (r.val - a); omega)⟩
    have e : (Rect.unit (s := ⟨3, ![1, 4096, W]⟩) ![0, a, 0] (⟨3, ![1, n, W]⟩ : Shape).size inb).emb (ix3 0 j d)
        = ix3 0 (⟨a + j.val, by omega⟩ : Fin 4096) d := by
      funext i
      refine Fin.ext ?_
      match i with
      | ⟨0, _⟩ => rfl
      | ⟨1, _⟩ => show a + 1 * j.val = a + j.val; omega
      | ⟨2, _⟩ => show 0 + 1 * d.val = d.val; omega
    rw [← e, View.canon_cons_emb, hP, h, if_neg (by show ¬ a + j.val < a; omega), add_zero, if_pos hr.2]
  · rw [View.canon_cons_of_not_mem, h r d]
    · refine congrArg _ (if_congr ?_ rfl rfl)
      omega
    · rw [Rect.mem_set_unit]
      intro hm
      have := hm 1
      exact hr this

end Rows

/-! ### The gradient of a score -/

section Grad

variable (x0 : Vec Ideal S1x4096x64 .bf16) (x1 : Vec Ideal S1x4096x64 .bf16) (x2 : Vec Ideal S1x4096x64 .bf16)
  (x3 : Vec Ideal S1x4096x1 .f32) (x4 : Vec Ideal S1x8x1x512 .f32) (x5 : Vec Ideal S1x4096x64 .f32)
  (x6 : Vec Ideal S1x4096x1 .f32) (x7 : Vec Ideal S1x4096x64 .f32)

/-- The attention weight of the query row `r` on position `x` of key block `k`, from the saved row log-sum. -/
def prob (k : ℕ) (r : Fin 4096) (x : Fin 512) : EReal :=
  Ideal.exp (∑ d : Fin 64, x0 (ix3 0 r d) * x1 (ix3 0 (col k x) d) + (x3 (ix3 0 r 0) - x4 (ix4 0 (Fin.ofNat 8 k) 0 x))
    - x6 (ix3 0 r 0))

/-- The row's inner product of output and its cotangent. -/
def delta (r : Fin 4096) : EReal := ∑ d : Fin 64, x7 (ix3 0 r d) * x5 (ix3 0 r d)

/-- The gradient of one score, before the mask. -/
def ds (k : ℕ) (r : Fin 4096) (x : Fin 512) : EReal :=
  prob x0 x1 x3 x4 x6 k r x * (∑ d : Fin 64, x7 (ix3 0 r d) * x2 (ix3 0 (col k x) d) - delta x5 x7 r)

/-- The scale of the scores. -/
def sc : EReal := Ideal.ofBits .f32 1040187392#32

/-- What key block `k` adds to a query row's gradient. -/
def Gq (k : ℕ) (r : Fin 4096) (d : Fin 64) : EReal :=
  (∑ x : Fin 512, if 512 * k + x.val ≤ r.val then ds x0 x1 x2 x3 x4 x5 x6 x7 k r x * x1 (ix3 0 (col k x) d) else 0) * sc

/-- What key block `k` adds to a query row's cumulative-gate gradient. -/
def Gc (k : ℕ) (r : Fin 4096) (d : Fin 1) : EReal :=
  ∑ x : Fin 512, if 512 * k + x.val ≤ r.val then ds x0 x1 x2 x3 x4 x5 x6 x7 k r x else 0

/-- A key's gradient. -/
def DK (k : ℕ) (x : Fin 512) (d : Fin 64) : EReal :=
  From (fun r => ds x0 x1 x2 x3 x4 x5 x6 x7 k r x * x0 (ix3 0 r d)) k x

/-- A value's gradient. -/
def DV (k : ℕ) (x : Fin 512) (d : Fin 64) : EReal :=
  From (fun r => prob x0 x1 x3 x4 x6 k r x * x7 (ix3 0 r d)) k x

/-- A key's cumulative-gate gradient. -/
def DC (k : ℕ) (x : Fin 512) : EReal :=
  From (fun r => -ds x0 x1 x2 x3 x4 x5 x6 x7 k r x) k x

/-- Every score's gradient is a real number. -/
def RealDs : Prop := ∀ k r x, ∃ t : ℝ, ds x0 x1 x2 x3 x4 x5 x6 x7 k r x = (t : EReal)

theorem Gq_above {k : ℕ} {r : Fin 4096} (d : Fin 64) (h : r.val < 512 * k) : Gq x0 x1 x2 x3 x4 x5 x6 x7 k r d = 0 := by
  unfold Gq
  rw [Finset.sum_eq_zero fun x _ => if_neg (by omega), zero_mul]

theorem Gc_above {k : ℕ} {r : Fin 4096} (d : Fin 1) (h : r.val < 512 * k) : Gc x0 x1 x2 x3 x4 x5 x6 x7 k r d = 0 :=
  Finset.sum_eq_zero fun x _ => if_neg (by omega)

/-- Below its diagonal block a key block adds with no mask. -/
theorem Gq_below {k : ℕ} {r : Fin 4096} (d : Fin 64) (h : 512 * (k + 1) ≤ r.val) :
    Gq x0 x1 x2 x3 x4 x5 x6 x7 k r d = (∑ x : Fin 512, ds x0 x1 x2 x3 x4 x5 x6 x7 k r x * x1 (ix3 0 (col k x) d)) * sc :=
  congrArg (· * sc) (Finset.sum_congr rfl fun x _ => if_pos (by omega))

theorem Gc_below {k : ℕ} {r : Fin 4096} (d : Fin 1) (h : 512 * (k + 1) ≤ r.val) :
    Gc x0 x1 x2 x3 x4 x5 x6 x7 k r d = ∑ x : Fin 512, ds x0 x1 x2 x3 x4 x5 x6 x7 k r x :=
  Finset.sum_congr rfl fun x _ => if_pos (by omega)

/-- In its diagonal block the mask compares positions inside the block. -/
theorem Gq_diag {k : ℕ} (hk : k < 8) (r : Fin 512) (d : Fin 64) :
    Gq x0 x1 x2 x3 x4 x5 x6 x7 k (col k r) d
      = (∑ x : Fin 512, if x.val ≤ r.val then ds x0 x1 x2 x3 x4 x5 x6 x7 k (col k r) x * x1 (ix3 0 (col k x) d) else 0) * sc := by
  refine congrArg (· * sc) (Finset.sum_congr rfl fun x _ => if_congr ?_ rfl rfl)
  rw [col_val hk]
  omega

theorem Gc_diag {k : ℕ} (hk : k < 8) (r : Fin 512) (d : Fin 1) :
    Gc x0 x1 x2 x3 x4 x5 x6 x7 k (col k r) d
      = ∑ x : Fin 512, if x.val ≤ r.val then ds x0 x1 x2 x3 x4 x5 x6 x7 k (col k r) x else 0 := by
  refine Finset.sum_congr rfl fun x _ => if_congr ?_ rfl rfl
  rw [col_val hk]
  omega

/-- The three sums a key block carries down its rows, each short of its final value by the rows from `b` on. -/
structure Sums (k b : ℕ) (acc : FVec Ideal S512x64 .f32 × FVec Ideal S512x64 .f32 × FVec Ideal S1x512 .f32) : Prop where
  dk : ∀ x d, acc.1 (ix2 x d) + Tail (fun r => ds x0 x1 x2 x3 x4 x5 x6 x7 k r x * x0 (ix3 0 r d)) b
    = DK x0 x1 x2 x3 x4 x5 x6 x7 k x d
  dv : ∀ x d, acc.2.1 (ix2 x d) + Tail (fun r => prob x0 x1 x3 x4 x6 k r x * x7 (ix3 0 r d)) b
    = DV x0 x1 x3 x4 x6 x7 k x d
  dck : ∀ x, acc.2.2 (ix2 0 x) + Tail (fun r => -ds x0 x1 x2 x3 x4 x5 x6 x7 k r x) b = DC x0 x1 x2 x3 x4 x5 x6 x7 k x

/-- The work on key block `k` after the query rows before `b`: both row arrays and the three sums. -/
structure Inv (k b : ℕ) (acc : FVec Ideal S512x64 .f32 × FVec Ideal S512x64 .f32 × FVec Ideal S1x512 .f32)
    (L : List (View.Piece (Elt Ideal) S1x4096x64 .f32)) (M : List (View.Piece (Elt Ideal) S1x4096x1 .f32)) : Prop where
  below : 512 * (k + 1) ≤ b
  dq : Upto (Gq x0 x1 x2 x3 x4 x5 x6 x7) k b L
  dcq : Upto (Gc x0 x1 x2 x3 x4 x5 x6 x7) k b M
  sums : Sums x0 x1 x2 x3 x4 x5 x6 x7 k b acc

/-- One more block of rows, given what its payloads hold. -/
theorem Inv.step {k b : ℕ} {acc} {L M} (hf : RealDs x0 x1 x2 x3 x4 x5 x6 x7) (h : Inv x0 x1 x2 x3 x4 x5 x6 x7 k b acc L M) (hb : b + 1024 ≤ 4096)
    {acc' : FVec Ideal S512x64 .f32 × FVec Ideal S512x64 .f32 × FVec Ideal S1x512 .f32}
    (hk : ∀ x d, acc'.1 (ix2 x d) = acc.1 (ix2 x d)
      + ∑ j : Fin 1024, ds x0 x1 x2 x3 x4 x5 x6 x7 k ⟨b + j.val, by omega⟩ x * x0 (ix3 0 ⟨b + j.val, by omega⟩ d))
    (hv : ∀ x d, acc'.2.1 (ix2 x d) = acc.2.1 (ix2 x d)
      + ∑ j : Fin 1024, prob x0 x1 x3 x4 x6 k ⟨b + j.val, by omega⟩ x * x7 (ix3 0 ⟨b + j.val, by omega⟩ d))
    (hc : ∀ x, acc'.2.2 (ix2 0 x) = acc.2.2 (ix2 0 x) - ∑ j : Fin 1024, ds x0 x1 x2 x3 x4 x5 x6 x7 k ⟨b + j.val, by omega⟩ x)
    {off off' : Fin 3 → ℕ} (inb inb') (ho : off = ![0, b, 0]) (ho' : off' = ![0, b, 0]) (P : Vec Ideal S1x1024x64 .f32) (Q : Vec Ideal S1x1024x1 .f32)
    (hP : ∀ (j : Fin 1024) d, P (ix3 0 j d) = View.canon L (ix3 0 (⟨b + j.val, by omega⟩ : Fin 4096) d)
      + (∑ x : Fin 512, ds x0 x1 x2 x3 x4 x5 x6 x7 k ⟨b + j.val, by omega⟩ x * x1 (ix3 0 (col k x) d)) * sc)
    (hQ : ∀ j : Fin 1024, Q (ix3 0 j 0) = View.canon M (ix3 0 (⟨b + j.val, by omega⟩ : Fin 4096) 0)
      + ∑ x : Fin 512, ds x0 x1 x2 x3 x4 x5 x6 x7 k ⟨b + j.val, by omega⟩ x) :
    Inv x0 x1 x2 x3 x4 x5 x6 x7 k (b + 1024) acc'
      (⟨Rect.unit (s := S1x4096x64) off S1x1024x64.size inb, P⟩ :: L) (⟨Rect.unit (s := S1x4096x1) off' S1x1024x1.size inb', Q⟩ :: M) where
  below := by have := h.below; omega
  dq := upto_push _ h.dq inb ho hb P fun j d => by
    rw [hP, Gq_below]
    have := h.below
    show 512 * (k + 1) ≤ b + j.val
    omega
  dcq := upto_push _ h.dcq inb' ho' hb Q fun j d => by
    obtain rfl : d = 0 := Subsingleton.elim _ _
    rw [hQ, Gc_below]
    have := h.below
    show 512 * (k + 1) ≤ b + j.val
    omega
  sums :=
    { dk := fun x d => by
        rw [hk, add_assoc, Tail_block (fun r => ds x0 x1 x2 x3 x4 x5 x6 x7 k r x * x0 (ix3 0 r d)) b 1024 hb, h.sums.dk]
      dv := fun x d => by
        rw [hv, add_assoc, Tail_block (fun r => prob x0 x1 x3 x4 x6 k r x * x7 (ix3 0 r d)) b 1024 hb, h.sums.dv]
      dck := fun x => by
        rw [hc, sub_sum _ _ fun _ => hf _ _ _, add_assoc,
          Tail_block (fun r => -ds x0 x1 x2 x3 x4 x5 x6 x7 k r x) b 1024 hb, h.sums.dck] }

end Grad

end Cert.AttnKIdeal.Value
-- ==== Proof.AttnHost.lean ====
/- What the attention kernel is handed: queries, keys and values by head, the saved output and row log-sums, as the host's lines compute them. -/
module

public import proofs.«01_k».proof.Proof.AttnMath
public import proofs.«01_k».proof.Proof.Attn

@[expose] public section

set_option maxRecDepth 16384

noncomputable section

open Idealize.ShloMosaic Idealize.ShloMosaic.TcCoe Idealize.SL.Sem

namespace Cert.AttnKIdeal.Value

open Cert.AttnKIdeal Cert.AttnKIdeal.Gen

variable (A : FVec Ideal S4096x768 .f32) (C : FVec Ideal S4x4096 .f32) (W : FVec Ideal S4096x256 .f32)

/-- Queries by head, scaled. -/
def hq : FVec Ideal S4x4096x64 .bf16 :=
  truncf .bf16 (mulf (transpose S4x4096x64 [1, 0, 2] (shapeCast S4096x4x64 (extractStridedSlice S4096x256 ![0, 0] A facts.slices_S4096x768_S4096x256_0_0)
    facts.shapeCasts_S4096x256_S4096x4x64) facts.transposes_S4096x4x64_S4x4096x64_1_0_2)
    (broadcastInDim S4x4096x64 ![] facts.bcast_S_S4x4096x64 (constant (F := Ideal) S_ .f32 0x3E000000#32))) facts.bitsLt_bf16_f32

/-- Keys by head. -/
def hk : FVec Ideal S4x4096x64 .bf16 :=
  truncf .bf16 (transpose S4x4096x64 [1, 0, 2] (shapeCast S4096x4x64 (extractStridedSlice S4096x256 ![0, 256] A facts.slices_S4096x768_S4096x256_0_256)
    facts.shapeCasts_S4096x256_S4096x4x64) facts.transposes_S4096x4x64_S4x4096x64_1_0_2) facts.bitsLt_bf16_f32

/-- Values by head. -/
def hv : FVec Ideal S4x4096x64 .bf16 :=
  truncf .bf16 (transpose S4x4096x64 [1, 0, 2] (shapeCast S4096x4x64 (extractStridedSlice S4096x256 ![0, 512] A facts.slices_S4096x768_S4096x256_0_512)
    facts.shapeCasts_S4096x256_S4096x4x64) facts.transposes_S4096x4x64_S4x4096x64_1_0_2) facts.bitsLt_bf16_f32

/-- The output's cotangent by head. -/
def hw : FVec Ideal S4x4096x64 .f32 :=
  transpose S4x4096x64 [1, 0, 2] (shapeCast S4096x4x64 W facts.shapeCasts_S4096x256_S4096x4x64) facts.transposes_S4096x4x64_S4x4096x64_1_0_2

def hcq : FVec Ideal S4x4096x1 .f32 := shapeCast S4x4096x1 C facts.shapeCasts_S4x4096_S4x4096x1

def hck : FVec Ideal S4x8x1x512 .f32 := shapeCast S4x8x1x512 C facts.shapeCasts_S4x4096_S4x8x1x512

/-- The scores. -/
def hs : FVec Ideal S4x4096x4096 .f32 :=
  addf (Host.dotGeneral dot_S4x4096x64_S4x4096x64_S4x4096x4096_2_2_1_1_0_0 none (hq A) (hk A))
    (subf (broadcastInDim S4x4096x4096 ![0, 1, 2] facts.bcast_S4x4096x1_S4x4096x4096_0_1_2 (hcq C))
      (broadcastInDim S4x4096x4096 ![0, 1, 2] facts.bcast_S4x1x4096_S4x4096x4096_0_1_2 (shapeCast S4x1x4096 C facts.shapeCasts_S4x4096_S4x1x4096)))

/-- The causal mask. -/
def hmask : IVec S4096x4096 1 :=
  cmpi .sge (broadcastInDim S4096x4096 ![0, 1] facts.bcast_S4096x1_S4096x4096_0_1 (broadcastInDim S4096x1 ![0] facts.bcast_S4096_S4096x1_0 (iotaInDim S4096 32 0)))
    (broadcastInDim S4096x4096 ![0, 1] facts.bcast_S1x4096_S4096x4096_0_1 (broadcastInDim S1x4096 ![1] facts.bcast_S4096_S1x4096_1 (iotaInDim S4096 32 0)))

/-- The masked scores. -/
def hm : FVec Ideal S4x4096x4096 .f32 :=
  select (broadcastInDim S4x4096x4096 ![1, 2] facts.bcast_S4096x4096_S4x4096x4096_1_2 hmask) (hs A C)
    (broadcastInDim S4x4096x4096 ![] facts.bcast_S_S4x4096x4096 (constant (F := Ideal) S_ .f32 0xFF800000#32))

/-- The rows' maxima. -/
def hmax : FVec Ideal S4x4096x1 .f32 :=
  broadcastInDim S4x4096x1 ![0, 1] facts.bcast_S4x4096_S4x4096x1_0_1
    (Host.reduce FloatOps.maximumf (hm A C) (constant (F := Ideal) S_ .f32 0xFF800000#32) facts.reducesTo_S4x4096x4096_S4x4096_d2 facts.h_S_)

/-- The weights before a row is divided by its sum. -/
def hp : FVec Ideal S4x4096x4096 .f32 :=
  Host.exp (subf (hm A C) (broadcastInDim S4x4096x4096 ![0, 1, 2] facts.bcast_S4x4096x1_S4x4096x4096_0_1_2 (hmax A C)))

/-- The rows' sums. -/
def hl : FVec Ideal S4x4096x1 .f32 :=
  broadcastInDim S4x4096x1 ![0, 1] facts.bcast_S4x4096_S4x4096x1_0_1
    (Host.reduceAdd (hp A C) (constant (F := Ideal) S_ .f32 0x00000000#32) facts.reducesTo_S4x4096x4096_S4x4096_d2 facts.h_S_)

/-- The output. -/
def ho : FVec Ideal S4x4096x64 .f32 :=
  Host.divf (Host.dotGeneral dot_S4x4096x4096_S4x4096x64_S4x4096x64_2_1_1_2_0_0 none (truncf .bf16 (hp A C) facts.bitsLt_bf16_f32) (hv A))
    (broadcastInDim S4x4096x64 ![0, 1, 2] facts.bcast_S4x4096x1_S4x4096x64_0_1_2 (hl A C))

/-- The rows' log-sums. -/
def hlse : FVec Ideal S4x4096x1 .f32 := addf (hmax A C) (Host.log (hl A C))

section Entry

variable (m : (ℓ : Loc nD τ sig) → Buf (Elt Ideal) ℓ) (c : Dev nD)

theorem V_q : V m c main_v11 = hq (m ((c : Thread nD τ).loc main_arg0)) := by
  show StableHlo.after (List.flatten [hostOps0, hostOps0_1, hostOps0_2]) _ _ = _
  simp only [List.flatten, List.append]
  after_results
  rfl

theorem V_k : V m c main_v12 = hk (m ((c : Thread nD τ).loc main_arg0)) := by
  show StableHlo.after (List.flatten [hostOps0, hostOps0_1, hostOps0_2]) _ _ = _
  simp only [List.flatten, List.append]
  after_results
  rfl

theorem V_v : V m c main_v13 = hv (m ((c : Thread nD τ).loc main_arg0)) := by
  show StableHlo.after (List.flatten [hostOps0, hostOps0_1, hostOps0_2]) _ _ = _
  simp only [List.flatten, List.append]
  after_results
  rfl

theorem V_cq : V m c main_v14 = hcq (m ((c : Thread nD τ).loc main_arg1)) := by
  show StableHlo.after (List.flatten [hostOps0, hostOps0_1, hostOps0_2]) _ _ = _
  simp only [List.flatten, List.append]
  after_results
  rfl

theorem V_ck : V m c main_v41 = hck (m ((c : Thread nD τ).loc main_arg1)) := by
  show StableHlo.after (List.flatten [hostOps0, hostOps0_1, hostOps0_2]) _ _ = _
  simp only [List.flatten, List.append]
  after_results
  rfl

theorem V_w : V m c main_v43 = hw (m ((c : Thread nD τ).loc main_arg2)) := by
  show StableHlo.after (List.flatten [hostOps0, hostOps0_1, hostOps0_2]) _ _ = _
  simp only [List.flatten, List.append]
  after_results
  rfl

theorem V_o : V m c main_v38 = ho (m ((c : Thread nD τ).loc main_arg0)) (m ((c : Thread nD τ).loc main_arg1)) := by
  show StableHlo.after (List.flatten [hostOps0, hostOps0_1, hostOps0_2]) _ _ = _
  simp only [List.flatten, List.append]
  after_results
  rfl

theorem V_lse : V m c main_v40 = hlse (m ((c : Thread nD τ).loc main_arg0)) (m ((c : Thread nD τ).loc main_arg1)) := by
  show StableHlo.after (List.flatten [hostOps0, hostOps0_1, hostOps0_2]) _ _ = _
  simp only [List.flatten, List.append]
  after_results
  rfl

end Entry

end Cert.AttnKIdeal.Value

end
-- ==== Proof.AttnElem.lean ====
/- The elements of what the attention kernel is handed. -/
module

public import proofs.«01_k».proof.Proof.AttnHost

@[expose] public section

set_option maxRecDepth 16384

noncomputable section

open Idealize.ShloMosaic Idealize.ShloMosaic.TcCoe Idealize.SL.Sem

namespace Cert.AttnKIdeal.Value

open Cert.AttnKIdeal Cert.AttnKIdeal.Gen

variable (A : FVec Ideal S4096x768 .f32) (C : FVec Ideal S4x4096 .f32) (W : FVec Ideal S4096x256 .f32)

theorem hq_apply (h : Fin 4) (r : Fin 4096) (d : Fin 64) :
    hq A (ix3 h r d) = A (ix2 r ⟨h.val * 64 + d.val, by omega⟩) * Ideal.ofBits .f32 0x3E000000#32 := by
  pointwise [hq]

theorem hk_apply (h : Fin 4) (r : Fin 4096) (d : Fin 64) :
    hk A (ix3 h r d) = A (ix2 r ⟨256 + (h.val * 64 + d.val), by omega⟩) := by
  pointwise [hk]

theorem hv_apply (h : Fin 4) (r : Fin 4096) (d : Fin 64) :
    hv A (ix3 h r d) = A (ix2 r ⟨512 + (h.val * 64 + d.val), by omega⟩) := by
  pointwise [hv]

theorem hw_apply (h : Fin 4) (r : Fin 4096) (d : Fin 64) :
    hw W (ix3 h r d) = W (ix2 r ⟨h.val * 64 + d.val, by omega⟩) := by
  pointwise [hw]

theorem hcq_apply (h : Fin 4) (r : Fin 4096) (z : Fin 1) : hcq C (ix3 h r z) = C (ix2 h r) := by
  pointwise [hcq]

theorem hck_apply (h : Fin 4) (k : Fin 8) (z : Fin 1) (x : Fin 512) : hck C (ix4 h k z x) = C (ix2 h ⟨k.val * 512 + x.val, by omega⟩) := by
  pointwise [hck]

theorem hs_apply (h : Fin 4) (r j : Fin 4096) :
    hs A C (ix3 h r j) = ∑ d : Fin 64, hq A (ix3 h r d) * hk A (ix3 h j d) + (C (ix2 h r) - C (ix2 h j)) := by
  pointwise [hs, hcq]

theorem hm_apply (h : Fin 4) (r j : Fin 4096) :
    hm A C (ix3 h r j) = if j.val ≤ r.val then hs A C (ix3 h r j) else ⊥ := by
  pointwise [hm, hmask]
  rw [Cert.AttnMath.lit_neg_inf]
  have e : (IntOp.cmpi .sge (BitVec.ofNat 32 r.val) (BitVec.ofNat 32 j.val) = 1#1) ↔ j.val ≤ r.val := by
    have := r.isLt; have := j.isLt
    word_cmp
  unfold Scalar.select
  exact if_congr e rfl rfl

theorem hmax_apply (h : Fin 4) (r : Fin 4096) (z : Fin 1) :
    hmax A C (ix3 h r z) = Finset.univ.fold max ⊥ fun j : Fin 4096 => hm A C (ix3 h r j) := by
  pointwise [hmax]
  rw [Cert.AttnMath.lit_neg_inf]

theorem hp_apply (h : Fin 4) (r j : Fin 4096) :
    hp A C (ix3 h r j) = Ideal.exp (hm A C (ix3 h r j) - hmax A C (ix3 h r 0)) := by
  pointwise [hp]

theorem hl_apply (h : Fin 4) (r : Fin 4096) (z : Fin 1) :
    hl A C (ix3 h r z) = ∑ j : Fin 4096, hp A C (ix3 h r j) := by
  unfold hl
  generalize hp A C = P
  pointwise

theorem ho_apply (h : Fin 4) (r : Fin 4096) (d : Fin 64) :
    ho A C (ix3 h r d) = Ideal.div (∑ j : Fin 4096, hp A C (ix3 h r j) * hv A (ix3 h j d)) (hl A C (ix3 h r 0)) := by
  unfold ho
  generalize hp A C = P
  generalize hv A = V
  generalize hl A C = L
  pointwise

theorem add_log {s : Shape} (M L : FVec Ideal s .f32) (i : s.Idx) : addf M (Host.log L) i = M i + Ideal.log (L i) := rfl

theorem hlse_apply (h : Fin 4) (r : Fin 4096) (z : Fin 1) :
    hlse A C (ix3 h r z) = hmax A C (ix3 h r z) + Ideal.log (hl A C (ix3 h r z)) := by
  unfold hlse
  exact add_log _ _ _

end Cert.AttnKIdeal.Value

end
-- ==== Proof.AttnHead.lean ====
/- One head of the attention kernel over real inputs: what its five results hold, as the formulas of the backward pass. -/
module

public import proofs.«01_k».proof.Proof.AttnMath
public import proofs.«01_k».proof.Proof.Attn

@[expose] public section

set_option maxRecDepth 16384

noncomputable section

open Idealize.ShloMosaic Idealize.ShloMosaic.TcCoe Idealize.SL.Sem

namespace Cert.AttnKIdeal.Value

open Cert.AttnKIdeal Cert.AttnKIdeal.Gen Cert.AttnMath

variable (x0 : Vec Ideal S1x4096x64 .bf16) (x1 : Vec Ideal S1x4096x64 .bf16) (x2 : Vec Ideal S1x4096x64 .bf16)
  (x3 : Vec Ideal S1x4096x1 .f32) (x4 : Vec Ideal S1x8x1x512 .f32) (x5 : Vec Ideal S1x4096x64 .f32) (x6 : Vec Ideal S1x4096x1 .f32)
  (x7 : Vec Ideal S1x4096x64 .f32)
  (a b v w : Fin 4096 → Fin 64 → ℝ) (c M : Fin 4096 → ℝ)

/-- A head's operands hold real numbers: the inputs', and the saved output and row log-sums that belong to them. -/
structure Holds : Prop where
  i_q : ∀ r d, x0 (ix3 0 r d) = ((a r d * (1 / 8) : ℝ) : EReal)
  i_k : ∀ r d, x1 (ix3 0 r d) = (b r d : EReal)
  i_v : ∀ r d, x2 (ix3 0 r d) = (v r d : EReal)
  i_cq : ∀ r, x3 (ix3 0 r 0) = (c r : EReal)
  i_ck : ∀ (k : Fin 8) (x : Fin 512), x4 (ix4 0 k 0 x) = (c ⟨k.val * 512 + x.val, by omega⟩ : EReal)
  i_o : ∀ r d, x5 (ix3 0 r d) = (((∑ j, wt a b c M r j * v j d) / rowsum a b c M r : ℝ) : EReal)
  i_lse : ∀ r, x6 (ix3 0 r 0) = ((M r + Real.log (rowsum a b c M r) : ℝ) : EReal)
  i_w : ∀ r d, x7 (ix3 0 r d) = (w r d : EReal)

variable {x0 x1 x2 x3 x4 x5 x6 x7 a b v w c M} (H : Holds x0 x1 x2 x3 x4 x5 x6 x7 a b v w c M)

include H

theorem prob_real (k : ℕ) (r : Fin 4096) (x : Fin 512) :
    prob x0 x1 x3 x4 x6 k r x = ((Real.exp (score a b c r (col k x) - (M r + Real.log (rowsum a b c M r))) : ℝ) : EReal) := by
  unfold prob
  have e : (⟨(Fin.ofNat 8 k).val * 512 + x.val, by have := (Fin.ofNat 8 k).isLt; omega⟩ : Fin 4096) = col k x := by
    refine Fin.ext ?_
    show k % 8 * 512 + x.val = (512 * k + x.val) % 4096
    have := x.isLt
    omega
  simp only [H.i_q, H.i_k, H.i_cq, H.i_ck, H.i_lse, e, ← EReal.coe_mul, ← Cert.Num.coe_sum, ← EReal.coe_add, ← EReal.coe_sub]
  rfl

theorem delta_real (r : Fin 4096) : delta x5 x7 r = ((mean a b v w c M r : ℝ) : EReal) := by
  unfold delta
  simp only [H.i_w, H.i_o, ← EReal.coe_mul, ← Cert.Num.coe_sum]
  rw [delta_eq]

theorem ds_real (k : ℕ) (r : Fin 4096) (x : Fin 512) :
    ds x0 x1 x2 x3 x4 x5 x6 x7 k r x = ((dsU a b v w c M r (col k x) : ℝ) : EReal) := by
  unfold ds
  rw [prob_real H, delta_real H]
  simp only [H.i_w, H.i_v, ← EReal.coe_mul, ← Cert.Num.coe_sum, ← EReal.coe_sub]
  rfl

theorem realDs : RealDs x0 x1 x2 x3 x4 x5 x6 x7 := fun k r x => ⟨_, ds_real H k r x⟩

/-- The masked cotangent of a score, at a key of a block. -/
theorem dsM_col (k : ℕ) (hk : k < 8) (r : Fin 4096) (x : Fin 512) :
    dsM a b v w c M r (col k x) = if 512 * k + x.val ≤ r.val then dsU a b v w c M r (col k x) else 0 := by
  rw [dsM_eq, col_val hk]

theorem dq_real (r : Fin 4096) (d : Fin 64) :
    ∑ k ∈ Finset.range 8, Gq x0 x1 x2 x3 x4 x5 x6 x7 k r d = (((∑ j, dsM a b v w c M r j * b j d) * (1 / 8) : ℝ) : EReal) := by
  have e (k : ℕ) (hk : k ∈ Finset.range 8) : Gq x0 x1 x2 x3 x4 x5 x6 x7 k r d
      = (((∑ x : Fin 512, dsM a b v w c M r (col k x) * b (col k x) d) * (1 / 8) : ℝ) : EReal) := by
    unfold Gq sc
    simp only [ds_real H, H.i_k, dsM_col H k (Finset.mem_range.1 hk), ← EReal.coe_mul, coe_ite_zero, ← Cert.Num.coe_sum, lit_eighth, ite_mul, zero_mul]
  rw [Finset.sum_congr rfl e, ← Cert.Num.coe_sum, ← Finset.sum_mul]
  refine congrArg (fun t : ℝ => ((t * (1 / 8) : ℝ) : EReal)) ?_
  refine blocks (fun j => dsM a b v w c M r j * b j d) _ fun k x hk hx => ?_
  rw [show col k x = ⟨k * 512 + x.val, hx⟩ from Fin.ext (by rw [col_val hk, mul_comm])]

theorem dcq_real (r : Fin 4096) (z : Fin 1) :
    ∑ k ∈ Finset.range 8, Gc x0 x1 x2 x3 x4 x5 x6 x7 k r z = ((∑ j, dsM a b v w c M r j : ℝ) : EReal) := by
  have e (k : ℕ) (hk : k ∈ Finset.range 8) : Gc x0 x1 x2 x3 x4 x5 x6 x7 k r z
      = ((∑ x : Fin 512, dsM a b v w c M r (col k x) : ℝ) : EReal) := by
    unfold Gc
    simp only [ds_real H, dsM_col H k (Finset.mem_range.1 hk), coe_ite_zero, ← Cert.Num.coe_sum]
  rw [Finset.sum_congr rfl e, ← Cert.Num.coe_sum]
  refine congrArg (fun t : ℝ => (t : EReal)) ?_
  refine blocks (fun j => dsM a b v w c M r j) _ fun k x hk hx => ?_
  rw [show col k x = ⟨k * 512 + x.val, hx⟩ from Fin.ext (by rw [col_val hk, mul_comm])]

theorem dk_real (k : ℕ) (hk : k < 8) (x : Fin 512) (d : Fin 64) :
    DK x0 x1 x2 x3 x4 x5 x6 x7 k x d = ((∑ r, dsM a b v w c M r (col k x) * (a r d * (1 / 8)) : ℝ) : EReal) := by
  unfold DK From
  simp only [ds_real H, H.i_q, dsM_col H k hk, ← EReal.coe_mul, coe_ite_zero, ← Cert.Num.coe_sum, ite_mul, zero_mul]

theorem dv_real (k : ℕ) (hk : k < 8) (x : Fin 512) (d : Fin 64) :
    DV x0 x1 x3 x4 x6 x7 k x d = ((∑ r, wt a b c M r (col k x) / rowsum a b c M r * w r d : ℝ) : EReal) := by
  unfold DV From
  simp only [prob_real H, H.i_w, ← EReal.coe_mul, coe_ite_zero, ← Cert.Num.coe_sum]
  refine congrArg (fun t : ℝ => (t : EReal)) (Finset.sum_congr rfl fun r _ => ?_)
  by_cases h : 512 * k + x.val ≤ r.val
  · rw [if_pos h, prob_eq a b c M r _ (by rw [col_val hk]; exact h)]
  · rw [if_neg h]
    unfold wt
    rw [if_neg (by rw [col_val hk]; exact h), zero_div, zero_mul]

theorem dck_real (k : ℕ) (hk : k < 8) (x : Fin 512) :
    DC x0 x1 x2 x3 x4 x5 x6 x7 k x = ((∑ r, -dsM a b v w c M r (col k x) : ℝ) : EReal) := by
  unfold DC From
  simp only [ds_real H, dsM_col H k hk, ← EReal.coe_neg, coe_ite_zero, ← Cert.Num.coe_sum]
  refine congrArg (fun t : ℝ => (t : EReal)) (Finset.sum_congr rfl fun r _ => ?_)
  split_ifs
  · rfl
  · rw [neg_zero]

end Cert.AttnKIdeal.Value

end
-- ==== Proof.AttnLoop.lean ====
/- The attention backward's four loops over query blocks: each adds its rows to the sums a key block carries. -/
module
public import proofs.«01_k».proof.Proof.Attn
public import Idealize.ShloMosaic.Lib.Tactic.RunNames
@[expose] public section
set_option maxRecDepth 16384
noncomputable section
open Idealize.ShloMosaic Idealize.ShloMosaic.TcCoe Idealize.SL.Sem
namespace Cert.AttnKIdeal.Value
open Cert.AttnKIdeal Cert.AttnKIdeal.Gen

variable (c : Dev nD) (i : grid0.Coords)
  (arg1 : Memref sig .tc .vmem S1x4096x64 .bf16) (harg1 : arg1.IsWhole)
  (arg2 : Memref sig .tc .vmem S1x4096x64 .bf16) (harg2 : arg2.IsWhole)
  (arg3 : Memref sig .tc .vmem S1x4096x64 .bf16) (harg3 : arg3.IsWhole)
  (arg4 : Memref sig .tc .vmem S1x4096x1 .f32) (harg4 : arg4.IsWhole)
  (arg5 : Memref sig .tc .vmem S1x8x1x512 .f32) (harg5 : arg5.IsWhole)
  (arg6 : Memref sig .tc .vmem S1x4096x64 .f32) (harg6 : arg6.IsWhole)
  (arg7 : Memref sig .tc .vmem S1x4096x1 .f32) (harg7 : arg7.IsWhole)
  (arg8 : Memref sig .tc .vmem S1x4096x64 .f32) (harg8 : arg8.IsWhole)
  (arg9 : Memref sig .tc .vmem S1x4096x64 .f32) (harg9 : arg9.IsWhole)
  (arg10 : Memref sig .tc .vmem S1x4096x64 .f32) (harg10 : arg10.IsWhole)
  (arg11 : Memref sig .tc .vmem S1x4096x64 .f32) (harg11 : arg11.IsWhole)
  (arg12 : Memref sig .tc .vmem S1x4096x1 .f32) (harg12 : arg12.IsWhole)
  (arg13 : Memref sig .tc .vmem S1x8x1x512 .f32) (harg13 : arg13.IsWhole)
  (arg14 : Memref sig .tc .vmem S4096x1 .f32) (harg14 : arg14.IsWhole)
    (x0 : Vec Ideal S1x4096x64 .bf16) (x1 : Vec Ideal S1x4096x64 .bf16) (x2 : Vec Ideal S1x4096x64 .bf16) (x3 : Vec Ideal S1x4096x1 .f32) (x4 : Vec Ideal S1x8x1x512 .f32) (x5 : Vec Ideal S1x4096x64 .f32) (x6 : Vec Ideal S1x4096x1 .f32) (x7 : Vec Ideal S1x4096x64 .f32)

/-- A key block's tiles of keys, values and gates, as the loops carry them. -/
structure Tiles (k : ℕ) (kb vb : FVec Ideal S512x64 .bf16) (ckb : FVec Ideal S1x512 .f32) : Prop where
  key : ∀ x d, kb (ix2 x d) = x1 (ix3 0 (col k x) d)
  val : ∀ x d, vb (ix2 x d) = x2 (ix3 0 (col k x) d)
  gate : ∀ x, ckb (ix2 0 x) = x4 (ix4 0 (Fin.ofNat 8 k) 0 x)

variable (kb vb : FVec Ideal S512x64 .bf16) (ckb : FVec Ideal S1x512 .f32)
  (kj : ℕ) (ht : Tiles x1 x2 x4 kj kb vb ckb)
  (H0 : List (View.Piece (Elt Ideal) S4096x1 .f32)) (h0 : ∀ r, View.canon H0 (ix2 r 0) = delta x5 x7 r)
  (hf : RealDs x0 x1 x2 x3 x4 x5 x6 x7) (acc : FVec Ideal S512x64 .f32 × FVec Ideal S512x64 .f32 × FVec Ideal S1x512 .f32)
  (L : List (View.Piece (Elt Ideal) S1x4096x64 .f32)) (M : List (View.Piece (Elt Ideal) S1x4096x1 .f32))
include ht h0 hf

theorem trip1 (u1 : FVec Ideal S512x64 .f32) (u2 : FVec Ideal S512x64 .f32) (u3 : FVec Ideal S1x512 .f32) (u4 : BitVec 32) (n : Fin k0_t1_loop.trips)
    (h : Inv x0 x1 x2 x3 x4 x5 x6 x7 kj (1024 * n.val + 1024) acc L M) :
    Inv x0 x1 x2 x3 x4 x5 x6 x7 kj (1024 * n.val + 1024 + 1024)
      (tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M))
      ((tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).1 ++ L)
      ((tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).2 ++ M) := by
  have hn : n.val < 3 := Nat.lt_of_lt_of_le n.isLt k0_t1_abs.2.1
  unfold tripL_k0_t1 tripR_k0_t1 trip_k0_t1
  dsimp only
  sl_unfold_run_values
  simp only [View.readAt_eq_ld, harg1.read_unread, harg4.read_unread, harg7.read_unread, harg8.read_unread, View.read_writes_junk_eq_canon]
  refine Inv.step x0 x1 x2 x3 x4 x5 x6 x7 hf h (by omega) ?_ ?_ ?_ (k0_off1_inb n) (k0_off2_inb n) (k0_off1_eq n) (k0_off2_eq n) _ _ ?_ ?_
  all_goals
    intros
    open_payloads
    pointwise [k0_off1_eq, k0_off2_eq, k0_off3_eq]
    simp only [ht.key, ht.val, ht.gate, h0]
    try rfl

theorem loop1 (u1 : FVec Ideal S512x64 .f32) (u2 : FVec Ideal S512x64 .f32) (u3 : FVec Ideal S1x512 .f32) (u4 : BitVec 32) (h : Inv x0 x1 x2 x3 x4 x5 x6 x7 kj 1024 acc L M) :
    Inv x0 x1 x2 x3 x4 x5 x6 x7 kj 4096
      (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t1_loop.lb k0_t1_loop.ub k0_t1_loop.st)).1
      ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t1_loop.lb k0_t1_loop.ub k0_t1_loop.st)).2.1 ++ L)
      ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t1_loop.lb k0_t1_loop.ub k0_t1_loop.st)).2.2 ++ M) := by
  have e : Scf.trips k0_t1_loop.lb k0_t1_loop.ub k0_t1_loop.st = 3 := by decide +kernel
  have g (n : ℕ) (hn : n ≤ Scf.trips k0_t1_loop.lb k0_t1_loop.ub k0_t1_loop.st) :
      Inv x0 x1 x2 x3 x4 x5 x6 x7 kj (1024 * n + 1024)
      (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).1
      ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.1 ++ L)
      ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.2 ++ M) := by
    induction n with
    | zero => exact h
    | succ n ih =>
      have hs := trip1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 kb vb ckb kj ht H0 h0 hf _ _ _ u1 u2 u3 u4 ⟨n, hn⟩ (ih (Nat.le_of_succ_le hn))
      rw [View.writes_append, View.writes_append, ← List.append_assoc, ← List.append_assoc] at hs
      rw [st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 kb vb ckb u1 u2 u3 u4 _ _ _ _ _ _ _ acc ⟨n, hn⟩]
      exact hs
  have := g _ le_rfl
  rw [e] at this ⊢
  exact this

theorem trip2 (u1 : FVec Ideal S1x512 .f32) (u2 : FVec Ideal S512x512 .f32) (u3 : FVec Ideal S512x64 .f32) (u4 : FVec Ideal S512x64 .f32) (u5 : FVec Ideal S512x64 .f32) (u6 : Vec Ideal S1x512x64 .f32) (n : Fin k0_t2_loop.trips)
    (h : Inv x0 x1 x2 x3 x4 x5 x6 x7 kj (1024 * n.val + 1024) acc L M) :
    Inv x0 x1 x2 x3 x4 x5 x6 x7 kj (1024 * n.val + 1024 + 1024)
      (tripR_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M))
      ((tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).1 ++ L)
      ((tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).2 ++ M) := by
  have hn : n.val < 3 := Nat.lt_of_lt_of_le n.isLt k0_t2_abs.2.1
  unfold tripL_k0_t2 tripR_k0_t2 trip_k0_t2
  dsimp only
  sl_unfold_run_values
  simp only [View.readAt_eq_ld, harg1.read_unread, harg4.read_unread, harg7.read_unread, harg8.read_unread, View.read_writes_junk_eq_canon]
  refine Inv.step x0 x1 x2 x3 x4 x5 x6 x7 hf h (by omega) ?_ ?_ ?_ (k0_off4_inb n) (k0_off5_inb n) (k0_off4_eq n) (k0_off5_eq n) _ _ ?_ ?_
  all_goals
    intros
    open_payloads
    pointwise [k0_off4_eq, k0_off5_eq, k0_off6_eq]
    simp only [ht.key, ht.val, ht.gate, h0]
    try rfl

theorem loop2 (u1 : FVec Ideal S1x512 .f32) (u2 : FVec Ideal S512x512 .f32) (u3 : FVec Ideal S512x64 .f32) (u4 : FVec Ideal S512x64 .f32) (u5 : FVec Ideal S512x64 .f32) (u6 : Vec Ideal S1x512x64 .f32) (h : Inv x0 x1 x2 x3 x4 x5 x6 x7 kj 1024 acc L M) :
    Inv x0 x1 x2 x3 x4 x5 x6 x7 kj 4096
      (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t2_loop.lb k0_t2_loop.ub k0_t2_loop.st)).1
      ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t2_loop.lb k0_t2_loop.ub k0_t2_loop.st)).2.1 ++ L)
      ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t2_loop.lb k0_t2_loop.ub k0_t2_loop.st)).2.2 ++ M) := by
  have e : Scf.trips k0_t2_loop.lb k0_t2_loop.ub k0_t2_loop.st = 3 := by decide +kernel
  have g (n : ℕ) (hn : n ≤ Scf.trips k0_t2_loop.lb k0_t2_loop.ub k0_t2_loop.st) :
      Inv x0 x1 x2 x3 x4 x5 x6 x7 kj (1024 * n + 1024)
      (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).1
      ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.1 ++ L)
      ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.2 ++ M) := by
    induction n with
    | zero => exact h
    | succ n ih =>
      have hs := trip2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 kb vb ckb kj ht H0 h0 hf _ _ _ u1 u2 u3 u4 u5 u6 ⟨n, hn⟩ (ih (Nat.le_of_succ_le hn))
      rw [View.writes_append, View.writes_append, ← List.append_assoc, ← List.append_assoc] at hs
      rw [st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 kb vb ckb u1 u2 u3 u4 u5 u6 _ _ _ _ _ _ _ acc ⟨n, hn⟩]
      exact hs
  have := g _ le_rfl
  rw [e] at this ⊢
  exact this

theorem trip3 (u1 : FVec Ideal S1x512 .f32) (u2 : FVec Ideal S512x512 .f32) (u3 : FVec Ideal S512x64 .f32) (u4 : FVec Ideal S512x64 .f32) (u5 : FVec Ideal S512x1 .f32) (u6 : FVec Ideal S512 .f32) (n : Fin k0_t3_loop.trips)
    (h : Inv x0 x1 x2 x3 x4 x5 x6 x7 kj (1024 * n.val + 2048) acc L M) :
    Inv x0 x1 x2 x3 x4 x5 x6 x7 kj (1024 * n.val + 2048 + 1024)
      (tripR_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M))
      ((tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).1 ++ L)
      ((tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).2 ++ M) := by
  have hn : n.val < 2 := Nat.lt_of_lt_of_le n.isLt k0_t3_abs.2.1
  unfold tripL_k0_t3 tripR_k0_t3 trip_k0_t3
  dsimp only
  sl_unfold_run_values
  simp only [View.readAt_eq_ld, harg1.read_unread, harg4.read_unread, harg7.read_unread, harg8.read_unread, View.read_writes_junk_eq_canon]
  refine Inv.step x0 x1 x2 x3 x4 x5 x6 x7 hf h (by omega) ?_ ?_ ?_ (k0_off7_inb n) (k0_off8_inb n) (k0_off7_eq n) (k0_off8_eq n) _ _ ?_ ?_
  all_goals
    intros
    open_payloads
    pointwise [k0_off7_eq, k0_off8_eq, k0_off9_eq]
    simp only [ht.key, ht.val, ht.gate, h0]
    try rfl

theorem loop3 (u1 : FVec Ideal S1x512 .f32) (u2 : FVec Ideal S512x512 .f32) (u3 : FVec Ideal S512x64 .f32) (u4 : FVec Ideal S512x64 .f32) (u5 : FVec Ideal S512x1 .f32) (u6 : FVec Ideal S512 .f32) (h : Inv x0 x1 x2 x3 x4 x5 x6 x7 kj 2048 acc L M) :
    Inv x0 x1 x2 x3 x4 x5 x6 x7 kj 4096
      (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t3_loop.lb k0_t3_loop.ub k0_t3_loop.st)).1
      ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t3_loop.lb k0_t3_loop.ub k0_t3_loop.st)).2.1 ++ L)
      ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t3_loop.lb k0_t3_loop.ub k0_t3_loop.st)).2.2 ++ M) := by
  have e : Scf.trips k0_t3_loop.lb k0_t3_loop.ub k0_t3_loop.st = 2 := by decide +kernel
  have g (n : ℕ) (hn : n ≤ Scf.trips k0_t3_loop.lb k0_t3_loop.ub k0_t3_loop.st) :
      Inv x0 x1 x2 x3 x4 x5 x6 x7 kj (1024 * n + 2048)
      (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).1
      ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.1 ++ L)
      ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.2 ++ M) := by
    induction n with
    | zero => exact h
    | succ n ih =>
      have hs := trip3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 kb vb ckb kj ht H0 h0 hf _ _ _ u1 u2 u3 u4 u5 u6 ⟨n, hn⟩ (ih (Nat.le_of_succ_le hn))
      rw [View.writes_append, View.writes_append, ← List.append_assoc, ← List.append_assoc] at hs
      rw [st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 kb vb ckb u1 u2 u3 u4 u5 u6 _ _ _ _ _ _ _ acc ⟨n, hn⟩]
      exact hs
  have := g _ le_rfl
  rw [e] at this ⊢
  exact this

theorem trip4 (u1 : FVec Ideal S512x64 .f32) (u2 : FVec Ideal S1x512 .f32) (u3 : FVec Ideal S512x512 .f32) (u4 : FVec Ideal S512x512 .bf16) (u5 : FVec Ideal S512x64 .f32) (u6 : FVec Ideal S512x64 .f32) (n : Fin k0_t4_loop.trips)
    (h : Inv x0 x1 x2 x3 x4 x5 x6 x7 kj (1024 * n.val + 2048) acc L M) :
    Inv x0 x1 x2 x3 x4 x5 x6 x7 kj (1024 * n.val + 2048 + 1024)
      (tripR_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M))
      ((tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).1 ++ L)
      ((tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        n acc (arg9.view.writes (Elt Ideal) arg9.view.junk L) (arg12.view.writes (Elt Ideal) arg12.view.junk M)).2 ++ M) := by
  have hn : n.val < 2 := Nat.lt_of_lt_of_le n.isLt k0_t4_abs.2.1
  unfold tripL_k0_t4 tripR_k0_t4 trip_k0_t4
  dsimp only
  sl_unfold_run_values
  simp only [View.readAt_eq_ld, harg1.read_unread, harg4.read_unread, harg7.read_unread, harg8.read_unread, View.read_writes_junk_eq_canon]
  refine Inv.step x0 x1 x2 x3 x4 x5 x6 x7 hf h (by omega) ?_ ?_ ?_ (k0_off10_inb n) (k0_off11_inb n) (k0_off10_eq n) (k0_off11_eq n) _ _ ?_ ?_
  all_goals
    intros
    open_payloads
    pointwise [k0_off10_eq, k0_off11_eq, k0_off12_eq]
    simp only [ht.key, ht.val, ht.gate, h0]
    try rfl

theorem loop4 (u1 : FVec Ideal S512x64 .f32) (u2 : FVec Ideal S1x512 .f32) (u3 : FVec Ideal S512x512 .f32) (u4 : FVec Ideal S512x512 .bf16) (u5 : FVec Ideal S512x64 .f32) (u6 : FVec Ideal S512x64 .f32) (h : Inv x0 x1 x2 x3 x4 x5 x6 x7 kj 2048 acc L M) :
    Inv x0 x1 x2 x3 x4 x5 x6 x7 kj 4096
      (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t4_loop.lb k0_t4_loop.ub k0_t4_loop.st)).1
      ((st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t4_loop.lb k0_t4_loop.ub k0_t4_loop.st)).2.1 ++ L)
      ((st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc (Scf.trips k0_t4_loop.lb k0_t4_loop.ub k0_t4_loop.st)).2.2 ++ M) := by
  have e : Scf.trips k0_t4_loop.lb k0_t4_loop.ub k0_t4_loop.st = 2 := by decide +kernel
  have g (n : ℕ) (hn : n ≤ Scf.trips k0_t4_loop.lb k0_t4_loop.ub k0_t4_loop.st) :
      Inv x0 x1 x2 x3 x4 x5 x6 x7 kj (1024 * n + 2048)
      (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).1
      ((st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.1 ++ L)
      ((st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        kb vb ckb u1 u2 u3 u4 u5 u6 (harg1.unread x0) (harg4.unread x3) (harg7.unread x6) (harg8.unread x7) (arg14.view.writes (Elt Ideal) arg14.view.junk H0)
        (arg9.view.writes (Elt Ideal) arg9.view.junk L) (arg12.view.writes (Elt Ideal) arg12.view.junk M) acc n).2.2 ++ M) := by
    induction n with
    | zero => exact h
    | succ n ih =>
      have hs := trip4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 kb vb ckb kj ht H0 h0 hf _ _ _ u1 u2 u3 u4 u5 u6 ⟨n, hn⟩ (ih (Nat.le_of_succ_le hn))
      rw [View.writes_append, View.writes_append, ← List.append_assoc, ← List.append_assoc] at hs
      rw [st_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 kb vb ckb u1 u2 u3 u4 u5 u6 _ _ _ _ _ _ _ acc ⟨n, hn⟩]
      exact hs
  have := g _ le_rfl
  rw [e] at this ⊢
  exact this

end Cert.AttnKIdeal.Value
-- ==== Proof.AttnSums.lean ====
/- The attention backward's three sums down each key block: keys, values and the keys' gates. -/
module
public import proofs.«01_k».proof.Proof.AttnLoop
public import Idealize.ShloMosaic.Lib.Tactic.RunNames
@[expose] public section
set_option maxRecDepth 16384
noncomputable section
open Idealize.ShloMosaic Idealize.ShloMosaic.TcCoe Idealize.SL.Sem
namespace Cert.AttnKIdeal.Value
open Cert.AttnKIdeal Cert.AttnKIdeal.Gen

variable (c : Dev nD) (i : grid0.Coords)
  (arg1 : Memref sig .tc .vmem S1x4096x64 .bf16) (harg1 : arg1.IsWhole)
  (arg2 : Memref sig .tc .vmem S1x4096x64 .bf16) (harg2 : arg2.IsWhole)
  (arg3 : Memref sig .tc .vmem S1x4096x64 .bf16) (harg3 : arg3.IsWhole)
  (arg4 : Memref sig .tc .vmem S1x4096x1 .f32) (harg4 : arg4.IsWhole)
  (arg5 : Memref sig .tc .vmem S1x8x1x512 .f32) (harg5 : arg5.IsWhole)
  (arg6 : Memref sig .tc .vmem S1x4096x64 .f32) (harg6 : arg6.IsWhole)
  (arg7 : Memref sig .tc .vmem S1x4096x1 .f32) (harg7 : arg7.IsWhole)
  (arg8 : Memref sig .tc .vmem S1x4096x64 .f32) (harg8 : arg8.IsWhole)
  (arg9 : Memref sig .tc .vmem S1x4096x64 .f32) (harg9 : arg9.IsWhole)
  (arg10 : Memref sig .tc .vmem S1x4096x64 .f32) (harg10 : arg10.IsWhole)
  (arg11 : Memref sig .tc .vmem S1x4096x64 .f32) (harg11 : arg11.IsWhole)
  (arg12 : Memref sig .tc .vmem S1x4096x1 .f32) (harg12 : arg12.IsWhole)
  (arg13 : Memref sig .tc .vmem S1x8x1x512 .f32) (harg13 : arg13.IsWhole)
  (arg14 : Memref sig .tc .vmem S4096x1 .f32) (harg14 : arg14.IsWhole)
    (x0 : Vec Ideal S1x4096x64 .bf16) (x1 : Vec Ideal S1x4096x64 .bf16) (x2 : Vec Ideal S1x4096x64 .bf16) (x3 : Vec Ideal S1x4096x1 .f32) (x4 : Vec Ideal S1x8x1x512 .f32) (x5 : Vec Ideal S1x4096x64 .f32) (x6 : Vec Ideal S1x4096x1 .f32) (x7 : Vec Ideal S1x4096x64 .f32)

/-- A write of the whole array is all the array then holds. -/
theorem canon_whole {s : Shape} {e : EltTy} {off : Fin s.rank → ℕ} (ho : ∀ a, off a = 0) (inb) (P : s.Idx → Elt Ideal e) (L) (y : s.Idx) :
    View.canon (⟨Rect.unit (s := s) off s.size inb, P⟩ :: L) y = P y := by
  have e : (Rect.unit (s := s) off s.size inb).emb y = y := funext fun a => Fin.ext (by
    show off a + 1 * (y a).val = (y a).val
    rw [ho a]; omega)
  exact (congrArg _ e.symm).trans (View.canon_cons_emb (Rect.unit (s := s) off s.size inb) P L y)

theorem canon_delta (r : Fin 4096) : View.canon (kernelRun0_A.sl.HS0_1 (F := Ideal) c arg6 harg6 arg8 harg8 x5 x7) (ix2 r 0) = delta x5 x7 r := by
  unfold kernelRun0_A.sl.HS0_1
  refine (canon_whole (by decide) _ _ _ _).trans ?_
  simp only [View.readAt_eq_ld, harg6.read_unread, harg8.read_unread]
  open_payloads
  pointwise [delta]

theorem col_1 (x : Fin 512) (h : 512 + x.val < 4096) : (⟨512 + x.val, h⟩ : Fin 4096) = col 1 x := col_of 1 _ (by decide) rfl x h

theorem col_2 (x : Fin 512) (h : 1024 + x.val < 4096) : (⟨1024 + x.val, h⟩ : Fin 4096) = col 2 x := col_of 2 _ (by decide) rfl x h

theorem col_3 (x : Fin 512) (h : 1536 + x.val < 4096) : (⟨1536 + x.val, h⟩ : Fin 4096) = col 3 x := col_of 3 _ (by decide) rfl x h

theorem col_4 (x : Fin 512) (h : 2048 + x.val < 4096) : (⟨2048 + x.val, h⟩ : Fin 4096) = col 4 x := col_of 4 _ (by decide) rfl x h

theorem col_5 (x : Fin 512) (h : 2560 + x.val < 4096) : (⟨2560 + x.val, h⟩ : Fin 4096) = col 5 x := col_of 5 _ (by decide) rfl x h

theorem col_6 (x : Fin 512) (h : 3072 + x.val < 4096) : (⟨3072 + x.val, h⟩ : Fin 4096) = col 6 x := col_of 6 _ (by decide) rfl x h

theorem col_7 (x : Fin 512) (h : 3584 + x.val < 4096) : (⟨3584 + x.val, h⟩ : Fin 4096) = col 7 x := col_of 7 _ (by decide) rfl x h

theorem tiles0 : Tiles x1 x2 x4 0 (kernelRun0_A.sl.r (F := Ideal) c arg2 harg2 x1) (kernelRun0_A.sl.r_1 (F := Ideal) c arg3 harg3 x2) (kernelRun0_A.sl.r_2 (F := Ideal) c arg5 harg5 x4) := by
  constructor
  all_goals
    intros
    sl_unfold_run_values
    simp only [View.readAt_eq_ld, harg2.read_unread, harg3.read_unread, harg5.read_unread]
    open_payloads
    pointwise
    try simp only [col_zero]
    try rfl

theorem tiles1 : Tiles x1 x2 x4 1 (kernelRun0_A.sl.r_16 (F := Ideal) c arg2 harg2 x1) (kernelRun0_A.sl.r_17 (F := Ideal) c arg3 harg3 x2) (kernelRun0_A.sl.r_18 (F := Ideal) c arg5 harg5 x4) := by
  constructor
  all_goals
    intros
    sl_unfold_run_values
    simp only [View.readAt_eq_ld, harg2.read_unread, harg3.read_unread, harg5.read_unread]
    open_payloads
    pointwise
    try simp only [col_1]
    try rfl

theorem tiles2 : Tiles x1 x2 x4 2 (kernelRun0_A.sl.r_26 (F := Ideal) c arg2 harg2 x1) (kernelRun0_A.sl.r_28 (F := Ideal) c arg3 harg3 x2) (kernelRun0_A.sl.r_29 (F := Ideal) c arg5 harg5 x4) := by
  constructor
  all_goals
    intros
    sl_unfold_run_values
    simp only [View.readAt_eq_ld, harg2.read_unread, harg3.read_unread, harg5.read_unread]
    open_payloads
    pointwise
    try simp only [col_2]
    try rfl

theorem tiles3 : Tiles x1 x2 x4 3 (kernelRun0_A.sl.r_44 (F := Ideal) c arg2 harg2 x1) (kernelRun0_A.sl.r_45 (F := Ideal) c arg3 harg3 x2) (kernelRun0_A.sl.r_46 (F := Ideal) c arg5 harg5 x4) := by
  constructor
  all_goals
    intros
    sl_unfold_run_values
    simp only [View.readAt_eq_ld, harg2.read_unread, harg3.read_unread, harg5.read_unread]
    open_payloads
    pointwise
    try simp only [col_3]
    try rfl

variable (hf : RealDs x0 x1 x2 x3 x4 x5 x6 x7)

include hf

theorem sums0 : Sums x0 x1 x2 x3 x4 x5 x6 x7 0 1024 (kernelRun0_A.sl.r_14 (F := Ideal) c arg1 harg1 arg2 harg2 arg3 harg3 arg4 harg4 arg5 harg5 arg6 harg6 arg7 harg7 arg8 harg8 arg14 x0 x1 x2 x3 x4 x5 x6 x7, kernelRun0_A.sl.r_13 (F := Ideal) c arg1 harg1 arg2 harg2 arg4 harg4 arg5 harg5 arg7 harg7 arg8 harg8 x0 x1 x3 x4 x6 x7, kernelRun0_A.sl.r_15 (F := Ideal) c arg1 harg1 arg2 harg2 arg3 harg3 arg4 harg4 arg5 harg5 arg6 harg6 arg7 harg7 arg8 harg8 arg14 x0 x1 x2 x3 x4 x5 x6 x7) where
  dk x d := by
    refine Eq.trans (congrArg (· + _) ?_) (two_tail (fun r => ds x0 x1 x2 x3 x4 x5 x6 x7 0 r x * x0 (ix3 0 r d)) 0 1024 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dv x d := by
    refine Eq.trans (congrArg (· + _) ?_) (two_tail (fun r => prob x0 x1 x3 x4 x6 0 r x * x7 (ix3 0 r d)) 0 1024 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dck x := by
    have e : (kernelRun0_A.sl.r_15 (F := Ideal) c arg1 harg1 arg2 harg2 arg3 harg3 arg4 harg4 arg5 harg5 arg6 harg6 arg7 harg7 arg8 harg8 arg14 x0 x1 x2 x3 x4 x5 x6 x7) (ix2 0 x) = 0 - Dg (fun r => ds x0 x1 x2 x3 x4 x5 x6 x7 0 r x) 0 x - (∑ r : Fin 512, ds x0 x1 x2 x3 x4 x5 x6 x7 0 (col 1 r) x) := by
      sl_unfold_run_values
      simp only [View.readAt_eq_ld, harg1.read_unread, harg2.read_unread, harg3.read_unread, harg4.read_unread,
            harg5.read_unread, harg6.read_unread, harg7.read_unread, harg8.read_unread, View.readCov_eq_canon']
      open_payloads
      pointwise [k0_off13_eq, k0_off14_eq, k0_off15_eq]
      simp only [select_mask, col_zero, col_1, col_2, col_3, col_4, col_5, col_6, col_7, canon_delta]
      rfl
    rw [sub_sum _ _ fun _ => hf _ _ _, zero_sub_Dg _ fun _ => hf _ _ _] at e
    exact (congrArg (· + _) e).trans (two_tail (fun r => -ds x0 x1 x2 x3 x4 x5 x6 x7 0 r x) 0 1024 (by decide) rfl x)

theorem sums1 : Sums x0 x1 x2 x3 x4 x5 x6 x7 1 1024 (kernelRun0_A.sl.r_24 (F := Ideal) c arg1 harg1 arg2 harg2 arg3 harg3 arg4 harg4 arg5 harg5 arg6 harg6 arg7 harg7 arg8 harg8 arg14 x0 x1 x2 x3 x4 x5 x6 x7, kernelRun0_A.sl.r_23 (F := Ideal) c arg1 harg1 arg2 harg2 arg4 harg4 arg5 harg5 arg7 harg7 arg8 harg8 x0 x1 x3 x4 x6 x7, k0_pay94 k0_pay82 (kernelRun0_A.sl.r_22 c arg1 harg1 arg2 harg2 arg3 harg3 arg4 harg4 arg5 harg5 arg6 harg6 arg7 harg7 arg8 harg8 arg14 x0 x1 x2 x3 x4 x5 x6 x7)) where
  dk x d := by
    refine Eq.trans (congrArg (· + _) ?_) (one_tail (fun r => ds x0 x1 x2 x3 x4 x5 x6 x7 1 r x * x0 (ix3 0 r d)) 1 1024 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dv x d := by
    refine Eq.trans (congrArg (· + _) ?_) (one_tail (fun r => prob x0 x1 x3 x4 x6 1 r x * x7 (ix3 0 r d)) 1 1024 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dck x := by
    have e : (k0_pay94 k0_pay82 (kernelRun0_A.sl.r_22 c arg1 harg1 arg2 harg2 arg3 harg3 arg4 harg4 arg5 harg5 arg6 harg6 arg7 harg7 arg8 harg8 arg14 x0 x1 x2 x3 x4 x5 x6 x7)) (ix2 0 x) = 0 - Dg (fun r => ds x0 x1 x2 x3 x4 x5 x6 x7 1 r x) 1 x := by
      sl_unfold_run_values
      simp only [View.readAt_eq_ld, harg1.read_unread, harg2.read_unread, harg3.read_unread, harg4.read_unread,
            harg5.read_unread, harg6.read_unread, harg7.read_unread, harg8.read_unread, View.readCov_eq_canon']
      open_payloads
      pointwise [k0_off13_eq, k0_off14_eq, k0_off15_eq]
      simp only [select_mask, col_zero, col_1, col_2, col_3, col_4, col_5, col_6, col_7, canon_delta]
      rfl
    rw [zero_sub_Dg _ fun _ => hf _ _ _] at e
    exact (congrArg (· + _) e).trans (one_tail (fun r => -ds x0 x1 x2 x3 x4 x5 x6 x7 1 r x) 1 1024 (by decide) rfl x)

theorem sums2 : Sums x0 x1 x2 x3 x4 x5 x6 x7 2 2048 (kernelRun0_A.sl.r_41 (F := Ideal) c arg1 harg1 arg2 harg2 arg3 harg3 arg4 harg4 arg5 harg5 arg6 harg6 arg7 harg7 arg8 harg8 arg14 x0 x1 x2 x3 x4 x5 x6 x7, kernelRun0_A.sl.r_40 (F := Ideal) c arg1 harg1 arg2 harg2 arg4 harg4 arg5 harg5 arg7 harg7 arg8 harg8 x0 x1 x3 x4 x6 x7, k0_pay129 (kernelRun0_A.sl.r_36 c arg1 harg1 arg2 harg2 arg3 harg3 arg4 harg4 arg5 harg5 arg6 harg6 arg7 harg7 arg8 harg8 arg14 x0 x1 x2 x3 x4 x5 x6 x7) (kernelRun0_A.sl.r_39 c arg1 harg1 arg2 harg2 arg3 harg3 arg4 harg4 arg5 harg5 arg6 harg6 arg7 harg7 arg8 harg8 arg14 x0 x1 x2 x3 x4 x5 x6 x7)) where
  dk x d := by
    refine Eq.trans (congrArg (· + _) ?_) (two_tail (fun r => ds x0 x1 x2 x3 x4 x5 x6 x7 2 r x * x0 (ix3 0 r d)) 2 2048 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dv x d := by
    refine Eq.trans (congrArg (· + _) ?_) (two_tail (fun r => prob x0 x1 x3 x4 x6 2 r x * x7 (ix3 0 r d)) 2 2048 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dck x := by
    have e : (k0_pay129 (kernelRun0_A.sl.r_36 c arg1 harg1 arg2 harg2 arg3 harg3 arg4 harg4 arg5 harg5 arg6 harg6 arg7 harg7 arg8 harg8 arg14 x0 x1 x2 x3 x4 x5 x6 x7) (kernelRun0_A.sl.r_39 c arg1 harg1 arg2 harg2 arg3 harg3 arg4 harg4 arg5 harg5 arg6 harg6 arg7 harg7 arg8 harg8 arg14 x0 x1 x2 x3 x4 x5 x6 x7)) (ix2 0 x) = 0 - Dg (fun r => ds x0 x1 x2 x3 x4 x5 x6 x7 2 r x) 2 x - (∑ r : Fin 512, ds x0 x1 x2 x3 x4 x5 x6 x7 2 (col 3 r) x) := by
      sl_unfold_run_values
      simp only [View.readAt_eq_ld, harg1.read_unread, harg2.read_unread, harg3.read_unread, harg4.read_unread,
            harg5.read_unread, harg6.read_unread, harg7.read_unread, harg8.read_unread, View.readCov_eq_canon']
      open_payloads
      pointwise [k0_off13_eq, k0_off14_eq, k0_off15_eq]
      simp only [select_mask, col_zero, col_1, col_2, col_3, col_4, col_5, col_6, col_7, canon_delta]
      rfl
    rw [sub_sum _ _ fun _ => hf _ _ _, zero_sub_Dg _ fun _ => hf _ _ _] at e
    exact (congrArg (· + _) e).trans (two_tail (fun r => -ds x0 x1 x2 x3 x4 x5 x6 x7 2 r x) 2 2048 (by decide) rfl x)

theorem sums3 : Sums x0 x1 x2 x3 x4 x5 x6 x7 3 2048 (k0_pay148 k0_pay139 (kernelRun0_A.sl.r_50 c arg1 harg1 arg2 harg2 arg3 harg3 arg4 harg4 arg5 harg5 arg6 harg6 arg7 harg7 arg8 harg8 arg14 x0 x1 x2 x3 x4 x5 x6 x7), kernelRun0_A.sl.r_49 (F := Ideal) c arg1 harg1 arg2 harg2 arg4 harg4 arg5 harg5 arg7 harg7 arg8 harg8 x0 x1 x3 x4 x6 x7, k0_pay151 k0_pay140 (kernelRun0_A.sl.r_47 c arg1 harg1 arg2 harg2 arg3 harg3 arg4 harg4 arg5 harg5 arg6 harg6 arg7 harg7 arg8 harg8 arg14 x0 x1 x2 x3 x4 x5 x6 x7)) where
  dk x d := by
    refine Eq.trans (congrArg (· + _) ?_) (one_tail (fun r => ds x0 x1 x2 x3 x4 x5 x6 x7 3 r x * x0 (ix3 0 r d)) 3 2048 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dv x d := by
    refine Eq.trans (congrArg (· + _) ?_) (one_tail (fun r => prob x0 x1 x3 x4 x6 3 r x * x7 (ix3 0 r d)) 3 2048 (by decide) rfl x)
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  dck x := by
    have e : (k0_pay151 k0_pay140 (kernelRun0_A.sl.r_47 c arg1 harg1 arg2 harg2 arg3 harg3 arg4 harg4 arg5 harg5 arg6 harg6 arg7 harg7 arg8 harg8 arg14 x0 x1 x2 x3 x4 x5 x6 x7)) (ix2 0 x) = 0 - Dg (fun r => ds x0 x1 x2 x3 x4 x5 x6 x7 3 r x) 3 x := by
      sl_unfold_run_values
      simp only [View.readAt_eq_ld, harg1.read_unread, harg2.read_unread, harg3.read_unread, harg4.read_unread,
            harg5.read_unread, harg6.read_unread, harg7.read_unread, harg8.read_unread, View.readCov_eq_canon']
      open_payloads
      pointwise [k0_off13_eq, k0_off14_eq, k0_off15_eq]
      simp only [select_mask, col_zero, col_1, col_2, col_3, col_4, col_5, col_6, col_7, canon_delta]
      rfl
    rw [zero_sub_Dg _ fun _ => hf _ _ _] at e
    exact (congrArg (· + _) e).trans (one_tail (fun r => -ds x0 x1 x2 x3 x4 x5 x6 x7 3 r x) 3 2048 (by decide) rfl x)

omit hf in
theorem dk4 (x : Fin 512) (d : Fin 64) : (k0_pay200 (kernelRun0_A.sl.r_74 (F := Ideal) c arg1 harg1 arg2 harg2 arg3 harg3 arg4 harg4 arg5 harg5 arg6 harg6 arg7 harg7 arg8 harg8 arg14 x0 x1 x2 x3 x4 x5 x6 x7)) (ix3 0 x d) = DK x0 x1 x2 x3 x4 x5 x6 x7 4 x d := by
  refine Eq.trans ?_ (two_box (fun r => ds x0 x1 x2 x3 x4 x5 x6 x7 4 r x * x0 (ix3 0 r d)) x)
  sl_unfold_run_values
  simp only [View.readAt_eq_ld, harg1.read_unread, harg2.read_unread, harg3.read_unread, harg4.read_unread,
        harg5.read_unread, harg6.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

omit hf in
theorem dv4 (x : Fin 512) (d : Fin 64) : (k0_pay201 (kernelRun0_A.sl.r_73 (F := Ideal) c arg1 harg1 arg2 harg2 arg4 harg4 arg5 harg5 arg7 harg7 arg8 harg8 x0 x1 x3 x4 x6 x7)) (ix3 0 x d) = DV x0 x1 x3 x4 x6 x7 4 x d := by
  refine Eq.trans ?_ (two_box (fun r => prob x0 x1 x3 x4 x6 4 r x * x7 (ix3 0 r d)) x)
  sl_unfold_run_values
  simp only [View.readAt_eq_ld, harg1.read_unread, harg2.read_unread, harg4.read_unread,
        harg5.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

theorem dck4 (x : Fin 512) : (k0_pay202 (kernelRun0_A.sl.r_75 (F := Ideal) c arg1 harg1 arg2 harg2 arg3 harg3 arg4 harg4 arg5 harg5 arg6 harg6 arg7 harg7 arg8 harg8 arg14 x0 x1 x2 x3 x4 x5 x6 x7)) (ix4 0 0 0 x) = DC x0 x1 x2 x3 x4 x5 x6 x7 4 x := by
  have e : (k0_pay202 (kernelRun0_A.sl.r_75 (F := Ideal) c arg1 harg1 arg2 harg2 arg3 harg3 arg4 harg4 arg5 harg5 arg6 harg6 arg7 harg7 arg8 harg8 arg14 x0 x1 x2 x3 x4 x5 x6 x7)) (ix4 0 0 0 x) = 0 - Dg (fun r => ds x0 x1 x2 x3 x4 x5 x6 x7 4 r x) 4 x - (∑ r : Fin 512, ds x0 x1 x2 x3 x4 x5 x6 x7 4 (col 5 r) x) - (∑ r : Fin 1024, ds x0 x1 x2 x3 x4 x5 x6 x7 4 ⟨3072 + r.val, by omega⟩ x) := by
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  rw [sub_sum _ _ fun _ => hf _ _ _, sub_sum _ _ fun _ => hf _ _ _, zero_sub_Dg _ fun _ => hf _ _ _] at e
  exact e.trans (two_box (fun r => -ds x0 x1 x2 x3 x4 x5 x6 x7 4 r x) x)

omit hf in
theorem dk5 (x : Fin 512) (d : Fin 64) : (k0_pay229 (kernelRun0_A.sl.r_85 (F := Ideal) c arg1 harg1 arg2 harg2 arg3 harg3 arg4 harg4 arg5 harg5 arg6 harg6 arg7 harg7 arg8 harg8 arg14 x0 x1 x2 x3 x4 x5 x6 x7) (kernelRun0_A.sl.r_87 arg1 harg1 x0) (kernelRun0_A.sl.r_90 c arg1 harg1 arg2 harg2 arg3 harg3 arg4 harg4 arg5 harg5 arg6 harg6 arg7 harg7 arg8 harg8 arg14 x0 x1 x2 x3 x4 x5 x6 x7)) (ix3 0 x d) = DK x0 x1 x2 x3 x4 x5 x6 x7 5 x d := by
  refine Eq.trans ?_ (one_box (fun r => ds x0 x1 x2 x3 x4 x5 x6 x7 5 r x * x0 (ix3 0 r d)) x)
  sl_unfold_run_values
  simp only [View.readAt_eq_ld, harg1.read_unread, harg2.read_unread, harg3.read_unread, harg4.read_unread,
        harg5.read_unread, harg6.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

omit hf in
theorem dv5 (x : Fin 512) (d : Fin 64) : (kernelRun0_A.sl.r_92 (F := Ideal) c arg1 harg1 arg2 harg2 arg4 harg4 arg5 harg5 arg7 harg7 arg8 harg8 x0 x1 x3 x4 x6 x7) (ix3 0 x d) = DV x0 x1 x3 x4 x6 x7 5 x d := by
  refine Eq.trans ?_ (one_box (fun r => prob x0 x1 x3 x4 x6 5 r x * x7 (ix3 0 r d)) x)
  sl_unfold_run_values
  simp only [View.readAt_eq_ld, harg1.read_unread, harg2.read_unread, harg4.read_unread,
        harg5.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

theorem dck5 (x : Fin 512) : (k0_pay231 (kernelRun0_A.sl.r_91 (F := Ideal) c arg1 harg1 arg2 harg2 arg3 harg3 arg4 harg4 arg5 harg5 arg6 harg6 arg7 harg7 arg8 harg8 arg14 x0 x1 x2 x3 x4 x5 x6 x7)) (ix4 0 0 0 x) = DC x0 x1 x2 x3 x4 x5 x6 x7 5 x := by
  have e : (k0_pay231 (kernelRun0_A.sl.r_91 (F := Ideal) c arg1 harg1 arg2 harg2 arg3 harg3 arg4 harg4 arg5 harg5 arg6 harg6 arg7 harg7 arg8 harg8 arg14 x0 x1 x2 x3 x4 x5 x6 x7)) (ix4 0 0 0 x) = 0 - Dg (fun r => ds x0 x1 x2 x3 x4 x5 x6 x7 5 r x) 5 x - (∑ r : Fin 1024, ds x0 x1 x2 x3 x4 x5 x6 x7 5 ⟨3072 + r.val, by omega⟩ x) := by
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  rw [sub_sum _ _ fun _ => hf _ _ _, zero_sub_Dg _ fun _ => hf _ _ _] at e
  exact e.trans (one_box (fun r => -ds x0 x1 x2 x3 x4 x5 x6 x7 5 r x) x)

omit hf in
theorem dk6 (x : Fin 512) (d : Fin 64) : (k0_pay261 (kernelRun0_A.sl.r_106 (F := Ideal) c arg1 harg1 arg2 harg2 arg3 harg3 arg4 harg4 arg5 harg5 arg6 harg6 arg7 harg7 arg8 harg8 arg14 x0 x1 x2 x3 x4 x5 x6 x7)) (ix3 0 x d) = DK x0 x1 x2 x3 x4 x5 x6 x7 6 x d := by
  refine Eq.trans ?_ (two_end (fun r => ds x0 x1 x2 x3 x4 x5 x6 x7 6 r x * x0 (ix3 0 r d)) x)
  sl_unfold_run_values
  simp only [View.readAt_eq_ld, harg1.read_unread, harg2.read_unread, harg3.read_unread, harg4.read_unread,
        harg5.read_unread, harg6.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

omit hf in
theorem dv6 (x : Fin 512) (d : Fin 64) : (k0_pay262 (kernelRun0_A.sl.r_105 (F := Ideal) c arg1 harg1 arg2 harg2 arg4 harg4 arg5 harg5 arg7 harg7 arg8 harg8 x0 x1 x3 x4 x6 x7)) (ix3 0 x d) = DV x0 x1 x3 x4 x6 x7 6 x d := by
  refine Eq.trans ?_ (two_end (fun r => prob x0 x1 x3 x4 x6 6 r x * x7 (ix3 0 r d)) x)
  sl_unfold_run_values
  simp only [View.readAt_eq_ld, harg1.read_unread, harg2.read_unread, harg4.read_unread,
        harg5.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

theorem dck6 (x : Fin 512) : (k0_pay263 (kernelRun0_A.sl.r_103 (F := Ideal) c arg1 harg1 arg2 harg2 arg3 harg3 arg4 harg4 arg5 harg5 arg6 harg6 arg7 harg7 arg8 harg8 arg14 x0 x1 x2 x3 x4 x5 x6 x7) (kernelRun0_A.sl.r_104 c arg1 harg1 arg2 harg2 arg3 harg3 arg4 harg4 arg5 harg5 arg6 harg6 arg7 harg7 arg8 harg8 arg14 x0 x1 x2 x3 x4 x5 x6 x7)) (ix4 0 0 0 x) = DC x0 x1 x2 x3 x4 x5 x6 x7 6 x := by
  have e : (k0_pay263 (kernelRun0_A.sl.r_103 (F := Ideal) c arg1 harg1 arg2 harg2 arg3 harg3 arg4 harg4 arg5 harg5 arg6 harg6 arg7 harg7 arg8 harg8 arg14 x0 x1 x2 x3 x4 x5 x6 x7) (kernelRun0_A.sl.r_104 c arg1 harg1 arg2 harg2 arg3 harg3 arg4 harg4 arg5 harg5 arg6 harg6 arg7 harg7 arg8 harg8 arg14 x0 x1 x2 x3 x4 x5 x6 x7)) (ix4 0 0 0 x) = 0 - Dg (fun r => ds x0 x1 x2 x3 x4 x5 x6 x7 6 r x) 6 x - (∑ r : Fin 512, ds x0 x1 x2 x3 x4 x5 x6 x7 6 (col 7 r) x) := by
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  rw [sub_sum _ _ fun _ => hf _ _ _, zero_sub_Dg _ fun _ => hf _ _ _] at e
  exact e.trans (two_end (fun r => -ds x0 x1 x2 x3 x4 x5 x6 x7 6 r x) x)

omit hf in
theorem dk7 (x : Fin 512) (d : Fin 64) : (k0_pay278 (k0_pay265 (F := Ideal)) (kernelRun0_A.sl.r_110 arg1 harg1 x0) (kernelRun0_A.sl.r_112 c arg1 harg1 arg2 harg2 arg4 harg4 arg5 harg5 arg7 harg7 x0 x1 x3 x4 x6) (kernelRun0_A.sl.r_113 c arg3 harg3 arg8 harg8 x2 x7) (kernelRun0_A.sl.v818 c arg6 harg6 arg8 harg8 arg14 x5 x7)) (ix3 0 x d) = DK x0 x1 x2 x3 x4 x5 x6 x7 7 x d := by
  refine Eq.trans ?_ (one_end (fun r => ds x0 x1 x2 x3 x4 x5 x6 x7 7 r x * x0 (ix3 0 r d)) x)
  sl_unfold_run_values
  simp only [View.readAt_eq_ld, harg1.read_unread, harg2.read_unread, harg3.read_unread, harg4.read_unread,
        harg5.read_unread, harg6.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

omit hf in
theorem dv7 (x : Fin 512) (d : Fin 64) : (k0_pay1 (kernelRun0_A.sl.r_114 (F := Ideal) c arg1 harg1 arg2 harg2 arg4 harg4 arg5 harg5 arg7 harg7 arg8 harg8 x0 x1 x3 x4 x6 x7)) (ix3 0 x d) = DV x0 x1 x3 x4 x6 x7 7 x d := by
  refine Eq.trans ?_ (one_end (fun r => prob x0 x1 x3 x4 x6 7 r x * x7 (ix3 0 r d)) x)
  sl_unfold_run_values
  simp only [View.readAt_eq_ld, harg1.read_unread, harg2.read_unread, harg4.read_unread,
        harg5.read_unread, harg7.read_unread, harg8.read_unread, View.readCov_eq_canon']
  open_payloads
  pointwise [k0_off13_eq, k0_off14_eq, k0_off15_eq]
  simp only [select_mask, col_zero, col_1, col_2, col_3, col_4, col_5, col_6, col_7, canon_delta]
  rfl

theorem dck7 (x : Fin 512) : (k0_pay2 (kernelRun0_A.sl.r_115 (F := Ideal) c arg1 harg1 arg2 harg2 arg3 harg3 arg4 harg4 arg5 harg5 arg6 harg6 arg7 harg7 arg8 harg8 arg14 x0 x1 x2 x3 x4 x5 x6 x7)) (ix4 0 0 0 x) = DC x0 x1 x2 x3 x4 x5 x6 x7 7 x := by
  have e : (k0_pay2 (kernelRun0_A.sl.r_115 (F := Ideal) c arg1 harg1 arg2 harg2 arg3 harg3 arg4 harg4 arg5 harg5 arg6 harg6 arg7 harg7 arg8 harg8 arg14 x0 x1 x2 x3 x4 x5 x6 x7)) (ix4 0 0 0 x) = 0 - Dg (fun r => ds x0 x1 x2 x3 x4 x5 x6 x7 7 r x) 7 x := by
    sl_unfold_run_values
    simp only [View.readAt_eq_ld, harg1.read_unread, harg2.read_unread, harg3.read_unread, harg4.read_unread,
          harg5.read_unread, harg6.read_unread, harg7.read_unread, harg8.read_unread, View.readCov_eq_canon']
    open_payloads
    pointwise [k0_off13_eq, k0_off14_eq, k0_off15_eq]
    simp only [select_mask, col_zero, col_1, col_2, col_3, col_4, col_5, col_6, col_7, canon_delta]
    rfl
  rw [zero_sub_Dg _ fun _ => hf _ _ _] at e
  exact e.trans (one_end (fun r => -ds x0 x1 x2 x3 x4 x5 x6 x7 7 r x) x)

end Cert.AttnKIdeal.Value
-- ==== Proof.AttnRows.lean ====
/- The attention backward's query rows: what each key block adds to them, box of rows by box of rows. -/
module
public import proofs.«01_k».proof.Proof.AttnSums
public import Idealize.ShloMosaic.Lib.Tactic.RunNames
@[expose] public section
set_option maxRecDepth 16384
noncomputable section
open Idealize.ShloMosaic Idealize.ShloMosaic.TcCoe Idealize.SL.Sem
namespace Cert.AttnKIdeal.Value
open Cert.AttnKIdeal Cert.AttnKIdeal.Gen

variable (c : Dev nD) (i : grid0.Coords)
  (g1 : Memref sig .tc .vmem S1x4096x64 .bf16) (w1 : g1.IsWhole)
  (g2 : Memref sig .tc .vmem S1x4096x64 .bf16) (w2 : g2.IsWhole)
  (g3 : Memref sig .tc .vmem S1x4096x64 .bf16) (w3 : g3.IsWhole)
  (g4 : Memref sig .tc .vmem S1x4096x1 .f32) (w4 : g4.IsWhole)
  (g5 : Memref sig .tc .vmem S1x8x1x512 .f32) (w5 : g5.IsWhole)
  (g6 : Memref sig .tc .vmem S1x4096x64 .f32) (w6 : g6.IsWhole)
  (g7 : Memref sig .tc .vmem S1x4096x1 .f32) (w7 : g7.IsWhole)
  (g8 : Memref sig .tc .vmem S1x4096x64 .f32) (w8 : g8.IsWhole)
  (g9 : Memref sig .tc .vmem S1x4096x64 .f32) (w9 : g9.IsWhole)
  (g10 : Memref sig .tc .vmem S1x4096x64 .f32) (w10 : g10.IsWhole)
  (g11 : Memref sig .tc .vmem S1x4096x64 .f32) (w11 : g11.IsWhole)
  (g12 : Memref sig .tc .vmem S1x4096x1 .f32) (w12 : g12.IsWhole)
  (g13 : Memref sig .tc .vmem S1x8x1x512 .f32) (w13 : g13.IsWhole)
  (g14 : Memref sig .tc .vmem S4096x1 .f32) (w14 : g14.IsWhole)
    (x0 : Vec Ideal S1x4096x64 .bf16) (x1 : Vec Ideal S1x4096x64 .bf16) (x2 : Vec Ideal S1x4096x64 .bf16) (x3 : Vec Ideal S1x4096x1 .f32) (x4 : Vec Ideal S1x8x1x512 .f32) (x5 : Vec Ideal S1x4096x64 .f32) (x6 : Vec Ideal S1x4096x1 .f32) (x7 : Vec Ideal S1x4096x64 .f32)

/-- The carried values and the rows written by loop 1. -/
abbrev st1 := st_k0_t1 (F := Ideal) Variants.none c none i g1 w1 g2 w2 g3 w3 g4 w4 g5 w5 g6 w6 g7 w7 g8 w8 g9 w9 g10 w10 g11 w11 g12 w12 g13 w13 g14 w14 (kernelRun0_A.sl.r c g2 w2 x1) (kernelRun0_A.sl.r_1 c g3 w3 x2) (kernelRun0_A.sl.r_2 c g5 w5 x4) (kernelRun0_A.sl.r_13 c g1 w1 g2 w2 g4 w4 g5 w5 g7 w7 g8 w8 x0 x1 x3 x4 x6 x7) (kernelRun0_A.sl.r_14 c g1 w1 g2 w2 g3 w3 g4 w4 g5 w5 g6 w6 g7 w7 g8 w8 g14 x0 x1 x2 x3 x4 x5 x6 x7) (kernelRun0_A.sl.r_15 c g1 w1 g2 w2 g3 w3 g4 w4 g5 w5 g6 w6 g7 w7 g8 w8 g14 x0 x1 x2 x3 x4 x5 x6 x7) 1#32
  (w1.unread x0) (w4.unread x3) (w7.unread x6) (w8.unread x7)
  (g14.view.writes (Elt Ideal) g14.view.junk (kernelRun0_A.sl.HS0_1 c g6 w6 g8 w8 x5 x7))
  (g9.view.writes (Elt Ideal) g9.view.junk (kernelRun0_A.sl.H8_3 c g1 w1 g2 w2 g3 w3 g4 w4 g5 w5 g6 w6 g7 w7 g8 w8 g9 g14 x0 x1 x2 x3 x4 x5 x6 x7))
  (g12.view.writes (Elt Ideal) g12.view.junk (kernelRun0_A.sl.H11_3 c g1 w1 g2 w2 g3 w3 g4 w4 g5 w5 g6 w6 g7 w7 g8 w8 g12 g14 x0 x1 x2 x3 x4 x5 x6 x7)) (kernelRun0_A.sl.r_14 c g1 w1 g2 w2 g3 w3 g4 w4 g5 w5 g6 w6 g7 w7 g8 w8 g14 x0 x1 x2 x3 x4 x5 x6 x7, kernelRun0_A.sl.r_13 c g1 w1 g2 w2 g4 w4 g5 w5 g7 w7 g8 w8 x0 x1 x3 x4 x6 x7, kernelRun0_A.sl.r_15 c g1 w1 g2 w2 g3 w3 g4 w4 g5 w5 g6 w6 g7 w7 g8 w8 g14 x0 x1 x2 x3 x4 x5 x6 x7)
  (Scf.trips k0_t1_loop.lb k0_t1_loop.ub k0_t1_loop.st)

/-- The query gradient's rows when loop 2 starts. -/
abbrev rq1 : List (View.Piece (Elt Ideal) S1x4096x64 .f32) := ⟨Rect.unit (s := S1x4096x64) ![0, 512, 0] Cert.AttnKIdeal.S1x512x64.size inb_S1x4096x64_S1x512x64_0_512_0, k0_pay92 (kernelRun0_A.sl.r_25 c i g1 w1 g2 w2 g3 w3 g4 w4 g5 w5 g6 w6 g7 w7 g8 w8 g9 w9 g10 w10 g11 w11 g12 w12 g13 w13 g14 w14 x0 x1 x2 x3 x4 x5 x6 x7)⟩ :: ((st1 c i g1 w1 g2 w2 g3 w3 g4 w4 g5 w5 g6 w6 g7 w7 g8 w8 g9 w9 g10 w10 g11 w11 g12 w12 g13 w13 g14 w14 x0 x1 x2 x3 x4 x5 x6 x7).2.1 ++ kernelRun0_A.sl.H8_3 c g1 w1 g2 w2 g3 w3 g4 w4 g5 w5 g6 w6 g7 w7 g8 w8 g9 g14 x0 x1 x2 x3 x4 x5 x6 x7)

/-- The cumulative gate's rows when loop 2 starts. -/
abbrev rc1 : List (View.Piece (Elt Ideal) S1x4096x1 .f32) := ⟨Rect.unit (s := S1x4096x1) ![0, 512, 0] Cert.AttnKIdeal.S1x512x1.size inb_S1x4096x1_S1x512x1_0_512_0, k0_pay93 (kernelRun0_A.sl.r_22 c g1 w1 g2 w2 g3 w3 g4 w4 g5 w5 g6 w6 g7 w7 g8 w8 g14 x0 x1 x2 x3 x4 x5 x6 x7) (kernelRun0_A.sl.v194 c i g1 w1 g2 w2 g3 w3 g4 w4 g5 w5 g6 w6 g7 w7 g8 w8 g9 w9 g10 w10 g11 w11 g12 w12 g13 w13 g14 w14 x0 x1 x2 x3 x4 x5 x6 x7)⟩ :: ((st1 c i g1 w1 g2 w2 g3 w3 g4 w4 g5 w5 g6 w6 g7 w7 g8 w8 g9 w9 g10 w10 g11 w11 g12 w12 g13 w13 g14 w14 x0 x1 x2 x3 x4 x5 x6 x7).2.2 ++ kernelRun0_A.sl.H11_3 c g1 w1 g2 w2 g3 w3 g4 w4 g5 w5 g6 w6 g7 w7 g8 w8 g12 g14 x0 x1 x2 x3 x4 x5 x6 x7)

/-- The carried values and the rows written by loop 2. -/
abbrev st2 := st_k0_t2 (F := Ideal) Variants.none c none i g1 w1 g2 w2 g3 w3 g4 w4 g5 w5 g6 w6 g7 w7 g8 w8 g9 w9 g10 w10 g11 w11 g12 w12 g13 w13 g14 w14 (kernelRun0_A.sl.r_16 c g2 w2 x1) (kernelRun0_A.sl.r_17 c g3 w3 x2) (kernelRun0_A.sl.r_18 c g5 w5 x4) k0_pay82 (kernelRun0_A.sl.r_22 c g1 w1 g2 w2 g3 w3 g4 w4 g5 w5 g6 w6 g7 w7 g8 w8 g14 x0 x1 x2 x3 x4 x5 x6 x7) (kernelRun0_A.sl.r_23 c g1 w1 g2 w2 g4 w4 g5 w5 g7 w7 g8 w8 x0 x1 x3 x4 x6 x7) (kernelRun0_A.sl.r_24 c g1 w1 g2 w2 g3 w3 g4 w4 g5 w5 g6 w6 g7 w7 g8 w8 g14 x0 x1 x2 x3 x4 x5 x6 x7) (kernelRun0_A.sl.r_25 c i g1 w1 g2 w2 g3 w3 g4 w4 g5 w5 g6 w6 g7 w7 g8 w8 g9 w9 g10 w10 g11 w11 g12 w12 g13 w13 g14 w14 x0 x1 x2 x3 x4 x5 x6 x7) (kernelRun0_A.sl.v185 c i g1 w1 g2 w2 g3 w3 g4 w4 g5 w5 g6 w6 g7 w7 g8 w8 g9 w9 g10 w10 g11 w11 g12 w12 g13 w13 g14 w14 x0 x1 x2 x3 x4 x5 x6 x7)
  (w1.unread x0) (w4.unread x3) (w7.unread x6) (w8.unread x7)
  (g14.view.writes (Elt Ideal) g14.view.junk (kernelRun0_A.sl.HS0_1 c g6 w6 g8 w8 x5 x7))
  (g9.view.writes (Elt Ideal) g9.view.junk (rq1 c i g1 w1 g2 w2 g3 w3 g4 w4 g5 w5 g6 w6 g7 w7 g8 w8 g9 w9 g10 w10 g11 w11 g12 w12 g13 w13 g14 w14 x0 x1 x2 x3 x4 x5 x6 x7))
  (g12.view.writes (Elt Ideal) g12.view.junk (rc1 c i g1 w1 g2 w2 g3 w3 g4 w4 g5 w5 g6 w6 g7 w7 g8 w8 g9 w9 g10 w10 g11 w11 g12 w12 g13 w13 g14 w14 x0 x1 x2 x3 x4 x5 x6 x7)) (kernelRun0_A.sl.r_24 c g1 w1 g2 w2 g3 w3 g4 w4 g5 w5 g6 w6 g7 w7 g8 w8 g14 x0 x1 x2 x3 x4 x5 x6 x7, kernelRun0_A.sl.r_23 c g1 w1 g2 w2 g4 w4 g5 w5 g7 w7 g8 w8 x0 x1 x3 x4 x6 x7, k0_pay94 k0_pay82 (kernelRun0_A.sl.r_22 c g1 w1 g2 w2 g3 w3 g4 w4 g5 w5 g6 w6 g7 w7 g8 w8 g14 x0 x1 x2 x3 x4 x5 x6 x7))
  (Scf.trips k0_t2_loop.lb k0_t2_loop.ub k0_t2_loop.st)

/-- The query gradient's rows when loop 3 starts. -/
abbrev rq2 : List (View.Piece (Elt Ideal) S1x4096x64 .f32) := ⟨Rect.unit (s := S1x4096x64) ![0, 1536, 0] Cert.AttnKIdeal.S1x512x64.size inb_S1x4096x64_S1x512x64_0_1536_0, k0_pay125 (kernelRun0_A.sl.r_26 c g2 w2 x1) (kernelRun0_A.sl.r_28 c g3 w3 x2) (kernelRun0_A.sl.r_29 c g5 w5 x4) (kernelRun0_A.sl.r_37 g1 w1 x0) (kernelRun0_A.sl.r_38 g8 w8 x7) (View.readAt (Elt Ideal) g4.view (Rect.unit (s := S1x4096x1) ![0, 1536, 0] Cert.AttnKIdeal.S1x512x1.size inb_S1x4096x1_S1x512x1_0_1536_0).toLoadRect (w4.unread x3)) (View.readAt (Elt Ideal) g7.view (Rect.unit (s := S1x4096x1) ![0, 1536, 0] Cert.AttnKIdeal.S1x512x1.size inb_S1x4096x1_S1x512x1_0_1536_0).toLoadRect (w7.unread x6)) (kernelRun0_A.sl.v300 c g6 w6 g8 w8 g14 x5 x7) (kernelRun0_A.sl.v310 c i g1 w1 g2 w2 g3 w3 g4 w4 g5 w5 g6 w6 g7 w7 g8 w8 g9 w9 g10 w10 g11 w11 g12 w12 g13 w13 g14 w14 x0 x1 x2 x3 x4 x5 x6 x7)⟩ :: kernelRun0_A.sl.H8_1_1 c i g1 w1 g2 w2 g3 w3 g4 w4 g5 w5 g6 w6 g7 w7 g8 w8 g9 w9 g10 w10 g11 w11 g12 w12 g13 w13 g14 w14 x0 x1 x2 x3 x4 x5 x6 x7

/-- The cumulative gate's rows when loop 3 starts. -/
abbrev rc2 : List (View.Piece (Elt Ideal) S1x4096x1 .f32) := ⟨Rect.unit (s := S1x4096x1) ![0, 1536, 0] Cert.AttnKIdeal.S1x512x1.size inb_S1x4096x1_S1x512x1_0_1536_0, k0_pay128 (kernelRun0_A.sl.r_42 c i g1 w1 g2 w2 g3 w3 g4 w4 g5 w5 g6 w6 g7 w7 g8 w8 g9 w9 g10 w10 g11 w11 g12 w12 g13 w13 g14 w14 x0 x1 x2 x3 x4 x5 x6 x7) (kernelRun0_A.sl.r_43 c g1 w1 g2 w2 g3 w3 g4 w4 g5 w5 g6 w6 g7 w7 g8 w8 g14 x0 x1 x2 x3 x4 x5 x6 x7)⟩ :: kernelRun0_A.sl.H11_1_1 c i g1 w1 g2 w2 g3 w3 g4 w4 g5 w5 g6 w6 g7 w7 g8 w8 g9 w9 g10 w10 g11 w11 g12 w12 g13 w13 g14 w14 x0 x1 x2 x3 x4 x5 x6 x7

/-- The carried values and the rows written by loop 3. -/
abbrev st3 := st_k0_t3 (F := Ideal) Variants.none c none i g1 w1 g2 w2 g3 w3 g4 w4 g5 w5 g6 w6 g7 w7 g8 w8 g9 w9 g10 w10 g11 w11 g12 w12 g13 w13 g14 w14 (kernelRun0_A.sl.r_26 c g2 w2 x1) (kernelRun0_A.sl.r_28 c g3 w3 x2) (kernelRun0_A.sl.r_29 c g5 w5 x4) (kernelRun0_A.sl.r_36 c g1 w1 g2 w2 g3 w3 g4 w4 g5 w5 g6 w6 g7 w7 g8 w8 g14 x0 x1 x2 x3 x4 x5 x6 x7) (kernelRun0_A.sl.r_39 c g1 w1 g2 w2 g3 w3 g4 w4 g5 w5 g6 w6 g7 w7 g8 w8 g14 x0 x1 x2 x3 x4 x5 x6 x7) (kernelRun0_A.sl.r_40 c g1 w1 g2 w2 g4 w4 g5 w5 g7 w7 g8 w8 x0 x1 x3 x4 x6 x7) (kernelRun0_A.sl.r_41 c g1 w1 g2 w2 g3 w3 g4 w4 g5 w5 g6 w6 g7 w7 g8 w8 g14 x0 x1 x2 x3 x4 x5 x6 x7) (kernelRun0_A.sl.r_42 c i g1 w1 g2 w2 g3 w3 g4 w4 g5 w5 g6 w6 g7 w7 g8 w8 g9 w9 g10 w10 g11 w11 g12 w12 g13 w13 g14 w14 x0 x1 x2 x3 x4 x5 x6 x7) (kernelRun0_A.sl.r_43 c g1 w1 g2 w2 g3 w3 g4 w4 g5 w5 g6 w6 g7 w7 g8 w8 g14 x0 x1 x2 x3 x4 x5 x6 x7)
  (w1.unread x0) (w4.unread x3) (w7.unread x6) (w8.unread x7)
  (g14.view.writes (Elt Ideal) g14.view.junk (kernelRun0_A.sl.HS0_1 c g6 w6 g8 w8 x5 x7))
  (g9.view.writes (Elt Ideal) g9.view.junk (rq2 c i g1 w1 g2 w2 g3 w3 g4 w4 g5 w5 g6 w6 g7 w7 g8 w8 g9 w9 g10 w10 g11 w11 g12 w12 g13 w13 g14 w14 x0 x1 x2 x3 x4 x5 x6 x7))
  (g12.view.writes (Elt Ideal) g12.view.junk (rc2 c i g1 w1 g2 w2 g3 w3 g4 w4 g5 w5 g6 w6 g7 w7 g8 w8 g9 w9 g10 w10 g11 w11 g12 w12 g13 w13 g14 w14 x0 x1 x2 x3 x4 x5 x6 x7)) (kernelRun0_A.sl.r_41 c g1 w1 g2 w2 g3 w3 g4 w4 g5 w5 g6 w6 g7 w7 g8 w8 g14 x0 x1 x2 x3 x4 x5 x6 x7, kernelRun0_A.sl.r_40 c g1 w1 g2 w2 g4 w4 g5 w5 g7 w7 g8 w8 x0 x1 x3 x4 x6 x7, k0_pay129 (kernelRun0_A.sl.r_36 c g1 w1 g2 w2 g3 w3 g4 w4 g5 w5 g6 w6 g7 w7 g8 w8 g14 x0 x1 x2 x3 x4 x5 x6 x7) (kernelRun0_A.sl.r_39 c g1 w1 g2 w2 g3 w3 g4 w4 g5 w5 g6 w6 g7 w7 g8 w8 g14 x0 x1 x2 x3 x4 x5 x6 x7))
  (Scf.trips k0_t3_loop.lb k0_t3_loop.ub k0_t3_loop.st)

/-- The query gradient's rows when loop 4 starts. -/
abbrev rq3 : List (View.Piece (Elt Ideal) S1x4096x64 .f32) := ⟨Rect.unit (s := S1x4096x64) ![0, 1536, 0] Cert.AttnKIdeal.S1x512x64.size inb_S1x4096x64_S1x512x64_0_1536_0, k0_pay149 (kernelRun0_A.sl.r_44 c g2 w2 x1) (kernelRun0_A.sl.r_48 c g1 w1 g2 w2 g3 w3 g4 w4 g5 w5 g6 w6 g7 w7 g8 w8 g14 x0 x1 x2 x3 x4 x5 x6 x7) (kernelRun0_A.sl.v387 c i g1 w1 g2 w2 g3 w3 g4 w4 g5 w5 g6 w6 g7 w7 g8 w8 g9 w9 g10 w10 g11 w11 g12 w12 g13 w13 g14 w14 x0 x1 x2 x3 x4 x5 x6 x7)⟩ :: ((st3 c i g1 w1 g2 w2 g3 w3 g4 w4 g5 w5 g6 w6 g7 w7 g8 w8 g9 w9 g10 w10 g11 w11 g12 w12 g13 w13 g14 w14 x0 x1 x2 x3 x4 x5 x6 x7).2.1 ++ rq2 c i g1 w1 g2 w2 g3 w3 g4 w4 g5 w5 g6 w6 g7 w7 g8 w8 g9 w9 g10 w10 g11 w11 g12 w12 g13 w13 g14 w14 x0 x1 x2 x3 x4 x5 x6 x7)

/-- The cumulative gate's rows when loop 4 starts. -/
abbrev rc3 : List (View.Piece (Elt Ideal) S1x4096x1 .f32) := ⟨Rect.unit (s := S1x4096x1) ![0, 1536, 0] Cert.AttnKIdeal.S1x512x1.size inb_S1x4096x1_S1x512x1_0_1536_0, k0_pay150 (kernelRun0_A.sl.r_47 c g1 w1 g2 w2 g3 w3 g4 w4 g5 w5 g6 w6 g7 w7 g8 w8 g14 x0 x1 x2 x3 x4 x5 x6 x7) (kernelRun0_A.sl.v396 c i g1 w1 g2 w2 g3 w3 g4 w4 g5 w5 g6 w6 g7 w7 g8 w8 g9 w9 g10 w10 g11 w11 g12 w12 g13 w13 g14 w14 x0 x1 x2 x3 x4 x5 x6 x7)⟩ :: ((st3 c i g1 w1 g2 w2 g3 w3 g4 w4 g5 w5 g6 w6 g7 w7 g8 w8 g9 w9 g10 w10 g11 w11 g12 w12 g13 w13 g14 w14 x0 x1 x2 x3 x4 x5 x6 x7).2.2 ++ rc2 c i g1 w1 g2 w2 g3 w3 g4 w4 g5 w5 g6 w6 g7 w7 g8 w8 g9 w9 g10 w10 g11 w11 g12 w12 g13 w13 g14 w14 x0 x1 x2 x3 x4 x5 x6 x7)

/-- The carried values and the rows written by loop 4. -/
abbrev st4 := st_k0_t4 (F := Ideal) Variants.none c none i g1 w1 g2 w2 g3 w3 g4 w4 g5 w5 g6 w6 g7 w7 g8 w8 g9 w9 g10 w10 g11 w11 g12 w12 g13 w13 g14 w14 (kernelRun0_A.sl.r_44 c g2 w2 x1) (kernelRun0_A.sl.r_45 c g3 w3 x2) (kernelRun0_A.sl.r_46 c g5 w5 x4) k0_pay139 k0_pay140 (kernelRun0_A.sl.r_47 c g1 w1 g2 w2 g3 w3 g4 w4 g5 w5 g6 w6 g7 w7 g8 w8 g14 x0 x1 x2 x3 x4 x5 x6 x7) (kernelRun0_A.sl.r_48 c g1 w1 g2 w2 g3 w3 g4 w4 g5 w5 g6 w6 g7 w7 g8 w8 g14 x0 x1 x2 x3 x4 x5 x6 x7) (kernelRun0_A.sl.r_49 c g1 w1 g2 w2 g4 w4 g5 w5 g7 w7 g8 w8 x0 x1 x3 x4 x6 x7) (kernelRun0_A.sl.r_50 c g1 w1 g2 w2 g3 w3 g4 w4 g5 w5 g6 w6 g7 w7 g8 w8 g14 x0 x1 x2 x3 x4 x5 x6 x7)
  (w1.unread x0) (w4.unread x3) (w7.unread x6) (w8.unread x7)
  (g14.view.writes (Elt Ideal) g14.view.junk (kernelRun0_A.sl.HS0_1 c g6 w6 g8 w8 x5 x7))
  (g9.view.writes (Elt Ideal) g9.view.junk (rq3 c i g1 w1 g2 w2 g3 w3 g4 w4 g5 w5 g6 w6 g7 w7 g8 w8 g9 w9 g10 w10 g11 w11 g12 w12 g13 w13 g14 w14 x0 x1 x2 x3 x4 x5 x6 x7))
  (g12.view.writes (Elt Ideal) g12.view.junk (rc3 c i g1 w1 g2 w2 g3 w3 g4 w4 g5 w5 g6 w6 g7 w7 g8 w8 g9 w9 g10 w10 g11 w11 g12 w12 g13 w13 g14 w14 x0 x1 x2 x3 x4 x5 x6 x7)) (k0_pay148 k0_pay139 (kernelRun0_A.sl.r_50 c g1 w1 g2 w2 g3 w3 g4 w4 g5 w5 g6 w6 g7 w7 g8 w8 g14 x0 x1 x2 x3 x4 x5 x6 x7), kernelRun0_A.sl.r_49 c g1 w1 g2 w2 g4 w4 g5 w5 g7 w7 g8 w8 x0 x1 x3 x4 x6 x7, k0_pay151 k0_pay140 (kernelRun0_A.sl.r_47 c g1 w1 g2 w2 g3 w3 g4 w4 g5 w5 g6 w6 g7 w7 g8 w8 g14 x0 x1 x2 x3 x4 x5 x6 x7))
  (Scf.trips k0_t4_loop.lb k0_t4_loop.ub k0_t4_loop.st)

/-- Reading a box of rows of what was written. -/
theorem read_rows {W n a : ℕ} (arg : Memref sig .tc .vmem ⟨3, ![1, 4096, W]⟩ .f32) (L : List (View.Piece (Elt Ideal) ⟨3, ![1, 4096, W]⟩ .f32))
    {off : Fin 3 → ℕ} (inb : ∀ i, off i + (⟨3, ![1, n, W]⟩ : Shape).size i ≤ (⟨3, ![1, 4096, W]⟩ : Shape).size i)
    (ho : off = ![0, a, 0]) (j : Fin n) (d : Fin W) (h : a + j.val < 4096) :
    arg.view.readCov L (Rect.unit (s := ⟨3, ![1, 4096, W]⟩) off (⟨3, ![1, n, W]⟩ : Shape).size inb).toLoadRect (ix3 0 j d)
      = View.canon L (ix3 0 (⟨a + j.val, h⟩ : Fin 4096) d) := by
  subst ho
  rw [View.readCov_eq_canon']
  refine congrArg (View.canon L) (funext fun i => Fin.ext ?_)
  match i with
  | ⟨0, _⟩ => rfl
  | ⟨1, _⟩ => show a + 1 * j.val = a + j.val; omega
  | ⟨2, _⟩ => show 0 + 1 * d.val = d.val; omega

theorem col_0 (x : Fin 512) (h : 0 + x.val < 4096) : (⟨0 + x.val, h⟩ : Fin 4096) = col 0 x := col_of 0 _ (by decide) rfl x h

theorem rowq0a (j : Fin 512) (d : Fin 64) : (k0_pay56 (kernelRun0_A.sl.r c g2 w2 x1) (kernelRun0_A.sl.r_4 c g1 w1 g2 w2 g3 w3 g4 w4 g5 w5 g6 w6 g7 w7 g8 w8 g14 x0 x1 x2 x3 x4 x5 x6 x7) (kernelRun0_A.sl.r_7 c g9)) (ix3 0 j d)
    = View.canon (kernelRun0_A.sl.H8_1 (F := Ideal)) (ix3 0 (⟨0 + j.val, by omega⟩ : Fin 4096) d) + Gq x0 x1 x2 x3 x4 x5 x6 x7 0 ⟨0 + j.val, by omega⟩ d := by
  have hr : kernelRun0_A.sl.v60 (F := Ideal) c g9 (ix3 0 j d) = View.canon (kernelRun0_A.sl.H8_1 (F := Ideal)) (ix3 0 (⟨0 + j.val, by omega⟩ : Fin 4096) d) :=
    read_rows g9 _ _ rfl j d _
  rw [← hr]
  clear hr
  rw [col_0 j (by omega)]
  refine Eq.trans ?_ (congrArg (kernelRun0_A.sl.v60 (F := Ideal) c g9 (ix3 0 j d) + ·) (Gq_diag _ _ _ _ _ _ _ _ (by decide) j d).symm)
  unfold kernelRun0_A.sl.r_7
  generalize kernelRun0_A.sl.v60 (F := Ideal) c g9 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc0a (j : Fin 512) (d : Fin 1) : (k0_pay57 (kernelRun0_A.sl.r_3 c g1 w1 g2 w2 g3 w3 g4 w4 g5 w5 g6 w6 g7 w7 g8 w8 g14 x0 x1 x2 x3 x4 x5 x6 x7) (kernelRun0_A.sl.v69 c g12)) (ix3 0 j d)
    = View.canon (kernelRun0_A.sl.H11_1 (F := Ideal)) (ix3 0 (⟨0 + j.val, by omega⟩ : Fin 4096) d) + Gc x0 x1 x2 x3 x4 x5 x6 x7 0 ⟨0 + j.val, by omega⟩ d := by
  have hr : kernelRun0_A.sl.v69 (F := Ideal) c g12 (ix3 0 j d) = View.canon (kernelRun0_A.sl.H11_1 (F := Ideal)) (ix3 0 (⟨0 + j.val, by omega⟩ : Fin 4096) d) :=
    read_rows g12 _ _ rfl j d _
  rw [← hr]
  clear hr
  rw [col_0 j (by omega)]
  refine Eq.trans ?_ (congrArg (kernelRun0_A.sl.v69 (F := Ideal) c g12 (ix3 0 j d) + ·) (Gc_diag _ _ _ _ _ _ _ _ (by decide) j d).symm)
  generalize kernelRun0_A.sl.v69 (F := Ideal) c g12 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq0b (j : Fin 512) (d : Fin 64) : (k0_pay68 (kernelRun0_A.sl.r c g2 w2 x1) (kernelRun0_A.sl.r_1 c g3 w3 x2) (kernelRun0_A.sl.r_10 c g8 w8 x7) (kernelRun0_A.sl.r_11 c g1 w1 g2 w2 g4 w4 g5 w5 x0 x1 x3 x4) (kernelRun0_A.sl.r_12 c g7 w7 x6) (kernelRun0_A.sl.v98 c g6 w6 g8 w8 g14 x5 x7) (kernelRun0_A.sl.v108 c g1 w1 g2 w2 g3 w3 g4 w4 g5 w5 g6 w6 g7 w7 g8 w8 g9 g14 x0 x1 x2 x3 x4 x5 x6 x7)) (ix3 0 j d)
    = View.canon (kernelRun0_A.sl.H8_2 c g1 w1 g2 w2 g3 w3 g4 w4 g5 w5 g6 w6 g7 w7 g8 w8 g9 g14 x0 x1 x2 x3 x4 x5 x6 x7) (ix3 0 (⟨512 + j.val, by omega⟩ : Fin 4096) d) + Gq x0 x1 x2 x3 x4 x5 x6 x7 0 ⟨512 + j.val, by omega⟩ d := by
  have hr : kernelRun0_A.sl.v108 c g1 w1 g2 w2 g3 w3 g4 w4 g5 w5 g6 w6 g7 w7 g8 w8 g9 g14 x0 x1 x2 x3 x4 x5 x6 x7 (ix3 0 j d) = View.canon (kernelRun0_A.sl.H8_2 c g1 w1 g2 w2 g3 w3 g4 w4 g5 w5 g6 w6 g7 w7 g8 w8 g9 g14 x0 x1 x2 x3 x4 x5 x6 x7) (ix3 0 (⟨512 + j.val, by omega⟩ : Fin 4096) d) :=
    read_rows g9 _ _ rfl j d _
  rw [← hr]
  clear hr
  rw [col_1 j (by omega)]
  refine Eq.trans ?_ (congrArg (kernelRun0_A.sl.v108 c g1 w1 g2 w2 g3 w3 g4 w4 g5 w5 g6 w6 g7 w7 g8 w8 g9 g14 x0 x1 x2 x3 x4 x5 x6 x7 (ix3 0 j d) + ·) (Gq_below _ _ _ _ _ _ _ _ d (by rw [col_val (by decide)]; omega)).symm)
  generalize kernelRun0_A.sl.v108 c g1 w1 g2 w2 g3 w3 g4 w4 g5 w5 g6 w6 g7 w7 g8 w8 g9 g14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc0b (j : Fin 512) (d : Fin 1) : (k0_pay69 (kernelRun0_A.sl.r_1 c g3 w3 x2) (kernelRun0_A.sl.r_10 c g8 w8 x7) (kernelRun0_A.sl.r_11 c g1 w1 g2 w2 g4 w4 g5 w5 x0 x1 x3 x4) (kernelRun0_A.sl.r_12 c g7 w7 x6) (kernelRun0_A.sl.v98 c g6 w6 g8 w8 g14 x5 x7) (kernelRun0_A.sl.v117 c g1 w1 g2 w2 g3 w3 g4 w4 g5 w5 g6 w6 g7 w7 g8 w8 g12 g14 x0 x1 x2 x3 x4 x5 x6 x7)) (ix3 0 j d)
    = View.canon (kernelRun0_A.sl.H11_2 c g1 w1 g2 w2 g3 w3 g4 w4 g5 w5 g6 w6 g7 w7 g8 w8 g12 g14 x0 x1 x2 x3 x4 x5 x6 x7) (ix3 0 (⟨512 + j.val, by omega⟩ : Fin 4096) d) + Gc x0 x1 x2 x3 x4 x5 x6 x7 0 ⟨512 + j.val, by omega⟩ d := by
  have hr : kernelRun0_A.sl.v117 c g1 w1 g2 w2 g3 w3 g4 w4 g5 w5 g6 w6 g7 w7 g8 w8 g12 g14 x0 x1 x2 x3 x4 x5 x6 x7 (ix3 0 j d) = View.canon (kernelRun0_A.sl.H11_2 c g1 w1 g2 w2 g3 w3 g4 w4 g5 w5 g6 w6 g7 w7 g8 w8 g12 g14 x0 x1 x2 x3 x4 x5 x6 x7) (ix3 0 (⟨512 + j.val, by omega⟩ : Fin 4096) d) :=
    read_rows g12 _ _ rfl j d _
  rw [← hr]
  clear hr
  rw [col_1 j (by omega)]
  refine Eq.trans ?_ (congrArg (kernelRun0_A.sl.v117 c g1 w1 g2 w2 g3 w3 g4 w4 g5 w5 g6 w6 g7 w7 g8 w8 g12 g14 x0 x1 x2 x3 x4 x5 x6 x7 (ix3 0 j d) + ·) (Gc_below _ _ _ _ _ _ _ _ d (by rw [col_val (by decide)]; omega)).symm)
  generalize kernelRun0_A.sl.v117 c g1 w1 g2 w2 g3 w3 g4 w4 g5 w5 g6 w6 g7 w7 g8 w8 g12 g14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq1 (j : Fin 512) (d : Fin 64) : (k0_pay92 (kernelRun0_A.sl.r_25 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon ((st1 c i g1 w1 g2 w2 g3 w3 g4 w4 g5 w5 g6 w6 g7 w7 g8 w8 g9 w9 g10 w10 g11 w11 g12 w12 g13 w13 g14 w14 x0 x1 x2 x3 x4 x5 x6 x7).2.1 ++ kernelRun0_A.sl.H8_3 c g1 w1 g2 w2 g3 w3 g4 w4 g5 w5 g6 w6 g7 w7 g8 w8 g9 g14 x0 x1 x2 x3 x4 x5 x6 x7) (ix3 0 (⟨512 + j.val, by omega⟩ : Fin 4096) d) + Gq x0 x1 x2 x3 x4 x5 x6 x7 1 ⟨512 + j.val, by omega⟩ d := by
  have hr : kernelRun0_A.sl.v185 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st1 c i g1 w1 g2 w2 g3 w3 g4 w4 g5 w5 g6 w6 g7 w7 g8 w8 g9 w9 g10 w10 g11 w11 g12 w12 g13 w13 g14 w14 x0 x1 x2 x3 x4 x5 x6 x7).2.1 ++ kernelRun0_A.sl.H8_3 c g1 w1 g2 w2 g3 w3 g4 w4 g5 w5 g6 w6 g7 w7 g8 w8 g9 g14 x0 x1 x2 x3 x4 x5 x6 x7) (ix3 0 (⟨512 + j.val, by omega⟩ : Fin 4096) d) :=
    read_rows g9 _ _ rfl j d _
  rw [← hr]
  clear hr
  rw [col_1 j (by omega)]
  refine Eq.trans ?_ (congrArg (kernelRun0_A.sl.v185 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_diag _ _ _ _ _ _ _ _ (by decide) j d).symm)
  unfold kernelRun0_A.sl.r_25
  generalize kernelRun0_A.sl.v185 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc1 (j : Fin 512) (d : Fin 1) : (k0_pay93 (kernelRun0_A.sl.r_22 c g1 w1 g2 w2 g3 w3 g4 w4 g5 w5 g6 w6 g7 w7 g8 w8 g14 x0 x1 x2 x3 x4 x5 x6 x7) (kernelRun0_A.sl.v194 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon ((st1 c i g1 w1 g2 w2 g3 w3 g4 w4 g5 w5 g6 w6 g7 w7 g8 w8 g9 w9 g10 w10 g11 w11 g12 w12 g13 w13 g14 w14 x0 x1 x2 x3 x4 x5 x6 x7).2.2 ++ kernelRun0_A.sl.H11_3 c g1 w1 g2 w2 g3 w3 g4 w4 g5 w5 g6 w6 g7 w7 g8 w8 g12 g14 x0 x1 x2 x3 x4 x5 x6 x7) (ix3 0 (⟨512 + j.val, by omega⟩ : Fin 4096) d) + Gc x0 x1 x2 x3 x4 x5 x6 x7 1 ⟨512 + j.val, by omega⟩ d := by
  have hr : kernelRun0_A.sl.v194 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st1 c i g1 w1 g2 w2 g3 w3 g4 w4 g5 w5 g6 w6 g7 w7 g8 w8 g9 w9 g10 w10 g11 w11 g12 w12 g13 w13 g14 w14 x0 x1 x2 x3 x4 x5 x6 x7).2.2 ++ kernelRun0_A.sl.H11_3 c g1 w1 g2 w2 g3 w3 g4 w4 g5 w5 g6 w6 g7 w7 g8 w8 g12 g14 x0 x1 x2 x3 x4 x5 x6 x7) (ix3 0 (⟨512 + j.val, by omega⟩ : Fin 4096) d) :=
    read_rows g12 _ _ rfl j d _
  rw [← hr]
  clear hr
  rw [col_1 j (by omega)]
  refine Eq.trans ?_ (congrArg (kernelRun0_A.sl.v194 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_diag _ _ _ _ _ _ _ _ (by decide) j d).symm)
  generalize kernelRun0_A.sl.v194 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq2a (j : Fin 512) (d : Fin 64) : (k0_pay115 (kernelRun0_A.sl.r_26 c g2 w2 x1) (kernelRun0_A.sl.r_32 c g1 w1 g2 w2 g4 w4 g5 w5 g7 w7 x0 x1 x3 x4 x6) (kernelRun0_A.sl.r_33 c g3 w3 g8 w8 x2 x7) (kernelRun0_A.sl.v252 c g6 w6 g8 w8 g14 x5 x7) (kernelRun0_A.sl.v262 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon ((st2 c i g1 w1 g2 w2 g3 w3 g4 w4 g5 w5 g6 w6 g7 w7 g8 w8 g9 w9 g10 w10 g11 w11 g12 w12 g13 w13 g14 w14 x0 x1 x2 x3 x4 x5 x6 x7).2.1 ++ rq1 c i g1 w1 g2 w2 g3 w3 g4 w4 g5 w5 g6 w6 g7 w7 g8 w8 g9 w9 g10 w10 g11 w11 g12 w12 g13 w13 g14 w14 x0 x1 x2 x3 x4 x5 x6 x7) (ix3 0 (⟨1024 + j.val, by omega⟩ : Fin 4096) d) + Gq x0 x1 x2 x3 x4 x5 x6 x7 2 ⟨1024 + j.val, by omega⟩ d := by
  have hr : kernelRun0_A.sl.v262 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st2 c i g1 w1 g2 w2 g3 w3 g4 w4 g5 w5 g6 w6 g7 w7 g8 w8 g9 w9 g10 w10 g11 w11 g12 w12 g13 w13 g14 w14 x0 x1 x2 x3 x4 x5 x6 x7).2.1 ++ rq1 c i g1 w1 g2 w2 g3 w3 g4 w4 g5 w5 g6 w6 g7 w7 g8 w8 g9 w9 g10 w10 g11 w11 g12 w12 g13 w13 g14 w14 x0 x1 x2 x3 x4 x5 x6 x7) (ix3 0 (⟨1024 + j.val, by omega⟩ : Fin 4096) d) :=
    read_rows g9 _ _ rfl j d _
  rw [← hr]
  clear hr
  rw [col_2 j (by omega)]
  refine Eq.trans ?_ (congrArg (kernelRun0_A.sl.v262 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_diag _ _ _ _ _ _ _ _ (by decide) j d).symm)
  generalize kernelRun0_A.sl.v262 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc2a (j : Fin 512) (d : Fin 1) : (k0_pay116 (kernelRun0_A.sl.r_32 c g1 w1 g2 w2 g4 w4 g5 w5 g7 w7 x0 x1 x3 x4 x6) (kernelRun0_A.sl.r_33 c g3 w3 g8 w8 x2 x7) (kernelRun0_A.sl.v252 c g6 w6 g8 w8 g14 x5 x7) (kernelRun0_A.sl.v271 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon ((st2 c i g1 w1 g2 w2 g3 w3 g4 w4 g5 w5 g6 w6 g7 w7 g8 w8 g9 w9 g10 w10 g11 w11 g12 w12 g13 w13 g14 w14 x0 x1 x2 x3 x4 x5 x6 x7).2.2 ++ rc1 c i g1 w1 g2 w2 g3 w3 g4 w4 g5 w5 g6 w6 g7 w7 g8 w8 g9 w9 g10 w10 g11 w11 g12 w12 g13 w13 g14 w14 x0 x1 x2 x3 x4 x5 x6 x7) (ix3 0 (⟨1024 + j.val, by omega⟩ : Fin 4096) d) + Gc x0 x1 x2 x3 x4 x5 x6 x7 2 ⟨1024 + j.val, by omega⟩ d := by
  have hr : kernelRun0_A.sl.v271 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st2 c i g1 w1 g2 w2 g3 w3 g4 w4 g5 w5 g6 w6 g7 w7 g8 w8 g9 w9 g10 w10 g11 w11 g12 w12 g13 w13 g14 w14 x0 x1 x2 x3 x4 x5 x6 x7).2.2 ++ rc1 c i g1 w1 g2 w2 g3 w3 g4 w4 g5 w5 g6 w6 g7 w7 g8 w8 g9 w9 g10 w10 g11 w11 g12 w12 g13 w13 g14 w14 x0 x1 x2 x3 x4 x5 x6 x7) (ix3 0 (⟨1024 + j.val, by omega⟩ : Fin 4096) d) :=
    read_rows g12 _ _ rfl j d _
  rw [← hr]
  clear hr
  rw [col_2 j (by omega)]
  refine Eq.trans ?_ (congrArg (kernelRun0_A.sl.v271 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_diag _ _ _ _ _ _ _ _ (by decide) j d).symm)
  generalize kernelRun0_A.sl.v271 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq2b (j : Fin 512) (d : Fin 64) : (k0_pay125 (kernelRun0_A.sl.r_26 c g2 w2 x1) (kernelRun0_A.sl.r_28 c g3 w3 x2) (kernelRun0_A.sl.r_29 c g5 w5 x4) (kernelRun0_A.sl.r_37 g1 w1 x0) (kernelRun0_A.sl.r_38 g8 w8 x7) (View.readAt (Elt Ideal) g4.view (Rect.unit (s := S1x4096x1) ![0, 1536, 0] Cert.AttnKIdeal.S1x512x1.size inb_S1x4096x1_S1x512x1_0_1536_0).toLoadRect (w4.unread x3)) (View.readAt (Elt Ideal) g7.view (Rect.unit (s := S1x4096x1) ![0, 1536, 0] Cert.AttnKIdeal.S1x512x1.size inb_S1x4096x1_S1x512x1_0_1536_0).toLoadRect (w7.unread x6)) (kernelRun0_A.sl.v300 c g6 w6 g8 w8 g14 x5 x7) (kernelRun0_A.sl.v310 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H8_1_1 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) + Gq x0 x1 x2 x3 x4 x5 x6 x7 2 ⟨1536 + j.val, by omega⟩ d := by
  have hr : kernelRun0_A.sl.v310 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_1_1 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) :=
    read_rows g9 _ _ rfl j d _
  rw [← hr]
  clear hr
  rw [col_3 j (by omega)]
  refine Eq.trans ?_ (congrArg (kernelRun0_A.sl.v310 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_below _ _ _ _ _ _ _ _ d (by rw [col_val (by decide)]; omega)).symm)
  generalize kernelRun0_A.sl.v310 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc2b (j : Fin 512) (d : Fin 1) : (k0_pay128 (kernelRun0_A.sl.r_42 c i g1 w1 g2 w2 g3 w3 g4 w4 g5 w5 g6 w6 g7 w7 g8 w8 g9 w9 g10 w10 g11 w11 g12 w12 g13 w13 g14 w14 x0 x1 x2 x3 x4 x5 x6 x7) (kernelRun0_A.sl.r_43 c g1 w1 g2 w2 g3 w3 g4 w4 g5 w5 g6 w6 g7 w7 g8 w8 g14 x0 x1 x2 x3 x4 x5 x6 x7)) (ix3 0 j d)
    = View.canon (kernelRun0_A.sl.H11_1_1 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) + Gc x0 x1 x2 x3 x4 x5 x6 x7 2 ⟨1536 + j.val, by omega⟩ d := by
  have hr : kernelRun0_A.sl.v319 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_1_1 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) :=
    read_rows g12 _ _ rfl j d _
  rw [← hr]
  clear hr
  rw [col_3 j (by omega)]
  refine Eq.trans ?_ (congrArg (kernelRun0_A.sl.v319 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_below _ _ _ _ _ _ _ _ d (by rw [col_val (by decide)]; omega)).symm)
  unfold kernelRun0_A.sl.r_42
  generalize kernelRun0_A.sl.v319 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq3 (j : Fin 512) (d : Fin 64) : (k0_pay149 (kernelRun0_A.sl.r_44 c g2 w2 x1) (kernelRun0_A.sl.r_48 c g1 w1 g2 w2 g3 w3 g4 w4 g5 w5 g6 w6 g7 w7 g8 w8 g14 x0 x1 x2 x3 x4 x5 x6 x7) (kernelRun0_A.sl.v387 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon ((st3 c i g1 w1 g2 w2 g3 w3 g4 w4 g5 w5 g6 w6 g7 w7 g8 w8 g9 w9 g10 w10 g11 w11 g12 w12 g13 w13 g14 w14 x0 x1 x2 x3 x4 x5 x6 x7).2.1 ++ rq2 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) + Gq x0 x1 x2 x3 x4 x5 x6 x7 3 ⟨1536 + j.val, by omega⟩ d := by
  have hr : kernelRun0_A.sl.v387 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st3 c i g1 w1 g2 w2 g3 w3 g4 w4 g5 w5 g6 w6 g7 w7 g8 w8 g9 w9 g10 w10 g11 w11 g12 w12 g13 w13 g14 w14 x0 x1 x2 x3 x4 x5 x6 x7).2.1 ++ rq2 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) :=
    read_rows g9 _ _ rfl j d _
  rw [← hr]
  clear hr
  rw [col_3 j (by omega)]
  refine Eq.trans ?_ (congrArg (kernelRun0_A.sl.v387 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_diag _ _ _ _ _ _ _ _ (by decide) j d).symm)
  generalize kernelRun0_A.sl.v387 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc3 (j : Fin 512) (d : Fin 1) : (k0_pay150 (kernelRun0_A.sl.r_47 c g1 w1 g2 w2 g3 w3 g4 w4 g5 w5 g6 w6 g7 w7 g8 w8 g14 x0 x1 x2 x3 x4 x5 x6 x7) (kernelRun0_A.sl.v396 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon ((st3 c i g1 w1 g2 w2 g3 w3 g4 w4 g5 w5 g6 w6 g7 w7 g8 w8 g9 w9 g10 w10 g11 w11 g12 w12 g13 w13 g14 w14 x0 x1 x2 x3 x4 x5 x6 x7).2.2 ++ rc2 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) + Gc x0 x1 x2 x3 x4 x5 x6 x7 3 ⟨1536 + j.val, by omega⟩ d := by
  have hr : kernelRun0_A.sl.v396 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st3 c i g1 w1 g2 w2 g3 w3 g4 w4 g5 w5 g6 w6 g7 w7 g8 w8 g9 w9 g10 w10 g11 w11 g12 w12 g13 w13 g14 w14 x0 x1 x2 x3 x4 x5 x6 x7).2.2 ++ rc2 c i g1 w1 g2 w2 g3 w3 g4 w4 g5 w5 g6 w6 g7 w7 g8 w8 g9 w9 g10 w10 g11 w11 g12 w12 g13 w13 g14 w14 x0 x1 x2 x3 x4 x5 x6 x7) (ix3 0 (⟨1536 + j.val, by omega⟩ : Fin 4096) d) :=
    read_rows g12 _ _ rfl j d _
  rw [← hr]
  clear hr
  rw [col_3 j (by omega)]
  refine Eq.trans ?_ (congrArg (kernelRun0_A.sl.v396 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_diag _ _ _ _ _ _ _ _ (by decide) j d).symm)
  generalize kernelRun0_A.sl.v396 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq4a (j : Fin 512) (d : Fin 64) : (k0_pay172 (kernelRun0_A.sl.r_52 c g2 w2 x1) (kernelRun0_A.sl.r_53 c g3 w3 x2) (kernelRun0_A.sl.r_56 g8 w8 x7) (kernelRun0_A.sl.r_57 c g1 w1 g2 w2 g4 w4 g5 w5 g7 w7 x0 x1 x3 x4 x6) kernelRun0_A.sl.v444 (kernelRun0_A.sl.v454 c g6 w6 g8 w8 g14 x5 x7) (kernelRun0_A.sl.v464 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon ((st4 c i g1 w1 g2 w2 g3 w3 g4 w4 g5 w5 g6 w6 g7 w7 g8 w8 g9 w9 g10 w10 g11 w11 g12 w12 g13 w13 g14 w14 x0 x1 x2 x3 x4 x5 x6 x7).2.1 ++ rq3 c i g1 w1 g2 w2 g3 w3 g4 w4 g5 w5 g6 w6 g7 w7 g8 w8 g9 w9 g10 w10 g11 w11 g12 w12 g13 w13 g14 w14 x0 x1 x2 x3 x4 x5 x6 x7) (ix3 0 (⟨2048 + j.val, by omega⟩ : Fin 4096) d) + Gq x0 x1 x2 x3 x4 x5 x6 x7 4 ⟨2048 + j.val, by omega⟩ d := by
  have hr : kernelRun0_A.sl.v464 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st4 c i g1 w1 g2 w2 g3 w3 g4 w4 g5 w5 g6 w6 g7 w7 g8 w8 g9 w9 g10 w10 g11 w11 g12 w12 g13 w13 g14 w14 x0 x1 x2 x3 x4 x5 x6 x7).2.1 ++ rq3 c i g1 w1 g2 w2 g3 w3 g4 w4 g5 w5 g6 w6 g7 w7 g8 w8 g9 w9 g10 w10 g11 w11 g12 w12 g13 w13 g14 w14 x0 x1 x2 x3 x4 x5 x6 x7) (ix3 0 (⟨2048 + j.val, by omega⟩ : Fin 4096) d) :=
    read_rows g9 _ _ rfl j d _
  rw [← hr]
  clear hr
  rw [col_4 j (by omega)]
  refine Eq.trans ?_ (congrArg (kernelRun0_A.sl.v464 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_diag _ _ _ _ _ _ _ _ (by decide) j d).symm)
  generalize kernelRun0_A.sl.v464 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc4a (j : Fin 512) (d : Fin 1) : (kernelRun0_A.sl.r_61 c i g1 w1 g2 w2 g3 w3 g4 w4 g5 w5 g6 w6 g7 w7 g8 w8 g9 w9 g10 w10 g11 w11 g12 w12 g13 w13 g14 w14 x0 x1 x2 x3 x4 x5 x6 x7) (ix3 0 j d)
    = View.canon ((st4 c i g1 w1 g2 w2 g3 w3 g4 w4 g5 w5 g6 w6 g7 w7 g8 w8 g9 w9 g10 w10 g11 w11 g12 w12 g13 w13 g14 w14 x0 x1 x2 x3 x4 x5 x6 x7).2.2 ++ rc3 c i g1 w1 g2 w2 g3 w3 g4 w4 g5 w5 g6 w6 g7 w7 g8 w8 g9 w9 g10 w10 g11 w11 g12 w12 g13 w13 g14 w14 x0 x1 x2 x3 x4 x5 x6 x7) (ix3 0 (⟨2048 + j.val, by omega⟩ : Fin 4096) d) + Gc x0 x1 x2 x3 x4 x5 x6 x7 4 ⟨2048 + j.val, by omega⟩ d := by
  have hr : kernelRun0_A.sl.v473 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon ((st4 c i g1 w1 g2 w2 g3 w3 g4 w4 g5 w5 g6 w6 g7 w7 g8 w8 g9 w9 g10 w10 g11 w11 g12 w12 g13 w13 g14 w14 x0 x1 x2 x3 x4 x5 x6 x7).2.2 ++ rc3 c i g1 w1 g2 w2 g3 w3 g4 w4 g5 w5 g6 w6 g7 w7 g8 w8 g9 w9 g10 w10 g11 w11 g12 w12 g13 w13 g14 w14 x0 x1 x2 x3 x4 x5 x6 x7) (ix3 0 (⟨2048 + j.val, by omega⟩ : Fin 4096) d) :=
    read_rows g12 _ _ rfl j d _
  rw [← hr]
  clear hr
  rw [col_4 j (by omega)]
  refine Eq.trans ?_ (congrArg (kernelRun0_A.sl.v473 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_diag _ _ _ _ _ _ _ _ (by decide) j d).symm)
  unfold kernelRun0_A.sl.r_61
  generalize kernelRun0_A.sl.v473 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq4b (j : Fin 512) (d : Fin 64) : (k0_pay185 (kernelRun0_A.sl.r_66 c i g1 w1 g2 w2 g3 w3 g4 w4 g5 w5 g6 w6 g7 w7 g8 w8 g9 w9 g10 w10 g11 w11 g12 w12 g13 w13 g14 w14 x0 x1 x2 x3 x4 x5 x6 x7) (kernelRun0_A.sl.r_67 c g1 w1 g2 w2 g3 w3 g4 w4 g5 w5 g6 w6 g7 w7 g8 w8 g14 x0 x1 x2 x3 x4 x5 x6 x7) k0_pay184) (ix3 0 j d)
    = View.canon (kernelRun0_A.sl.H8_1_2 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) + Gq x0 x1 x2 x3 x4 x5 x6 x7 4 ⟨2560 + j.val, by omega⟩ d := by
  have hr : kernelRun0_A.sl.v512 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_1_2 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) :=
    read_rows g9 _ _ rfl j d _
  rw [← hr]
  clear hr
  rw [col_5 j (by omega)]
  refine Eq.trans ?_ (congrArg (kernelRun0_A.sl.v512 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_below _ _ _ _ _ _ _ _ d (by rw [col_val (by decide)]; omega)).symm)
  unfold kernelRun0_A.sl.r_66
  generalize kernelRun0_A.sl.v512 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc4b (j : Fin 512) (d : Fin 1) : (k0_pay186 (kernelRun0_A.sl.r_63 c g1 w1 g2 w2 g3 w3 g4 w4 g5 w5 g6 w6 g7 w7 g8 w8 g14 x0 x1 x2 x3 x4 x5 x6 x7) (kernelRun0_A.sl.v521 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H11_1_2 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) + Gc x0 x1 x2 x3 x4 x5 x6 x7 4 ⟨2560 + j.val, by omega⟩ d := by
  have hr : kernelRun0_A.sl.v521 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_1_2 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) :=
    read_rows g12 _ _ rfl j d _
  rw [← hr]
  clear hr
  rw [col_5 j (by omega)]
  refine Eq.trans ?_ (congrArg (kernelRun0_A.sl.v521 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_below _ _ _ _ _ _ _ _ d (by rw [col_val (by decide)]; omega)).symm)
  generalize kernelRun0_A.sl.v521 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq4c (j : Fin 1024) (d : Fin 64) : (k0_pay197 (kernelRun0_A.sl.r_52 c g2 w2 x1) (kernelRun0_A.sl.r_53 c g3 w3 x2) (kernelRun0_A.sl.r_70 g8 w8 x7) (kernelRun0_A.sl.r_71 c g1 w1 g2 w2 g4 w4 g5 w5 x0 x1 x3 x4) (kernelRun0_A.sl.r_72 g7 w7 x6) (kernelRun0_A.sl.v557 c g6 w6 g8 w8 g14 x5 x7) (kernelRun0_A.sl.v568 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H8_2_1 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) + Gq x0 x1 x2 x3 x4 x5 x6 x7 4 ⟨3072 + j.val, by omega⟩ d := by
  have hr : kernelRun0_A.sl.v568 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_2_1 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) :=
    read_rows g9 _ _ k0_off13_eq j d _
  rw [← hr]
  clear hr
  refine Eq.trans ?_ (congrArg (kernelRun0_A.sl.v568 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_below _ _ _ _ _ _ _ _ d (by show 2560 ≤ 3072 + j.val; omega)).symm)
  generalize kernelRun0_A.sl.v568 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc4c (j : Fin 1024) (d : Fin 1) : (k0_pay198 (kernelRun0_A.sl.r_53 c g3 w3 x2) (kernelRun0_A.sl.r_70 g8 w8 x7) (kernelRun0_A.sl.r_71 c g1 w1 g2 w2 g4 w4 g5 w5 x0 x1 x3 x4) (kernelRun0_A.sl.r_72 g7 w7 x6) (kernelRun0_A.sl.v557 c g6 w6 g8 w8 g14 x5 x7) (kernelRun0_A.sl.v579 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H11_2_1 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) + Gc x0 x1 x2 x3 x4 x5 x6 x7 4 ⟨3072 + j.val, by omega⟩ d := by
  have hr : kernelRun0_A.sl.v579 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_2_1 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) :=
    read_rows g12 _ _ k0_off14_eq j d _
  rw [← hr]
  clear hr
  refine Eq.trans ?_ (congrArg (kernelRun0_A.sl.v579 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_below _ _ _ _ _ _ _ _ d (by show 2560 ≤ 3072 + j.val; omega)).symm)
  generalize kernelRun0_A.sl.v579 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq5a (j : Fin 512) (d : Fin 64) : (k0_pay218 (kernelRun0_A.sl.r_76 c g2 w2 x1) (kernelRun0_A.sl.r_77 c g3 w3 x2) (kernelRun0_A.sl.r_78 c g5 w5 x4) (kernelRun0_A.sl.r_80 g8 w8 x7) (kernelRun0_A.sl.r_81 c g1 w1 g2 w2 x0 x1) (kernelRun0_A.sl.r_82 g4 w4 x3) (View.readAt (Elt Ideal) g7.view (Rect.unit (s := S1x4096x1) ![0, 2560, 0] Cert.AttnKIdeal.S1x512x1.size inb_S1x4096x1_S1x512x1_0_2560_0).toLoadRect (w7.unread x6)) (kernelRun0_A.sl.v502 c g6 w6 g8 w8 g14 x5 x7) (kernelRun0_A.sl.v646 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H8_3_1 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) + Gq x0 x1 x2 x3 x4 x5 x6 x7 5 ⟨2560 + j.val, by omega⟩ d := by
  have hr : kernelRun0_A.sl.v646 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_3_1 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) :=
    read_rows g9 _ _ rfl j d _
  rw [← hr]
  clear hr
  rw [col_5 j (by omega)]
  refine Eq.trans ?_ (congrArg (kernelRun0_A.sl.v646 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_diag _ _ _ _ _ _ _ _ (by decide) j d).symm)
  generalize kernelRun0_A.sl.v646 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc5a (j : Fin 512) (d : Fin 1) : (k0_pay219 (kernelRun0_A.sl.r_83 c g1 w1 g2 w2 g3 w3 g4 w4 g5 w5 g6 w6 g7 w7 g8 w8 g14 x0 x1 x2 x3 x4 x5 x6 x7) (kernelRun0_A.sl.v655 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H11_3_1 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) + Gc x0 x1 x2 x3 x4 x5 x6 x7 5 ⟨2560 + j.val, by omega⟩ d := by
  have hr : kernelRun0_A.sl.v655 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_3_1 c i g1 w1 g2 w2 g3 w3 g4 w4 g5 w5 g6 w6 g7 w7 g8 w8 g9 w9 g10 w10 g11 w11 g12 w12 g13 w13 g14 w14 x0 x1 x2 x3 x4 x5 x6 x7) (ix3 0 (⟨2560 + j.val, by omega⟩ : Fin 4096) d) :=
    read_rows g12 _ _ rfl j d _
  rw [← hr]
  clear hr
  rw [col_5 j (by omega)]
  refine Eq.trans ?_ (congrArg (kernelRun0_A.sl.v655 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_diag _ _ _ _ _ _ _ _ (by decide) j d).symm)
  generalize kernelRun0_A.sl.v655 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq5b (j : Fin 1024) (d : Fin 64) : (k0_pay226 (kernelRun0_A.sl.r_76 c g2 w2 x1) (kernelRun0_A.sl.r_90 c g1 w1 g2 w2 g3 w3 g4 w4 g5 w5 g6 w6 g7 w7 g8 w8 g14 x0 x1 x2 x3 x4 x5 x6 x7) (kernelRun0_A.sl.v702 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H8_4 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) + Gq x0 x1 x2 x3 x4 x5 x6 x7 5 ⟨3072 + j.val, by omega⟩ d := by
  have hr : kernelRun0_A.sl.v702 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_4 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) :=
    read_rows g9 _ _ k0_off13_eq j d _
  rw [← hr]
  clear hr
  refine Eq.trans ?_ (congrArg (kernelRun0_A.sl.v702 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_below _ _ _ _ _ _ _ _ d (by show 3072 ≤ 3072 + j.val; omega)).symm)
  generalize kernelRun0_A.sl.v702 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc5b (j : Fin 1024) (d : Fin 1) : (k0_pay227 (kernelRun0_A.sl.r_90 c g1 w1 g2 w2 g3 w3 g4 w4 g5 w5 g6 w6 g7 w7 g8 w8 g14 x0 x1 x2 x3 x4 x5 x6 x7) (kernelRun0_A.sl.v713 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H11_4 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) + Gc x0 x1 x2 x3 x4 x5 x6 x7 5 ⟨3072 + j.val, by omega⟩ d := by
  have hr : kernelRun0_A.sl.v713 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_4 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) :=
    read_rows g12 _ _ k0_off14_eq j d _
  rw [← hr]
  clear hr
  refine Eq.trans ?_ (congrArg (kernelRun0_A.sl.v713 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_below _ _ _ _ _ _ _ _ d (by show 3072 ≤ 3072 + j.val; omega)).symm)
  generalize kernelRun0_A.sl.v713 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq6a (j : Fin 512) (d : Fin 64) : (k0_pay246 (kernelRun0_A.sl.r_93 c g2 w2 x1) (kernelRun0_A.sl.r_94 c g3 w3 x2) (kernelRun0_A.sl.r_97 g8 w8 x7) (kernelRun0_A.sl.r_98 c g1 w1 g2 w2 g4 w4 g5 w5 g7 w7 x0 x1 x3 x4 x6) (kernelRun0_A.sl.v770 c g6 w6 g8 w8 g14 x5 x7) (kernelRun0_A.sl.v780 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H8_5 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) + Gq x0 x1 x2 x3 x4 x5 x6 x7 6 ⟨3072 + j.val, by omega⟩ d := by
  have hr : kernelRun0_A.sl.v780 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_5 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) :=
    read_rows g9 _ _ rfl j d _
  rw [← hr]
  clear hr
  rw [col_6 j (by omega)]
  refine Eq.trans ?_ (congrArg (kernelRun0_A.sl.v780 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_diag _ _ _ _ _ _ _ _ (by decide) j d).symm)
  generalize kernelRun0_A.sl.v780 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc6a (j : Fin 512) (d : Fin 1) : (k0_pay248 (kernelRun0_A.sl.r_102 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H11_5 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) + Gc x0 x1 x2 x3 x4 x5 x6 x7 6 ⟨3072 + j.val, by omega⟩ d := by
  have hr : kernelRun0_A.sl.v789 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_5 c i g1 w1 g2 w2 g3 w3 g4 w4 g5 w5 g6 w6 g7 w7 g8 w8 g9 w9 g10 w10 g11 w11 g12 w12 g13 w13 g14 w14 x0 x1 x2 x3 x4 x5 x6 x7) (ix3 0 (⟨3072 + j.val, by omega⟩ : Fin 4096) d) :=
    read_rows g12 _ _ rfl j d _
  rw [← hr]
  clear hr
  rw [col_6 j (by omega)]
  refine Eq.trans ?_ (congrArg (kernelRun0_A.sl.v789 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_diag _ _ _ _ _ _ _ _ (by decide) j d).symm)
  unfold kernelRun0_A.sl.r_102
  generalize kernelRun0_A.sl.v789 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq6b (j : Fin 512) (d : Fin 64) : (k0_pay259 (kernelRun0_A.sl.r_107 c i g1 w1 g2 w2 g3 w3 g4 w4 g5 w5 g6 w6 g7 w7 g8 w8 g9 w9 g10 w10 g11 w11 g12 w12 g13 w13 g14 w14 x0 x1 x2 x3 x4 x5 x6 x7) (kernelRun0_A.sl.r_108 c g1 w1 g2 w2 g3 w3 g4 w4 g5 w5 g6 w6 g7 w7 g8 w8 g14 x0 x1 x2 x3 x4 x5 x6 x7)) (ix3 0 j d)
    = View.canon (kernelRun0_A.sl.H8_6 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) + Gq x0 x1 x2 x3 x4 x5 x6 x7 6 ⟨3584 + j.val, by omega⟩ d := by
  have hr : kernelRun0_A.sl.v828 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_6 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) :=
    read_rows g9 _ _ rfl j d _
  rw [← hr]
  clear hr
  rw [col_7 j (by omega)]
  refine Eq.trans ?_ (congrArg (kernelRun0_A.sl.v828 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_below _ _ _ _ _ _ _ _ d (by rw [col_val (by decide)]; omega)).symm)
  unfold kernelRun0_A.sl.r_107
  generalize kernelRun0_A.sl.v828 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc6b (j : Fin 512) (d : Fin 1) : (k0_pay260 (kernelRun0_A.sl.r_104 c g1 w1 g2 w2 g3 w3 g4 w4 g5 w5 g6 w6 g7 w7 g8 w8 g14 x0 x1 x2 x3 x4 x5 x6 x7) (kernelRun0_A.sl.v837 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H11_6 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) + Gc x0 x1 x2 x3 x4 x5 x6 x7 6 ⟨3584 + j.val, by omega⟩ d := by
  have hr : kernelRun0_A.sl.v837 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_6 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) :=
    read_rows g12 _ _ rfl j d _
  rw [← hr]
  clear hr
  rw [col_7 j (by omega)]
  refine Eq.trans ?_ (congrArg (kernelRun0_A.sl.v837 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_below _ _ _ _ _ _ _ _ d (by rw [col_val (by decide)]; omega)).symm)
  generalize kernelRun0_A.sl.v837 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowq7 (j : Fin 512) (d : Fin 64) : (k0_pay275 (kernelRun0_A.sl.r_109 c g2 w2 x1) (kernelRun0_A.sl.r_112 c g1 w1 g2 w2 g4 w4 g5 w5 g7 w7 x0 x1 x3 x4 x6) (kernelRun0_A.sl.r_113 c g3 w3 g8 w8 x2 x7) (kernelRun0_A.sl.v818 c g6 w6 g8 w8 g14 x5 x7) (kernelRun0_A.sl.v903 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H8_7 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) + Gq x0 x1 x2 x3 x4 x5 x6 x7 7 ⟨3584 + j.val, by omega⟩ d := by
  have hr : kernelRun0_A.sl.v903 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H8_7 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) :=
    read_rows g9 _ _ rfl j d _
  rw [← hr]
  clear hr
  rw [col_7 j (by omega)]
  refine Eq.trans ?_ (congrArg (kernelRun0_A.sl.v903 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gq_diag _ _ _ _ _ _ _ _ (by decide) j d).symm)
  generalize kernelRun0_A.sl.v903 c i g1 w1 g2 w2 g3 w3 g4 w4 g5 w5 g6 w6 g7 w7 g8 w8 g9 w9 g10 w10 g11 w11 g12 w12 g13 w13 g14 w14 x0 x1 x2 x3 x4 x5 x6 x7 = V

  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

theorem rowc7 (j : Fin 512) (d : Fin 1) : (k0_pay276 (kernelRun0_A.sl.r_112 c g1 w1 g2 w2 g4 w4 g5 w5 g7 w7 x0 x1 x3 x4 x6) (kernelRun0_A.sl.r_113 c g3 w3 g8 w8 x2 x7) (kernelRun0_A.sl.v818 c g6 w6 g8 w8 g14 x5 x7) (kernelRun0_A.sl.v912 c i g1 w1 g2 w2 g3 w3 g4 w4 g5 w5 g6 w6 g7 w7 g8 w8 g9 w9 g10 w10 g11 w11 g12 w12 g13 w13 g14 w14 x0 x1 x2 x3 x4 x5 x6 x7)) (ix3 0 j d)
    = View.canon (kernelRun0_A.sl.H11_7 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) + Gc x0 x1 x2 x3 x4 x5 x6 x7 7 ⟨3584 + j.val, by omega⟩ d := by
  have hr : kernelRun0_A.sl.v912 c i g1 w1 g2 w2 g3 w3 g4 w4 g5 w5 g6 w6 g7 w7 g8 w8 g9 w9 g10 w10 g11 w11 g12 w12 g13 w13 g14 w14 x0 x1 x2 x3 x4 x5 x6 x7 (ix3 0 j d) = View.canon (kernelRun0_A.sl.H11_7 c i g1 w1 g2 w2 g3 w3 g4 w4 g5 w5 g6 w6 g7 w7 g8 w8 g9 w9 g10 w10 g11 w11 g12 w12 g13 w13 g14 w14 x0 x1 x2 x3 x4 x5 x6 x7) (ix3 0 (⟨3584 + j.val, by omega⟩ : Fin 4096) d) :=
    read_rows g12 _ _ rfl j d _
  rw [← hr]
  clear hr
  rw [col_7 j (by omega)]
  refine Eq.trans ?_ (congrArg (kernelRun0_A.sl.v912 c i g1 w1 g2 w2 g3 w3 g4 w4 g5 w5 g6 w6 g7 w7 g8 w8 g9 w9 g10 w10 g11 w11 g12 w12 g13 w13 g14 w14 x0 x1 x2 x3 x4 x5 x6 x7 (ix3 0 j d) + ·) (Gc_diag _ _ _ _ _ _ _ _ (by decide) j d).symm)
  generalize kernelRun0_A.sl.v912 c i g1 w1 g2 w2 g3 w3 g4 w4 g5 w5 g6 w6 g7 w7 g8 w8 g9 w9 g10 w10 g11 w11 g12 w12 g13 w13 g14 w14 x0 x1 x2 x3 x4 x5 x6 x7 = V
  obtain rfl : d = 0 := Subsingleton.elim _ _
  sl_unfold_run_values
  simp only [View.readAt_eq_ld, w1.read_unread, w2.read_unread, w3.read_unread, w4.read_unread,
        w5.read_unread, w6.read_unread, w7.read_unread, w8.read_unread, View.readCov_eq_canon']
  open_payloads
  pointwise [k0_off13_eq, k0_off14_eq, k0_off15_eq]
  simp only [select_mask, col_zero, col_1, col_2, col_3, col_4, col_5, col_6, col_7, canon_delta]
  rfl

end Cert.AttnKIdeal.Value
-- ==== Proof.AttnAll.lean ====
/- The attention backward's five results: every write put together, block by block. -/
module
public import proofs.«01_k».proof.Proof.AttnRows
public import Idealize.ShloMosaic.Lib.Tactic.RunNames
@[expose] public section
set_option maxRecDepth 16384
noncomputable section
open Idealize.ShloMosaic Idealize.ShloMosaic.TcCoe Idealize.SL.Sem
namespace Cert.AttnKIdeal.Value
open Cert.AttnKIdeal Cert.AttnKIdeal.Gen

variable (c : Dev nD) (i : grid0.Coords)
  (g1 : Memref sig .tc .vmem S1x4096x64 .bf16) (w1 : g1.IsWhole)
  (g2 : Memref sig .tc .vmem S1x4096x64 .bf16) (w2 : g2.IsWhole)
  (g3 : Memref sig .tc .vmem S1x4096x64 .bf16) (w3 : g3.IsWhole)
  (g4 : Memref sig .tc .vmem S1x4096x1 .f32) (w4 : g4.IsWhole)
  (g5 : Memref sig .tc .vmem S1x8x1x512 .f32) (w5 : g5.IsWhole)
  (g6 : Memref sig .tc .vmem S1x4096x64 .f32) (w6 : g6.IsWhole)
  (g7 : Memref sig .tc .vmem S1x4096x1 .f32) (w7 : g7.IsWhole)
  (g8 : Memref sig .tc .vmem S1x4096x64 .f32) (w8 : g8.IsWhole)
  (g9 : Memref sig .tc .vmem S1x4096x64 .f32) (w9 : g9.IsWhole)
  (g10 : Memref sig .tc .vmem S1x4096x64 .f32) (w10 : g10.IsWhole)
  (g11 : Memref sig .tc .vmem S1x4096x64 .f32) (w11 : g11.IsWhole)
  (g12 : Memref sig .tc .vmem S1x4096x1 .f32) (w12 : g12.IsWhole)
  (g13 : Memref sig .tc .vmem S1x8x1x512 .f32) (w13 : g13.IsWhole)
  (g14 : Memref sig .tc .vmem S4096x1 .f32) (w14 : g14.IsWhole)
    (x0 : Vec Ideal S1x4096x64 .bf16) (x1 : Vec Ideal S1x4096x64 .bf16) (x2 : Vec Ideal S1x4096x64 .bf16) (x3 : Vec Ideal S1x4096x1 .f32) (x4 : Vec Ideal S1x8x1x512 .f32) (x5 : Vec Ideal S1x4096x64 .f32) (x6 : Vec Ideal S1x4096x1 .f32) (x7 : Vec Ideal S1x4096x64 .f32)

theorem canon_zero8 (r : Fin 4096) (d : Fin 64) : View.canon (kernelRun0_A.sl.H8_1 (F := Ideal)) (ix3 0 r d) = 0 := by
  unfold kernelRun0_A.sl.H8_1
  refine (canon_whole (by decide) _ _ _ _).trans ?_
  open_payloads
  pointwise

theorem canon_zero11 (r : Fin 4096) (d : Fin 1) : View.canon (kernelRun0_A.sl.H11_1 (F := Ideal)) (ix3 0 r d) = 0 := by
  unfold kernelRun0_A.sl.H11_1
  refine (canon_whole (by decide) _ _ _ _).trans ?_
  open_payloads
  pointwise

/-! ### Arrays written a key block at a time -/

section Blocks

variable {W : ℕ} (E : ℕ → Fin 512 → Fin W → EReal)

/-- The first `n` key blocks of an array hold their values. -/
def Filled (n : ℕ) (L : List (View.Piece (Elt Ideal) ⟨3, ![1, 4096, W]⟩ .f32)) : Prop :=
  ∀ k, k < n → ∀ (x : Fin 512) (d : Fin W), View.canon L (ix3 0 (col k x) d) = E k x d

theorem filled_push {k a : ℕ} {L : List (View.Piece (Elt Ideal) ⟨3, ![1, 4096, W]⟩ .f32)} (h : Filled E k L) (hk : k < 8)
    (ha : a = 512 * k) {off : Fin 3 → ℕ} (ho : off = ![0, a, 0])
    (inb : ∀ i, off i + (⟨3, ![1, 512, W]⟩ : Shape).size i ≤ (⟨3, ![1, 4096, W]⟩ : Shape).size i)
    (P : Vec Ideal (⟨3, ![1, 512, W]⟩ : Shape) .f32) (hP : ∀ x d, P (ix3 0 x d) = E k x d) :
    Filled E (k + 1) (⟨Rect.unit (s := ⟨3, ![1, 4096, W]⟩) off (⟨3, ![1, 512, W]⟩ : Shape).size inb, P⟩ :: L) := by
  subst ho ha
  intro k' hk' x d
  by_cases hkk : k' = k
  · subst hkk
    have e : (Rect.unit (s := ⟨3, ![1, 4096, W]⟩) ![0, 512 * k', 0] (⟨3, ![1, 512, W]⟩ : Shape).size inb).emb (ix3 0 x d)
        = ix3 0 (col k' x) d := by
      funext i
      refine Fin.ext ?_
      match i with
      | ⟨0, _⟩ => rfl
      | ⟨1, _⟩ => show 512 * k' + 1 * x.val = (col k' x).val; rw [col_val hk]; omega
      | ⟨2, _⟩ => show 0 + 1 * d.val = d.val; omega
    rw [← e, View.canon_cons_emb, hP]
  · rw [View.canon_cons_of_not_mem, h k' (by omega) x d]
    rw [Rect.mem_set_unit]
    intro hm
    have h1 : 512 * k ≤ (col k' x).val := (hm 1).1
    rw [col_val (by omega)] at h1
    omega

variable (D : ℕ → Fin 512 → EReal)

/-- The same for an array with a row for each key block. -/
def FilledRow (n : ℕ) (L : List (View.Piece (Elt Ideal) S1x8x1x512 .f32)) : Prop :=
  ∀ k, k < n → ∀ x : Fin 512, View.canon L (ix4 0 (Fin.ofNat 8 k) 0 x) = D k x

theorem filledRow_push {k : ℕ} {L : List (View.Piece (Elt Ideal) S1x8x1x512 .f32)} (h : FilledRow D k L) (hk : k < 8)
    {off : Fin 4 → ℕ} (ho : off = ![0, k, 0, 0])
    (inb : ∀ i, off i + S1x1x1x512.size i ≤ S1x8x1x512.size i)
    (P : Vec Ideal S1x1x1x512 .f32) (hP : ∀ x, P (ix4 0 0 0 x) = D k x) :
    FilledRow D (k + 1) (⟨Rect.unit (s := S1x8x1x512) off S1x1x1x512.size inb, P⟩ :: L) := by
  subst ho
  intro k' hk' x
  have hv : (Fin.ofNat 8 k' : Fin 8).val = k' := Nat.mod_eq_of_lt (by omega)
  by_cases hkk : k' = k
  · subst hkk
    have e : (Rect.unit (s := S1x8x1x512) ![0, k', 0, 0] S1x1x1x512.size inb).emb (ix4 0 0 0 x) = ix4 0 (Fin.ofNat 8 k') 0 x := by
      funext i
      refine Fin.ext ?_
      match i with
      | ⟨0, _⟩ => rfl
      | ⟨1, _⟩ => show k' + 1 * 0 = (Fin.ofNat 8 k' : Fin 8).val; rw [hv]; omega
      | ⟨2, _⟩ => rfl
      | ⟨3, _⟩ => show 0 + 1 * x.val = x.val; omega
    rw [← e, View.canon_cons_emb, hP]
  · rw [View.canon_cons_of_not_mem, h k' (by omega) x]
    rw [Rect.mem_set_unit]
    intro hm
    have h1 : k ≤ (Fin.ofNat 8 k' : Fin 8).val := (hm 1).1
    rw [hv] at h1
    omega

end Blocks

/-! ### Rows and sums, key block by key block -/

variable (hf : RealDs x0 x1 x2 x3 x4 x5 x6 x7)

include hf

theorem before0 : Inv x0 x1 x2 x3 x4 x5 x6 x7 0 1024 (kernelRun0_A.sl.r_14 c g1 w1 g2 w2 g3 w3 g4 w4 g5 w5 g6 w6 g7 w7 g8 w8 g14 x0 x1 x2 x3 x4 x5 x6 x7, kernelRun0_A.sl.r_13 c g1 w1 g2 w2 g4 w4 g5 w5 g7 w7 g8 w8 x0 x1 x3 x4 x6 x7, kernelRun0_A.sl.r_15 c g1 w1 g2 w2 g3 w3 g4 w4 g5 w5 g6 w6 g7 w7 g8 w8 g14 x0 x1 x2 x3 x4 x5 x6 x7) (kernelRun0_A.sl.H8_3 c g1 w1 g2 w2 g3 w3 g4 w4 g5 w5 g6 w6 g7 w7 g8 w8 g9 g14 x0 x1 x2 x3 x4 x5 x6 x7) (kernelRun0_A.sl.H11_3 c g1 w1 g2 w2 g3 w3 g4 w4 g5 w5 g6 w6 g7 w7 g8 w8 g12 g14 x0 x1 x2 x3 x4 x5 x6 x7) := by
  exact
  { below := by decide
    dq := upto_push (a := 512) (n := 512) _ (upto_push (a := 0) (n := 512) _ (upto_start _ _ canon_zero8) _ rfl (by decide) _ fun j d => rowq0a c g1 w1 g2 w2 g3 w3 g4 w4 g5 w5 g6 w6 g7 w7 g8 w8 g9 g14 x0 x1 x2 x3 x4 x5 x6 x7 j d) _ rfl (by decide) _ fun j d => rowq0b c g1 w1 g2 w2 g3 w3 g4 w4 g5 w5 g6 w6 g7 w7 g8 w8 g9 g14 x0 x1 x2 x3 x4 x5 x6 x7 j d
    dcq := upto_push (a := 512) (n := 512) _ (upto_push (a := 0) (n := 512) _ (upto_start _ _ canon_zero11) _ rfl (by decide) _ fun j d => rowc0a c g1 w1 g2 w2 g3 w3 g4 w4 g5 w5 g6 w6 g7 w7 g8 w8 g12 g14 x0 x1 x2 x3 x4 x5 x6 x7 j d) _ rfl (by decide) _ fun j d => rowc0b c g1 w1 g2 w2 g3 w3 g4 w4 g5 w5 g6 w6 g7 w7 g8 w8 g12 g14 x0 x1 x2 x3 x4 x5 x6 x7 j d
    sums := sums0 c g1 w1 g2 w2 g3 w3 g4 w4 g5 w5 g6 w6 g7 w7 g8 w8 g14 x0 x1 x2 x3 x4 x5 x6 x7 hf }

theorem after0 : Inv x0 x1 x2 x3 x4 x5 x6 x7 0 4096 (st1 c i g1 w1 g2 w2 g3 w3 g4 w4 g5 w5 g6 w6 g7 w7 g8 w8 g9 w9 g10 w10 g11 w11 g12 w12 g13 w13 g14 w14 x0 x1 x2 x3 x4 x5 x6 x7).1 ((st1 c i g1 w1 g2 w2 g3 w3 g4 w4 g5 w5 g6 w6 g7 w7 g8 w8 g9 w9 g10 w10 g11 w11 g12 w12 g13 w13 g14 w14 x0 x1 x2 x3 x4 x5 x6 x7).2.1 ++ kernelRun0_A.sl.H8_3 c g1 w1 g2 w2 g3 w3 g4 w4 g5 w5 g6 w6 g7 w7 g8 w8 g9 g14 x0 x1 x2 x3 x4 x5 x6 x7) ((st1 c i g1 w1 g2 w2 g3 w3 g4 w4 g5 w5 g6 w6 g7 w7 g8 w8 g9 w9 g10 w10 g11 w11 g12 w12 g13 w13 g14 w14 x0 x1 x2 x3 x4 x5 x6 x7).2.2 ++ kernelRun0_A.sl.H11_3 c g1 w1 g2 w2 g3 w3 g4 w4 g5 w5 g6 w6 g7 w7 g8 w8 g12 g14 x0 x1 x2 x3 x4 x5 x6 x7) :=
  loop1 c i g1 w1 g2 w2 g3 w3 g4 w4 g5 w5 g6 w6 g7 w7 g8 w8 g9 w9 g10 w10 g11 w11 g12 w12 g13 w13 g14 w14 x0 x1 x2 x3 x4 x5 x6 x7 _ _ _ 0 (tiles0 c g2 w2 g3 w3 g5 w5 x1 x2 x4) _ (canon_delta c g6 w6 g8 w8 x5 x7) hf _ _ _ (kernelRun0_A.sl.r_13 c g1 w1 g2 w2 g4 w4 g5 w5 g7 w7 g8 w8 x0 x1 x3 x4 x6 x7) (kernelRun0_A.sl.r_14 c g1 w1 g2 w2 g3 w3 g4 w4 g5 w5 g6 w6 g7 w7 g8 w8 g14 x0 x1 x2 x3 x4 x5 x6 x7) (kernelRun0_A.sl.r_15 c g1 w1 g2 w2 g3 w3 g4 w4 g5 w5 g6 w6 g7 w7 g8 w8 g14 x0 x1 x2 x3 x4 x5 x6 x7) 1#32 (before0 c g1 w1 g2 w2 g3 w3 g4 w4 g5 w5 g6 w6 g7 w7 g8 w8 g9 g12 g14 x0 x1 x2 x3 x4 x5 x6 x7 hf)

theorem before1 : Inv x0 x1 x2 x3 x4 x5 x6 x7 1 1024 (kernelRun0_A.sl.r_24 c g1 w1 g2 w2 g3 w3 g4 w4 g5 w5 g6 w6 g7 w7 g8 w8 g14 x0 x1 x2 x3 x4 x5 x6 x7, kernelRun0_A.sl.r_23 c g1 w1 g2 w2 g4 w4 g5 w5 g7 w7 g8 w8 x0 x1 x3 x4 x6 x7, k0_pay94 k0_pay82 (kernelRun0_A.sl.r_22 c g1 w1 g2 w2 g3 w3 g4 w4 g5 w5 g6 w6 g7 w7 g8 w8 g14 x0 x1 x2 x3 x4 x5 x6 x7)) (rq1 c i g1 w1 g2 w2 g3 w3 g4 w4 g5 w5 g6 w6 g7 w7 g8 w8 g9 w9 g10 w10 g11 w11 g12 w12 g13 w13 g14 w14 x0 x1 x2 x3 x4 x5 x6 x7) (rc1 c i g1 w1 g2 w2 g3 w3 g4 w4 g5 w5 g6 w6 g7 w7 g8 w8 g9 w9 g10 w10 g11 w11 g12 w12 g13 w13 g14 w14 x0 x1 x2 x3 x4 x5 x6 x7) := by
  have h := after0 c i g1 w1 g2 w2 g3 w3 g4 w4 g5 w5 g6 w6 g7 w7 g8 w8 g9 w9 g10 w10 g11 w11 g12 w12 g13 w13 g14 w14 x0 x1 x2 x3 x4 x5 x6 x7 hf
  exact
  { below := by decide
    dq := upto_push (a := 512) (n := 512) _ (upto_next _ (fun r d h => Gq_above _ _ _ _ _ _ _ _ d h) h.dq) _ rfl (by decide) _ fun j d => rowq1 c i g1 w1 g2 w2 g3 w3 g4 w4 g5 w5 g6 w6 g7 w7 g8 w8 g9 w9 g10 w10 g11 w11 g12 w12 g13 w13 g14 w14 x0 x1 x2 x3 x4 x5 x6 x7 j d
    dcq := upto_push (a := 512) (n := 512) _ (upto_next _ (fun r d h => Gc_above _ _ _ _ _ _ _ _ d h) h.dcq) _ rfl (by decide) _ fun j d => rowc1 c i g1 w1 g2 w2 g3 w3 g4 w4 g5 w5 g6 w6 g7 w7 g8 w8 g9 w9 g10 w10 g11 w11 g12 w12 g13 w13 g14 w14 x0 x1 x2 x3 x4 x5 x6 x7 j d
    sums := sums1 c g1 w1 g2 w2 g3 w3 g4 w4 g5 w5 g6 w6 g7 w7 g8 w8 g14 x0 x1 x2 x3 x4 x5 x6 x7 hf }

theorem after1 : Inv x0 x1 x2 x3 x4 x5 x6 x7 1 4096 (st2 c i g1 w1 g2 w2 g3 w3 g4 w4 g5 w5 g6 w6 g7 w7 g8 w8 g9 w9 g10 w10 g11 w11 g12 w12 g13 w13 g14 w14 x0 x1 x2 x3 x4 x5 x6 x7).1 ((st2 c i g1 w1 g2 w2 g3 w3 g4 w4 g5 w5 g6 w6 g7 w7 g8 w8 g9 w9 g10 w10 g11 w11 g12 w12 g13 w13 g14 w14 x0 x1 x2 x3 x4 x5 x6 x7).2.1 ++ rq1 c i g1 w1 g2 w2 g3 w3 g4 w4 g5 w5 g6 w6 g7 w7 g8 w8 g9 w9 g10 w10 g11 w11 g12 w12 g13 w13 g14 w14 x0 x1 x2 x3 x4 x5 x6 x7) ((st2 c i g1 w1 g2 w2 g3 w3 g4 w4 g5 w5 g6 w6 g7 w7 g8 w8 g9 w9 g10 w10 g11 w11 g12 w12 g13 w13 g14 w14 x0 x1 x2 x3 x4 x5 x6 x7).2.2 ++ rc1 c i g1 w1 g2 w2 g3 w3 g4 w4 g5 w5 g6 w6 g7 w7 g8 w8 g9 w9 g10 w10 g11 w11 g12 w12 g13 w13 g14 w14 x0 x1 x2 x3 x4 x5 x6 x7) :=
  loop2 c i g1 w1 g2 w2 g3 w3 g4 w4 g5 w5 g6 w6 g7 w7 g8 w8 g9 w9 g10 w10 g11 w11 g12 w12 g13 w13 g14 w14 x0 x1 x2 x3 x4 x5 x6 x7 _ _ _ 1 (tiles1 c g2 w2 g3 w3 g5 w5 x1 x2 x4) _ (canon_delta c g6 w6 g8 w8 x5 x7) hf _ _ _ k0_pay82 (kernelRun0_A.sl.r_22 c g1 w1 g2 w2 g3 w3 g4 w4 g5 w5 g6 w6 g7 w7 g8 w8 g14 x0 x1 x2 x3 x4 x5 x6 x7) (kernelRun0_A.sl.r_23 c g1 w1 g2 w2 g4 w4 g5 w5 g7 w7 g8 w8 x0 x1 x3 x4 x6 x7) (kernelRun0_A.sl.r_24 c g1 w1 g2 w2 g3 w3 g4 w4 g5 w5 g6 w6 g7 w7 g8 w8 g14 x0 x1 x2 x3 x4 x5 x6 x7) (kernelRun0_A.sl.r_25 c i g1 w1 g2 w2 g3 w3 g4 w4 g5 w5 g6 w6 g7 w7 g8 w8 g9 w9 g10 w10 g11 w11 g12 w12 g13 w13 g14 w14 x0 x1 x2 x3 x4 x5 x6 x7) (kernelRun0_A.sl.v185 c i g1 w1 g2 w2 g3 w3 g4 w4 g5 w5 g6 w6 g7 w7 g8 w8 g9 w9 g10 w10 g11 w11 g12 w12 g13 w13 g14 w14 x0 x1 x2 x3 x4 x5 x6 x7) (before1 c i g1 w1 g2 w2 g3 w3 g4 w4 g5 w5 g6 w6 g7 w7 g8 w8 g9 w9 g10 w10 g11 w11 g12 w12 g13 w13 g14 w14 x0 x1 x2 x3 x4 x5 x6 x7 hf)

theorem before2 : Inv x0 x1 x2 x3 x4 x5 x6 x7 2 2048 (kernelRun0_A.sl.r_41 c g1 w1 g2 w2 g3 w3 g4 w4 g5 w5 g6 w6 g7 w7 g8 w8 g14 x0 x1 x2 x3 x4 x5 x6 x7, kernelRun0_A.sl.r_40 c g1 w1 g2 w2 g4 w4 g5 w5 g7 w7 g8 w8 x0 x1 x3 x4 x6 x7, k0_pay129 (kernelRun0_A.sl.r_36 c g1 w1 g2 w2 g3 w3 g4 w4 g5 w5 g6 w6 g7 w7 g8 w8 g14 x0 x1 x2 x3 x4 x5 x6 x7) (kernelRun0_A.sl.r_39 c g1 w1 g2 w2 g3 w3 g4 w4 g5 w5 g6 w6 g7 w7 g8 w8 g14 x0 x1 x2 x3 x4 x5 x6 x7)) (rq2 c i g1 w1 g2 w2 g3 w3 g4 w4 g5 w5 g6 w6 g7 w7 g8 w8 g9 w9 g10 w10 g11 w11 g12 w12 g13 w13 g14 w14 x0 x1 x2 x3 x4 x5 x6 x7) (rc2 c i g1 w1 g2 w2 g3 w3 g4 w4 g5 w5 g6 w6 g7 w7 g8 w8 g9 w9 g10 w10 g11 w11 g12 w12 g13 w13 g14 w14 x0 x1 x2 x3 x4 x5 x6 x7) := by
  have h := after1 c i g1 w1 g2 w2 g3 w3 g4 w4 g5 w5 g6 w6 g7 w7 g8 w8 g9 w9 g10 w10 g11 w11 g12 w12 g13 w13 g14 w14 x0 x1 x2 x3 x4 x5 x6 x7 hf
  exact
  { below := by decide
    dq := upto_push (a := 1536) (n := 512) _ (upto_push (a := 1024) (n := 512) _ (upto_next _ (fun r d h => Gq_above _ _ _ _ _ _ _ _ d h) h.dq) _ rfl (by decide) _ fun j d => rowq2a c i g1 w1 g2 w2 g3 w3 g4 w4 g5 w5 g6 w6 g7 w7 g8 w8 g9 w9 g10 w10 g11 w11 g12 w12 g13 w13 g14 w14 x0 x1 x2 x3 x4 x5 x6 x7 j d) _ rfl (by decide) _ fun j d => rowq2b c i g1 w1 g2 w2 g3 w3 g4 w4 g5 w5 g6 w6 g7 w7 g8 w8 g9 w9 g10 w10 g11 w11 g12 w12 g13 w13 g14 w14 x0 x1 x2 x3 x4 x5 x6 x7 j d
    dcq := upto_push (a := 1536) (n := 512) _ (upto_push (a := 1024) (n := 512) _ (upto_next _ (fun r d h => Gc_above _ _ _ _ _ _ _ _ d h) h.dcq) _ rfl (by decide) _ fun j d => rowc2a c i g1 w1 g2 w2 g3 w3 g4 w4 g5 w5 g6 w6 g7 w7 g8 w8 g9 w9 g10 w10 g11 w11 g12 w12 g13 w13 g14 w14 x0 x1 x2 x3 x4 x5 x6 x7 j d) _ rfl (by decide) _ fun j d => rowc2b c i g1 w1 g2 w2 g3 w3 g4 w4 g5 w5 g6 w6 g7 w7 g8 w8 g9 w9 g10 w10 g11 w11 g12 w12 g13 w13 g14 w14 x0 x1 x2 x3 x4 x5 x6 x7 j d
    sums := sums2 c g1 w1 g2 w2 g3 w3 g4 w4 g5 w5 g6 w6 g7 w7 g8 w8 g14 x0 x1 x2 x3 x4 x5 x6 x7 hf }

theorem after2 : Inv x0 x1 x2 x3 x4 x5 x6 x7 2 4096 (st3 c i g1 w1 g2 w2 g3 w3 g4 w4 g5 w5 g6 w6 g7 w7 g8 w8 g9 w9 g10 w10 g11 w11 g12 w12 g13 w13 g14 w14 x0 x1 x2 x3 x4 x5 x6 x7).1 ((st3 c i g1 w1 g2 w2 g3 w3 g4 w4 g5 w5 g6 w6 g7 w7 g8 w8 g9 w9 g10 w10 g11 w11 g12 w12 g13 w13 g14 w14 x0 x1 x2 x3 x4 x5 x6 x7).2.1 ++ rq2 c i g1 w1 g2 w2 g3 w3 g4 w4 g5 w5 g6 w6 g7 w7 g8 w8 g9 w9 g10 w10 g11 w11 g12 w12 g13 w13 g14 w14 x0 x1 x2 x3 x4 x5 x6 x7) ((st3 c i g1 w1 g2 w2 g3 w3 g4 w4 g5 w5 g6 w6 g7 w7 g8 w8 g9 w9 g10 w10 g11 w11 g12 w12 g13 w13 g14 w14 x0 x1 x2 x3 x4 x5 x6 x7).2.2 ++ rc2 c i g1 w1 g2 w2 g3 w3 g4 w4 g5 w5 g6 w6 g7 w7 g8 w8 g9 w9 g10 w10 g11 w11 g12 w12 g13 w13 g14 w14 x0 x1 x2 x3 x4 x5 x6 x7) :=
  loop3 c i g1 w1 g2 w2 g3 w3 g4 w4 g5 w5 g6 w6 g7 w7 g8 w8 g9 w9 g10 w10 g11 w11 g12 w12 g13 w13 g14 w14 x0 x1 x2 x3 x4 x5 x6 x7 _ _ _ 2 (tiles2 c g2 w2 g3 w3 g5 w5 x1 x2 x4) _ (canon_delta c g6 w6 g8 w8 x5 x7) hf _ _ _ (kernelRun0_A.sl.r_36 c g1 w1 g2 w2 g3 w3 g4 w4 g5 w5 g6 w6 g7 w7 g8 w8 g14 x0 x1 x2 x3 x4 x5 x6 x7) (kernelRun0_A.sl.r_39 c g1 w1 g2 w2 g3 w3 g4 w4 g5 w5 g6 w6 g7 w7 g8 w8 g14 x0 x1 x2 x3 x4 x5 x6 x7) (kernelRun0_A.sl.r_40 c g1 w1 g2 w2 g4 w4 g5 w5 g7 w7 g8 w8 x0 x1 x3 x4 x6 x7) (kernelRun0_A.sl.r_41 c g1 w1 g2 w2 g3 w3 g4 w4 g5 w5 g6 w6 g7 w7 g8 w8 g14 x0 x1 x2 x3 x4 x5 x6 x7) (kernelRun0_A.sl.r_42 c i g1 w1 g2 w2 g3 w3 g4 w4 g5 w5 g6 w6 g7 w7 g8 w8 g9 w9 g10 w10 g11 w11 g12 w12 g13 w13 g14 w14 x0 x1 x2 x3 x4 x5 x6 x7) (kernelRun0_A.sl.r_43 c g1 w1 g2 w2 g3 w3 g4 w4 g5 w5 g6 w6 g7 w7 g8 w8 g14 x0 x1 x2 x3 x4 x5 x6 x7) (before2 c i g1 w1 g2 w2 g3 w3 g4 w4 g5 w5 g6 w6 g7 w7 g8 w8 g9 w9 g10 w10 g11 w11 g12 w12 g13 w13 g14 w14 x0 x1 x2 x3 x4 x5 x6 x7 hf)

theorem before3 : Inv x0 x1 x2 x3 x4 x5 x6 x7 3 2048 (k0_pay148 k0_pay139 (kernelRun0_A.sl.r_50 c g1 w1 g2 w2 g3 w3 g4 w4 g5 w5 g6 w6 g7 w7 g8 w8 g14 x0 x1 x2 x3 x4 x5 x6 x7), kernelRun0_A.sl.r_49 c g1 w1 g2 w2 g4 w4 g5 w5 g7 w7 g8 w8 x0 x1 x3 x4 x6 x7, k0_pay151 k0_pay140 (kernelRun0_A.sl.r_47 c g1 w1 g2 w2 g3 w3 g4 w4 g5 w5 g6 w6 g7 w7 g8 w8 g14 x0 x1 x2 x3 x4 x5 x6 x7)) (rq3 c i g1 w1 g2 w2 g3 w3 g4 w4 g5 w5 g6 w6 g7 w7 g8 w8 g9 w9 g10 w10 g11 w11 g12 w12 g13 w13 g14 w14 x0 x1 x2 x3 x4 x5 x6 x7) (rc3 c i g1 w1 g2 w2 g3 w3 g4 w4 g5 w5 g6 w6 g7 w7 g8 w8 g9 w9 g10 w10 g11 w11 g12 w12 g13 w13 g14 w14 x0 x1 x2 x3 x4 x5 x6 x7) := by
  have h := after2 c i g1 w1 g2 w2 g3 w3 g4 w4 g5 w5 g6 w6 g7 w7 g8 w8 g9 w9 g10 w10 g11 w11 g12 w12 g13 w13 g14 w14 x0 x1 x2 x3 x4 x5 x6 x7 hf
  exact
  { below := by decide
    dq := upto_push (a := 1536) (n := 512) _ (upto_next _ (fun r d h => Gq_above _ _ _ _ _ _ _ _ d h) h.dq) _ rfl (by decide) _ fun j d => rowq3 c i g1 w1 g2 w2 g3 w3 g4 w4 g5 w5 g6 w6 g7 w7 g8 w8 g9 w9 g10 w10 g11 w11 g12 w12 g13 w13 g14 w14 x0 x1 x2 x3 x4 x5 x6 x7 j d
    dcq := upto_push (a := 1536) (n := 512) _ (upto_next _ (fun r d h => Gc_above _ _ _ _ _ _ _ _ d h) h.dcq) _ rfl (by decide) _ fun j d => rowc3 c i g1 w1 g2 w2 g3 w3 g4 w4 g5 w5 g6 w6 g7 w7 g8 w8 g9 w9 g10 w10 g11 w11 g12 w12 g13 w13 g14 w14 x0 x1 x2 x3 x4 x5 x6 x7 j d
    sums := sums3 c g1 w1 g2 w2 g3 w3 g4 w4 g5 w5 g6 w6 g7 w7 g8 w8 g14 x0 x1 x2 x3 x4 x5 x6 x7 hf }

theorem after3 : Inv x0 x1 x2 x3 x4 x5 x6 x7 3 4096 (st4 c i g1 w1 g2 w2 g3 w3 g4 w4 g5 w5 g6 w6 g7 w7 g8 w8 g9 w9 g10 w10 g11 w11 g12 w12 g13 w13 g14 w14 x0 x1 x2 x3 x4 x5 x6 x7).1 ((st4 c i g1 w1 g2 w2 g3 w3 g4 w4 g5 w5 g6 w6 g7 w7 g8 w8 g9 w9 g10 w10 g11 w11 g12 w12 g13 w13 g14 w14 x0 x1 x2 x3 x4 x5 x6 x7).2.1 ++ rq3 c i g1 w1 g2 w2 g3 w3 g4 w4 g5 w5 g6 w6 g7 w7 g8 w8 g9 w9 g10 w10 g11 w11 g12 w12 g13 w13 g14 w14 x0 x1 x2 x3 x4 x5 x6 x7) ((st4 c i g1 w1 g2 w2 g3 w3 g4 w4 g5 w5 g6 w6 g7 w7 g8 w8 g9 w9 g10 w10 g11 w11 g12 w12 g13 w13 g14 w14 x0 x1 x2 x3 x4 x5 x6 x7).2.2 ++ rc3 c i g1 w1 g2 w2 g3 w3 g4 w4 g5 w5 g6 w6 g7 w7 g8 w8 g9 w9 g10 w10 g11 w11 g12 w12 g13 w13 g14 w14 x0 x1 x2 x3 x4 x5 x6 x7) :=
  loop4 c i g1 w1 g2 w2 g3 w3 g4 w4 g5 w5 g6 w6 g7 w7 g8 w8 g9 w9 g10 w10 g11 w11 g12 w12 g13 w13 g14 w14 x0 x1 x2 x3 x4 x5 x6 x7 _ _ _ 3 (tiles3 c g2 w2 g3 w3 g5 w5 x1 x2 x4) _ (canon_delta c g6 w6 g8 w8 x5 x7) hf _ _ _ k0_pay139 k0_pay140 (kernelRun0_A.sl.r_47 c g1 w1 g2 w2 g3 w3 g4 w4 g5 w5 g6 w6 g7 w7 g8 w8 g14 x0 x1 x2 x3 x4 x5 x6 x7) (kernelRun0_A.sl.r_48 c g1 w1 g2 w2 g3 w3 g4 w4 g5 w5 g6 w6 g7 w7 g8 w8 g14 x0 x1 x2 x3 x4 x5 x6 x7) (kernelRun0_A.sl.r_49 c g1 w1 g2 w2 g4 w4 g5 w5 g7 w7 g8 w8 x0 x1 x3 x4 x6 x7) (kernelRun0_A.sl.r_50 c g1 w1 g2 w2 g3 w3 g4 w4 g5 w5 g6 w6 g7 w7 g8 w8 g14 x0 x1 x2 x3 x4 x5 x6 x7) (before3 c i g1 w1 g2 w2 g3 w3 g4 w4 g5 w5 g6 w6 g7 w7 g8 w8 g9 w9 g10 w10 g11 w11 g12 w12 g13 w13 g14 w14 x0 x1 x2 x3 x4 x5 x6 x7 hf)

theorem all_dq : Upto (Gq x0 x1 x2 x3 x4 x5 x6 x7) 7 4096 (⟨Rect.unit (s := S1x4096x64) ![0, 3584, 0] Cert.AttnKIdeal.S1x512x64.size inb_S1x4096x64_S1x512x64_0_3584_0, k0_pay275 (kernelRun0_A.sl.r_109 c g2 w2 x1) (kernelRun0_A.sl.r_112 c g1 w1 g2 w2 g4 w4 g5 w5 g7 w7 x0 x1 x3 x4 x6) (kernelRun0_A.sl.r_113 c g3 w3 g8 w8 x2 x7) (kernelRun0_A.sl.v818 c g6 w6 g8 w8 g14 x5 x7) (kernelRun0_A.sl.v903 c i g1 w1 g2 w2 g3 w3 g4 w4 g5 w5 g6 w6 g7 w7 g8 w8 g9 w9 g10 w10 g11 w11 g12 w12 g13 w13 g14 w14 x0 x1 x2 x3 x4 x5 x6 x7)⟩ :: kernelRun0_A.sl.H8_7 c i g1 w1 g2 w2 g3 w3 g4 w4 g5 w5 g6 w6 g7 w7 g8 w8 g9 w9 g10 w10 g11 w11 g12 w12 g13 w13 g14 w14 x0 x1 x2 x3 x4 x5 x6 x7) := by
  have h := after3 c i g1 w1 g2 w2 g3 w3 g4 w4 g5 w5 g6 w6 g7 w7 g8 w8 g9 w9 g10 w10 g11 w11 g12 w12 g13 w13 g14 w14 x0 x1 x2 x3 x4 x5 x6 x7 hf
  exact upto_push (a := 3584) (n := 512) _ (upto_next _ (fun r d h => Gq_above _ _ _ _ _ _ _ _ d h) (upto_push (a := 3584) (n := 512) _ (upto_push (a := 3072) (n := 512) _ (upto_next _ (fun r d h => Gq_above _ _ _ _ _ _ _ _ d h) (upto_push (a := 3072) (n := 1024) _ (upto_push (a := 2560) (n := 512) _ (upto_next _ (fun r d h => Gq_above _ _ _ _ _ _ _ _ d h) (upto_push (a := 3072) (n := 1024) _ (upto_push (a := 2560) (n := 512) _ (upto_push (a := 2048) (n := 512) _ (upto_next _ (fun r d h => Gq_above _ _ _ _ _ _ _ _ d h) (h.dq)) _ rfl (by decide) _ fun j d => rowq4a c i g1 w1 g2 w2 g3 w3 g4 w4 g5 w5 g6 w6 g7 w7 g8 w8 g9 w9 g10 w10 g11 w11 g12 w12 g13 w13 g14 w14 x0 x1 x2 x3 x4 x5 x6 x7 j d) _ rfl (by decide) _ fun j d => rowq4b c i g1 w1 g2 w2 g3 w3 g4 w4 g5 w5 g6 w6 g7 w7 g8 w8 g9 w9 g10 w10 g11 w11 g12 w12 g13 w13 g14 w14 x0 x1 x2 x3 x4 x5 x6 x7 j d) _ k0_off13_eq (by decide) _ fun j d => rowq4c c i g1 w1 g2 w2 g3 w3 g4 w4 g5 w5 g6 w6 g7 w7 g8 w8 g9 w9 g10 w10 g11 w11 g12 w12 g13 w13 g14 w14 x0 x1 x2 x3 x4 x5 x6 x7 j d)) _ rfl (by decide) _ fun j d => rowq5a c i g1 w1 g2 w2 g3 w3 g4 w4 g5 w5 g6 w6 g7 w7 g8 w8 g9 w9 g10 w10 g11 w11 g12 w12 g13 w13 g14 w14 x0 x1 x2 x3 x4 x5 x6 x7 j d) _ k0_off13_eq (by decide) _ fun j d => rowq5b c i g1 w1 g2 w2 g3 w3 g4 w4 g5 w5 g6 w6 g7 w7 g8 w8 g9 w9 g10 w10 g11 w11 g12 w12 g13 w13 g14 w14 x0 x1 x2 x3 x4 x5 x6 x7 j d)) _ rfl (by decide) _ fun j d => rowq6a c i g1 w1 g2 w2 g3 w3 g4 w4 g5 w5 g6 w6 g7 w7 g8 w8 g9 w9 g10 w10 g11 w11 g12 w12 g13 w13 g14 w14 x0 x1 x2 x3 x4 x5 x6 x7 j d) _ rfl (by decide) _ fun j d => rowq6b c i g1 w1 g2 w2 g3 w3 g4 w4 g5 w5 g6 w6 g7 w7 g8 w8 g9 w9 g10 w10 g11 w11 g12 w12 g13 w13 g14 w14 x0 x1 x2 x3 x4 x5 x6 x7 j d)) _ rfl (by decide) _ fun j d => rowq7 c i g1 w1 g2 w2 g3 w3 g4 w4 g5 w5 g6 w6 g7 w7 g8 w8 g9 w9 g10 w10 g11 w11 g12 w12 g13 w13 g14 w14 x0 x1 x2 x3 x4 x5 x6 x7 j d

theorem all_dcq : Upto (Gc x0 x1 x2 x3 x4 x5 x6 x7) 7 4096 (⟨Rect.unit (s := S1x4096x1) ![0, 3584, 0] Cert.AttnKIdeal.S1x512x1.size inb_S1x4096x1_S1x512x1_0_3584_0, k0_pay276 (kernelRun0_A.sl.r_112 c g1 w1 g2 w2 g4 w4 g5 w5 g7 w7 x0 x1 x3 x4 x6) (kernelRun0_A.sl.r_113 c g3 w3 g8 w8 x2 x7) (kernelRun0_A.sl.v818 c g6 w6 g8 w8 g14 x5 x7) (kernelRun0_A.sl.v912 c i g1 w1 g2 w2 g3 w3 g4 w4 g5 w5 g6 w6 g7 w7 g8 w8 g9 w9 g10 w10 g11 w11 g12 w12 g13 w13 g14 w14 x0 x1 x2 x3 x4 x5 x6 x7)⟩ :: kernelRun0_A.sl.H11_7 c i g1 w1 g2 w2 g3 w3 g4 w4 g5 w5 g6 w6 g7 w7 g8 w8 g9 w9 g10 w10 g11 w11 g12 w12 g13 w13 g14 w14 x0 x1 x2 x3 x4 x5 x6 x7) := by
  have h := after3 c i g1 w1 g2 w2 g3 w3 g4 w4 g5 w5 g6 w6 g7 w7 g8 w8 g9 w9 g10 w10 g11 w11 g12 w12 g13 w13 g14 w14 x0 x1 x2 x3 x4 x5 x6 x7 hf
  exact upto_push (a := 3584) (n := 512) _ (upto_next _ (fun r d h => Gc_above _ _ _ _ _ _ _ _ d h) (upto_push (a := 3584) (n := 512) _ (upto_push (a := 3072) (n := 512) _ (upto_next _ (fun r d h => Gc_above _ _ _ _ _ _ _ _ d h) (upto_push (a := 3072) (n := 1024) _ (upto_push (a := 2560) (n := 512) _ (upto_next _ (fun r d h => Gc_above _ _ _ _ _ _ _ _ d h) (upto_push (a := 3072) (n := 1024) _ (upto_push (a := 2560) (n := 512) _ (upto_push (a := 2048) (n := 512) _ (upto_next _ (fun r d h => Gc_above _ _ _ _ _ _ _ _ d h) (h.dcq)) _ rfl (by decide) _ fun j d => rowc4a c i g1 w1 g2 w2 g3 w3 g4 w4 g5 w5 g6 w6 g7 w7 g8 w8 g9 w9 g10 w10 g11 w11 g12 w12 g13 w13 g14 w14 x0 x1 x2 x3 x4 x5 x6 x7 j d) _ rfl (by decide) _ fun j d => rowc4b c i g1 w1 g2 w2 g3 w3 g4 w4 g5 w5 g6 w6 g7 w7 g8 w8 g9 w9 g10 w10 g11 w11 g12 w12 g13 w13 g14 w14 x0 x1 x2 x3 x4 x5 x6 x7 j d) _ k0_off14_eq (by decide) _ fun j d => rowc4c c i g1 w1 g2 w2 g3 w3 g4 w4 g5 w5 g6 w6 g7 w7 g8 w8 g9 w9 g10 w10 g11 w11 g12 w12 g13 w13 g14 w14 x0 x1 x2 x3 x4 x5 x6 x7 j d)) _ rfl (by decide) _ fun j d => rowc5a c i g1 w1 g2 w2 g3 w3 g4 w4 g5 w5 g6 w6 g7 w7 g8 w8 g9 w9 g10 w10 g11 w11 g12 w12 g13 w13 g14 w14 x0 x1 x2 x3 x4 x5 x6 x7 j d) _ k0_off14_eq (by decide) _ fun j d => rowc5b c i g1 w1 g2 w2 g3 w3 g4 w4 g5 w5 g6 w6 g7 w7 g8 w8 g9 w9 g10 w10 g11 w11 g12 w12 g13 w13 g14 w14 x0 x1 x2 x3 x4 x5 x6 x7 j d)) _ rfl (by decide) _ fun j d => rowc6a c i g1 w1 g2 w2 g3 w3 g4 w4 g5 w5 g6 w6 g7 w7 g8 w8 g9 w9 g10 w10 g11 w11 g12 w12 g13 w13 g14 w14 x0 x1 x2 x3 x4 x5 x6 x7 j d) _ rfl (by decide) _ fun j d => rowc6b c i g1 w1 g2 w2 g3 w3 g4 w4 g5 w5 g6 w6 g7 w7 g8 w8 g9 w9 g10 w10 g11 w11 g12 w12 g13 w13 g14 w14 x0 x1 x2 x3 x4 x5 x6 x7 j d)) _ rfl (by decide) _ fun j d => rowc7 c i g1 w1 g2 w2 g3 w3 g4 w4 g5 w5 g6 w6 g7 w7 g8 w8 g9 w9 g10 w10 g11 w11 g12 w12 g13 w13 g14 w14 x0 x1 x2 x3 x4 x5 x6 x7 j d

theorem dk0 (x : Fin 512) (d : Fin 64) : k0_pay74 (F := Ideal) (st1 c i g1 w1 g2 w2 g3 w3 g4 w4 g5 w5 g6 w6 g7 w7 g8 w8 g9 w9 g10 w10 g11 w11 g12 w12 g13 w13 g14 w14 x0 x1 x2 x3 x4 x5 x6 x7).1.1 (ix3 0 x d) = DK x0 x1 x2 x3 x4 x5 x6 x7 0 x d := by
  have h := (after0 c i g1 w1 g2 w2 g3 w3 g4 w4 g5 w5 g6 w6 g7 w7 g8 w8 g9 w9 g10 w10 g11 w11 g12 w12 g13 w13 g14 w14 x0 x1 x2 x3 x4 x5 x6 x7 hf).sums.dk x d
  rw [Tail_end, add_zero] at h
  rw [← h]
  generalize (st1 c i g1 w1 g2 w2 g3 w3 g4 w4 g5 w5 g6 w6 g7 w7 g8 w8 g9 w9 g10 w10 g11 w11 g12 w12 g13 w13 g14 w14 x0 x1 x2 x3 x4 x5 x6 x7).1.1 = V
  open_payloads
  pointwise

theorem dv0 (x : Fin 512) (d : Fin 64) : k0_pay75 (F := Ideal) (st1 c i g1 w1 g2 w2 g3 w3 g4 w4 g5 w5 g6 w6 g7 w7 g8 w8 g9 w9 g10 w10 g11 w11 g12 w12 g13 w13 g14 w14 x0 x1 x2 x3 x4 x5 x6 x7).1.2.1 (ix3 0 x d) = DV x0 x1 x3 x4 x6 x7 0 x d := by
  have h := (after0 c i g1 w1 g2 w2 g3 w3 g4 w4 g5 w5 g6 w6 g7 w7 g8 w8 g9 w9 g10 w10 g11 w11 g12 w12 g13 w13 g14 w14 x0 x1 x2 x3 x4 x5 x6 x7 hf).sums.dv x d
  rw [Tail_end, add_zero] at h
  rw [← h]
  generalize (st1 c i g1 w1 g2 w2 g3 w3 g4 w4 g5 w5 g6 w6 g7 w7 g8 w8 g9 w9 g10 w10 g11 w11 g12 w12 g13 w13 g14 w14 x0 x1 x2 x3 x4 x5 x6 x7).1.2.1 = V
  open_payloads
  pointwise

theorem dck0 (x : Fin 512) : k0_pay76 (F := Ideal) (st1 c i g1 w1 g2 w2 g3 w3 g4 w4 g5 w5 g6 w6 g7 w7 g8 w8 g9 w9 g10 w10 g11 w11 g12 w12 g13 w13 g14 w14 x0 x1 x2 x3 x4 x5 x6 x7).1.2.2 (ix4 0 0 0 x) = DC x0 x1 x2 x3 x4 x5 x6 x7 0 x := by
  have h := (after0 c i g1 w1 g2 w2 g3 w3 g4 w4 g5 w5 g6 w6 g7 w7 g8 w8 g9 w9 g10 w10 g11 w11 g12 w12 g13 w13 g14 w14 x0 x1 x2 x3 x4 x5 x6 x7 hf).sums.dck x
  rw [Tail_end, add_zero] at h
  rw [← h]
  generalize (st1 c i g1 w1 g2 w2 g3 w3 g4 w4 g5 w5 g6 w6 g7 w7 g8 w8 g9 w9 g10 w10 g11 w11 g12 w12 g13 w13 g14 w14 x0 x1 x2 x3 x4 x5 x6 x7).1.2.2 = V
  open_payloads
  pointwise

theorem dk1 (x : Fin 512) (d : Fin 64) : k0_pay98 (F := Ideal) (st2 c i g1 w1 g2 w2 g3 w3 g4 w4 g5 w5 g6 w6 g7 w7 g8 w8 g9 w9 g10 w10 g11 w11 g12 w12 g13 w13 g14 w14 x0 x1 x2 x3 x4 x5 x6 x7).1.1 (ix3 0 x d) = DK x0 x1 x2 x3 x4 x5 x6 x7 1 x d := by
  have h := (after1 c i g1 w1 g2 w2 g3 w3 g4 w4 g5 w5 g6 w6 g7 w7 g8 w8 g9 w9 g10 w10 g11 w11 g12 w12 g13 w13 g14 w14 x0 x1 x2 x3 x4 x5 x6 x7 hf).sums.dk x d
  rw [Tail_end, add_zero] at h
  rw [← h]
  generalize (st2 c i g1 w1 g2 w2 g3 w3 g4 w4 g5 w5 g6 w6 g7 w7 g8 w8 g9 w9 g10 w10 g11 w11 g12 w12 g13 w13 g14 w14 x0 x1 x2 x3 x4 x5 x6 x7).1.1 = V
  open_payloads
  pointwise

theorem dv1 (x : Fin 512) (d : Fin 64) : k0_pay99 (F := Ideal) (st2 c i g1 w1 g2 w2 g3 w3 g4 w4 g5 w5 g6 w6 g7 w7 g8 w8 g9 w9 g10 w10 g11 w11 g12 w12 g13 w13 g14 w14 x0 x1 x2 x3 x4 x5 x6 x7).1.2.1 (ix3 0 x d) = DV x0 x1 x3 x4 x6 x7 1 x d := by
  have h := (after1 c i g1 w1 g2 w2 g3 w3 g4 w4 g5 w5 g6 w6 g7 w7 g8 w8 g9 w9 g10 w10 g11 w11 g12 w12 g13 w13 g14 w14 x0 x1 x2 x3 x4 x5 x6 x7 hf).sums.dv x d
  rw [Tail_end, add_zero] at h
  rw [← h]
  generalize (st2 c i g1 w1 g2 w2 g3 w3 g4 w4 g5 w5 g6 w6 g7 w7 g8 w8 g9 w9 g10 w10 g11 w11 g12 w12 g13 w13 g14 w14 x0 x1 x2 x3 x4 x5 x6 x7).1.2.1 = V
  open_payloads
  pointwise

theorem dck1 (x : Fin 512) : k0_pay100 (F := Ideal) (st2 c i g1 w1 g2 w2 g3 w3 g4 w4 g5 w5 g6 w6 g7 w7 g8 w8 g9 w9 g10 w10 g11 w11 g12 w12 g13 w13 g14 w14 x0 x1 x2 x3 x4 x5 x6 x7).1.2.2 (ix4 0 0 0 x) = DC x0 x1 x2 x3 x4 x5 x6 x7 1 x := by
  have h := (after1 c i g1 w1 g2 w2 g3 w3 g4 w4 g5 w5 g6 w6 g7 w7 g8 w8 g9 w9 g10 w10 g11 w11 g12 w12 g13 w13 g14 w14 x0 x1 x2 x3 x4 x5 x6 x7 hf).sums.dck x
  rw [Tail_end, add_zero] at h
  rw [← h]
  generalize (st2 c i g1 w1 g2 w2 g3 w3 g4 w4 g5 w5 g6 w6 g7 w7 g8 w8 g9 w9 g10 w10 g11 w11 g12 w12 g13 w13 g14 w14 x0 x1 x2 x3 x4 x5 x6 x7).1.2.2 = V
  open_payloads
  pointwise

theorem dk2 (x : Fin 512) (d : Fin 64) : k0_pay133 (F := Ideal) (st3 c i g1 w1 g2 w2 g3 w3 g4 w4 g5 w5 g6 w6 g7 w7 g8 w8 g9 w9 g10 w10 g11 w11 g12 w12 g13 w13 g14 w14 x0 x1 x2 x3 x4 x5 x6 x7).1.1 (ix3 0 x d) = DK x0 x1 x2 x3 x4 x5 x6 x7 2 x d := by
  have h := (after2 c i g1 w1 g2 w2 g3 w3 g4 w4 g5 w5 g6 w6 g7 w7 g8 w8 g9 w9 g10 w10 g11 w11 g12 w12 g13 w13 g14 w14 x0 x1 x2 x3 x4 x5 x6 x7 hf).sums.dk x d
  rw [Tail_end, add_zero] at h
  rw [← h]
  generalize (st3 c i g1 w1 g2 w2 g3 w3 g4 w4 g5 w5 g6 w6 g7 w7 g8 w8 g9 w9 g10 w10 g11 w11 g12 w12 g13 w13 g14 w14 x0 x1 x2 x3 x4 x5 x6 x7).1.1 = V
  open_payloads
  pointwise

theorem dv2 (x : Fin 512) (d : Fin 64) : k0_pay134 (F := Ideal) (st3 c i g1 w1 g2 w2 g3 w3 g4 w4 g5 w5 g6 w6 g7 w7 g8 w8 g9 w9 g10 w10 g11 w11 g12 w12 g13 w13 g14 w14 x0 x1 x2 x3 x4 x5 x6 x7).1.2.1 (ix3 0 x d) = DV x0 x1 x3 x4 x6 x7 2 x d := by
  have h := (after2 c i g1 w1 g2 w2 g3 w3 g4 w4 g5 w5 g6 w6 g7 w7 g8 w8 g9 w9 g10 w10 g11 w11 g12 w12 g13 w13 g14 w14 x0 x1 x2 x3 x4 x5 x6 x7 hf).sums.dv x d
  rw [Tail_end, add_zero] at h
  rw [← h]
  generalize (st3 c i g1 w1 g2 w2 g3 w3 g4 w4 g5 w5 g6 w6 g7 w7 g8 w8 g9 w9 g10 w10 g11 w11 g12 w12 g13 w13 g14 w14 x0 x1 x2 x3 x4 x5 x6 x7).1.2.1 = V
  open_payloads
  pointwise

theorem dck2 (x : Fin 512) : k0_pay135 (F := Ideal) (st3 c i g1 w1 g2 w2 g3 w3 g4 w4 g5 w5 g6 w6 g7 w7 g8 w8 g9 w9 g10 w10 g11 w11 g12 w12 g13 w13 g14 w14 x0 x1 x2 x3 x4 x5 x6 x7).1.2.2 (ix4 0 0 0 x) = DC x0 x1 x2 x3 x4 x5 x6 x7 2 x := by
  have h := (after2 c i g1 w1 g2 w2 g3 w3 g4 w4 g5 w5 g6 w6 g7 w7 g8 w8 g9 w9 g10 w10 g11 w11 g12 w12 g13 w13 g14 w14 x0 x1 x2 x3 x4 x5 x6 x7 hf).sums.dck x
  rw [Tail_end, add_zero] at h
  rw [← h]
  generalize (st3 c i g1 w1 g2 w2 g3 w3 g4 w4 g5 w5 g6 w6 g7 w7 g8 w8 g9 w9 g10 w10 g11 w11 g12 w12 g13 w13 g14 w14 x0 x1 x2 x3 x4 x5 x6 x7).1.2.2 = V
  open_payloads
  pointwise

theorem dk3 (x : Fin 512) (d : Fin 64) : k0_pay155 (F := Ideal) (st4 c i g1 w1 g2 w2 g3 w3 g4 w4 g5 w5 g6 w6 g7 w7 g8 w8 g9 w9 g10 w10 g11 w11 g12 w12 g13 w13 g14 w14 x0 x1 x2 x3 x4 x5 x6 x7).1.1 (ix3 0 x d) = DK x0 x1 x2 x3 x4 x5 x6 x7 3 x d := by
  have h := (after3 c i g1 w1 g2 w2 g3 w3 g4 w4 g5 w5 g6 w6 g7 w7 g8 w8 g9 w9 g10 w10 g11 w11 g12 w12 g13 w13 g14 w14 x0 x1 x2 x3 x4 x5 x6 x7 hf).sums.dk x d
  rw [Tail_end, add_zero] at h
  rw [← h]
  generalize (st4 c i g1 w1 g2 w2 g3 w3 g4 w4 g5 w5 g6 w6 g7 w7 g8 w8 g9 w9 g10 w10 g11 w11 g12 w12 g13 w13 g14 w14 x0 x1 x2 x3 x4 x5 x6 x7).1.1 = V
  open_payloads
  pointwise

theorem dv3 (x : Fin 512) (d : Fin 64) : k0_pay156 (F := Ideal) (st4 c i g1 w1 g2 w2 g3 w3 g4 w4 g5 w5 g6 w6 g7 w7 g8 w8 g9 w9 g10 w10 g11 w11 g12 w12 g13 w13 g14 w14 x0 x1 x2 x3 x4 x5 x6 x7).1.2.1 (ix3 0 x d) = DV x0 x1 x3 x4 x6 x7 3 x d := by
  have h := (after3 c i g1 w1 g2 w2 g3 w3 g4 w4 g5 w5 g6 w6 g7 w7 g8 w8 g9 w9 g10 w10 g11 w11 g12 w12 g13 w13 g14 w14 x0 x1 x2 x3 x4 x5 x6 x7 hf).sums.dv x d
  rw [Tail_end, add_zero] at h
  rw [← h]
  generalize (st4 c i g1 w1 g2 w2 g3 w3 g4 w4 g5 w5 g6 w6 g7 w7 g8 w8 g9 w9 g10 w10 g11 w11 g12 w12 g13 w13 g14 w14 x0 x1 x2 x3 x4 x5 x6 x7).1.2.1 = V
  open_payloads
  pointwise

theorem dck3 (x : Fin 512) : k0_pay157 (F := Ideal) (st4 c i g1 w1 g2 w2 g3 w3 g4 w4 g5 w5 g6 w6 g7 w7 g8 w8 g9 w9 g10 w10 g11 w11 g12 w12 g13 w13 g14 w14 x0 x1 x2 x3 x4 x5 x6 x7).1.2.2 (ix4 0 0 0 x) = DC x0 x1 x2 x3 x4 x5 x6 x7 3 x := by
  have h := (after3 c i g1 w1 g2 w2 g3 w3 g4 w4 g5 w5 g6 w6 g7 w7 g8 w8 g9 w9 g10 w10 g11 w11 g12 w12 g13 w13 g14 w14 x0 x1 x2 x3 x4 x5 x6 x7 hf).sums.dck x
  rw [Tail_end, add_zero] at h
  rw [← h]
  generalize (st4 c i g1 w1 g2 w2 g3 w3 g4 w4 g5 w5 g6 w6 g7 w7 g8 w8 g9 w9 g10 w10 g11 w11 g12 w12 g13 w13 g14 w14 x0 x1 x2 x3 x4 x5 x6 x7).1.2.2 = V
  open_payloads
  pointwise

theorem all_dk : Filled (DK x0 x1 x2 x3 x4 x5 x6 x7) 8 ([⟨Rect.unit (s := S1x4096x64) ![0, 3584, 0] Cert.AttnKIdeal.S1x512x64.size inb_S1x4096x64_S1x512x64_0_3584_0, k0_pay278 (k0_pay265 (F := Ideal)) (kernelRun0_A.sl.r_110 g1 w1 x0) (kernelRun0_A.sl.r_112 c g1 w1 g2 w2 g4 w4 g5 w5 g7 w7 x0 x1 x3 x4 x6) (kernelRun0_A.sl.r_113 c g3 w3 g8 w8 x2 x7) (kernelRun0_A.sl.v818 c g6 w6 g8 w8 g14 x5 x7)⟩, ⟨Rect.unit (s := S1x4096x64) ![0, 3072, 0] Cert.AttnKIdeal.S1x512x64.size inb_S1x4096x64_S1x512x64_0_3072_0, k0_pay261 (kernelRun0_A.sl.r_106 c g1 w1 g2 w2 g3 w3 g4 w4 g5 w5 g6 w6 g7 w7 g8 w8 g14 x0 x1 x2 x3 x4 x5 x6 x7)⟩, ⟨Rect.unit (s := S1x4096x64) ![0, 2560, 0] Cert.AttnKIdeal.S1x512x64.size inb_S1x4096x64_S1x512x64_0_2560_0, k0_pay229 (kernelRun0_A.sl.r_85 c g1 w1 g2 w2 g3 w3 g4 w4 g5 w5 g6 w6 g7 w7 g8 w8 g14 x0 x1 x2 x3 x4 x5 x6 x7) (kernelRun0_A.sl.r_87 g1 w1 x0) (kernelRun0_A.sl.r_90 c g1 w1 g2 w2 g3 w3 g4 w4 g5 w5 g6 w6 g7 w7 g8 w8 g14 x0 x1 x2 x3 x4 x5 x6 x7)⟩, ⟨Rect.unit (s := S1x4096x64) ![0, 2048, 0] Cert.AttnKIdeal.S1x512x64.size inb_S1x4096x64_S1x512x64_0_2048_0, k0_pay200 (kernelRun0_A.sl.r_74 c g1 w1 g2 w2 g3 w3 g4 w4 g5 w5 g6 w6 g7 w7 g8 w8 g14 x0 x1 x2 x3 x4 x5 x6 x7)⟩, ⟨Rect.unit (s := S1x4096x64) ![0, 1536, 0] Cert.AttnKIdeal.S1x512x64.size inb_S1x4096x64_S1x512x64_0_1536_0, k0_pay155 (st4 c i g1 w1 g2 w2 g3 w3 g4 w4 g5 w5 g6 w6 g7 w7 g8 w8 g9 w9 g10 w10 g11 w11 g12 w12 g13 w13 g14 w14 x0 x1 x2 x3 x4 x5 x6 x7).1.1⟩, ⟨Rect.unit (s := S1x4096x64) ![0, 1024, 0] Cert.AttnKIdeal.S1x512x64.size inb_S1x4096x64_S1x512x64_0_1024_0, k0_pay133 (st3 c i g1 w1 g2 w2 g3 w3 g4 w4 g5 w5 g6 w6 g7 w7 g8 w8 g9 w9 g10 w10 g11 w11 g12 w12 g13 w13 g14 w14 x0 x1 x2 x3 x4 x5 x6 x7).1.1⟩, ⟨Rect.unit (s := S1x4096x64) ![0, 512, 0] Cert.AttnKIdeal.S1x512x64.size inb_S1x4096x64_S1x512x64_0_512_0, k0_pay98 (st2 c i g1 w1 g2 w2 g3 w3 g4 w4 g5 w5 g6 w6 g7 w7 g8 w8 g9 w9 g10 w10 g11 w11 g12 w12 g13 w13 g14 w14 x0 x1 x2 x3 x4 x5 x6 x7).1.1⟩, ⟨Rect.unit (s := S1x4096x64) ![0, 0, 0] Cert.AttnKIdeal.S1x512x64.size inb_S1x4096x64_S1x512x64_0_0_0, k0_pay74 (st1 c i g1 w1 g2 w2 g3 w3 g4 w4 g5 w5 g6 w6 g7 w7 g8 w8 g9 w9 g10 w10 g11 w11 g12 w12 g13 w13 g14 w14 x0 x1 x2 x3 x4 x5 x6 x7).1.1⟩]) :=
  filled_push _ (filled_push _ (filled_push _ (filled_push _ (filled_push _ (filled_push _ (filled_push _ (filled_push _ (fun k h => absurd h (Nat.not_lt_zero k)) (by decide) rfl rfl _ _ (dk0 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dk1 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dk2 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dk3 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dk4 c g1 w1 g2 w2 g3 w3 g4 w4 g5 w5 g6 w6 g7 w7 g8 w8 g14 x0 x1 x2 x3 x4 x5 x6 x7)) (by decide) rfl rfl _ _ (dk5 c g1 w1 g2 w2 g3 w3 g4 w4 g5 w5 g6 w6 g7 w7 g8 w8 g14 x0 x1 x2 x3 x4 x5 x6 x7)) (by decide) rfl rfl _ _ (dk6 c g1 w1 g2 w2 g3 w3 g4 w4 g5 w5 g6 w6 g7 w7 g8 w8 g14 x0 x1 x2 x3 x4 x5 x6 x7)) (by decide) rfl rfl _ _ (dk7 c g1 w1 g2 w2 g3 w3 g4 w4 g5 w5 g6 w6 g7 w7 g8 w8 g14 x0 x1 x2 x3 x4 x5 x6 x7)

theorem all_dv : Filled (DV x0 x1 x3 x4 x6 x7) 8 ([⟨Rect.unit (s := S1x4096x64) ![0, 3584, 0] Cert.AttnKIdeal.S1x512x64.size inb_S1x4096x64_S1x512x64_0_3584_0, k0_pay1 (kernelRun0_A.sl.r_114 c g1 w1 g2 w2 g4 w4 g5 w5 g7 w7 g8 w8 x0 x1 x3 x4 x6 x7)⟩, ⟨Rect.unit (s := S1x4096x64) ![0, 3072, 0] Cert.AttnKIdeal.S1x512x64.size inb_S1x4096x64_S1x512x64_0_3072_0, k0_pay262 (kernelRun0_A.sl.r_105 c g1 w1 g2 w2 g4 w4 g5 w5 g7 w7 g8 w8 x0 x1 x3 x4 x6 x7)⟩, ⟨Rect.unit (s := S1x4096x64) ![0, 2560, 0] Cert.AttnKIdeal.S1x512x64.size inb_S1x4096x64_S1x512x64_0_2560_0, kernelRun0_A.sl.r_92 c g1 w1 g2 w2 g4 w4 g5 w5 g7 w7 g8 w8 x0 x1 x3 x4 x6 x7⟩, ⟨Rect.unit (s := S1x4096x64) ![0, 2048, 0] Cert.AttnKIdeal.S1x512x64.size inb_S1x4096x64_S1x512x64_0_2048_0, k0_pay201 (kernelRun0_A.sl.r_73 c g1 w1 g2 w2 g4 w4 g5 w5 g7 w7 g8 w8 x0 x1 x3 x4 x6 x7)⟩, ⟨Rect.unit (s := S1x4096x64) ![0, 1536, 0] Cert.AttnKIdeal.S1x512x64.size inb_S1x4096x64_S1x512x64_0_1536_0, k0_pay156 (st4 c i g1 w1 g2 w2 g3 w3 g4 w4 g5 w5 g6 w6 g7 w7 g8 w8 g9 w9 g10 w10 g11 w11 g12 w12 g13 w13 g14 w14 x0 x1 x2 x3 x4 x5 x6 x7).1.2.1⟩, ⟨Rect.unit (s := S1x4096x64) ![0, 1024, 0] Cert.AttnKIdeal.S1x512x64.size inb_S1x4096x64_S1x512x64_0_1024_0, k0_pay134 (st3 c i g1 w1 g2 w2 g3 w3 g4 w4 g5 w5 g6 w6 g7 w7 g8 w8 g9 w9 g10 w10 g11 w11 g12 w12 g13 w13 g14 w14 x0 x1 x2 x3 x4 x5 x6 x7).1.2.1⟩, ⟨Rect.unit (s := S1x4096x64) ![0, 512, 0] Cert.AttnKIdeal.S1x512x64.size inb_S1x4096x64_S1x512x64_0_512_0, k0_pay99 (st2 c i g1 w1 g2 w2 g3 w3 g4 w4 g5 w5 g6 w6 g7 w7 g8 w8 g9 w9 g10 w10 g11 w11 g12 w12 g13 w13 g14 w14 x0 x1 x2 x3 x4 x5 x6 x7).1.2.1⟩, ⟨Rect.unit (s := S1x4096x64) ![0, 0, 0] Cert.AttnKIdeal.S1x512x64.size inb_S1x4096x64_S1x512x64_0_0_0, k0_pay75 (st1 c i g1 w1 g2 w2 g3 w3 g4 w4 g5 w5 g6 w6 g7 w7 g8 w8 g9 w9 g10 w10 g11 w11 g12 w12 g13 w13 g14 w14 x0 x1 x2 x3 x4 x5 x6 x7).1.2.1⟩]) :=
  filled_push _ (filled_push _ (filled_push _ (filled_push _ (filled_push _ (filled_push _ (filled_push _ (filled_push _ (fun k h => absurd h (Nat.not_lt_zero k)) (by decide) rfl rfl _ _ (dv0 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dv1 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dv2 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dv3 c i g1 w1 g2 w2 g3 w3 g4 w4 g5 w5 g6 w6 g7 w7 g8 w8 g9 w9 g10 w10 g11 w11 g12 w12 g13 w13 g14 w14 x0 x1 x2 x3 x4 x5 x6 x7 hf)) (by decide) rfl rfl _ _ (dv4 c g1 w1 g2 w2 g4 w4 g5 w5 g7 w7 g8 w8 x0 x1 x3 x4 x6 x7)) (by decide) rfl rfl _ _ (dv5 c g1 w1 g2 w2 g4 w4 g5 w5 g7 w7 g8 w8 x0 x1 x3 x4 x6 x7)) (by decide) rfl rfl _ _ (dv6 c g1 w1 g2 w2 g4 w4 g5 w5 g7 w7 g8 w8 x0 x1 x3 x4 x6 x7)) (by decide) rfl rfl _ _ (dv7 c g1 w1 g2 w2 g4 w4 g5 w5 g7 w7 g8 w8 x0 x1 x3 x4 x6 x7)

theorem all_dck : FilledRow (DC x0 x1 x2 x3 x4 x5 x6 x7) 8 ([⟨Rect.unit (s := S1x8x1x512) ![0, 7, 0, 0] Cert.AttnKIdeal.S1x1x1x512.size inb_S1x8x1x512_S1x1x1x512_0_7_0_0, k0_pay2 (kernelRun0_A.sl.r_115 c g1 w1 g2 w2 g3 w3 g4 w4 g5 w5 g6 w6 g7 w7 g8 w8 g14 x0 x1 x2 x3 x4 x5 x6 x7)⟩, ⟨Rect.unit (s := S1x8x1x512) ![0, 6, 0, 0] Cert.AttnKIdeal.S1x1x1x512.size inb_S1x8x1x512_S1x1x1x512_0_6_0_0, k0_pay263 (kernelRun0_A.sl.r_103 c g1 w1 g2 w2 g3 w3 g4 w4 g5 w5 g6 w6 g7 w7 g8 w8 g14 x0 x1 x2 x3 x4 x5 x6 x7) (kernelRun0_A.sl.r_104 c g1 w1 g2 w2 g3 w3 g4 w4 g5 w5 g6 w6 g7 w7 g8 w8 g14 x0 x1 x2 x3 x4 x5 x6 x7)⟩, ⟨Rect.unit (s := S1x8x1x512) ![0, 5, 0, 0] Cert.AttnKIdeal.S1x1x1x512.size inb_S1x8x1x512_S1x1x1x512_0_5_0_0, k0_pay231 (kernelRun0_A.sl.r_91 c g1 w1 g2 w2 g3 w3 g4 w4 g5 w5 g6 w6 g7 w7 g8 w8 g14 x0 x1 x2 x3 x4 x5 x6 x7)⟩, ⟨Rect.unit (s := S1x8x1x512) ![0, 4, 0, 0] Cert.AttnKIdeal.S1x1x1x512.size inb_S1x8x1x512_S1x1x1x512_0_4_0_0, k0_pay202 (kernelRun0_A.sl.r_75 c g1 w1 g2 w2 g3 w3 g4 w4 g5 w5 g6 w6 g7 w7 g8 w8 g14 x0 x1 x2 x3 x4 x5 x6 x7)⟩, ⟨Rect.unit (s := S1x8x1x512) ![0, 3, 0, 0] Cert.AttnKIdeal.S1x1x1x512.size inb_S1x8x1x512_S1x1x1x512_0_3_0_0, k0_pay157 (st4 c i g1 w1 g2 w2 g3 w3 g4 w4 g5 w5 g6 w6 g7 w7 g8 w8 g9 w9 g10 w10 g11 w11 g12 w12 g13 w13 g14 w14 x0 x1 x2 x3 x4 x5 x6 x7).1.2.2⟩, ⟨Rect.unit (s := S1x8x1x512) ![0, 2, 0, 0] Cert.AttnKIdeal.S1x1x1x512.size inb_S1x8x1x512_S1x1x1x512_0_2_0_0, k0_pay135 (st3 c i g1 w1 g2 w2 g3 w3 g4 w4 g5 w5 g6 w6 g7 w7 g8 w8 g9 w9 g10 w10 g11 w11 g12 w12 g13 w13 g14 w14 x0 x1 x2 x3 x4 x5 x6 x7).1.2.2⟩, ⟨Rect.unit (s := S1x8x1x512) ![0, 1, 0, 0] Cert.AttnKIdeal.S1x1x1x512.size inb_S1x8x1x512_S1x1x1x512_0_1_0_0, k0_pay100 (st2 c i g1 w1 g2 w2 g3 w3 g4 w4 g5 w5 g6 w6 g7 w7 g8 w8 g9 w9 g10 w10 g11 w11 g12 w12 g13 w13 g14 w14 x0 x1 x2 x3 x4 x5 x6 x7).1.2.2⟩, ⟨Rect.unit (s := S1x8x1x512) ![0, 0, 0, 0] Cert.AttnKIdeal.S1x1x1x512.size inb_S1x8x1x512_S1x1x1x512_0_0_0_0, k0_pay76 (st1 c i g1 w1 g2 w2 g3 w3 g4 w4 g5 w5 g6 w6 g7 w7 g8 w8 g9 w9 g10 w10 g11 w11 g12 w12 g13 w13 g14 w14 x0 x1 x2 x3 x4 x5 x6 x7).1.2.2⟩]) :=
  filledRow_push _ (filledRow_push _ (filledRow_push _ (filledRow_push _ (filledRow_push _ (filledRow_push _ (filledRow_push _ (filledRow_push _ (fun k h => absurd h (Nat.not_lt_zero k)) (by decide) rfl _ _ (dck0 c i g1 w1 g2 w2 g3 w3 g4 w4 g5 w5 g6 w6 g7 w7 g8 w8 g9 w9 g10 w10 g11 w11 g12 w12 g13 w13 g14 w14 x0 x1 x2 x3 x4 x5 x6 x7 hf)) (by decide) rfl _ _ (dck1 c i g1 w1 g2 w2 g3 w3 g4 w4 g5 w5 g6 w6 g7 w7 g8 w8 g9 w9 g10 w10 g11 w11 g12 w12 g13 w13 g14 w14 x0 x1 x2 x3 x4 x5 x6 x7 hf)) (by decide) rfl _ _ (dck2 c i g1 w1 g2 w2 g3 w3 g4 w4 g5 w5 g6 w6 g7 w7 g8 w8 g9 w9 g10 w10 g11 w11 g12 w12 g13 w13 g14 w14 x0 x1 x2 x3 x4 x5 x6 x7 hf)) (by decide) rfl _ _ (dck3 c i g1 w1 g2 w2 g3 w3 g4 w4 g5 w5 g6 w6 g7 w7 g8 w8 g9 w9 g10 w10 g11 w11 g12 w12 g13 w13 g14 w14 x0 x1 x2 x3 x4 x5 x6 x7 hf)) (by decide) rfl _ _ (dck4 c g1 w1 g2 w2 g3 w3 g4 w4 g5 w5 g6 w6 g7 w7 g8 w8 g14 x0 x1 x2 x3 x4 x5 x6 x7 hf)) (by decide) rfl _ _ (dck5 c g1 w1 g2 w2 g3 w3 g4 w4 g5 w5 g6 w6 g7 w7 g8 w8 g14 x0 x1 x2 x3 x4 x5 x6 x7 hf)) (by decide) rfl _ _ (dck6 c g1 w1 g2 w2 g3 w3 g4 w4 g5 w5 g6 w6 g7 w7 g8 w8 g14 x0 x1 x2 x3 x4 x5 x6 x7 hf)) (by decide) rfl _ _ (dck7 c g1 w1 g2 w2 g3 w3 g4 w4 g5 w5 g6 w6 g7 w7 g8 w8 g14 x0 x1 x2 x3 x4 x5 x6 x7 hf)

/-! ### What one head's turn leaves in the five results -/

theorem out_dq (r : Fin 4096) (d : Fin 64) : out0_A_8 (F := Ideal) c i g1 w1 g2 w2 g3 w3 g4 w4 g5 w5 g6 w6 g7 w7 g8 w8 g9 w9 g10 w10 g11 w11 g12 w12 g13 w13 g14 w14 x0 x1 x2 x3 x4 x5 x6 x7 (ix3 0 r d) = ∑ k ∈ Finset.range 8, Gq x0 x1 x2 x3 x4 x5 x6 x7 k r d := by
  unfold out0_A_8
  rw [View.read_writes_junk_eq_canon]
  refine (all_dq c i g1 w1 g2 w2 g3 w3 g4 w4 g5 w5 g6 w6 g7 w7 g8 w8 g9 w9 g10 w10 g11 w11 g12 w12 g13 w13 g14 w14 x0 x1 x2 x3 x4 x5 x6 x7 hf r d).trans ?_
  rw [if_pos r.isLt, ← Finset.sum_range_succ]

theorem out_dk (k : ℕ) (hk : k < 8) (x : Fin 512) (d : Fin 64) : out0_A_9 (F := Ideal) c i g1 w1 g2 w2 g3 w3 g4 w4 g5 w5 g6 w6 g7 w7 g8 w8 g9 w9 g10 w10 g11 w11 g12 w12 g13 w13 g14 w14 x0 x1 x2 x3 x4 x5 x6 x7 (ix3 0 (col k x) d) = DK x0 x1 x2 x3 x4 x5 x6 x7 k x d := by
  unfold out0_A_9
  rw [View.read_writes_junk_eq_canon]
  exact all_dk c i g1 w1 g2 w2 g3 w3 g4 w4 g5 w5 g6 w6 g7 w7 g8 w8 g9 w9 g10 w10 g11 w11 g12 w12 g13 w13 g14 w14 x0 x1 x2 x3 x4 x5 x6 x7 hf k hk x d

theorem out_dv (k : ℕ) (hk : k < 8) (x : Fin 512) (d : Fin 64) : out0_A_10 (F := Ideal) c i g1 w1 g2 w2 g3 w3 g4 w4 g5 w5 g6 w6 g7 w7 g8 w8 g9 w9 g10 w10 g11 w11 g12 w12 g13 w13 g14 w14 x0 x1 x2 x3 x4 x5 x6 x7 (ix3 0 (col k x) d) = DV x0 x1 x3 x4 x6 x7 k x d := by
  unfold out0_A_10
  rw [View.read_writes_junk_eq_canon]
  exact all_dv c i g1 w1 g2 w2 g3 w3 g4 w4 g5 w5 g6 w6 g7 w7 g8 w8 g9 w9 g10 w10 g11 w11 g12 w12 g13 w13 g14 w14 x0 x1 x2 x3 x4 x5 x6 x7 hf k hk x d

theorem out_dcq (r : Fin 4096) : out0_A_11 (F := Ideal) c i g1 w1 g2 w2 g3 w3 g4 w4 g5 w5 g6 w6 g7 w7 g8 w8 g9 w9 g10 w10 g11 w11 g12 w12 g13 w13 g14 w14 x0 x1 x2 x3 x4 x5 x6 x7 (ix3 0 r 0) = ∑ k ∈ Finset.range 8, Gc x0 x1 x2 x3 x4 x5 x6 x7 k r 0 := by
  unfold out0_A_11
  rw [View.read_writes_junk_eq_canon]
  refine (all_dcq c i g1 w1 g2 w2 g3 w3 g4 w4 g5 w5 g6 w6 g7 w7 g8 w8 g9 w9 g10 w10 g11 w11 g12 w12 g13 w13 g14 w14 x0 x1 x2 x3 x4 x5 x6 x7 hf r 0).trans ?_
  rw [if_pos r.isLt, ← Finset.sum_range_succ]

theorem out_dck (k : ℕ) (hk : k < 8) (x : Fin 512) : out0_A_12 (F := Ideal) c i g1 w1 g2 w2 g3 w3 g4 w4 g5 w5 g6 w6 g7 w7 g8 w8 g9 w9 g10 w10 g11 w11 g12 w12 g13 w13 g14 w14 x0 x1 x2 x3 x4 x5 x6 x7 (ix4 0 (Fin.ofNat 8 k) 0 x) = DC x0 x1 x2 x3 x4 x5 x6 x7 k x := by
  unfold out0_A_12
  rw [View.read_writes_junk_eq_canon]
  exact all_dck c i g1 w1 g2 w2 g3 w3 g4 w4 g5 w5 g6 w6 g7 w7 g8 w8 g9 w9 g10 w10 g11 w11 g12 w12 g13 w13 g14 w14 x0 x1 x2 x3 x4 x5 x6 x7 hf k hk x

end Cert.AttnKIdeal.Value
-- ==== Proof.AttnArr.lean ====
/- The attention kernel's result arrays, head by head, over real inputs. -/
module

public import proofs.«01_k».proof.Proof.AttnElem
public import proofs.«01_k».proof.Proof.AttnHead
public import proofs.«01_k».proof.Proof.AttnAll

@[expose] public section

set_option maxRecDepth 16384

noncomputable section

open Idealize.ShloMosaic Idealize.ShloMosaic.TcCoe Idealize.SL.Sem

namespace Cert.AttnKIdeal.Value

open Cert.AttnKIdeal Cert.AttnKIdeal.Gen Cert.AttnMath

section Blocks

variable (m : (ℓ : Loc nD τ sig) → Buf (Elt Ideal) ℓ) (c : Dev nD)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0, 0, 0] :=
  (by decide +kernel : ∀ t : Fin grid0.N, _)

theorem read0 (t : Fin cfg0.N) (X : S4x4096x64.Idx → EReal) (r : Fin 4096) (d : Fin 64) :
    ((cfg0.win 0).blk t).view.read (Elt Ideal) X (ix3 (0 : Fin 1) r d) = X (ix3 ⟨t.val, t.isLt⟩ r d) := by
  blk_point [idx t]

theorem blk0 (t : Fin cfg0.N) (r : Fin 4096) (d : Fin 64) : iblk m c 0 t (ix3 0 r d) = V m c main_v11 (ix3 ⟨t.val, t.isLt⟩ r d) :=
  read0 t (V m c main_v11) r d

theorem read1 (t : Fin cfg0.N) (X : S4x4096x64.Idx → EReal) (r : Fin 4096) (d : Fin 64) :
    ((cfg0.win 1).blk t).view.read (Elt Ideal) X (ix3 (0 : Fin 1) r d) = X (ix3 ⟨t.val, t.isLt⟩ r d) := by
  blk_point [idx t]

theorem blk1 (t : Fin cfg0.N) (r : Fin 4096) (d : Fin 64) : iblk m c 1 t (ix3 0 r d) = V m c main_v12 (ix3 ⟨t.val, t.isLt⟩ r d) :=
  read1 t (V m c main_v12) r d

theorem read2 (t : Fin cfg0.N) (X : S4x4096x64.Idx → EReal) (r : Fin 4096) (d : Fin 64) :
    ((cfg0.win 2).blk t).view.read (Elt Ideal) X (ix3 (0 : Fin 1) r d) = X (ix3 ⟨t.val, t.isLt⟩ r d) := by
  blk_point [idx t]

theorem blk2 (t : Fin cfg0.N) (r : Fin 4096) (d : Fin 64) : iblk m c 2 t (ix3 0 r d) = V m c main_v13 (ix3 ⟨t.val, t.isLt⟩ r d) :=
  read2 t (V m c main_v13) r d

theorem read3 (t : Fin cfg0.N) (X : S4x4096x1.Idx → EReal) (r : Fin 4096) (d : Fin 1) :
    ((cfg0.win 3).blk t).view.read (Elt Ideal) X (ix3 (0 : Fin 1) r d) = X (ix3 ⟨t.val, t.isLt⟩ r d) := by
  blk_point [idx t]

theorem blk3 (t : Fin cfg0.N) (r : Fin 4096) (d : Fin 1) : iblk m c 3 t (ix3 0 r d) = V m c main_v14 (ix3 ⟨t.val, t.isLt⟩ r d) :=
  read3 t (V m c main_v14) r d

theorem read4 (t : Fin cfg0.N) (X : S4x8x1x512.Idx → EReal) (k : Fin 8) (x : Fin 512) :
    ((cfg0.win 4).blk t).view.read (Elt Ideal) X (ix4 (0 : Fin 1) k (0 : Fin 1) x) = X (ix4 ⟨t.val, t.isLt⟩ k 0 x) := by
  blk_point [idx t]

theorem blk4 (t : Fin cfg0.N) (k : Fin 8) (x : Fin 512) : iblk m c 4 t (ix4 0 k 0 x) = V m c main_v41 (ix4 ⟨t.val, t.isLt⟩ k 0 x) :=
  read4 t (V m c main_v41) k x

theorem read5 (t : Fin cfg0.N) (X : S4x4096x64.Idx → EReal) (r : Fin 4096) (d : Fin 64) :
    ((cfg0.win 5).blk t).view.read (Elt Ideal) X (ix3 (0 : Fin 1) r d) = X (ix3 ⟨t.val, t.isLt⟩ r d) := by
  blk_point [idx t]

theorem blk5 (t : Fin cfg0.N) (r : Fin 4096) (d : Fin 64) : iblk m c 5 t (ix3 0 r d) = V m c main_v38 (ix3 ⟨t.val, t.isLt⟩ r d) :=
  read5 t (V m c main_v38) r d

theorem read6 (t : Fin cfg0.N) (X : S4x4096x1.Idx → EReal) (r : Fin 4096) (d : Fin 1) :
    ((cfg0.win 6).blk t).view.read (Elt Ideal) X (ix3 (0 : Fin 1) r d) = X (ix3 ⟨t.val, t.isLt⟩ r d) := by
  blk_point [idx t]

theorem blk6 (t : Fin cfg0.N) (r : Fin 4096) (d : Fin 1) : iblk m c 6 t (ix3 0 r d) = V m c main_v40 (ix3 ⟨t.val, t.isLt⟩ r d) :=
  read6 t (V m c main_v40) r d

theorem read7 (t : Fin cfg0.N) (X : S4x4096x64.Idx → EReal) (r : Fin 4096) (d : Fin 64) :
    ((cfg0.win 7).blk t).view.read (Elt Ideal) X (ix3 (0 : Fin 1) r d) = X (ix3 ⟨t.val, t.isLt⟩ r d) := by
  blk_point [idx t]

theorem blk7 (t : Fin cfg0.N) (r : Fin 4096) (d : Fin 64) : iblk m c 7 t (ix3 0 r d) = V m c main_v43 (ix3 ⟨t.val, t.isLt⟩ r d) :=
  read7 t (V m c main_v43) r d

end Blocks

/-! ### The saved row maximum -/

section Real

variable {A : FVec Ideal S4096x768 .f32} {C : FVec Ideal S4x4096 .f32} {W : FVec Ideal S4096x256 .f32}
  {a : Fin 4096 → Fin 768 → ℝ} {c : Fin 4 → Fin 4096 → ℝ} {w : Fin 4096 → Fin 256 → ℝ}

/-- A head's queries, keys, values and output cotangents, of the packed inputs. -/
def aq (a : Fin 4096 → Fin 768 → ℝ) (h : Fin 4) (r : Fin 4096) (d : Fin 64) : ℝ := a r ⟨h.val * 64 + d.val, by omega⟩

def ak (a : Fin 4096 → Fin 768 → ℝ) (h : Fin 4) (r : Fin 4096) (d : Fin 64) : ℝ := a r ⟨256 + (h.val * 64 + d.val), by omega⟩

def av (a : Fin 4096 → Fin 768 → ℝ) (h : Fin 4) (r : Fin 4096) (d : Fin 64) : ℝ := a r ⟨512 + (h.val * 64 + d.val), by omega⟩

def aw (w : Fin 4096 → Fin 256 → ℝ) (h : Fin 4) (r : Fin 4096) (d : Fin 64) : ℝ := w r ⟨h.val * 64 + d.val, by omega⟩

/-- The rows' maxima over the scores of the keys not behind the query. -/
def Mx (a : Fin 4096 → Fin 768 → ℝ) (c : Fin 4 → Fin 4096 → ℝ) (h : Fin 4) (r : Fin 4096) : ℝ :=
  (Finset.univ.fold max ⊥ fun j : Fin 4096 => if j.val ≤ r.val then ((score (aq a h) (ak a h) (c h) r j : ℝ) : EReal) else ⊥).toReal

theorem Mx_coe (h : Fin 4) (r : Fin 4096) :
    (Finset.univ.fold max ⊥ fun j : Fin 4096 => if j.val ≤ r.val then ((score (aq a h) (ak a h) (c h) r j : ℝ) : EReal) else ⊥) = ((Mx a c h r : ℝ) : EReal) := by
  obtain ⟨M, hM⟩ := sup_real (fun j : Fin 4096 => if j.val ≤ r.val then ((score (aq a h) (ak a h) (c h) r j : ℝ) : EReal) else ⊥)
    (fun j => by split_ifs; exact EReal.coe_ne_top _; exact bot_ne_top) r (by rw [if_pos le_rfl]; exact EReal.coe_ne_bot _)
  unfold Mx
  rw [hM, EReal.toReal_coe]

/-- A weight: the exponential of a masked score less the row's maximum. -/
theorem exp_wt (a b : Fin 4096 → Fin 64 → ℝ) (c M : Fin 4096 → ℝ) (r j : Fin 4096) :
    Ideal.exp ((if j.val ≤ r.val then ((score a b c r j : ℝ) : EReal) else ⊥) - (M r : EReal)) = ((wt a b c M r j : ℝ) : EReal) := by
  unfold wt
  split_ifs
  · rw [← EReal.coe_sub]; rfl
  · rw [sub_eq_add_neg, EReal.bot_add]; rfl

variable (hA : ∀ r l, A (ix2 r l) = ((a r l : ℝ) : EReal)) (hC : ∀ h r, C (ix2 h r) = ((c h r : ℝ) : EReal))
  (hW : ∀ r l, W (ix2 r l) = ((w r l : ℝ) : EReal))

include hA hC

theorem hm_real (h : Fin 4) (r j : Fin 4096) :
    hm A C (ix3 h r j) = if j.val ≤ r.val then ((score (aq a h) (ak a h) (c h) r j : ℝ) : EReal) else ⊥ := by
  rw [hm_apply, hs_apply]
  simp only [hq_apply, hk_apply, hA, hC, lit_eighth, ← EReal.coe_mul, ← Cert.Num.coe_sum, ← EReal.coe_sub, ← EReal.coe_add]
  rfl

theorem hmax_real (h : Fin 4) (r : Fin 4096) : hmax A C (ix3 h r 0) = ((Mx a c h r : ℝ) : EReal) := by
  rw [hmax_apply]
  simp only [hm_real hA hC]
  exact Mx_coe h r

theorem hp_real (h : Fin 4) (r j : Fin 4096) :
    hp A C (ix3 h r j) = ((wt (aq a h) (ak a h) (c h) (Mx a c h) r j : ℝ) : EReal) := by
  rw [hp_apply, hm_real hA hC, hmax_real hA hC]
  exact exp_wt _ _ _ _ r j

theorem hl_real (h : Fin 4) (r : Fin 4096) : hl A C (ix3 h r 0) = ((rowsum (aq a h) (ak a h) (c h) (Mx a c h) r : ℝ) : EReal) := by
  rw [hl_apply]
  simp only [hp_real hA hC, ← Cert.Num.coe_sum]
  rfl

theorem ho_real (h : Fin 4) (r : Fin 4096) (d : Fin 64) : ho A C (ix3 h r d)
    = (((∑ j, wt (aq a h) (ak a h) (c h) (Mx a c h) r j * av a h j d) / rowsum (aq a h) (ak a h) (c h) (Mx a c h) r : ℝ) : EReal) := by
  rw [ho_apply, hl_real hA hC]
  simp only [hp_real hA hC, hv_apply, hA, ← EReal.coe_mul, ← Cert.Num.coe_sum]
  exact Cert.Num.coe_div_coe _ (rowsum_pos _ _ _ _ r).ne'

theorem hlse_real (h : Fin 4) (r : Fin 4096) : hlse A C (ix3 h r 0)
    = ((Mx a c h r + Real.log (rowsum (aq a h) (ak a h) (c h) (Mx a c h) r) : ℝ) : EReal) := by
  rw [hlse_apply, hmax_real hA hC, hl_real hA hC, log_coe (rowsum_pos _ _ _ _ r), EReal.coe_add]

end Real

section Results

variable {m : (ℓ : Loc nD τ sig) → Buf (Elt Ideal) ℓ} {c : Dev nD}
  {a : Fin 4096 → Fin 768 → ℝ} {g : Fin 4 → Fin 4096 → ℝ} {w : Fin 4096 → Fin 256 → ℝ}
  (hA : ∀ r l, m ((c : Thread nD τ).loc main_arg0) (ix2 r l) = ((a r l : ℝ) : EReal))
  (hC : ∀ h r, m ((c : Thread nD τ).loc main_arg1) (ix2 h r) = ((g h r : ℝ) : EReal))
  (hW : ∀ r l, m ((c : Thread nD τ).loc main_arg2) (ix2 r l) = ((w r l : ℝ) : EReal))

include hA hC hW

/-- Every grid point's blocks are one head's operands. -/
theorem holds (t : Fin cfg0.N) (h : Fin 4) (ht : t.val = h.val) : Holds (iblk m c 0 t) (iblk m c 1 t) (iblk m c 2 t) (iblk m c 3 t) (iblk m c 4 t) (iblk m c 5 t) (iblk m c 6 t) (iblk m c 7 t)
    (aq a h) (ak a h) (av a h) (aw w h) (g h) (Mx a g h) := by
  have e : (⟨t.val, t.isLt⟩ : Fin 4) = h := Fin.ext ht
  constructor
  · intro r d; rw [blk0, e, V_q, hq_apply, hA, lit_eighth, ← EReal.coe_mul]; rfl
  · intro r d; rw [blk1, e, V_k, hk_apply, hA]; rfl
  · intro r d; rw [blk2, e, V_v, hv_apply, hA]; rfl
  · intro r; rw [blk3, e, V_cq, hcq_apply, hC]
  · intro k x; rw [blk4, e, V_ck, hck_apply, hC]
  · intro r d; rw [blk5, e, V_o, ho_real hA hC]
  · intro r; rw [blk6, e, V_lse, hlse_real hA hC]
  · intro r d; rw [blk7, e, V_w, hw_apply, hW]; rfl

theorem fin8 (K : S4x4096x64.Idx → EReal) (hK : ∀ (h : Fin 4) (r : Fin 4096) (d : Fin 64), K (ix3 h r d) = (((∑ j, dsM (aq a h) (ak a h) (av a h) (aw w h) (g h) (Mx a g h) r j * ak a h j d) * (1 / 8) : ℝ) : EReal)) :
    (dats m 0 c).arrAt 8 cfg0.N = K := by
  refine (dats m 0 c).arrAt_eq_of_covers 8 _ (by decide +kernel) fun t hf y => ?_
  blk_simp
  rw [after0_8]
  simp only [outsAt0]
  obtain ⟨r, d, rfl⟩ : ∃ (r : Fin 4096) (d : Fin 64), y = ix3 (0 : Fin 1) r d := ⟨⟨(y 1).val, (y 1).isLt⟩, ⟨(y 2).val, (y 2).isLt⟩, by
    refine funext fun i => Fin.ext ?_
    match i with
    | ⟨0, _⟩ => have := (y 0).isLt; show (y 0).val = 0; change (y 0).val < 1 at this; omega
    | ⟨1, _⟩ => rfl
    | ⟨2, _⟩ => rfl⟩
  have e : K (((View.whole main_v44_0).slice (win0_8.rect t)).emb (ix3 (0 : Fin 1) r d)) = K (ix3 ⟨t.val, t.isLt⟩ r d) := by
    blk_point [idx t]
  rw [e, hK]
  have H := holds hA hC hW t ⟨t.val, t.isLt⟩ rfl
  exact (out_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (realDs H) r d).trans (dq_real H r d)

theorem fin9 (K : S4x4096x64.Idx → EReal) (hK : ∀ (h : Fin 4) (j : Fin 4096) (d : Fin 64), K (ix3 h j d) = ((∑ r, dsM (aq a h) (ak a h) (av a h) (aw w h) (g h) (Mx a g h) r j * (aq a h r d * (1 / 8)) : ℝ) : EReal)) :
    (dats m 0 c).arrAt 9 cfg0.N = K := by
  refine (dats m 0 c).arrAt_eq_of_covers 9 _ (by decide +kernel) fun t hf y => ?_
  blk_simp
  rw [after0_9]
  simp only [outsAt0]
  obtain ⟨r, d, rfl⟩ : ∃ (r : Fin 4096) (d : Fin 64), y = ix3 (0 : Fin 1) r d := ⟨⟨(y 1).val, (y 1).isLt⟩, ⟨(y 2).val, (y 2).isLt⟩, by
    refine funext fun i => Fin.ext ?_
    match i with
    | ⟨0, _⟩ => have := (y 0).isLt; show (y 0).val = 0; change (y 0).val < 1 at this; omega
    | ⟨1, _⟩ => rfl
    | ⟨2, _⟩ => rfl⟩
  have e : K (((View.whole main_v44_1).slice (win0_9.rect t)).emb (ix3 (0 : Fin 1) r d)) = K (ix3 ⟨t.val, t.isLt⟩ r d) := by
    blk_point [idx t]
  rw [e, hK]
  have H := holds hA hC hW t ⟨t.val, t.isLt⟩ rfl
  have hk : r.val / 512 < 8 := by omega
  have hr : r = col (r.val / 512) ⟨r.val % 512, by omega⟩ := Fin.ext (by rw [col_val hk]; show r.val = 512 * (r.val / 512) + r.val % 512; omega)
  rw [hr]
  exact (out_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (realDs H) _ hk _ d).trans (dk_real H _ hk _ d)

theorem fin10 (K : S4x4096x64.Idx → EReal) (hK : ∀ (h : Fin 4) (j : Fin 4096) (d : Fin 64), K (ix3 h j d) = ((∑ r, wt (aq a h) (ak a h) (g h) (Mx a g h) r j / rowsum (aq a h) (ak a h) (g h) (Mx a g h) r * aw w h r d : ℝ) : EReal)) :
    (dats m 0 c).arrAt 10 cfg0.N = K := by
  refine (dats m 0 c).arrAt_eq_of_covers 10 _ (by decide +kernel) fun t hf y => ?_
  blk_simp
  rw [after0_10]
  simp only [outsAt0]
  obtain ⟨r, d, rfl⟩ : ∃ (r : Fin 4096) (d : Fin 64), y = ix3 (0 : Fin 1) r d := ⟨⟨(y 1).val, (y 1).isLt⟩, ⟨(y 2).val, (y 2).isLt⟩, by
    refine funext fun i => Fin.ext ?_
    match i with
    | ⟨0, _⟩ => have := (y 0).isLt; show (y 0).val = 0; change (y 0).val < 1 at this; omega
    | ⟨1, _⟩ => rfl
    | ⟨2, _⟩ => rfl⟩
  have e : K (((View.whole main_v44_2).slice (win0_10.rect t)).emb (ix3 (0 : Fin 1) r d)) = K (ix3 ⟨t.val, t.isLt⟩ r d) := by
    blk_point [idx t]
  rw [e, hK]
  have H := holds hA hC hW t ⟨t.val, t.isLt⟩ rfl
  have hk : r.val / 512 < 8 := by omega
  have hr : r = col (r.val / 512) ⟨r.val % 512, by omega⟩ := Fin.ext (by rw [col_val hk]; show r.val = 512 * (r.val / 512) + r.val % 512; omega)
  rw [hr]
  exact (out_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (realDs H) _ hk _ d).trans (dv_real H _ hk _ d)

theorem fin11 (K : S4x4096x1.Idx → EReal) (hK : ∀ (h : Fin 4) (r : Fin 4096) (d : Fin 1), K (ix3 h r d) = ((∑ j, dsM (aq a h) (ak a h) (av a h) (aw w h) (g h) (Mx a g h) r j : ℝ) : EReal)) :
    (dats m 0 c).arrAt 11 cfg0.N = K := by
  refine (dats m 0 c).arrAt_eq_of_covers 11 _ (by decide +kernel) fun t hf y => ?_
  blk_simp
  rw [after0_11]
  simp only [outsAt0]
  obtain ⟨r, d, rfl⟩ : ∃ (r : Fin 4096) (d : Fin 1), y = ix3 (0 : Fin 1) r d := ⟨⟨(y 1).val, (y 1).isLt⟩, ⟨(y 2).val, (y 2).isLt⟩, by
    refine funext fun i => Fin.ext ?_
    match i with
    | ⟨0, _⟩ => have := (y 0).isLt; show (y 0).val = 0; change (y 0).val < 1 at this; omega
    | ⟨1, _⟩ => rfl
    | ⟨2, _⟩ => rfl⟩
  have e : K (((View.whole main_v44_3).slice (win0_11.rect t)).emb (ix3 (0 : Fin 1) r d)) = K (ix3 ⟨t.val, t.isLt⟩ r d) := by
    blk_point [idx t]
  rw [e, hK]
  have H := holds hA hC hW t ⟨t.val, t.isLt⟩ rfl
  obtain rfl : d = 0 := Subsingleton.elim _ _
  exact (out_dcq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (realDs H) r).trans (dcq_real H r 0)

theorem fin12 (K : S4x8x1x512.Idx → EReal) (hK : ∀ (h : Fin 4) (k : Fin 8) (x : Fin 512), K (ix4 h k 0 x) = ((∑ r, -dsM (aq a h) (ak a h) (av a h) (aw w h) (g h) (Mx a g h) r ⟨k.val * 512 + x.val, by omega⟩ : ℝ) : EReal)) :
    (dats m 0 c).arrAt 12 cfg0.N = K := by
  refine (dats m 0 c).arrAt_eq_of_covers 12 _ (by decide +kernel) fun t hf y => ?_
  blk_simp
  rw [after0_12]
  simp only [outsAt0]
  obtain ⟨k, x, rfl⟩ : ∃ (k : Fin 8) (x : Fin 512), y = ix4 (0 : Fin 1) k (0 : Fin 1) x := ⟨⟨(y 1).val, (y 1).isLt⟩, ⟨(y 3).val, (y 3).isLt⟩, by
    refine funext fun i => Fin.ext ?_
    match i with
    | ⟨0, _⟩ => have := (y 0).isLt; show (y 0).val = 0; change (y 0).val < 1 at this; omega
    | ⟨1, _⟩ => rfl
    | ⟨2, _⟩ => have := (y 2).isLt; show (y 2).val = 0; change (y 2).val < 1 at this; omega
    | ⟨3, _⟩ => rfl⟩
  have e : K (((View.whole main_v44_4).slice (win0_12.rect t)).emb (ix4 (0 : Fin 1) k (0 : Fin 1) x)) = K (ix4 ⟨t.val, t.isLt⟩ k 0 x) := by
    blk_point [idx t]
  rw [e, hK]
  have H := holds hA hC hW t ⟨t.val, t.isLt⟩ rfl
  have hk := k.isLt
  have h1 : (⟨k.val * 512 + x.val, by omega⟩ : Fin 4096) = col k.val x := Fin.ext (by rw [col_val hk]; show k.val * 512 + x.val = _; omega)
  have h2 : Fin.ofNat 8 k.val = k := Fin.ext (Nat.mod_eq_of_lt hk)
  have h3 := (out_dck c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (realDs H) k.val hk x).trans (dck_real H k.val hk x)
  rw [h2] at h3
  rw [h1]
  exact h3

end Results

end Cert.AttnKIdeal.Value

end
-- ==== Proof.AttnPair.lean ====
/- The attention kernel against the vector-Jacobian product of causal softmax attention. -/
module

public import proofs.«01_k».proof.Proof.AttnArr
public import proofs.«01_k».proof.Proof.Gen.AttnRIdeal.Run
public import proofs.«01_k».proof.Proof.Gen.AttnRIdeal.Read
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Attn

open Cert.AttnMath Cert.AttnKIdeal.Value

instance preFacts : Cert.Pre_finite_attn.Facts := ⟨by decide, by decide, by decide, by decide, by decide, by decide, by decide⟩

section Reference

open Cert.AttnRIdeal Cert.AttnRIdeal.Gen Cert.AttnRIdeal.Read

variable {A : (⟨S4096x768, .f32⟩ : BufTy).Contents (Elt Ideal)} {C : (⟨S4x4096, .f32⟩ : BufTy).Contents (Elt Ideal)}
  {W : (⟨S4096x256, .f32⟩ : BufTy).Contents (Elt Ideal)}
  {a : Fin 4096 → Fin 768 → ℝ} {c : Fin 4 → Fin 4096 → ℝ} {w : Fin 4096 → Fin 256 → ℝ}
  (hA : ∀ r l, A (ix2 r l) = ((a r l : ℝ) : EReal)) (hC : ∀ h r, C (ix2 h r) = ((c h r : ℝ) : EReal))
  (hW : ∀ r l, W (ix2 r l) = ((w r l : ℝ) : EReal))

theorem ref23 (r j : Fin 4096) : (val_main_v23 (F := Ideal) (ix2 r j) = 1#1) ↔ j.val ≤ r.val := by
  have e : val_main_v23 (F := Ideal) (ix2 r j) = IntOp.cmpi .sle (BitVec.ofNat 32 j.val) (BitVec.ofNat 32 r.val) := by
    pointwise [val_main_v23, val_main_v22, val_main_v21, val_main_v20, val_main_v19, val_main_v9]
  rw [e]
  have := r.isLt; have := j.isLt
  word_cmp

include hA

theorem ref4 (h : Fin 4) (r : Fin 4096) (d : Fin 64) : val_main_v4 (F := Ideal) A (ix3 h r d) = ((aq a h r d : ℝ) : EReal) := by
  refine Eq.trans ?_ (hA r ⟨h.val * 64 + d.val, by omega⟩)
  pointwise [val_main_v4, val_main_v3, val_main_v0]

theorem ref6 (h : Fin 4) (r : Fin 4096) (d : Fin 64) : val_main_v6 (F := Ideal) A (ix3 h r d) = ((ak a h r d : ℝ) : EReal) := by
  refine Eq.trans ?_ (hA r ⟨256 + (h.val * 64 + d.val), by omega⟩)
  pointwise [val_main_v6, val_main_v5, val_main_v1]

theorem ref8 (h : Fin 4) (r : Fin 4096) (d : Fin 64) : val_main_v8 (F := Ideal) A (ix3 h r d) = ((av a h r d : ℝ) : EReal) := by
  refine Eq.trans ?_ (hA r ⟨512 + (h.val * 64 + d.val), by omega⟩)
  pointwise [val_main_v8, val_main_v7, val_main_v2]

theorem ref12 (h : Fin 4) (r j : Fin 4096) : val_main_v12 (F := Ideal) A (ix3 h r j) = ((∑ d, aq a h r d * (1 / 8) * ak a h j d : ℝ) : EReal) := by
  have e : val_main_v12 (F := Ideal) A (ix3 h r j)
      = HMul.hMul (α := EReal) (β := EReal) (γ := EReal) (∑ d : Fin 64, val_main_v4 (F := Ideal) A (ix3 h r d) * val_main_v6 (F := Ideal) A (ix3 h j d)) (Ideal.ofBits .f32 0x3E000000#32) := by
    unfold val_main_v12 val_main_v10 val_main_v11 val_main_cst
    generalize val_main_v4 (F := Ideal) A = X
    generalize val_main_v6 (F := Ideal) A = Y
    pointwise
  rw [e]
  simp only [ref4 hA, ref6 hA, lit_eighth, ← EReal.coe_mul, ← Cert.Num.coe_sum]
  refine congrArg (fun t : ℝ => (t : EReal)) ?_
  rw [Finset.sum_mul]
  exact Finset.sum_congr rfl fun d _ => by ring

include hC

theorem ref24 (h : Fin 4) (r j : Fin 4096) : val_main_v24_0 (F := Ideal) A C (ix3 h r j)
    = if j.val ≤ r.val then ((score (aq a h) (ak a h) (c h) r j : ℝ) : EReal) else ⊥ := by
  have e : val_main_v24_0 (F := Ideal) A C (ix3 h r j) = Scalar.select (val_main_v23 (F := Ideal) (ix2 r j))
      (val_main_v12 (F := Ideal) A (ix3 h r j) + (C (ix2 h r) - C (ix2 h j))) (Ideal.ofBits .f32 0xFF800000#32) := by
    unfold val_main_v24_0 val_main_v24_1 val_main_v18 val_main_v17 val_main_v16 val_main_v15 val_main_v14 val_main_v13 val_main_call0_v2 val_main_call0_v0 val_main_cst_0
    generalize val_main_v12 (F := Ideal) A = X
    generalize val_main_v23 (F := Ideal) = Y
    pointwise
    rfl
  rw [e, ref12 hA, hC, hC, lit_neg_inf, ← EReal.coe_sub, ← EReal.coe_add]
  unfold Scalar.select
  exact if_congr (ref23 r j) rfl rfl

omit hA hC in
theorem ref25 (h : Fin 4) (r : Fin 4096) : val_main_v25 (F := Ideal) A C (ix2 h r)
    = Finset.univ.fold max (Ideal.ofBits .f32 0xFF800000#32) fun j : Fin 4096 => (val_main_v24_0 (F := Ideal) A C (ix3 h r j) : EReal) := by
  unfold val_main_v25
  generalize val_main_v24_0 (F := Ideal) A C = X
  pointwise [val_main_cst_1]

omit hA hC in
theorem ref32_max (h : Fin 4) (r : Fin 4096) : val_main_v32 (F := Ideal) A C (ix2 h r)
    = FloatOps.maximumf (F := Ideal) (Ideal.ofBits .f32 0xFF800000#32) (val_main_v25 (F := Ideal) A C (ix2 h r)) := by
  have e : val_main_v31 (F := Ideal) (ix2 h r) = Ideal.ofBits .f32 0xFF800000#32 := by pointwise [val_main_v31, val_main_cst_3]
  rw [← e]
  exact val_main_v32_apply (F := Ideal) A C (ix2 h r)

theorem ref25_real (h : Fin 4) (r : Fin 4096) : val_main_v25 (F := Ideal) A C (ix2 h r) = ((Mx a c h r : ℝ) : EReal) := by
  refine (ref25 h r).trans ?_
  refine Eq.trans ?_ (Mx_coe h r)
  rw [lit_neg_inf]
  exact congrArg (fun f : Fin 4096 → EReal => Finset.univ.fold max ⊥ f) (funext fun j => ref24 hA hC h r j)

theorem ref32 (h : Fin 4) (r : Fin 4096) : val_main_v32 (F := Ideal) A C (ix2 h r) = ((Mx a c h r : ℝ) : EReal) := by
  refine (ref32_max h r).trans ?_
  rw [ref25_real hA hC, lit_neg_inf]
  exact max_eq_right bot_le

theorem ref45 (h : Fin 4) (r j : Fin 4096) : val_main_v45 (F := Ideal) A C (ix3 h r j) = ((wt (aq a h) (ak a h) (c h) (Mx a c h) r j : ℝ) : EReal) := by
  have e : val_main_v45 (F := Ideal) A C (ix3 h r j) = Ideal.exp (val_main_v24_0 (F := Ideal) A C (ix3 h r j) - val_main_v32 (F := Ideal) A C (ix2 h r)) := by
    unfold val_main_v45 val_main_v44 val_main_v43 val_main_v42
    generalize val_main_v24_0 (F := Ideal) A C = X
    generalize val_main_v32 (F := Ideal) A C = Y
    pointwise
  rw [e, ref24 hA hC, ref32 hA hC]
  exact exp_wt _ _ _ _ r j

theorem ref47 (h : Fin 4) (r : Fin 4096) : val_main_v47 (F := Ideal) A C (ix3 h r 0) = ((rowsum (aq a h) (ak a h) (c h) (Mx a c h) r : ℝ) : EReal) := by
  have e : val_main_v47 (F := Ideal) A C (ix3 h r 0) = ∑ j : Fin 4096, val_main_v45 (F := Ideal) A C (ix3 h r j) := by
    unfold val_main_v47 val_main_v46 val_main_cst_9
    generalize val_main_v45 (F := Ideal) A C = X
    pointwise
  rw [e]
  simp only [ref45 hA hC, ← Cert.Num.coe_sum]
  rfl

theorem ref49 (h : Fin 4) (r j : Fin 4096) : val_main_v49 (F := Ideal) A C (ix3 h r j)
    = ((wt (aq a h) (ak a h) (c h) (Mx a c h) r j / rowsum (aq a h) (ak a h) (c h) (Mx a c h) r : ℝ) : EReal) := by
  have e : val_main_v49 (F := Ideal) A C (ix3 h r j) = Ideal.div (val_main_v45 (F := Ideal) A C (ix3 h r j)) (val_main_v47 (F := Ideal) A C (ix3 h r 0)) := by
    unfold val_main_v49 val_main_v48
    generalize val_main_v45 (F := Ideal) A C = X
    generalize val_main_v47 (F := Ideal) A C = Y
    pointwise
  rw [e, ref45 hA hC, ref47 hA hC]
  exact Cert.Num.coe_div_coe _ (rowsum_pos _ _ _ _ r).ne'

theorem ref52 (h : Fin 4) (r : Fin 4096) : val_main_v52 (F := Ideal) A C (ix3 h r 0)
    = ((1 / (rowsum (aq a h) (ak a h) (c h) (Mx a c h) r * rowsum (aq a h) (ak a h) (c h) (Mx a c h) r) : ℝ) : EReal) := by
  have e : val_main_v52 (F := Ideal) A C (ix3 h r 0) = Ideal.div (Ideal.ofBits .f32 0x3F800000#32)
      (HMul.hMul (α := EReal) (β := EReal) (γ := EReal) (val_main_v47 (F := Ideal) A C (ix3 h r 0)) (val_main_v47 (F := Ideal) A C (ix3 h r 0))) := by
    unfold val_main_v52 val_main_v51 val_main_v50 val_main_cst_10
    generalize val_main_v47 (F := Ideal) A C = Y
    pointwise
  have hz := (rowsum_pos (aq a h) (ak a h) (c h) (Mx a c h) r).ne'
  rw [e, ref47 hA hC, ← EReal.coe_mul, lit_one]
  exact Cert.Num.coe_div_coe _ (mul_ne_zero hz hz)

omit hA hC
include hW

theorem ref55 (h : Fin 4) (r : Fin 4096) (d : Fin 64) : val_main_v55 (F := Ideal) W (ix3 h r d) = ((aw w h r d : ℝ) : EReal) := by
  refine Eq.trans ?_ (hW r ⟨h.val * 64 + d.val, by omega⟩)
  pointwise [val_main_v55, val_main_v54]

include hA

theorem ref58 (h : Fin 4) (r j : Fin 4096) : val_main_v58 (F := Ideal) A W (ix3 h r j) = ((dp (av a h) (aw w h) r j : ℝ) : EReal) := by
  have e : val_main_v58 (F := Ideal) A W (ix3 h r j) = ∑ d : Fin 64, HMul.hMul (α := EReal) (β := EReal) (γ := EReal) (val_main_v55 (F := Ideal) W (ix3 h r d)) (val_main_v8 (F := Ideal) A (ix3 h j d)) := by
    unfold val_main_v58
    generalize val_main_v55 (F := Ideal) W = X
    generalize val_main_v8 (F := Ideal) A = Y
    pointwise
  rw [e]
  simp only [ref55 hW, ref8 hA, ← EReal.coe_mul, ← Cert.Num.coe_sum]
  rfl

include hC

/-- The values' gradient. -/
theorem ref57 (h : Fin 4) (j : Fin 4096) (d : Fin 64) : val_main_v57 (F := Ideal) A C W (ix3 h j d)
    = ((∑ r, wt (aq a h) (ak a h) (c h) (Mx a c h) r j / rowsum (aq a h) (ak a h) (c h) (Mx a c h) r * aw w h r d : ℝ) : EReal) := by
  have e : val_main_v57 (F := Ideal) A C W (ix3 h j d) = ∑ r : Fin 4096, HMul.hMul (α := EReal) (β := EReal) (γ := EReal) (val_main_v55 (F := Ideal) W (ix3 h r d)) (val_main_v49 (F := Ideal) A C (ix3 h r j)) := by
    unfold val_main_v57 val_main_v56
    generalize val_main_v55 (F := Ideal) W = X
    generalize val_main_v49 (F := Ideal) A C = Y
    pointwise
  rw [e]
  simp only [ref55 hW, ref49 hA hC, ← EReal.coe_mul, ← Cert.Num.coe_sum]
  exact congrArg (fun t : ℝ => (t : EReal)) (Finset.sum_congr rfl fun r _ => mul_comm _ _)

theorem ref62 (h : Fin 4) (r : Fin 4096) : val_main_v62 (F := Ideal) A C W (ix2 h r)
    = ((∑ k, dp (av a h) (aw w h) r k * (1 / (rowsum (aq a h) (ak a h) (c h) (Mx a c h) r * rowsum (aq a h) (ak a h) (c h) (Mx a c h) r)) * wt (aq a h) (ak a h) (c h) (Mx a c h) r k : ℝ) : EReal) := by
  have e : val_main_v62 (F := Ideal) A C W (ix2 h r) = ∑ k : Fin 4096, HMul.hMul (α := EReal) (β := EReal) (γ := EReal) (HMul.hMul (α := EReal) (β := EReal) (γ := EReal)
      (val_main_v58 (F := Ideal) A W (ix3 h r k)) (val_main_v52 (F := Ideal) A C (ix3 h r 0))) (val_main_v45 (F := Ideal) A C (ix3 h r k)) := by
    unfold val_main_v62 val_main_v61 val_main_v60 val_main_v59 val_main_cst_11
    generalize val_main_v58 (F := Ideal) A W = X
    generalize val_main_v52 (F := Ideal) A C = Y
    generalize val_main_v45 (F := Ideal) A C = Z
    pointwise
  rw [e]
  simp only [ref58 hA hW, ref52 hA hC, ref45 hA hC, ← EReal.coe_mul, ← Cert.Num.coe_sum]

/-- A score's cotangent. -/
theorem ref71 (h : Fin 4) (r j : Fin 4096) : val_main_v71 (F := Ideal) A C W (ix3 h r j) = ((dsM (aq a h) (ak a h) (av a h) (aw w h) (c h) (Mx a c h) r j : ℝ) : EReal) := by
  have e : val_main_v71 (F := Ideal) A C W (ix3 h r j) = Scalar.select (val_main_v23 (F := Ideal) (ix2 r j))
      (HMul.hMul (α := EReal) (β := EReal) (γ := EReal) (Ideal.div (val_main_v58 (F := Ideal) A W (ix3 h r j)) (val_main_v47 (F := Ideal) A C (ix3 h r 0))
        + ∑ z : Fin 1, -(val_main_v62 (F := Ideal) A C W (ix2 h r) : EReal)) (val_main_v45 (F := Ideal) A C (ix3 h r j))) (0 : EReal) := by
    unfold val_main_v71 val_main_v70 val_main_v69 val_main_v68 val_main_v67 val_main_v66 val_main_v65 val_main_v64 val_main_v63 val_main_v24_1 val_main_call1_v0 val_main_call1_cst val_main_cst_12
    generalize val_main_v58 (F := Ideal) A W = X
    generalize val_main_v47 (F := Ideal) A C = Y
    generalize val_main_v45 (F := Ideal) A C = Z
    generalize val_main_v62 (F := Ideal) A C W = U
    generalize val_main_v23 (F := Ideal) = T
    pointwise
  have hz := (rowsum_pos (aq a h) (ak a h) (c h) (Mx a c h) r).ne'
  rw [e, ref58 hA hW, ref47 hA hC, ref45 hA hC, Fin.sum_univ_one, ref62 hA hC hW, Cert.Num.coe_div_coe _ hz, ← EReal.coe_neg, ← EReal.coe_add, ← EReal.coe_mul, ds_ref]
  unfold Scalar.select
  refine (if_congr (ref23 r j) rfl rfl).trans ?_
  rw [show ((0 : EReal)) = ((0 : ℝ) : EReal) from rfl, coe_ite]
  refine congrArg (fun t : ℝ => (t : EReal)) ?_
  rw [dsM_eq]
  split_ifs <;> rfl

/-- The queries' gradient. -/
theorem ref82 (h : Fin 4) (r : Fin 4096) (d : Fin 64) : val_main_v82 (F := Ideal) A C W (ix3 h r d)
    = (((∑ j, dsM (aq a h) (ak a h) (av a h) (aw w h) (c h) (Mx a c h) r j * ak a h j d) * (1 / 8) : ℝ) : EReal) := by
  have e : val_main_v82 (F := Ideal) A C W (ix3 h r d) = ∑ j : Fin 4096, HMul.hMul (α := EReal) (β := EReal) (γ := EReal) (HMul.hMul (α := EReal) (β := EReal) (γ := EReal)
      (val_main_v71 (F := Ideal) A C W (ix3 h r j)) (Ideal.ofBits .f32 0x3E000000#32)) (val_main_v6 (F := Ideal) A (ix3 h j d)) := by
    unfold val_main_v82 val_main_v80 val_main_v79 val_main_cst_17
    generalize val_main_v71 (F := Ideal) A C W = X
    generalize val_main_v6 (F := Ideal) A = Y
    pointwise
  rw [e]
  simp only [ref71 hA hC hW, ref6 hA, lit_eighth, ← EReal.coe_mul, ← Cert.Num.coe_sum]
  refine congrArg (fun t : ℝ => (t : EReal)) ?_
  rw [Finset.sum_mul]
  exact Finset.sum_congr rfl fun j _ => by ring

/-- The keys' gradient. -/
theorem ref81 (h : Fin 4) (j : Fin 4096) (d : Fin 64) : val_main_v81 (F := Ideal) A C W (ix3 h j d)
    = ((∑ r, dsM (aq a h) (ak a h) (av a h) (aw w h) (c h) (Mx a c h) r j * (aq a h r d * (1 / 8)) : ℝ) : EReal) := by
  have e : val_main_v81 (F := Ideal) A C W (ix3 h j d) = ∑ r : Fin 4096, HMul.hMul (α := EReal) (β := EReal) (γ := EReal) (HMul.hMul (α := EReal) (β := EReal) (γ := EReal)
      (val_main_v71 (F := Ideal) A C W (ix3 h r j)) (Ideal.ofBits .f32 0x3E000000#32)) (val_main_v4 (F := Ideal) A (ix3 h r d)) := by
    unfold val_main_v81 val_main_v80 val_main_v79 val_main_cst_17
    generalize val_main_v71 (F := Ideal) A C W = X
    generalize val_main_v4 (F := Ideal) A = Y
    pointwise
  rw [e]
  simp only [ref71 hA hC hW, ref4 hA, lit_eighth, ← EReal.coe_mul, ← Cert.Num.coe_sum]
  exact congrArg (fun t : ℝ => (t : EReal)) (Finset.sum_congr rfl fun r _ => by ring)

/-- The cumulative gate's gradient, as a row's. -/
theorem ref83 (h : Fin 4) (r : Fin 4096) (z : Fin 1) : val_main_v83 (F := Ideal) A C W (ix3 h r z)
    = ((∑ j, dsM (aq a h) (ak a h) (av a h) (aw w h) (c h) (Mx a c h) r j : ℝ) : EReal) := by
  have e : val_main_v83 (F := Ideal) A C W (ix3 h r z) = ∑ y : Fin 1, ∑ j : Fin 4096, (val_main_v71 (F := Ideal) A C W (ix3 h r j) : EReal) := by
    unfold val_main_v83 val_main_v78 val_main_v73 val_main_v72 val_main_cst_13 val_main_cst_16
    generalize val_main_v71 (F := Ideal) A C W = X
    pointwise
  rw [e, Fin.sum_univ_one]
  simp only [ref71 hA hC hW, ← Cert.Num.coe_sum]

/-- The cumulative gate's gradient, as a key's. -/
theorem ref84 (h : Fin 4) (k : Fin 8) (x : Fin 512) : val_main_v84 (F := Ideal) A C W (ix4 h k 0 x)
    = ((∑ r, -dsM (aq a h) (ak a h) (av a h) (aw w h) (c h) (Mx a c h) r ⟨k.val * 512 + x.val, by omega⟩ : ℝ) : EReal) := by
  have e : val_main_v84 (F := Ideal) A C W (ix4 h k 0 x) = ∑ y : Fin 1, ∑ r : Fin 4096, -(val_main_v71 (F := Ideal) A C W (ix3 h r ⟨k.val * 512 + x.val, by omega⟩) : EReal) := by
    unfold val_main_v84 val_main_v77 val_main_v76 val_main_v75 val_main_v74 val_main_cst_14 val_main_cst_15
    generalize val_main_v71 (F := Ideal) A C W = X
    pointwise
  rw [e, Fin.sum_univ_one]
  simp only [ref71 hA hC hW, ← EReal.coe_neg, ← Cert.Num.coe_sum]

omit hA hC hW

/-- The reference's run, its results as the last stages of the line. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = val_main_v82 (F := Ideal) (m ((c.tc : Thread nD τ).loc main_arg0)) (m ((c.tc : Thread nD τ).loc main_arg1)) (m ((c.tc : Thread nD τ).loc main_arg2))
      ∧ r.2.mem ((c.tc : Thread nD τ).loc main_v81) = val_main_v81 (F := Ideal) (m ((c.tc : Thread nD τ).loc main_arg0)) (m ((c.tc : Thread nD τ).loc main_arg1)) (m ((c.tc : Thread nD τ).loc main_arg2))
      ∧ r.2.mem ((c.tc : Thread nD τ).loc main_v57) = val_main_v57 (F := Ideal) (m ((c.tc : Thread nD τ).loc main_arg0)) (m ((c.tc : Thread nD τ).loc main_arg1)) (m ((c.tc : Thread nD τ).loc main_arg2))
      ∧ r.2.mem ((c.tc : Thread nD τ).loc main_v83) = val_main_v83 (F := Ideal) (m ((c.tc : Thread nD τ).loc main_arg0)) (m ((c.tc : Thread nD τ).loc main_arg1)) (m ((c.tc : Thread nD τ).loc main_arg2))
      ∧ r.2.mem ((c.tc : Thread nD τ).loc main_v84) = val_main_v84 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v82_eq m c), (h c).2.1.trans (val_main_v81_eq m c), (h c).2.2.1.trans (val_main_v57_eq m c),
      (h c).2.2.2.1.trans (val_main_v83_eq m c), (h c).2.2.2.2.1.trans (val_main_v84_eq m c), (h c).2.2.2.2.2⟩)
    (Cert.AttnRIdeal.Value.run m ρ)

end Reference

open Cert.AttnKIdeal Cert.AttnKIdeal.Gen

/-- The finiteness test makes every input a real number. -/
theorem real_of_pre {m : (ℓ : Loc nD τ sig) → Buf (Elt Ideal) ℓ} (hp : Cert.Pre_AttnKIdeal_finite_attn m) (c : Dev nD) :
    (∀ i, ∃ r : ℝ, m ((c.tc : Thread nD τ).loc main_arg0) i = (r : EReal)) ∧ (∀ i, ∃ r : ℝ, m ((c.tc : Thread nD τ).loc main_arg1) i = (r : EReal))
      ∧ (∀ i, ∃ r : ℝ, m ((c.tc : Thread nD τ).loc main_arg2) i = (r : EReal)) := by
  have h := congrFun (hp c) (fun a => a.elim0)
  dsimp only [Cert.Pre_finite_attn.fn] at h
  have hab := IntOp.andi_eq_one.1 h
  have ha := IntOp.andi_eq_one.1 hab.1
  haveI : Subsingleton (Cert.Pre_finite_attn.S_).Idx := ⟨fun x y => funext fun a => a.elim0⟩
  exact ⟨fun i => Cert.Num.real_of_test _ _ i rfl (Host.reduce_andi_all _ _ _ _ _ ha.1 i),
    fun i => Cert.Num.real_of_test _ _ i rfl (Host.reduce_andi_all _ _ _ _ _ ha.2 i),
    fun i => Cert.Num.real_of_test _ _ i rfl (Host.reduce_andi_all _ _ _ _ _ hab.2 i)⟩

theorem algebraic : Cert.algebraic_AttnKIdeal_AttnRIdeal_pre_finite_attn := by
  intro m g m' g' hpre hagree
  have real (c : Dev nD) : ∃ (a : Fin 4096 → Fin 768 → ℝ) (g : Fin 4 → Fin 4096 → ℝ) (w : Fin 4096 → Fin 256 → ℝ),
      (∀ r l, m ((c.tc : Thread nD τ).loc main_arg0) (ix2 r l) = ((a r l : ℝ) : EReal)) ∧ (∀ h r, m ((c.tc : Thread nD τ).loc main_arg1) (ix2 h r) = ((g h r : ℝ) : EReal))
        ∧ (∀ r l, m ((c.tc : Thread nD τ).loc main_arg2) (ix2 r l) = ((w r l : ℝ) : EReal)) := by
    obtain ⟨h0, h1, h2⟩ := real_of_pre hpre c
    choose f0 e0 using h0
    choose f1 e1 using h1
    choose f2 e2 using h2
    exact ⟨fun r l => f0 (ix2 r l), fun r l => f1 (ix2 r l), fun r l => f2 (ix2 r l), fun r l => e0 _, fun r l => e1 _, fun r l => e2 _⟩
  refine ⟨fun c => Cert.AttnRIdeal.Read.val_main_v82 (F := Ideal) (m ((c.tc : Thread nD τ).loc main_arg0)) (m ((c.tc : Thread nD τ).loc main_arg1)) (m ((c.tc : Thread nD τ).loc main_arg2)),
    fun c => Cert.AttnRIdeal.Read.val_main_v81 (F := Ideal) (m ((c.tc : Thread nD τ).loc main_arg0)) (m ((c.tc : Thread nD τ).loc main_arg1)) (m ((c.tc : Thread nD τ).loc main_arg2)),
    fun c => Cert.AttnRIdeal.Read.val_main_v57 (F := Ideal) (m ((c.tc : Thread nD τ).loc main_arg0)) (m ((c.tc : Thread nD τ).loc main_arg1)) (m ((c.tc : Thread nD τ).loc main_arg2)),
    fun c => Cert.AttnRIdeal.Read.val_main_v83 (F := Ideal) (m ((c.tc : Thread nD τ).loc main_arg0)) (m ((c.tc : Thread nD τ).loc main_arg1)) (m ((c.tc : Thread nD τ).loc main_arg2)),
    fun c => Cert.AttnRIdeal.Read.val_main_v84 (F := Ideal) (m ((c.tc : Thread nD τ).loc main_arg0)) (m ((c.tc : Thread nD τ).loc main_arg1)) (m ((c.tc : Thread nD τ).loc main_arg2)), ?_, ?_⟩
  · refine Idealize.ShloMosaic.θ_run_mono (Cert.AttnKIdeal.Value.run_blocks m g) ?_
    intro r hr c
    obtain ⟨a, u, w, hA, hC, hW⟩ := real c
    exact ⟨(hr c).1.trans (fin8 hA hC hW _ fun h r d => ref82 hA hC hW h r d),
      (hr c).2.1.trans (fin9 hA hC hW _ fun h r d => ref81 hA hC hW h r d),
      (hr c).2.2.1.trans (fin10 hA hC hW _ fun h r d => ref57 hA hC hW h r d),
      (hr c).2.2.2.1.trans (fin11 hA hC hW _ fun h r d => ref83 hA hC hW h r d),
      (hr c).2.2.2.2.1.trans (fin12 hA hC hW _ fun h k x => ref84 hA hC hW h k x),
      (hr c).2.2.2.2.2⟩
  · refine Idealize.ShloMosaic.θ_run_mono (ref_run m' g') ?_
    intro r hr c
    have hc := hr c
    rw [(hagree c).1, (hagree c).2.1, (hagree c).2.2] at hc
    refine ⟨hc.1, hc.2.1, hc.2.2.1, hc.2.2.2.1, hc.2.2.2.2.1, ?_⟩
    rw [(hagree c).1, (hagree c).2.1, (hagree c).2.2]
    exact hc.2.2.2.2.2

end Cert.Attn

end
-- ==== Proof.FwdMath.lean ====
/- A row of causal softmax attention taken a block of keys at a time: the running maximum, sum and weighted sum, over the reals. -/
module

public import proofs.«01_k».proof.Proof.AttnMath

@[expose] public section

noncomputable section

open Idealize.ShloMosaic

namespace Cert.FwdMath

open Cert.AttnMath

/-! ### One block's step, over the extended reals -/

section Step

variable (t v : Fin 1024 → EReal) (m l a : EReal)

/-- The maximum with a block of scores taken in. -/
def nm : EReal := max m (Finset.univ.fold max ⊥ t)

/-- The sum with a block taken in. -/
def nl : EReal := Ideal.exp (m - nm t m) * l + ∑ x, Ideal.exp (t x - nm t m)

/-- A weighted sum with a block taken in. -/
def na : EReal := Ideal.exp (m - nm t m) * a + ∑ x, Ideal.exp (t x - nm t m) * v x

end Step

/-! ### The row, over the reals -/

section Row

variable (σ : Fin 4096 → ℝ)

/-- The weighted sum of `g` over the first `n` keys, the weights relative to `M`. -/
def S (g : Fin 4096 → ℝ) (n : ℕ) (M : ℝ) : ℝ := ∑ j, if j.val < n then Real.exp (σ j - M) * g j else 0

theorem S_zero (g : Fin 4096 → ℝ) (M : ℝ) : S σ g 0 M = 0 :=
  Finset.sum_eq_zero fun j _ => if_neg (Nat.not_lt_zero _)

theorem S_shift (g : Fin 4096 → ℝ) (n : ℕ) (M M' : ℝ) : Real.exp (M - M') * S σ g n M = S σ g n M' := by
  unfold S
  rw [Finset.mul_sum]
  refine Finset.sum_congr rfl fun j _ => ?_
  split_ifs
  · rw [← mul_assoc, ← Real.exp_add]
    congr 2
    ring
  · rw [mul_zero]

theorem S_block (g : Fin 4096 → ℝ) {n n' : ℕ} (h : n < n') (h' : n' ≤ n + 1024) (hn : n + 1024 ≤ 4096) (M : ℝ) :
    S σ g n' M = S σ g n M + ∑ x : Fin 1024, if n + x.val < n' then Real.exp (σ ⟨n + x.val, by omega⟩ - M) * g ⟨n + x.val, by omega⟩ else 0 := by
  have hb : (∑ x : Fin 1024, if n + x.val < n' then Real.exp (σ ⟨n + x.val, by omega⟩ - M) * g ⟨n + x.val, by omega⟩ else 0)
      = ∑ j : Fin 4096, if n ≤ j.val ∧ j.val < n' then Real.exp (σ j - M) * g j else 0 := by
    rw [← Finset.sum_filter, ← Finset.sum_filter]
    refine Finset.sum_bij (fun x _ => (⟨n + x.val, by omega⟩ : Fin 4096)) (fun x hx => ?_) (fun a _ b _ e => ?_) (fun j hj => ?_) (fun _ _ => rfl)
    · exact Finset.mem_filter.2 ⟨Finset.mem_univ _, by show n ≤ n + x.val; omega, (Finset.mem_filter.1 hx).2⟩
    · have := congrArg Fin.val e
      exact Fin.ext (by simpa using this)
    · have hj' := (Finset.mem_filter.1 hj).2
      exact ⟨⟨j.val - n, by omega⟩, Finset.mem_filter.2 ⟨Finset.mem_univ _, by show n + (j.val - n) < n'; omega⟩,
        Fin.ext (by show n + (j.val - n) = j.val; omega)⟩
  rw [hb]
  unfold S
  rw [← Finset.sum_add_distrib]
  refine Finset.sum_congr rfl fun j _ => ?_
  by_cases h1 : j.val < n
  · rw [if_pos h1, if_pos (by omega), if_neg (by omega), add_zero]
  · by_cases h2 : j.val < n'
    · rw [if_neg h1, if_pos h2, if_pos ⟨by omega, h2⟩, zero_add]
    · rw [if_neg h1, if_neg h2, if_neg (by omega), zero_add]

theorem S_pos {n : ℕ} (hn : 0 < n) (M : ℝ) : 0 < S σ (fun _ => 1) n M := by
  refine Finset.sum_pos' (fun j _ => ?_) ⟨0, Finset.mem_univ _, ?_⟩
  · split_ifs
    · rw [mul_one]; exact (Real.exp_pos _).le
    · exact le_rfl
  · rw [if_pos (show (0 : Fin 4096).val < n from hn), mul_one]; exact Real.exp_pos _

/-- The row's output does not depend on what the weights are relative to. -/
theorem quot_indep (g : Fin 4096 → ℝ) (n : ℕ) (M : ℝ) :
    S σ g n M / S σ (fun _ => 1) n M = S σ g n 0 / S σ (fun _ => 1) n 0 := by
  rw [← S_shift σ g n 0 M, ← S_shift σ (fun _ => 1) n 0 M]
  exact mul_div_mul_left _ _ (Real.exp_pos _).ne'

/-- Nor does its log-sum. -/
theorem log_indep {n : ℕ} (hn : 0 < n) (M : ℝ) :
    M + Real.log (S σ (fun _ => 1) n M) = Real.log (S σ (fun _ => 1) n 0) := by
  rw [← S_shift σ (fun _ => 1) n 0 M, Real.log_mul (Real.exp_pos _).ne' (S_pos σ hn 0).ne', Real.log_exp]
  ring

variable (V : Fin 4096 → Fin 64 → ℝ)

/-- What a row carries after its first `n` keys: nothing yet, or the sums relative to some number. -/
def Row (n : ℕ) (m l : EReal) (a : Fin 64 → EReal) : Prop :=
  (n = 0 ∧ m = ⊥ ∧ l = 0 ∧ ∀ d, a d = 0)
    ∨ ∃ M : ℝ, m = (M : EReal) ∧ l = (S σ (fun _ => 1) n M : EReal) ∧ ∀ d, a d = (S σ (fun j => V j d) n M : EReal)

theorem row_zero : Row σ V 0 ⊥ 0 (fun _ => 0) := .inl ⟨rfl, rfl, rfl, fun _ => rfl⟩

theorem exp_bot_sub (M : ℝ) : Ideal.exp (⊥ - (M : EReal)) = 0 := by
  rw [EReal.bot_sub]
  rfl

theorem exp_coe (M : ℝ) : Ideal.exp (M : EReal) = ((Real.exp M : ℝ) : EReal) := rfl

variable {σ V} {n n' : ℕ} {m l : EReal} {a : Fin 64 → EReal} {t : Fin 1024 → EReal} {v : Fin 1024 → Fin 64 → EReal}
  (h : n < n') (h' : n' ≤ n + 1024) (hn : n + 1024 ≤ 4096)
  (ht : ∀ x, t x = if n + x.val < n' then ((σ ⟨n + x.val, by omega⟩ : ℝ) : EReal) else ⊥)
  (hv : ∀ x d, v x d = (V ⟨n + x.val, by omega⟩ d : EReal))

include h h' hn ht

/-- A block's scores, against a real number. -/
theorem block_sum (g : Fin 4096 → ℝ) (w : Fin 1024 → EReal) (hw : ∀ x, w x = (g ⟨n + x.val, by omega⟩ : EReal)) (M : ℝ) :
    ∑ x, Ideal.exp (t x - (M : EReal)) * w x
      = ((∑ x : Fin 1024, if n + x.val < n' then Real.exp (σ ⟨n + x.val, by omega⟩ - M) * g ⟨n + x.val, by omega⟩ else 0 : ℝ) : EReal) := by
  rw [Cert.Num.coe_sum]
  refine Finset.sum_congr rfl fun x _ => ?_
  rw [ht, hw]
  by_cases hx : n + x.val < n'
  · rw [if_pos hx, if_pos hx, ← EReal.coe_sub, exp_coe, ← EReal.coe_mul]
  · rw [if_neg hx, if_neg hx, exp_bot_sub, zero_mul]
    rfl

include hv

/-- A block taken in. -/
theorem row_step (H : Row σ V n m l a) :
    Row σ V n' (nm t m) (nl t m l) (fun d => na t (fun x => v x d) m (a d)) := by
  obtain ⟨B, hB⟩ := sup_real t (fun x => by rw [ht]; split_ifs; exact EReal.coe_ne_top _; exact bot_ne_top) 0
    (by rw [ht, if_pos (show n + (0 : Fin 1024).val < n' by show n + 0 < n'; omega)]; exact EReal.coe_ne_bot _)
  have key (M : ℝ) (hM : nm t m = (M : EReal))
      (hl : Ideal.exp (m - M) * l = ((S σ (fun _ => 1) n M : ℝ) : EReal))
      (ha : ∀ d, Ideal.exp (m - M) * a d = ((S σ (fun j => V j d) n M : ℝ) : EReal)) :
      Row σ V n' (nm t m) (nl t m l) (fun d => na t (fun x => v x d) m (a d)) := by
    refine .inr ⟨M, hM, ?_, fun d => ?_⟩
    · unfold nl
      rw [hM, hl, S_block σ _ h h' hn, EReal.coe_add, ← block_sum h h' hn ht (fun _ => 1) (fun _ => 1) (fun _ => rfl)]
      simp only [mul_one]
    · show na t (fun x => v x d) m (a d) = _
      unfold na
      rw [hM, ha, S_block σ _ h h' hn, EReal.coe_add, ← block_sum h h' hn ht (fun j => V j d) (fun x => v x d) (fun x => hv x d)]
  rcases H with ⟨h0, hm, hl, ha⟩ | ⟨M, hm, hl, ha⟩
  · subst h0 hm hl
    refine key B (by unfold nm; rw [hB]; exact max_eq_right bot_le) ?_ fun d => ?_
    · rw [mul_zero, S_zero]; rfl
    · rw [ha, mul_zero, S_zero]; rfl
  · subst hm hl
    refine key (max M B) (by unfold nm; rw [hB]; exact (Cert.Num.coe_max M B).symm) ?_ fun d => ?_
    · rw [← EReal.coe_sub, exp_coe, ← EReal.coe_mul, S_shift]
    · rw [ha, ← EReal.coe_sub, exp_coe, ← EReal.coe_mul, S_shift]

omit h h' hn ht hv

/-- The row's output. -/
theorem row_out (H : Row σ V n m l a) (h0 : 0 < n) (d : Fin 64) :
    Ideal.div (a d) l = ((S σ (fun j => V j d) n 0 / S σ (fun _ => 1) n 0 : ℝ) : EReal) := by
  rcases H with ⟨e, -⟩ | ⟨M, hm, hl, ha⟩
  · omega
  · rw [hl, ha, Cert.Num.coe_div_coe _ (S_pos σ h0 M).ne', quot_indep]

/-- The row's log-sum. -/
theorem row_lse (H : Row σ V n m l a) (h0 : 0 < n) :
    m + Ideal.log l = ((Real.log (S σ (fun _ => 1) n 0) : ℝ) : EReal) := by
  rcases H with ⟨e, -⟩ | ⟨M, hm, hl, ha⟩
  · omega
  · rw [hm, hl, log_coe (S_pos σ h0 M), ← EReal.coe_add, log_indep σ h0]

end Row

end Cert.FwdMath

end
-- ==== Proof.FwdTiles.lean ====
/- The attention forward's arithmetic: a block of keys taken into the rows of a query block, and the rows' results. -/
module

public import proofs.«01_k».proof.Proof.FwdMath
public import proofs.«01_k».proof.Proof.Gen.FwdKIdeal.Value
public import proofs.«01_k».proof.Proof.Gen.FwdRIdeal.Run
public import proofs.«01_k».proof.Proof.Gen.FwdRIdeal.Read

@[expose] public section

set_option maxRecDepth 16384

noncomputable section

open Idealize.ShloMosaic Idealize.ShloMosaic.TcCoe Idealize.SL.Sem

namespace Cert.FwdKIdeal.Value

open Cert.FwdKIdeal Cert.FwdKIdeal.Gen Cert.AttnMath Cert.FwdMath

/-! ### The steps, as the kernel's payloads write them -/

section Steps

variable (q k v : FVec Ideal S1024x64 .bf16) (cq : FVec Ideal S1024x1 .f32) (ck : Vec Ideal S1x1x1x1024 .f32)
  (T : FVec Ideal S1024x1024 .f32) (m l : FVec Ideal S1024x1 .f32) (a : FVec Ideal S1024x64 .f32)

/-- The scores of a block. -/
def gS : FVec Ideal S1024x1024 .f32 :=
  addf (matmul dot_S1024x64_S1024x64_S1024x1024_1_1_0_0_n_n none q k (constant S1024x1024 .f32 0x00000000#32))
    (subf (broadcastTo S1024x1024 cq broadcasts_S1024x1_S1024x1024)
      (broadcastTo S1024x1024 (shapeCast S1x1024 ck shapeCasts_S1x1x1x1024_S1x1024) broadcasts_S1x1024_S1024x1024))

/-- The diagonal block's scores, masked. -/
def gD : FVec Ideal S1024x1024 .f32 :=
  select (cmpi .sge (addi (iota .tc S1024x1024 32 [0] iota_S1024x1024_d0_w32) (broadcast S1024x1024 0#32))
      (addi (iota .tc S1024x1024 32 [1] iota_S1024x1024_d1_w32) (broadcast S1024x1024 0#32)))
    T (broadcast S1024x1024 (Named.named κ "mask" 0xF149F2CA#32))

def gM : FVec Ideal S1024x1 .f32 :=
  maximumf m (shapeCast S1024x1 (multiReduction .maximumf [1] S1024 T 0xFF800000#32 reduces_S1024x1024_S1024 (.inl rfl) rfl) shapeCasts_S1024_S1024x1)

def gP : FVec Ideal S1024x1024 .f32 := exp (subf T (broadcastTo S1024x1024 (gM T m) broadcasts_S1024x1_S1024x1024))

def gL : FVec Ideal S1024x1 .f32 :=
  addf (mulf (exp (subf m (gM T m))) l)
    (shapeCast S1024x1 (multiReduction .add [1] S1024 (gP T m) 0x00000000#32 reduces_S1024x1024_S1024 (.inl rfl) rfl) shapeCasts_S1024_S1024x1)

def gA : FVec Ideal S1024x64 .f32 :=
  addf (mulf (broadcastTo S1024x64 (exp (subf m (gM T m))) broadcasts_S1024x1_S1024x64) a)
    (matmul dot_S1024x1024_S1024x64_S1024x64_1_0_0_1_n_n none (truncf .bf16 (gP T m) bitsLt_bf16_f32) v (constant S1024x64 .f32 0x00000000#32))

/-- The output's rows. -/
def gO : FVec Ideal S1x1024x64 .f32 :=
  shapeCast S1x1024x64 (divf (gA v T m a) (broadcastTo S1024x64 (gL T m l) broadcasts_S1024x1_S1024x64)) shapeCasts_S1024x64_S1x1024x64

/-- The rows' log-sums. -/
def gE : FVec Ideal S1x1024x1 .f32 :=
  shapeCast S1x1024x1 (addf (gM T m) (log (gL T m l))) shapeCasts_S1024x1_S1x1024x1

theorem gS_apply (i x : Fin 1024) :
    gS q k cq ck (ix2 i x) = ∑ d : Fin 64, q (ix2 i d) * k (ix2 x d) + (cq (ix2 i 0) - ck (ix4 0 0 0 x)) := by
  pointwise [gS]

theorem gD_apply (i x : Fin 1024) : gD T (ix2 i x) = if x.val ≤ i.val then T (ix2 i x) else ⊥ := by
  pointwise [gD]
  have e : (IntOp.cmpi .sge (IntOp.addi (BitVec.ofNat 32 i.val) 0#32) (IntOp.addi (BitVec.ofNat 32 x.val) 0#32) = 1#1) ↔ x.val ≤ i.val := by
    rw [show IntOp.addi (BitVec.ofNat 32 i.val) 0#32 = BitVec.ofNat 32 i.val from BitVec.add_zero _,
      show IntOp.addi (BitVec.ofNat 32 x.val) 0#32 = BitVec.ofNat 32 x.val from BitVec.add_zero _]
    have := i.isLt; have := x.isLt
    word_cmp
  unfold Scalar.select
  exact if_congr e rfl rfl

theorem gM_apply (i : Fin 1024) : gM T m (ix2 i 0) = nm (fun x => T (ix2 i x)) (m (ix2 i 0)) := by
  unfold nm
  pointwise [gM]
  rw [lit_neg_inf]

theorem gP_apply (i x : Fin 1024) : gP T m (ix2 i x) = Ideal.exp (T (ix2 i x) - nm (fun x => T (ix2 i x)) (m (ix2 i 0))) := by
  rw [← gM_apply]
  unfold gP
  generalize gM T m = M
  pointwise

theorem gL_apply (i : Fin 1024) : gL T m l (ix2 i 0) = nl (fun x => T (ix2 i x)) (m (ix2 i 0)) (l (ix2 i 0)) := by
  unfold nl
  simp only [← gP_apply]
  rw [← gM_apply]
  unfold gL
  generalize gM T m = M
  generalize gP T m = P
  pointwise

theorem gA_apply (i : Fin 1024) (d : Fin 64) :
    gA v T m a (ix2 i d) = na (fun x => T (ix2 i x)) (fun x => v (ix2 x d)) (m (ix2 i 0)) (a (ix2 i d)) := by
  unfold na
  simp only [← gP_apply]
  rw [← gM_apply]
  unfold gA
  generalize gM T m = M
  generalize gP T m = P
  pointwise

theorem gO_apply (i : Fin 1024) (d : Fin 64) : gO v T m l a (ix3 0 i d) = Ideal.div (gA v T m a (ix2 i d)) (gL T m l (ix2 i 0)) := by
  unfold gO
  generalize gA v T m a = A
  generalize gL T m l = L
  pointwise

theorem gE_apply (i : Fin 1024) (z : Fin 1) : gE T m l (ix3 0 i z) = gM T m (ix2 i 0) + Ideal.log (gL T m l (ix2 i 0)) := by
  unfold gE
  generalize gM T m = M
  generalize gL T m l = L
  pointwise

end Steps

/-! ### The rows of a query block -/

section Rows

variable (a b v : Fin 4096 → Fin 64 → ℝ) (c : Fin 4096 → ℝ)

/-- What the query block from row `s` on carries after the first `n` keys. -/
def Carry (s n : ℕ) (M L : FVec Ideal S1024x1 .f32) (A : FVec Ideal S1024x64 .f32) : Prop :=
  ∀ (i : Fin 1024) (h : s + i.val < 4096),
    Row (score a b c ⟨s + i.val, h⟩) v n (M (ix2 i 0)) (L (ix2 i 0)) fun d => A (ix2 i d)

/-- A block's scores are the query block's with the keys from `n` on. -/
def Scores (s n : ℕ) (T : FVec Ideal S1024x1024 .f32) : Prop :=
  ∀ (i x : Fin 1024) (h : s + i.val < 4096) (h' : n + x.val < 4096), T (ix2 i x) = (score a b c ⟨s + i.val, h⟩ ⟨n + x.val, h'⟩ : EReal)

/-- A block's values. -/
def Vals (n : ℕ) (V : FVec Ideal S1024x64 .bf16) : Prop :=
  ∀ (x : Fin 1024) (d : Fin 64) (h' : n + x.val < 4096), V (ix2 x d) = (v ⟨n + x.val, h'⟩ d : EReal)

/-- A row's output. -/
def outR (r : Fin 4096) (d : Fin 64) : ℝ :=
  S (score a b c r) (fun j => v j d) (r.val + 1) 0 / S (score a b c r) (fun _ => 1) (r.val + 1) 0

/-- A row's log-sum. -/
def lseR (r : Fin 4096) : ℝ := Real.log (S (score a b c r) (fun _ => 1) (r.val + 1) 0)

variable {a b v c} {s n : ℕ} {M L : FVec Ideal S1024x1 .f32} {A : FVec Ideal S1024x64 .f32} {T : FVec Ideal S1024x1024 .f32}
  {V : FVec Ideal S1024x64 .bf16}

/-- A full block taken in. -/
theorem carry_step (H : Carry a b v c s n M L A) (hT : Scores a b c s n T) (hV : Vals v n V) (hn : n + 1024 ≤ 4096) :
    Carry a b v c s (n + 1024) (gM T M) (gL T M L) (gA V T M A) := by
  intro i h
  have := row_step (σ := score a b c ⟨s + i.val, h⟩) (V := v) (n := n) (n' := n + 1024) (t := fun x => T (ix2 i x)) (v := fun x d => V (ix2 x d)) (by omega) le_rfl hn
    (fun x => by rw [if_pos (by omega)]; exact hT i x h _) (fun x d => hV x d _) (H i h)
  rw [gM_apply, gL_apply]
  simp only [gA_apply]
  exact this

/-- The diagonal block taken in. -/
theorem carry_diag (H : Carry a b v c s s M L A) (hT : Scores a b c s s T) (hV : Vals v s V) (hn : s + 1024 ≤ 4096) (i : Fin 1024) (h : s + i.val < 4096) :
    Row (score a b c ⟨s + i.val, h⟩) v (s + i.val + 1) (gM (gD T) M (ix2 i 0)) (gL (gD T) M L (ix2 i 0)) fun d => gA V (gD T) M A (ix2 i d) := by
  have := row_step (σ := score a b c ⟨s + i.val, h⟩) (V := v) (n := s) (n' := s + i.val + 1) (t := fun x => gD T (ix2 i x)) (v := fun x d => V (ix2 x d)) (by omega) (by omega) hn
    (fun x => by
      show gD T (ix2 i x) = _
      rw [gD_apply]
      exact (if_congr (by omega) (hT i x h (by omega)) rfl)) (fun x d => hV x d _) (H i h)
  rw [gM_apply, gL_apply]
  simp only [gA_apply]
  exact this

theorem diag_out (H : Carry a b v c s s M L A) (hT : Scores a b c s s T) (hV : Vals v s V) (hn : s + 1024 ≤ 4096) (i : Fin 1024) (h : s + i.val < 4096) (d : Fin 64) :
    gO V (gD T) M L A (ix3 0 i d) = (outR a b v c ⟨s + i.val, h⟩ d : EReal) := by
  rw [gO_apply]
  exact row_out (carry_diag H hT hV hn i h) (by omega) d

theorem diag_lse (H : Carry a b v c s s M L A) (hT : Scores a b c s s T) (hV : Vals v s V) (hn : s + 1024 ≤ 4096) (i : Fin 1024) (h : s + i.val < 4096) (z : Fin 1) :
    gE (gD T) M L (ix3 0 i z) = (lseR a b c ⟨s + i.val, h⟩ : EReal) := by
  rw [gE_apply]
  exact row_lse (carry_diag H hT hV hn i h) (by omega)

end Rows

/-! ### A head's operands -/

section Head

variable (x0 x1 x2 : Vec Ideal S1x4096x64 .bf16) (x3 : Vec Ideal S1x4096x1 .f32) (x4 : Vec Ideal S1x4x1x1024 .f32)
  (a b v : Fin 4096 → Fin 64 → ℝ) (c : Fin 4096 → ℝ)

/-- A head's operands hold real numbers. -/
structure Holds : Prop where
  i_q : ∀ r d, x0 (ix3 0 r d) = ((a r d * (1 / 8) : ℝ) : EReal)
  i_k : ∀ r d, x1 (ix3 0 r d) = (b r d : EReal)
  i_v : ∀ r d, x2 (ix3 0 r d) = (v r d : EReal)
  i_cq : ∀ r, x3 (ix3 0 r 0) = (c r : EReal)
  i_ck : ∀ (k : Fin 4) (x : Fin 1024), x4 (ix4 0 k 0 x) = (c ⟨k.val * 1024 + x.val, by omega⟩ : EReal)

theorem cast_rows (Y : Vec Ideal S1x1024x64 .bf16) (i : Fin 1024) (d : Fin 64) : k0_pay34 Y (ix2 i d) = Y (ix3 0 i d) := by
  unfold k0_pay34
  pointwise

theorem ld_rows (X : Vec Ideal S1x4096x64 .bf16) {n : ℕ} {off : Fin 3 → ℕ} (ho : off = ![0, n, 0])
    (inb : ∀ i, off i + S1x1024x64.size i ≤ S1x4096x64.size i) (i : Fin 1024) (d : Fin 64) (h : n + i.val < 4096) :
    k0_pay34 (View.ld (Val := Elt Ideal) X (Rect.unit (s := S1x4096x64) off S1x1024x64.size inb)) (ix2 i d) = X (ix3 0 ⟨n + i.val, h⟩ d) := by
  subst ho
  refine (cast_rows _ i d).trans (congrArg X (funext fun k => Fin.ext ?_))
  match k with
  | ⟨0, _⟩ => rfl
  | ⟨1, _⟩ => show n + 1 * i.val = n + i.val; omega
  | ⟨2, _⟩ => show 0 + 1 * d.val = d.val; omega

theorem ld_gates (X : Vec Ideal S1x4096x1 .f32) {n : ℕ} {off : Fin 3 → ℕ} (ho : off = ![0, n, 0])
    (inb : ∀ i, off i + S1x1024x1.size i ≤ S1x4096x1.size i) (i : Fin 1024) (h : n + i.val < 4096) :
    k0_pay35 (View.ld (Val := Elt Ideal) X (Rect.unit (s := S1x4096x1) off S1x1024x1.size inb)) (ix2 i 0)
      = X (ix3 0 ⟨n + i.val, h⟩ 0) := by
  subst ho
  unfold k0_pay35
  pointwise

theorem ld_keyGates (X : Vec Ideal S1x4x1x1024 .f32) {k : ℕ} {off : Fin 4 → ℕ} (ho : off = ![0, k, 0, 0])
    (inb : ∀ i, off i + S1x1x1x1024.size i ≤ S1x4x1x1024.size i) (x : Fin 1024) (h : k < 4) :
    View.ld (Val := Elt Ideal) X (Rect.unit (s := S1x4x1x1024) off S1x1x1x1024.size inb) (ix4 0 0 0 x) = X (ix4 0 ⟨k, h⟩ 0 x) := by
  subst ho
  pointwise

end Head

end Cert.FwdKIdeal.Value

end
-- ==== Proof.Fwd.lean ====
/- The attention forward's four query blocks: the loops over full key blocks, the diagonal blocks, and one head's results. -/
module

public import proofs.«01_k».proof.Proof.FwdTiles

@[expose] public section

set_option maxRecDepth 16384

noncomputable section

open Idealize.ShloMosaic Idealize.ShloMosaic.TcCoe Idealize.SL.Sem

namespace Cert.FwdKIdeal.Value

open Cert.FwdKIdeal Cert.FwdKIdeal.Gen Cert.AttnMath Cert.FwdMath

/-! ### The payloads are the steps -/

section Payloads

variable (q k v : Vec Ideal S1x1024x64 .bf16) (cq : Vec Ideal S1x1024x1 .f32) (ck : Vec Ideal S1x1x1x1024 .f32)
  (m l : FVec Ideal S1024x1 .f32) (a : FVec Ideal S1024x64 .f32) (V : FVec Ideal S1024x64 .bf16) (T : FVec Ideal S1024x1024 .f32)

/-- A block's scores, of the blocks as they are loaded. -/
abbrev sS : FVec Ideal S1024x1024 .f32 := gS (k0_pay34 q) (k0_pay34 k) (k0_pay35 cq) ck

theorem first_out : k0_pay11 (k0_pay2 (F := Ideal)) (k0_pay3 (F := Ideal)) (k0_pay4 v) (k0_pay5 q cq k ck) (k0_pay7 q cq k ck) (k0_pay8 q cq k ck)
    = gO (k0_pay34 v) (gD (sS q k cq ck)) k0_pay36 k0_pay37 k0_pay38 := rfl

theorem first_lse : k0_pay12 (k0_pay2 (F := Ideal)) (k0_pay5 q cq k ck) (k0_pay6 q cq k ck) (k0_pay7 q cq k ck) (k0_pay8 q cq k ck)
    = gE (gD (sS q k cq ck)) k0_pay36 k0_pay37 := rfl

theorem second_m : k0_pay20 (k0_pay13 q) (k0_pay14 cq) (k0_pay15 (F := Ideal)) (k0_pay18 k) ck = gM (sS q k cq ck) k0_pay36 := rfl

theorem second_l : k0_pay23 (k0_pay13 q) (k0_pay14 cq) (k0_pay15 (F := Ideal)) (k0_pay16 (F := Ideal)) (k0_pay18 k) ck
    = gL (sS q k cq ck) k0_pay36 k0_pay37 := rfl

theorem second_a : k0_pay24 (k0_pay13 q) (k0_pay14 cq) (k0_pay15 (F := Ideal)) (k0_pay17 (F := Ideal)) (k0_pay18 k) v ck
    = gA (k0_pay34 v) (sS q k cq ck) k0_pay36 k0_pay38 := rfl

theorem second_out : k0_pay32 m l a (k0_pay25 v) (k0_pay26 (k0_pay13 q) (k0_pay14 cq) k ck) (iota Kind.tc S1024x1024 32 [0] iota_S1024x1024_d0_w32) 0#32
    = gO (k0_pay34 v) (gD (sS q k cq ck)) m l a := rfl

theorem second_lse : k0_pay33 m l (k0_pay26 (k0_pay13 q) (k0_pay14 cq) k ck) (iota Kind.tc S1024x1024 32 [0] iota_S1024x1024_d0_w32) 0#32
    = gE (gD (sS q k cq ck)) m l := rfl

theorem third_m : k0_pay40 (k0_pay34 q) (k0_pay35 cq) m k ck = gM (sS q k cq ck) m := rfl

theorem third_l : k0_pay43 (k0_pay34 q) (k0_pay35 cq) m l k ck = gL (sS q k cq ck) m l := rfl

theorem third_a : k0_pay44 (k0_pay34 q) (k0_pay35 cq) m a k v ck = gA (k0_pay34 v) (sS q k cq ck) m a := rfl

theorem third_out : k0_pay51 a (k0_pay45 v) (k0_pay48 (k0_pay34 q) (k0_pay35 cq) m k ck) (k0_pay49 (k0_pay34 q) (k0_pay35 cq) m k ck)
      (k0_pay50 (k0_pay34 q) (k0_pay35 cq) m l k ck)
    = gO (k0_pay34 v) (gD (sS q k cq ck)) m l a := rfl

theorem third_lse : k0_pay52 (k0_pay47 (k0_pay34 q) (k0_pay35 cq) m k ck) (k0_pay50 (k0_pay34 q) (k0_pay35 cq) m l k ck)
    = gE (gD (sS q k cq ck)) m l := rfl

theorem fourth_m : k0_pay59 q cq m k ck = gM (sS q k cq ck) m := rfl

theorem fourth_l : k0_pay62 q cq m l k ck = gL (sS q k cq ck) m l := rfl

theorem fourth_a : k0_pay63 q cq m a k v ck = gA (k0_pay34 v) (sS q k cq ck) m a := rfl

theorem fourth_out : k0_pay71 (k0_pay54 cq) m l a (k0_pay64 v) (k0_pay65 q k) ck = gO (k0_pay34 v) (gD (sS q k cq ck)) m l a := rfl

theorem fourth_lse : k0_pay72 (k0_pay54 cq) m l (k0_pay65 q k) ck = gE (gD (sS q k cq ck)) m l := rfl

end Payloads

/-! ### Blocks of a head's operands -/

section Head

variable {x0 x1 x2 : Vec Ideal S1x4096x64 .bf16} {x3 : Vec Ideal S1x4096x1 .f32} {x4 : Vec Ideal S1x4x1x1024 .f32}
  {a b v : Fin 4096 → Fin 64 → ℝ} {c : Fin 4096 → ℝ} (H : Holds x0 x1 x2 x3 x4 a b v c)

include H

theorem scores {s n k : ℕ} (hn : n = k * 1024) (hk : k < 4) {oq ok og : Fin 3 → ℕ} {oc : Fin 4 → ℕ}
    (eq : oq = ![0, s, 0]) (ek : ok = ![0, n, 0]) (eg : og = ![0, s, 0]) (ec : oc = ![0, k, 0, 0])
    (iq : ∀ i, oq i + S1x1024x64.size i ≤ S1x4096x64.size i) (ik : ∀ i, ok i + S1x1024x64.size i ≤ S1x4096x64.size i)
    (ig : ∀ i, og i + S1x1024x1.size i ≤ S1x4096x1.size i) (ic : ∀ i, oc i + S1x1x1x1024.size i ≤ S1x4x1x1024.size i) :
    Scores a b c s n (sS (View.ld (Val := Elt Ideal) x0 (Rect.unit (s := S1x4096x64) oq S1x1024x64.size iq))
      (View.ld (Val := Elt Ideal) x1 (Rect.unit (s := S1x4096x64) ok S1x1024x64.size ik))
      (View.ld (Val := Elt Ideal) x3 (Rect.unit (s := S1x4096x1) og S1x1024x1.size ig))
      (View.ld (Val := Elt Ideal) x4 (Rect.unit (s := S1x4x1x1024) oc S1x1x1x1024.size ic))) := by
  intro i x h h'
  subst hn
  refine (gS_apply _ _ _ _ i x).trans ?_
  have e1 (d : Fin 64) := ld_rows x0 eq iq i d h
  have e2 (d : Fin 64) := ld_rows x1 ek ik x d h'
  rw [ld_gates x3 eg ig i h, ld_keyGates x4 ec ic x hk, H.i_cq, H.i_ck]
  simp only [e1, e2, H.i_q, H.i_k, ← EReal.coe_mul, ← Cert.Num.coe_sum, ← EReal.coe_sub, ← EReal.coe_add]
  rfl

theorem vals {n : ℕ} {ov : Fin 3 → ℕ} (ev : ov = ![0, n, 0]) (iv : ∀ i, ov i + S1x1024x64.size i ≤ S1x4096x64.size i) :
    Vals v n (k0_pay34 (View.ld (Val := Elt Ideal) x2 (Rect.unit (s := S1x4096x64) ov S1x1024x64.size iv))) := by
  intro x d h'
  rw [ld_rows x2 ev iv x d h', H.i_v]

omit H

theorem carry_zero (s : ℕ) : Carry a b v c s 0 (k0_pay36 (F := Ideal)) (k0_pay37 (F := Ideal)) (k0_pay38 (F := Ideal)) := by
  intro i h
  have e0 : (k0_pay36 (F := Ideal)) (ix2 i 0) = (⊥ : EReal) := rfl
  have e1 : (k0_pay37 (F := Ideal)) (ix2 i 0) = (0 : EReal) := by pointwise [k0_pay37]
  have e2 (d : Fin 64) : (k0_pay38 (F := Ideal)) (ix2 i d) = (0 : EReal) := by pointwise [k0_pay38]
  rw [e0, e1]
  simp only [e2]
  exact row_zero _ _

end Head

end Cert.FwdKIdeal.Value

end
-- ==== Proof.FwdHead.lean ====
/- One head of the attention forward: the loops over full key blocks and the results' rows. -/
module

public import proofs.«01_k».proof.Proof.Fwd
public import Idealize.ShloMosaic.Lib.Tactic.RunNames

@[expose] public section

set_option maxRecDepth 16384

noncomputable section

open Idealize.ShloMosaic Idealize.ShloMosaic.TcCoe Idealize.SL.Sem

namespace Cert.FwdKIdeal.Value

open Cert.FwdKIdeal Cert.FwdKIdeal.Gen Cert.AttnMath Cert.FwdMath

variable (cd : Dev nD) (i : grid0.Coords)
  (arg1 : Memref sig .tc .vmem S1x4096x64 .bf16) (harg1 : arg1.IsWhole)
  (arg2 : Memref sig .tc .vmem S1x4096x64 .bf16) (harg2 : arg2.IsWhole)
  (arg3 : Memref sig .tc .vmem S1x4096x64 .bf16) (harg3 : arg3.IsWhole)
  (arg4 : Memref sig .tc .vmem S1x4096x1 .f32) (harg4 : arg4.IsWhole)
  (arg5 : Memref sig .tc .vmem S1x4x1x1024 .f32) (harg5 : arg5.IsWhole)
  (arg6 : Memref sig .tc .vmem S1x4096x64 .f32) (harg6 : arg6.IsWhole)
  (arg7 : Memref sig .tc .vmem S1x4096x1 .f32) (harg7 : arg7.IsWhole)
  {x0 x1 x2 : Vec Ideal S1x4096x64 .bf16} {x3 : Vec Ideal S1x4096x1 .f32} {x4 : Vec Ideal S1x4x1x1024 .f32}
  {a b v : Fin 4096 → Fin 64 → ℝ} {c : Fin 4096 → ℝ} (H : Holds x0 x1 x2 x3 x4 a b v c)

section Third

abbrev q3 (x0 : Vec Ideal S1x4096x64 .bf16) := k0_pay34 (View.ld (Val := Elt Ideal) x0 (Rect.unit (s := S1x4096x64) ![0, 2048, 0] S1x1024x64.size inb_S1x4096x64_S1x1024x64_0_2048_0))

abbrev g3 (x3 : Vec Ideal S1x4096x1 .f32) := k0_pay35 (View.ld (Val := Elt Ideal) x3 (Rect.unit (s := S1x4096x1) ![0, 2048, 0] S1x1024x1.size inb_S1x4096x1_S1x1024x1_0_2048_0))

variable (acc : FVec Ideal S1024x1 .f32 × FVec Ideal S1024x1 .f32 × FVec Ideal S1024x64 .f32) (u : FVec Ideal S1024x1 .f32)

theorem off2 : ∀ n : Fin k0_t1_loop.trips, k0_off2 n = ![0, n.val * 1024, 0] := by decide +kernel

theorem off3 : ∀ n : Fin k0_t1_loop.trips, k0_off3 n = ![0, n.val, 0, 0] := by decide +kernel

include H

theorem trip3 (n : Fin k0_t1_loop.trips) (h : Carry a b v c 2048 (n.val * 1024) acc.1 acc.2.1 acc.2.2)
    {r : FVec Ideal S1024x1 .f32 × FVec Ideal S1024x1 .f32 × FVec Ideal S1024x64 .f32}
    (hr : r = tripR_k0_t1 (F := Ideal) Variants.none cd none i arg1 harg1 arg2 harg2 arg3 harg3 arg4 harg4 arg5 harg5 arg6 harg6 arg7 harg7
      (q3 x0) (g3 x3) u (harg2.unread x1) (harg3.unread x2) (harg5.unread x4) n acc) :
    Carry a b v c 2048 ((n.val + 1) * 1024) r.1 r.2.1 r.2.2 := by
  have hn : n.val < 2 := Nat.lt_of_lt_of_le n.isLt k0_t1_abs.2.1
  subst hr
  have e := carry_step h (scores H rfl (by omega : n.val < 4) rfl (off2 n) rfl (off3 n) inb_S1x4096x64_S1x1024x64_0_2048_0 (k0_off2_inb n) inb_S1x4096x1_S1x1024x1_0_2048_0 (k0_off3_inb n))
    (vals H (off2 n) (k0_off2_inb n)) (by omega)
  rw [show (n.val + 1) * 1024 = n.val * 1024 + 1024 by omega]
  unfold tripR_k0_t1 trip_k0_t1
  dsimp only
  sl_unfold_run_values
  simp only [View.readAt_eq_ld, harg2.read_unread, harg3.read_unread, harg5.read_unread]
  exact e

theorem loop3 :
    let r := st_k0_t1 (F := Ideal) Variants.none cd none i arg1 harg1 arg2 harg2 arg3 harg3 arg4 harg4 arg5 harg5 arg6 harg6 arg7 harg7
      (q3 x0) (g3 x3) u (harg2.unread x1) (harg3.unread x2) (harg5.unread x4) (k0_pay36, k0_pay37, k0_pay38) (Scf.trips (0#32) (Scalar.addi 0#32 2#32) 1#32)
    Carry a b v c 2048 2048 r.1 r.2.1 r.2.2 := by
  have e : Scf.trips (0#32) (Scalar.addi 0#32 2#32) 1#32 = 2 := by decide +kernel
  have g (n : ℕ) (hn : n ≤ k0_t1_loop.trips) :
      let r := st_k0_t1 (F := Ideal) Variants.none cd none i arg1 harg1 arg2 harg2 arg3 harg3 arg4 harg4 arg5 harg5 arg6 harg6 arg7 harg7
        (q3 x0) (g3 x3) u (harg2.unread x1) (harg3.unread x2) (harg5.unread x4) (k0_pay36, k0_pay37, k0_pay38) n
      Carry a b v c 2048 (n * 1024) r.1 r.2.1 r.2.2 := by
    induction n with
    | zero => exact carry_zero 2048
    | succ n ih =>
      exact trip3 cd i arg1 harg1 arg2 harg2 arg3 harg3 arg4 harg4 arg5 harg5 arg6 harg6 arg7 harg7 H _ u ⟨n, hn⟩ (ih (Nat.le_of_succ_le hn))
        (st_k0_t1_succ Variants.none cd none i arg1 harg1 arg2 harg2 arg3 harg3 arg4 harg4 arg5 harg5 arg6 harg6 arg7 harg7 _ _ _ _ _ _ _ ⟨n, hn⟩)
  rw [e]
  exact g 2 (by decide +kernel)

end Third

section Fourth

variable (acc : FVec Ideal S1024x1 .f32 × FVec Ideal S1024x1 .f32 × FVec Ideal S1024x64 .f32)
  (u1 : FVec Ideal S1024x64 .f32) (u2 : FVec Ideal S1024x64 .bf16) (u3 u4 : FVec Ideal S1024x1 .f32) (u5 : FVec Ideal S1024x1024 .f32) (u6 : FVec Ideal S1024x1 .f32)

abbrev q4 (x0 : Vec Ideal S1x4096x64 .bf16) := View.ld (Val := Elt Ideal) x0 (Rect.unit (s := S1x4096x64) ![0, 3072, 0] S1x1024x64.size inb_S1x4096x64_S1x1024x64_0_3072_0)

abbrev g4 (x3 : Vec Ideal S1x4096x1 .f32) := View.ld (Val := Elt Ideal) x3 (Rect.unit (s := S1x4096x1) ![0, 3072, 0] S1x1024x1.size inb_S1x4096x1_S1x1024x1_0_3072_0)

theorem off4 : ∀ n : Fin k0_t2_loop.trips, k0_off4 n = ![0, n.val * 1024, 0] := by decide +kernel

theorem off5 : ∀ n : Fin k0_t2_loop.trips, k0_off5 n = ![0, n.val, 0, 0] := by decide +kernel

include H

theorem trip4 (n : Fin k0_t2_loop.trips) (h : Carry a b v c 3072 (n.val * 1024) acc.1 acc.2.1 acc.2.2)
    {r : FVec Ideal S1024x1 .f32 × FVec Ideal S1024x1 .f32 × FVec Ideal S1024x64 .f32}
    (hr : r = tripR_k0_t2 (F := Ideal) Variants.none cd none i arg1 harg1 arg2 harg2 arg3 harg3 arg4 harg4 arg5 harg5 arg6 harg6 arg7 harg7
      u1 u2 u3 u4 u5 u6 (q4 x0) (g4 x3) (harg2.unread x1) (harg3.unread x2) (harg5.unread x4) n acc) :
    Carry a b v c 3072 ((n.val + 1) * 1024) r.1 r.2.1 r.2.2 := by
  have hn : n.val < 3 := Nat.lt_of_lt_of_le n.isLt k0_t2_abs.2.1
  subst hr
  have e := carry_step h (scores H rfl (by omega : n.val < 4) rfl (off4 n) rfl (off5 n) inb_S1x4096x64_S1x1024x64_0_3072_0 (k0_off4_inb n) inb_S1x4096x1_S1x1024x1_0_3072_0 (k0_off5_inb n))
    (vals H (off4 n) (k0_off4_inb n)) (by omega)
  rw [show (n.val + 1) * 1024 = n.val * 1024 + 1024 by omega]
  unfold tripR_k0_t2 trip_k0_t2
  dsimp only
  sl_unfold_run_values
  simp only [View.readAt_eq_ld, harg2.read_unread, harg3.read_unread, harg5.read_unread]
  exact e

theorem loop4 :
    let r := st_k0_t2 (F := Ideal) Variants.none cd none i arg1 harg1 arg2 harg2 arg3 harg3 arg4 harg4 arg5 harg5 arg6 harg6 arg7 harg7
      u1 u2 u3 u4 u5 u6 (q4 x0) (g4 x3) (harg2.unread x1) (harg3.unread x2) (harg5.unread x4) (k0_pay55, k0_pay56, k0_pay57) (Scf.trips (0#32) (Scalar.addi 0#32 3#32) 1#32)
    Carry a b v c 3072 3072 r.1 r.2.1 r.2.2 := by
  have e : Scf.trips (0#32) (Scalar.addi 0#32 3#32) 1#32 = 3 := by decide +kernel
  have g (n : ℕ) (hn : n ≤ k0_t2_loop.trips) :
      let r := st_k0_t2 (F := Ideal) Variants.none cd none i arg1 harg1 arg2 harg2 arg3 harg3 arg4 harg4 arg5 harg5 arg6 harg6 arg7 harg7
        u1 u2 u3 u4 u5 u6 (q4 x0) (g4 x3) (harg2.unread x1) (harg3.unread x2) (harg5.unread x4) (k0_pay55, k0_pay56, k0_pay57) n
      Carry a b v c 3072 (n * 1024) r.1 r.2.1 r.2.2 := by
    induction n with
    | zero => exact carry_zero 3072
    | succ n ih =>
      exact trip4 cd i arg1 harg1 arg2 harg2 arg3 harg3 arg4 harg4 arg5 harg5 arg6 harg6 arg7 harg7 H _ u1 u2 u3 u4 u5 u6 ⟨n, hn⟩ (ih (Nat.le_of_succ_le hn))
        (st_k0_t2_succ Variants.none cd none i arg1 harg1 arg2 harg2 arg3 harg3 arg4 harg4 arg5 harg5 arg6 harg6 arg7 harg7 _ _ _ _ _ _ _ _ _ _ _ _ ⟨n, hn⟩)
  rw [e]
  exact g 3 (by decide +kernel)

end Fourth

theorem off1 : k0_off1 = ![0, 0, 0] := by decide +kernel

section Diag

variable {s : ℕ} {M L : FVec Ideal S1024x1 .f32} {A : FVec Ideal S1024x64 .f32} {T : FVec Ideal S1024x1024 .f32} {V : FVec Ideal S1024x64 .bf16}
  (hC : Carry a b v c s s M L A) (hT : Scores a b c s s T) (hV : Vals v s V) (hn : s + 1024 ≤ 4096)

include hC hT hV hn

theorem out_at (z0 : Fin 1) (z1 : Fin 1024) (z2 : Fin 64) {y1 : Fin 4096} {y2 : Fin 64} (h1 : y1.val = s + z1.val) (h2 : y2.val = z2.val) :
    gO V (gD T) M L A (ix3 z0 z1 z2) = (outR a b v c y1 y2 : EReal) := by
  obtain rfl : z0 = 0 := Subsingleton.elim _ _
  obtain rfl : y2 = z2 := Fin.ext h2
  obtain ⟨n, hy⟩ := y1
  obtain rfl : n = s + z1.val := h1
  exact diag_out hC hT hV hn z1 hy y2

theorem lse_at (z0 : Fin 1) (z1 : Fin 1024) (z2 : Fin 1) {y1 : Fin 4096} (h1 : y1.val = s + z1.val) :
    gE (gD T) M L (ix3 z0 z1 z2) = (lseR a b c y1 : EReal) := by
  obtain rfl : z0 = 0 := Subsingleton.elim _ _
  obtain ⟨n, hy⟩ := y1
  obtain rfl : n = s + z1.val := h1
  exact diag_lse hC hT hV hn z1 hy z2

end Diag

include H

/-- The diagonal block's scores of the rows from `s` on. -/
theorem dscores {s k : ℕ} (hs : s = k * 1024) (hk : k < 4)
    (iq : ∀ i, (![0, s, 0] : Fin 3 → ℕ) i + S1x1024x64.size i ≤ S1x4096x64.size i)
    (ig : ∀ i, (![0, s, 0] : Fin 3 → ℕ) i + S1x1024x1.size i ≤ S1x4096x1.size i) (ic : ∀ i, (![0, k, 0, 0] : Fin 4 → ℕ) i + S1x1x1x1024.size i ≤ S1x4x1x1024.size i) :
    Scores a b c s s (sS (View.ld (Val := Elt Ideal) x0 (Rect.unit (s := S1x4096x64) ![0, s, 0] S1x1024x64.size iq))
      (View.ld (Val := Elt Ideal) x1 (Rect.unit (s := S1x4096x64) ![0, s, 0] S1x1024x64.size iq))
      (View.ld (Val := Elt Ideal) x3 (Rect.unit (s := S1x4096x1) ![0, s, 0] S1x1024x1.size ig))
      (View.ld (Val := Elt Ideal) x4 (Rect.unit (s := S1x4x1x1024) ![0, k, 0, 0] S1x1x1x1024.size ic))) :=
  scores H hs hk rfl rfl rfl rfl iq iq ig ic

/-- What the second row block carries after its one full key block. -/
theorem carry2 :
    let S := sS (View.ld (Val := Elt Ideal) x0 (Rect.unit (s := S1x4096x64) ![0, 1024, 0] S1x1024x64.size inb_S1x4096x64_S1x1024x64_0_1024_0))
      (View.ld (Val := Elt Ideal) x1 (Rect.unit (s := S1x4096x64) k0_off1 S1x1024x64.size k0_off1_inb))
      (View.ld (Val := Elt Ideal) x3 (Rect.unit (s := S1x4096x1) ![0, 1024, 0] S1x1024x1.size inb_S1x4096x1_S1x1024x1_0_1024_0))
      (View.ld (Val := Elt Ideal) x4 (Rect.unit (s := S1x4x1x1024) ![0, 0, 0, 0] S1x1x1x1024.size inb_S1x4x1x1024_S1x1x1x1024_0_0_0_0))
    Carry a b v c 1024 1024 (gM S k0_pay36) (gL S k0_pay36 k0_pay37)
      (gA (k0_pay34 (View.ld (Val := Elt Ideal) x2 (Rect.unit (s := S1x4096x64) k0_off1 S1x1024x64.size k0_off1_inb))) S k0_pay36 k0_pay38) :=
  carry_step (carry_zero 1024) (scores H (n := 0) (k := 0) rfl (by omega) rfl off1 rfl rfl inb_S1x4096x64_S1x1024x64_0_1024_0 k0_off1_inb inb_S1x4096x1_S1x1024x1_0_1024_0 inb_S1x4x1x1024_S1x1x1x1024_0_0_0_0)
    (vals H off1 k0_off1_inb) (by omega)

theorem out5 (y : S1x4096x64.Idx) : out0_A_5 (F := Ideal) cd i arg1 harg1 arg2 harg2 arg3 harg3 arg4 harg4 arg5 harg5 arg6 harg6 arg7 harg7 x0 x1 x2 x3 x4 y = (outR a b v c (y 1) (y 2) : EReal) := by
  frame_out
  canon_tiles z h
  case piece0 =>
    idx_vars z
    exact (congrFun (fourth_out _ _ _ _ _ _ _ _ ) _).trans
      (out_at (loop4 cd i arg1 harg1 arg2 harg2 arg3 harg3 arg4 harg4 arg5 harg5 arg6 harg6 arg7 harg7 H _ _ _ _ _ _) (dscores H (k := 3) rfl (by omega) inb_S1x4096x64_S1x1024x64_0_3072_0 inb_S1x4096x1_S1x1024x1_0_3072_0 inb_S1x4x1x1024_S1x1x1x1024_0_3_0_0) (vals H rfl inb_S1x4096x64_S1x1024x64_0_3072_0) (by omega) z0 z1 z2 h1 h2)
  case piece1 =>
    idx_vars z
    exact (congrFun (third_out _ _ _ _ _ _ _ _ ) _).trans
      (out_at (loop3 cd i arg1 harg1 arg2 harg2 arg3 harg3 arg4 harg4 arg5 harg5 arg6 harg6 arg7 harg7 H _) (dscores H (k := 2) rfl (by omega) inb_S1x4096x64_S1x1024x64_0_2048_0 inb_S1x4096x1_S1x1024x1_0_2048_0 inb_S1x4x1x1024_S1x1x1x1024_0_2_0_0) (vals H rfl inb_S1x4096x64_S1x1024x64_0_2048_0) (by omega) z0 z1 z2 h1 h2)
  case piece2 =>
    idx_vars z
    exact (congrFun (second_out _ _ _ _ _ _ _ _ ) _).trans
      (out_at (carry2 H) (dscores H (k := 1) rfl (by omega) inb_S1x4096x64_S1x1024x64_0_1024_0 inb_S1x4096x1_S1x1024x1_0_1024_0 inb_S1x4x1x1024_S1x1x1x1024_0_1_0_0) (vals H rfl inb_S1x4096x64_S1x1024x64_0_1024_0) (by omega) z0 z1 z2 h1 h2)
  case piece3 =>
    idx_vars z
    exact (congrFun (first_out _ _ _ _ _ ) _).trans
      (out_at (carry_zero 0) (dscores H (k := 0) rfl (by omega) inb_S1x4096x64_S1x1024x64_0_0_0 inb_S1x4096x1_S1x1024x1_0_0_0 inb_S1x4x1x1024_S1x1x1x1024_0_0_0_0) (vals H rfl inb_S1x4096x64_S1x1024x64_0_0_0) (by omega) z0 z1 z2 (by simpa using h1) h2)

theorem lse6 (y : S1x4096x1.Idx) : out0_A_6 (F := Ideal) cd i arg1 harg1 arg2 harg2 arg3 harg3 arg4 harg4 arg5 harg5 arg6 harg6 arg7 harg7 x0 x1 x2 x3 x4 y = (lseR a b c (y 1) : EReal) := by
  frame_out
  canon_tiles z h
  case piece0 =>
    idx_vars z
    exact (congrFun (fourth_lse _ _ _ _ _ _ ) _).trans
      (lse_at (loop4 cd i arg1 harg1 arg2 harg2 arg3 harg3 arg4 harg4 arg5 harg5 arg6 harg6 arg7 harg7 H _ _ _ _ _ _) (dscores H (k := 3) rfl (by omega) inb_S1x4096x64_S1x1024x64_0_3072_0 inb_S1x4096x1_S1x1024x1_0_3072_0 inb_S1x4x1x1024_S1x1x1x1024_0_3_0_0) (vals H rfl inb_S1x4096x64_S1x1024x64_0_3072_0) (by omega) z0 z1 z2 h1)
  case piece1 =>
    idx_vars z
    exact (congrFun (third_lse _ _ _ _ _ _ ) _).trans
      (lse_at (loop3 cd i arg1 harg1 arg2 harg2 arg3 harg3 arg4 harg4 arg5 harg5 arg6 harg6 arg7 harg7 H _) (dscores H (k := 2) rfl (by omega) inb_S1x4096x64_S1x1024x64_0_2048_0 inb_S1x4096x1_S1x1024x1_0_2048_0 inb_S1x4x1x1024_S1x1x1x1024_0_2_0_0) (vals H rfl inb_S1x4096x64_S1x1024x64_0_2048_0) (by omega) z0 z1 z2 h1)
  case piece2 =>
    idx_vars z
    exact (congrFun (second_lse _ _ _ _ _ _ ) _).trans
      (lse_at (carry2 H) (dscores H (k := 1) rfl (by omega) inb_S1x4096x64_S1x1024x64_0_1024_0 inb_S1x4096x1_S1x1024x1_0_1024_0 inb_S1x4x1x1024_S1x1x1x1024_0_1_0_0) (vals H rfl inb_S1x4096x64_S1x1024x64_0_1024_0) (by omega) z0 z1 z2 h1)
  case piece3 =>
    idx_vars z
    exact (congrFun (first_lse _ _ _ _ ) _).trans
      (lse_at (carry_zero 0) (dscores H (k := 0) rfl (by omega) inb_S1x4096x64_S1x1024x64_0_0_0 inb_S1x4096x1_S1x1024x1_0_0_0 inb_S1x4x1x1024_S1x1x1x1024_0_0_0_0) (vals H rfl inb_S1x4096x64_S1x1024x64_0_0_0) (by omega) z0 z1 z2 (by simpa using h1))

end Cert.FwdKIdeal.Value

end
-- ==== Proof.FwdArr.lean ====
/- The attention forward's result arrays, head by head, over real inputs. -/
module

public import proofs.«01_k».proof.Proof.FwdHead
public import proofs.«01_k».proof.Proof.AttnArr

@[expose] public section

set_option maxRecDepth 16384

noncomputable section

open Idealize.ShloMosaic Idealize.ShloMosaic.TcCoe Idealize.SL.Sem

namespace Cert.FwdKIdeal.Value

open Cert.FwdKIdeal Cert.FwdKIdeal.Gen Cert.AttnMath Cert.FwdMath
open Cert.AttnKIdeal.Value (hq hk hv hcq hq_apply hk_apply hv_apply hcq_apply aq ak av)

section Entry

variable (m : (ℓ : Loc nD τ sig) → Buf (Elt Ideal) ℓ) (c : Dev nD)

/-- The gates as rows of the four key blocks. -/
def kck (C : FVec Ideal S4x4096 .f32) : FVec Ideal S4x4x1x1024 .f32 := shapeCast S4x4x1x1024 C facts.shapeCasts_S4x4096_S4x4x1x1024

theorem kck_apply (C : FVec Ideal S4x4096 .f32) (h k : Fin 4) (z : Fin 1) (x : Fin 1024) :
    kck C (ix4 h k z x) = C (ix2 h ⟨k.val * 1024 + x.val, by omega⟩) := by
  pointwise [kck]

theorem V_q : V m c main_v12 = hq (m ((c : Thread nD τ).loc main_arg0)) := by
  show StableHlo.after hostOps0 _ _ = _
  after_results
  rfl

theorem V_k : V m c main_v13 = hk (m ((c : Thread nD τ).loc main_arg0)) := by
  show StableHlo.after hostOps0 _ _ = _
  after_results
  rfl

theorem V_v : V m c main_v14 = hv (m ((c : Thread nD τ).loc main_arg0)) := by
  show StableHlo.after hostOps0 _ _ = _
  after_results
  rfl

theorem V_cq : V m c main_v9 = hcq (m ((c : Thread nD τ).loc main_arg1)) := by
  show StableHlo.after hostOps0 _ _ = _
  after_results
  rfl

theorem V_ck : V m c main_v15 = kck (m ((c : Thread nD τ).loc main_arg1)) := by
  show StableHlo.after hostOps0 _ _ = _
  after_results
  rfl

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![t.val, 0, 0] ∧ win0_6.index t = ![t.val, 0, 0] :=
  (by decide +kernel : ∀ t : Fin grid0.N, _)

theorem read0 (t : Fin cfg0.N) (X : S4x4096x64.Idx → EReal) (r : Fin 4096) (d : Fin 64) :
    ((cfg0.win 0).blk t).view.read (Elt Ideal) X (ix3 (0 : Fin 1) r d) = X (ix3 ⟨t.val, t.isLt⟩ r d) := by
  blk_point [idx t]

theorem blk0 (t : Fin cfg0.N) (r : Fin 4096) (d : Fin 64) : iblk m c 0 t (ix3 0 r d) = V m c main_v12 (ix3 ⟨t.val, t.isLt⟩ r d) :=
  read0 t (V m c main_v12) r d

theorem read1 (t : Fin cfg0.N) (X : S4x4096x64.Idx → EReal) (r : Fin 4096) (d : Fin 64) :
    ((cfg0.win 1).blk t).view.read (Elt Ideal) X (ix3 (0 : Fin 1) r d) = X (ix3 ⟨t.val, t.isLt⟩ r d) := by
  blk_point [idx t]

theorem blk1 (t : Fin cfg0.N) (r : Fin 4096) (d : Fin 64) : iblk m c 1 t (ix3 0 r d) = V m c main_v13 (ix3 ⟨t.val, t.isLt⟩ r d) :=
  read1 t (V m c main_v13) r d

theorem read2 (t : Fin cfg0.N) (X : S4x4096x64.Idx → EReal) (r : Fin 4096) (d : Fin 64) :
    ((cfg0.win 2).blk t).view.read (Elt Ideal) X (ix3 (0 : Fin 1) r d) = X (ix3 ⟨t.val, t.isLt⟩ r d) := by
  blk_point [idx t]

theorem blk2 (t : Fin cfg0.N) (r : Fin 4096) (d : Fin 64) : iblk m c 2 t (ix3 0 r d) = V m c main_v14 (ix3 ⟨t.val, t.isLt⟩ r d) :=
  read2 t (V m c main_v14) r d

theorem read3 (t : Fin cfg0.N) (X : S4x4096x1.Idx → EReal) (r : Fin 4096) (d : Fin 1) :
    ((cfg0.win 3).blk t).view.read (Elt Ideal) X (ix3 (0 : Fin 1) r d) = X (ix3 ⟨t.val, t.isLt⟩ r d) := by
  blk_point [idx t]

theorem blk3 (t : Fin cfg0.N) (r : Fin 4096) (d : Fin 1) : iblk m c 3 t (ix3 0 r d) = V m c main_v9 (ix3 ⟨t.val, t.isLt⟩ r d) :=
  read3 t (V m c main_v9) r d

theorem read4 (t : Fin cfg0.N) (X : S4x4x1x1024.Idx → EReal) (k : Fin 4) (x : Fin 1024) :
    ((cfg0.win 4).blk t).view.read (Elt Ideal) X (ix4 (0 : Fin 1) k (0 : Fin 1) x) = X (ix4 ⟨t.val, t.isLt⟩ k 0 x) := by
  blk_point [idx t]

theorem blk4 (t : Fin cfg0.N) (k : Fin 4) (x : Fin 1024) : iblk m c 4 t (ix4 0 k 0 x) = V m c main_v15 (ix4 ⟨t.val, t.isLt⟩ k 0 x) :=
  read4 t (V m c main_v15) k x

end Entry

section Results

variable {m : (ℓ : Loc nD τ sig) → Buf (Elt Ideal) ℓ} {c : Dev nD} {a : Fin 4096 → Fin 768 → ℝ} {g : Fin 4 → Fin 4096 → ℝ}
  (hA : ∀ r l, m ((c : Thread nD τ).loc main_arg0) (ix2 r l) = ((a r l : ℝ) : EReal))
  (hC : ∀ h r, m ((c : Thread nD τ).loc main_arg1) (ix2 h r) = ((g h r : ℝ) : EReal))

include hA hC

/-- Every grid point's blocks are one head's operands. -/
theorem holds (t : Fin cfg0.N) (h : Fin 4) (ht : t.val = h.val) : Holds (iblk m c 0 t) (iblk m c 1 t) (iblk m c 2 t) (iblk m c 3 t) (iblk m c 4 t)
    (aq a h) (ak a h) (av a h) (g h) := by
  have e : (⟨t.val, t.isLt⟩ : Fin 4) = h := Fin.ext ht
  constructor
  · intro r d; rw [blk0, e, V_q]; exact (hq_apply _ h r d).trans (by rw [hA, lit_eighth, ← EReal.coe_mul]; rfl)
  · intro r d; rw [blk1, e, V_k]; exact (hk_apply _ h r d).trans (hA _ _)
  · intro r d; rw [blk2, e, V_v]; exact (hv_apply _ h r d).trans (hA _ _)
  · intro r; rw [blk3, e, V_cq]; exact (hcq_apply _ h r 0).trans (hC _ _)
  · intro k x; rw [blk4, e, V_ck]; exact (kck_apply _ h k 0 x).trans (hC _ _)

theorem fin5 (K : S4x4096x64.Idx → EReal) (hK : ∀ (h : Fin 4) (r : Fin 4096) (d : Fin 64), K (ix3 h r d) = ((outR (aq a h) (ak a h) (av a h) (g h) r d : ℝ) : EReal)) :
    (dats m 0 c).arrAt 5 cfg0.N = K := by
  refine (dats m 0 c).arrAt_eq_of_covers 5 _ (by decide +kernel) fun t hf y => ?_
  blk_simp
  rw [after0_5]
  simp only [outsAt0]
  obtain ⟨r, d, rfl⟩ : ∃ (r : Fin 4096) (d : Fin 64), y = ix3 (0 : Fin 1) r d := ⟨⟨(y 1).val, (y 1).isLt⟩, ⟨(y 2).val, (y 2).isLt⟩, by
    refine funext fun i => Fin.ext ?_
    match i with
    | ⟨0, _⟩ => have := (y 0).isLt; show (y 0).val = 0; change (y 0).val < 1 at this; omega
    | ⟨1, _⟩ => rfl
    | ⟨2, _⟩ => rfl⟩
  have e : K (((View.whole main_v16_0).slice (win0_5.rect t)).emb (ix3 (0 : Fin 1) r d)) = K (ix3 ⟨t.val, t.isLt⟩ r d) := by
    blk_point [idx t]
  rw [e, hK]
  exact out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (holds hA hC t ⟨t.val, t.isLt⟩ rfl) (ix3 0 r d)

theorem fin6 (K : S4x4096x1.Idx → EReal) (hK : ∀ (h : Fin 4) (r : Fin 4096) (d : Fin 1), K (ix3 h r d) = ((lseR (aq a h) (ak a h) (g h) r : ℝ) : EReal)) :
    (dats m 0 c).arrAt 6 cfg0.N = K := by
  refine (dats m 0 c).arrAt_eq_of_covers 6 _ (by decide +kernel) fun t hf y => ?_
  blk_simp
  rw [after0_6]
  simp only [outsAt0]
  obtain ⟨r, d, rfl⟩ : ∃ (r : Fin 4096) (d : Fin 1), y = ix3 (0 : Fin 1) r d := ⟨⟨(y 1).val, (y 1).isLt⟩, ⟨(y 2).val, (y 2).isLt⟩, by
    refine funext fun i => Fin.ext ?_
    match i with
    | ⟨0, _⟩ => have := (y 0).isLt; show (y 0).val = 0; change (y 0).val < 1 at this; omega
    | ⟨1, _⟩ => rfl
    | ⟨2, _⟩ => rfl⟩
  have e : K (((View.whole main_v16_1).slice (win0_6.rect t)).emb (ix3 (0 : Fin 1) r d)) = K (ix3 ⟨t.val, t.isLt⟩ r d) := by
    blk_point [idx t]
  rw [e, hK]
  exact lse6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (holds hA hC t ⟨t.val, t.isLt⟩ rfl) (ix3 0 r d)

end Results

end Cert.FwdKIdeal.Value

end
-- ==== Proof.FwdPair.lean ====
/- The attention forward against causal softmax attention. -/
module

public import proofs.«01_k».proof.Proof.FwdArr
public import proofs.«01_k».proof.Proof.Gen.FwdRIdeal.Run
public import proofs.«01_k».proof.Proof.Gen.FwdRIdeal.Read
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Fwd

open Cert.AttnMath Cert.FwdMath Cert.FwdKIdeal.Value
open Cert.AttnKIdeal.Value (aq ak av Mx Mx_coe exp_wt)

instance preFacts : Cert.Pre_finite_fwd.Facts := ⟨by decide, by decide, by decide, by decide, by decide⟩

/-- A row's weights with any number taken off the scores, summed against some values. -/
theorem wt_sum (a b : Fin 4096 → Fin 64 → ℝ) (c M : Fin 4096 → ℝ) (g : Fin 4096 → ℝ) (r : Fin 4096) :
    ∑ j, wt a b c M r j * g j = S (score a b c r) g (r.val + 1) (M r) := by
  unfold S wt
  refine Finset.sum_congr rfl fun j _ => ?_
  by_cases h : j.val ≤ r.val
  · rw [if_pos h, if_pos (by omega)]
  · rw [if_neg h, if_neg (by omega), zero_mul]

theorem rowsum_S (a b : Fin 4096 → Fin 64 → ℝ) (c M : Fin 4096 → ℝ) (r : Fin 4096) :
    rowsum a b c M r = S (score a b c r) (fun _ => 1) (r.val + 1) (M r) := by
  rw [← wt_sum]
  exact Finset.sum_congr rfl fun j _ => (mul_one _).symm

theorem outR_wt (a b v : Fin 4096 → Fin 64 → ℝ) (c M : Fin 4096 → ℝ) (r : Fin 4096) (d : Fin 64) :
    ∑ j, wt a b c M r j / rowsum a b c M r * v j d = outR a b v c r d := by
  unfold outR
  rw [← quot_indep _ _ _ (M r), ← wt_sum, ← rowsum_S, Finset.sum_div]
  exact Finset.sum_congr rfl fun j _ => by ring

theorem lseR_wt (a b : Fin 4096 → Fin 64 → ℝ) (c M : Fin 4096 → ℝ) (r : Fin 4096) :
    M r + Real.log (rowsum a b c M r) = lseR a b c r := by
  unfold lseR
  rw [← log_indep _ (Nat.succ_pos _) (M r), ← rowsum_S]

section Reference

open Cert.FwdRIdeal Cert.FwdRIdeal.Gen Cert.FwdRIdeal.Read

variable {A : (⟨S4096x768, .f32⟩ : BufTy).Contents (Elt Ideal)} {C : (⟨S4x4096, .f32⟩ : BufTy).Contents (Elt Ideal)}
  {a : Fin 4096 → Fin 768 → ℝ} {c : Fin 4 → Fin 4096 → ℝ}
  (hA : ∀ r l, A (ix2 r l) = ((a r l : ℝ) : EReal)) (hC : ∀ h r, C (ix2 h r) = ((c h r : ℝ) : EReal))

theorem ref23 (r j : Fin 4096) : (val_main_v23 (F := Ideal) (ix2 r j) = 1#1) ↔ j.val ≤ r.val := by
  have e : val_main_v23 (F := Ideal) (ix2 r j) = IntOp.cmpi .sle (BitVec.ofNat 32 j.val) (BitVec.ofNat 32 r.val) := by
    pointwise [val_main_v23, val_main_v22, val_main_v21, val_main_v20, val_main_v19, val_main_v9]
  rw [e]
  have := r.isLt; have := j.isLt
  word_cmp

include hA

theorem ref4 (h : Fin 4) (r : Fin 4096) (d : Fin 64) : val_main_v4 (F := Ideal) A (ix3 h r d) = ((aq a h r d : ℝ) : EReal) := by
  refine Eq.trans ?_ (hA r ⟨h.val * 64 + d.val, by omega⟩)
  pointwise [val_main_v4, val_main_v3, val_main_v0]

theorem ref6 (h : Fin 4) (r : Fin 4096) (d : Fin 64) : val_main_v6 (F := Ideal) A (ix3 h r d) = ((ak a h r d : ℝ) : EReal) := by
  refine Eq.trans ?_ (hA r ⟨256 + (h.val * 64 + d.val), by omega⟩)
  pointwise [val_main_v6, val_main_v5, val_main_v1]

theorem ref8 (h : Fin 4) (r : Fin 4096) (d : Fin 64) : val_main_v8 (F := Ideal) A (ix3 h r d) = ((av a h r d : ℝ) : EReal) := by
  refine Eq.trans ?_ (hA r ⟨512 + (h.val * 64 + d.val), by omega⟩)
  pointwise [val_main_v8, val_main_v7, val_main_v2]

theorem ref12 (h : Fin 4) (r j : Fin 4096) : val_main_v12 (F := Ideal) A (ix3 h r j) = ((∑ d, aq a h r d * (1 / 8) * ak a h j d : ℝ) : EReal) := by
  have e : val_main_v12 (F := Ideal) A (ix3 h r j)
      = HMul.hMul (α := EReal) (β := EReal) (γ := EReal) (∑ d : Fin 64, val_main_v4 (F := Ideal) A (ix3 h r d) * val_main_v6 (F := Ideal) A (ix3 h j d)) (Ideal.ofBits .f32 0x3E000000#32) := by
    unfold val_main_v12 val_main_v10 val_main_v11 val_main_cst
    generalize val_main_v4 (F := Ideal) A = X
    generalize val_main_v6 (F := Ideal) A = Y
    pointwise
  rw [e]
  simp only [ref4 hA, ref6 hA, lit_eighth, ← EReal.coe_mul, ← Cert.Num.coe_sum]
  refine congrArg (fun t : ℝ => (t : EReal)) ?_
  rw [Finset.sum_mul]
  exact Finset.sum_congr rfl fun d _ => by ring

include hC

theorem ref24 (h : Fin 4) (r j : Fin 4096) : val_main_v24 (F := Ideal) A C (ix3 h r j)
    = if j.val ≤ r.val then ((score (aq a h) (ak a h) (c h) r j : ℝ) : EReal) else ⊥ := by
  have e : val_main_v24 (F := Ideal) A C (ix3 h r j) = Scalar.select (val_main_v23 (F := Ideal) (ix2 r j))
      (val_main_v12 (F := Ideal) A (ix3 h r j) + (C (ix2 h r) - C (ix2 h j))) (Ideal.ofBits .f32 0xFF800000#32) := by
    unfold val_main_v24 val_main_call0_v1 val_main_v18 val_main_v17 val_main_v16 val_main_v15 val_main_v14 val_main_v13 val_main_call0_v2 val_main_call0_v0 val_main_cst_0
    generalize val_main_v12 (F := Ideal) A = X
    generalize val_main_v23 (F := Ideal) = Y
    pointwise
    rfl
  rw [e, ref12 hA, hC, hC, lit_neg_inf, ← EReal.coe_sub, ← EReal.coe_add]
  unfold Scalar.select
  exact if_congr (ref23 r j) rfl rfl

theorem ref25 (h : Fin 4) (r : Fin 4096) : val_main_v25 (F := Ideal) A C (ix2 h r) = ((Mx a c h r : ℝ) : EReal) := by
  have e : val_main_v25 (F := Ideal) A C (ix2 h r)
      = Finset.univ.fold max (Ideal.ofBits .f32 0xFF800000#32) fun j : Fin 4096 => (val_main_v24 (F := Ideal) A C (ix3 h r j) : EReal) := by
    unfold val_main_v25
    generalize val_main_v24 (F := Ideal) A C = X
    pointwise [val_main_cst_1]
  refine e.trans ?_
  refine Eq.trans ?_ (Mx_coe h r)
  rw [lit_neg_inf]
  exact congrArg (fun f : Fin 4096 → EReal => Finset.univ.fold max ⊥ f) (funext fun j => ref24 hA hC h r j)

theorem ref36 (h : Fin 4) (r : Fin 4096) : val_main_v36 (F := Ideal) A C (ix2 h r) = ((Mx a c h r : ℝ) : EReal) := by
  have e : val_main_v35 (F := Ideal) (ix2 h r) = Ideal.ofBits .f32 0xFF800000#32 := by pointwise [val_main_v35, val_main_cst_4]
  have e' : val_main_v36 (F := Ideal) A C (ix2 h r) = FloatOps.maximumf (F := Ideal) (Ideal.ofBits .f32 0xFF800000#32) (val_main_v25 (F := Ideal) A C (ix2 h r)) := by
    rw [← e]
    exact val_main_v36_apply (F := Ideal) A C (ix2 h r)
  refine e'.trans ?_
  rw [ref25 hA hC, lit_neg_inf]
  exact max_eq_right bot_le

theorem ref29 (h : Fin 4) (r j : Fin 4096) : val_main_v29 (F := Ideal) A C (ix3 h r j) = ((wt (aq a h) (ak a h) (c h) (Mx a c h) r j : ℝ) : EReal) := by
  have e : val_main_v29 (F := Ideal) A C (ix3 h r j) = Ideal.exp (val_main_v24 (F := Ideal) A C (ix3 h r j) - val_main_v25 (F := Ideal) A C (ix2 h r)) := by
    unfold val_main_v29 val_main_v28 val_main_v27 val_main_v26
    generalize val_main_v24 (F := Ideal) A C = X
    generalize val_main_v25 (F := Ideal) A C = Y
    pointwise
  rw [e, ref24 hA hC, ref25 hA hC]
  exact exp_wt _ _ _ _ r j

theorem ref40 (h : Fin 4) (r j : Fin 4096) : val_main_v40 (F := Ideal) A C (ix3 h r j) = ((wt (aq a h) (ak a h) (c h) (Mx a c h) r j : ℝ) : EReal) := by
  have e : val_main_v40 (F := Ideal) A C (ix3 h r j) = Ideal.exp (val_main_v24 (F := Ideal) A C (ix3 h r j) - val_main_v36 (F := Ideal) A C (ix2 h r)) := by
    unfold val_main_v40 val_main_v39 val_main_v38 val_main_v37
    generalize val_main_v24 (F := Ideal) A C = X
    generalize val_main_v36 (F := Ideal) A C = Y
    pointwise
  rw [e, ref24 hA hC, ref36 hA hC]
  exact exp_wt _ _ _ _ r j

theorem ref30 (h : Fin 4) (r : Fin 4096) : val_main_v30 (F := Ideal) A C (ix2 h r) = ((rowsum (aq a h) (ak a h) (c h) (Mx a c h) r : ℝ) : EReal) := by
  have e : val_main_v30 (F := Ideal) A C (ix2 h r) = ∑ j : Fin 4096, val_main_v29 (F := Ideal) A C (ix3 h r j) := by
    unfold val_main_v30 val_main_cst_2
    generalize val_main_v29 (F := Ideal) A C = X
    pointwise
  rw [e]
  simp only [ref29 hA hC, ← Cert.Num.coe_sum]
  rfl

theorem ref41 (h : Fin 4) (r : Fin 4096) : val_main_v41 (F := Ideal) A C (ix2 h r) = ((rowsum (aq a h) (ak a h) (c h) (Mx a c h) r : ℝ) : EReal) := by
  have e : val_main_v41 (F := Ideal) A C (ix2 h r) = ∑ j : Fin 4096, val_main_v40 (F := Ideal) A C (ix3 h r j) := by
    unfold val_main_v41 val_main_cst_5
    generalize val_main_v40 (F := Ideal) A C = X
    pointwise
  rw [e]
  simp only [ref40 hA hC, ← Cert.Num.coe_sum]
  rfl

theorem ref33 (h : Fin 4) (r : Fin 4096) (z : Fin 1) : val_main_v33 (F := Ideal) A C (ix3 h r z) = ((lseR (aq a h) (ak a h) (c h) r : ℝ) : EReal) := by
  have e1 : val_main_v26 (F := Ideal) A C (ix3 h r z) = val_main_v25 (F := Ideal) A C (ix2 h r) := by
    unfold val_main_v26
    generalize val_main_v25 (F := Ideal) A C = X
    pointwise
  have e2 : val_main_v31 (F := Ideal) A C (ix3 h r z) = val_main_v30 (F := Ideal) A C (ix2 h r) := by
    unfold val_main_v31
    generalize val_main_v30 (F := Ideal) A C = X
    pointwise
  have e : val_main_v33 (F := Ideal) A C (ix3 h r z) = HAdd.hAdd (α := EReal) (β := EReal) (γ := EReal) (val_main_v26 (F := Ideal) A C (ix3 h r z)) (Ideal.log (val_main_v31 (F := Ideal) A C (ix3 h r z))) :=
    Cert.AttnKIdeal.Value.add_log _ _ _
  rw [e, e1, e2, ref25 hA hC, ref30 hA hC, log_coe (rowsum_pos _ _ _ _ r), ← EReal.coe_add, lseR_wt]

theorem ref44 (h : Fin 4) (r j : Fin 4096) : val_main_v44 (F := Ideal) A C (ix3 h r j)
    = ((wt (aq a h) (ak a h) (c h) (Mx a c h) r j / rowsum (aq a h) (ak a h) (c h) (Mx a c h) r : ℝ) : EReal) := by
  have e : val_main_v44 (F := Ideal) A C (ix3 h r j) = Ideal.div (val_main_v40 (F := Ideal) A C (ix3 h r j)) (val_main_v41 (F := Ideal) A C (ix2 h r)) := by
    unfold val_main_v44 val_main_v43 val_main_v42
    generalize val_main_v40 (F := Ideal) A C = X
    generalize val_main_v41 (F := Ideal) A C = Y
    pointwise
  rw [e, ref40 hA hC, ref41 hA hC]
  exact Cert.Num.coe_div_coe _ (rowsum_pos _ _ _ _ r).ne'

theorem ref45 (h : Fin 4) (r : Fin 4096) (d : Fin 64) : val_main_v45 (F := Ideal) A C (ix3 h r d) = ((outR (aq a h) (ak a h) (av a h) (c h) r d : ℝ) : EReal) := by
  have e : val_main_v45 (F := Ideal) A C (ix3 h r d) = ∑ j : Fin 4096, val_main_v44 (F := Ideal) A C (ix3 h r j) * val_main_v8 (F := Ideal) A (ix3 h j d) := by
    unfold val_main_v45
    generalize val_main_v44 (F := Ideal) A C = X
    generalize val_main_v8 (F := Ideal) A = Y
    pointwise
  rw [e]
  simp only [ref44 hA hC, ref8 hA, ← EReal.coe_mul, ← Cert.Num.coe_sum, outR_wt]

omit hA hC

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ (c : Dev nD) x0 x1,
      m ((c.tc : Thread nD τ).loc main_arg0) = x0 → m ((c.tc : Thread nD τ).loc main_arg1) = x1 →
      r.2.mem ((c.tc : Thread nD τ).loc main_v45) = val_main_v45 (F := Ideal) x0 x1
      ∧ r.2.mem ((c.tc : Thread nD τ).loc main_v33) = val_main_v33 (F := Ideal) x0 x1
      ∧ r.2.mem ((c.tc : Thread nD τ).loc main_arg0) = x0
      ∧ r.2.mem ((c.tc : Thread nD τ).loc main_arg1) = x1 :=
  (θ_run defs _ _).mono (fun r h c x0 x1 e0 e1 => by
      subst e0 e1
      exact ⟨(h c).1.trans (val_main_v45_eq m c), (h c).2.1.trans (val_main_v33_eq m c), (h c).2.2⟩)
    (Cert.FwdRIdeal.Value.run m ρ)

end Reference

open Cert.FwdKIdeal Cert.FwdKIdeal.Gen

/-- The finiteness test makes every input a real number. -/
theorem real_of_pre {m : (ℓ : Loc nD τ sig) → Buf (Elt Ideal) ℓ} (hp : Cert.Pre_FwdKIdeal_finite_fwd m) (c : Dev nD) :
    (∀ i, ∃ r : ℝ, m ((c.tc : Thread nD τ).loc main_arg0) i = (r : EReal)) ∧ (∀ i, ∃ r : ℝ, m ((c.tc : Thread nD τ).loc main_arg1) i = (r : EReal)) := by
  have h := congrFun (hp c) (fun a => a.elim0)
  dsimp only [Cert.Pre_finite_fwd.fn] at h
  have ha := IntOp.andi_eq_one.1 h
  haveI : Subsingleton (Cert.Pre_finite_fwd.S_).Idx := ⟨fun x y => funext fun a => a.elim0⟩
  exact ⟨fun i => Cert.Num.real_of_test _ _ i rfl (Host.reduce_andi_all _ _ _ _ _ ha.1 i),
    fun i => Cert.Num.real_of_test _ _ i rfl (Host.reduce_andi_all _ _ _ _ _ ha.2 i)⟩

theorem algebraic : Cert.algebraic_FwdKIdeal_FwdRIdeal_pre_finite_fwd := by
  intro m g m' g' hpre hagree
  have real (c : Dev nD) : ∃ (a : Fin 4096 → Fin 768 → ℝ) (g : Fin 4 → Fin 4096 → ℝ),
      (∀ r l, m ((c.tc : Thread nD τ).loc main_arg0) (ix2 r l) = ((a r l : ℝ) : EReal)) ∧ (∀ h r, m ((c.tc : Thread nD τ).loc main_arg1) (ix2 h r) = ((g h r : ℝ) : EReal)) := by
    obtain ⟨h0, h1⟩ := real_of_pre hpre c
    choose f0 e0 using h0
    choose f1 e1 using h1
    exact ⟨fun r l => f0 (ix2 r l), fun r l => f1 (ix2 r l), fun r l => e0 _, fun r l => e1 _⟩
  refine ⟨fun c => Cert.FwdRIdeal.Read.val_main_v45 (F := Ideal) (m ((c.tc : Thread nD τ).loc main_arg0)) (m ((c.tc : Thread nD τ).loc main_arg1)),
    fun c => Cert.FwdRIdeal.Read.val_main_v33 (F := Ideal) (m ((c.tc : Thread nD τ).loc main_arg0)) (m ((c.tc : Thread nD τ).loc main_arg1)), ?_, ?_⟩
  · refine Idealize.ShloMosaic.θ_run_mono (Cert.FwdKIdeal.Value.run_blocks m g) ?_
    intro r hr c
    obtain ⟨a, u, hA, hC⟩ := real c
    exact ⟨(hr c).1.trans (fin5 hA hC _ fun h r d => ref45 hA hC h r d), (hr c).2.1.trans (fin6 hA hC _ fun h r d => ref33 hA hC h r d), (hr c).2.2⟩
  · refine Idealize.ShloMosaic.θ_run_mono (ref_run m' g') ?_
    intro r hr c
    obtain ⟨e0, e1⟩ := hagree c
    have hc := hr c _ _ e0 e1
    exact ⟨hc.1, hc.2.1, hc.2.2.1.trans e0.symm, hc.2.2.2.trans e1.symm⟩

end Cert.Fwd

end
-- ==== Proof.lean ====
/- The claims of the certificate, assembled. -/
module

public import proofs.«01_k».proof.Proof.MixFrame
public import proofs.«01_k».proof.Proof.MixIdealFrame
public import proofs.«01_k».proof.Proof.Gen.MixRIdeal
public import proofs.«01_k».proof.Proof.Gen.MixRIdeal.Run
public import proofs.«01_k».proof.Proof.NormPair
public import proofs.«01_k».proof.Proof.Gen.NormK.Frame
public import proofs.«01_k».proof.Proof.GatePair
public import proofs.«01_k».proof.Proof.Gen.GateK.Frame
public import proofs.«01_k».proof.Proof.JoinPair
public import proofs.«01_k».proof.Proof.Gen.JoinK.Frame
public import proofs.«01_k».proof.Proof.BlendPair
public import proofs.«01_k».proof.Proof.Gen.BlendK.Frame
public import proofs.«01_k».proof.Proof.NnPair
public import proofs.«01_k».proof.Proof.Gen.NnK.Frame
public import proofs.«01_k».proof.Proof.TnPair
public import proofs.«01_k».proof.Proof.Gen.TnK.Frame
public import proofs.«01_k».proof.Proof.DhPair
public import proofs.«01_k».proof.Proof.Gen.DhK.Frame
public import proofs.«01_k».proof.Proof.SumPair
public import proofs.«01_k».proof.Proof.Gen.SumK.Frame
public import proofs.«01_k».proof.Proof.AdamPair
public import proofs.«01_k».proof.Proof.Gen.AdamK.Frame
public import proofs.«01_k».proof.Proof.RmsPair
public import proofs.«01_k».proof.Proof.CumPair
public import proofs.«01_k».proof.Proof.LossPair
public import proofs.«01_k».proof.Proof.AttnPair
public import proofs.«01_k».proof.Proof.MergePair
public import proofs.«01_k».proof.Proof.FwdPair
public import proofs.«01_k».proof.Proof.Gen.FwdK.Frame
public import proofs.«01_k».proof.Proof.Gen.RmsK.Frame
public import proofs.«01_k».proof.Proof.Gen.AttnK.Frame
public import proofs.«01_k».proof.Proof.Gen.CumK.Frame
public import proofs.«01_k».proof.Proof.Gen.LossK.Frame
public import proofs.«01_k».proof.Proof.Gen.MergeK.Frame

@[expose] public section

noncomputable section

namespace Cert.Proof

open Idealize.ShloMosaic Idealize.SL.Sem

theorem rms_reference_frame : Cert.quiescent_RmsRIdeal := fun m ρ _ =>
  (θ_run Cert.RmsRIdeal.defs _ _).mono (fun r h => ⟨fun c => (h c).2.2, sem_eq_zero_of_no_sems (by decide) r.2⟩)
    (Cert.RmsRIdeal.Value.run m ρ)

theorem attn_reference_frame : Cert.quiescent_AttnRIdeal := fun m ρ _ =>
  (θ_run Cert.AttnRIdeal.defs _ _).mono (fun r h => ⟨fun c => (h c).2.2.2.2.2, sem_eq_zero_of_no_sems (by decide) r.2⟩)
    (Cert.AttnRIdeal.Value.run m ρ)

theorem cum_reference_frame : Cert.quiescent_CumRIdeal := fun m ρ _ =>
  (θ_run Cert.CumRIdeal.defs _ _).mono (fun r h => ⟨fun c => (h c).2.2, sem_eq_zero_of_no_sems (by decide) r.2⟩)
    (Cert.CumRIdeal.Value.run m ρ)

theorem loss_reference_frame : Cert.quiescent_LossRIdeal := fun m ρ _ =>
  (θ_run Cert.LossRIdeal.defs _ _).mono (fun r h => ⟨fun c => (h c).2.2.2, sem_eq_zero_of_no_sems (by decide) r.2⟩)
    (Cert.LossRIdeal.Value.run m ρ)

theorem merge_reference_frame : Cert.quiescent_MergeRIdeal := fun m ρ _ =>
  (θ_run Cert.MergeRIdeal.defs _ _).mono (fun r h => ⟨fun c => (h c).2.2.2.2.2.2.2.2, sem_eq_zero_of_no_sems (by decide) r.2⟩)
    (Cert.MergeRIdeal.Value.run m ρ)

theorem fwd_reference_frame : Cert.quiescent_FwdRIdeal := fun m ρ _ =>
  (θ_run Cert.FwdRIdeal.defs _ _).mono (fun r h => ⟨fun c => (h c).2.2, sem_eq_zero_of_no_sems (by decide) r.2⟩)
    (Cert.FwdRIdeal.Value.run m ρ)

theorem norm_reference_frame : Cert.quiescent_NormRIdeal := fun m ρ _ =>
  (θ_run Cert.NormRIdeal.defs _ _).mono (fun r h => ⟨fun c => (h c).2, sem_eq_zero_of_no_sems (by decide) r.2⟩)
    (Cert.NormRIdeal.Value.run m ρ)

theorem gate_reference_frame : Cert.quiescent_GateRIdeal := fun m ρ _ =>
  (θ_run Cert.GateRIdeal.defs _ _).mono (fun r h => ⟨fun c => (h c).2, sem_eq_zero_of_no_sems (by decide) r.2⟩)
    (Cert.GateRIdeal.Value.run m ρ)

theorem join_reference_frame : Cert.quiescent_JoinRIdeal := fun m ρ _ =>
  (θ_run Cert.JoinRIdeal.defs _ _).mono (fun r h => ⟨fun c => (h c).2.2, sem_eq_zero_of_no_sems (by decide) r.2⟩)
    (Cert.JoinRIdeal.Value.run m ρ)

theorem blend_reference_frame : Cert.quiescent_BlendRIdeal := fun m ρ _ =>
  (θ_run Cert.BlendRIdeal.defs _ _).mono (fun r h => ⟨fun c => (h c).2.2.2.2.2.2.2, sem_eq_zero_of_no_sems (by decide) r.2⟩)
    (Cert.BlendRIdeal.Value.run m ρ)

theorem nn_reference_frame : Cert.quiescent_NnRIdeal := fun m ρ _ =>
  (θ_run Cert.NnRIdeal.defs _ _).mono (fun r h => ⟨fun c => (h c).2, sem_eq_zero_of_no_sems (by decide) r.2⟩)
    (Cert.NnRIdeal.Value.run m ρ)

theorem tn_reference_frame : Cert.quiescent_TnRIdeal := fun m ρ _ =>
  (θ_run Cert.TnRIdeal.defs _ _).mono (fun r h => ⟨fun c => (h c).2, sem_eq_zero_of_no_sems (by decide) r.2⟩)
    (Cert.TnRIdeal.Value.run m ρ)

theorem dh_reference_frame : Cert.quiescent_DhRIdeal := fun m ρ _ =>
  (θ_run Cert.DhRIdeal.defs _ _).mono (fun r h => ⟨fun c => (h c).2, sem_eq_zero_of_no_sems (by decide) r.2⟩)
    (Cert.DhRIdeal.Value.run m ρ)

theorem sum_reference_frame : Cert.quiescent_SumRIdeal := fun m ρ _ =>
  (θ_run Cert.SumRIdeal.defs _ _).mono (fun r h => ⟨fun c => (h c).2, sem_eq_zero_of_no_sems (by decide) r.2⟩)
    (Cert.SumRIdeal.Value.run m ρ)

theorem mix_reference_frame : Cert.quiescent_MixRIdeal := fun m ρ _ =>
  (θ_run Cert.MixRIdeal.defs _ _).mono (fun r h => ⟨fun c => (h c).2.2.2.2.2.2.2.2.2.2, sem_eq_zero_of_no_sems (by decide) r.2⟩)
    (Cert.MixRIdeal.Value.run m ρ)

theorem adam_reference_frame : Cert.quiescent_AdamRIdeal := fun m ρ _ =>
  (θ_run Cert.AdamRIdeal.defs _ _).mono (fun r h => ⟨fun c => (h c).2.2.2, sem_eq_zero_of_no_sems (by decide) r.2⟩)
    (Cert.AdamRIdeal.Value.run m ρ)

theorem claim : Cert.Claim :=
  ⟨Cert.RmsK.Gen.facts, Cert.RmsKIdeal.Gen.facts, Cert.RmsRIdeal.Gen.facts,
    Cert.AttnK.Gen.facts, Cert.AttnKIdeal.Gen.facts, Cert.AttnRIdeal.Gen.facts,
    Cert.CumK.Gen.facts, Cert.CumKIdeal.Gen.facts, Cert.CumRIdeal.Gen.facts,
    Cert.LossK.Gen.facts, Cert.LossKIdeal.Gen.facts, Cert.LossRIdeal.Gen.facts,
    Cert.MergeK.Gen.facts, Cert.MergeKIdeal.Gen.facts, Cert.MergeRIdeal.Gen.facts,
    Cert.FwdK.Gen.facts, Cert.FwdKIdeal.Gen.facts, Cert.FwdRIdeal.Gen.facts,
    Cert.NormK.Gen.facts, Cert.NormKIdeal.Gen.facts, Cert.NormRIdeal.Gen.facts,
    Cert.GateK.Gen.facts, Cert.GateKIdeal.Gen.facts, Cert.GateRIdeal.Gen.facts,
    Cert.JoinK.Gen.facts, Cert.JoinKIdeal.Gen.facts, Cert.JoinRIdeal.Gen.facts,
    Cert.BlendK.Gen.facts, Cert.BlendKIdeal.Gen.facts, Cert.BlendRIdeal.Gen.facts,
    Cert.NnK.Gen.facts, Cert.NnKIdeal.Gen.facts, Cert.NnRIdeal.Gen.facts,
    Cert.TnK.Gen.facts, Cert.TnKIdeal.Gen.facts, Cert.TnRIdeal.Gen.facts,
    Cert.DhK.Gen.facts, Cert.DhKIdeal.Gen.facts, Cert.DhRIdeal.Gen.facts,
    Cert.SumK.Gen.facts, Cert.SumKIdeal.Gen.facts, Cert.SumRIdeal.Gen.facts,
    Cert.MixK.Gen.facts, Cert.MixKIdeal.Gen.facts, Cert.MixRIdeal.Gen.facts,
    Cert.AdamK.Gen.facts, Cert.AdamKIdeal.Gen.facts, Cert.AdamRIdeal.Gen.facts,
    Cert.Rms.preFacts, Cert.Attn.preFacts, Cert.Cum.preFacts, Cert.Loss.preFacts, Cert.Merge.preFacts, Cert.Fwd.preFacts,
    fun m ρ _ => Cert.RmsK.Gen.frame m ρ,
    fun m ρ _ => Cert.RmsKIdeal.Gen.frame m ρ,
    fun m ρ _ => Cert.RmsKIdeal.Gen.frame m ρ,
    rms_reference_frame,
    fun m ρ _ => rms_reference_frame m ρ trivial,
    fun m ρ _ => Cert.AttnK.Gen.frame m ρ,
    fun m ρ _ => Cert.AttnKIdeal.Gen.frame m ρ,
    fun m ρ _ => Cert.AttnKIdeal.Gen.frame m ρ,
    attn_reference_frame,
    fun m ρ _ => attn_reference_frame m ρ trivial,
    fun m ρ _ => Cert.CumK.Gen.frame m ρ,
    fun m ρ _ => Cert.CumKIdeal.Gen.frame m ρ,
    fun m ρ _ => Cert.CumKIdeal.Gen.frame m ρ,
    cum_reference_frame,
    fun m ρ _ => cum_reference_frame m ρ trivial,
    fun m ρ _ => Cert.LossK.Gen.frame m ρ,
    fun m ρ _ => Cert.LossKIdeal.Gen.frame m ρ,
    fun m ρ _ => Cert.LossKIdeal.Gen.frame m ρ,
    loss_reference_frame,
    fun m ρ _ => loss_reference_frame m ρ trivial,
    fun m ρ _ => Cert.MergeK.Gen.frame m ρ,
    fun m ρ _ => Cert.MergeKIdeal.Gen.frame m ρ,
    fun m ρ _ => Cert.MergeKIdeal.Gen.frame m ρ,
    merge_reference_frame,
    fun m ρ _ => merge_reference_frame m ρ trivial,
    fun m ρ _ => Cert.FwdK.Gen.frame m ρ,
    fun m ρ _ => Cert.FwdKIdeal.Gen.frame m ρ,
    fun m ρ _ => Cert.FwdKIdeal.Gen.frame m ρ,
    fwd_reference_frame,
    fun m ρ _ => fwd_reference_frame m ρ trivial,
    fun m ρ _ => Cert.NormK.Gen.frame m ρ,
    fun m ρ _ => Cert.NormKIdeal.Gen.frame m ρ,
    norm_reference_frame,
    fun m ρ _ => Cert.GateK.Gen.frame m ρ,
    fun m ρ _ => Cert.GateKIdeal.Gen.frame m ρ,
    gate_reference_frame,
    fun m ρ _ => Cert.JoinK.Gen.frame m ρ,
    fun m ρ _ => Cert.JoinKIdeal.Gen.frame m ρ,
    join_reference_frame,
    fun m ρ _ => Cert.BlendK.Gen.frame m ρ,
    fun m ρ _ => Cert.BlendKIdeal.Gen.frame m ρ,
    blend_reference_frame,
    fun m ρ _ => Cert.NnK.Gen.frame m ρ,
    fun m ρ _ => Cert.NnKIdeal.Gen.frame m ρ,
    nn_reference_frame,
    fun m ρ _ => Cert.TnK.Gen.frame m ρ,
    fun m ρ _ => Cert.TnKIdeal.Gen.frame m ρ,
    tn_reference_frame,
    fun m ρ _ => Cert.DhK.Gen.frame m ρ,
    fun m ρ _ => Cert.DhKIdeal.Gen.frame m ρ,
    dh_reference_frame,
    fun m ρ _ => Cert.SumK.Gen.frame m ρ,
    fun m ρ _ => Cert.SumKIdeal.Gen.frame m ρ,
    sum_reference_frame,
    Cert.MixKFrame.claim,
    Cert.MixKIdealFrame.claim,
    mix_reference_frame,
    fun m ρ _ => Cert.AdamK.Gen.frame m ρ,
    fun m ρ _ => Cert.AdamKIdeal.Gen.frame m ρ,
    adam_reference_frame,
    trivial, Cert.Rms.algebraic,
    trivial, Cert.Attn.algebraic,
    trivial, Cert.Cum.algebraic,
    trivial, Cert.Loss.algebraic,
    trivial, Cert.Merge.algebraic,
    IdealRules.named_const.statement Cert.FwdKIdeal.κ "mask" .f32 0xF149F2CA#32 ⊥ rfl, Cert.Fwd.algebraic,
    trivial, Cert.Norm.algebraic,
    trivial, Cert.Gate.algebraic,
    trivial, Cert.Join.algebraic,
    trivial,
    trivial, Cert.Nn.algebraic,
    trivial, Cert.Tn.algebraic,
    trivial, Cert.Dh.algebraic,
    trivial, Cert.Sum.algebraic,
    trivial,
    trivial, Cert.Adam.algebraic⟩

end Cert.Proof

end
